-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk [hPre_finite_qk : Cert.Pre_finite_qk.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk [hPre_finite_qk : Cert.Pre_finite_qk.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Reference (m : (ℓ : Loc Cert.Reference.nD Cert.Reference.τ Cert.Reference.sig) → Buf (Elt Bits) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Reference2 (m : (ℓ : Loc Cert.Reference2.nD Cert.Reference2.τ Cert.Reference2.sig) → Buf (Elt Bits) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite_gates [hPre_finite_gates : Cert.Pre_finite_gates.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite_gates.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite_gates [hPre_finite_gates : Cert.Pre_finite_gates.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite_gates.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3))) = (fun _ => 1#1)

def Pre_Reference3 (m : (ℓ : Loc Cert.Reference3.nD Cert.Reference3.τ Cert.Reference3.sig) → Buf (Elt Bits) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Reference4 (m : (ℓ : Loc Cert.Reference4.nD Cert.Reference4.τ Cert.Reference4.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_qk [hKernelIdeal : Cert.KernelIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_qk [hReferenceIdeal : Cert.ReferenceIdeal.Facts] [hPre_finite_qk : Cert.Pre_finite_qk.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12)
      ∧ r.2.mem ((c.tc : Thread Cert.Kernel2.nD Cert.Kernel2.τ).loc Cert.Kernel2.main_arg13) = m ((c.tc : Thread Cert.Kernel2.nD Cert.Kernel2.τ).loc Cert.Kernel2.main_arg13)
      ∧ r.2.mem ((c.tc : Thread Cert.Kernel2.nD Cert.Kernel2.τ).loc Cert.Kernel2.main_arg14) = m ((c.tc : Thread Cert.Kernel2.nD Cert.Kernel2.τ).loc Cert.Kernel2.main_arg14)
      ∧ r.2.mem ((c.tc : Thread Cert.Kernel2.nD Cert.Kernel2.τ).loc Cert.Kernel2.main_arg15) = m ((c.tc : Thread Cert.Kernel2.nD Cert.Kernel2.τ).loc Cert.Kernel2.main_arg15)
      ∧ r.2.mem ((c.tc : Thread Cert.Kernel2.nD Cert.Kernel2.τ).loc Cert.Kernel2.main_arg16) = m ((c.tc : Thread Cert.Kernel2.nD Cert.Kernel2.τ).loc Cert.Kernel2.main_arg16)
      ∧ r.2.mem ((c.tc : Thread Cert.Kernel2.nD Cert.Kernel2.τ).loc Cert.Kernel2.main_arg17) = m ((c.tc : Thread Cert.Kernel2.nD Cert.Kernel2.τ).loc Cert.Kernel2.main_arg17))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
      ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
      ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14)
      ∧ r.2.mem ((c.tc : Thread Cert.Kernel2Ideal.nD Cert.Kernel2Ideal.τ).loc Cert.Kernel2Ideal.main_arg15) = m ((c.tc : Thread Cert.Kernel2Ideal.nD Cert.Kernel2Ideal.τ).loc Cert.Kernel2Ideal.main_arg15)
      ∧ r.2.mem ((c.tc : Thread Cert.Kernel2Ideal.nD Cert.Kernel2Ideal.τ).loc Cert.Kernel2Ideal.main_arg16) = m ((c.tc : Thread Cert.Kernel2Ideal.nD Cert.Kernel2Ideal.τ).loc Cert.Kernel2Ideal.main_arg16)
      ∧ r.2.mem ((c.tc : Thread Cert.Kernel2Ideal.nD Cert.Kernel2Ideal.τ).loc Cert.Kernel2Ideal.main_arg17) = m ((c.tc : Thread Cert.Kernel2Ideal.nD Cert.Kernel2Ideal.τ).loc Cert.Kernel2Ideal.main_arg17))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12)
      ∧ r.2.mem ((c.tc : Thread Cert.Reference2Ideal.nD Cert.Reference2Ideal.τ).loc Cert.Reference2Ideal.main_arg13) = m ((c.tc : Thread Cert.Reference2Ideal.nD Cert.Reference2Ideal.τ).loc Cert.Reference2Ideal.main_arg13)
      ∧ r.2.mem ((c.tc : Thread Cert.Reference2Ideal.nD Cert.Reference2Ideal.τ).loc Cert.Reference2Ideal.main_arg14) = m ((c.tc : Thread Cert.Reference2Ideal.nD Cert.Reference2Ideal.τ).loc Cert.Reference2Ideal.main_arg14)
      ∧ r.2.mem ((c.tc : Thread Cert.Reference2Ideal.nD Cert.Reference2Ideal.τ).loc Cert.Reference2Ideal.main_arg15) = m ((c.tc : Thread Cert.Reference2Ideal.nD Cert.Reference2Ideal.τ).loc Cert.Reference2Ideal.main_arg15)
      ∧ r.2.mem ((c.tc : Thread Cert.Reference2Ideal.nD Cert.Reference2Ideal.τ).loc Cert.Reference2Ideal.main_arg16) = m ((c.tc : Thread Cert.Reference2Ideal.nD Cert.Reference2Ideal.τ).loc Cert.Reference2Ideal.main_arg16)
      ∧ r.2.mem ((c.tc : Thread Cert.Reference2Ideal.nD Cert.Reference2Ideal.τ).loc Cert.Reference2Ideal.main_arg17) = m ((c.tc : Thread Cert.Reference2Ideal.nD Cert.Reference2Ideal.τ).loc Cert.Reference2Ideal.main_arg17))
      ∧ r.2.sem = fun _ => 0)

def quiescent_Reference2 [hReference2 : Cert.Reference2.Facts] : Prop :=
  ∀ (m : (ℓ : Loc Cert.Reference2.nD Cert.Reference2.τ Cert.Reference2.sig) → Buf (Elt Bits) ℓ) (g : Dev Cert.Reference2.nD → PrngReg), Pre_Reference2 m →
    θ_run (Cert.Reference2.defs (F := Bits)) (onTc (τ := Cert.Reference2.τ) (Cert.Reference2.main (F := Bits))) ⟨m, fun _ => 0, g⟩ (fun r => (∀ c : Dev Cert.Reference2.nD,
      r.2.mem ((c.tc : Thread Cert.Reference2.nD Cert.Reference2.τ).loc Cert.Reference2.main_arg0) = m ((c.tc : Thread Cert.Reference2.nD Cert.Reference2.τ).loc Cert.Reference2.main_arg0)
      ∧ r.2.mem ((c.tc : Thread Cert.Reference2.nD Cert.Reference2.τ).loc Cert.Reference2.main_arg1) = m ((c.tc : Thread Cert.Reference2.nD Cert.Reference2.τ).loc Cert.Reference2.main_arg1)
      ∧ r.2.mem ((c.tc : Thread Cert.Reference2.nD Cert.Reference2.τ).loc Cert.Reference2.main_arg2) = m ((c.tc : Thread Cert.Reference2.nD Cert.Reference2.τ).loc Cert.Reference2.main_arg2)
      ∧ r.2.mem ((c.tc : Thread Cert.Reference2.nD Cert.Reference2.τ).loc Cert.Reference2.main_arg3) = m ((c.tc : Thread Cert.Reference2.nD Cert.Reference2.τ).loc Cert.Reference2.main_arg3)
      ∧ r.2.mem ((c.tc : Thread Cert.Reference2.nD Cert.Reference2.τ).loc Cert.Reference2.main_arg4) = m ((c.tc : Thread Cert.Reference2.nD Cert.Reference2.τ).loc Cert.Reference2.main_arg4)
      ∧ r.2.mem ((c.tc : Thread Cert.Reference2.nD Cert.Reference2.τ).loc Cert.Reference2.main_arg5) = m ((c.tc : Thread Cert.Reference2.nD Cert.Reference2.τ).loc Cert.Reference2.main_arg5)
      ∧ r.2.mem ((c.tc : Thread Cert.Reference2.nD Cert.Reference2.τ).loc Cert.Reference2.main_arg6) = m ((c.tc : Thread Cert.Reference2.nD Cert.Reference2.τ).loc Cert.Reference2.main_arg6)
      ∧ r.2.mem ((c.tc : Thread Cert.Reference2.nD Cert.Reference2.τ).loc Cert.Reference2.main_arg7) = m ((c.tc : Thread Cert.Reference2.nD Cert.Reference2.τ).loc Cert.Reference2.main_arg7)
      ∧ r.2.mem ((c.tc : Thread Cert.Reference2.nD Cert.Reference2.τ).loc Cert.Reference2.main_arg8) = m ((c.tc : Thread Cert.Reference2.nD Cert.Reference2.τ).loc Cert.Reference2.main_arg8)
      ∧ r.2.mem ((c.tc : Thread Cert.Reference2.nD Cert.Reference2.τ).loc Cert.Reference2.main_arg9) = m ((c.tc : Thread Cert.Reference2.nD Cert.Reference2.τ).loc Cert.Reference2.main_arg9)
      ∧ r.2.mem ((c.tc : Thread Cert.Reference2.nD Cert.Reference2.τ).loc Cert.Reference2.main_arg10) = m ((c.tc : Thread Cert.Reference2.nD Cert.Reference2.τ).loc Cert.Reference2.main_arg10)
      ∧ r.2.mem ((c.tc : Thread Cert.Reference2.nD Cert.Reference2.τ).loc Cert.Reference2.main_arg11) = m ((c.tc : Thread Cert.Reference2.nD Cert.Reference2.τ).loc Cert.Reference2.main_arg11)
      ∧ r.2.mem ((c.tc : Thread Cert.Reference2.nD Cert.Reference2.τ).loc Cert.Reference2.main_arg12) = m ((c.tc : Thread Cert.Reference2.nD Cert.Reference2.τ).loc Cert.Reference2.main_arg12)
      ∧ r.2.mem ((c.tc : Thread Cert.Reference2.nD Cert.Reference2.τ).loc Cert.Reference2.main_arg13) = m ((c.tc : Thread Cert.Reference2.nD Cert.Reference2.τ).loc Cert.Reference2.main_arg13)
      ∧ r.2.mem ((c.tc : Thread Cert.Reference2.nD Cert.Reference2.τ).loc Cert.Reference2.main_arg14) = m ((c.tc : Thread Cert.Reference2.nD Cert.Reference2.τ).loc Cert.Reference2.main_arg14)
      ∧ r.2.mem ((c.tc : Thread Cert.Reference2.nD Cert.Reference2.τ).loc Cert.Reference2.main_arg15) = m ((c.tc : Thread Cert.Reference2.nD Cert.Reference2.τ).loc Cert.Reference2.main_arg15)
      ∧ r.2.mem ((c.tc : Thread Cert.Reference2.nD Cert.Reference2.τ).loc Cert.Reference2.main_arg16) = m ((c.tc : Thread Cert.Reference2.nD Cert.Reference2.τ).loc Cert.Reference2.main_arg16)
      ∧ r.2.mem ((c.tc : Thread Cert.Reference2.nD Cert.Reference2.τ).loc Cert.Reference2.main_arg17) = m ((c.tc : Thread Cert.Reference2.nD Cert.Reference2.τ).loc Cert.Reference2.main_arg17))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Kernel3Ideal_pre_finite_gates [hKernel3Ideal : Cert.Kernel3Ideal.Facts] [hPre_finite_gates : Cert.Pre_finite_gates.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite_gates m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Reference3Ideal_pre_finite_gates [hReference3Ideal : Cert.Reference3Ideal.Facts] [hPre_finite_gates : Cert.Pre_finite_gates.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite_gates m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Reference3 [hReference3 : Cert.Reference3.Facts] : Prop :=
  ∀ (m : (ℓ : Loc Cert.Reference3.nD Cert.Reference3.τ Cert.Reference3.sig) → Buf (Elt Bits) ℓ) (g : Dev Cert.Reference3.nD → PrngReg), Pre_Reference3 m →
    θ_run (Cert.Reference3.defs (F := Bits)) (onTc (τ := Cert.Reference3.τ) (Cert.Reference3.main (F := Bits))) ⟨m, fun _ => 0, g⟩ (fun r => (∀ c : Dev Cert.Reference3.nD,
      r.2.mem ((c.tc : Thread Cert.Reference3.nD Cert.Reference3.τ).loc Cert.Reference3.main_arg0) = m ((c.tc : Thread Cert.Reference3.nD Cert.Reference3.τ).loc Cert.Reference3.main_arg0)
      ∧ r.2.mem ((c.tc : Thread Cert.Reference3.nD Cert.Reference3.τ).loc Cert.Reference3.main_arg1) = m ((c.tc : Thread Cert.Reference3.nD Cert.Reference3.τ).loc Cert.Reference3.main_arg1)
      ∧ r.2.mem ((c.tc : Thread Cert.Reference3.nD Cert.Reference3.τ).loc Cert.Reference3.main_arg2) = m ((c.tc : Thread Cert.Reference3.nD Cert.Reference3.τ).loc Cert.Reference3.main_arg2)
      ∧ r.2.mem ((c.tc : Thread Cert.Reference3.nD Cert.Reference3.τ).loc Cert.Reference3.main_arg3) = m ((c.tc : Thread Cert.Reference3.nD Cert.Reference3.τ).loc Cert.Reference3.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11)
      ∧ r.2.mem ((c.tc : Thread Cert.Kernel4.nD Cert.Kernel4.τ).loc Cert.Kernel4.main_arg12) = m ((c.tc : Thread Cert.Kernel4.nD Cert.Kernel4.τ).loc Cert.Kernel4.main_arg12))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
      ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11)
      ∧ r.2.mem ((c.tc : Thread Cert.Reference4Ideal.nD Cert.Reference4Ideal.τ).loc Cert.Reference4Ideal.main_arg12) = m ((c.tc : Thread Cert.Reference4Ideal.nD Cert.Reference4Ideal.τ).loc Cert.Reference4Ideal.main_arg12))
      ∧ r.2.sem = fun _ => 0)

def quiescent_Reference4 [hReference4 : Cert.Reference4.Facts] : Prop :=
  ∀ (m : (ℓ : Loc Cert.Reference4.nD Cert.Reference4.τ Cert.Reference4.sig) → Buf (Elt Bits) ℓ) (g : Dev Cert.Reference4.nD → PrngReg), Pre_Reference4 m →
    θ_run (Cert.Reference4.defs (F := Bits)) (onTc (τ := Cert.Reference4.τ) (Cert.Reference4.main (F := Bits))) ⟨m, fun _ => 0, g⟩ (fun r => (∀ c : Dev Cert.Reference4.nD,
      r.2.mem ((c.tc : Thread Cert.Reference4.nD Cert.Reference4.τ).loc Cert.Reference4.main_arg0) = m ((c.tc : Thread Cert.Reference4.nD Cert.Reference4.τ).loc Cert.Reference4.main_arg0)
      ∧ r.2.mem ((c.tc : Thread Cert.Reference4.nD Cert.Reference4.τ).loc Cert.Reference4.main_arg1) = m ((c.tc : Thread Cert.Reference4.nD Cert.Reference4.τ).loc Cert.Reference4.main_arg1)
      ∧ r.2.mem ((c.tc : Thread Cert.Reference4.nD Cert.Reference4.τ).loc Cert.Reference4.main_arg2) = m ((c.tc : Thread Cert.Reference4.nD Cert.Reference4.τ).loc Cert.Reference4.main_arg2)
      ∧ r.2.mem ((c.tc : Thread Cert.Reference4.nD Cert.Reference4.τ).loc Cert.Reference4.main_arg3) = m ((c.tc : Thread Cert.Reference4.nD Cert.Reference4.τ).loc Cert.Reference4.main_arg3)
      ∧ r.2.mem ((c.tc : Thread Cert.Reference4.nD Cert.Reference4.τ).loc Cert.Reference4.main_arg4) = m ((c.tc : Thread Cert.Reference4.nD Cert.Reference4.τ).loc Cert.Reference4.main_arg4)
      ∧ r.2.mem ((c.tc : Thread Cert.Reference4.nD Cert.Reference4.τ).loc Cert.Reference4.main_arg5) = m ((c.tc : Thread Cert.Reference4.nD Cert.Reference4.τ).loc Cert.Reference4.main_arg5)
      ∧ r.2.mem ((c.tc : Thread Cert.Reference4.nD Cert.Reference4.τ).loc Cert.Reference4.main_arg6) = m ((c.tc : Thread Cert.Reference4.nD Cert.Reference4.τ).loc Cert.Reference4.main_arg6)
      ∧ r.2.mem ((c.tc : Thread Cert.Reference4.nD Cert.Reference4.τ).loc Cert.Reference4.main_arg7) = m ((c.tc : Thread Cert.Reference4.nD Cert.Reference4.τ).loc Cert.Reference4.main_arg7)
      ∧ r.2.mem ((c.tc : Thread Cert.Reference4.nD Cert.Reference4.τ).loc Cert.Reference4.main_arg8) = m ((c.tc : Thread Cert.Reference4.nD Cert.Reference4.τ).loc Cert.Reference4.main_arg8)
      ∧ r.2.mem ((c.tc : Thread Cert.Reference4.nD Cert.Reference4.τ).loc Cert.Reference4.main_arg9) = m ((c.tc : Thread Cert.Reference4.nD Cert.Reference4.τ).loc Cert.Reference4.main_arg9)
      ∧ r.2.mem ((c.tc : Thread Cert.Reference4.nD Cert.Reference4.τ).loc Cert.Reference4.main_arg10) = m ((c.tc : Thread Cert.Reference4.nD Cert.Reference4.τ).loc Cert.Reference4.main_arg10)
      ∧ r.2.mem ((c.tc : Thread Cert.Reference4.nD Cert.Reference4.τ).loc Cert.Reference4.main_arg11) = m ((c.tc : Thread Cert.Reference4.nD Cert.Reference4.τ).loc Cert.Reference4.main_arg11)
      ∧ r.2.mem ((c.tc : Thread Cert.Reference4.nD Cert.Reference4.τ).loc Cert.Reference4.main_arg12) = m ((c.tc : Thread Cert.Reference4.nD Cert.Reference4.τ).loc Cert.Reference4.main_arg12))
      ∧ r.2.sem = fun _ => 0)

def preserves_Kernel_KernelIdeal : Prop :=
  IdealRules.named_const.Statement Cert.KernelIdeal.κ "mask" .f32 0xF149F2CA#32 ⊥

def preserves_Reference_ReferenceIdeal : Prop :=
  True

def algebraic_KernelIdeal_ReferenceIdeal_pre_finite_qk [hKernelIdeal : Cert.KernelIdeal.Facts] [hReferenceIdeal : Cert.ReferenceIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def preserves_Reference2_Reference2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)
      ∧ m' ((c.tc : Thread Cert.Reference2Ideal.nD Cert.Reference2Ideal.τ).loc Cert.Reference2Ideal.main_arg13) = m ((c.tc : Thread Cert.Kernel2Ideal.nD Cert.Kernel2Ideal.τ).loc Cert.Kernel2Ideal.main_arg13)
      ∧ m' ((c.tc : Thread Cert.Reference2Ideal.nD Cert.Reference2Ideal.τ).loc Cert.Reference2Ideal.main_arg14) = m ((c.tc : Thread Cert.Kernel2Ideal.nD Cert.Kernel2Ideal.τ).loc Cert.Kernel2Ideal.main_arg14)
      ∧ m' ((c.tc : Thread Cert.Reference2Ideal.nD Cert.Reference2Ideal.τ).loc Cert.Reference2Ideal.main_arg15) = m ((c.tc : Thread Cert.Kernel2Ideal.nD Cert.Kernel2Ideal.τ).loc Cert.Kernel2Ideal.main_arg15)
      ∧ m' ((c.tc : Thread Cert.Reference2Ideal.nD Cert.Reference2Ideal.τ).loc Cert.Reference2Ideal.main_arg16) = m ((c.tc : Thread Cert.Kernel2Ideal.nD Cert.Kernel2Ideal.τ).loc Cert.Kernel2Ideal.main_arg16)
      ∧ m' ((c.tc : Thread Cert.Reference2Ideal.nD Cert.Reference2Ideal.τ).loc Cert.Reference2Ideal.main_arg17) = m ((c.tc : Thread Cert.Kernel2Ideal.nD Cert.Kernel2Ideal.τ).loc Cert.Kernel2Ideal.main_arg17)) →
    ∃ (v0 : (c : Dev Cert.Kernel2Ideal.nD) → Buf (Elt Ideal) ((c.tc : Thread Cert.Kernel2Ideal.nD Cert.Kernel2Ideal.τ).loc Cert.Kernel2Ideal.main_v12)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v12) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
          ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
          ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14)
          ∧ r.2.mem ((c.tc : Thread Cert.Kernel2Ideal.nD Cert.Kernel2Ideal.τ).loc Cert.Kernel2Ideal.main_arg15) = m ((c.tc : Thread Cert.Kernel2Ideal.nD Cert.Kernel2Ideal.τ).loc Cert.Kernel2Ideal.main_arg15)
          ∧ r.2.mem ((c.tc : Thread Cert.Kernel2Ideal.nD Cert.Kernel2Ideal.τ).loc Cert.Kernel2Ideal.main_arg16) = m ((c.tc : Thread Cert.Kernel2Ideal.nD Cert.Kernel2Ideal.τ).loc Cert.Kernel2Ideal.main_arg16)
          ∧ r.2.mem ((c.tc : Thread Cert.Kernel2Ideal.nD Cert.Kernel2Ideal.τ).loc Cert.Kernel2Ideal.main_arg17) = m ((c.tc : Thread Cert.Kernel2Ideal.nD Cert.Kernel2Ideal.τ).loc Cert.Kernel2Ideal.main_arg17))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v171) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12)
          ∧ r.2.mem ((c.tc : Thread Cert.Reference2Ideal.nD Cert.Reference2Ideal.τ).loc Cert.Reference2Ideal.main_arg13) = m' ((c.tc : Thread Cert.Reference2Ideal.nD Cert.Reference2Ideal.τ).loc Cert.Reference2Ideal.main_arg13)
          ∧ r.2.mem ((c.tc : Thread Cert.Reference2Ideal.nD Cert.Reference2Ideal.τ).loc Cert.Reference2Ideal.main_arg14) = m' ((c.tc : Thread Cert.Reference2Ideal.nD Cert.Reference2Ideal.τ).loc Cert.Reference2Ideal.main_arg14)
          ∧ r.2.mem ((c.tc : Thread Cert.Reference2Ideal.nD Cert.Reference2Ideal.τ).loc Cert.Reference2Ideal.main_arg15) = m' ((c.tc : Thread Cert.Reference2Ideal.nD Cert.Reference2Ideal.τ).loc Cert.Reference2Ideal.main_arg15)
          ∧ r.2.mem ((c.tc : Thread Cert.Reference2Ideal.nD Cert.Reference2Ideal.τ).loc Cert.Reference2Ideal.main_arg16) = m' ((c.tc : Thread Cert.Reference2Ideal.nD Cert.Reference2Ideal.τ).loc Cert.Reference2Ideal.main_arg16)
          ∧ r.2.mem ((c.tc : Thread Cert.Reference2Ideal.nD Cert.Reference2Ideal.τ).loc Cert.Reference2Ideal.main_arg17) = m' ((c.tc : Thread Cert.Reference2Ideal.nD Cert.Reference2Ideal.τ).loc Cert.Reference2Ideal.main_arg17))

def preserves_Kernel3_Kernel3Ideal : Prop :=
  IdealRules.named_const.Statement Cert.Kernel3Ideal.κ "mask" .f32 0xF149F2CA#32 ⊥

def preserves_Reference3_Reference3Ideal : Prop :=
  True

def algebraic_Kernel3Ideal_Reference3Ideal_pre_finite_gates [hKernel3Ideal : Cert.Kernel3Ideal.Facts] [hReference3Ideal : Cert.Reference3Ideal.Facts] [hPre_finite_gates : Cert.Pre_finite_gates.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite_gates m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v33)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v33) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v29) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def preserves_Reference4_Reference4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)
      ∧ m' ((c.tc : Thread Cert.Reference4Ideal.nD Cert.Reference4Ideal.τ).loc Cert.Reference4Ideal.main_arg12) = m ((c.tc : Thread Cert.Kernel4Ideal.nD Cert.Kernel4Ideal.τ).loc Cert.Kernel4Ideal.main_arg12)) →
    ∃ (v0 : (c : Dev Cert.Kernel4Ideal.nD) → Buf (Elt Ideal) ((c.tc : Thread Cert.Kernel4Ideal.nD Cert.Kernel4Ideal.τ).loc Cert.Kernel4Ideal.main_v28_6)) (v1 : (c : Dev Cert.Kernel4Ideal.nD) → Buf (Elt Ideal) ((c.tc : Thread Cert.Kernel4Ideal.nD Cert.Kernel4Ideal.τ).loc Cert.Kernel4Ideal.main_v28_7)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v28_6) = v0 c
          ∧ r.2.mem ((c.tc : Thread Cert.Kernel4Ideal.nD Cert.Kernel4Ideal.τ).loc Cert.Kernel4Ideal.main_v28_7) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
          ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v18) = v0 c
          ∧ r.2.mem ((c.tc : Thread Cert.Reference4Ideal.nD Cert.Reference4Ideal.τ).loc Cert.Reference4Ideal.main_v19) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11)
          ∧ r.2.mem ((c.tc : Thread Cert.Reference4Ideal.nD Cert.Reference4Ideal.τ).loc Cert.Reference4Ideal.main_arg12) = m' ((c.tc : Thread Cert.Reference4Ideal.nD Cert.Reference4Ideal.τ).loc Cert.Reference4Ideal.main_arg12))

def Claim : Prop :=
  ∃ (hKernel : Cert.Kernel.Facts) (hKernelIdeal : Cert.KernelIdeal.Facts) (hReferenceIdeal : Cert.ReferenceIdeal.Facts) (hReference : Cert.Reference.Facts) (hKernel2 : Cert.Kernel2.Facts) (hKernel2Ideal : Cert.Kernel2Ideal.Facts) (hReference2Ideal : Cert.Reference2Ideal.Facts) (hReference2 : Cert.Reference2.Facts) (hKernel3 : Cert.Kernel3.Facts) (hKernel3Ideal : Cert.Kernel3Ideal.Facts) (hReference3Ideal : Cert.Reference3Ideal.Facts) (hReference3 : Cert.Reference3.Facts) (hKernel4 : Cert.Kernel4.Facts) (hKernel4Ideal : Cert.Kernel4Ideal.Facts) (hReference4Ideal : Cert.Reference4Ideal.Facts) (hReference4 : Cert.Reference4.Facts) (hPre_finite_qk : Cert.Pre_finite_qk.Facts) (hPre_finite_gates : Cert.Pre_finite_gates.Facts),
    quiescent_Kernel (hKernel := hKernel)
    ∧ quiescent_KernelIdeal (hKernelIdeal := hKernelIdeal)
    ∧ quiescent_KernelIdeal_pre_finite_qk (hKernelIdeal := hKernelIdeal) (hPre_finite_qk := hPre_finite_qk)
    ∧ quiescent_ReferenceIdeal (hReferenceIdeal := hReferenceIdeal)
    ∧ quiescent_ReferenceIdeal_pre_finite_qk (hReferenceIdeal := hReferenceIdeal) (hPre_finite_qk := hPre_finite_qk)
    ∧ quiescent_Reference (hReference := hReference)
    ∧ quiescent_Kernel2 (hKernel2 := hKernel2)
    ∧ quiescent_Kernel2Ideal (hKernel2Ideal := hKernel2Ideal)
    ∧ quiescent_Reference2Ideal (hReference2Ideal := hReference2Ideal)
    ∧ quiescent_Reference2 (hReference2 := hReference2)
    ∧ quiescent_Kernel3 (hKernel3 := hKernel3)
    ∧ quiescent_Kernel3Ideal (hKernel3Ideal := hKernel3Ideal)
    ∧ quiescent_Kernel3Ideal_pre_finite_gates (hKernel3Ideal := hKernel3Ideal) (hPre_finite_gates := hPre_finite_gates)
    ∧ quiescent_Reference3Ideal (hReference3Ideal := hReference3Ideal)
    ∧ quiescent_Reference3Ideal_pre_finite_gates (hReference3Ideal := hReference3Ideal) (hPre_finite_gates := hPre_finite_gates)
    ∧ quiescent_Reference3 (hReference3 := hReference3)
    ∧ quiescent_Kernel4 (hKernel4 := hKernel4)
    ∧ quiescent_Kernel4Ideal (hKernel4Ideal := hKernel4Ideal)
    ∧ quiescent_Reference4Ideal (hReference4Ideal := hReference4Ideal)
    ∧ quiescent_Reference4 (hReference4 := hReference4)
    ∧ preserves_Kernel_KernelIdeal
    ∧ preserves_Reference_ReferenceIdeal
    ∧ algebraic_KernelIdeal_ReferenceIdeal_pre_finite_qk (hKernelIdeal := hKernelIdeal) (hReferenceIdeal := hReferenceIdeal) (hPre_finite_qk := hPre_finite_qk)
    ∧ preserves_Kernel2_Kernel2Ideal
    ∧ preserves_Reference2_Reference2Ideal
    ∧ algebraic_Kernel2Ideal_Reference2Ideal (hKernel2Ideal := hKernel2Ideal) (hReference2Ideal := hReference2Ideal)
    ∧ preserves_Kernel3_Kernel3Ideal
    ∧ preserves_Reference3_Reference3Ideal
    ∧ algebraic_Kernel3Ideal_Reference3Ideal_pre_finite_gates (hKernel3Ideal := hKernel3Ideal) (hReference3Ideal := hReference3Ideal) (hPre_finite_gates := hPre_finite_gates)
    ∧ preserves_Kernel4_Kernel4Ideal
    ∧ preserves_Reference4_Reference4Ideal
    ∧ algebraic_Kernel4Ideal_Reference4Ideal (hKernel4Ideal := hKernel4Ideal) (hReference4Ideal := hReference4Ideal)
-- ==== Pre_finite_gates.lean ====
abbrev S2x8192x4x64 : Shape := ⟨4, ![2, 8192, 4, 64]⟩
abbrev S2x4x8192 : Shape := ⟨3, ![2, 4, 8192]⟩
abbrev S2x8192x4 : Shape := ⟨3, ![2, 8192, 4]⟩
abbrev S2x8192x4x1 : Shape := ⟨4, ![2, 8192, 4, 1]⟩
abbrev S_ : Shape := ⟨0, ![]⟩

class Facts : Prop where
  transposes_S2x4x8192_S2x8192x4_0_2_1 : S2x4x8192.Transposes [0, 2, 1] S2x8192x4
  bcast_S2x8192x4_S2x8192x4x1_0_1_2 : S2x8192x4.BroadcastsInDim S2x8192x4x1 (![0, 1, 2] : Fin 3 → Fin S2x8192x4x1.rank)
  bcast_S2x8192x4x1_S2x8192x4x64_0_1_2_3 : S2x8192x4x1.BroadcastsInDim S2x8192x4x64 (![0, 1, 2, 3] : Fin 4 → Fin S2x8192x4x64.rank)
  bcast_S_S2x8192x4x64 : S_.BroadcastsInDim S2x8192x4x64 (![] : Fin 0 → Fin S2x8192x4x64.rank)

variable [Facts]

def fn {F : FTy → Type} [FloatOps F] (main_arg0 : FVec F S2x8192x4x64 .f32) (main_arg1 : FVec F S2x8192x4x64 .f32) (main_arg2 : FVec F S2x8192x4x64 .f32) (main_arg3 : FVec F S2x4x8192 .f32) : IVec S2x8192x4x64 1 :=
  let main_v0 : FVec F S2x8192x4 .f32 := (transpose S2x8192x4 [0, 2, 1] · transposes_S2x4x8192_S2x8192x4_0_2_1) main_arg3
  let main_v1 : FVec F S2x8192x4x1 .f32 := broadcastInDim S2x8192x4x1 ![0, 1, 2] bcast_S2x8192x4_S2x8192x4x1_0_1_2 main_v0
  let main_v2 : FVec F S2x8192x4x64 .f32 := broadcastInDim S2x8192x4x64 ![0, 1, 2, 3] bcast_S2x8192x4x1_S2x8192x4x64_0_1_2_3 main_v1
  let main_v3 : FVec F S2x8192x4x64 .f32 := Host.absf main_arg0
  let main_cst : FVec F S_ .f32 := constant S_ .f32 0x7F800000#32
  let main_v4 : FVec F S2x8192x4x64 .f32 := broadcastInDim S2x8192x4x64 ![] bcast_S_S2x8192x4x64 main_cst
  let main_v5 : IVec S2x8192x4x64 1 := cmpf .olt main_v3 main_v4
  let main_v6 : FVec F S2x8192x4x64 .f32 := Host.absf main_arg1
  let main_cst_0 : FVec F S_ .f32 := constant S_ .f32 0x7F800000#32
  let main_v7 : FVec F S2x8192x4x64 .f32 := broadcastInDim S2x8192x4x64 ![] bcast_S_S2x8192x4x64 main_cst_0
  let main_v8 : IVec S2x8192x4x64 1 := cmpf .olt main_v6 main_v7
  let main_v9 : IVec S2x8192x4x64 1 := andi main_v5 main_v8
  let main_v10 : FVec F S2x8192x4x64 .f32 := Host.absf main_v2
  let main_cst_1 : FVec F S_ .f32 := constant S_ .f32 0x7F800000#32
  let main_v11 : FVec F S2x8192x4x64 .f32 := broadcastInDim S2x8192x4x64 ![] bcast_S_S2x8192x4x64 main_cst_1
  let main_v12 : IVec S2x8192x4x64 1 := cmpf .olt main_v10 main_v11
  let main_v13 : IVec S2x8192x4x64 1 := andi main_v9 main_v12
  main_v13
-- ==== Pre_finite_qk.lean ====
abbrev S2x8192x4x96 : Shape := ⟨4, ![2, 8192, 4, 96]⟩
abbrev S2x8192x4x64 : Shape := ⟨4, ![2, 8192, 4, 64]⟩
abbrev S_ : Shape := ⟨0, ![]⟩

class Facts : Prop where
  bcast_S_S2x8192x4x96 : S_.BroadcastsInDim S2x8192x4x96 (![] : Fin 0 → Fin S2x8192x4x96.rank)

variable [Facts]

def fn {F : FTy → Type} [FloatOps F] (main_arg0 : FVec F S2x8192x4x96 .f32) (main_arg1 : FVec F S2x8192x4x96 .f32) (main_arg2 : FVec F S2x8192x4x64 .f32) : IVec S2x8192x4x96 1 :=
  let main_v0 : FVec F S2x8192x4x96 .f32 := Host.absf main_arg0
  let main_cst : FVec F S_ .f32 := constant S_ .f32 0x7F800000#32
  let main_v1 : FVec F S2x8192x4x96 .f32 := broadcastInDim S2x8192x4x96 ![] bcast_S_S2x8192x4x96 main_cst
  let main_v2 : IVec S2x8192x4x96 1 := cmpf .olt main_v0 main_v1
  let main_v3 : FVec F S2x8192x4x96 .f32 := Host.absf main_arg1
  let main_cst_0 : FVec F S_ .f32 := constant S_ .f32 0x7F800000#32
  let main_v4 : FVec F S2x8192x4x96 .f32 := broadcastInDim S2x8192x4x96 ![] bcast_S_S2x8192x4x96 main_cst_0
  let main_v5 : IVec S2x8192x4x96 1 := cmpf .olt main_v3 main_v4
  let main_v6 : IVec S2x8192x4x96 1 := andi main_v2 main_v5
  main_v6
-- ==== Kernel.lean ====
abbrev S2x8192x4x96 : Shape := ⟨4, ![2, 8192, 4, 96]⟩
abbrev S2x8192x4x64 : Shape := ⟨4, ![2, 8192, 4, 64]⟩
abbrev S_ : Shape := ⟨0, ![]⟩
abbrev S2x8192x4x128 : Shape := ⟨4, ![2, 8192, 4, 128]⟩
abbrev S16384x512 : Shape := ⟨2, ![16384, 512]⟩
abbrev S16384x256 : Shape := ⟨2, ![16384, 256]⟩
abbrev S512x512 : Shape := ⟨2, ![512, 512]⟩
abbrev S8192x512 : Shape := ⟨2, ![8192, 512]⟩
abbrev S512x256 : Shape := ⟨2, ![512, 256]⟩
abbrev S4x512x128 : Shape := ⟨3, ![4, 512, 128]⟩
abbrev S512x128 : Shape := ⟨2, ![512, 128]⟩
abbrev S1536x128 : Shape := ⟨2, ![1536, 128]⟩
abbrev S512x1536 : Shape := ⟨2, ![512, 1536]⟩
abbrev S1x512x128 : Shape := ⟨3, ![1, 512, 128]⟩
abbrev S512 : Shape := ⟨1, ![512]⟩
abbrev S512x1 : Shape := ⟨2, ![512, 1]⟩
abbrev S1024x128 : Shape := ⟨2, ![1024, 128]⟩
abbrev S512x1024 : Shape := ⟨2, ![512, 1024]⟩

abbrev nBuf : Space → Nat
  | .hbm => 26
  | .vmem => 8
  | .smem => 0
  | _ => 0

abbrev bufTy : (tb : Table) → Fin (tcTables nBuf tb) → BufTy
  | .hbm, ⟨0, _⟩ => ⟨S2x8192x4x96, .f32⟩
  | .hbm, ⟨1, _⟩ => ⟨S2x8192x4x96, .f32⟩
  | .hbm, ⟨2, _⟩ => ⟨S2x8192x4x64, .f32⟩
  | .hbm, ⟨3, _⟩ => ⟨S_, .f32⟩
  | .hbm, ⟨4, _⟩ => ⟨S2x8192x4x96, .f32⟩
  | .hbm, ⟨5, _⟩ => ⟨S2x8192x4x96, .f32⟩
  | .hbm, ⟨6, _⟩ => ⟨S_, .f32⟩
  | .hbm, ⟨7, _⟩ => ⟨S_, .f32⟩
  | .hbm, ⟨8, _⟩ => ⟨S2x8192x4x96, .f32⟩
  | .hbm, ⟨9, _⟩ => ⟨S2x8192x4x96, .f32⟩
  | .hbm, ⟨10, _⟩ => ⟨S_, .i32⟩
  | .hbm, ⟨11, _⟩ => ⟨S_, .f32⟩
  | .hbm, ⟨12, _⟩ => ⟨S2x8192x4x128, .f32⟩
  | .hbm, ⟨13, _⟩ => ⟨S16384x512, .f32⟩
  | .hbm, ⟨14, _⟩ => ⟨S16384x512, .bf16⟩
  | .hbm, ⟨15, _⟩ => ⟨S_, .i32⟩
  | .hbm, ⟨16, _⟩ => ⟨S_, .f32⟩
  | .hbm, ⟨17, _⟩ => ⟨S2x8192x4x128, .f32⟩
  | .hbm, ⟨18, _⟩ => ⟨S16384x512, .f32⟩
  | .hbm, ⟨19, _⟩ => ⟨S16384x512, .bf16⟩
  | .hbm, ⟨20, _⟩ => ⟨S_, .f32⟩
  | .hbm, ⟨21, _⟩ => ⟨S_, .f32⟩
  | .hbm, ⟨22, _⟩ => ⟨S2x8192x4x128, .f32⟩
  | .hbm, ⟨23, _⟩ => ⟨S16384x512, .f32⟩
  | .hbm, ⟨24, _⟩ => ⟨S16384x512, .bf16⟩
  | .hbm, ⟨25, _⟩ => ⟨S16384x256, .f32⟩
  | .local _ .vmem, ⟨0, _⟩ => ⟨S512x512, .bf16⟩
  | .local _ .vmem, ⟨1, _⟩ => ⟨S512x512, .bf16⟩
  | .local _ .vmem, ⟨2, _⟩ => ⟨S8192x512, .bf16⟩
  | .local _ .vmem, ⟨3, _⟩ => ⟨S8192x512, .bf16⟩
  | .local _ .vmem, ⟨4, _⟩ => ⟨S512x256, .f32⟩
  | .local _ .vmem, ⟨5, _⟩ => ⟨S512x256, .f32⟩
  | .local _ .vmem, ⟨6, _⟩ => ⟨S4x512x128, .f32⟩
  | .local _ .vmem, ⟨7, _⟩ => ⟨S4x512x128, .f32⟩
  | _, _ => ⟨S2x8192x4x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_call0_v0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_1 : Ref sig .tc := ⟨.hbm, 15, rfl⟩
abbrev main_call1_v0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_call2_v0 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![2, 16], ![false, false]⟩

@[reducible] def k0_t1_loop (i : grid0.Coords) : Scf.Loop 32 :=
  let c0_i32_12 : BitVec 32 := 0#32
  let arg1 : BitVec 32 := BitVec.ofNat 32 (i 1).val
  let c1_i32 : BitVec 32 := 1#32
  let v8 : BitVec 32 := Scalar.muli arg1 c1_i32
  let c0_i32 : BitVec 32 := 0#32
  let v10 : BitVec 1 := Scalar.cmpi .sgt v8 c0_i32
  let v11 : BitVec 32 := Scalar.extui v10
  let c0_i32_6 : BitVec 32 := 0#32
  let v12 : BitVec 1 := Scalar.cmpi .slt v8 c0_i32_6
  let v13 : BitVec 32 := Scalar.extui v12
  let v14 : BitVec 32 := Scalar.subi v11 v13
  let c3_i32 : BitVec 32 := 3#32
  let c0_i32_7 : BitVec 32 := 0#32
  let v15 : BitVec 1 := Scalar.cmpi .sgt c3_i32 c0_i32_7
  let v16 : BitVec 32 := Scalar.extui v15
  let c0_i32_8 : BitVec 32 := 0#32
  let v17 : BitVec 1 := Scalar.cmpi .slt c3_i32 c0_i32_8
  let v18 : BitVec 32 := Scalar.extui v17
  let v19 : BitVec 32 := Scalar.subi v16 v18
  let v20 : BitVec 1 := Scalar.cmpi .ne v14 v19
  let v21 : BitVec 32 := Scalar.remsi v8 c3_i32
  let c0_i32_9 : BitVec 32 := 0#32
  let v22 : BitVec 1 := Scalar.cmpi .ne v21 c0_i32_9
  let v23 : BitVec 1 := Scalar.andi v20 v22
  let v9 : BitVec 32 := Scalar.divsi v8 c3_i32
  let c1_i32_10 : BitVec 32 := 1#32
  let v24 : BitVec 32 := Scalar.subi v9 c1_i32_10
  let v25 : BitVec 32 := Scalar.select v23 v24 v9
  let v26 : BitVec 32 := Scalar.subi v25 c0_i32_12
  let c1_i32_13 : BitVec 32 := 1#32
  let v28 : BitVec 32 := Scalar.divsi v26 c1_i32_13
  let v29 : BitVec 32 := Scalar.muli v28 c1_i32_13
  let v30 : BitVec 32 := Scalar.addi c0_i32_12 v29
  let c1_i32_14 : BitVec 32 := 1#32
  ⟨c0_i32_12, v30, c1_i32_14⟩
def k0_mult1 (i : grid0.Coords) (k0_t1 : Fin (k0_t1_loop i).trips) : BitVec 32 :=
  let c0_i32_12 : BitVec 32 := 0#32
  let c1_i32_14 : BitVec 32 := 1#32
  let arg8 : BitVec 32 := Scf.iv c0_i32_12 c1_i32_14 k0_t1
  let c1536_i32 : BitVec 32 := 1536#32
  let v224 : BitVec 32 := Scalar.muli arg8 c1536_i32
  v224
def k0_off1 (i : grid0.Coords) (k0_t1 : Fin (k0_t1_loop i).trips) : Fin 2 → Nat :=
  let c0_i32_12 : BitVec 32 := 0#32
  let c1_i32_14 : BitVec 32 := 1#32
  let arg8 : BitVec 32 := Scf.iv c0_i32_12 c1_i32_14 k0_t1
  let c1536_i32 : BitVec 32 := 1536#32
  let v224 : BitVec 32 := Scalar.muli arg8 c1536_i32
  let v225 : BitVec 32 := v224
  let v228 : Index := Scalar.indexCast v225
  let c0_123 : Index := 0#32
  ![v228.toNat, 0]
def k0_off2 (i : grid0.Coords) (k0_t1 : Fin (k0_t1_loop i).trips) : Fin 2 → Nat :=
  let c0_i32_12 : BitVec 32 := 0#32
  let c1_i32_14 : BitVec 32 := 1#32
  let arg8 : BitVec 32 := Scf.iv c0_i32_12 c1_i32_14 k0_t1
  let c1536_i32 : BitVec 32 := 1536#32
  let v224 : BitVec 32 := Scalar.muli arg8 c1536_i32
  let v225 : BitVec 32 := v224
  let v234 : Index := Scalar.indexCast v225
  let c128_127 : Index := 128#32
  ![v234.toNat, 128]
def k0_off3 (i : grid0.Coords) (k0_t1 : Fin (k0_t1_loop i).trips) : Fin 2 → Nat :=
  let c0_i32_12 : BitVec 32 := 0#32
  let c1_i32_14 : BitVec 32 := 1#32
  let arg8 : BitVec 32 := Scf.iv c0_i32_12 c1_i32_14 k0_t1
  let c1536_i32 : BitVec 32 := 1536#32
  let v224 : BitVec 32 := Scalar.muli arg8 c1536_i32
  let v225 : BitVec 32 := v224
  let v240 : Index := Scalar.indexCast v225
  let c256_131 : Index := 256#32
  ![v240.toNat, 256]
def k0_off4 (i : grid0.Coords) (k0_t1 : Fin (k0_t1_loop i).trips) : Fin 2 → Nat :=
  let c0_i32_12 : BitVec 32 := 0#32
  let c1_i32_14 : BitVec 32 := 1#32
  let arg8 : BitVec 32 := Scf.iv c0_i32_12 c1_i32_14 k0_t1
  let c1536_i32 : BitVec 32 := 1536#32
  let v224 : BitVec 32 := Scalar.muli arg8 c1536_i32
  let v225 : BitVec 32 := v224
  let v246 : Index := Scalar.indexCast v225
  let c384_135 : Index := 384#32
  ![v246.toNat, 384]
def k0_mult2 (i : grid0.Coords) (k0_t1 : Fin (k0_t1_loop i).trips) : BitVec 32 :=
  let c0_i32_12 : BitVec 32 := 0#32
  let c1_i32_14 : BitVec 32 := 1#32
  let arg8 : BitVec 32 := Scf.iv c0_i32_12 c1_i32_14 k0_t1
  let c1536_i32 : BitVec 32 := 1536#32
  let v224 : BitVec 32 := Scalar.muli arg8 c1536_i32
  v224
@[reducible] def k0_t2_loop (i : grid0.Coords) : Scf.Loop 32 :=
  let c0_i32_12 : BitVec 32 := 0#32
  let arg1 : BitVec 32 := BitVec.ofNat 32 (i 1).val
  let c1_i32 : BitVec 32 := 1#32
  let v8 : BitVec 32 := Scalar.muli arg1 c1_i32
  let c0_i32 : BitVec 32 := 0#32
  let v10 : BitVec 1 := Scalar.cmpi .sgt v8 c0_i32
  let v11 : BitVec 32 := Scalar.extui v10
  let c0_i32_6 : BitVec 32 := 0#32
  let v12 : BitVec 1 := Scalar.cmpi .slt v8 c0_i32_6
  let v13 : BitVec 32 := Scalar.extui v12
  let v14 : BitVec 32 := Scalar.subi v11 v13
  let c3_i32 : BitVec 32 := 3#32
  let c0_i32_7 : BitVec 32 := 0#32
  let v15 : BitVec 1 := Scalar.cmpi .sgt c3_i32 c0_i32_7
  let v16 : BitVec 32 := Scalar.extui v15
  let c0_i32_8 : BitVec 32 := 0#32
  let v17 : BitVec 1 := Scalar.cmpi .slt c3_i32 c0_i32_8
  let v18 : BitVec 32 := Scalar.extui v17
  let v19 : BitVec 32 := Scalar.subi v16 v18
  let v20 : BitVec 1 := Scalar.cmpi .ne v14 v19
  let v21 : BitVec 32 := Scalar.remsi v8 c3_i32
  let c0_i32_9 : BitVec 32 := 0#32
  let v22 : BitVec 1 := Scalar.cmpi .ne v21 c0_i32_9
  let v23 : BitVec 1 := Scalar.andi v20 v22
  let v9 : BitVec 32 := Scalar.divsi v8 c3_i32
  let c1_i32_10 : BitVec 32 := 1#32
  let v24 : BitVec 32 := Scalar.subi v9 c1_i32_10
  let v25 : BitVec 32 := Scalar.select v23 v24 v9
  let v26 : BitVec 32 := Scalar.subi v25 c0_i32_12
  let c1_i32_13 : BitVec 32 := 1#32
  let v28 : BitVec 32 := Scalar.divsi v26 c1_i32_13
  let v29 : BitVec 32 := Scalar.muli v28 c1_i32_13
  let v30 : BitVec 32 := Scalar.addi c0_i32_12 v29
  let v27 : BitVec 32 := Scalar.addi c0_i32_12 v26
  let c1_i32_15 : BitVec 32 := 1#32
  ⟨v30, v27, c1_i32_15⟩
def k0_mult3 (i : grid0.Coords) (k0_t2 : Fin (k0_t2_loop i).trips) : BitVec 32 :=
  let c0_i32_12 : BitVec 32 := 0#32
  let arg1 : BitVec 32 := BitVec.ofNat 32 (i 1).val
  let c1_i32 : BitVec 32 := 1#32
  let v8 : BitVec 32 := Scalar.muli arg1 c1_i32
  let c0_i32 : BitVec 32 := 0#32
  let v10 : BitVec 1 := Scalar.cmpi .sgt v8 c0_i32
  let v11 : BitVec 32 := Scalar.extui v10
  let c0_i32_6 : BitVec 32 := 0#32
  let v12 : BitVec 1 := Scalar.cmpi .slt v8 c0_i32_6
  let v13 : BitVec 32 := Scalar.extui v12
  let v14 : BitVec 32 := Scalar.subi v11 v13
  let c3_i32 : BitVec 32 := 3#32
  let c0_i32_7 : BitVec 32 := 0#32
  let v15 : BitVec 1 := Scalar.cmpi .sgt c3_i32 c0_i32_7
  let v16 : BitVec 32 := Scalar.extui v15
  let c0_i32_8 : BitVec 32 := 0#32
  let v17 : BitVec 1 := Scalar.cmpi .slt c3_i32 c0_i32_8
  let v18 : BitVec 32 := Scalar.extui v17
  let v19 : BitVec 32 := Scalar.subi v16 v18
  let v20 : BitVec 1 := Scalar.cmpi .ne v14 v19
  let v21 : BitVec 32 := Scalar.remsi v8 c3_i32
  let c0_i32_9 : BitVec 32 := 0#32
  let v22 : BitVec 1 := Scalar.cmpi .ne v21 c0_i32_9
  let v23 : BitVec 1 := Scalar.andi v20 v22
  let v9 : BitVec 32 := Scalar.divsi v8 c3_i32
  let c1_i32_10 : BitVec 32 := 1#32
  let v24 : BitVec 32 := Scalar.subi v9 c1_i32_10
  let v25 : BitVec 32 := Scalar.select v23 v24 v9
  let v26 : BitVec 32 := Scalar.subi v25 c0_i32_12
  let c1_i32_13 : BitVec 32 := 1#32
  let v28 : BitVec 32 := Scalar.divsi v26 c1_i32_13
  let v29 : BitVec 32 := Scalar.muli v28 c1_i32_13
  let v30 : BitVec 32 := Scalar.addi c0_i32_12 v29
  let c1_i32_15 : BitVec 32 := 1#32
  let arg8 : BitVec 32 := Scf.iv v30 c1_i32_15 k0_t2
  let c1536_i32 : BitVec 32 := 1536#32
  let v224 : BitVec 32 := Scalar.muli arg8 c1536_i32
  v224
def k0_off5 (i : grid0.Coords) (k0_t2 : Fin (k0_t2_loop i).trips) : Fin 2 → Nat :=
  let c0_i32_12 : BitVec 32 := 0#32
  let arg1 : BitVec 32 := BitVec.ofNat 32 (i 1).val
  let c1_i32 : BitVec 32 := 1#32
  let v8 : BitVec 32 := Scalar.muli arg1 c1_i32
  let c0_i32 : BitVec 32 := 0#32
  let v10 : BitVec 1 := Scalar.cmpi .sgt v8 c0_i32
  let v11 : BitVec 32 := Scalar.extui v10
  let c0_i32_6 : BitVec 32 := 0#32
  let v12 : BitVec 1 := Scalar.cmpi .slt v8 c0_i32_6
  let v13 : BitVec 32 := Scalar.extui v12
  let v14 : BitVec 32 := Scalar.subi v11 v13
  let c3_i32 : BitVec 32 := 3#32
  let c0_i32_7 : BitVec 32 := 0#32
  let v15 : BitVec 1 := Scalar.cmpi .sgt c3_i32 c0_i32_7
  let v16 : BitVec 32 := Scalar.extui v15
  let c0_i32_8 : BitVec 32 := 0#32
  let v17 : BitVec 1 := Scalar.cmpi .slt c3_i32 c0_i32_8
  let v18 : BitVec 32 := Scalar.extui v17
  let v19 : BitVec 32 := Scalar.subi v16 v18
  let v20 : BitVec 1 := Scalar.cmpi .ne v14 v19
  let v21 : BitVec 32 := Scalar.remsi v8 c3_i32
  let c0_i32_9 : BitVec 32 := 0#32
  let v22 : BitVec 1 := Scalar.cmpi .ne v21 c0_i32_9
  let v23 : BitVec 1 := Scalar.andi v20 v22
  let v9 : BitVec 32 := Scalar.divsi v8 c3_i32
  let c1_i32_10 : BitVec 32 := 1#32
  let v24 : BitVec 32 := Scalar.subi v9 c1_i32_10
  let v25 : BitVec 32 := Scalar.select v23 v24 v9
  let v26 : BitVec 32 := Scalar.subi v25 c0_i32_12
  let c1_i32_13 : BitVec 32 := 1#32
  let v28 : BitVec 32 := Scalar.divsi v26 c1_i32_13
  let v29 : BitVec 32 := Scalar.muli v28 c1_i32_13
  let v30 : BitVec 32 := Scalar.addi c0_i32_12 v29
  let c1_i32_15 : BitVec 32 := 1#32
  let arg8 : BitVec 32 := Scf.iv v30 c1_i32_15 k0_t2
  let c1536_i32 : BitVec 32 := 1536#32
  let v224 : BitVec 32 := Scalar.muli arg8 c1536_i32
  let v225 : BitVec 32 := v224
  let v228 : Index := Scalar.indexCast v225
  let c0_123 : Index := 0#32
  ![v228.toNat, 0]
def k0_off6 (i : grid0.Coords) (k0_t2 : Fin (k0_t2_loop i).trips) : Fin 2 → Nat :=
  let c0_i32_12 : BitVec 32 := 0#32
  let arg1 : BitVec 32 := BitVec.ofNat 32 (i 1).val
  let c1_i32 : BitVec 32 := 1#32
  let v8 : BitVec 32 := Scalar.muli arg1 c1_i32
  let c0_i32 : BitVec 32 := 0#32
  let v10 : BitVec 1 := Scalar.cmpi .sgt v8 c0_i32
  let v11 : BitVec 32 := Scalar.extui v10
  let c0_i32_6 : BitVec 32 := 0#32
  let v12 : BitVec 1 := Scalar.cmpi .slt v8 c0_i32_6
  let v13 : BitVec 32 := Scalar.extui v12
  let v14 : BitVec 32 := Scalar.subi v11 v13
  let c3_i32 : BitVec 32 := 3#32
  let c0_i32_7 : BitVec 32 := 0#32
  let v15 : BitVec 1 := Scalar.cmpi .sgt c3_i32 c0_i32_7
  let v16 : BitVec 32 := Scalar.extui v15
  let c0_i32_8 : BitVec 32 := 0#32
  let v17 : BitVec 1 := Scalar.cmpi .slt c3_i32 c0_i32_8
  let v18 : BitVec 32 := Scalar.extui v17
  let v19 : BitVec 32 := Scalar.subi v16 v18
  let v20 : BitVec 1 := Scalar.cmpi .ne v14 v19
  let v21 : BitVec 32 := Scalar.remsi v8 c3_i32
  let c0_i32_9 : BitVec 32 := 0#32
  let v22 : BitVec 1 := Scalar.cmpi .ne v21 c0_i32_9
  let v23 : BitVec 1 := Scalar.andi v20 v22
  let v9 : BitVec 32 := Scalar.divsi v8 c3_i32
  let c1_i32_10 : BitVec 32 := 1#32
  let v24 : BitVec 32 := Scalar.subi v9 c1_i32_10
  let v25 : BitVec 32 := Scalar.select v23 v24 v9
  let v26 : BitVec 32 := Scalar.subi v25 c0_i32_12
  let c1_i32_13 : BitVec 32 := 1#32
  let v28 : BitVec 32 := Scalar.divsi v26 c1_i32_13
  let v29 : BitVec 32 := Scalar.muli v28 c1_i32_13
  let v30 : BitVec 32 := Scalar.addi c0_i32_12 v29
  let c1_i32_15 : BitVec 32 := 1#32
  let arg8 : BitVec 32 := Scf.iv v30 c1_i32_15 k0_t2
  let c1536_i32 : BitVec 32 := 1536#32
  let v224 : BitVec 32 := Scalar.muli arg8 c1536_i32
  let v225 : BitVec 32 := v224
  let v234 : Index := Scalar.indexCast v225
  let c128_127 : Index := 128#32
  ![v234.toNat, 128]
def k0_off7 (i : grid0.Coords) (k0_t2 : Fin (k0_t2_loop i).trips) : Fin 2 → Nat :=
  let c0_i32_12 : BitVec 32 := 0#32
  let arg1 : BitVec 32 := BitVec.ofNat 32 (i 1).val
  let c1_i32 : BitVec 32 := 1#32
  let v8 : BitVec 32 := Scalar.muli arg1 c1_i32
  let c0_i32 : BitVec 32 := 0#32
  let v10 : BitVec 1 := Scalar.cmpi .sgt v8 c0_i32
  let v11 : BitVec 32 := Scalar.extui v10
  let c0_i32_6 : BitVec 32 := 0#32
  let v12 : BitVec 1 := Scalar.cmpi .slt v8 c0_i32_6
  let v13 : BitVec 32 := Scalar.extui v12
  let v14 : BitVec 32 := Scalar.subi v11 v13
  let c3_i32 : BitVec 32 := 3#32
  let c0_i32_7 : BitVec 32 := 0#32
  let v15 : BitVec 1 := Scalar.cmpi .sgt c3_i32 c0_i32_7
  let v16 : BitVec 32 := Scalar.extui v15
  let c0_i32_8 : BitVec 32 := 0#32
  let v17 : BitVec 1 := Scalar.cmpi .slt c3_i32 c0_i32_8
  let v18 : BitVec 32 := Scalar.extui v17
  let v19 : BitVec 32 := Scalar.subi v16 v18
  let v20 : BitVec 1 := Scalar.cmpi .ne v14 v19
  let v21 : BitVec 32 := Scalar.remsi v8 c3_i32
  let c0_i32_9 : BitVec 32 := 0#32
  let v22 : BitVec 1 := Scalar.cmpi .ne v21 c0_i32_9
  let v23 : BitVec 1 := Scalar.andi v20 v22
  let v9 : BitVec 32 := Scalar.divsi v8 c3_i32
  let c1_i32_10 : BitVec 32 := 1#32
  let v24 : BitVec 32 := Scalar.subi v9 c1_i32_10
  let v25 : BitVec 32 := Scalar.select v23 v24 v9
  let v26 : BitVec 32 := Scalar.subi v25 c0_i32_12
  let c1_i32_13 : BitVec 32 := 1#32
  let v28 : BitVec 32 := Scalar.divsi v26 c1_i32_13
  let v29 : BitVec 32 := Scalar.muli v28 c1_i32_13
  let v30 : BitVec 32 := Scalar.addi c0_i32_12 v29
  let c1_i32_15 : BitVec 32 := 1#32
  let arg8 : BitVec 32 := Scf.iv v30 c1_i32_15 k0_t2
  let c1536_i32 : BitVec 32 := 1536#32
  let v224 : BitVec 32 := Scalar.muli arg8 c1536_i32
  let v225 : BitVec 32 := v224
  let v240 : Index := Scalar.indexCast v225
  let c256_131 : Index := 256#32
  ![v240.toNat, 256]
def k0_off8 (i : grid0.Coords) (k0_t2 : Fin (k0_t2_loop i).trips) : Fin 2 → Nat :=
  let c0_i32_12 : BitVec 32 := 0#32
  let arg1 : BitVec 32 := BitVec.ofNat 32 (i 1).val
  let c1_i32 : BitVec 32 := 1#32
  let v8 : BitVec 32 := Scalar.muli arg1 c1_i32
  let c0_i32 : BitVec 32 := 0#32
  let v10 : BitVec 1 := Scalar.cmpi .sgt v8 c0_i32
  let v11 : BitVec 32 := Scalar.extui v10
  let c0_i32_6 : BitVec 32 := 0#32
  let v12 : BitVec 1 := Scalar.cmpi .slt v8 c0_i32_6
  let v13 : BitVec 32 := Scalar.extui v12
  let v14 : BitVec 32 := Scalar.subi v11 v13
  let c3_i32 : BitVec 32 := 3#32
  let c0_i32_7 : BitVec 32 := 0#32
  let v15 : BitVec 1 := Scalar.cmpi .sgt c3_i32 c0_i32_7
  let v16 : BitVec 32 := Scalar.extui v15
  let c0_i32_8 : BitVec 32 := 0#32
  let v17 : BitVec 1 := Scalar.cmpi .slt c3_i32 c0_i32_8
  let v18 : BitVec 32 := Scalar.extui v17
  let v19 : BitVec 32 := Scalar.subi v16 v18
  let v20 : BitVec 1 := Scalar.cmpi .ne v14 v19
  let v21 : BitVec 32 := Scalar.remsi v8 c3_i32
  let c0_i32_9 : BitVec 32 := 0#32
  let v22 : BitVec 1 := Scalar.cmpi .ne v21 c0_i32_9
  let v23 : BitVec 1 := Scalar.andi v20 v22
  let v9 : BitVec 32 := Scalar.divsi v8 c3_i32
  let c1_i32_10 : BitVec 32 := 1#32
  let v24 : BitVec 32 := Scalar.subi v9 c1_i32_10
  let v25 : BitVec 32 := Scalar.select v23 v24 v9
  let v26 : BitVec 32 := Scalar.subi v25 c0_i32_12
  let c1_i32_13 : BitVec 32 := 1#32
  let v28 : BitVec 32 := Scalar.divsi v26 c1_i32_13
  let v29 : BitVec 32 := Scalar.muli v28 c1_i32_13
  let v30 : BitVec 32 := Scalar.addi c0_i32_12 v29
  let c1_i32_15 : BitVec 32 := 1#32
  let arg8 : BitVec 32 := Scf.iv v30 c1_i32_15 k0_t2
  let c1536_i32 : BitVec 32 := 1536#32
  let v224 : BitVec 32 := Scalar.muli arg8 c1536_i32
  let v225 : BitVec 32 := v224
  let v246 : Index := Scalar.indexCast v225
  let c384_135 : Index := 384#32
  ![v246.toNat, 384]
def k0_mult4 (i : grid0.Coords) (k0_t2 : Fin (k0_t2_loop i).trips) : BitVec 32 :=
  let c0_i32_12 : BitVec 32 := 0#32
  let arg1 : BitVec 32 := BitVec.ofNat 32 (i 1).val
  let c1_i32 : BitVec 32 := 1#32
  let v8 : BitVec 32 := Scalar.muli arg1 c1_i32
  let c0_i32 : BitVec 32 := 0#32
  let v10 : BitVec 1 := Scalar.cmpi .sgt v8 c0_i32
  let v11 : BitVec 32 := Scalar.extui v10
  let c0_i32_6 : BitVec 32 := 0#32
  let v12 : BitVec 1 := Scalar.cmpi .slt v8 c0_i32_6
  let v13 : BitVec 32 := Scalar.extui v12
  let v14 : BitVec 32 := Scalar.subi v11 v13
  let c3_i32 : BitVec 32 := 3#32
  let c0_i32_7 : BitVec 32 := 0#32
  let v15 : BitVec 1 := Scalar.cmpi .sgt c3_i32 c0_i32_7
  let v16 : BitVec 32 := Scalar.extui v15
  let c0_i32_8 : BitVec 32 := 0#32
  let v17 : BitVec 1 := Scalar.cmpi .slt c3_i32 c0_i32_8
  let v18 : BitVec 32 := Scalar.extui v17
  let v19 : BitVec 32 := Scalar.subi v16 v18
  let v20 : BitVec 1 := Scalar.cmpi .ne v14 v19
  let v21 : BitVec 32 := Scalar.remsi v8 c3_i32
  let c0_i32_9 : BitVec 32 := 0#32
  let v22 : BitVec 1 := Scalar.cmpi .ne v21 c0_i32_9
  let v23 : BitVec 1 := Scalar.andi v20 v22
  let v9 : BitVec 32 := Scalar.divsi v8 c3_i32
  let c1_i32_10 : BitVec 32 := 1#32
  let v24 : BitVec 32 := Scalar.subi v9 c1_i32_10
  let v25 : BitVec 32 := Scalar.select v23 v24 v9
  let v26 : BitVec 32 := Scalar.subi v25 c0_i32_12
  let c1_i32_13 : BitVec 32 := 1#32
  let v28 : BitVec 32 := Scalar.divsi v26 c1_i32_13
  let v29 : BitVec 32 := Scalar.muli v28 c1_i32_13
  let v30 : BitVec 32 := Scalar.addi c0_i32_12 v29
  let c1_i32_15 : BitVec 32 := 1#32
  let arg8 : BitVec 32 := Scf.iv v30 c1_i32_15 k0_t2
  let c1536_i32 : BitVec 32 := 1536#32
  let v224 : BitVec 32 := Scalar.muli arg8 c1536_i32
  v224
def k0_cond1 (i : grid0.Coords) : BitVec 1 :=
  let arg1 : BitVec 32 := BitVec.ofNat 32 (i 1).val
  let c1_i32 : BitVec 32 := 1#32
  let v8 : BitVec 32 := Scalar.muli arg1 c1_i32
  let c3_i32_16 : BitVec 32 := 3#32
  let c0_i32 : BitVec 32 := 0#32
  let v10 : BitVec 1 := Scalar.cmpi .sgt v8 c0_i32
  let v11 : BitVec 32 := Scalar.extui v10
  let c0_i32_6 : BitVec 32 := 0#32
  let v12 : BitVec 1 := Scalar.cmpi .slt v8 c0_i32_6
  let v13 : BitVec 32 := Scalar.extui v12
  let v14 : BitVec 32 := Scalar.subi v11 v13
  let c3_i32 : BitVec 32 := 3#32
  let c0_i32_7 : BitVec 32 := 0#32
  let v15 : BitVec 1 := Scalar.cmpi .sgt c3_i32 c0_i32_7
  let v16 : BitVec 32 := Scalar.extui v15
  let c0_i32_8 : BitVec 32 := 0#32
  let v17 : BitVec 1 := Scalar.cmpi .slt c3_i32 c0_i32_8
  let v18 : BitVec 32 := Scalar.extui v17
  let v19 : BitVec 32 := Scalar.subi v16 v18
  let v20 : BitVec 1 := Scalar.cmpi .ne v14 v19
  let v21 : BitVec 32 := Scalar.remsi v8 c3_i32
  let c0_i32_9 : BitVec 32 := 0#32
  let v22 : BitVec 1 := Scalar.cmpi .ne v21 c0_i32_9
  let v23 : BitVec 1 := Scalar.andi v20 v22
  let v9 : BitVec 32 := Scalar.divsi v8 c3_i32
  let c1_i32_10 : BitVec 32 := 1#32
  let v24 : BitVec 32 := Scalar.subi v9 c1_i32_10
  let v25 : BitVec 32 := Scalar.select v23 v24 v9
  let v31 : BitVec 32 := Scalar.muli c3_i32_16 v25
  let v32 : BitVec 32 := Scalar.subi v8 v31
  let c2_i32 : BitVec 32 := 2#32
  let v33 : BitVec 1 := Scalar.cmpi .eq v32 c2_i32
  let v34 : BitVec 32 := Scalar.extui v33
  let c0_i32_17 : BitVec 32 := 0#32
  let v35 : BitVec 1 := Scalar.cmpi .ne v34 c0_i32_17
  v35

def k0_mult5 (i : grid0.Coords) : BitVec 32 :=
  let arg1 : BitVec 32 := BitVec.ofNat 32 (i 1).val
  let c1_i32 : BitVec 32 := 1#32
  let v8 : BitVec 32 := Scalar.muli arg1 c1_i32
  let c2_i32_121 : BitVec 32 := 2#32
  let v224 : BitVec 32 := Scalar.subi v8 c2_i32_121
  let c512_i32_122 : BitVec 32 := 512#32
  let v225 : BitVec 32 := Scalar.muli v224 c512_i32_122
  v225
def k0_off9 (i : grid0.Coords) : Fin 2 → Nat :=
  let arg1 : BitVec 32 := BitVec.ofNat 32 (i 1).val
  let c1_i32 : BitVec 32 := 1#32
  let v8 : BitVec 32 := Scalar.muli arg1 c1_i32
  let c2_i32_121 : BitVec 32 := 2#32
  let v224 : BitVec 32 := Scalar.subi v8 c2_i32_121
  let c512_i32_122 : BitVec 32 := 512#32
  let v225 : BitVec 32 := Scalar.muli v224 c512_i32_122
  let v226 : BitVec 32 := v225
  let v229 : Index := Scalar.indexCast v226
  let c0_125 : Index := 0#32
  ![v229.toNat, 0]
def k0_off10 (i : grid0.Coords) : Fin 2 → Nat :=
  let arg1 : BitVec 32 := BitVec.ofNat 32 (i 1).val
  let c1_i32 : BitVec 32 := 1#32
  let v8 : BitVec 32 := Scalar.muli arg1 c1_i32
  let c2_i32_121 : BitVec 32 := 2#32
  let v224 : BitVec 32 := Scalar.subi v8 c2_i32_121
  let c512_i32_122 : BitVec 32 := 512#32
  let v225 : BitVec 32 := Scalar.muli v224 c512_i32_122
  let v226 : BitVec 32 := v225
  let v235 : Index := Scalar.indexCast v226
  let c128_129 : Index := 128#32
  ![v235.toNat, 128]
def k0_off11 (i : grid0.Coords) : Fin 2 → Nat :=
  let arg1 : BitVec 32 := BitVec.ofNat 32 (i 1).val
  let c1_i32 : BitVec 32 := 1#32
  let v8 : BitVec 32 := Scalar.muli arg1 c1_i32
  let c2_i32_121 : BitVec 32 := 2#32
  let v224 : BitVec 32 := Scalar.subi v8 c2_i32_121
  let c512_i32_122 : BitVec 32 := 512#32
  let v225 : BitVec 32 := Scalar.muli v224 c512_i32_122
  let v226 : BitVec 32 := v225
  let v241 : Index := Scalar.indexCast v226
  let c256_133 : Index := 256#32
  ![v241.toNat, 256]
def k0_off12 (i : grid0.Coords) : Fin 2 → Nat :=
  let arg1 : BitVec 32 := BitVec.ofNat 32 (i 1).val
  let c1_i32 : BitVec 32 := 1#32
  let v8 : BitVec 32 := Scalar.muli arg1 c1_i32
  let c2_i32_121 : BitVec 32 := 2#32
  let v224 : BitVec 32 := Scalar.subi v8 c2_i32_121
  let c512_i32_122 : BitVec 32 := 512#32
  let v225 : BitVec 32 := Scalar.muli v224 c512_i32_122
  let v226 : BitVec 32 := v225
  let v247 : Index := Scalar.indexCast v226
  let c384_137 : Index := 384#32
  ![v247.toNat, 384]
def k0_mult6 (i : grid0.Coords) : BitVec 32 :=
  let arg1 : BitVec 32 := BitVec.ofNat 32 (i 1).val
  let c1_i32 : BitVec 32 := 1#32
  let v8 : BitVec 32 := Scalar.muli arg1 c1_i32
  let c2_i32_121 : BitVec 32 := 2#32
  let v224 : BitVec 32 := Scalar.subi v8 c2_i32_121
  let c512_i32_122 : BitVec 32 := 512#32
  let v225 : BitVec 32 := Scalar.muli v224 c512_i32_122
  v225
def k0_cond2 (i : grid0.Coords) : BitVec 1 :=
  let arg1 : BitVec 32 := BitVec.ofNat 32 (i 1).val
  let c1_i32 : BitVec 32 := 1#32
  let v8 : BitVec 32 := Scalar.muli arg1 c1_i32
  let c3_i32_16 : BitVec 32 := 3#32
  let c0_i32 : BitVec 32 := 0#32
  let v10 : BitVec 1 := Scalar.cmpi .sgt v8 c0_i32
  let v11 : BitVec 32 := Scalar.extui v10
  let c0_i32_6 : BitVec 32 := 0#32
  let v12 : BitVec 1 := Scalar.cmpi .slt v8 c0_i32_6
  let v13 : BitVec 32 := Scalar.extui v12
  let v14 : BitVec 32 := Scalar.subi v11 v13
  let c3_i32 : BitVec 32 := 3#32
  let c0_i32_7 : BitVec 32 := 0#32
  let v15 : BitVec 1 := Scalar.cmpi .sgt c3_i32 c0_i32_7
  let v16 : BitVec 32 := Scalar.extui v15
  let c0_i32_8 : BitVec 32 := 0#32
  let v17 : BitVec 1 := Scalar.cmpi .slt c3_i32 c0_i32_8
  let v18 : BitVec 32 := Scalar.extui v17
  let v19 : BitVec 32 := Scalar.subi v16 v18
  let v20 : BitVec 1 := Scalar.cmpi .ne v14 v19
  let v21 : BitVec 32 := Scalar.remsi v8 c3_i32
  let c0_i32_9 : BitVec 32 := 0#32
  let v22 : BitVec 1 := Scalar.cmpi .ne v21 c0_i32_9
  let v23 : BitVec 1 := Scalar.andi v20 v22
  let v9 : BitVec 32 := Scalar.divsi v8 c3_i32
  let c1_i32_10 : BitVec 32 := 1#32
  let v24 : BitVec 32 := Scalar.subi v9 c1_i32_10
  let v25 : BitVec 32 := Scalar.select v23 v24 v9
  let v31 : BitVec 32 := Scalar.muli c3_i32_16 v25
  let v32 : BitVec 32 := Scalar.subi v8 v31
  let c1_i32_18 : BitVec 32 := 1#32
  let v36 : BitVec 1 := Scalar.cmpi .eq v32 c1_i32_18
  let v37 : BitVec 32 := Scalar.extui v36
  let c0_i32_19 : BitVec 32 := 0#32
  let v38 : BitVec 1 := Scalar.cmpi .ne v37 c0_i32_19
  v38

def k0_mult7 (i : grid0.Coords) : BitVec 32 :=
  let arg1 : BitVec 32 := BitVec.ofNat 32 (i 1).val
  let c1_i32 : BitVec 32 := 1#32
  let v8 : BitVec 32 := Scalar.muli arg1 c1_i32
  let c1_i32_121 : BitVec 32 := 1#32
  let v224 : BitVec 32 := Scalar.subi v8 c1_i32_121
  let c512_i32_122 : BitVec 32 := 512#32
  let v225 : BitVec 32 := Scalar.muli v224 c512_i32_122
  v225
def k0_off13 (i : grid0.Coords) : Fin 2 → Nat :=
  let arg1 : BitVec 32 := BitVec.ofNat 32 (i 1).val
  let c1_i32 : BitVec 32 := 1#32
  let v8 : BitVec 32 := Scalar.muli arg1 c1_i32
  let c1_i32_121 : BitVec 32 := 1#32
  let v224 : BitVec 32 := Scalar.subi v8 c1_i32_121
  let c512_i32_122 : BitVec 32 := 512#32
  let v225 : BitVec 32 := Scalar.muli v224 c512_i32_122
  let v226 : BitVec 32 := v225
  let v229 : Index := Scalar.indexCast v226
  let c0_125 : Index := 0#32
  ![v229.toNat, 0]
def k0_off14 (i : grid0.Coords) : Fin 2 → Nat :=
  let arg1 : BitVec 32 := BitVec.ofNat 32 (i 1).val
  let c1_i32 : BitVec 32 := 1#32
  let v8 : BitVec 32 := Scalar.muli arg1 c1_i32
  let c1_i32_121 : BitVec 32 := 1#32
  let v224 : BitVec 32 := Scalar.subi v8 c1_i32_121
  let c512_i32_122 : BitVec 32 := 512#32
  let v225 : BitVec 32 := Scalar.muli v224 c512_i32_122
  let v226 : BitVec 32 := v225
  let v235 : Index := Scalar.indexCast v226
  let c128_129 : Index := 128#32
  ![v235.toNat, 128]
def k0_off15 (i : grid0.Coords) : Fin 2 → Nat :=
  let arg1 : BitVec 32 := BitVec.ofNat 32 (i 1).val
  let c1_i32 : BitVec 32 := 1#32
  let v8 : BitVec 32 := Scalar.muli arg1 c1_i32
  let c1_i32_121 : BitVec 32 := 1#32
  let v224 : BitVec 32 := Scalar.subi v8 c1_i32_121
  let c512_i32_122 : BitVec 32 := 512#32
  let v225 : BitVec 32 := Scalar.muli v224 c512_i32_122
  let v226 : BitVec 32 := v225
  let v241 : Index := Scalar.indexCast v226
  let c256_133 : Index := 256#32
  ![v241.toNat, 256]
def k0_off16 (i : grid0.Coords) : Fin 2 → Nat :=
  let arg1 : BitVec 32 := BitVec.ofNat 32 (i 1).val
  let c1_i32 : BitVec 32 := 1#32
  let v8 : BitVec 32 := Scalar.muli arg1 c1_i32
  let c1_i32_121 : BitVec 32 := 1#32
  let v224 : BitVec 32 := Scalar.subi v8 c1_i32_121
  let c512_i32_122 : BitVec 32 := 512#32
  let v225 : BitVec 32 := Scalar.muli v224 c512_i32_122
  let v226 : BitVec 32 := v225
  let v247 : Index := Scalar.indexCast v226
  let c384_137 : Index := 384#32
  ![v247.toNat, 384]
def k0_mult8 (i : grid0.Coords) : BitVec 32 :=
  let arg1 : BitVec 32 := BitVec.ofNat 32 (i 1).val
  let c1_i32 : BitVec 32 := 1#32
  let v8 : BitVec 32 := Scalar.muli arg1 c1_i32
  let c1_i32_121 : BitVec 32 := 1#32
  let v224 : BitVec 32 := Scalar.subi v8 c1_i32_121
  let c512_i32_122 : BitVec 32 := 512#32
  let v225 : BitVec 32 := Scalar.muli v224 c512_i32_122
  v225
def k0_mult9 (i : grid0.Coords) : BitVec 32 :=
  let arg1 : BitVec 32 := BitVec.ofNat 32 (i 1).val
  let c1_i32 : BitVec 32 := 1#32
  let v8 : BitVec 32 := Scalar.muli arg1 c1_i32
  let c0_i32_20 : BitVec 32 := 0#32
  let v39 : BitVec 32 := Scalar.addi v8 c0_i32_20
  let c512_i32 : BitVec 32 := 512#32
  let v40 : BitVec 32 := Scalar.muli v39 c512_i32
  v40
def k0_off17 (i : grid0.Coords) : Fin 2 → Nat :=
  let arg1 : BitVec 32 := BitVec.ofNat 32 (i 1).val
  let c1_i32 : BitVec 32 := 1#32
  let v8 : BitVec 32 := Scalar.muli arg1 c1_i32
  let c0_i32_20 : BitVec 32 := 0#32
  let v39 : BitVec 32 := Scalar.addi v8 c0_i32_20
  let c512_i32 : BitVec 32 := 512#32
  let v40 : BitVec 32 := Scalar.muli v39 c512_i32
  let v41 : BitVec 32 := v40
  let v44 : Index := Scalar.indexCast v41
  let c0_23 : Index := 0#32
  ![v44.toNat, 0]
def k0_off18 (i : grid0.Coords) : Fin 2 → Nat :=
  let arg1 : BitVec 32 := BitVec.ofNat 32 (i 1).val
  let c1_i32 : BitVec 32 := 1#32
  let v8 : BitVec 32 := Scalar.muli arg1 c1_i32
  let c0_i32_20 : BitVec 32 := 0#32
  let v39 : BitVec 32 := Scalar.addi v8 c0_i32_20
  let c512_i32 : BitVec 32 := 512#32
  let v40 : BitVec 32 := Scalar.muli v39 c512_i32
  let v41 : BitVec 32 := v40
  let v50 : Index := Scalar.indexCast v41
  let c128_26 : Index := 128#32
  ![v50.toNat, 128]
def k0_off19 (i : grid0.Coords) : Fin 2 → Nat :=
  let arg1 : BitVec 32 := BitVec.ofNat 32 (i 1).val
  let c1_i32 : BitVec 32 := 1#32
  let v8 : BitVec 32 := Scalar.muli arg1 c1_i32
  let c0_i32_20 : BitVec 32 := 0#32
  let v39 : BitVec 32 := Scalar.addi v8 c0_i32_20
  let c512_i32 : BitVec 32 := 512#32
  let v40 : BitVec 32 := Scalar.muli v39 c512_i32
  let v41 : BitVec 32 := v40
  let v56 : Index := Scalar.indexCast v41
  let c256_29 : Index := 256#32
  ![v56.toNat, 256]
def k0_off20 (i : grid0.Coords) : Fin 2 → Nat :=
  let arg1 : BitVec 32 := BitVec.ofNat 32 (i 1).val
  let c1_i32 : BitVec 32 := 1#32
  let v8 : BitVec 32 := Scalar.muli arg1 c1_i32
  let c0_i32_20 : BitVec 32 := 0#32
  let v39 : BitVec 32 := Scalar.addi v8 c0_i32_20
  let c512_i32 : BitVec 32 := 512#32
  let v40 : BitVec 32 := Scalar.muli v39 c512_i32
  let v41 : BitVec 32 := v40
  let v62 : Index := Scalar.indexCast v41
  let c384_32 : Index := 384#32
  ![v62.toNat, 384]
def k0_mult10 (i : grid0.Coords) : BitVec 32 :=
  let arg1 : BitVec 32 := BitVec.ofNat 32 (i 1).val
  let c1_i32 : BitVec 32 := 1#32
  let v8 : BitVec 32 := Scalar.muli arg1 c1_i32
  let c0_i32_20 : BitVec 32 := 0#32
  let v39 : BitVec 32 := Scalar.addi v8 c0_i32_20
  let c512_i32 : BitVec 32 := 512#32
  let v40 : BitVec 32 := Scalar.muli v39 c512_i32
  v40
def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S8192x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S8192x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== KernelIdeal.lean ====
variable {F : FTy → Type} [FloatOps F] [Named F]
def κ : String → Option EReal := fun
  | "mask" => some ⊥
  | _ => none
-- ==== Reference.lean ====
abbrev S2x8192x4x96 : Shape := ⟨4, ![2, 8192, 4, 96]⟩
abbrev S2x8192x4x64 : Shape := ⟨4, ![2, 8192, 4, 64]⟩
abbrev S2x4x8192x8192 : Shape := ⟨4, ![2, 4, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S2x4x8192 : Shape := ⟨3, ![2, 4, 8192]⟩
abbrev S2x4x8192x1 : Shape := ⟨4, ![2, 4, 8192, 1]⟩
abbrev S2x4x64x8192 : Shape := ⟨4, ![2, 4, 64, 8192]⟩
abbrev S16384x256 : Shape := ⟨2, ![16384, 256]⟩

abbrev nBuf : Space → Nat
  | .hbm => 35
  | .vmem => 0
  | .smem => 0
  | _ => 0

abbrev bufTy : (tb : Table) → Fin (tcTables nBuf tb) → BufTy
  | .hbm, ⟨0, _⟩ => ⟨S2x8192x4x96, .f32⟩
  | .hbm, ⟨1, _⟩ => ⟨S2x8192x4x96, .f32⟩
  | .hbm, ⟨2, _⟩ => ⟨S2x8192x4x64, .f32⟩
  | .hbm, ⟨3, _⟩ => ⟨S2x4x8192x8192, .f32⟩
  | .hbm, ⟨4, _⟩ => ⟨S_, .f32⟩
  | .hbm, ⟨5, _⟩ => ⟨S2x4x8192x8192, .f32⟩
  | .hbm, ⟨6, _⟩ => ⟨S2x4x8192x8192, .f32⟩
  | .hbm, ⟨7, _⟩ => ⟨S8192, .i32⟩
  | .hbm, ⟨8, _⟩ => ⟨S1x8192, .i32⟩
  | .hbm, ⟨9, _⟩ => ⟨S8192x1, .i32⟩
  | .hbm, ⟨10, _⟩ => ⟨S8192x8192, .i32⟩
  | .hbm, ⟨11, _⟩ => ⟨S8192x8192, .i32⟩
  | .hbm, ⟨12, _⟩ => ⟨S8192x8192, .i1⟩
  | .hbm, ⟨13, _⟩ => ⟨S_, .f32⟩
  | .hbm, ⟨14, _⟩ => ⟨S_, .f32⟩
  | .hbm, ⟨15, _⟩ => ⟨S2x4x8192x8192, .i1⟩
  | .hbm, ⟨16, _⟩ => ⟨S2x4x8192x8192, .f32⟩
  | .hbm, ⟨17, _⟩ => ⟨S2x4x8192x8192, .f32⟩
  | .hbm, ⟨18, _⟩ => ⟨S_, .f32⟩
  | .hbm, ⟨19, _⟩ => ⟨S2x4x8192, .f32⟩
  | .hbm, ⟨20, _⟩ => ⟨S_, .f32⟩
  | .hbm, ⟨21, _⟩ => ⟨S2x4x8192, .f32⟩
  | .hbm, ⟨22, _⟩ => ⟨S2x4x8192, .f32⟩
  | .hbm, ⟨23, _⟩ => ⟨S2x4x8192x1, .f32⟩
  | .hbm, ⟨24, _⟩ => ⟨S2x4x8192x8192, .f32⟩
  | .hbm, ⟨25, _⟩ => ⟨S2x4x8192x8192, .f32⟩
  | .hbm, ⟨26, _⟩ => ⟨S2x4x8192x8192, .f32⟩
  | .hbm, ⟨27, _⟩ => ⟨S_, .f32⟩
  | .hbm, ⟨28, _⟩ => ⟨S2x4x8192, .f32⟩
  | .hbm, ⟨29, _⟩ => ⟨S2x4x8192x1, .f32⟩
  | .hbm, ⟨30, _⟩ => ⟨S2x4x8192x8192, .f32⟩
  | .hbm, ⟨31, _⟩ => ⟨S2x4x8192x8192, .f32⟩
  | .hbm, ⟨32, _⟩ => ⟨S2x4x64x8192, .f32⟩
  | .hbm, ⟨33, _⟩ => ⟨S2x8192x4x64, .f32⟩
  | .hbm, ⟨34, _⟩ => ⟨S16384x256, .f32⟩
  | _, _ => ⟨S2x8192x4x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩

abbrev nD : Nat := 1
abbrev τ : Topo := Topo.v7x

variable {F : FTy → Type} [FloatOps F]
-- ==== Kernel2.lean ====
abbrev S16384x256 : Shape := ⟨2, ![16384, 256]⟩
abbrev S16384x1024 : Shape := ⟨2, ![16384, 1024]⟩
abbrev S2x2x8192x256 : Shape := ⟨4, ![2, 2, 8192, 256]⟩
abbrev S2x1024 : Shape := ⟨2, ![2, 1024]⟩
abbrev S2x1024x1024 : Shape := ⟨3, ![2, 1024, 1024]⟩
abbrev S2x1024x5632 : Shape := ⟨3, ![2, 1024, 5632]⟩
abbrev S2x3x5632 : Shape := ⟨3, ![2, 3, 5632]⟩
abbrev S2x5632 : Shape := ⟨2, ![2, 5632]⟩
abbrev S2x2816x1024 : Shape := ⟨3, ![2, 2816, 1024]⟩
abbrev S2x256x1024 : Shape := ⟨3, ![2, 256, 1024]⟩
abbrev S1024 : Shape := ⟨1, ![1024]⟩
abbrev S2x1x1024 : Shape := ⟨3, ![2, 1, 1024]⟩
abbrev S2x1x5632 : Shape := ⟨3, ![2, 1, 5632]⟩
abbrev S1x1x1024 : Shape := ⟨3, ![1, 1, 1024]⟩
abbrev S32768x256 : Shape := ⟨2, ![32768, 256]⟩
abbrev S512x256 : Shape := ⟨2, ![512, 256]⟩
abbrev S512x1024 : Shape := ⟨2, ![512, 1024]⟩
abbrev S1x1024x1024 : Shape := ⟨3, ![1, 1024, 1024]⟩
abbrev S1x1024x5632 : Shape := ⟨3, ![1, 1024, 5632]⟩
abbrev S1x3x5632 : Shape := ⟨3, ![1, 3, 5632]⟩
abbrev S1x1x5632 : Shape := ⟨3, ![1, 1, 5632]⟩
abbrev S1x2816x1024 : Shape := ⟨3, ![1, 2816, 1024]⟩
abbrev S1x256x1024 : Shape := ⟨3, ![1, 256, 1024]⟩
abbrev S528x1024 : Shape := ⟨2, ![528, 1024]⟩
abbrev S4x528x256 : Shape := ⟨3, ![4, 528, 256]⟩
abbrev S512x2816 : Shape := ⟨2, ![512, 2816]⟩
abbrev S16x1024 : Shape := ⟨2, ![16, 1024]⟩
abbrev S1x1x256 : Shape := ⟨3, ![1, 1, 256]⟩
abbrev S1x256 : Shape := ⟨2, ![1, 256]⟩
abbrev S512 : Shape := ⟨1, ![512]⟩
abbrev S512x1 : Shape := ⟨2, ![512, 1]⟩
abbrev S256x1024 : Shape := ⟨2, ![256, 1024]⟩
abbrev S1x1024 : Shape := ⟨2, ![1, 1024]⟩
abbrev S1x1024x256 : Shape := ⟨3, ![1, 1024, 256]⟩
abbrev S1024x256 : Shape := ⟨2, ![1024, 256]⟩
abbrev S528x256 : Shape := ⟨2, ![528, 256]⟩
abbrev S1x528x256 : Shape := ⟨3, ![1, 528, 256]⟩
abbrev S1x512x256 : Shape := ⟨3, ![1, 512, 256]⟩
abbrev S2816x1024 : Shape := ⟨2, ![2816, 1024]⟩
abbrev S1024x1024 : Shape := ⟨2, ![1024, 1024]⟩

abbrev nBuf : Space → Nat
  | .hbm => 31
  | .vmem => 30
  | .smem => 0
  | _ => 0

abbrev bufTy : (tb : Table) → Fin (tcTables nBuf tb) → BufTy
  | .hbm, ⟨0, _⟩ => ⟨S16384x256, .f32⟩
  | .hbm, ⟨1, _⟩ => ⟨S16384x256, .f32⟩
  | .hbm, ⟨2, _⟩ => ⟨S16384x256, .f32⟩
  | .hbm, ⟨3, _⟩ => ⟨S16384x1024, .f32⟩
  | .hbm, ⟨4, _⟩ => ⟨S16384x256, .f32⟩
  | .hbm, ⟨5, _⟩ => ⟨S16384x1024, .f32⟩
  | .hbm, ⟨6, _⟩ => ⟨S2x2x8192x256, .f32⟩
  | .hbm, ⟨7, _⟩ => ⟨S2x1024, .f32⟩
  | .hbm, ⟨8, _⟩ => ⟨S2x1024x1024, .f32⟩
  | .hbm, ⟨9, _⟩ => ⟨S2x1024, .f32⟩
  | .hbm, ⟨10, _⟩ => ⟨S2x1024x5632, .f32⟩
  | .hbm, ⟨11, _⟩ => ⟨S2x3x5632, .f32⟩
  | .hbm, ⟨12, _⟩ => ⟨S2x5632, .f32⟩
  | .hbm, ⟨13, _⟩ => ⟨S2x2816x1024, .f32⟩
  | .hbm, ⟨14, _⟩ => ⟨S2x1024, .f32⟩
  | .hbm, ⟨15, _⟩ => ⟨S2x1024x1024, .f32⟩
  | .hbm, ⟨16, _⟩ => ⟨S2x256x1024, .f32⟩
  | .hbm, ⟨17, _⟩ => ⟨S1024, .f32⟩
  | .hbm, ⟨18, _⟩ => ⟨S2x1x1024, .f32⟩
  | .hbm, ⟨19, _⟩ => ⟨S2x1024x1024, .bf16⟩
  | .hbm, ⟨20, _⟩ => ⟨S2x1x1024, .f32⟩
  | .hbm, ⟨21, _⟩ => ⟨S2x1024x5632, .bf16⟩
  | .hbm, ⟨22, _⟩ => ⟨S2x1x5632, .f32⟩
  | .hbm, ⟨23, _⟩ => ⟨S2x2816x1024, .bf16⟩
  | .hbm, ⟨24, _⟩ => ⟨S2x1x1024, .f32⟩
  | .hbm, ⟨25, _⟩ => ⟨S2x1024x1024, .bf16⟩
  | .hbm, ⟨26, _⟩ => ⟨S2x256x1024, .bf16⟩
  | .hbm, ⟨27, _⟩ => ⟨S1x1x1024, .f32⟩
  | .hbm, ⟨28, _⟩ => ⟨S2x1x1024, .f32⟩
  | .hbm, ⟨29, _⟩ => ⟨S32768x256, .f32⟩
  | .hbm, ⟨30, _⟩ => ⟨S16384x1024, .f32⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S512x256, .f32⟩
  | .local _ .vmem, ⟨9, _⟩ => ⟨S512x256, .f32⟩
  | .local _ .vmem, ⟨10, _⟩ => ⟨S512x1024, .f32⟩
  | .local _ .vmem, ⟨11, _⟩ => ⟨S512x1024, .f32⟩
  | .local _ .vmem, ⟨12, _⟩ => ⟨S512x256, .f32⟩
  | .local _ .vmem, ⟨13, _⟩ => ⟨S512x256, .f32⟩
  | .local _ .vmem, ⟨14, _⟩ => ⟨S1x1x1024, .f32⟩
  | .local _ .vmem, ⟨15, _⟩ => ⟨S1x1024x1024, .bf16⟩
  | .local _ .vmem, ⟨16, _⟩ => ⟨S1x1x1024, .f32⟩
  | .local _ .vmem, ⟨17, _⟩ => ⟨S1x1024x5632, .bf16⟩
  | .local _ .vmem, ⟨18, _⟩ => ⟨S1x3x5632, .f32⟩
  | .local _ .vmem, ⟨19, _⟩ => ⟨S1x1x5632, .f32⟩
  | .local _ .vmem, ⟨20, _⟩ => ⟨S1x2816x1024, .bf16⟩
  | .local _ .vmem, ⟨21, _⟩ => ⟨S1x1x1024, .f32⟩
  | .local _ .vmem, ⟨22, _⟩ => ⟨S1x1024x1024, .bf16⟩
  | .local _ .vmem, ⟨23, _⟩ => ⟨S1x256x1024, .bf16⟩
  | .local _ .vmem, ⟨24, _⟩ => ⟨S1x1x1024, .f32⟩
  | .local _ .vmem, ⟨25, _⟩ => ⟨S512x1024, .f32⟩
  | .local _ .vmem, ⟨26, _⟩ => ⟨S512x1024, .f32⟩
  | .local _ .vmem, ⟨27, _⟩ => ⟨S528x1024, .bf16⟩
  | .local _ .vmem, ⟨28, _⟩ => ⟨S4x528x256, .f32⟩
  | .local _ .vmem, ⟨29, _⟩ => ⟨S512x2816, .bf16⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg15_0 : Ref sig .tc := ⟨.vmem, 22, rfl⟩
abbrev cc0_stg16_0 : Ref sig .tc := ⟨.vmem, 23, rfl⟩
abbrev cc0_stg17_0 : Ref sig .tc := ⟨.vmem, 24, rfl⟩
abbrev cc0_stg18_0 : Ref sig .tc := ⟨.vmem, 25, rfl⟩
abbrev cc0_stg18_1 : Ref sig .tc := ⟨.vmem, 26, rfl⟩
abbrev cc0_scratch0 : Ref sig .tc := ⟨.vmem, 27, rfl⟩
abbrev cc0_scratch1 : Ref sig .tc := ⟨.vmem, 28, rfl⟩
abbrev cc0_scratch2 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem14_0 : DmaSem sig := 21
abbrev cc0_sem15_0 : DmaSem sig := 22
abbrev cc0_sem16_0 : DmaSem sig := 23
abbrev cc0_sem17_0 : DmaSem sig := 24
abbrev cc0_sem18_0 : DmaSem sig := 25
abbrev cc0_sem18_1 : DmaSem sig := 26

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c32_i32 : BitVec 32 := 32#32
  let v0 : BitVec 32 := Scalar.addi c32_i32 arg0
  let c0_i32 : BitVec 32 := 0#32
  let c0_i32_0 : BitVec 32 := 0#32
  ![v0.toNat, c0_i32.toNat]

def cc0_transform_7 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_8 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_9 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_10 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_11 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_12 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_13 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_14 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_15 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_16 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_17 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024x5632 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x3x5632 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1x5632 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x2816x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x256x1024 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 2 → Memref sig .tc .vmem S512x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== Reference2.lean ====
abbrev S16384x256 : Shape := ⟨2, ![16384, 256]⟩
abbrev S16384x1024 : Shape := ⟨2, ![16384, 1024]⟩
abbrev S2x2x8192x256 : Shape := ⟨4, ![2, 2, 8192, 256]⟩
abbrev S2x1024 : Shape := ⟨2, ![2, 1024]⟩
abbrev S2x1024x1024 : Shape := ⟨3, ![2, 1024, 1024]⟩
abbrev S2x1024x5632 : Shape := ⟨3, ![2, 1024, 5632]⟩
abbrev S2x3x5632 : Shape := ⟨3, ![2, 3, 5632]⟩
abbrev S2x5632 : Shape := ⟨2, ![2, 5632]⟩
abbrev S2x2816x1024 : Shape := ⟨3, ![2, 2816, 1024]⟩
abbrev S2x256x1024 : Shape := ⟨3, ![2, 256, 1024]⟩
abbrev S1024 : Shape := ⟨1, ![1024]⟩
abbrev S1x1024 : Shape := ⟨2, ![1, 1024]⟩
abbrev S256 : Shape := ⟨1, ![256]⟩
abbrev S_ : Shape := ⟨0, ![]⟩
abbrev S16384 : Shape := ⟨1, ![16384]⟩
abbrev S16384x1 : Shape := ⟨2, ![16384, 1]⟩
abbrev S1x256 : Shape := ⟨2, ![1, 256]⟩
abbrev S1x1024x1024 : Shape := ⟨3, ![1, 1024, 1024]⟩
abbrev S1024x1024 : Shape := ⟨2, ![1024, 1024]⟩
abbrev S1x1024x5632 : Shape := ⟨3, ![1, 1024, 5632]⟩
abbrev S1024x5632 : Shape := ⟨2, ![1024, 5632]⟩
abbrev S1x3x5632 : Shape := ⟨3, ![1, 3, 5632]⟩
abbrev S3x5632 : Shape := ⟨2, ![3, 5632]⟩
abbrev S1x5632 : Shape := ⟨2, ![1, 5632]⟩
abbrev S5632 : Shape := ⟨1, ![5632]⟩
abbrev S1x2816x1024 : Shape := ⟨3, ![1, 2816, 1024]⟩
abbrev S2816x1024 : Shape := ⟨2, ![2816, 1024]⟩
abbrev S16384x5632 : Shape := ⟨2, ![16384, 5632]⟩
abbrev S2x8192x5632 : Shape := ⟨3, ![2, 8192, 5632]⟩
abbrev S2x8194x5632 : Shape := ⟨3, ![2, 8194, 5632]⟩
abbrev S1x1x5632 : Shape := ⟨3, ![1, 1, 5632]⟩
abbrev S2x8192x2816 : Shape := ⟨3, ![2, 8192, 2816]⟩
abbrev S16384x2816 : Shape := ⟨2, ![16384, 2816]⟩
abbrev S1x2x8192x256 : Shape := ⟨4, ![1, 2, 8192, 256]⟩
abbrev S2x8192x256 : Shape := ⟨3, ![2, 8192, 256]⟩
abbrev S1x256x1024 : Shape := ⟨3, ![1, 256, 1024]⟩
abbrev S256x1024 : Shape := ⟨2, ![256, 1024]⟩

abbrev nBuf : Space → Nat
  | .hbm => 225
  | .vmem => 0
  | .smem => 0
  | _ => 0

abbrev hbmTy0_0 (i : Nat) : BufTy := match i % 128 with
  | 0 => ⟨S16384x256, .f32⟩
  | 1 => ⟨S16384x256, .f32⟩
  | 2 => ⟨S16384x256, .f32⟩
  | 3 => ⟨S16384x1024, .f32⟩
  | 4 => ⟨S16384x256, .f32⟩
  | 5 => ⟨S16384x1024, .f32⟩
  | 6 => ⟨S2x2x8192x256, .f32⟩
  | 7 => ⟨S2x1024, .f32⟩
  | 8 => ⟨S2x1024x1024, .f32⟩
  | 9 => ⟨S2x1024, .f32⟩
  | 10 => ⟨S2x1024x5632, .f32⟩
  | 11 => ⟨S2x3x5632, .f32⟩
  | 12 => ⟨S2x5632, .f32⟩
  | 13 => ⟨S2x2816x1024, .f32⟩
  | 14 => ⟨S2x1024, .f32⟩
  | 15 => ⟨S2x1024x1024, .f32⟩
  | 16 => ⟨S2x256x1024, .f32⟩
  | 17 => ⟨S1024, .f32⟩
  | 18 => ⟨S1x1024, .f32⟩
  | 19 => ⟨S1024, .f32⟩
  | 20 => ⟨S256, .f32⟩
  | 21 => ⟨S16384x256, .f32⟩
  | 22 => ⟨S_, .f32⟩
  | 23 => ⟨S16384, .f32⟩
  | 24 => ⟨S16384x1, .f32⟩
  | 25 => ⟨S_, .f32⟩
  | 26 => ⟨S16384x1, .f32⟩
  | 27 => ⟨S16384x1, .f32⟩
  | 28 => ⟨S_, .f32⟩
  | 29 => ⟨S16384x1, .f32⟩
  | 30 => ⟨S16384x1, .f32⟩
  | 31 => ⟨S16384x1, .f32⟩
  | 32 => ⟨S16384x256, .f32⟩
  | 33 => ⟨S16384x256, .f32⟩
  | 34 => ⟨S1x256, .f32⟩
  | 35 => ⟨S16384x256, .f32⟩
  | 36 => ⟨S16384x256, .f32⟩
  | 37 => ⟨S256, .f32⟩
  | 38 => ⟨S16384x256, .f32⟩
  | 39 => ⟨S_, .f32⟩
  | 40 => ⟨S16384, .f32⟩
  | 41 => ⟨S16384x1, .f32⟩
  | 42 => ⟨S_, .f32⟩
  | 43 => ⟨S16384x1, .f32⟩
  | 44 => ⟨S16384x1, .f32⟩
  | 45 => ⟨S_, .f32⟩
  | 46 => ⟨S16384x1, .f32⟩
  | 47 => ⟨S16384x1, .f32⟩
  | 48 => ⟨S16384x1, .f32⟩
  | 49 => ⟨S16384x256, .f32⟩
  | 50 => ⟨S16384x256, .f32⟩
  | 51 => ⟨S1x256, .f32⟩
  | 52 => ⟨S16384x256, .f32⟩
  | 53 => ⟨S16384x256, .f32⟩
  | 54 => ⟨S256, .f32⟩
  | 55 => ⟨S16384x256, .f32⟩
  | 56 => ⟨S_, .f32⟩
  | 57 => ⟨S16384, .f32⟩
  | 58 => ⟨S16384x1, .f32⟩
  | 59 => ⟨S_, .f32⟩
  | 60 => ⟨S16384x1, .f32⟩
  | 61 => ⟨S16384x1, .f32⟩
  | 62 => ⟨S_, .f32⟩
  | 63 => ⟨S16384x1, .f32⟩
  | 64 => ⟨S16384x1, .f32⟩
  | 65 => ⟨S16384x1, .f32⟩
  | 66 => ⟨S16384x256, .f32⟩
  | 67 => ⟨S16384x256, .f32⟩
  | 68 => ⟨S1x256, .f32⟩
  | 69 => ⟨S16384x256, .f32⟩
  | 70 => ⟨S16384x256, .f32⟩
  | 71 => ⟨S16384x256, .f32⟩
  | 72 => ⟨S16384x256, .f32⟩
  | 73 => ⟨S16384x256, .f32⟩
  | 74 => ⟨S_, .f32⟩
  | 75 => ⟨S16384x256, .f32⟩
  | 76 => ⟨S16384x256, .f32⟩
  | 77 => ⟨S_, .f32⟩
  | 78 => ⟨S16384x256, .f32⟩
  | 79 => ⟨S16384x256, .f32⟩
  | 80 => ⟨S16384x256, .f32⟩
  | 81 => ⟨S256, .f32⟩
  | 82 => ⟨S16384x256, .f32⟩
  | 83 => ⟨S_, .f32⟩
  | 84 => ⟨S16384, .f32⟩
  | 85 => ⟨S16384x1, .f32⟩
  | 86 => ⟨S_, .f32⟩
  | 87 => ⟨S16384x1, .f32⟩
  | 88 => ⟨S16384x1, .f32⟩
  | 89 => ⟨S_, .f32⟩
  | 90 => ⟨S16384x1, .f32⟩
  | 91 => ⟨S16384x1, .f32⟩
  | 92 => ⟨S16384x1, .f32⟩
  | 93 => ⟨S16384x256, .f32⟩
  | 94 => ⟨S16384x256, .f32⟩
  | 95 => ⟨S1x256, .f32⟩
  | 96 => ⟨S16384x256, .f32⟩
  | 97 => ⟨S16384x256, .f32⟩
  | 98 => ⟨S16384x1024, .f32⟩
  | 99 => ⟨S1x1024x1024, .f32⟩
  | 100 => ⟨S1024x1024, .f32⟩
  | 101 => ⟨S16384x1024, .f32⟩
  | 102 => ⟨S16384x1024, .f32⟩
  | 103 => ⟨S1x1024, .f32⟩
  | 104 => ⟨S1024, .f32⟩
  | 105 => ⟨S16384x1024, .f32⟩
  | 106 => ⟨S_, .f32⟩
  | 107 => ⟨S16384, .f32⟩
  | 108 => ⟨S16384x1, .f32⟩
  | 109 => ⟨S_, .f32⟩
  | 110 => ⟨S16384x1, .f32⟩
  | 111 => ⟨S16384x1, .f32⟩
  | 112 => ⟨S_, .f32⟩
  | 113 => ⟨S16384x1, .f32⟩
  | 114 => ⟨S16384x1, .f32⟩
  | 115 => ⟨S16384x1, .f32⟩
  | 116 => ⟨S16384x1024, .f32⟩
  | 117 => ⟨S16384x1024, .f32⟩
  | 118 => ⟨S1x1024, .f32⟩
  | 119 => ⟨S16384x1024, .f32⟩
  | 120 => ⟨S16384x1024, .f32⟩
  | 121 => ⟨S1x1024x5632, .f32⟩
  | 122 => ⟨S1024x5632, .f32⟩
  | 123 => ⟨S1x3x5632, .f32⟩
  | 124 => ⟨S3x5632, .f32⟩
  | 125 => ⟨S1x5632, .f32⟩
  | 126 => ⟨S5632, .f32⟩
  | 127 => ⟨S1x2816x1024, .f32⟩
  | _ => ⟨S16384x256, .f32⟩

abbrev hbmTy0_1 (i : Nat) : BufTy := match i % 128 with
  | 0 => ⟨S2816x1024, .f32⟩
  | 1 => ⟨S16384x5632, .f32⟩
  | 2 => ⟨S2x8192x5632, .f32⟩
  | 3 => ⟨S_, .i32⟩
  | 4 => ⟨S_, .f32⟩
  | 5 => ⟨S2x8194x5632, .f32⟩
  | 6 => ⟨S1x5632, .f32⟩
  | 7 => ⟨S5632, .f32⟩
  | 8 => ⟨S2x8192x5632, .f32⟩
  | 9 => ⟨S1x1x5632, .f32⟩
  | 10 => ⟨S2x8192x5632, .f32⟩
  | 11 => ⟨S2x8192x5632, .f32⟩
  | 12 => ⟨S1x1x5632, .f32⟩
  | 13 => ⟨S2x8192x5632, .f32⟩
  | 14 => ⟨S2x8192x5632, .f32⟩
  | 15 => ⟨S1x5632, .f32⟩
  | 16 => ⟨S5632, .f32⟩
  | 17 => ⟨S2x8192x5632, .f32⟩
  | 18 => ⟨S1x1x5632, .f32⟩
  | 19 => ⟨S2x8192x5632, .f32⟩
  | 20 => ⟨S2x8192x5632, .f32⟩
  | 21 => ⟨S2x8192x5632, .f32⟩
  | 22 => ⟨S1x5632, .f32⟩
  | 23 => ⟨S5632, .f32⟩
  | 24 => ⟨S2x8192x5632, .f32⟩
  | 25 => ⟨S1x1x5632, .f32⟩
  | 26 => ⟨S2x8192x5632, .f32⟩
  | 27 => ⟨S2x8192x5632, .f32⟩
  | 28 => ⟨S2x8192x5632, .f32⟩
  | 29 => ⟨S2x8192x2816, .f32⟩
  | 30 => ⟨S2x8192x2816, .f32⟩
  | 31 => ⟨S2x8192x2816, .f32⟩
  | 32 => ⟨S2x8192x2816, .f32⟩
  | 33 => ⟨S_, .f32⟩
  | 34 => ⟨S2x8192x2816, .f32⟩
  | 35 => ⟨S2x8192x2816, .f32⟩
  | 36 => ⟨S_, .f32⟩
  | 37 => ⟨S2x8192x2816, .f32⟩
  | 38 => ⟨S2x8192x2816, .f32⟩
  | 39 => ⟨S2x8192x2816, .f32⟩
  | 40 => ⟨S2x8192x2816, .f32⟩
  | 41 => ⟨S16384x2816, .f32⟩
  | 42 => ⟨S16384x1024, .f32⟩
  | 43 => ⟨S16384x1024, .f32⟩
  | 44 => ⟨S1x1024, .f32⟩
  | 45 => ⟨S1024, .f32⟩
  | 46 => ⟨S16384x1024, .f32⟩
  | 47 => ⟨S_, .f32⟩
  | 48 => ⟨S16384, .f32⟩
  | 49 => ⟨S16384x1, .f32⟩
  | 50 => ⟨S_, .f32⟩
  | 51 => ⟨S16384x1, .f32⟩
  | 52 => ⟨S16384x1, .f32⟩
  | 53 => ⟨S_, .f32⟩
  | 54 => ⟨S16384x1, .f32⟩
  | 55 => ⟨S16384x1, .f32⟩
  | 56 => ⟨S16384x1, .f32⟩
  | 57 => ⟨S16384x1024, .f32⟩
  | 58 => ⟨S16384x1024, .f32⟩
  | 59 => ⟨S1x1024, .f32⟩
  | 60 => ⟨S16384x1024, .f32⟩
  | 61 => ⟨S16384x1024, .f32⟩
  | 62 => ⟨S1x1024x1024, .f32⟩
  | 63 => ⟨S1024x1024, .f32⟩
  | 64 => ⟨S16384x1024, .f32⟩
  | 65 => ⟨S16384x1024, .f32⟩
  | 66 => ⟨S16384x1024, .f32⟩
  | 67 => ⟨S_, .f32⟩
  | 68 => ⟨S16384x1024, .f32⟩
  | 69 => ⟨S16384x1024, .f32⟩
  | 70 => ⟨S_, .f32⟩
  | 71 => ⟨S16384x1024, .f32⟩
  | 72 => ⟨S16384x1024, .f32⟩
  | 73 => ⟨S1x2x8192x256, .f32⟩
  | 74 => ⟨S2x8192x256, .f32⟩
  | 75 => ⟨S16384x256, .f32⟩
  | 76 => ⟨S1x256x1024, .f32⟩
  | 77 => ⟨S256x1024, .f32⟩
  | 78 => ⟨S16384x1024, .f32⟩
  | 79 => ⟨S16384x1024, .f32⟩
  | 80 => ⟨S16384x1024, .f32⟩
  | 81 => ⟨S16384x1024, .f32⟩
  | 82 => ⟨S_, .f32⟩
  | 83 => ⟨S16384, .f32⟩
  | 84 => ⟨S16384x1, .f32⟩
  | 85 => ⟨S_, .f32⟩
  | 86 => ⟨S16384x1, .f32⟩
  | 87 => ⟨S16384x1, .f32⟩
  | 88 => ⟨S_, .f32⟩
  | 89 => ⟨S16384x1, .f32⟩
  | 90 => ⟨S16384x1, .f32⟩
  | 91 => ⟨S16384x1, .f32⟩
  | 92 => ⟨S16384x1024, .f32⟩
  | 93 => ⟨S16384x1024, .f32⟩
  | 94 => ⟨S1x1024, .f32⟩
  | 95 => ⟨S16384x1024, .f32⟩
  | 96 => ⟨S16384x1024, .f32⟩
  | _ => ⟨S16384x256, .f32⟩

abbrev hbmTy (i : Nat) : BufTy := match i / 128 with
  | 0 => hbmTy0_0 i
  | 1 => hbmTy0_1 i
  | _ => ⟨S16384x256, .f32⟩

abbrev bufTy : (tb : Table) → Fin (tcTables nBuf tb) → BufTy
  | .hbm, ⟨i, _⟩ => hbmTy i
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_cst : Ref sig .tc := ⟨.hbm, 22, rfl⟩
abbrev main_v4 : Ref sig .tc := ⟨.hbm, 23, rfl⟩
abbrev main_v5 : Ref sig .tc := ⟨.hbm, 24, rfl⟩
abbrev main_cst_0 : Ref sig .tc := ⟨.hbm, 25, rfl⟩
abbrev main_v6 : Ref sig .tc := ⟨.hbm, 26, rfl⟩
abbrev main_v7 : Ref sig .tc := ⟨.hbm, 27, rfl⟩
abbrev main_cst_1 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_cst_2 : Ref sig .tc := ⟨.hbm, 39, rfl⟩
abbrev main_v18 : Ref sig .tc := ⟨.hbm, 40, rfl⟩
abbrev main_v19 : Ref sig .tc := ⟨.hbm, 41, rfl⟩
abbrev main_cst_3 : Ref sig .tc := ⟨.hbm, 42, rfl⟩
abbrev main_v20 : Ref sig .tc := ⟨.hbm, 43, rfl⟩
abbrev main_v21 : Ref sig .tc := ⟨.hbm, 44, rfl⟩
abbrev main_cst_4 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_cst_5 : Ref sig .tc := ⟨.hbm, 56, rfl⟩
abbrev main_v32 : Ref sig .tc := ⟨.hbm, 57, rfl⟩
abbrev main_v33 : Ref sig .tc := ⟨.hbm, 58, rfl⟩
abbrev main_cst_6 : Ref sig .tc := ⟨.hbm, 59, rfl⟩
abbrev main_v34 : Ref sig .tc := ⟨.hbm, 60, rfl⟩
abbrev main_v35 : Ref sig .tc := ⟨.hbm, 61, rfl⟩
abbrev main_cst_7 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_cst_8 : Ref sig .tc := ⟨.hbm, 74, rfl⟩
abbrev main_v47 : Ref sig .tc := ⟨.hbm, 75, rfl⟩
abbrev main_v48 : Ref sig .tc := ⟨.hbm, 76, rfl⟩
abbrev main_cst_9 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_cst_10 : Ref sig .tc := ⟨.hbm, 83, rfl⟩
abbrev main_v54 : Ref sig .tc := ⟨.hbm, 84, rfl⟩
abbrev main_v55 : Ref sig .tc := ⟨.hbm, 85, rfl⟩
abbrev main_cst_11 : Ref sig .tc := ⟨.hbm, 86, rfl⟩
abbrev main_v56 : Ref sig .tc := ⟨.hbm, 87, rfl⟩
abbrev main_v57 : Ref sig .tc := ⟨.hbm, 88, rfl⟩
abbrev main_cst_12 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_cst_13 : Ref sig .tc := ⟨.hbm, 106, rfl⟩
abbrev main_v74 : Ref sig .tc := ⟨.hbm, 107, rfl⟩
abbrev main_v75 : Ref sig .tc := ⟨.hbm, 108, rfl⟩
abbrev main_cst_14 : Ref sig .tc := ⟨.hbm, 109, rfl⟩
abbrev main_v76 : Ref sig .tc := ⟨.hbm, 110, rfl⟩
abbrev main_v77 : Ref sig .tc := ⟨.hbm, 111, rfl⟩
abbrev main_cst_15 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_c : Ref sig .tc := ⟨.hbm, 131, rfl⟩
abbrev main_call0_v0 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_call1_v0 : Ref sig .tc := ⟨.hbm, 159, rfl⟩
abbrev main_call1_v1 : Ref sig .tc := ⟨.hbm, 160, rfl⟩
abbrev main_call1_cst : Ref sig .tc := ⟨.hbm, 161, rfl⟩
abbrev main_call1_v2 : Ref sig .tc := ⟨.hbm, 162, rfl⟩
abbrev main_call1_v3 : Ref sig .tc := ⟨.hbm, 163, rfl⟩
abbrev main_call1_cst_0 : Ref sig .tc := ⟨.hbm, 164, rfl⟩
abbrev main_call1_v4 : Ref sig .tc := ⟨.hbm, 165, rfl⟩
abbrev main_call1_v5 : Ref sig .tc := ⟨.hbm, 166, rfl⟩
abbrev main_v122 : Ref sig .tc := ⟨.hbm, 167, rfl⟩
abbrev main_v123 : Ref sig .tc := ⟨.hbm, 168, rfl⟩
abbrev main_v124 : Ref sig .tc := ⟨.hbm, 169, rfl⟩
abbrev main_v125 : Ref sig .tc := ⟨.hbm, 170, rfl⟩
abbrev main_v126 : Ref sig .tc := ⟨.hbm, 171, rfl⟩
abbrev main_v127 : Ref sig .tc := ⟨.hbm, 172, rfl⟩
abbrev main_v128 : Ref sig .tc := ⟨.hbm, 173, rfl⟩
abbrev main_v129 : Ref sig .tc := ⟨.hbm, 174, rfl⟩
abbrev main_cst_16 : Ref sig .tc := ⟨.hbm, 175, rfl⟩
abbrev main_v130 : Ref sig .tc := ⟨.hbm, 176, rfl⟩
abbrev main_v131 : Ref sig .tc := ⟨.hbm, 177, rfl⟩
abbrev main_cst_17 : Ref sig .tc := ⟨.hbm, 178, rfl⟩
abbrev main_v132 : Ref sig .tc := ⟨.hbm, 179, rfl⟩
abbrev main_v133 : Ref sig .tc := ⟨.hbm, 180, rfl⟩
abbrev main_cst_18 : Ref sig .tc := ⟨.hbm, 181, rfl⟩
abbrev main_v134 : Ref sig .tc := ⟨.hbm, 182, rfl⟩
abbrev main_v135 : Ref sig .tc := ⟨.hbm, 183, rfl⟩
abbrev main_v136 : Ref sig .tc := ⟨.hbm, 184, rfl⟩
abbrev main_v137 : Ref sig .tc := ⟨.hbm, 185, rfl⟩
abbrev main_v138 : Ref sig .tc := ⟨.hbm, 186, rfl⟩
abbrev main_v139 : Ref sig .tc := ⟨.hbm, 187, rfl⟩
abbrev main_v140 : Ref sig .tc := ⟨.hbm, 188, rfl⟩
abbrev main_v141 : Ref sig .tc := ⟨.hbm, 189, rfl⟩
abbrev main_v142 : Ref sig .tc := ⟨.hbm, 190, rfl⟩
abbrev main_v143 : Ref sig .tc := ⟨.hbm, 191, rfl⟩
abbrev main_v144 : Ref sig .tc := ⟨.hbm, 192, rfl⟩
abbrev main_v145 : Ref sig .tc := ⟨.hbm, 193, rfl⟩
abbrev main_v146 : Ref sig .tc := ⟨.hbm, 194, rfl⟩
abbrev main_cst_19 : Ref sig .tc := ⟨.hbm, 195, rfl⟩
abbrev main_v147 : Ref sig .tc := ⟨.hbm, 196, rfl⟩
abbrev main_v148 : Ref sig .tc := ⟨.hbm, 197, rfl⟩
abbrev main_cst_20 : Ref sig .tc := ⟨.hbm, 198, rfl⟩
abbrev main_v149 : Ref sig .tc := ⟨.hbm, 199, rfl⟩
abbrev main_v150 : Ref sig .tc := ⟨.hbm, 200, rfl⟩
abbrev main_v151 : Ref sig .tc := ⟨.hbm, 201, rfl⟩
abbrev main_v152 : Ref sig .tc := ⟨.hbm, 202, rfl⟩
abbrev main_v153 : Ref sig .tc := ⟨.hbm, 203, rfl⟩
abbrev main_v154 : Ref sig .tc := ⟨.hbm, 204, rfl⟩
abbrev main_v155 : Ref sig .tc := ⟨.hbm, 205, rfl⟩
abbrev main_v156 : Ref sig .tc := ⟨.hbm, 206, rfl⟩
abbrev main_v157 : Ref sig .tc := ⟨.hbm, 207, rfl⟩
abbrev main_v158 : Ref sig .tc := ⟨.hbm, 208, rfl⟩
abbrev main_v159 : Ref sig .tc := ⟨.hbm, 209, rfl⟩
abbrev main_cst_21 : Ref sig .tc := ⟨.hbm, 210, rfl⟩
abbrev main_v160 : Ref sig .tc := ⟨.hbm, 211, rfl⟩
abbrev main_v161 : Ref sig .tc := ⟨.hbm, 212, rfl⟩
abbrev main_cst_22 : Ref sig .tc := ⟨.hbm, 213, rfl⟩
abbrev main_v162 : Ref sig .tc := ⟨.hbm, 214, rfl⟩
abbrev main_v163 : Ref sig .tc := ⟨.hbm, 215, rfl⟩
abbrev main_cst_23 : Ref sig .tc := ⟨.hbm, 216, rfl⟩
abbrev main_v164 : Ref sig .tc := ⟨.hbm, 217, rfl⟩
abbrev main_v165 : Ref sig .tc := ⟨.hbm, 218, rfl⟩
abbrev main_v166 : Ref sig .tc := ⟨.hbm, 219, rfl⟩
abbrev main_v167 : Ref sig .tc := ⟨.hbm, 220, rfl⟩
abbrev main_v168 : Ref sig .tc := ⟨.hbm, 221, rfl⟩
abbrev main_v169 : Ref sig .tc := ⟨.hbm, 222, rfl⟩
abbrev main_v170 : Ref sig .tc := ⟨.hbm, 223, rfl⟩
abbrev main_v171 : Ref sig .tc := ⟨.hbm, 224, rfl⟩

abbrev nD : Nat := 1
abbrev τ : Topo := Topo.v7x

variable {F : FTy → Type} [FloatOps F]
-- ==== Kernel3.lean ====
abbrev S2x8192x4x64 : Shape := ⟨4, ![2, 8192, 4, 64]⟩
abbrev S2x4x8192 : Shape := ⟨3, ![2, 4, 8192]⟩
abbrev S_ : Shape := ⟨0, ![]⟩
abbrev S2x8192x4 : Shape := ⟨3, ![2, 8192, 4]⟩
abbrev S2x8192x4x1 : Shape := ⟨4, ![2, 8192, 4, 1]⟩
abbrev S2x8192x4x3 : Shape := ⟨4, ![2, 8192, 4, 3]⟩
abbrev S2x8192x4x70 : Shape := ⟨4, ![2, 8192, 4, 70]⟩
abbrev S2x8192x4x128 : Shape := ⟨4, ![2, 8192, 4, 128]⟩
abbrev S16384x512 : Shape := ⟨2, ![16384, 512]⟩
abbrev S16384x256 : Shape := ⟨2, ![16384, 256]⟩
abbrev S512x512 : Shape := ⟨2, ![512, 512]⟩
abbrev S8192x512 : Shape := ⟨2, ![8192, 512]⟩
abbrev S512x256 : Shape := ⟨2, ![512, 256]⟩
abbrev S4x512x128 : Shape := ⟨3, ![4, 512, 128]⟩
abbrev S512x128 : Shape := ⟨2, ![512, 128]⟩
abbrev S1536x128 : Shape := ⟨2, ![1536, 128]⟩
abbrev S512x1536 : Shape := ⟨2, ![512, 1536]⟩
abbrev S1x512x128 : Shape := ⟨3, ![1, 512, 128]⟩
abbrev S512 : Shape := ⟨1, ![512]⟩
abbrev S512x1 : Shape := ⟨2, ![512, 1]⟩
abbrev S1024x128 : Shape := ⟨2, ![1024, 128]⟩
abbrev S512x1024 : Shape := ⟨2, ![512, 1024]⟩

abbrev nBuf : Space → Nat
  | .hbm => 47
  | .vmem => 8
  | .smem => 0
  | _ => 0

abbrev bufTy : (tb : Table) → Fin (tcTables nBuf tb) → BufTy
  | .hbm, ⟨0, _⟩ => ⟨S2x8192x4x64, .f32⟩
  | .hbm, ⟨1, _⟩ => ⟨S2x8192x4x64, .f32⟩
  | .hbm, ⟨2, _⟩ => ⟨S2x8192x4x64, .f32⟩
  | .hbm, ⟨3, _⟩ => ⟨S2x4x8192, .f32⟩
  | .hbm, ⟨4, _⟩ => ⟨S_, .f32⟩
  | .hbm, ⟨5, _⟩ => ⟨S_, .f32⟩
  | .hbm, ⟨6, _⟩ => ⟨S2x8192x4, .f32⟩
  | .hbm, ⟨7, _⟩ => ⟨S2x8192x4, .f32⟩
  | .hbm, ⟨8, _⟩ => ⟨S2x8192x4, .f32⟩
  | .hbm, ⟨9, _⟩ => ⟨S2x8192x4, .bf16⟩
  | .hbm, ⟨10, _⟩ => ⟨S2x8192x4, .f32⟩
  | .hbm, ⟨11, _⟩ => ⟨S2x8192x4, .f32⟩
  | .hbm, ⟨12, _⟩ => ⟨S2x8192x4, .bf16⟩
  | .hbm, ⟨13, _⟩ => ⟨S2x8192x4, .f32⟩
  | .hbm, ⟨14, _⟩ => ⟨S2x8192x4, .f32⟩
  | .hbm, ⟨15, _⟩ => ⟨S2x8192x4, .bf16⟩
  | .hbm, ⟨16, _⟩ => ⟨S2x8192x4, .f32⟩
  | .hbm, ⟨17, _⟩ => ⟨S2x8192x4x1, .f32⟩
  | .hbm, ⟨18, _⟩ => ⟨S2x8192x4x1, .f32⟩
  | .hbm, ⟨19, _⟩ => ⟨S2x8192x4x1, .f32⟩
  | .hbm, ⟨20, _⟩ => ⟨S2x8192x4x3, .f32⟩
  | .hbm, ⟨21, _⟩ => ⟨S_, .f32⟩
  | .hbm, ⟨22, _⟩ => ⟨S2x8192x4x3, .f32⟩
  | .hbm, ⟨23, _⟩ => ⟨S_, .f32⟩
  | .hbm, ⟨24, _⟩ => ⟨S2x8192x4x64, .f32⟩
  | .hbm, ⟨25, _⟩ => ⟨S2x8192x4x64, .f32⟩
  | .hbm, ⟨26, _⟩ => ⟨S2x8192x4x64, .f32⟩
  | .hbm, ⟨27, _⟩ => ⟨S2x8192x4x64, .f32⟩
  | .hbm, ⟨28, _⟩ => ⟨S2x8192x4x70, .f32⟩
  | .hbm, ⟨29, _⟩ => ⟨S_, .f32⟩
  | .hbm, ⟨30, _⟩ => ⟨S_, .f32⟩
  | .hbm, ⟨31, _⟩ => ⟨S2x8192x4x128, .f32⟩
  | .hbm, ⟨32, _⟩ => ⟨S16384x512, .f32⟩
  | .hbm, ⟨33, _⟩ => ⟨S16384x512, .bf16⟩
  | .hbm, ⟨34, _⟩ => ⟨S2x8192x4x3, .f32⟩
  | .hbm, ⟨35, _⟩ => ⟨S2x8192x4x70, .f32⟩
  | .hbm, ⟨36, _⟩ => ⟨S_, .f32⟩
  | .hbm, ⟨37, _⟩ => ⟨S_, .f32⟩
  | .hbm, ⟨38, _⟩ => ⟨S2x8192x4x128, .f32⟩
  | .hbm, ⟨39, _⟩ => ⟨S16384x512, .f32⟩
  | .hbm, ⟨40, _⟩ => ⟨S16384x512, .bf16⟩
  | .hbm, ⟨41, _⟩ => ⟨S_, .f32⟩
  | .hbm, ⟨42, _⟩ => ⟨S_, .f32⟩
  | .hbm, ⟨43, _⟩ => ⟨S2x8192x4x128, .f32⟩
  | .hbm, ⟨44, _⟩ => ⟨S16384x512, .f32⟩
  | .hbm, ⟨45, _⟩ => ⟨S16384x512, .bf16⟩
  | .hbm, ⟨46, _⟩ => ⟨S16384x256, .f32⟩
  | .local _ .vmem, ⟨0, _⟩ => ⟨S512x512, .bf16⟩
  | .local _ .vmem, ⟨1, _⟩ => ⟨S512x512, .bf16⟩
  | .local _ .vmem, ⟨2, _⟩ => ⟨S8192x512, .bf16⟩
  | .local _ .vmem, ⟨3, _⟩ => ⟨S8192x512, .bf16⟩
  | .local _ .vmem, ⟨4, _⟩ => ⟨S512x256, .f32⟩
  | .local _ .vmem, ⟨5, _⟩ => ⟨S512x256, .f32⟩
  | .local _ .vmem, ⟨6, _⟩ => ⟨S4x512x128, .f32⟩
  | .local _ .vmem, ⟨7, _⟩ => ⟨S4x512x128, .f32⟩
  | _, _ => ⟨S2x8192x4x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_0 : Ref sig .tc := ⟨.hbm, 21, rfl⟩
abbrev main_v16 : Ref sig .tc := ⟨.hbm, 22, rfl⟩
abbrev main_cst_1 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_2 : Ref sig .tc := ⟨.hbm, 29, rfl⟩
abbrev main_call0_v0 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_3 : Ref sig .tc := ⟨.hbm, 36, rfl⟩
abbrev main_call1_v0 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_4 : Ref sig .tc := ⟨.hbm, 41, rfl⟩
abbrev main_call2_v0 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![2, 16], ![false, false]⟩

@[reducible] def k0_t1_loop (i : grid0.Coords) : Scf.Loop 32 :=
  let c0_i32_12 : BitVec 32 := 0#32
  let arg1 : BitVec 32 := BitVec.ofNat 32 (i 1).val
  let c1_i32 : BitVec 32 := 1#32
  let v8 : BitVec 32 := Scalar.muli arg1 c1_i32
  let c0_i32 : BitVec 32 := 0#32
  let v10 : BitVec 1 := Scalar.cmpi .sgt v8 c0_i32
  let v11 : BitVec 32 := Scalar.extui v10
  let c0_i32_6 : BitVec 32 := 0#32
  let v12 : BitVec 1 := Scalar.cmpi .slt v8 c0_i32_6
  let v13 : BitVec 32 := Scalar.extui v12
  let v14 : BitVec 32 := Scalar.subi v11 v13
  let c3_i32 : BitVec 32 := 3#32
  let c0_i32_7 : BitVec 32 := 0#32
  let v15 : BitVec 1 := Scalar.cmpi .sgt c3_i32 c0_i32_7
  let v16 : BitVec 32 := Scalar.extui v15
  let c0_i32_8 : BitVec 32 := 0#32
  let v17 : BitVec 1 := Scalar.cmpi .slt c3_i32 c0_i32_8
  let v18 : BitVec 32 := Scalar.extui v17
  let v19 : BitVec 32 := Scalar.subi v16 v18
  let v20 : BitVec 1 := Scalar.cmpi .ne v14 v19
  let v21 : BitVec 32 := Scalar.remsi v8 c3_i32
  let c0_i32_9 : BitVec 32 := 0#32
  let v22 : BitVec 1 := Scalar.cmpi .ne v21 c0_i32_9
  let v23 : BitVec 1 := Scalar.andi v20 v22
  let v9 : BitVec 32 := Scalar.divsi v8 c3_i32
  let c1_i32_10 : BitVec 32 := 1#32
  let v24 : BitVec 32 := Scalar.subi v9 c1_i32_10
  let v25 : BitVec 32 := Scalar.select v23 v24 v9
  let v26 : BitVec 32 := Scalar.subi v25 c0_i32_12
  let c1_i32_13 : BitVec 32 := 1#32
  let v28 : BitVec 32 := Scalar.divsi v26 c1_i32_13
  let v29 : BitVec 32 := Scalar.muli v28 c1_i32_13
  let v30 : BitVec 32 := Scalar.addi c0_i32_12 v29
  let c1_i32_14 : BitVec 32 := 1#32
  ⟨c0_i32_12, v30, c1_i32_14⟩
def k0_mult1 (i : grid0.Coords) (k0_t1 : Fin (k0_t1_loop i).trips) : BitVec 32 :=
  let c0_i32_12 : BitVec 32 := 0#32
  let c1_i32_14 : BitVec 32 := 1#32
  let arg8 : BitVec 32 := Scf.iv c0_i32_12 c1_i32_14 k0_t1
  let c1536_i32 : BitVec 32 := 1536#32
  let v224 : BitVec 32 := Scalar.muli arg8 c1536_i32
  v224
def k0_off1 (i : grid0.Coords) (k0_t1 : Fin (k0_t1_loop i).trips) : Fin 2 → Nat :=
  let c0_i32_12 : BitVec 32 := 0#32
  let c1_i32_14 : BitVec 32 := 1#32
  let arg8 : BitVec 32 := Scf.iv c0_i32_12 c1_i32_14 k0_t1
  let c1536_i32 : BitVec 32 := 1536#32
  let v224 : BitVec 32 := Scalar.muli arg8 c1536_i32
  let v225 : BitVec 32 := v224
  let v228 : Index := Scalar.indexCast v225
  let c0_123 : Index := 0#32
  ![v228.toNat, 0]
def k0_off2 (i : grid0.Coords) (k0_t1 : Fin (k0_t1_loop i).trips) : Fin 2 → Nat :=
  let c0_i32_12 : BitVec 32 := 0#32
  let c1_i32_14 : BitVec 32 := 1#32
  let arg8 : BitVec 32 := Scf.iv c0_i32_12 c1_i32_14 k0_t1
  let c1536_i32 : BitVec 32 := 1536#32
  let v224 : BitVec 32 := Scalar.muli arg8 c1536_i32
  let v225 : BitVec 32 := v224
  let v234 : Index := Scalar.indexCast v225
  let c128_127 : Index := 128#32
  ![v234.toNat, 128]
def k0_off3 (i : grid0.Coords) (k0_t1 : Fin (k0_t1_loop i).trips) : Fin 2 → Nat :=
  let c0_i32_12 : BitVec 32 := 0#32
  let c1_i32_14 : BitVec 32 := 1#32
  let arg8 : BitVec 32 := Scf.iv c0_i32_12 c1_i32_14 k0_t1
  let c1536_i32 : BitVec 32 := 1536#32
  let v224 : BitVec 32 := Scalar.muli arg8 c1536_i32
  let v225 : BitVec 32 := v224
  let v240 : Index := Scalar.indexCast v225
  let c256_131 : Index := 256#32
  ![v240.toNat, 256]
def k0_off4 (i : grid0.Coords) (k0_t1 : Fin (k0_t1_loop i).trips) : Fin 2 → Nat :=
  let c0_i32_12 : BitVec 32 := 0#32
  let c1_i32_14 : BitVec 32 := 1#32
  let arg8 : BitVec 32 := Scf.iv c0_i32_12 c1_i32_14 k0_t1
  let c1536_i32 : BitVec 32 := 1536#32
  let v224 : BitVec 32 := Scalar.muli arg8 c1536_i32
  let v225 : BitVec 32 := v224
  let v246 : Index := Scalar.indexCast v225
  let c384_135 : Index := 384#32
  ![v246.toNat, 384]
def k0_mult2 (i : grid0.Coords) (k0_t1 : Fin (k0_t1_loop i).trips) : BitVec 32 :=
  let c0_i32_12 : BitVec 32 := 0#32
  let c1_i32_14 : BitVec 32 := 1#32
  let arg8 : BitVec 32 := Scf.iv c0_i32_12 c1_i32_14 k0_t1
  let c1536_i32 : BitVec 32 := 1536#32
  let v224 : BitVec 32 := Scalar.muli arg8 c1536_i32
  v224
@[reducible] def k0_t2_loop (i : grid0.Coords) : Scf.Loop 32 :=
  let c0_i32_12 : BitVec 32 := 0#32
  let arg1 : BitVec 32 := BitVec.ofNat 32 (i 1).val
  let c1_i32 : BitVec 32 := 1#32
  let v8 : BitVec 32 := Scalar.muli arg1 c1_i32
  let c0_i32 : BitVec 32 := 0#32
  let v10 : BitVec 1 := Scalar.cmpi .sgt v8 c0_i32
  let v11 : BitVec 32 := Scalar.extui v10
  let c0_i32_6 : BitVec 32 := 0#32
  let v12 : BitVec 1 := Scalar.cmpi .slt v8 c0_i32_6
  let v13 : BitVec 32 := Scalar.extui v12
  let v14 : BitVec 32 := Scalar.subi v11 v13
  let c3_i32 : BitVec 32 := 3#32
  let c0_i32_7 : BitVec 32 := 0#32
  let v15 : BitVec 1 := Scalar.cmpi .sgt c3_i32 c0_i32_7
  let v16 : BitVec 32 := Scalar.extui v15
  let c0_i32_8 : BitVec 32 := 0#32
  let v17 : BitVec 1 := Scalar.cmpi .slt c3_i32 c0_i32_8
  let v18 : BitVec 32 := Scalar.extui v17
  let v19 : BitVec 32 := Scalar.subi v16 v18
  let v20 : BitVec 1 := Scalar.cmpi .ne v14 v19
  let v21 : BitVec 32 := Scalar.remsi v8 c3_i32
  let c0_i32_9 : BitVec 32 := 0#32
  let v22 : BitVec 1 := Scalar.cmpi .ne v21 c0_i32_9
  let v23 : BitVec 1 := Scalar.andi v20 v22
  let v9 : BitVec 32 := Scalar.divsi v8 c3_i32
  let c1_i32_10 : BitVec 32 := 1#32
  let v24 : BitVec 32 := Scalar.subi v9 c1_i32_10
  let v25 : BitVec 32 := Scalar.select v23 v24 v9
  let v26 : BitVec 32 := Scalar.subi v25 c0_i32_12
  let c1_i32_13 : BitVec 32 := 1#32
  let v28 : BitVec 32 := Scalar.divsi v26 c1_i32_13
  let v29 : BitVec 32 := Scalar.muli v28 c1_i32_13
  let v30 : BitVec 32 := Scalar.addi c0_i32_12 v29
  let v27 : BitVec 32 := Scalar.addi c0_i32_12 v26
  let c1_i32_15 : BitVec 32 := 1#32
  ⟨v30, v27, c1_i32_15⟩
def k0_mult3 (i : grid0.Coords) (k0_t2 : Fin (k0_t2_loop i).trips) : BitVec 32 :=
  let c0_i32_12 : BitVec 32 := 0#32
  let arg1 : BitVec 32 := BitVec.ofNat 32 (i 1).val
  let c1_i32 : BitVec 32 := 1#32
  let v8 : BitVec 32 := Scalar.muli arg1 c1_i32
  let c0_i32 : BitVec 32 := 0#32
  let v10 : BitVec 1 := Scalar.cmpi .sgt v8 c0_i32
  let v11 : BitVec 32 := Scalar.extui v10
  let c0_i32_6 : BitVec 32 := 0#32
  let v12 : BitVec 1 := Scalar.cmpi .slt v8 c0_i32_6
  let v13 : BitVec 32 := Scalar.extui v12
  let v14 : BitVec 32 := Scalar.subi v11 v13
  let c3_i32 : BitVec 32 := 3#32
  let c0_i32_7 : BitVec 32 := 0#32
  let v15 : BitVec 1 := Scalar.cmpi .sgt c3_i32 c0_i32_7
  let v16 : BitVec 32 := Scalar.extui v15
  let c0_i32_8 : BitVec 32 := 0#32
  let v17 : BitVec 1 := Scalar.cmpi .slt c3_i32 c0_i32_8
  let v18 : BitVec 32 := Scalar.extui v17
  let v19 : BitVec 32 := Scalar.subi v16 v18
  let v20 : BitVec 1 := Scalar.cmpi .ne v14 v19
  let v21 : BitVec 32 := Scalar.remsi v8 c3_i32
  let c0_i32_9 : BitVec 32 := 0#32
  let v22 : BitVec 1 := Scalar.cmpi .ne v21 c0_i32_9
  let v23 : BitVec 1 := Scalar.andi v20 v22
  let v9 : BitVec 32 := Scalar.divsi v8 c3_i32
  let c1_i32_10 : BitVec 32 := 1#32
  let v24 : BitVec 32 := Scalar.subi v9 c1_i32_10
  let v25 : BitVec 32 := Scalar.select v23 v24 v9
  let v26 : BitVec 32 := Scalar.subi v25 c0_i32_12
  let c1_i32_13 : BitVec 32 := 1#32
  let v28 : BitVec 32 := Scalar.divsi v26 c1_i32_13
  let v29 : BitVec 32 := Scalar.muli v28 c1_i32_13
  let v30 : BitVec 32 := Scalar.addi c0_i32_12 v29
  let c1_i32_15 : BitVec 32 := 1#32
  let arg8 : BitVec 32 := Scf.iv v30 c1_i32_15 k0_t2
  let c1536_i32 : BitVec 32 := 1536#32
  let v224 : BitVec 32 := Scalar.muli arg8 c1536_i32
  v224
def k0_off5 (i : grid0.Coords) (k0_t2 : Fin (k0_t2_loop i).trips) : Fin 2 → Nat :=
  let c0_i32_12 : BitVec 32 := 0#32
  let arg1 : BitVec 32 := BitVec.ofNat 32 (i 1).val
  let c1_i32 : BitVec 32 := 1#32
  let v8 : BitVec 32 := Scalar.muli arg1 c1_i32
  let c0_i32 : BitVec 32 := 0#32
  let v10 : BitVec 1 := Scalar.cmpi .sgt v8 c0_i32
  let v11 : BitVec 32 := Scalar.extui v10
  let c0_i32_6 : BitVec 32 := 0#32
  let v12 : BitVec 1 := Scalar.cmpi .slt v8 c0_i32_6
  let v13 : BitVec 32 := Scalar.extui v12
  let v14 : BitVec 32 := Scalar.subi v11 v13
  let c3_i32 : BitVec 32 := 3#32
  let c0_i32_7 : BitVec 32 := 0#32
  let v15 : BitVec 1 := Scalar.cmpi .sgt c3_i32 c0_i32_7
  let v16 : BitVec 32 := Scalar.extui v15
  let c0_i32_8 : BitVec 32 := 0#32
  let v17 : BitVec 1 := Scalar.cmpi .slt c3_i32 c0_i32_8
  let v18 : BitVec 32 := Scalar.extui v17
  let v19 : BitVec 32 := Scalar.subi v16 v18
  let v20 : BitVec 1 := Scalar.cmpi .ne v14 v19
  let v21 : BitVec 32 := Scalar.remsi v8 c3_i32
  let c0_i32_9 : BitVec 32 := 0#32
  let v22 : BitVec 1 := Scalar.cmpi .ne v21 c0_i32_9
  let v23 : BitVec 1 := Scalar.andi v20 v22
  let v9 : BitVec 32 := Scalar.divsi v8 c3_i32
  let c1_i32_10 : BitVec 32 := 1#32
  let v24 : BitVec 32 := Scalar.subi v9 c1_i32_10
  let v25 : BitVec 32 := Scalar.select v23 v24 v9
  let v26 : BitVec 32 := Scalar.subi v25 c0_i32_12
  let c1_i32_13 : BitVec 32 := 1#32
  let v28 : BitVec 32 := Scalar.divsi v26 c1_i32_13
  let v29 : BitVec 32 := Scalar.muli v28 c1_i32_13
  let v30 : BitVec 32 := Scalar.addi c0_i32_12 v29
  let c1_i32_15 : BitVec 32 := 1#32
  let arg8 : BitVec 32 := Scf.iv v30 c1_i32_15 k0_t2
  let c1536_i32 : BitVec 32 := 1536#32
  let v224 : BitVec 32 := Scalar.muli arg8 c1536_i32
  let v225 : BitVec 32 := v224
  let v228 : Index := Scalar.indexCast v225
  let c0_123 : Index := 0#32
  ![v228.toNat, 0]
def k0_off6 (i : grid0.Coords) (k0_t2 : Fin (k0_t2_loop i).trips) : Fin 2 → Nat :=
  let c0_i32_12 : BitVec 32 := 0#32
  let arg1 : BitVec 32 := BitVec.ofNat 32 (i 1).val
  let c1_i32 : BitVec 32 := 1#32
  let v8 : BitVec 32 := Scalar.muli arg1 c1_i32
  let c0_i32 : BitVec 32 := 0#32
  let v10 : BitVec 1 := Scalar.cmpi .sgt v8 c0_i32
  let v11 : BitVec 32 := Scalar.extui v10
  let c0_i32_6 : BitVec 32 := 0#32
  let v12 : BitVec 1 := Scalar.cmpi .slt v8 c0_i32_6
  let v13 : BitVec 32 := Scalar.extui v12
  let v14 : BitVec 32 := Scalar.subi v11 v13
  let c3_i32 : BitVec 32 := 3#32
  let c0_i32_7 : BitVec 32 := 0#32
  let v15 : BitVec 1 := Scalar.cmpi .sgt c3_i32 c0_i32_7
  let v16 : BitVec 32 := Scalar.extui v15
  let c0_i32_8 : BitVec 32 := 0#32
  let v17 : BitVec 1 := Scalar.cmpi .slt c3_i32 c0_i32_8
  let v18 : BitVec 32 := Scalar.extui v17
  let v19 : BitVec 32 := Scalar.subi v16 v18
  let v20 : BitVec 1 := Scalar.cmpi .ne v14 v19
  let v21 : BitVec 32 := Scalar.remsi v8 c3_i32
  let c0_i32_9 : BitVec 32 := 0#32
  let v22 : BitVec 1 := Scalar.cmpi .ne v21 c0_i32_9
  let v23 : BitVec 1 := Scalar.andi v20 v22
  let v9 : BitVec 32 := Scalar.divsi v8 c3_i32
  let c1_i32_10 : BitVec 32 := 1#32
  let v24 : BitVec 32 := Scalar.subi v9 c1_i32_10
  let v25 : BitVec 32 := Scalar.select v23 v24 v9
  let v26 : BitVec 32 := Scalar.subi v25 c0_i32_12
  let c1_i32_13 : BitVec 32 := 1#32
  let v28 : BitVec 32 := Scalar.divsi v26 c1_i32_13
  let v29 : BitVec 32 := Scalar.muli v28 c1_i32_13
  let v30 : BitVec 32 := Scalar.addi c0_i32_12 v29
  let c1_i32_15 : BitVec 32 := 1#32
  let arg8 : BitVec 32 := Scf.iv v30 c1_i32_15 k0_t2
  let c1536_i32 : BitVec 32 := 1536#32
  let v224 : BitVec 32 := Scalar.muli arg8 c1536_i32
  let v225 : BitVec 32 := v224
  let v234 : Index := Scalar.indexCast v225
  let c128_127 : Index := 128#32
  ![v234.toNat, 128]
def k0_off7 (i : grid0.Coords) (k0_t2 : Fin (k0_t2_loop i).trips) : Fin 2 → Nat :=
  let c0_i32_12 : BitVec 32 := 0#32
  let arg1 : BitVec 32 := BitVec.ofNat 32 (i 1).val
  let c1_i32 : BitVec 32 := 1#32
  let v8 : BitVec 32 := Scalar.muli arg1 c1_i32
  let c0_i32 : BitVec 32 := 0#32
  let v10 : BitVec 1 := Scalar.cmpi .sgt v8 c0_i32
  let v11 : BitVec 32 := Scalar.extui v10
  let c0_i32_6 : BitVec 32 := 0#32
  let v12 : BitVec 1 := Scalar.cmpi .slt v8 c0_i32_6
  let v13 : BitVec 32 := Scalar.extui v12
  let v14 : BitVec 32 := Scalar.subi v11 v13
  let c3_i32 : BitVec 32 := 3#32
  let c0_i32_7 : BitVec 32 := 0#32
  let v15 : BitVec 1 := Scalar.cmpi .sgt c3_i32 c0_i32_7
  let v16 : BitVec 32 := Scalar.extui v15
  let c0_i32_8 : BitVec 32 := 0#32
  let v17 : BitVec 1 := Scalar.cmpi .slt c3_i32 c0_i32_8
  let v18 : BitVec 32 := Scalar.extui v17
  let v19 : BitVec 32 := Scalar.subi v16 v18
  let v20 : BitVec 1 := Scalar.cmpi .ne v14 v19
  let v21 : BitVec 32 := Scalar.remsi v8 c3_i32
  let c0_i32_9 : BitVec 32 := 0#32
  let v22 : BitVec 1 := Scalar.cmpi .ne v21 c0_i32_9
  let v23 : BitVec 1 := Scalar.andi v20 v22
  let v9 : BitVec 32 := Scalar.divsi v8 c3_i32
  let c1_i32_10 : BitVec 32 := 1#32
  let v24 : BitVec 32 := Scalar.subi v9 c1_i32_10
  let v25 : BitVec 32 := Scalar.select v23 v24 v9
  let v26 : BitVec 32 := Scalar.subi v25 c0_i32_12
  let c1_i32_13 : BitVec 32 := 1#32
  let v28 : BitVec 32 := Scalar.divsi v26 c1_i32_13
  let v29 : BitVec 32 := Scalar.muli v28 c1_i32_13
  let v30 : BitVec 32 := Scalar.addi c0_i32_12 v29
  let c1_i32_15 : BitVec 32 := 1#32
  let arg8 : BitVec 32 := Scf.iv v30 c1_i32_15 k0_t2
  let c1536_i32 : BitVec 32 := 1536#32
  let v224 : BitVec 32 := Scalar.muli arg8 c1536_i32
  let v225 : BitVec 32 := v224
  let v240 : Index := Scalar.indexCast v225
  let c256_131 : Index := 256#32
  ![v240.toNat, 256]
def k0_off8 (i : grid0.Coords) (k0_t2 : Fin (k0_t2_loop i).trips) : Fin 2 → Nat :=
  let c0_i32_12 : BitVec 32 := 0#32
  let arg1 : BitVec 32 := BitVec.ofNat 32 (i 1).val
  let c1_i32 : BitVec 32 := 1#32
  let v8 : BitVec 32 := Scalar.muli arg1 c1_i32
  let c0_i32 : BitVec 32 := 0#32
  let v10 : BitVec 1 := Scalar.cmpi .sgt v8 c0_i32
  let v11 : BitVec 32 := Scalar.extui v10
  let c0_i32_6 : BitVec 32 := 0#32
  let v12 : BitVec 1 := Scalar.cmpi .slt v8 c0_i32_6
  let v13 : BitVec 32 := Scalar.extui v12
  let v14 : BitVec 32 := Scalar.subi v11 v13
  let c3_i32 : BitVec 32 := 3#32
  let c0_i32_7 : BitVec 32 := 0#32
  let v15 : BitVec 1 := Scalar.cmpi .sgt c3_i32 c0_i32_7
  let v16 : BitVec 32 := Scalar.extui v15
  let c0_i32_8 : BitVec 32 := 0#32
  let v17 : BitVec 1 := Scalar.cmpi .slt c3_i32 c0_i32_8
  let v18 : BitVec 32 := Scalar.extui v17
  let v19 : BitVec 32 := Scalar.subi v16 v18
  let v20 : BitVec 1 := Scalar.cmpi .ne v14 v19
  let v21 : BitVec 32 := Scalar.remsi v8 c3_i32
  let c0_i32_9 : BitVec 32 := 0#32
  let v22 : BitVec 1 := Scalar.cmpi .ne v21 c0_i32_9
  let v23 : BitVec 1 := Scalar.andi v20 v22
  let v9 : BitVec 32 := Scalar.divsi v8 c3_i32
  let c1_i32_10 : BitVec 32 := 1#32
  let v24 : BitVec 32 := Scalar.subi v9 c1_i32_10
  let v25 : BitVec 32 := Scalar.select v23 v24 v9
  let v26 : BitVec 32 := Scalar.subi v25 c0_i32_12
  let c1_i32_13 : BitVec 32 := 1#32
  let v28 : BitVec 32 := Scalar.divsi v26 c1_i32_13
  let v29 : BitVec 32 := Scalar.muli v28 c1_i32_13
  let v30 : BitVec 32 := Scalar.addi c0_i32_12 v29
  let c1_i32_15 : BitVec 32 := 1#32
  let arg8 : BitVec 32 := Scf.iv v30 c1_i32_15 k0_t2
  let c1536_i32 : BitVec 32 := 1536#32
  let v224 : BitVec 32 := Scalar.muli arg8 c1536_i32
  let v225 : BitVec 32 := v224
  let v246 : Index := Scalar.indexCast v225
  let c384_135 : Index := 384#32
  ![v246.toNat, 384]
def k0_mult4 (i : grid0.Coords) (k0_t2 : Fin (k0_t2_loop i).trips) : BitVec 32 :=
  let c0_i32_12 : BitVec 32 := 0#32
  let arg1 : BitVec 32 := BitVec.ofNat 32 (i 1).val
  let c1_i32 : BitVec 32 := 1#32
  let v8 : BitVec 32 := Scalar.muli arg1 c1_i32
  let c0_i32 : BitVec 32 := 0#32
  let v10 : BitVec 1 := Scalar.cmpi .sgt v8 c0_i32
  let v11 : BitVec 32 := Scalar.extui v10
  let c0_i32_6 : BitVec 32 := 0#32
  let v12 : BitVec 1 := Scalar.cmpi .slt v8 c0_i32_6
  let v13 : BitVec 32 := Scalar.extui v12
  let v14 : BitVec 32 := Scalar.subi v11 v13
  let c3_i32 : BitVec 32 := 3#32
  let c0_i32_7 : BitVec 32 := 0#32
  let v15 : BitVec 1 := Scalar.cmpi .sgt c3_i32 c0_i32_7
  let v16 : BitVec 32 := Scalar.extui v15
  let c0_i32_8 : BitVec 32 := 0#32
  let v17 : BitVec 1 := Scalar.cmpi .slt c3_i32 c0_i32_8
  let v18 : BitVec 32 := Scalar.extui v17
  let v19 : BitVec 32 := Scalar.subi v16 v18
  let v20 : BitVec 1 := Scalar.cmpi .ne v14 v19
  let v21 : BitVec 32 := Scalar.remsi v8 c3_i32
  let c0_i32_9 : BitVec 32 := 0#32
  let v22 : BitVec 1 := Scalar.cmpi .ne v21 c0_i32_9
  let v23 : BitVec 1 := Scalar.andi v20 v22
  let v9 : BitVec 32 := Scalar.divsi v8 c3_i32
  let c1_i32_10 : BitVec 32 := 1#32
  let v24 : BitVec 32 := Scalar.subi v9 c1_i32_10
  let v25 : BitVec 32 := Scalar.select v23 v24 v9
  let v26 : BitVec 32 := Scalar.subi v25 c0_i32_12
  let c1_i32_13 : BitVec 32 := 1#32
  let v28 : BitVec 32 := Scalar.divsi v26 c1_i32_13
  let v29 : BitVec 32 := Scalar.muli v28 c1_i32_13
  let v30 : BitVec 32 := Scalar.addi c0_i32_12 v29
  let c1_i32_15 : BitVec 32 := 1#32
  let arg8 : BitVec 32 := Scf.iv v30 c1_i32_15 k0_t2
  let c1536_i32 : BitVec 32 := 1536#32
  let v224 : BitVec 32 := Scalar.muli arg8 c1536_i32
  v224
def k0_cond1 (i : grid0.Coords) : BitVec 1 :=
  let arg1 : BitVec 32 := BitVec.ofNat 32 (i 1).val
  let c1_i32 : BitVec 32 := 1#32
  let v8 : BitVec 32 := Scalar.muli arg1 c1_i32
  let c3_i32_16 : BitVec 32 := 3#32
  let c0_i32 : BitVec 32 := 0#32
  let v10 : BitVec 1 := Scalar.cmpi .sgt v8 c0_i32
  let v11 : BitVec 32 := Scalar.extui v10
  let c0_i32_6 : BitVec 32 := 0#32
  let v12 : BitVec 1 := Scalar.cmpi .slt v8 c0_i32_6
  let v13 : BitVec 32 := Scalar.extui v12
  let v14 : BitVec 32 := Scalar.subi v11 v13
  let c3_i32 : BitVec 32 := 3#32
  let c0_i32_7 : BitVec 32 := 0#32
  let v15 : BitVec 1 := Scalar.cmpi .sgt c3_i32 c0_i32_7
  let v16 : BitVec 32 := Scalar.extui v15
  let c0_i32_8 : BitVec 32 := 0#32
  let v17 : BitVec 1 := Scalar.cmpi .slt c3_i32 c0_i32_8
  let v18 : BitVec 32 := Scalar.extui v17
  let v19 : BitVec 32 := Scalar.subi v16 v18
  let v20 : BitVec 1 := Scalar.cmpi .ne v14 v19
  let v21 : BitVec 32 := Scalar.remsi v8 c3_i32
  let c0_i32_9 : BitVec 32 := 0#32
  let v22 : BitVec 1 := Scalar.cmpi .ne v21 c0_i32_9
  let v23 : BitVec 1 := Scalar.andi v20 v22
  let v9 : BitVec 32 := Scalar.divsi v8 c3_i32
  let c1_i32_10 : BitVec 32 := 1#32
  let v24 : BitVec 32 := Scalar.subi v9 c1_i32_10
  let v25 : BitVec 32 := Scalar.select v23 v24 v9
  let v31 : BitVec 32 := Scalar.muli c3_i32_16 v25
  let v32 : BitVec 32 := Scalar.subi v8 v31
  let c2_i32 : BitVec 32 := 2#32
  let v33 : BitVec 1 := Scalar.cmpi .eq v32 c2_i32
  let v34 : BitVec 32 := Scalar.extui v33
  let c0_i32_17 : BitVec 32 := 0#32
  let v35 : BitVec 1 := Scalar.cmpi .ne v34 c0_i32_17
  v35

def k0_mult5 (i : grid0.Coords) : BitVec 32 :=
  let arg1 : BitVec 32 := BitVec.ofNat 32 (i 1).val
  let c1_i32 : BitVec 32 := 1#32
  let v8 : BitVec 32 := Scalar.muli arg1 c1_i32
  let c2_i32_121 : BitVec 32 := 2#32
  let v224 : BitVec 32 := Scalar.subi v8 c2_i32_121
  let c512_i32_122 : BitVec 32 := 512#32
  let v225 : BitVec 32 := Scalar.muli v224 c512_i32_122
  v225
def k0_off9 (i : grid0.Coords) : Fin 2 → Nat :=
  let arg1 : BitVec 32 := BitVec.ofNat 32 (i 1).val
  let c1_i32 : BitVec 32 := 1#32
  let v8 : BitVec 32 := Scalar.muli arg1 c1_i32
  let c2_i32_121 : BitVec 32 := 2#32
  let v224 : BitVec 32 := Scalar.subi v8 c2_i32_121
  let c512_i32_122 : BitVec 32 := 512#32
  let v225 : BitVec 32 := Scalar.muli v224 c512_i32_122
  let v226 : BitVec 32 := v225
  let v229 : Index := Scalar.indexCast v226
  let c0_125 : Index := 0#32
  ![v229.toNat, 0]
def k0_off10 (i : grid0.Coords) : Fin 2 → Nat :=
  let arg1 : BitVec 32 := BitVec.ofNat 32 (i 1).val
  let c1_i32 : BitVec 32 := 1#32
  let v8 : BitVec 32 := Scalar.muli arg1 c1_i32
  let c2_i32_121 : BitVec 32 := 2#32
  let v224 : BitVec 32 := Scalar.subi v8 c2_i32_121
  let c512_i32_122 : BitVec 32 := 512#32
  let v225 : BitVec 32 := Scalar.muli v224 c512_i32_122
  let v226 : BitVec 32 := v225
  let v235 : Index := Scalar.indexCast v226
  let c128_129 : Index := 128#32
  ![v235.toNat, 128]
def k0_off11 (i : grid0.Coords) : Fin 2 → Nat :=
  let arg1 : BitVec 32 := BitVec.ofNat 32 (i 1).val
  let c1_i32 : BitVec 32 := 1#32
  let v8 : BitVec 32 := Scalar.muli arg1 c1_i32
  let c2_i32_121 : BitVec 32 := 2#32
  let v224 : BitVec 32 := Scalar.subi v8 c2_i32_121
  let c512_i32_122 : BitVec 32 := 512#32
  let v225 : BitVec 32 := Scalar.muli v224 c512_i32_122
  let v226 : BitVec 32 := v225
  let v241 : Index := Scalar.indexCast v226
  let c256_133 : Index := 256#32
  ![v241.toNat, 256]
def k0_off12 (i : grid0.Coords) : Fin 2 → Nat :=
  let arg1 : BitVec 32 := BitVec.ofNat 32 (i 1).val
  let c1_i32 : BitVec 32 := 1#32
  let v8 : BitVec 32 := Scalar.muli arg1 c1_i32
  let c2_i32_121 : BitVec 32 := 2#32
  let v224 : BitVec 32 := Scalar.subi v8 c2_i32_121
  let c512_i32_122 : BitVec 32 := 512#32
  let v225 : BitVec 32 := Scalar.muli v224 c512_i32_122
  let v226 : BitVec 32 := v225
  let v247 : Index := Scalar.indexCast v226
  let c384_137 : Index := 384#32
  ![v247.toNat, 384]
def k0_mult6 (i : grid0.Coords) : BitVec 32 :=
  let arg1 : BitVec 32 := BitVec.ofNat 32 (i 1).val
  let c1_i32 : BitVec 32 := 1#32
  let v8 : BitVec 32 := Scalar.muli arg1 c1_i32
  let c2_i32_121 : BitVec 32 := 2#32
  let v224 : BitVec 32 := Scalar.subi v8 c2_i32_121
  let c512_i32_122 : BitVec 32 := 512#32
  let v225 : BitVec 32 := Scalar.muli v224 c512_i32_122
  v225
def k0_cond2 (i : grid0.Coords) : BitVec 1 :=
  let arg1 : BitVec 32 := BitVec.ofNat 32 (i 1).val
  let c1_i32 : BitVec 32 := 1#32
  let v8 : BitVec 32 := Scalar.muli arg1 c1_i32
  let c3_i32_16 : BitVec 32 := 3#32
  let c0_i32 : BitVec 32 := 0#32
  let v10 : BitVec 1 := Scalar.cmpi .sgt v8 c0_i32
  let v11 : BitVec 32 := Scalar.extui v10
  let c0_i32_6 : BitVec 32 := 0#32
  let v12 : BitVec 1 := Scalar.cmpi .slt v8 c0_i32_6
  let v13 : BitVec 32 := Scalar.extui v12
  let v14 : BitVec 32 := Scalar.subi v11 v13
  let c3_i32 : BitVec 32 := 3#32
  let c0_i32_7 : BitVec 32 := 0#32
  let v15 : BitVec 1 := Scalar.cmpi .sgt c3_i32 c0_i32_7
  let v16 : BitVec 32 := Scalar.extui v15
  let c0_i32_8 : BitVec 32 := 0#32
  let v17 : BitVec 1 := Scalar.cmpi .slt c3_i32 c0_i32_8
  let v18 : BitVec 32 := Scalar.extui v17
  let v19 : BitVec 32 := Scalar.subi v16 v18
  let v20 : BitVec 1 := Scalar.cmpi .ne v14 v19
  let v21 : BitVec 32 := Scalar.remsi v8 c3_i32
  let c0_i32_9 : BitVec 32 := 0#32
  let v22 : BitVec 1 := Scalar.cmpi .ne v21 c0_i32_9
  let v23 : BitVec 1 := Scalar.andi v20 v22
  let v9 : BitVec 32 := Scalar.divsi v8 c3_i32
  let c1_i32_10 : BitVec 32 := 1#32
  let v24 : BitVec 32 := Scalar.subi v9 c1_i32_10
  let v25 : BitVec 32 := Scalar.select v23 v24 v9
  let v31 : BitVec 32 := Scalar.muli c3_i32_16 v25
  let v32 : BitVec 32 := Scalar.subi v8 v31
  let c1_i32_18 : BitVec 32 := 1#32
  let v36 : BitVec 1 := Scalar.cmpi .eq v32 c1_i32_18
  let v37 : BitVec 32 := Scalar.extui v36
  let c0_i32_19 : BitVec 32 := 0#32
  let v38 : BitVec 1 := Scalar.cmpi .ne v37 c0_i32_19
  v38

def k0_mult7 (i : grid0.Coords) : BitVec 32 :=
  let arg1 : BitVec 32 := BitVec.ofNat 32 (i 1).val
  let c1_i32 : BitVec 32 := 1#32
  let v8 : BitVec 32 := Scalar.muli arg1 c1_i32
  let c1_i32_121 : BitVec 32 := 1#32
  let v224 : BitVec 32 := Scalar.subi v8 c1_i32_121
  let c512_i32_122 : BitVec 32 := 512#32
  let v225 : BitVec 32 := Scalar.muli v224 c512_i32_122
  v225
def k0_off13 (i : grid0.Coords) : Fin 2 → Nat :=
  let arg1 : BitVec 32 := BitVec.ofNat 32 (i 1).val
  let c1_i32 : BitVec 32 := 1#32
  let v8 : BitVec 32 := Scalar.muli arg1 c1_i32
  let c1_i32_121 : BitVec 32 := 1#32
  let v224 : BitVec 32 := Scalar.subi v8 c1_i32_121
  let c512_i32_122 : BitVec 32 := 512#32
  let v225 : BitVec 32 := Scalar.muli v224 c512_i32_122
  let v226 : BitVec 32 := v225
  let v229 : Index := Scalar.indexCast v226
  let c0_125 : Index := 0#32
  ![v229.toNat, 0]
def k0_off14 (i : grid0.Coords) : Fin 2 → Nat :=
  let arg1 : BitVec 32 := BitVec.ofNat 32 (i 1).val
  let c1_i32 : BitVec 32 := 1#32
  let v8 : BitVec 32 := Scalar.muli arg1 c1_i32
  let c1_i32_121 : BitVec 32 := 1#32
  let v224 : BitVec 32 := Scalar.subi v8 c1_i32_121
  let c512_i32_122 : BitVec 32 := 512#32
  let v225 : BitVec 32 := Scalar.muli v224 c512_i32_122
  let v226 : BitVec 32 := v225
  let v235 : Index := Scalar.indexCast v226
  let c128_129 : Index := 128#32
  ![v235.toNat, 128]
def k0_off15 (i : grid0.Coords) : Fin 2 → Nat :=
  let arg1 : BitVec 32 := BitVec.ofNat 32 (i 1).val
  let c1_i32 : BitVec 32 := 1#32
  let v8 : BitVec 32 := Scalar.muli arg1 c1_i32
  let c1_i32_121 : BitVec 32 := 1#32
  let v224 : BitVec 32 := Scalar.subi v8 c1_i32_121
  let c512_i32_122 : BitVec 32 := 512#32
  let v225 : BitVec 32 := Scalar.muli v224 c512_i32_122
  let v226 : BitVec 32 := v225
  let v241 : Index := Scalar.indexCast v226
  let c256_133 : Index := 256#32
  ![v241.toNat, 256]
def k0_off16 (i : grid0.Coords) : Fin 2 → Nat :=
  let arg1 : BitVec 32 := BitVec.ofNat 32 (i 1).val
  let c1_i32 : BitVec 32 := 1#32
  let v8 : BitVec 32 := Scalar.muli arg1 c1_i32
  let c1_i32_121 : BitVec 32 := 1#32
  let v224 : BitVec 32 := Scalar.subi v8 c1_i32_121
  let c512_i32_122 : BitVec 32 := 512#32
  let v225 : BitVec 32 := Scalar.muli v224 c512_i32_122
  let v226 : BitVec 32 := v225
  let v247 : Index := Scalar.indexCast v226
  let c384_137 : Index := 384#32
  ![v247.toNat, 384]
def k0_mult8 (i : grid0.Coords) : BitVec 32 :=
  let arg1 : BitVec 32 := BitVec.ofNat 32 (i 1).val
  let c1_i32 : BitVec 32 := 1#32
  let v8 : BitVec 32 := Scalar.muli arg1 c1_i32
  let c1_i32_121 : BitVec 32 := 1#32
  let v224 : BitVec 32 := Scalar.subi v8 c1_i32_121
  let c512_i32_122 : BitVec 32 := 512#32
  let v225 : BitVec 32 := Scalar.muli v224 c512_i32_122
  v225
def k0_mult9 (i : grid0.Coords) : BitVec 32 :=
  let arg1 : BitVec 32 := BitVec.ofNat 32 (i 1).val
  let c1_i32 : BitVec 32 := 1#32
  let v8 : BitVec 32 := Scalar.muli arg1 c1_i32
  let c0_i32_20 : BitVec 32 := 0#32
  let v39 : BitVec 32 := Scalar.addi v8 c0_i32_20
  let c512_i32 : BitVec 32 := 512#32
  let v40 : BitVec 32 := Scalar.muli v39 c512_i32
  v40
def k0_off17 (i : grid0.Coords) : Fin 2 → Nat :=
  let arg1 : BitVec 32 := BitVec.ofNat 32 (i 1).val
  let c1_i32 : BitVec 32 := 1#32
  let v8 : BitVec 32 := Scalar.muli arg1 c1_i32
  let c0_i32_20 : BitVec 32 := 0#32
  let v39 : BitVec 32 := Scalar.addi v8 c0_i32_20
  let c512_i32 : BitVec 32 := 512#32
  let v40 : BitVec 32 := Scalar.muli v39 c512_i32
  let v41 : BitVec 32 := v40
  let v44 : Index := Scalar.indexCast v41
  let c0_23 : Index := 0#32
  ![v44.toNat, 0]
def k0_off18 (i : grid0.Coords) : Fin 2 → Nat :=
  let arg1 : BitVec 32 := BitVec.ofNat 32 (i 1).val
  let c1_i32 : BitVec 32 := 1#32
  let v8 : BitVec 32 := Scalar.muli arg1 c1_i32
  let c0_i32_20 : BitVec 32 := 0#32
  let v39 : BitVec 32 := Scalar.addi v8 c0_i32_20
  let c512_i32 : BitVec 32 := 512#32
  let v40 : BitVec 32 := Scalar.muli v39 c512_i32
  let v41 : BitVec 32 := v40
  let v50 : Index := Scalar.indexCast v41
  let c128_26 : Index := 128#32
  ![v50.toNat, 128]
def k0_off19 (i : grid0.Coords) : Fin 2 → Nat :=
  let arg1 : BitVec 32 := BitVec.ofNat 32 (i 1).val
  let c1_i32 : BitVec 32 := 1#32
  let v8 : BitVec 32 := Scalar.muli arg1 c1_i32
  let c0_i32_20 : BitVec 32 := 0#32
  let v39 : BitVec 32 := Scalar.addi v8 c0_i32_20
  let c512_i32 : BitVec 32 := 512#32
  let v40 : BitVec 32 := Scalar.muli v39 c512_i32
  let v41 : BitVec 32 := v40
  let v56 : Index := Scalar.indexCast v41
  let c256_29 : Index := 256#32
  ![v56.toNat, 256]
def k0_off20 (i : grid0.Coords) : Fin 2 → Nat :=
  let arg1 : BitVec 32 := BitVec.ofNat 32 (i 1).val
  let c1_i32 : BitVec 32 := 1#32
  let v8 : BitVec 32 := Scalar.muli arg1 c1_i32
  let c0_i32_20 : BitVec 32 := 0#32
  let v39 : BitVec 32 := Scalar.addi v8 c0_i32_20
  let c512_i32 : BitVec 32 := 512#32
  let v40 : BitVec 32 := Scalar.muli v39 c512_i32
  let v41 : BitVec 32 := v40
  let v62 : Index := Scalar.indexCast v41
  let c384_32 : Index := 384#32
  ![v62.toNat, 384]
def k0_mult10 (i : grid0.Coords) : BitVec 32 :=
  let arg1 : BitVec 32 := BitVec.ofNat 32 (i 1).val
  let c1_i32 : BitVec 32 := 1#32
  let v8 : BitVec 32 := Scalar.muli arg1 c1_i32
  let c0_i32_20 : BitVec 32 := 0#32
  let v39 : BitVec 32 := Scalar.addi v8 c0_i32_20
  let c512_i32 : BitVec 32 := 512#32
  let v40 : BitVec 32 := Scalar.muli v39 c512_i32
  v40
def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S8192x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S8192x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Kernel3Ideal.lean ====
variable {F : FTy → Type} [FloatOps F] [Named F]
def κ : String → Option EReal := fun
  | "mask" => some ⊥
  | _ => none
-- ==== Reference3.lean ====
abbrev S2x8192x4x64 : Shape := ⟨4, ![2, 8192, 4, 64]⟩
abbrev S2x4x8192 : Shape := ⟨3, ![2, 4, 8192]⟩
abbrev S2x4x8192x8192 : Shape := ⟨4, ![2, 4, 8192, 8192]⟩
abbrev S_ : Shape := ⟨0, ![]⟩
abbrev S2x4x8192x1 : Shape := ⟨4, ![2, 4, 8192, 1]⟩
abbrev S2x4x1x8192 : Shape := ⟨4, ![2, 4, 1, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S2x4x64x8192 : Shape := ⟨4, ![2, 4, 64, 8192]⟩
abbrev S16384x256 : Shape := ⟨2, ![16384, 256]⟩

abbrev nBuf : Space → Nat
  | .hbm => 42
  | .vmem => 0
  | .smem => 0
  | _ => 0

abbrev bufTy : (tb : Table) → Fin (tcTables nBuf tb) → BufTy
  | .hbm, ⟨0, _⟩ => ⟨S2x8192x4x64, .f32⟩
  | .hbm, ⟨1, _⟩ => ⟨S2x8192x4x64, .f32⟩
  | .hbm, ⟨2, _⟩ => ⟨S2x8192x4x64, .f32⟩
  | .hbm, ⟨3, _⟩ => ⟨S2x4x8192, .f32⟩
  | .hbm, ⟨4, _⟩ => ⟨S2x4x8192x8192, .f32⟩
  | .hbm, ⟨5, _⟩ => ⟨S_, .f32⟩
  | .hbm, ⟨6, _⟩ => ⟨S2x4x8192x8192, .f32⟩
  | .hbm, ⟨7, _⟩ => ⟨S2x4x8192x8192, .f32⟩
  | .hbm, ⟨8, _⟩ => ⟨S2x4x8192x1, .f32⟩
  | .hbm, ⟨9, _⟩ => ⟨S2x4x8192x8192, .f32⟩
  | .hbm, ⟨10, _⟩ => ⟨S2x4x8192x8192, .f32⟩
  | .hbm, ⟨11, _⟩ => ⟨S2x4x1x8192, .f32⟩
  | .hbm, ⟨12, _⟩ => ⟨S2x4x8192x8192, .f32⟩
  | .hbm, ⟨13, _⟩ => ⟨S2x4x8192x8192, .f32⟩
  | .hbm, ⟨14, _⟩ => ⟨S8192, .i32⟩
  | .hbm, ⟨15, _⟩ => ⟨S1x8192, .i32⟩
  | .hbm, ⟨16, _⟩ => ⟨S8192x1, .i32⟩
  | .hbm, ⟨17, _⟩ => ⟨S8192x8192, .i32⟩
  | .hbm, ⟨18, _⟩ => ⟨S8192x8192, .i32⟩
  | .hbm, ⟨19, _⟩ => ⟨S8192x8192, .i1⟩
  | .hbm, ⟨20, _⟩ => ⟨S_, .f32⟩
  | .hbm, ⟨21, _⟩ => ⟨S_, .f32⟩
  | .hbm, ⟨22, _⟩ => ⟨S2x4x8192x8192, .i1⟩
  | .hbm, ⟨23, _⟩ => ⟨S2x4x8192x8192, .f32⟩
  | .hbm, ⟨24, _⟩ => ⟨S2x4x8192x8192, .f32⟩
  | .hbm, ⟨25, _⟩ => ⟨S_, .f32⟩
  | .hbm, ⟨26, _⟩ => ⟨S2x4x8192, .f32⟩
  | .hbm, ⟨27, _⟩ => ⟨S_, .f32⟩
  | .hbm, ⟨28, _⟩ => ⟨S2x4x8192, .f32⟩
  | .hbm, ⟨29, _⟩ => ⟨S2x4x8192, .f32⟩
  | .hbm, ⟨30, _⟩ => ⟨S2x4x8192x1, .f32⟩
  | .hbm, ⟨31, _⟩ => ⟨S2x4x8192x8192, .f32⟩
  | .hbm, ⟨32, _⟩ => ⟨S2x4x8192x8192, .f32⟩
  | .hbm, ⟨33, _⟩ => ⟨S2x4x8192x8192, .f32⟩
  | .hbm, ⟨34, _⟩ => ⟨S_, .f32⟩
  | .hbm, ⟨35, _⟩ => ⟨S2x4x8192, .f32⟩
  | .hbm, ⟨36, _⟩ => ⟨S2x4x8192x1, .f32⟩
  | .hbm, ⟨37, _⟩ => ⟨S2x4x8192x8192, .f32⟩
  | .hbm, ⟨38, _⟩ => ⟨S2x4x8192x8192, .f32⟩
  | .hbm, ⟨39, _⟩ => ⟨S2x4x64x8192, .f32⟩
  | .hbm, ⟨40, _⟩ => ⟨S2x8192x4x64, .f32⟩
  | .hbm, ⟨41, _⟩ => ⟨S16384x256, .f32⟩
  | _, _ => ⟨S2x8192x4x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_0 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩

abbrev nD : Nat := 1
abbrev τ : Topo := Topo.v7x

variable {F : FTy → Type} [FloatOps F]
-- ==== Kernel4.lean ====
abbrev S16384x1024 : Shape := ⟨2, ![16384, 1024]⟩
abbrev S16384x128 : Shape := ⟨2, ![16384, 128]⟩
abbrev S128x512 : Shape := ⟨2, ![128, 512]⟩
abbrev S2x1024 : Shape := ⟨2, ![2, 1024]⟩
abbrev S2x1024x2468 : Shape := ⟨3, ![2, 1024, 2468]⟩
abbrev S2x256 : Shape := ⟨2, ![2, 256]⟩
abbrev S2x256x384 : Shape := ⟨3, ![2, 256, 384]⟩
abbrev S2x128 : Shape := ⟨2, ![2, 128]⟩
abbrev S2x128x512 : Shape := ⟨3, ![2, 128, 512]⟩
abbrev S2x4 : Shape := ⟨2, ![2, 4]⟩
abbrev S2x256x4x96 : Shape := ⟨4, ![2, 256, 4, 96]⟩
abbrev S_ : Shape := ⟨0, ![]⟩
abbrev S2x256x4x128 : Shape := ⟨4, ![2, 256, 4, 128]⟩
abbrev S2x128x4x128 : Shape := ⟨4, ![2, 128, 4, 128]⟩
abbrev S2x128x4x64 : Shape := ⟨4, ![2, 128, 4, 64]⟩
abbrev S2x1x1024 : Shape := ⟨3, ![2, 1, 1024]⟩
abbrev S2x1024x384 : Shape := ⟨3, ![2, 1024, 384]⟩
abbrev S2x1024x64 : Shape := ⟨3, ![2, 1024, 64]⟩
abbrev S2x1024x32 : Shape := ⟨3, ![2, 1024, 32]⟩
abbrev S2x1024x768 : Shape := ⟨3, ![2, 1024, 768]⟩
abbrev S2x1024x1280 : Shape := ⟨3, ![2, 1024, 1280]⟩
abbrev S2x1024x4 : Shape := ⟨3, ![2, 1024, 4]⟩
abbrev S2x1024x124 : Shape := ⟨3, ![2, 1024, 124]⟩
abbrev S2x1024x2688 : Shape := ⟨3, ![2, 1024, 2688]⟩
abbrev S2x1x256 : Shape := ⟨3, ![2, 1, 256]⟩
abbrev S2x256x512 : Shape := ⟨3, ![2, 256, 512]⟩
abbrev S2x1x128 : Shape := ⟨3, ![2, 1, 128]⟩
abbrev S2x128x1024 : Shape := ⟨3, ![2, 128, 1024]⟩
abbrev S16384x512 : Shape := ⟨2, ![16384, 512]⟩
abbrev S16384x256 : Shape := ⟨2, ![16384, 256]⟩
abbrev S512x1024 : Shape := ⟨2, ![512, 1024]⟩
abbrev S1x1x1024 : Shape := ⟨3, ![1, 1, 1024]⟩
abbrev S1x1024x2688 : Shape := ⟨3, ![1, 1024, 2688]⟩
abbrev S1x1x256 : Shape := ⟨3, ![1, 1, 256]⟩
abbrev S1x256x512 : Shape := ⟨3, ![1, 256, 512]⟩
abbrev S1x1x128 : Shape := ⟨3, ![1, 1, 128]⟩
abbrev S1x128x1024 : Shape := ⟨3, ![1, 128, 1024]⟩
abbrev S512x128 : Shape := ⟨2, ![512, 128]⟩
abbrev S512x512 : Shape := ⟨2, ![512, 512]⟩
abbrev S512x256 : Shape := ⟨2, ![512, 256]⟩
abbrev S1x128 : Shape := ⟨2, ![1, 128]⟩
abbrev S1x1024 : Shape := ⟨2, ![1, 1024]⟩
abbrev S512 : Shape := ⟨1, ![512]⟩
abbrev S512x1 : Shape := ⟨2, ![512, 1]⟩
abbrev S1024x2688 : Shape := ⟨2, ![1024, 2688]⟩
abbrev S512x2688 : Shape := ⟨2, ![512, 2688]⟩
abbrev S1x256 : Shape := ⟨2, ![1, 256]⟩
abbrev S256x512 : Shape := ⟨2, ![256, 512]⟩
abbrev S128x1024 : Shape := ⟨2, ![128, 1024]⟩
abbrev S1x512 : Shape := ⟨2, ![1, 512]⟩
abbrev S512x768 : Shape := ⟨2, ![512, 768]⟩

abbrev nBuf : Space → Nat
  | .hbm => 60
  | .vmem => 34
  | .smem => 0
  | _ => 0

abbrev bufTy : (tb : Table) → Fin (tcTables nBuf tb) → BufTy
  | .hbm, ⟨0, _⟩ => ⟨S16384x1024, .f32⟩
  | .hbm, ⟨1, _⟩ => ⟨S16384x128, .f32⟩
  | .hbm, ⟨2, _⟩ => ⟨S16384x128, .f32⟩
  | .hbm, ⟨3, _⟩ => ⟨S16384x128, .f32⟩
  | .hbm, ⟨4, _⟩ => ⟨S128x512, .bf16⟩
  | .hbm, ⟨5, _⟩ => ⟨S128x512, .bf16⟩
  | .hbm, ⟨6, _⟩ => ⟨S2x1024, .f32⟩
  | .hbm, ⟨7, _⟩ => ⟨S2x1024x2468, .f32⟩
  | .hbm, ⟨8, _⟩ => ⟨S2x256, .f32⟩
  | .hbm, ⟨9, _⟩ => ⟨S2x256x384, .f32⟩
  | .hbm, ⟨10, _⟩ => ⟨S2x128, .f32⟩
  | .hbm, ⟨11, _⟩ => ⟨S2x128x512, .f32⟩
  | .hbm, ⟨12, _⟩ => ⟨S2x4, .f32⟩
  | .hbm, ⟨13, _⟩ => ⟨S2x256x4x96, .f32⟩
  | .hbm, ⟨14, _⟩ => ⟨S_, .i32⟩
  | .hbm, ⟨15, _⟩ => ⟨S_, .f32⟩
  | .hbm, ⟨16, _⟩ => ⟨S2x256x4x128, .f32⟩
  | .hbm, ⟨17, _⟩ => ⟨S2x128x4x128, .f32⟩
  | .hbm, ⟨18, _⟩ => ⟨S2x128x4x64, .f32⟩
  | .hbm, ⟨19, _⟩ => ⟨S_, .i32⟩
  | .hbm, ⟨20, _⟩ => ⟨S_, .f32⟩
  | .hbm, ⟨21, _⟩ => ⟨S2x128x4x128, .f32⟩
  | .hbm, ⟨22, _⟩ => ⟨S2x128x512, .f32⟩
  | .hbm, ⟨23, _⟩ => ⟨S2x128x4x64, .f32⟩
  | .hbm, ⟨24, _⟩ => ⟨S_, .i32⟩
  | .hbm, ⟨25, _⟩ => ⟨S_, .f32⟩
  | .hbm, ⟨26, _⟩ => ⟨S2x128x4x128, .f32⟩
  | .hbm, ⟨27, _⟩ => ⟨S2x128x512, .f32⟩
  | .hbm, ⟨28, _⟩ => ⟨S_, .i32⟩
  | .hbm, ⟨29, _⟩ => ⟨S_, .f32⟩
  | .hbm, ⟨30, _⟩ => ⟨S2x128, .f32⟩
  | .hbm, ⟨31, _⟩ => ⟨S2x1x1024, .f32⟩
  | .hbm, ⟨32, _⟩ => ⟨S2x1024x2468, .bf16⟩
  | .hbm, ⟨33, _⟩ => ⟨S2x1024x384, .bf16⟩
  | .hbm, ⟨34, _⟩ => ⟨S_, .bf16⟩
  | .hbm, ⟨35, _⟩ => ⟨S2x1024x64, .bf16⟩
  | .hbm, ⟨36, _⟩ => ⟨S2x1024x32, .bf16⟩
  | .hbm, ⟨37, _⟩ => ⟨S_, .bf16⟩
  | .hbm, ⟨38, _⟩ => ⟨S2x1024x32, .bf16⟩
  | .hbm, ⟨39, _⟩ => ⟨S2x1024x768, .bf16⟩
  | .hbm, ⟨40, _⟩ => ⟨S2x1024x1280, .bf16⟩
  | .hbm, ⟨41, _⟩ => ⟨S2x1024x4, .bf16⟩
  | .hbm, ⟨42, _⟩ => ⟨S_, .bf16⟩
  | .hbm, ⟨43, _⟩ => ⟨S2x1024x124, .bf16⟩
  | .hbm, ⟨44, _⟩ => ⟨S2x1024x2688, .bf16⟩
  | .hbm, ⟨45, _⟩ => ⟨S2x1x256, .f32⟩
  | .hbm, ⟨46, _⟩ => ⟨S2x256x512, .f32⟩
  | .hbm, ⟨47, _⟩ => ⟨S2x256x512, .bf16⟩
  | .hbm, ⟨48, _⟩ => ⟨S2x1x128, .f32⟩
  | .hbm, ⟨49, _⟩ => ⟨S2x128x1024, .f32⟩
  | .hbm, ⟨50, _⟩ => ⟨S2x128x1024, .bf16⟩
  | .hbm, ⟨51, _⟩ => ⟨S2x1x128, .f32⟩
  | .hbm, ⟨52, _⟩ => ⟨S16384x512, .bf16⟩
  | .hbm, ⟨53, _⟩ => ⟨S16384x512, .bf16⟩
  | .hbm, ⟨54, _⟩ => ⟨S16384x512, .bf16⟩
  | .hbm, ⟨55, _⟩ => ⟨S16384x512, .bf16⟩
  | .hbm, ⟨56, _⟩ => ⟨S16384x512, .bf16⟩
  | .hbm, ⟨57, _⟩ => ⟨S16384x512, .bf16⟩
  | .hbm, ⟨58, _⟩ => ⟨S16384x1024, .f32⟩
  | .hbm, ⟨59, _⟩ => ⟨S16384x256, .f32⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S1x1024x2688, .bf16⟩
  | .local _ .vmem, ⟨4, _⟩ => ⟨S1x1x256, .f32⟩
  | .local _ .vmem, ⟨5, _⟩ => ⟨S1x256x512, .bf16⟩
  | .local _ .vmem, ⟨6, _⟩ => ⟨S1x1x128, .f32⟩
  | .local _ .vmem, ⟨7, _⟩ => ⟨S1x128x1024, .bf16⟩
  | .local _ .vmem, ⟨8, _⟩ => ⟨S1x1x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S128x512, .bf16⟩
  | .local _ .vmem, ⟨16, _⟩ => ⟨S128x512, .bf16⟩
  | .local _ .vmem, ⟨17, _⟩ => ⟨S512x512, .bf16⟩
  | .local _ .vmem, ⟨18, _⟩ => ⟨S512x512, .bf16⟩
  | .local _ .vmem, ⟨19, _⟩ => ⟨S512x512, .bf16⟩
  | .local _ .vmem, ⟨20, _⟩ => ⟨S512x512, .bf16⟩
  | .local _ .vmem, ⟨21, _⟩ => ⟨S512x512, .bf16⟩
  | .local _ .vmem, ⟨22, _⟩ => ⟨S512x512, .bf16⟩
  | .local _ .vmem, ⟨23, _⟩ => ⟨S512x512, .bf16⟩
  | .local _ .vmem, ⟨24, _⟩ => ⟨S512x512, .bf16⟩
  | .local _ .vmem, ⟨25, _⟩ => ⟨S512x512, .bf16⟩
  | .local _ .vmem, ⟨26, _⟩ => ⟨S512x512, .bf16⟩
  | .local _ .vmem, ⟨27, _⟩ => ⟨S512x512, .bf16⟩
  | .local _ .vmem, ⟨28, _⟩ => ⟨S512x512, .bf16⟩
  | .local _ .vmem, ⟨29, _⟩ => ⟨S512x1024, .f32⟩
  | .local _ .vmem, ⟨30, _⟩ => ⟨S512x1024, .f32⟩
  | .local _ .vmem, ⟨31, _⟩ => ⟨S512x256, .f32⟩
  | .local _ .vmem, ⟨32, _⟩ => ⟨S512x256, .f32⟩
  | .local _ .vmem, ⟨33, _⟩ => ⟨S1x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_c : Ref sig .tc := ⟨.hbm, 14, rfl⟩
abbrev main_call0_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_c_0 : Ref sig .tc := ⟨.hbm, 19, rfl⟩
abbrev main_call1_v0 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_c_1 : Ref sig .tc := ⟨.hbm, 24, rfl⟩
abbrev main_call2_v0 : Ref sig .tc := ⟨.hbm, 25, rfl⟩
abbrev main_v7 : Ref sig .tc := ⟨.hbm, 26, rfl⟩
abbrev main_v8 : Ref sig .tc := ⟨.hbm, 27, rfl⟩
abbrev main_c_2 : Ref sig .tc := ⟨.hbm, 28, rfl⟩
abbrev main_call3_v0 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_cst : Ref sig .tc := ⟨.hbm, 34, rfl⟩
abbrev main_v13 : Ref sig .tc := ⟨.hbm, 35, rfl⟩
abbrev main_v14 : Ref sig .tc := ⟨.hbm, 36, rfl⟩
abbrev main_cst_3 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_cst_4 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28_0 : Ref sig .tc := ⟨.hbm, 52, rfl⟩
abbrev main_v28_1 : Ref sig .tc := ⟨.hbm, 53, rfl⟩
abbrev main_v28_2 : Ref sig .tc := ⟨.hbm, 54, rfl⟩
abbrev main_v28_3 : Ref sig .tc := ⟨.hbm, 55, rfl⟩
abbrev main_v28_4 : Ref sig .tc := ⟨.hbm, 56, rfl⟩
abbrev main_v28_5 : Ref sig .tc := ⟨.hbm, 57, rfl⟩
abbrev main_v28_6 : Ref sig .tc := ⟨.hbm, 58, rfl⟩
abbrev main_v28_7 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_stg16_0 : Ref sig .tc := ⟨.vmem, 23, rfl⟩
abbrev cc0_stg16_1 : Ref sig .tc := ⟨.vmem, 24, rfl⟩
abbrev cc0_stg17_0 : Ref sig .tc := ⟨.vmem, 25, rfl⟩
abbrev cc0_stg17_1 : Ref sig .tc := ⟨.vmem, 26, rfl⟩
abbrev cc0_stg18_0 : Ref sig .tc := ⟨.vmem, 27, rfl⟩
abbrev cc0_stg18_1 : Ref sig .tc := ⟨.vmem, 28, rfl⟩
abbrev cc0_stg19_0 : Ref sig .tc := ⟨.vmem, 29, rfl⟩
abbrev cc0_stg19_1 : Ref sig .tc := ⟨.vmem, 30, rfl⟩
abbrev cc0_stg20_0 : Ref sig .tc := ⟨.vmem, 31, rfl⟩
abbrev cc0_stg20_1 : Ref sig .tc := ⟨.vmem, 32, rfl⟩
abbrev cc0_scratch0 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem12_0 : DmaSem sig := 16
abbrev cc0_sem13_0 : DmaSem sig := 17
abbrev cc0_sem13_1 : DmaSem sig := 18
abbrev cc0_sem14_0 : DmaSem sig := 19
abbrev cc0_sem14_1 : DmaSem sig := 20
abbrev cc0_sem15_0 : DmaSem sig := 21
abbrev cc0_sem15_1 : DmaSem sig := 22
abbrev cc0_sem16_0 : DmaSem sig := 23
abbrev cc0_sem16_1 : DmaSem sig := 24
abbrev cc0_sem17_0 : DmaSem sig := 25
abbrev cc0_sem17_1 : DmaSem sig := 26
abbrev cc0_sem18_0 : DmaSem sig := 27
abbrev cc0_sem18_1 : DmaSem sig := 28
abbrev cc0_sem19_0 : DmaSem sig := 29
abbrev cc0_sem19_1 : DmaSem sig := 30
abbrev cc0_sem20_0 : DmaSem sig := 31
abbrev cc0_sem20_1 : DmaSem sig := 32

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_7 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x2688 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S128x512 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x512 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x512 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S512x256 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]
-- ==== Reference4.lean ====
abbrev S16384x1024 : Shape := ⟨2, ![16384, 1024]⟩
abbrev S16384x128 : Shape := ⟨2, ![16384, 128]⟩
abbrev S128x512 : Shape := ⟨2, ![128, 512]⟩
abbrev S2x1024 : Shape := ⟨2, ![2, 1024]⟩
abbrev S2x1024x2468 : Shape := ⟨3, ![2, 1024, 2468]⟩
abbrev S2x256 : Shape := ⟨2, ![2, 256]⟩
abbrev S2x256x384 : Shape := ⟨3, ![2, 256, 384]⟩
abbrev S2x128 : Shape := ⟨2, ![2, 128]⟩
abbrev S2x128x512 : Shape := ⟨3, ![2, 128, 512]⟩
abbrev S2x4 : Shape := ⟨2, ![2, 4]⟩
abbrev S1x1024 : Shape := ⟨2, ![1, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024x2468 : Shape := ⟨3, ![1, 1024, 2468]⟩
abbrev S1024x2468 : Shape := ⟨2, ![1024, 2468]⟩
abbrev S16384x2468 : Shape := ⟨2, ![16384, 2468]⟩
abbrev S16384x256 : Shape := ⟨2, ![16384, 256]⟩

abbrev nBuf : Space → Nat
  | .hbm => 36
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x128, .f32⟩
  | .hbm, ⟨2, _⟩ => ⟨S16384x128, .f32⟩
  | .hbm, ⟨3, _⟩ => ⟨S16384x128, .f32⟩
  | .hbm, ⟨4, _⟩ => ⟨S128x512, .bf16⟩
  | .hbm, ⟨5, _⟩ => ⟨S128x512, .bf16⟩
  | .hbm, ⟨6, _⟩ => ⟨S2x1024, .f32⟩
  | .hbm, ⟨7, _⟩ => ⟨S2x1024x2468, .f32⟩
  | .hbm, ⟨8, _⟩ => ⟨S2x256, .f32⟩
  | .hbm, ⟨9, _⟩ => ⟨S2x256x384, .f32⟩
  | .hbm, ⟨10, _⟩ => ⟨S2x128, .f32⟩
  | .hbm, ⟨11, _⟩ => ⟨S2x128x512, .f32⟩
  | .hbm, ⟨12, _⟩ => ⟨S2x4, .f32⟩
  | .hbm, ⟨13, _⟩ => ⟨S1x1024, .f32⟩
  | .hbm, ⟨14, _⟩ => ⟨S1024, .f32⟩
  | .hbm, ⟨15, _⟩ => ⟨S16384x1024, .f32⟩
  | .hbm, ⟨16, _⟩ => ⟨S_, .f32⟩
  | .hbm, ⟨17, _⟩ => ⟨S16384, .f32⟩
  | .hbm, ⟨18, _⟩ => ⟨S16384x1, .f32⟩
  | .hbm, ⟨19, _⟩ => ⟨S_, .f32⟩
  | .hbm, ⟨20, _⟩ => ⟨S16384x1, .f32⟩
  | .hbm, ⟨21, _⟩ => ⟨S16384x1, .f32⟩
  | .hbm, ⟨22, _⟩ => ⟨S_, .f32⟩
  | .hbm, ⟨23, _⟩ => ⟨S16384x1, .f32⟩
  | .hbm, ⟨24, _⟩ => ⟨S16384x1, .f32⟩
  | .hbm, ⟨25, _⟩ => ⟨S16384x1, .f32⟩
  | .hbm, ⟨26, _⟩ => ⟨S16384x1024, .f32⟩
  | .hbm, ⟨27, _⟩ => ⟨S16384x1024, .f32⟩
  | .hbm, ⟨28, _⟩ => ⟨S1x1024, .f32⟩
  | .hbm, ⟨29, _⟩ => ⟨S16384x1024, .f32⟩
  | .hbm, ⟨30, _⟩ => ⟨S16384x1024, .f32⟩
  | .hbm, ⟨31, _⟩ => ⟨S1x1024x2468, .f32⟩
  | .hbm, ⟨32, _⟩ => ⟨S1024x2468, .f32⟩
  | .hbm, ⟨33, _⟩ => ⟨S16384x2468, .f32⟩
  | .hbm, ⟨34, _⟩ => ⟨S16384x1024, .f32⟩
  | .hbm, ⟨35, _⟩ => ⟨S16384x256, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_cst : Ref sig .tc := ⟨.hbm, 16, rfl⟩
abbrev main_v3 : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_cst_1 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩

abbrev nD : Nat := 1
abbrev τ : Topo := Topo.v7x

variable {F : FTy → Type} [FloatOps F]
-- ==== Proof.Softmax.lean ====
module

public import Idealize.ShloMosaic.PureOps.Ideal
public import Mathlib.Data.EReal.Operations
public import Mathlib.Analysis.SpecialFunctions.Pow.Real

/-! # The running softmax of one query row, over the extended reals

One query row meets its keys a block at a time. It keeps a running maximum and a running weighted sum. Here a row is the
logits `s : ℕ → EReal` of the keys (`⊥` where a key is masked) and the values `v : ℕ → EReal`; nothing here mentions a
program. -/

@[expose] public section

open Idealize.ShloMosaic

namespace Attn

/-- An extended real that is a real number. -/
def IsReal (x : EReal) : Prop := ∃ r : ℝ, x = (r : EReal)

theorem isReal_coe (r : ℝ) : IsReal (r : EReal) := ⟨r, rfl⟩

theorem IsReal.mul {x y : EReal} (hx : IsReal x) (hy : IsReal y) : IsReal (x * y) := by
  obtain ⟨a, rfl⟩ := hx; obtain ⟨b, rfl⟩ := hy
  exact ⟨a * b, (EReal.coe_mul a b).symm⟩

theorem IsReal.add {x y : EReal} (hx : IsReal x) (hy : IsReal y) : IsReal (x + y) := by
  obtain ⟨a, rfl⟩ := hx; obtain ⟨b, rfl⟩ := hy
  exact ⟨a + b, (EReal.coe_add a b).symm⟩

theorem IsReal.sub {x y : EReal} (hx : IsReal x) (hy : IsReal y) : IsReal (x - y) := by
  obtain ⟨a, rfl⟩ := hx; obtain ⟨b, rfl⟩ := hy
  exact ⟨a - b, (EReal.coe_sub a b).symm⟩

theorem IsReal.sum {ι : Type*} (t : Finset ι) (f : ι → EReal) (h : ∀ i ∈ t, IsReal (f i)) : IsReal (∑ i ∈ t, f i) := by
  classical
  induction t using Finset.induction_on with
  | empty => exact ⟨0, by simp⟩
  | insert a t ha ih =>
    rw [Finset.sum_insert ha]
    exact (h a (Finset.mem_insert_self a t)).add (ih fun i hi => h i (Finset.mem_insert_of_mem hi))

/-- A logit of a key: a real number, or `⊥` at a masked key. -/
def Logit (x : EReal) : Prop := x = ⊥ ∨ IsReal x

theorem Logit.max {x y : EReal} (hx : Logit x) (hy : Logit y) : Logit (max x y) := by
  rcases le_total x y with h | h
  · rw [max_eq_right h]; exact hy
  · rw [max_eq_left h]; exact hx

theorem IsReal.max_logit {x y : EReal} (hx : IsReal x) (hy : Logit y) : IsReal (Max.max x y) := by
  rcases hy with rfl | hy
  · rw [max_eq_left bot_le]; exact hx
  · rcases le_total x y with h | h
    · rw [max_eq_right h]; exact hy
    · rw [max_eq_left h]; exact hx

/-- The maximum of logits, folded from `⊥`, is a real number once one of them is. -/
theorem isReal_fold {ι : Type*} (t : Finset ι) (f : ι → EReal) (h : ∀ i ∈ t, Logit (f i)) (i₀ : ι) (hi : i₀ ∈ t)
    (h₀ : IsReal (f i₀)) : IsReal (t.fold Max.max ⊥ f) := by
  classical
  have hL : ∀ u : Finset ι, (∀ i ∈ u, Logit (f i)) → Logit (u.fold Max.max ⊥ f) := by
    intro u
    induction u using Finset.induction_on with
    | empty => exact fun _ => Or.inl (by simp)
    | insert a u ha ih =>
      intro hu
      rw [Finset.fold_insert ha]
      exact (hu a (Finset.mem_insert_self a u)).max (ih fun i hi => hu i (Finset.mem_insert_of_mem hi))
  rw [← Finset.insert_erase hi, Finset.fold_insert (Finset.notMem_erase i₀ t)]
  exact h₀.max_logit (hL _ fun i hi' => h i (Finset.mem_of_mem_erase hi'))

/-! ## Real powers of two as weights -/

/-- The weight `2 ^ (x - μ)` of a logit, as a real number: `0` at a masked key. -/
noncomputable def wt (x : EReal) (μ : ℝ) : ℝ := if x = ⊥ then 0 else Real.rpow 2 (x.toReal - μ)

theorem wt_bot (μ : ℝ) : wt ⊥ μ = 0 := if_pos rfl

theorem wt_coe (r μ : ℝ) : wt (r : EReal) μ = Real.rpow 2 (r - μ) := by
  unfold wt; rw [if_neg (EReal.coe_ne_bot r), EReal.toReal_coe]

theorem exp2_sub {x : EReal} (hx : Logit x) (μ : ℝ) : Ideal.exp2 (x - (μ : EReal)) = (wt x μ : EReal) := by
  rcases hx with rfl | ⟨r, rfl⟩
  · rw [wt_bot, EReal.bot_sub]; simp
  · rw [wt_coe, ← EReal.coe_sub, Ideal.exp2_coe]

theorem wt_nonneg (x : EReal) (μ : ℝ) : 0 ≤ wt x μ := by
  unfold wt; split
  · exact le_refl 0
  · exact (Real.rpow_pos_of_pos two_pos _).le

theorem wt_pos {x : EReal} (hx : IsReal x) (μ : ℝ) : 0 < wt x μ := by
  obtain ⟨r, rfl⟩ := hx; rw [wt_coe]; exact Real.rpow_pos_of_pos two_pos _

/-- Moving the reference point from `μ` to `ν` multiplies every weight by one factor. -/
theorem wt_shift (x : EReal) (μ ν : ℝ) : Real.rpow 2 (μ - ν) * wt x μ = wt x ν := by
  unfold wt; split
  · exact mul_zero _
  · have := Real.rpow_add (two_pos : (0:ℝ) < 2) (μ - ν) (x.toReal - μ)
    rw [show μ - ν + (x.toReal - μ) = x.toReal - ν by ring] at this
    exact this.symm

/-- A nonnegative real factor goes into a sum of extended reals. -/
theorem coe_mul_sum {ι : Type*} (t : Finset ι) (c : ℝ) (hc : 0 ≤ c) (f : ι → EReal) :
    (c : EReal) * ∑ i ∈ t, f i = ∑ i ∈ t, (c : EReal) * f i := by
  classical
  induction t using Finset.induction_on with
  | empty => simp
  | insert a t ha ih =>
    rw [Finset.sum_insert ha, Finset.sum_insert ha,
      EReal.left_distrib_of_nonneg_of_ne_top (by exact_mod_cast hc) (EReal.coe_ne_top c), ih]

theorem coe_sum {ι : Type*} (t : Finset ι) (f : ι → ℝ) : ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-! ## The running state -/

/-- The state of a row after its first `n` keys, over lanes `ι`: either no key has been met, or the maxima are one real
    number `μ` and the sums are the weighted sums of the values with weights `2 ^ (s k - μ)`. -/
def Seen {ι : Type*} (s : ℕ → EReal) (v : ℕ → ι → EReal) (n : ℕ) (M A : ι → EReal) : Prop :=
  (n = 0 ∧ ∀ l, M l = ⊥ ∧ A l = 0) ∨
    ∃ μ : ℝ, ∀ l, M l = (μ : EReal) ∧ A l = ∑ k ∈ Finset.range n, (wt (s k) μ : EReal) * v k l

/-- Meeting the next `w` keys, the first of which is not masked. -/
theorem Seen.step {ι : Type*} [Nonempty ι] {s : ℕ → EReal} {v : ℕ → ι → EReal} {n : ℕ} {M A : ι → EReal}
    (h : Seen s v n M A) (w : ℕ) (hw : 0 < w) (hs : ∀ j, j < w → Logit (s (n + j))) (h0 : IsReal (s n))
    (M' A' : ι → EReal) (lane : Fin w → ι)
    (hM : ∀ l, M' l = Max.max (M l) (Finset.univ.fold Max.max ⊥ fun j : Fin w => s (n + j)))
    (hA : ∀ l, A' l = Ideal.exp2 (M l - M' l) * A l
      + ∑ j : Fin w, Ideal.exp2 (s (n + j) - M' (lane j)) * v (n + j) l) :
    Seen s v (n + w) M' A' := by
  have hF : IsReal (Finset.univ.fold Max.max ⊥ fun j : Fin w => s (n + j)) :=
    isReal_fold _ _ (fun j _ => hs j j.isLt) ⟨0, hw⟩ (Finset.mem_univ _) h0
  have hμ : ∃ ν : ℝ, ∀ l, M' l = (ν : EReal) := by
    rcases h with ⟨_, h⟩ | ⟨μ, h⟩
    · obtain ⟨ν, hν⟩ := hF
      exact ⟨ν, fun l => by rw [hM, (h l).1, hν, max_eq_right bot_le]⟩
    · obtain ⟨ν, hν⟩ := hF
      exact ⟨Max.max μ ν, fun l => by rw [hM, (h l).1, hν]; exact (EReal.coe_strictMono.monotone.map_max).symm⟩
  obtain ⟨ν, hν⟩ := hμ
  refine Or.inr ⟨ν, fun l => ⟨hν l, ?_⟩⟩
  have hnew : (∑ j : Fin w, Ideal.exp2 (s (n + j) - M' (lane j)) * v (n + j) l)
      = ∑ j ∈ Finset.range w, (wt (s (n + j)) ν : EReal) * v (n + j) l := by
    rw [Finset.sum_range]
    exact Finset.sum_congr rfl fun j _ => by rw [hν, exp2_sub (hs j j.isLt)]
  rw [hA, hν, hnew, Finset.sum_range_add]
  congr 1
  rcases h with ⟨rfl, h⟩ | ⟨μ, h⟩
  · rw [(h l).2]; simp
  · rw [(h l).1, (h l).2, ← EReal.coe_sub, Ideal.exp2_coe, coe_mul_sum _ (Real.rpow 2 (μ - ν)) (Real.rpow_pos_of_pos two_pos _).le]
    refine Finset.sum_congr rfl fun k _ => ?_
    rw [← mul_assoc, ← EReal.coe_mul, wt_shift]

/-- The state depends on the logits and values met only. -/
theorem Seen.congr {ι : Type*} {s s' : ℕ → EReal} {v : ℕ → ι → EReal} {n : ℕ} {M A : ι → EReal}
    (h : Seen s v n M A) (hs : ∀ k, k < n → s k = s' k) : Seen s' v n M A := by
  rcases h with h | ⟨μ, h⟩
  · exact Or.inl h
  · refine Or.inr ⟨μ, fun l => ⟨(h l).1, (h l).2.trans (Finset.sum_congr rfl fun k hk => ?_)⟩⟩
    rw [hs k (Finset.mem_range.mp hk)]

/-- The row's result: the weighted mean of the values. -/
noncomputable def mean {ι : Type*} (s : ℕ → EReal) (v : ℕ → ι → EReal) (n : ℕ) (l : ι) : EReal :=
  ∑ k ∈ Finset.range n, ((wt (s k) 0 / ∑ k' ∈ Finset.range n, wt (s k') 0 : ℝ) : EReal) * v k l

/-- The quotient of a lane by a lane whose values are all `1` is the weighted mean. -/
theorem Seen.div_eq {ι : Type*} {s : ℕ → EReal} {v : ℕ → ι → EReal} {n : ℕ} {M A : ι → EReal} (h : Seen s v n M A)
    (k₀ : ℕ) (hk : k₀ < n) (h0 : IsReal (s k₀)) (l d : ι) (hd : ∀ k, k < n → v k d = 1) :
    Ideal.div (A l) (A d) = mean s v n l := by
  rcases h with ⟨rfl, _⟩ | ⟨μ, h⟩
  · exact absurd hk (Nat.not_lt_zero _)
  have hden : A d = ((∑ k ∈ Finset.range n, wt (s k) μ : ℝ) : EReal) := by
    rw [(h d).2, coe_sum]
    exact Finset.sum_congr rfl fun k hk => by rw [hd k (Finset.mem_range.mp hk), mul_one]
  have hpos : ∀ ν, 0 < ∑ k ∈ Finset.range n, wt (s k) ν := fun ν =>
    Finset.sum_pos' (fun k _ => wt_nonneg _ _) ⟨k₀, Finset.mem_range.mpr hk, wt_pos h0 ν⟩
  rw [hden, Ideal.div_coe (hpos μ).ne', (h l).2, mul_comm, coe_mul_sum _ _ (one_div_pos.mpr (hpos μ)).le]
  refine Finset.sum_congr rfl fun k _ => ?_
  rw [← mul_assoc, ← EReal.coe_mul]
  congr 2
  have hc : 0 < Real.rpow 2 (0 - μ) := Real.rpow_pos_of_pos two_pos _
  have e : ∀ k, wt (s k) μ = Real.rpow 2 (0 - μ) * wt (s k) 0 := fun k => (wt_shift _ 0 μ).symm
  have hp0 := hpos 0
  simp only [e, ← Finset.mul_sum]
  field_simp

/-- More masked keys change nothing. -/
theorem mean_masked {ι : Type*} (s : ℕ → EReal) (v : ℕ → ι → EReal) (n N : ℕ) (hn : n ≤ N)
    (hs : ∀ k, n ≤ k → k < N → s k = ⊥) (l : ι) : mean s v N l = mean s v n l := by
  have hsub : Finset.range n ⊆ Finset.range N := Finset.range_subset_range.mpr hn
  have hz : ∀ k ∈ Finset.range N, k ∉ Finset.range n → wt (s k) 0 = 0 := fun k hk hk' => by
    rw [hs k (by simpa using hk') (Finset.mem_range.mp hk), wt_bot]
  unfold mean
  rw [← Finset.sum_subset hsub hz]
  exact (Finset.sum_subset hsub fun k hk hk' => by rw [hz k hk hk', zero_div, EReal.coe_zero, zero_mul]).symm

/-- The mean by natural exponentials: probabilities `exp (x k - μ) / ∑ exp (x - μ)`, where the logits `x` are `s` in the
    natural unit, are the weights of `mean`. -/
theorem softmax_eq_mean {ι : Type*} (N : ℕ) (s x : ℕ → EReal) (v : ℕ → ι → EReal)
    (hx : ∀ k, k < N → (s k = ⊥ ∧ x k = ⊥) ∨ ∃ r : ℝ, s k = (r : EReal) ∧ x k = ((r * Real.log 2 : ℝ) : EReal))
    (k₀ : ℕ) (hk : k₀ < N) (h0 : IsReal (s k₀)) (μ : EReal) (hμ : IsReal μ) (l : ι) :
    ∑ k : Fin N, Ideal.div (Ideal.exp (x k - μ)) (∑ k' : Fin N, Ideal.exp (x k' - μ)) * v k l = mean s v N l := by
  obtain ⟨μ, rfl⟩ := hμ
  have e : ∀ k, k < N → Ideal.exp (x k - (μ : EReal)) = ((Real.exp (-μ) * wt (s k) 0 : ℝ) : EReal) := by
    intro k hk
    rcases hx k hk with ⟨h1, h2⟩ | ⟨r, h1, h2⟩
    · rw [h1, h2, wt_bot, EReal.bot_sub]; simp
    · rw [h1, h2, wt_coe, ← EReal.coe_sub, Ideal.exp_coe]
      congr 1
      have : Real.rpow 2 (r - 0) = Real.exp (Real.log 2 * (r - 0)) := Real.rpow_def_of_pos two_pos _
      rw [this, ← Real.exp_add]
      congr 1; ring
  have hpos : 0 < ∑ k ∈ Finset.range N, wt (s k) 0 :=
    Finset.sum_pos' (fun k _ => wt_nonneg _ _) ⟨k₀, Finset.mem_range.mpr hk, wt_pos h0 0⟩
  have hD : (∑ k' : Fin N, Ideal.exp (x k' - (μ : EReal))) = ((Real.exp (-μ) * ∑ k ∈ Finset.range N, wt (s k) 0 : ℝ) : EReal) := by
    rw [Finset.mul_sum, Finset.sum_range, coe_sum]
    exact Finset.sum_congr rfl fun k _ => e k k.isLt
  have hE := Real.exp_pos (-μ)
  unfold mean
  rw [Finset.sum_range]
  refine Finset.sum_congr rfl fun k _ => ?_
  rw [hD, e k k.isLt, Ideal.div_coe (mul_pos hE hpos).ne', ← EReal.coe_mul]
  congr 2
  field_simp

end Attn

end
-- ==== Proof.Blocks.lean ====
module
public import proofs.«01_k».proof.Proof.Gen.KernelIdeal.Value
public import Idealize.ShloMosaic.Lib.Pipeline.ValueKit
public import Idealize.ShloMosaic.Lib.Pointwise

/-! # One block of keys, element by element

The kernel takes its keys in blocks of 1536, 1024 and 512, and the last 512 under the causal mask.  For each of these
four the new running maximum and the new accumulator are read here at one row `r` and one lane `l`, from the queries,
keys and values of one head and from the maximum and accumulator found. -/

@[expose] public section
set_option maxRecDepth 16384
noncomputable section
open Idealize.ShloMosaic Idealize.ShloMosaic.TcCoe Idealize.SL.Sem Idealize.ShloMosaic.WordCmp
namespace Attn.Blocks
open Cert.KernelIdeal Cert.KernelIdeal.Gen

/-- Minus infinity, as the reductions start from it. -/
theorem ofBits_bot : Ideal.ofBits FTy.f32 4286578688#32 = ⊥ := by
  simp [Ideal.ofBits, Ideal.ieee]

/-- The running maximum after a block of logits `s`. -/
def newMax {W : ℕ} (μ : EReal) (s : Fin W → EReal) : EReal := max μ (Finset.univ.fold max ⊥ s)

/-- Row `r` of the queries against key `j` of a block. -/
def dots {W : ℕ} (q : FVec Ideal S512x128 .bf16) (kb : FVec Ideal (⟨2, ![W, 128]⟩ : Shape) .bf16) (r : Fin 512) (j : Fin W) :
    EReal := ∑ d : Fin 128, q (ix2 r d) * kb (ix2 j d)

/-- The lane of the running maximum which the kernel lays beside logit `j`. -/
def lane {W : ℕ} (j : Fin W) : Fin 128 := ⟨j.val % 128, Nat.mod_lt _ (by decide)⟩

/-- The logits of the masked block: key `j` is seen by the rows from `j` on. -/
def maskedDots (q : FVec Ideal S512x128 .bf16) (kb : FVec Ideal S512x128 .bf16) (r : Fin 512) (j : Fin 512) : EReal :=
  if j.val ≤ r.val then dots q kb r j else ⊥

/-- The running maximum of a row, laid beside each of 1536 logits. -/
theorem tile1536 (m : FVec Ideal S512x128 .f32) (r : Fin 512) (j : Fin 1536) :
    concatenate S512x1536 1 [⟨S512x128, m⟩, ⟨S512x128, m⟩, ⟨S512x128, m⟩, ⟨S512x128, m⟩, ⟨S512x128, m⟩, ⟨S512x128, m⟩, ⟨S512x128, m⟩, ⟨S512x128, m⟩, ⟨S512x128, m⟩, ⟨S512x128, m⟩, ⟨S512x128, m⟩, ⟨S512x128, m⟩] concatenates_S512x128_S512x128_S512x128_S512x128_S512x128_S512x128_S512x128_S512x128_S512x128_S512x128_S512x128_S512x128_S512x1536_d1 (ix2 r j) = m (ix2 r (lane j)) :=
  concatenate_replicate_apply 1 12 m concatenates_S512x128_S512x128_S512x128_S512x128_S512x128_S512x128_S512x128_S512x128_S512x128_S512x128_S512x128_S512x128_S512x1536_d1 rfl (ix2 r j) (ix2 r (lane j)) rfl
    (Fin.forall_fin_two.mpr ⟨fun _ => rfl, fun h => absurd rfl h⟩)

/-- The running maximum after a block of 1536 keys, before it is stored. -/
theorem row1536 (q : FVec Ideal S512x128 .bf16) (kb : FVec Ideal S1536x128 .bf16) (M : FVec Ideal S1x512x128 .f32)
    (r : Fin 512) (l : Fin 128) :
    k0_pay7 (F := Ideal) q kb M (ix2 r l) = newMax (M (ix3 (0 : Fin 1) r l)) (dots q kb r) := by
  unfold newMax dots
  pointwise [k0_pay7, k0_pay6, k0_pay2]
  rw [ofBits_bot]

/-- The running maximum after a block of 1536 keys. -/
theorem max1536 (q : FVec Ideal S512x128 .bf16) (kb : FVec Ideal S1536x128 .bf16) (M : FVec Ideal S1x512x128 .f32)
    (r : Fin 512) (l : Fin 128) :
    k0_pay11 (F := Ideal) (k0_pay7 q kb M) (ix3 (0 : Fin 1) r l) = newMax (M (ix3 (0 : Fin 1) r l)) (dots q kb r) := by
  rw [← row1536]
  pointwise [k0_pay11]

/-- The weights of a block of 1536 keys. -/
theorem weight1536 (q : FVec Ideal S512x128 .bf16) (kb : FVec Ideal S1536x128 .bf16) (M : FVec Ideal S1x512x128 .f32)
    (r : Fin 512) (j : Fin 1536) :
    k0_pay8 (F := Ideal) q kb M (ix2 r j)
      = Ideal.exp2 (dots q kb r j - newMax (M (ix3 (0 : Fin 1) r (lane j))) (dots q kb r)) := by
  rw [← row1536]
  refine Eq.trans (b := Ideal.exp2 (k0_pay2 (F := Ideal) q kb (ix2 r j)
    - concatenate S512x1536 1 [⟨S512x128, k0_pay7 (F := Ideal) q kb M⟩, ⟨S512x128, k0_pay7 (F := Ideal) q kb M⟩, ⟨S512x128, k0_pay7 (F := Ideal) q kb M⟩, ⟨S512x128, k0_pay7 (F := Ideal) q kb M⟩, ⟨S512x128, k0_pay7 (F := Ideal) q kb M⟩, ⟨S512x128, k0_pay7 (F := Ideal) q kb M⟩, ⟨S512x128, k0_pay7 (F := Ideal) q kb M⟩, ⟨S512x128, k0_pay7 (F := Ideal) q kb M⟩, ⟨S512x128, k0_pay7 (F := Ideal) q kb M⟩, ⟨S512x128, k0_pay7 (F := Ideal) q kb M⟩, ⟨S512x128, k0_pay7 (F := Ideal) q kb M⟩, ⟨S512x128, k0_pay7 (F := Ideal) q kb M⟩] concatenates_S512x128_S512x128_S512x128_S512x128_S512x128_S512x128_S512x128_S512x128_S512x128_S512x128_S512x128_S512x128_S512x1536_d1 (ix2 r j))) rfl ?_
  rw [tile1536]
  unfold dots
  pointwise [k0_pay2]

/-- The accumulator after a block of 1536 keys. -/
theorem acc1536 (q : FVec Ideal S512x128 .bf16) (kb vb : FVec Ideal S1536x128 .bf16) (M A : FVec Ideal S1x512x128 .f32)
    (r : Fin 512) (l : Fin 128) :
    k0_pay27 (F := Ideal) (k0_pay8 q kb M) (k0_pay10 (k0_pay9 q kb M)) A vb (ix3 (0 : Fin 1) r l)
      = Ideal.exp2 (M (ix3 (0 : Fin 1) r l) - newMax (M (ix3 (0 : Fin 1) r l)) (dots q kb r)) * A (ix3 0 r l)
        + ∑ j : Fin 1536, Ideal.exp2 (dots q kb r j - newMax (M (ix3 (0 : Fin 1) r (lane j))) (dots q kb r)) * vb (ix2 j l) := by
  simp only [← weight1536]
  simp only [← row1536]
  pointwise [k0_pay27, k0_pay10, k0_pay9, k0_pay6]
  rfl

/-- The running maximum of a row, laid beside each of 1024 logits. -/
theorem tile1024 (m : FVec Ideal S512x128 .f32) (r : Fin 512) (j : Fin 1024) :
    concatenate S512x1024 1 [⟨S512x128, m⟩, ⟨S512x128, m⟩, ⟨S512x128, m⟩, ⟨S512x128, m⟩, ⟨S512x128, m⟩, ⟨S512x128, m⟩, ⟨S512x128, m⟩, ⟨S512x128, m⟩] concatenates_S512x128_S512x128_S512x128_S512x128_S512x128_S512x128_S512x128_S512x128_S512x1024_d1 (ix2 r j) = m (ix2 r (lane j)) :=
  concatenate_replicate_apply 1 8 m concatenates_S512x128_S512x128_S512x128_S512x128_S512x128_S512x128_S512x128_S512x128_S512x1024_d1 rfl (ix2 r j) (ix2 r (lane j)) rfl
    (Fin.forall_fin_two.mpr ⟨fun _ => rfl, fun h => absurd rfl h⟩)

/-- The running maximum after a block of 1024 keys, before it is stored. -/
theorem row1024 (q : FVec Ideal S512x128 .bf16) (kb : FVec Ideal S1024x128 .bf16) (M : FVec Ideal S1x512x128 .f32)
    (r : Fin 512) (l : Fin 128) :
    k0_pay61 (F := Ideal) q kb M (ix2 r l) = newMax (M (ix3 (0 : Fin 1) r l)) (dots q kb r) := by
  unfold newMax dots
  pointwise [k0_pay61, k0_pay60, k0_pay56]
  rw [ofBits_bot]

/-- The running maximum after a block of 1024 keys. -/
theorem max1024 (q : FVec Ideal S512x128 .bf16) (kb : FVec Ideal S1024x128 .bf16) (M : FVec Ideal S1x512x128 .f32)
    (r : Fin 512) (l : Fin 128) :
    k0_pay64 (F := Ideal) (k0_pay61 q kb M) (ix3 (0 : Fin 1) r l) = newMax (M (ix3 (0 : Fin 1) r l)) (dots q kb r) := by
  rw [← row1024]
  pointwise [k0_pay64]

/-- The weights of a block of 1024 keys. -/
theorem weight1024 (q : FVec Ideal S512x128 .bf16) (kb : FVec Ideal S1024x128 .bf16) (M : FVec Ideal S1x512x128 .f32)
    (r : Fin 512) (j : Fin 1024) :
    k0_pay62 (F := Ideal) q kb M (ix2 r j)
      = Ideal.exp2 (dots q kb r j - newMax (M (ix3 (0 : Fin 1) r (lane j))) (dots q kb r)) := by
  rw [← row1024]
  refine Eq.trans (b := Ideal.exp2 (k0_pay56 (F := Ideal) q kb (ix2 r j)
    - concatenate S512x1024 1 [⟨S512x128, k0_pay61 (F := Ideal) q kb M⟩, ⟨S512x128, k0_pay61 (F := Ideal) q kb M⟩, ⟨S512x128, k0_pay61 (F := Ideal) q kb M⟩, ⟨S512x128, k0_pay61 (F := Ideal) q kb M⟩, ⟨S512x128, k0_pay61 (F := Ideal) q kb M⟩, ⟨S512x128, k0_pay61 (F := Ideal) q kb M⟩, ⟨S512x128, k0_pay61 (F := Ideal) q kb M⟩, ⟨S512x128, k0_pay61 (F := Ideal) q kb M⟩] concatenates_S512x128_S512x128_S512x128_S512x128_S512x128_S512x128_S512x128_S512x128_S512x1024_d1 (ix2 r j))) rfl ?_
  rw [tile1024]
  unfold dots
  pointwise [k0_pay56]

/-- The accumulator after a block of 1024 keys. -/
theorem acc1024 (q : FVec Ideal S512x128 .bf16) (kb vb : FVec Ideal S1024x128 .bf16) (M A : FVec Ideal S1x512x128 .f32)
    (r : Fin 512) (l : Fin 128) :
    k0_pay80 (F := Ideal) (k0_pay62 q kb M) (k0_pay63 (k0_pay60 M) (k0_pay61 q kb M)) A vb (ix3 (0 : Fin 1) r l)
      = Ideal.exp2 (M (ix3 (0 : Fin 1) r l) - newMax (M (ix3 (0 : Fin 1) r l)) (dots q kb r)) * A (ix3 0 r l)
        + ∑ j : Fin 1024, Ideal.exp2 (dots q kb r j - newMax (M (ix3 (0 : Fin 1) r (lane j))) (dots q kb r)) * vb (ix2 j l) := by
  simp only [← weight1024]
  simp only [← row1024]
  pointwise [k0_pay80, k0_pay63, k0_pay60]
  rfl

/-- The running maximum of a row, laid beside each of 512 logits. -/
theorem tile512 (m : FVec Ideal S512x128 .f32) (r : Fin 512) (j : Fin 512) :
    concatenate S512x512 1 [⟨S512x128, m⟩, ⟨S512x128, m⟩, ⟨S512x128, m⟩, ⟨S512x128, m⟩] concatenates_S512x128_S512x128_S512x128_S512x128_S512x512_d1 (ix2 r j) = m (ix2 r (lane j)) :=
  concatenate_replicate_apply 1 4 m concatenates_S512x128_S512x128_S512x128_S512x128_S512x512_d1 rfl (ix2 r j) (ix2 r (lane j)) rfl
    (Fin.forall_fin_two.mpr ⟨fun _ => rfl, fun h => absurd rfl h⟩)

/-- The running maximum after a block of 512 keys, before it is stored. -/
theorem row512 (q : FVec Ideal S512x128 .bf16) (kb : FVec Ideal S512x128 .bf16) (M : FVec Ideal S1x512x128 .f32)
    (r : Fin 512) (l : Fin 128) :
    k0_pay87 (F := Ideal) q kb M (ix2 r l) = newMax (M (ix3 (0 : Fin 1) r l)) (dots q kb r) := by
  unfold newMax dots
  pointwise [k0_pay87, k0_pay86, k0_pay82]
  rw [ofBits_bot]

/-- The running maximum after a block of 512 keys. -/
theorem max512 (q : FVec Ideal S512x128 .bf16) (kb : FVec Ideal S512x128 .bf16) (M : FVec Ideal S1x512x128 .f32)
    (r : Fin 512) (l : Fin 128) :
    k0_pay90 (F := Ideal) (k0_pay87 q kb M) (ix3 (0 : Fin 1) r l) = newMax (M (ix3 (0 : Fin 1) r l)) (dots q kb r) := by
  rw [← row512]
  pointwise [k0_pay90]

/-- The weights of a block of 512 keys. -/
theorem weight512 (q : FVec Ideal S512x128 .bf16) (kb : FVec Ideal S512x128 .bf16) (M : FVec Ideal S1x512x128 .f32)
    (r : Fin 512) (j : Fin 512) :
    k0_pay88 (F := Ideal) q kb M (ix2 r j)
      = Ideal.exp2 (dots q kb r j - newMax (M (ix3 (0 : Fin 1) r (lane j))) (dots q kb r)) := by
  rw [← row512]
  refine Eq.trans (b := Ideal.exp2 (k0_pay82 (F := Ideal) q kb (ix2 r j)
    - concatenate S512x512 1 [⟨S512x128, k0_pay87 (F := Ideal) q kb M⟩, ⟨S512x128, k0_pay87 (F := Ideal) q kb M⟩, ⟨S512x128, k0_pay87 (F := Ideal) q kb M⟩, ⟨S512x128, k0_pay87 (F := Ideal) q kb M⟩] concatenates_S512x128_S512x128_S512x128_S512x128_S512x512_d1 (ix2 r j))) rfl ?_
  rw [tile512]
  unfold dots
  pointwise [k0_pay82]

/-- The accumulator after a block of 512 keys. -/
theorem acc512 (q : FVec Ideal S512x128 .bf16) (kb vb : FVec Ideal S512x128 .bf16) (M A : FVec Ideal S1x512x128 .f32)
    (r : Fin 512) (l : Fin 128) :
    k0_pay106 (F := Ideal) (k0_pay88 q kb M) (k0_pay89 (k0_pay86 M) (k0_pay87 q kb M)) A vb (ix3 (0 : Fin 1) r l)
      = Ideal.exp2 (M (ix3 (0 : Fin 1) r l) - newMax (M (ix3 (0 : Fin 1) r l)) (dots q kb r)) * A (ix3 0 r l)
        + ∑ j : Fin 512, Ideal.exp2 (dots q kb r j - newMax (M (ix3 (0 : Fin 1) r (lane j))) (dots q kb r)) * vb (ix2 j l) := by
  simp only [← weight512]
  simp only [← row512]
  pointwise [k0_pay106, k0_pay89, k0_pay86]
  rfl

/-- The constant under the mask. -/
theorem mask_bot : Named.named (F := Ideal) (φ := FTy.f32) κ "mask" 4048155338#32 = ⊥ := rfl

/-- The column numbers of the masked block. -/
abbrev cols : IVec S512x512 32 := iota .tc S512x512 32 [1] iota_S512x512_d1_w32

/-- The logits of the block on the diagonal, under the mask. -/
theorem masked (q kb : FVec Ideal S512x128 .bf16) (r j : Fin 512) :
    k0_pay122 (F := Ideal) (k0_pay118 q kb) cols (ix2 r j) = maskedDots q kb r j := by
  unfold maskedDots dots cols
  pointwise [k0_pay122, k0_pay118]
  rw [mask_bot, show IntOp.addi (BitVec.ofNat 32 j.val) 0#32 = BitVec.ofNat 32 j.val from BitVec.add_zero _,
    cmpi_sle_ofNat (by omega) (by omega), select_ofBool]
  simp only [decide_eq_true_eq]

/-- The running maximum after the block on the diagonal, before it is stored. -/
theorem rowMasked (q kb : FVec Ideal S512x128 .bf16) (M : FVec Ideal S1x512x128 .f32) (r : Fin 512) (l : Fin 128) :
    k0_pay124 (F := Ideal) (k0_pay118 q kb) cols M (ix2 r l) = newMax (M (ix3 (0 : Fin 1) r l)) (maskedDots q kb r) := by
  unfold newMax
  rw [show maskedDots q kb r = fun j => k0_pay122 (F := Ideal) (k0_pay118 q kb) cols (ix2 r j) from
    funext fun j => (masked q kb r j).symm]
  generalize k0_pay118 (F := Ideal) q kb = x
  generalize cols = w
  pointwise [k0_pay124, k0_pay123]
  rw [ofBits_bot]

/-- The running maximum after the block on the diagonal. -/
theorem maxMasked (q kb : FVec Ideal S512x128 .bf16) (M : FVec Ideal S1x512x128 .f32) (r : Fin 512) (l : Fin 128) :
    k0_pay127 (F := Ideal) (k0_pay118 q kb) cols M (ix3 (0 : Fin 1) r l)
      = newMax (M (ix3 (0 : Fin 1) r l)) (maskedDots q kb r) := by
  rw [← rowMasked]
  pointwise [k0_pay127]

/-- The weights of the block on the diagonal. -/
theorem weightMasked (q kb : FVec Ideal S512x128 .bf16) (M : FVec Ideal S1x512x128 .f32) (r : Fin 512) (j : Fin 512) :
    k0_pay125 (F := Ideal) (k0_pay118 q kb) cols M (ix2 r j)
      = Ideal.exp2 (maskedDots q kb r j - newMax (M (ix3 (0 : Fin 1) r (lane j))) (maskedDots q kb r)) := by
  rw [← rowMasked, ← masked]
  refine Eq.trans (b := Ideal.exp2 (k0_pay122 (F := Ideal) (k0_pay118 q kb) cols (ix2 r j)
    - concatenate S512x512 1 [⟨S512x128, k0_pay124 (F := Ideal) (k0_pay118 q kb) cols M⟩, ⟨S512x128, k0_pay124 (F := Ideal) (k0_pay118 q kb) cols M⟩, ⟨S512x128, k0_pay124 (F := Ideal) (k0_pay118 q kb) cols M⟩, ⟨S512x128, k0_pay124 (F := Ideal) (k0_pay118 q kb) cols M⟩] concatenates_S512x128_S512x128_S512x128_S512x128_S512x512_d1 (ix2 r j))) rfl ?_
  rw [tile512]

/-- The accumulator after the block on the diagonal. -/
theorem accMasked (q kb vb : FVec Ideal S512x128 .bf16) (M A : FVec Ideal S1x512x128 .f32) (r : Fin 512) (l : Fin 128) :
    k0_pay146 (F := Ideal) (k0_pay125 (k0_pay118 q kb) cols M) (k0_pay126 (k0_pay118 q kb) cols M) A vb (ix3 (0 : Fin 1) r l)
      = Ideal.exp2 (M (ix3 (0 : Fin 1) r l) - newMax (M (ix3 (0 : Fin 1) r l)) (maskedDots q kb r)) * A (ix3 0 r l)
        + ∑ j : Fin 512, Ideal.exp2 (maskedDots q kb r j - newMax (M (ix3 (0 : Fin 1) r (lane j))) (maskedDots q kb r)) * vb (ix2 j l) := by
  simp only [← weightMasked]
  simp only [← rowMasked]
  generalize k0_pay118 (F := Ideal) q kb = x
  generalize cols = w
  pointwise [k0_pay146, k0_pay126, k0_pay123]
  rfl

/-- The running maximum starts at minus infinity. -/
theorem init_max (y : S4x512x128.Idx) : k0_pay108 (F := Ideal) y = ⊥ := by
  pointwise [k0_pay108]
  rfl

/-- The accumulator starts at zero. -/
theorem init_acc (y : S4x512x128.Idx) : k0_pay109 (F := Ideal) y = 0 := by
  pointwise [k0_pay109]

/-- The other half of the lanes. -/
def far (l : Fin 128) : Fin 128 := ⟨(l.val + 64) % 128, Nat.mod_lt _ (by decide)⟩

theorem far_far (l : Fin 128) : far (far l) = l := Fin.ext (by unfold far; dsimp only; omega)

/-- A rotation by half the lanes. -/
theorem roll_apply (a : FVec Ideal S512x128 .f32) (r : Fin 512) (l : Fin 128) :
    dynamicRotate 1 64#32 none a rotates_S512x128_d1 (ix2 r l) = a (ix2 r (far l)) := by
  pointwise
  exact congrArg (fun c => a (ix2 r c)) (Fin.ext (by unfold far; dsimp only; omega))

/-- What is written back for two heads: the first in the low lanes, the second in the high ones, each lane's
accumulator over the one 64 lanes on. -/
theorem quot (A A' : FVec Ideal S1x512x128 .f32) (r : Fin 512) (l : Fin 128) :
    k0_pay152 (F := Ideal) A A' (ix2 r l) = if l.val < 64 then Ideal.div (A (ix3 0 r l)) (A (ix3 0 r (far l)))
      else Ideal.div (A' (ix3 0 r (far l))) (A' (ix3 0 r l)) := by
  refine Eq.trans (b := Scalar.select (k0_pay151 (ix2 r l))
    (Ideal.div (shapeCast S512x128 A shapeCasts_S1x512x128_S512x128 (ix2 r l))
      (dynamicRotate 1 64#32 none (shapeCast S512x128 A shapeCasts_S1x512x128_S512x128) rotates_S512x128_d1 (ix2 r l)))
    (dynamicRotate 1 64#32 none (divf (shapeCast S512x128 A' shapeCasts_S1x512x128_S512x128)
      (dynamicRotate 1 64#32 none (shapeCast S512x128 A' shapeCasts_S1x512x128_S512x128) rotates_S512x128_d1))
      rotates_S512x128_d1 (ix2 r l))) rfl ?_
  rw [roll_apply, roll_apply]
  refine Eq.trans (b := Scalar.select (k0_pay151 (ix2 r l)) _ (Ideal.div
    (shapeCast S512x128 A' shapeCasts_S1x512x128_S512x128 (ix2 r (far l)))
    (dynamicRotate 1 64#32 none (shapeCast S512x128 A' shapeCasts_S1x512x128_S512x128) rotates_S512x128_d1 (ix2 r (far l))))) rfl ?_
  rw [roll_apply, far_far]
  pointwise [k0_pay151]
  rw [cmpi_slt_ofNat (a := l.val) (b := 64) (by omega) (by omega), select_ofBool]
  simp only [decide_eq_true_eq]

end Attn.Blocks
end
end
-- ==== Proof.State.lean ====
module
public import proofs.«01_k».proof.Proof.Softmax
public import proofs.«01_k».proof.Proof.Blocks
public import Idealize.ShloMosaic.Lib.WritesUnit
public import Idealize.ShloMosaic.Lib.VecWindow

/-! # What the scratch holds

The kernel keeps, per head and row, a running maximum and an accumulator, in two scratch buffers of shape
[4, 512, 128].  `State` says that the first `n` keys have been taken into them.  Here are the scores and values these
keys have, as functions of the operands' blocks, the step of one block, and the reads and writes of one head's plane. -/

@[expose] public section
set_option maxRecDepth 16384
noncomputable section
open Idealize.ShloMosaic Idealize.ShloMosaic.TcCoe Idealize.SL.Sem
namespace Attn
open Cert.KernelIdeal Cert.KernelIdeal.Gen Blocks

/-- Column `d` of head `h`. -/
def hcol (h : Fin 4) (d : Fin 128) : Fin 512 := ⟨128 * h.val + d.val, by omega⟩

/-- The score of key `k` for row `r` of head `h`: minus infinity above the diagonal, which is at key `lim + r`. -/
def score (Q : S512x512.Idx → EReal) (K : S8192x512.Idx → EReal) (lim : ℕ) (h : Fin 4) (r : Fin 512) (k : ℕ) : EReal :=
  if hk : k < 8192 then
    if k ≤ lim + r.val then ∑ d : Fin 128, Q (ix2 r (hcol h d)) * K (ix2 ⟨k, hk⟩ (hcol h d)) else ⊥
  else ⊥

/-- The value of key `k` of head `h`, lane by lane. -/
def value (V : S8192x512.Idx → EReal) (h : Fin 4) (k : ℕ) (l : Fin 128) : EReal :=
  if hk : k < 8192 then V (ix2 ⟨k, hk⟩ (hcol h l)) else 0

/-- The first `n` keys have been taken into the running maxima `M` and the accumulators `A`. -/
def State (Q : S512x512.Idx → EReal) (K V : S8192x512.Idx → EReal) (lim n : ℕ) (M A : S4x512x128.Idx → EReal) : Prop :=
  ∀ (h : Fin 4) (r : Fin 512),
    Seen (score Q K lim h r) (value V h) n (fun l => M (ix3 h r l)) (fun l => A (ix3 h r l))

theorem isReal_dot {Q : S512x512.Idx → EReal} {K : S8192x512.Idx → EReal} (hQ : ∀ y, IsReal (Q y)) (hK : ∀ y, IsReal (K y))
    (h : Fin 4) (r : Fin 512) (k : Fin 8192) : IsReal (∑ d : Fin 128, Q (ix2 r (hcol h d)) * K (ix2 k (hcol h d))) :=
  IsReal.sum _ _ fun _ _ => (hQ _).mul (hK _)

/-- A score is minus infinity or a real. -/
theorem logit_score {Q : S512x512.Idx → EReal} {K : S8192x512.Idx → EReal} (hQ : ∀ y, IsReal (Q y)) (hK : ∀ y, IsReal (K y))
    (lim : ℕ) (h : Fin 4) (r : Fin 512) (k : ℕ) : Logit (score Q K lim h r k) := by
  unfold score
  split_ifs with h1 h2
  · exact Or.inr (isReal_dot hQ hK h r ⟨k, h1⟩)
  · exact Or.inl rfl
  · exact Or.inl rfl

/-- A score on or below the diagonal is real. -/
theorem isReal_score {Q : S512x512.Idx → EReal} {K : S8192x512.Idx → EReal} (hQ : ∀ y, IsReal (Q y)) (hK : ∀ y, IsReal (K y))
    (lim : ℕ) (h : Fin 4) (r : Fin 512) (k : ℕ) (h1 : k < 8192) (h2 : k ≤ lim + r.val) : IsReal (score Q K lim h r k) := by
  unfold score
  rw [dif_pos h1, if_pos h2]
  exact isReal_dot hQ hK h r ⟨k, h1⟩

/-- The step of one block, for one head and row: `s` are the block's logits, `vb` its values. -/
theorem seen_block {Q : S512x512.Idx → EReal} {K V : S8192x512.Idx → EReal} (hQ : ∀ y, IsReal (Q y)) (hK : ∀ y, IsReal (K y))
    {lim n : ℕ} {h : Fin 4} {r : Fin 512} {M A : Fin 128 → EReal}
    (hS : Seen (score Q K lim h r) (value V h) n M A)
    (W : ℕ) (hW : 0 < W) (h1 : n + W ≤ 8192) (h2 : n ≤ lim)
    (s : Fin W → EReal) (hs : ∀ j : Fin W, score Q K lim h r (n + j.val) = s j)
    (vb : Fin W → Fin 128 → EReal) (hv : ∀ (j : Fin W) l, V (ix2 ⟨n + j.val, by omega⟩ (hcol h l)) = vb j l)
    (M' A' : Fin 128 → EReal)
    (hM : ∀ l, M' l = newMax (M l) s)
    (hA : ∀ l, A' l = Ideal.exp2 (M l - newMax (M l) s) * A l
      + ∑ j : Fin W, Ideal.exp2 (s j - newMax (M (lane j)) s) * vb j l) :
    Seen (score Q K lim h r) (value V h) (n + W) M' A' := by
  refine hS.step W hW (fun j _ => logit_score hQ hK lim h r _)
    (isReal_score hQ hK lim h r n (by omega) (by omega)) M' A' lane (fun l => ?_) fun l => ?_
  · rw [hM l]
    simp only [hs]
    rfl
  · rw [hA l]
    simp only [hs, hM]
    congr 1
    refine Finset.sum_congr rfl fun j _ => ?_
    rw [← hv j l]
    unfold value
    rw [dif_pos (by omega)]

/-- The block's logits are the scores of its keys, below the diagonal. -/
theorem score_dots {Q : S512x512.Idx → EReal} {K : S8192x512.Idx → EReal} {lim n W : ℕ} {h : Fin 4} {r : Fin 512}
    (h1 : n + W ≤ 8192) (h2 : n + W ≤ lim + 1)
    (q : FVec Ideal S512x128 .bf16) (hq : ∀ d, q (ix2 r d) = Q (ix2 r (hcol h d)))
    (kb : FVec Ideal (⟨2, ![W, 128]⟩ : Shape) .bf16)
    (hk : ∀ (j : Fin W) d, kb (ix2 j d) = K (ix2 ⟨n + j.val, by omega⟩ (hcol h d))) (j : Fin W) :
    score Q K lim h r (n + j.val) = dots q kb r j := by
  unfold score dots
  rw [dif_pos (by omega), if_pos (by omega)]
  exact Finset.sum_congr rfl fun d _ => by rw [hq, hk]

/-- The masked block's logits are the scores of its keys, the diagonal starting at its first key. -/
theorem score_maskedDots {Q : S512x512.Idx → EReal} {K : S8192x512.Idx → EReal} {n : ℕ} {h : Fin 4} {r : Fin 512}
    (h1 : n + 512 ≤ 8192)
    (q : FVec Ideal S512x128 .bf16) (hq : ∀ d, q (ix2 r d) = Q (ix2 r (hcol h d)))
    (kb : FVec Ideal S512x128 .bf16)
    (hk : ∀ (j : Fin 512) d, kb (ix2 j d) = K (ix2 ⟨n + j.val, by omega⟩ (hcol h d))) (j : Fin 512) :
    score Q K n h r (n + j.val) = maskedDots q kb r j := by
  unfold score maskedDots dots
  rw [dif_pos (by omega)]
  by_cases hj : j.val ≤ r.val
  · rw [if_pos (by omega), if_pos hj]
    exact Finset.sum_congr rfl fun d _ => by rw [hq, hk]
  · rw [if_neg (by omega), if_neg hj]

/-- The step of one unmasked block, from the loaded planes and blocks. -/
theorem seen_dots {Q : S512x512.Idx → EReal} {K V : S8192x512.Idx → EReal} (hQ : ∀ y, IsReal (Q y)) (hK : ∀ y, IsReal (K y))
    {lim n : ℕ} {h : Fin 4} {r : Fin 512} {M₀ A₀ : Fin 128 → EReal}
    (hS : Seen (score Q K lim h r) (value V h) n M₀ A₀)
    {W : ℕ} (hW : 0 < W) (h1 : n + W ≤ 8192) (h2 : n + W ≤ lim + 1)
    (q : FVec Ideal S512x128 .bf16) (hq : ∀ d, q (ix2 r d) = Q (ix2 r (hcol h d)))
    (kb vb : FVec Ideal (⟨2, ![W, 128]⟩ : Shape) .bf16)
    (hk : ∀ (j : Fin W) d, kb (ix2 j d) = K (ix2 ⟨n + j.val, by omega⟩ (hcol h d)))
    (hv : ∀ (j : Fin W) d, vb (ix2 j d) = V (ix2 ⟨n + j.val, by omega⟩ (hcol h d)))
    (M A : FVec Ideal S1x512x128 .f32) (hM₀ : ∀ l, M (ix3 (0 : Fin 1) r l) = M₀ l) (hA₀ : ∀ l, A (ix3 (0 : Fin 1) r l) = A₀ l)
    (M' A' : Fin 128 → EReal)
    (hM : ∀ l, M' l = newMax (M (ix3 (0 : Fin 1) r l)) (dots q kb r))
    (hA : ∀ l, A' l = Ideal.exp2 (M (ix3 (0 : Fin 1) r l) - newMax (M (ix3 (0 : Fin 1) r l)) (dots q kb r)) * A (ix3 (0 : Fin 1) r l)
      + ∑ j : Fin W, Ideal.exp2 (dots q kb r j - newMax (M (ix3 (0 : Fin 1) r (lane j))) (dots q kb r)) * vb (ix2 j l)) :
    Seen (score Q K lim h r) (value V h) (n + W) M' A' := by
  simp only [hM₀, hA₀] at hM hA
  exact seen_block hQ hK hS W hW h1 (by omega) (dots q kb r) (score_dots h1 h2 q hq kb hk) (fun j l => vb (ix2 j l))
    (fun j l => (hv j l).symm) M' A' hM hA

/-- The step of the masked block, from the loaded planes and blocks. -/
theorem seen_masked {Q : S512x512.Idx → EReal} {K V : S8192x512.Idx → EReal} (hQ : ∀ y, IsReal (Q y)) (hK : ∀ y, IsReal (K y))
    {n : ℕ} {h : Fin 4} {r : Fin 512} {M₀ A₀ : Fin 128 → EReal}
    (hS : Seen (score Q K n h r) (value V h) n M₀ A₀) (h1 : n + 512 ≤ 8192)
    (q : FVec Ideal S512x128 .bf16) (hq : ∀ d, q (ix2 r d) = Q (ix2 r (hcol h d)))
    (kb vb : FVec Ideal S512x128 .bf16)
    (hk : ∀ (j : Fin 512) d, kb (ix2 j d) = K (ix2 ⟨n + j.val, by omega⟩ (hcol h d)))
    (hv : ∀ (j : Fin 512) d, vb (ix2 j d) = V (ix2 ⟨n + j.val, by omega⟩ (hcol h d)))
    (M A : FVec Ideal S1x512x128 .f32) (hM₀ : ∀ l, M (ix3 (0 : Fin 1) r l) = M₀ l) (hA₀ : ∀ l, A (ix3 (0 : Fin 1) r l) = A₀ l)
    (A' : Fin 128 → EReal)
    (hA : ∀ l, A' l = Ideal.exp2 (M (ix3 (0 : Fin 1) r l) - newMax (M (ix3 (0 : Fin 1) r l)) (maskedDots q kb r))
        * A (ix3 (0 : Fin 1) r l)
      + ∑ j : Fin 512, Ideal.exp2 (maskedDots q kb r j - newMax (M (ix3 (0 : Fin 1) r (lane j))) (maskedDots q kb r))
        * vb (ix2 j l)) :
    Seen (score Q K n h r) (value V h) (n + 512) (fun l => newMax (M₀ l) (maskedDots q kb r)) A' := by
  simp only [hM₀, hA₀] at hA
  exact seen_block hQ hK hS 512 (by decide) h1 le_rfl (maskedDots q kb r) (score_maskedDots h1 q hq kb hk)
    (fun j l => vb (ix2 j l)) (fun j l => (hv j l).symm) _ A' (fun _ => rfl) hA

section Planes

variable {sig : RefSig} {κ : Kind} {sp : Space} {Val : EltTy → Type} {e : EltTy}

/-- A head's plane, just written. -/
theorem read_head (v : View sig κ sp S4x512x128 e) (f : v.ty.Contents Val) (h : ℕ) (hh : h < 4)
    (inb : ∀ a, (![h, 0, 0] : Fin 3 → ℕ) a + (![1, 512, 128] : Fin 3 → ℕ) a ≤ S4x512x128.size a)
    (w : (Rect.unit (s := S4x512x128) ![h, 0, 0] ![1, 512, 128] inb).shape.Idx → Val e) (L : List (View.Piece Val S4x512x128 e))
    (r : Fin 512) (l : Fin 128) :
    v.read Val (v.writes Val f ((⟨Rect.unit (s := S4x512x128) ![h, 0, 0] ![1, 512, 128] inb, w⟩ : View.Piece Val S4x512x128 e) :: L))
      (ix3 (⟨h, hh⟩ : Fin 4) r l) = w (ix3 (0 : Fin 1) r l) :=
  View.read_writes_cons_unit_of_mem v f inb w L _ (ix3 (0 : Fin 1) r l) rfl (Fin.forall_fin_succ.mpr ⟨rfl, Fin.forall_fin_two.mpr
    ⟨(Nat.zero_add _).symm, (Nat.zero_add _).symm⟩⟩)

/-- A head's plane under the write of another's. -/
theorem read_other (v : View sig κ sp S4x512x128 e) (f : v.ty.Contents Val) (h : Fin 4) (h' : ℕ) (hne : h.val ≠ h')
    (inb : ∀ a, (![h', 0, 0] : Fin 3 → ℕ) a + (![1, 512, 128] : Fin 3 → ℕ) a ≤ S4x512x128.size a)
    (w : (Rect.unit (s := S4x512x128) ![h', 0, 0] ![1, 512, 128] inb).shape.Idx → Val e) (L : List (View.Piece Val S4x512x128 e))
    (r : Fin 512) (l : Fin 128) :
    v.read Val (v.writes Val f ((⟨Rect.unit (s := S4x512x128) ![h', 0, 0] ![1, 512, 128] inb, w⟩ : View.Piece Val S4x512x128 e) :: L))
      (ix3 h r l) = v.read Val (v.writes Val f L) (ix3 h r l) :=
  View.read_writes_cons_unit_of_not_mem v f inb w L _ rfl (0 : Fin 3) (by
    show h.val < h' ∨ h' + 1 ≤ h.val
    omega)

/-- A load of a head's plane. -/
theorem load_head (v : View sig κ sp S4x512x128 e) (f : v.ty.Contents Val) (h : ℕ) (hh : h < 4)
    (inb : ∀ a, (![h, 0, 0] : Fin 3 → ℕ) a + (![1, 512, 128] : Fin 3 → ℕ) a ≤ S4x512x128.size a) (r : Fin 512) (l : Fin 128) :
    v.readAt Val (Rect.unit (s := S4x512x128) ![h, 0, 0] ![1, 512, 128] inb).toLoadRect f (ix3 (0 : Fin 1) r l)
      = v.read Val f (ix3 (⟨h, hh⟩ : Fin 4) r l) :=
  congrArg (v.read Val f) (funext (Fin.forall_fin_succ.mpr ⟨Fin.ext rfl, Fin.forall_fin_two.mpr
    ⟨Fin.ext (by show 0 + 1 * r.val = r.val; omega), Fin.ext (by show 0 + 1 * l.val = l.val; omega)⟩⟩))

/-- A load of some rows of one head's columns. -/
theorem load_rows {N W : ℕ} (v : View sig κ sp (⟨2, ![N, 512]⟩ : Shape) e) (f : v.ty.Contents Val) (off : Fin 2 → ℕ) (n c : ℕ)
    (inb : ∀ a, off a + (![W, 128] : Fin 2 → ℕ) a ≤ (⟨2, ![N, 512]⟩ : Shape).size a) (hoff : off = ![n, c]) (h : Fin 4)
    (hc : c = 128 * h.val) (j : Fin W) (d : Fin 128) (hn : n + j.val < N) :
    v.readAt Val (Rect.unit (s := (⟨2, ![N, 512]⟩ : Shape)) off ![W, 128] inb).toLoadRect f (ix2 j d)
      = v.read Val f (ix2 ⟨n + j.val, hn⟩ (hcol h d)) := by
  subst hoff hc
  exact congrArg (v.read Val f) (funext (Fin.forall_fin_two.mpr
    ⟨Fin.ext (by show n + 1 * j.val = n + j.val; omega), Fin.ext (by show 128 * h.val + 1 * d.val = 128 * h.val + d.val; omega)⟩))

end Planes

end Attn
end
end
-- ==== Proof.Operands.lean ====
module

public import proofs.«01_k».proof.Proof.State
public import proofs.«01_k».proof.Proof.Gen.KernelIdeal.Value
public import Idealize.ShloMosaic.Lib.Claim
public import Idealize.ShloMosaic.Lib.Pipeline.ValueKit

/-! # What the host hands the call

The queries scaled to the binary unit and padded with zero lanes, the keys padded with zero lanes, the values padded with
ones; each read at a row `8192 * b + s`, a head and a lane. -/

@[expose] public section
set_option maxRecDepth 16384
noncomputable section
open Idealize.ShloMosaic Idealize.ShloMosaic.TcCoe Idealize.SL.Sem
namespace Attn
open Cert.KernelIdeal Cert.KernelIdeal.Gen Blocks
variable (m : (ℓ : Loc nD τ sig) → Buf (Elt Ideal) ℓ)

/-- The queries' matrix, from the queries. -/
def hostQ (q : FVec Ideal S2x8192x4x96 .f32) : FVec Ideal S16384x512 .bf16 :=
  truncf .bf16 (shapeCast S16384x512
    (pad S2x8192x4x128 ![0, 0, 0, 0] ![0, 0, 0, 32] ![0, 0, 0, 0]
      (Host.divf
        (mulf q (broadcastInDim S2x8192x4x96 ![] bcast_S_S2x8192x4x96 (constant S_ FTy.f32 1037108716#32)))
        (broadcastInDim S2x8192x4x96 ![] bcast_S_S2x8192x4x96
          (Host.log (constant S_ FTy.f32 1073741824#32))))
      (sitofp .f32 (constantI S_ 32 0#32))
      pads_S2x8192x4x96_S2x8192x4x128_000_000_000_0320 h_S_)
    shapeCasts_S2x8192x4x128_S16384x512) bitsLt_bf16_f32

/-- The keys' matrix, from the keys. -/
def hostK (k : FVec Ideal S2x8192x4x96 .f32) : FVec Ideal S16384x512 .bf16 :=
  truncf .bf16 (shapeCast S16384x512
    (pad S2x8192x4x128 ![0, 0, 0, 0] ![0, 0, 0, 32] ![0, 0, 0, 0] k
      (sitofp .f32 (constantI S_ 32 0#32))
      pads_S2x8192x4x96_S2x8192x4x128_000_000_000_0320 h_S_)
    shapeCasts_S2x8192x4x128_S16384x512) bitsLt_bf16_f32

/-- The values' matrix, from the values. -/
def hostV (v : FVec Ideal S2x8192x4x64 .f32) : FVec Ideal S16384x512 .bf16 :=
  truncf .bf16 (shapeCast S16384x512
    (pad S2x8192x4x128 ![0, 0, 0, 0] ![0, 0, 0, 64] ![0, 0, 0, 0] v
      (constant S_ FTy.f32 1065353216#32)
      pads_S2x8192x4x64_S2x8192x4x128_000_000_000_0640 h_S_)
    shapeCasts_S2x8192x4x128_S16384x512) bitsLt_bf16_f32

theorem entryQ (c : Dev nD) : V m c main_v7 = hostQ (m ((c : Thread nD τ).loc main_arg0)) := by
  unfold V
  simp only [hostOps0, hostOps0_1, hostOps0_2, hostOps0_3, hostOps0_4, hostOps0_5, hostOps0_6, List.flatten_cons, List.flatten_nil, List.append_nil, List.cons_append,
      List.nil_append]
  after_results
  rfl

theorem entryK (c : Dev nD) : V m c main_v10 = hostK (m ((c : Thread nD τ).loc main_arg1)) := by
  unfold V
  simp only [hostOps0, hostOps0_1, hostOps0_2, hostOps0_3, hostOps0_4, hostOps0_5, hostOps0_6, List.flatten_cons, List.flatten_nil, List.append_nil, List.cons_append,
      List.nil_append]
  after_results
  rfl

theorem entryV (c : Dev nD) : V m c main_v13 = hostV (m ((c : Thread nD τ).loc main_arg2)) := by
  unfold V
  simp only [hostOps0, hostOps0_1, hostOps0_2, hostOps0_3, hostOps0_4, hostOps0_5, hostOps0_6, List.flatten_cons, List.flatten_nil, List.append_nil, List.cons_append,
      List.nil_append]
  after_results
  rfl

/-- Row `s` of batch `b` in the matrices. -/
def mrow (b : Fin 2) (s : Fin 8192) : Fin 16384 := ⟨8192 * b.val + s.val, by omega⟩

theorem scale_real : IsReal (Ideal.ofBits FTy.f32 1037108716#32) := by
  simp [Ideal.ofBits, Ideal.ieee]
  exact IsReal.mul ⟨13698540, rfl⟩ ⟨_, rfl⟩

theorem sitofp_zero : (FloatOps.sitofp FTy.f32 0#32 : Ideal FTy.f32) = (0 : EReal) := by
  show (((0#32 : BitVec 32).toInt : ℝ) : EReal) = 0
  simp

theorem log_two : Ideal.log (Ideal.ofBits FTy.f32 1073741824#32) = ((Real.log 2 : ℝ) : EReal) := by
  have : Ideal.ofBits FTy.f32 1073741824#32 = ((2 : ℝ) : EReal) := by
    simp [Ideal.ofBits, Ideal.ieee]
    rw [← EReal.coe_mul]
    norm_num
  rw [this]
  exact if_neg (by norm_num)

theorem hostQ_apply (q : FVec Ideal S2x8192x4x96 .f32) (b : Fin 2) (s : Fin 8192) (h : Fin 4) (d : Fin 128) :
    hostQ q (ix2 (mrow b s) (hcol h d)) = if hd : d.val < 96 then
      Ideal.div (q (ix4 b s h ⟨d.val, hd⟩) * Ideal.ofBits FTy.f32 1037108716#32) ((Real.log 2 : ℝ) : EReal) else (0 : EReal) := by
  pointwise [hostQ]
  rw [log_two]
  have h1 : (mrow b s).val / 8192 = b.val := by show (8192 * b.val + s.val) / 8192 = _; omega
  have h2 : (mrow b s).val % 8192 = s.val := by show (8192 * b.val + s.val) % 8192 = _; omega
  have h3 : (hcol h d).val / 128 = h.val := by show (128 * h.val + d.val) / 128 = _; omega
  have h4 : (hcol h d).val % 128 = d.val := by show (128 * h.val + d.val) % 128 = _; omega
  simp only [h1, h2, h3, h4, Fin.eta]
  by_cases hd : d.val < 96
  · rw [dif_pos ⟨b.isLt, s.isLt, h.isLt, hd⟩, dif_pos hd]
  · rw [dif_neg (fun e => hd e.2.2.2), dif_neg hd]; exact sitofp_zero

theorem hostK_apply (k : FVec Ideal S2x8192x4x96 .f32) (b : Fin 2) (s : Fin 8192) (h : Fin 4) (d : Fin 128) :
    hostK k (ix2 (mrow b s) (hcol h d)) = if hd : d.val < 96 then k (ix4 b s h ⟨d.val, hd⟩) else (0 : EReal) := by
  pointwise [hostK]
  have h1 : (mrow b s).val / 8192 = b.val := by show (8192 * b.val + s.val) / 8192 = _; omega
  have h2 : (mrow b s).val % 8192 = s.val := by show (8192 * b.val + s.val) % 8192 = _; omega
  have h3 : (hcol h d).val / 128 = h.val := by show (128 * h.val + d.val) / 128 = _; omega
  have h4 : (hcol h d).val % 128 = d.val := by show (128 * h.val + d.val) % 128 = _; omega
  simp only [h1, h2, h3, h4, Fin.eta]
  by_cases hd : d.val < 96
  · rw [dif_pos ⟨b.isLt, s.isLt, h.isLt, hd⟩, dif_pos hd]
  · rw [dif_neg (fun e => hd e.2.2.2), dif_neg hd]; exact sitofp_zero

theorem hostV_apply (v : FVec Ideal S2x8192x4x64 .f32) (b : Fin 2) (s : Fin 8192) (h : Fin 4) (d : Fin 128) :
    hostV v (ix2 (mrow b s) (hcol h d)) = if hd : d.val < 64 then v (ix4 b s h ⟨d.val, hd⟩) else (1 : EReal) := by
  pointwise [hostV]
  have h1 : (mrow b s).val / 8192 = b.val := by show (8192 * b.val + s.val) / 8192 = _; omega
  have h2 : (mrow b s).val % 8192 = s.val := by show (8192 * b.val + s.val) % 8192 = _; omega
  have h3 : (hcol h d).val / 128 = h.val := by show (128 * h.val + d.val) / 128 = _; omega
  have h4 : (hcol h d).val % 128 = d.val := by show (128 * h.val + d.val) % 128 = _; omega
  simp only [h1, h2, h3, h4, Fin.eta]
  by_cases hd : d.val < 64
  · rw [dif_pos ⟨b.isLt, s.isLt, h.isLt, hd⟩, dif_pos hd]
  · rw [dif_neg (fun e => hd e.2.2.2), dif_neg hd]

/-- A query's and a key's padded product, in the binary unit, against the logit in the natural unit. -/
theorem dot_logit (q k : FVec Ideal S2x8192x4x96 .f32) (hq : ∀ i, IsReal (q i)) (hk : ∀ i, IsReal (k i))
    (b : Fin 2) (s j : Fin 8192) (h : Fin 4) :
    ∃ r : ℝ, ∑ d : Fin 128, (hostQ q (ix2 (mrow b s) (hcol h d)) : EReal) * hostK k (ix2 (mrow b j) (hcol h d)) = (r : EReal) ∧
      (∑ d : Fin 96, (q (ix4 b s h d) : EReal) * k (ix4 b j h d)) * Ideal.ofBits FTy.f32 1037108716#32
        = ((r * Real.log 2 : ℝ) : EReal) := by
  choose q' hq' using hq
  choose k' hk' using hk
  obtain ⟨c, hc⟩ := scale_real
  have hl : Real.log 2 ≠ 0 := (Real.log_pos one_lt_two).ne'
  refine ⟨∑ d : Fin 96, q' (ix4 b s h d) * c * (1 / Real.log 2) * k' (ix4 b j h d), ?_, ?_⟩
  · refine (Fin.sum_univ_add (a := 96) (b := 32) _).trans ?_
    rw [coe_sum, Finset.sum_eq_zero (s := Finset.univ (α := Fin 32)), add_zero]
    · refine Finset.sum_congr rfl fun d _ => ?_
      rw [hostQ_apply, hostK_apply, dif_pos (show (Fin.castAdd 32 d).val < 96 from d.isLt), dif_pos (show (Fin.castAdd 32 d).val < 96 from d.isLt), hc,
        Ideal.div_coe hl]
      show q (ix4 b s h d) * _ * _ * k (ix4 b j h d) = _
      rw [hq', hk', ← EReal.coe_mul, ← EReal.coe_mul, ← EReal.coe_mul]
    · intro d _
      rw [hostQ_apply, dif_neg (show ¬ (Fin.natAdd 96 d).val < 96 from by simp), zero_mul]
  · simp only [hq', hk', hc, ← EReal.coe_mul]
    rw [← coe_sum, ← EReal.coe_mul]
    congr 1
    rw [Finset.sum_mul, Finset.sum_mul]
    refine Finset.sum_congr rfl fun d _ => ?_
    field_simp

/-- Every position of a matrix is a row of a batch and a lane of a head. -/
theorem pos_eq (y : S16384x512.Idx) : ∃ b s h d, y = ix2 (mrow b s) (hcol h d) := by
  idx_vars y
  refine ⟨⟨y0.val / 8192, by omega⟩, ⟨y0.val % 8192, by omega⟩, ⟨y1.val / 128, by omega⟩, ⟨y1.val % 128, by omega⟩, ?_⟩
  congr 1
  · exact Fin.ext (show y0.val = 8192 * (y0.val / 8192) + y0.val % 8192 by omega)
  · exact Fin.ext (show y1.val = 128 * (y1.val / 128) + y1.val % 128 by omega)

theorem isReal_hostQ (q : FVec Ideal S2x8192x4x96 .f32) (hq : ∀ i, IsReal (q i)) (y : S16384x512.Idx) : IsReal (hostQ q y) := by
  obtain ⟨b, s, h, d, rfl⟩ := pos_eq y
  rw [hostQ_apply]
  split
  · rw [Ideal.div_coe (Real.log_pos one_lt_two).ne']
    exact ((hq _).mul scale_real).mul ⟨_, rfl⟩
  · exact ⟨0, rfl⟩

theorem isReal_hostK (k : FVec Ideal S2x8192x4x96 .f32) (hk : ∀ i, IsReal (k i)) (y : S16384x512.Idx) : IsReal (hostK k y) := by
  obtain ⟨b, s, h, d, rfl⟩ := pos_eq y
  rw [hostK_apply]
  split
  · exact hk _
  · exact ⟨0, rfl⟩

end Attn
end
end
-- ==== Proof.Trip.lean ====
module
public import proofs.«01_k».proof.Proof.State

/-! # The loop over blocks of 1536 keys

One trip takes the next 1536 keys into the state; the loop takes all the whole blocks of 1536 keys before the
diagonal block. -/

@[expose] public section
set_option maxRecDepth 16384
noncomputable section
open Idealize.ShloMosaic Idealize.ShloMosaic.TcCoe Idealize.SL.Sem
namespace Attn
open Cert.KernelIdeal Cert.KernelIdeal.Gen Blocks

/-- The rows a trip loads. -/
theorem trip_rows (i : grid0.Coords) (k : Fin (k0_t1_loop i).trips) (hk : k.val < 6) :
    k0_off1 i k = ![1536 * k.val, 0] ∧ k0_off2 i k = ![1536 * k.val, 128] ∧ k0_off3 i k = ![1536 * k.val, 256]
      ∧ k0_off4 i k = ![1536 * k.val, 384] := by
  have h : ∀ a : Fin 6, (Scalar.indexCast (Scalar.muli (Scf.iv 0#32 1#32 a.val) 1536#32)).toNat = 1536 * a.val := by decide
  have h' := h ⟨k.val, hk⟩
  exact ⟨congrArg (fun n => ![n, 0]) h', congrArg (fun n => ![n, 128]) h', congrArg (fun n => ![n, 256]) h',
    congrArg (fun n => ![n, 384]) h'⟩

/-- One trip. -/
theorem trip_state (c : Dev nD) (i : grid0.Coords) (arg2 : Memref sig .tc .vmem S512x512 .bf16) (harg2 : arg2.IsWhole)
    (arg3 : Memref sig .tc .vmem S8192x512 .bf16) (harg3 : arg3.IsWhole) (arg4 : Memref sig .tc .vmem S8192x512 .bf16) (harg4 : arg4.IsWhole)
    (arg5 : Memref sig .tc .vmem S512x256 .f32) (harg5 : arg5.IsWhole) (arg6 : Memref sig .tc .vmem S4x512x128 .f32) (harg6 : arg6.IsWhole)
    (arg7 : Memref sig .tc .vmem S4x512x128 .f32) (harg7 : arg7.IsWhole)
    (X2 : BufTy.Contents (Elt Ideal) arg2.view.ty) (X3 : BufTy.Contents (Elt Ideal) arg3.view.ty)
    (X4 : BufTy.Contents (Elt Ideal) arg4.view.ty) (hQ : ∀ y, IsReal (arg2.view.read (Elt Ideal) X2 y))
    (hK : ∀ y, IsReal (arg3.view.read (Elt Ideal) X3 y)) (lim : ℕ) (hlim : lim + 512 ≤ 8192)
    (k : Fin (k0_t1_loop i).trips) (hk : 1536 * k.val + 1536 ≤ lim)
    (f6 : BufTy.Contents (Elt Ideal) arg6.view.ty) (f7 : BufTy.Contents (Elt Ideal) arg7.view.ty)
    (hS : State (arg2.view.read (Elt Ideal) X2) (arg3.view.read (Elt Ideal) X3) (arg4.view.read (Elt Ideal) X4) lim (1536 * k.val)
      (arg6.view.read (Elt Ideal) f6) (arg7.view.read (Elt Ideal) f7)) :
    State (arg2.view.read (Elt Ideal) X2) (arg3.view.read (Elt Ideal) X3) (arg4.view.read (Elt Ideal) X4) lim (1536 * k.val + 1536)
      (arg6.view.read (Elt Ideal) (arg6.view.writes (Elt Ideal) f6
        (tripL_k0_t1 (F := Ideal) Variants.none c none i arg2 harg2 arg3 harg3 arg4 harg4 arg5 harg5 arg6 harg6 arg7 harg7 X2 X3 X4 k f6 f7).1))
      (arg7.view.read (Elt Ideal) (arg7.view.writes (Elt Ideal) f7
        (tripL_k0_t1 (F := Ideal) Variants.none c none i arg2 harg2 arg3 harg3 arg4 harg4 arg5 harg5 arg6 harg6 arg7 harg7 X2 X3 X4 k f6 f7).2)) := by
  obtain ⟨o1, o2, o3, o4⟩ := trip_rows i k (by omega)
  unfold tripL_k0_t1 trip_k0_t1
  dsimp only
  intro h r
  rcases h with ⟨_ | _ | _ | _ | h, hh⟩
  · refine seen_dots hQ hK (hS 0 r) (W := 1536) (by decide) (by omega) (by omega)
      (arg2.view.readAt (Elt Ideal) (Rect.unit (s := S512x512) ![0, 0] S512x128.size inb_S512x512_S512x128_0_0).toLoadRect X2)
      (fun d => (load_rows _ _ _ 0 0 _ rfl 0 rfl r d (by omega)).trans (by simp only [Nat.zero_add]))
      (arg3.view.readAt (Elt Ideal) (Rect.unit (s := S8192x512) (k0_off1 i k) S1536x128.size (k0_off1_inb i k)).toLoadRect X3)
      (arg4.view.readAt (Elt Ideal) (Rect.unit (s := S8192x512) (k0_off1 i k) S1536x128.size (k0_off1_inb i k)).toLoadRect X4)
      (fun j d => load_rows _ _ _ _ _ _ o1 0 rfl j d (by omega))
      (fun j d => load_rows _ _ _ _ _ _ o1 0 rfl j d (by omega))
      (arg6.view.readAt (Elt Ideal) (Rect.unit (s := S4x512x128) ![0, 0, 0] S1x512x128.size inb_S4x512x128_S1x512x128_0_0_0).toLoadRect f6)
      (arg7.view.readAt (Elt Ideal) (Rect.unit (s := S4x512x128) ![0, 0, 0] S1x512x128.size inb_S4x512x128_S1x512x128_0_0_0).toLoadRect f7)
      (fun l => load_head _ _ 0 (by decide) _ r l) (fun l => load_head _ _ 0 (by decide) _ r l) _ _
      (fun l => (read_other _ _ 0 3 (by decide) _ _ _ r l).trans <| (read_other _ _ 0 2 (by decide) _ _ _ r l).trans <| (read_other _ _ 0 1 (by decide) _ _ _ r l).trans <| (read_head _ _ 0 (by decide) _ _ _ r l).trans <|  max1536 _ _ _ r l)
      fun l => (read_other _ _ 0 3 (by decide) _ _ _ r l).trans <| (read_other _ _ 0 2 (by decide) _ _ _ r l).trans <| (read_other _ _ 0 1 (by decide) _ _ _ r l).trans <| (read_head _ _ 0 (by decide) _ _ _ r l).trans <|  acc1536 _ _ _ _ _ r l

  · refine seen_dots hQ hK (hS 1 r) (W := 1536) (by decide) (by omega) (by omega)
      (arg2.view.readAt (Elt Ideal) (Rect.unit (s := S512x512) ![0, 128] S512x128.size inb_S512x512_S512x128_0_128).toLoadRect X2)
      (fun d => (load_rows _ _ _ 0 128 _ rfl 1 rfl r d (by omega)).trans (by simp only [Nat.zero_add]))
      (arg3.view.readAt (Elt Ideal) (Rect.unit (s := S8192x512) (k0_off2 i k) S1536x128.size (k0_off2_inb i k)).toLoadRect X3)
      (arg4.view.readAt (Elt Ideal) (Rect.unit (s := S8192x512) (k0_off2 i k) S1536x128.size (k0_off2_inb i k)).toLoadRect X4)
      (fun j d => load_rows _ _ _ _ _ _ o2 1 rfl j d (by omega))
      (fun j d => load_rows _ _ _ _ _ _ o2 1 rfl j d (by omega))
      (arg6.view.readAt (Elt Ideal) (Rect.unit (s := S4x512x128) ![1, 0, 0] S1x512x128.size inb_S4x512x128_S1x512x128_1_0_0).toLoadRect f6)
      (arg7.view.readAt (Elt Ideal) (Rect.unit (s := S4x512x128) ![1, 0, 0] S1x512x128.size inb_S4x512x128_S1x512x128_1_0_0).toLoadRect f7)
      (fun l => load_head _ _ 1 (by decide) _ r l) (fun l => load_head _ _ 1 (by decide) _ r l) _ _
      (fun l => (read_other _ _ 1 3 (by decide) _ _ _ r l).trans <| (read_other _ _ 1 2 (by decide) _ _ _ r l).trans <| (read_head _ _ 1 (by decide) _ _ _ r l).trans <|  max1536 _ _ _ r l)
      fun l => (read_other _ _ 1 3 (by decide) _ _ _ r l).trans <| (read_other _ _ 1 2 (by decide) _ _ _ r l).trans <| (read_head _ _ 1 (by decide) _ _ _ r l).trans <|  acc1536 _ _ _ _ _ r l

  · refine seen_dots hQ hK (hS 2 r) (W := 1536) (by decide) (by omega) (by omega)
      (arg2.view.readAt (Elt Ideal) (Rect.unit (s := S512x512) ![0, 256] S512x128.size inb_S512x512_S512x128_0_256).toLoadRect X2)
      (fun d => (load_rows _ _ _ 0 256 _ rfl 2 rfl r d (by omega)).trans (by simp only [Nat.zero_add]))
      (arg3.view.readAt (Elt Ideal) (Rect.unit (s := S8192x512) (k0_off3 i k) S1536x128.size (k0_off3_inb i k)).toLoadRect X3)
      (arg4.view.readAt (Elt Ideal) (Rect.unit (s := S8192x512) (k0_off3 i k) S1536x128.size (k0_off3_inb i k)).toLoadRect X4)
      (fun j d => load_rows _ _ _ _ _ _ o3 2 rfl j d (by omega))
      (fun j d => load_rows _ _ _ _ _ _ o3 2 rfl j d (by omega))
      (arg6.view.readAt (Elt Ideal) (Rect.unit (s := S4x512x128) ![2, 0, 0] S1x512x128.size inb_S4x512x128_S1x512x128_2_0_0).toLoadRect f6)
      (arg7.view.readAt (Elt Ideal) (Rect.unit (s := S4x512x128) ![2, 0, 0] S1x512x128.size inb_S4x512x128_S1x512x128_2_0_0).toLoadRect f7)
      (fun l => load_head _ _ 2 (by decide) _ r l) (fun l => load_head _ _ 2 (by decide) _ r l) _ _
      (fun l => (read_other _ _ 2 3 (by decide) _ _ _ r l).trans <| (read_head _ _ 2 (by decide) _ _ _ r l).trans <|  max1536 _ _ _ r l)
      fun l => (read_other _ _ 2 3 (by decide) _ _ _ r l).trans <| (read_head _ _ 2 (by decide) _ _ _ r l).trans <|  acc1536 _ _ _ _ _ r l

  · refine seen_dots hQ hK (hS 3 r) (W := 1536) (by decide) (by omega) (by omega)
      (arg2.view.readAt (Elt Ideal) (Rect.unit (s := S512x512) ![0, 384] S512x128.size inb_S512x512_S512x128_0_384).toLoadRect X2)
      (fun d => (load_rows _ _ _ 0 384 _ rfl 3 rfl r d (by omega)).trans (by simp only [Nat.zero_add]))
      (arg3.view.readAt (Elt Ideal) (Rect.unit (s := S8192x512) (k0_off4 i k) S1536x128.size (k0_off4_inb i k)).toLoadRect X3)
      (arg4.view.readAt (Elt Ideal) (Rect.unit (s := S8192x512) (k0_off4 i k) S1536x128.size (k0_off4_inb i k)).toLoadRect X4)
      (fun j d => load_rows _ _ _ _ _ _ o4 3 rfl j d (by omega))
      (fun j d => load_rows _ _ _ _ _ _ o4 3 rfl j d (by omega))
      (arg6.view.readAt (Elt Ideal) (Rect.unit (s := S4x512x128) ![3, 0, 0] S1x512x128.size inb_S4x512x128_S1x512x128_3_0_0).toLoadRect f6)
      (arg7.view.readAt (Elt Ideal) (Rect.unit (s := S4x512x128) ![3, 0, 0] S1x512x128.size inb_S4x512x128_S1x512x128_3_0_0).toLoadRect f7)
      (fun l => load_head _ _ 3 (by decide) _ r l) (fun l => load_head _ _ 3 (by decide) _ r l) _ _
      (fun l => (read_head _ _ 3 (by decide) _ _ _ r l).trans <|  max1536 _ _ _ r l)
      fun l => (read_head _ _ 3 (by decide) _ _ _ r l).trans <|  acc1536 _ _ _ _ _ r l
  · omega

end Attn
end
end
-- ==== Proof.Loop.lean ====
module
public import proofs.«01_k».proof.Proof.Trip

/-! # The loop over whole blocks, from the fill of the scratch

After the loop over blocks of 1536 keys, and the loop behind it that makes no trip, the scratch holds the first
`1536 * trips` keys. -/

@[expose] public section
set_option maxRecDepth 16384
noncomputable section
open Idealize.ShloMosaic Idealize.ShloMosaic.TcCoe Idealize.SL.Sem
namespace Attn
open Cert.KernelIdeal Cert.KernelIdeal.Gen Blocks

/-- The first `n` trips of the loop. -/
theorem loop_state (c : Dev nD) (i : grid0.Coords) (arg2 : Memref sig .tc .vmem S512x512 .bf16) (harg2 : arg2.IsWhole)
    (arg3 : Memref sig .tc .vmem S8192x512 .bf16) (harg3 : arg3.IsWhole) (arg4 : Memref sig .tc .vmem S8192x512 .bf16) (harg4 : arg4.IsWhole)
    (arg5 : Memref sig .tc .vmem S512x256 .f32) (harg5 : arg5.IsWhole) (arg6 : Memref sig .tc .vmem S4x512x128 .f32) (harg6 : arg6.IsWhole)
    (arg7 : Memref sig .tc .vmem S4x512x128 .f32) (harg7 : arg7.IsWhole)
    (X2 : BufTy.Contents (Elt Ideal) arg2.view.ty) (X3 : BufTy.Contents (Elt Ideal) arg3.view.ty)
    (X4 : BufTy.Contents (Elt Ideal) arg4.view.ty) (hQ : ∀ y, IsReal (arg2.view.read (Elt Ideal) X2 y))
    (hK : ∀ y, IsReal (arg3.view.read (Elt Ideal) X3 y)) (lim : ℕ) (hlim : lim + 512 ≤ 8192)
    (f6 : BufTy.Contents (Elt Ideal) arg6.view.ty) (f7 : BufTy.Contents (Elt Ideal) arg7.view.ty)
    (hS : State (arg2.view.read (Elt Ideal) X2) (arg3.view.read (Elt Ideal) X3) (arg4.view.read (Elt Ideal) X4) lim 0
      (arg6.view.read (Elt Ideal) f6) (arg7.view.read (Elt Ideal) f7)) (n : ℕ) :
    n ≤ (k0_t1_loop i).trips → 1536 * n ≤ lim → State (arg2.view.read (Elt Ideal) X2) (arg3.view.read (Elt Ideal) X3) (arg4.view.read (Elt Ideal) X4) lim (1536 * n)
      (arg6.view.read (Elt Ideal) (arg6.view.writes (Elt Ideal) f6 (pb_k0_t1 (F := Ideal) Variants.none c none i arg2 harg2 arg3 harg3 arg4 harg4 arg5 harg5 arg6 harg6 arg7 harg7 X2 X3 X4 f6 f7 n).1))
      (arg7.view.read (Elt Ideal) (arg7.view.writes (Elt Ideal) f7 (pb_k0_t1 (F := Ideal) Variants.none c none i arg2 harg2 arg3 harg3 arg4 harg4 arg5 harg5 arg6 harg6 arg7 harg7 X2 X3 X4 f6 f7 n).2)) := by
  induction n with
  | zero => exact fun _ _ => hS
  | succ n ih =>
    intro hn hl
    have h := trip_state c i arg2 harg2 arg3 harg3 arg4 harg4 arg5 harg5 arg6 harg6 arg7 harg7 X2 X3 X4 hQ hK lim hlim ⟨n, hn⟩ (by
      show 1536 * n + 1536 ≤ lim
      omega) _ _ (ih (by omega) (by omega))
    rw [← View.writes_append, ← View.writes_append] at h
    have e := pb_k0_t1_succ (F := Ideal) Variants.none c none i arg2 harg2 arg3 harg3 arg4 harg4 arg5 harg5 arg6 harg6 arg7 harg7 X2 X3 X4 f6 f7 ⟨n, hn⟩
    rw [show n + 1 = (⟨n, hn⟩ : Fin (k0_t1_loop i).trips).val + 1 from rfl, e]
    exact h

/-- The fill of the maxima. -/
def fill6 : List (View.Piece (Elt Ideal) S4x512x128 .f32) :=
  [⟨Rect.unit ![0, 0, 0] S4x512x128.size inb_S4x512x128_S4x512x128_0_0_0, k0_pay108 (F := Ideal)⟩]

/-- The fill of the accumulators. -/
def fill7 : List (View.Piece (Elt Ideal) S4x512x128 .f32) :=
  [⟨Rect.unit ![0, 0, 0] S4x512x128.size inb_S4x512x128_S4x512x128_0_0_0, k0_pay109 (F := Ideal)⟩]

/-- A buffer filled throughout. -/
theorem read_fill {sig : RefSig} {κ : Kind} {sp : Space} {Val : EltTy → Type} {e : EltTy} (v : View sig κ sp S4x512x128 e)
    (f : v.ty.Contents Val) (inb : ∀ a, (![0, 0, 0] : Fin 3 → ℕ) a + S4x512x128.size a ≤ S4x512x128.size a)
    (w : S4x512x128.Idx → Val e) (h : Fin 4) (r : Fin 512) (l : Fin 128) :
    v.read Val (v.writes Val f [(⟨Rect.unit (s := S4x512x128) ![0, 0, 0] S4x512x128.size inb, w⟩ : View.Piece Val S4x512x128 e)])
      (ix3 h r l) = w (ix3 h r l) :=
  View.read_writes_cons_unit_of_mem v f inb w [] _ (ix3 h r l) rfl (Fin.forall_fin_succ.mpr ⟨(Nat.zero_add _).symm, Fin.forall_fin_two.mpr
    ⟨(Nat.zero_add _).symm, (Nat.zero_add _).symm⟩⟩)

/-- The filled scratch holds no key. -/
theorem fill_state (Q : S512x512.Idx → EReal) (K V : S8192x512.Idx → EReal) (lim : ℕ)
    (arg6 : Memref sig .tc .vmem S4x512x128 .f32) (arg7 : Memref sig .tc .vmem S4x512x128 .f32)
    (f6 : BufTy.Contents (Elt Ideal) arg6.view.ty) (f7 : BufTy.Contents (Elt Ideal) arg7.view.ty) :
    State Q K V lim 0 (arg6.view.read (Elt Ideal) (arg6.view.writes (Elt Ideal) f6 fill6))
      (arg7.view.read (Elt Ideal) (arg7.view.writes (Elt Ideal) f7 fill7)) := by
  intro h r
  exact Or.inl ⟨rfl, fun l => ⟨(read_fill _ _ _ _ h r l).trans (init_max _), (read_fill _ _ _ _ h r l).trans (init_acc _)⟩⟩

/-- The writes to the maxima through both loops, last first. -/
def base6 (c : Dev nD) (i : grid0.Coords) (arg2 : Memref sig .tc .vmem S512x512 .bf16) (harg2 : arg2.IsWhole)
    (arg3 : Memref sig .tc .vmem S8192x512 .bf16) (harg3 : arg3.IsWhole) (arg4 : Memref sig .tc .vmem S8192x512 .bf16) (harg4 : arg4.IsWhole)
    (arg5 : Memref sig .tc .vmem S512x256 .f32) (harg5 : arg5.IsWhole) (arg6 : Memref sig .tc .vmem S4x512x128 .f32) (harg6 : arg6.IsWhole)
    (arg7 : Memref sig .tc .vmem S4x512x128 .f32) (harg7 : arg7.IsWhole)
    (w : BitVec 32)
    (X2 : BufTy.Contents (Elt Ideal) arg2.view.ty) (X3 : BufTy.Contents (Elt Ideal) arg3.view.ty)
    (X4 : BufTy.Contents (Elt Ideal) arg4.view.ty) : List (View.Piece (Elt Ideal) S4x512x128 .f32) :=
  (pb_k0_t2 (F := Ideal) Variants.none c none i arg2 harg2 arg3 harg3 arg4 harg4 arg5 harg5 arg6 harg6 arg7 harg7 w X2 X3 X4
      (arg6.view.writes (Elt Ideal) arg6.view.junk ((pb_k0_t1 (F := Ideal) Variants.none c none i arg2 harg2 arg3 harg3 arg4 harg4 arg5 harg5 arg6 harg6 arg7 harg7 X2 X3 X4 (arg6.view.writes (Elt Ideal) arg6.view.junk fill6) (arg7.view.writes (Elt Ideal) arg7.view.junk fill7) (Scf.trips (k0_t1_loop i).lb (k0_t1_loop i).ub (k0_t1_loop i).st)).1 ++ fill6))
      (arg7.view.writes (Elt Ideal) arg7.view.junk ((pb_k0_t1 (F := Ideal) Variants.none c none i arg2 harg2 arg3 harg3 arg4 harg4 arg5 harg5 arg6 harg6 arg7 harg7 X2 X3 X4 (arg6.view.writes (Elt Ideal) arg6.view.junk fill6) (arg7.view.writes (Elt Ideal) arg7.view.junk fill7) (Scf.trips (k0_t1_loop i).lb (k0_t1_loop i).ub (k0_t1_loop i).st)).2 ++ fill7))
      (Scf.trips (k0_t2_loop i).lb (k0_t2_loop i).ub (k0_t2_loop i).st)).1
    ++ ((pb_k0_t1 (F := Ideal) Variants.none c none i arg2 harg2 arg3 harg3 arg4 harg4 arg5 harg5 arg6 harg6 arg7 harg7 X2 X3 X4 (arg6.view.writes (Elt Ideal) arg6.view.junk fill6) (arg7.view.writes (Elt Ideal) arg7.view.junk fill7) (Scf.trips (k0_t1_loop i).lb (k0_t1_loop i).ub (k0_t1_loop i).st)).1 ++ fill6)

/-- The writes to the accumulators through both loops, last first. -/
def base7 (c : Dev nD) (i : grid0.Coords) (arg2 : Memref sig .tc .vmem S512x512 .bf16) (harg2 : arg2.IsWhole)
    (arg3 : Memref sig .tc .vmem S8192x512 .bf16) (harg3 : arg3.IsWhole) (arg4 : Memref sig .tc .vmem S8192x512 .bf16) (harg4 : arg4.IsWhole)
    (arg5 : Memref sig .tc .vmem S512x256 .f32) (harg5 : arg5.IsWhole) (arg6 : Memref sig .tc .vmem S4x512x128 .f32) (harg6 : arg6.IsWhole)
    (arg7 : Memref sig .tc .vmem S4x512x128 .f32) (harg7 : arg7.IsWhole)
    (w : BitVec 32)
    (X2 : BufTy.Contents (Elt Ideal) arg2.view.ty) (X3 : BufTy.Contents (Elt Ideal) arg3.view.ty)
    (X4 : BufTy.Contents (Elt Ideal) arg4.view.ty) : List (View.Piece (Elt Ideal) S4x512x128 .f32) :=
  (pb_k0_t2 (F := Ideal) Variants.none c none i arg2 harg2 arg3 harg3 arg4 harg4 arg5 harg5 arg6 harg6 arg7 harg7 w X2 X3 X4
      (arg6.view.writes (Elt Ideal) arg6.view.junk ((pb_k0_t1 (F := Ideal) Variants.none c none i arg2 harg2 arg3 harg3 arg4 harg4 arg5 harg5 arg6 harg6 arg7 harg7 X2 X3 X4 (arg6.view.writes (Elt Ideal) arg6.view.junk fill6) (arg7.view.writes (Elt Ideal) arg7.view.junk fill7) (Scf.trips (k0_t1_loop i).lb (k0_t1_loop i).ub (k0_t1_loop i).st)).1 ++ fill6))
      (arg7.view.writes (Elt Ideal) arg7.view.junk ((pb_k0_t1 (F := Ideal) Variants.none c none i arg2 harg2 arg3 harg3 arg4 harg4 arg5 harg5 arg6 harg6 arg7 harg7 X2 X3 X4 (arg6.view.writes (Elt Ideal) arg6.view.junk fill6) (arg7.view.writes (Elt Ideal) arg7.view.junk fill7) (Scf.trips (k0_t1_loop i).lb (k0_t1_loop i).ub (k0_t1_loop i).st)).2 ++ fill7))
      (Scf.trips (k0_t2_loop i).lb (k0_t2_loop i).ub (k0_t2_loop i).st)).2
    ++ ((pb_k0_t1 (F := Ideal) Variants.none c none i arg2 harg2 arg3 harg3 arg4 harg4 arg5 harg5 arg6 harg6 arg7 harg7 X2 X3 X4 (arg6.view.writes (Elt Ideal) arg6.view.junk fill6) (arg7.view.writes (Elt Ideal) arg7.view.junk fill7) (Scf.trips (k0_t1_loop i).lb (k0_t1_loop i).ub (k0_t1_loop i).st)).2 ++ fill7)

/-- The scratch after both loops. -/
theorem base_state (c : Dev nD) (i : grid0.Coords) (arg2 : Memref sig .tc .vmem S512x512 .bf16) (harg2 : arg2.IsWhole)
    (arg3 : Memref sig .tc .vmem S8192x512 .bf16) (harg3 : arg3.IsWhole) (arg4 : Memref sig .tc .vmem S8192x512 .bf16) (harg4 : arg4.IsWhole)
    (arg5 : Memref sig .tc .vmem S512x256 .f32) (harg5 : arg5.IsWhole) (arg6 : Memref sig .tc .vmem S4x512x128 .f32) (harg6 : arg6.IsWhole)
    (arg7 : Memref sig .tc .vmem S4x512x128 .f32) (harg7 : arg7.IsWhole)
    (w : BitVec 32)
    (X2 : BufTy.Contents (Elt Ideal) arg2.view.ty) (X3 : BufTy.Contents (Elt Ideal) arg3.view.ty)
    (X4 : BufTy.Contents (Elt Ideal) arg4.view.ty) (hQ : ∀ y, IsReal (arg2.view.read (Elt Ideal) X2 y))
    (hK : ∀ y, IsReal (arg3.view.read (Elt Ideal) X3 y)) (lim : ℕ) (hlim : lim + 512 ≤ 8192) (n : ℕ)
    (t1 : 1536 * (k0_t1_loop i).trips = n) (hn : n ≤ lim) (t2 : (k0_t2_loop i).trips = 0) :
    State (arg2.view.read (Elt Ideal) X2) (arg3.view.read (Elt Ideal) X3) (arg4.view.read (Elt Ideal) X4) lim n
      (arg6.view.read (Elt Ideal) (arg6.view.writes (Elt Ideal) arg6.view.junk (base6 c i arg2 harg2 arg3 harg3 arg4 harg4 arg5 harg5 arg6 harg6 arg7 harg7 w X2 X3 X4)))
      (arg7.view.read (Elt Ideal) (arg7.view.writes (Elt Ideal) arg7.view.junk (base7 c i arg2 harg2 arg3 harg3 arg4 harg4 arg5 harg5 arg6 harg6 arg7 harg7 w X2 X3 X4))) := by
  subst t1
  have h := loop_state c i arg2 harg2 arg3 harg3 arg4 harg4 arg5 harg5 arg6 harg6 arg7 harg7 X2 X3 X4 hQ hK lim hlim _ _
    (fill_state _ _ _ lim arg6 arg7 arg6.view.junk arg7.view.junk) _ le_rfl hn
  rw [← View.writes_append, ← View.writes_append] at h
  unfold base6 base7
  rw [show Scf.trips (k0_t2_loop i).lb (k0_t2_loop i).ub (k0_t2_loop i).st = 0 from t2]
  exact h

/-- An output column: lane `l` of head `h`. -/
def ocol (h : Fin 4) (l : Fin 64) : Fin 256 := ⟨64 * h.val + l.val, by omega⟩

/-- A lane of the values. -/
def vlane (l : Fin 64) : Fin 128 := ⟨l.val, by omega⟩

/-- The first head of a pair: its quotient. -/
theorem quot_fst {s : ℕ → EReal} {v : ℕ → Fin 128 → EReal} {n : ℕ} {M : Fin 128 → EReal} (A A' : FVec Ideal S1x512x128 .f32)
    (r : Fin 512) (hS : Seen s v n M (fun l => A (ix3 (0 : Fin 1) r l))) (hn : 0 < n) (hs : IsReal (s 0))
    (hv : ∀ k, k < n → ∀ l : Fin 128, 64 ≤ l.val → v k l = 1) (l : Fin 64) :
    k0_pay152 (F := Ideal) A A' (ix2 r (vlane l)) = mean s v n (vlane l) := by
  refine (quot A A' r _).trans ?_
  rw [if_pos (show (vlane l).val < 64 from l.isLt)]
  refine hS.div_eq 0 hn hs (vlane l) (far (vlane l)) fun k hk => hv k hk _ ?_
  show 64 ≤ (l.val + 64) % 128
  omega

/-- The second head of a pair: its quotient. -/
theorem quot_snd {s : ℕ → EReal} {v : ℕ → Fin 128 → EReal} {n : ℕ} {M : Fin 128 → EReal} (A A' : FVec Ideal S1x512x128 .f32)
    (r : Fin 512) (hS : Seen s v n M (fun l => A' (ix3 (0 : Fin 1) r l))) (hn : 0 < n) (hs : IsReal (s 0))
    (hv : ∀ k, k < n → ∀ l : Fin 128, 64 ≤ l.val → v k l = 1) (l : Fin 64) :
    k0_pay152 (F := Ideal) A A' (ix2 r (far (vlane l))) = mean s v n (vlane l) := by
  refine (quot A A' r _).trans ?_
  have h1 : (far (vlane l)).val = l.val + 64 := by
    show (l.val + 64) % 128 = l.val + 64
    omega
  rw [if_neg (by omega), far_far]
  exact hS.div_eq 0 hn hs (vlane l) (far (vlane l)) fun k hk => hv k hk _ (by omega)

section Out

variable {sig : RefSig} {κ : Kind} {sp : Space} {Val : EltTy → Type} {e : EltTy}

/-- A pair of heads of the output block, just written. -/
theorem read_pair (v : View sig κ sp S512x256 e) (f : v.ty.Contents Val) (o : ℕ)
    (inb : ∀ a, (![0, o] : Fin 2 → ℕ) a + (![512, 128] : Fin 2 → ℕ) a ≤ S512x256.size a)
    (w : (Rect.unit (s := S512x256) ![0, o] ![512, 128] inb).shape.Idx → Val e) (L : List (View.Piece Val S512x256 e))
    (r : Fin 512) (x : Fin 256) (l : Fin 128) (hx : x.val = o + l.val) :
    v.read Val (v.writes Val f ((⟨Rect.unit (s := S512x256) ![0, o] ![512, 128] inb, w⟩ : View.Piece Val S512x256 e) :: L))
      (ix2 r x) = w (ix2 r l) :=
  View.read_writes_cons_unit_of_mem v f inb w L _ (ix2 r l) rfl (Fin.forall_fin_two.mpr ⟨(Nat.zero_add _).symm, hx⟩)

/-- The first pair of heads, under the write of the second. -/
theorem read_pair_other (v : View sig κ sp S512x256 e) (f : v.ty.Contents Val)
    (inb : ∀ a, (![0, 128] : Fin 2 → ℕ) a + (![512, 128] : Fin 2 → ℕ) a ≤ S512x256.size a)
    (w : (Rect.unit (s := S512x256) ![0, 128] ![512, 128] inb).shape.Idx → Val e) (L : List (View.Piece Val S512x256 e))
    (r : Fin 512) (x : Fin 256) (hx : x.val < 128) :
    v.read Val (v.writes Val f ((⟨Rect.unit (s := S512x256) ![0, 128] ![512, 128] inb, w⟩ : View.Piece Val S512x256 e) :: L))
      (ix2 r x) = v.read Val (v.writes Val f L) (ix2 r x) :=
  View.read_writes_cons_unit_of_not_mem v f inb w L _ rfl (1 : Fin 2) (Or.inl hx)

end Out

end Attn
end
end
-- ==== Proof.CaseA.lean ====
module
public import proofs.«01_k».proof.Proof.Loop

/-! # A grid point whose keys before the diagonal block are whole blocks of 1536

The output block's entry is the softmax mean over the keys up to and including the diagonal block. -/

@[expose] public section
set_option maxRecDepth 16384
noncomputable section
open Idealize.ShloMosaic Idealize.ShloMosaic.TcCoe Idealize.SL.Sem
namespace Attn
open Cert.KernelIdeal Cert.KernelIdeal.Gen Blocks

/-- The block's entries. -/
theorem outA_mean (c : Dev nD) (i : grid0.Coords) (arg2 : Memref sig .tc .vmem S512x512 .bf16) (harg2 : arg2.IsWhole)
    (arg3 : Memref sig .tc .vmem S8192x512 .bf16) (harg3 : arg3.IsWhole) (arg4 : Memref sig .tc .vmem S8192x512 .bf16) (harg4 : arg4.IsWhole)
    (arg5 : Memref sig .tc .vmem S512x256 .f32) (harg5 : arg5.IsWhole) (arg6 : Memref sig .tc .vmem S4x512x128 .f32) (harg6 : arg6.IsWhole)
    (arg7 : Memref sig .tc .vmem S4x512x128 .f32) (harg7 : arg7.IsWhole)
    (hc0 : ¬cond0_0 i) (hc1 : ¬cond0_1 i)
    (x0 : Vec Ideal S512x512 .bf16) (x1 x2 : Vec Ideal S8192x512 .bf16)
    (hQ : ∀ y, IsReal (arg2.view.read (Elt Ideal) (harg2.unread x0) y)) (hK : ∀ y, IsReal (arg3.view.read (Elt Ideal) (harg3.unread x1) y))
    (n : ℕ) (hlim : n + 0 + 512 ≤ 8192) (t1 : 1536 * (k0_t1_loop i).trips = n) (t2 : (k0_t2_loop i).trips = 0)

    (o0 : k0_off17 i = ![n + 0, 0])    (o1 : k0_off18 i = ![n + 0, 128])    (o2 : k0_off19 i = ![n + 0, 256])    (o3 : k0_off20 i = ![n + 0, 384])
    (hV : ∀ (k : Fin 8192) (h : Fin 4) (l : Fin 128), 64 ≤ l.val → arg4.view.read (Elt Ideal) (harg4.unread x2) (ix2 k (hcol h l)) = 1)
    (r : Fin 512) (h : Fin 4) (l : Fin 64) :
    out0_A_3 (F := Ideal) c i arg2 harg2 arg3 harg3 arg4 harg4 arg5 harg5 arg6 harg6 arg7 harg7 hc0 hc1 x0 x1 x2 (ix2 r (ocol h l))
      = mean (score (arg2.view.read (Elt Ideal) (harg2.unread x0)) (arg3.view.read (Elt Ideal) (harg3.unread x1)) (n + 0) h r)
          (value (arg4.view.read (Elt Ideal) (harg4.unread x2)) h) (n + 0 + 512) (vlane l) := by
  have hS := base_state c i arg2 harg2 arg3 harg3 arg4 harg4 arg5 harg5 arg6 harg6 arg7 harg7 (kernelRun0_A.sl.v30 i) (harg2.unread x0) (harg3.unread x1) (harg4.unread x2) hQ hK (n + 0) hlim n t1 (by omega) t2
  have hv : ∀ (h : Fin 4) (k : ℕ), k < n + 0 + 512 → ∀ l : Fin 128, 64 ≤ l.val →
      value (arg4.view.read (Elt Ideal) (harg4.unread x2)) h k l = 1 := by
    intro h k hk l hl
    unfold value
    rw [dif_pos (by omega)]
    exact hV _ _ _ hl
  have hs : ∀ h : Fin 4, IsReal (score (arg2.view.read (Elt Ideal) (harg2.unread x0)) (arg3.view.read (Elt Ideal) (harg3.unread x1)) (n + 0) h r 0) :=
    fun h => isReal_score hQ hK (n + 0) h r 0 (by omega) (by omega)
  unfold out0_A_3 kernelRun0_A
  dsimp only
  rcases h with ⟨_ | _ | _ | _ | h, hh⟩
  · refine (read_pair_other _ _ _ _ _ r _ (by show 64 * 0 + l.val < 128; omega)).trans <| (read_pair _ _ 0 _ _ _ r _ (vlane l) (by show 64 * 0 + l.val = 0 + l.val; omega)).trans <|
      quot_fst (kernelRun0_A.sl.v202 (F := Ideal) c i arg2 harg2 arg3 harg3 arg4 harg4 arg5 harg5 arg6 harg6 arg7 harg7 x0 x1 x2) (kernelRun0_A.sl.v204 (F := Ideal) c i arg2 harg2 arg3 harg3 arg4 harg4 arg5 harg5 arg6 harg6 arg7 harg7 x0 x1 x2) r (seen_masked hQ hK (hS 0 r) hlim
      (arg2.view.readAt (Elt Ideal) (Rect.unit (s := S512x512) ![0, 0] S512x128.size inb_S512x512_S512x128_0_0).toLoadRect (harg2.unread x0))
      (fun d => (load_rows _ _ _ 0 0 _ rfl 0 rfl r d (by omega)).trans (by simp only [Nat.zero_add]))
      (arg3.view.readAt (Elt Ideal) (Rect.unit (s := S8192x512) (k0_off17 i) S512x128.size (k0_off17_inb i)).toLoadRect (harg3.unread x1))
      (arg4.view.readAt (Elt Ideal) (Rect.unit (s := S8192x512) (k0_off17 i) S512x128.size (k0_off17_inb i)).toLoadRect (harg4.unread x2))
      (fun j d => load_rows _ _ _ _ _ _ o0 0 rfl j d (by omega))
      (fun j d => load_rows _ _ _ _ _ _ o0 0 rfl j d (by omega))
      (arg6.view.readAt (Elt Ideal) (Rect.unit (s := S4x512x128) ![0, 0, 0] S1x512x128.size inb_S4x512x128_S1x512x128_0_0_0).toLoadRect (arg6.view.writes (Elt Ideal) arg6.view.junk (base6 c i arg2 harg2 arg3 harg3 arg4 harg4 arg5 harg5 arg6 harg6 arg7 harg7 (kernelRun0_A.sl.v30 i) (harg2.unread x0) (harg3.unread x1) (harg4.unread x2))))
      (arg7.view.readAt (Elt Ideal) (Rect.unit (s := S4x512x128) ![0, 0, 0] S1x512x128.size inb_S4x512x128_S1x512x128_0_0_0).toLoadRect (arg7.view.writes (Elt Ideal) arg7.view.junk (base7 c i arg2 harg2 arg3 harg3 arg4 harg4 arg5 harg5 arg6 harg6 arg7 harg7 (kernelRun0_A.sl.v30 i) (harg2.unread x0) (harg3.unread x1) (harg4.unread x2))))
      (fun l => (load_head _ _ 0 (by decide) _ r l)) (fun l => (load_head _ _ 0 (by decide) _ r l)) _
      (fun l => (load_head _ _ 0 (by decide) _ r l).trans <| (read_other _ _ 0 3 (by decide) _ _ _ r l).trans <| (read_other _ _ 0 2 (by decide) _ _ _ r l).trans <| (read_other _ _ 0 1 (by decide) _ _ _ r l).trans <| (read_head _ _ 0 (by decide) _ _ _ r l).trans <|  accMasked _ _ _ _ _ r l)) (by omega) (hs 0) (hv 0) l
  · refine (read_pair_other _ _ _ _ _ r _ (by show 64 * 1 + l.val < 128; omega)).trans <| (read_pair _ _ 0 _ _ _ r _ (far (vlane l)) (by show 64 * 1 + l.val = 0 + (l.val + 64) % 128; omega)).trans <|
      quot_snd (kernelRun0_A.sl.v202 (F := Ideal) c i arg2 harg2 arg3 harg3 arg4 harg4 arg5 harg5 arg6 harg6 arg7 harg7 x0 x1 x2) (kernelRun0_A.sl.v204 (F := Ideal) c i arg2 harg2 arg3 harg3 arg4 harg4 arg5 harg5 arg6 harg6 arg7 harg7 x0 x1 x2) r (seen_masked hQ hK (hS 1 r) hlim
      (arg2.view.readAt (Elt Ideal) (Rect.unit (s := S512x512) ![0, 128] S512x128.size inb_S512x512_S512x128_0_128).toLoadRect (harg2.unread x0))
      (fun d => (load_rows _ _ _ 0 128 _ rfl 1 rfl r d (by omega)).trans (by simp only [Nat.zero_add]))
      (arg3.view.readAt (Elt Ideal) (Rect.unit (s := S8192x512) (k0_off18 i) S512x128.size (k0_off18_inb i)).toLoadRect (harg3.unread x1))
      (arg4.view.readAt (Elt Ideal) (Rect.unit (s := S8192x512) (k0_off18 i) S512x128.size (k0_off18_inb i)).toLoadRect (harg4.unread x2))
      (fun j d => load_rows _ _ _ _ _ _ o1 1 rfl j d (by omega))
      (fun j d => load_rows _ _ _ _ _ _ o1 1 rfl j d (by omega))
      (arg6.view.readAt (Elt Ideal) (Rect.unit (s := S4x512x128) ![1, 0, 0] S1x512x128.size inb_S4x512x128_S1x512x128_1_0_0).toLoadRect (arg6.view.writes (Elt Ideal) arg6.view.junk (kernelRun0_A.sl.HS0_1_1 (F := Ideal) c i arg2 harg2 arg3 harg3 arg4 harg4 arg5 harg5 arg6 harg6 arg7 harg7 x0 x1 x2)))
      (arg7.view.readAt (Elt Ideal) (Rect.unit (s := S4x512x128) ![1, 0, 0] S1x512x128.size inb_S4x512x128_S1x512x128_1_0_0).toLoadRect (arg7.view.writes (Elt Ideal) arg7.view.junk (kernelRun0_A.sl.HS1_1_1 (F := Ideal) c i arg2 harg2 arg3 harg3 arg4 harg4 arg5 harg5 arg6 harg6 arg7 harg7 x0 x1 x2)))
      (fun l => (load_head _ _ 1 (by decide) _ r l).trans <| read_other _ _ 1 0 (by decide) _ _ _ r l) (fun l => (load_head _ _ 1 (by decide) _ r l).trans <| read_other _ _ 1 0 (by decide) _ _ _ r l) _
      (fun l => (load_head _ _ 1 (by decide) _ r l).trans <| (read_other _ _ 1 3 (by decide) _ _ _ r l).trans <| (read_other _ _ 1 2 (by decide) _ _ _ r l).trans <| (read_head _ _ 1 (by decide) _ _ _ r l).trans <|  accMasked _ _ _ _ _ r l)) (by omega) (hs 1) (hv 1) l
  · refine (read_pair _ _ 128 _ _ _ r _ (vlane l) (by show 64 * 2 + l.val = 128 + l.val; omega)).trans <|
      quot_fst (kernelRun0_A.sl.v213 (F := Ideal) c i arg2 harg2 arg3 harg3 arg4 harg4 arg5 harg5 arg6 harg6 arg7 harg7 x0 x1 x2) (kernelRun0_A.sl.v215 (F := Ideal) c i arg2 harg2 arg3 harg3 arg4 harg4 arg5 harg5 arg6 harg6 arg7 harg7 x0 x1 x2) r (seen_masked hQ hK (hS 2 r) hlim
      (arg2.view.readAt (Elt Ideal) (Rect.unit (s := S512x512) ![0, 256] S512x128.size inb_S512x512_S512x128_0_256).toLoadRect (harg2.unread x0))
      (fun d => (load_rows _ _ _ 0 256 _ rfl 2 rfl r d (by omega)).trans (by simp only [Nat.zero_add]))
      (arg3.view.readAt (Elt Ideal) (Rect.unit (s := S8192x512) (k0_off19 i) S512x128.size (k0_off19_inb i)).toLoadRect (harg3.unread x1))
      (arg4.view.readAt (Elt Ideal) (Rect.unit (s := S8192x512) (k0_off19 i) S512x128.size (k0_off19_inb i)).toLoadRect (harg4.unread x2))
      (fun j d => load_rows _ _ _ _ _ _ o2 2 rfl j d (by omega))
      (fun j d => load_rows _ _ _ _ _ _ o2 2 rfl j d (by omega))
      (arg6.view.readAt (Elt Ideal) (Rect.unit (s := S4x512x128) ![2, 0, 0] S1x512x128.size inb_S4x512x128_S1x512x128_2_0_0).toLoadRect (arg6.view.writes (Elt Ideal) arg6.view.junk (kernelRun0_A.sl.HS0_2 (F := Ideal) c i arg2 harg2 arg3 harg3 arg4 harg4 arg5 harg5 arg6 harg6 arg7 harg7 x0 x1 x2)))
      (arg7.view.readAt (Elt Ideal) (Rect.unit (s := S4x512x128) ![2, 0, 0] S1x512x128.size inb_S4x512x128_S1x512x128_2_0_0).toLoadRect (arg7.view.writes (Elt Ideal) arg7.view.junk (kernelRun0_A.sl.HS1_2 (F := Ideal) c i arg2 harg2 arg3 harg3 arg4 harg4 arg5 harg5 arg6 harg6 arg7 harg7 x0 x1 x2)))
      (fun l => (load_head _ _ 2 (by decide) _ r l).trans <| (read_other _ _ 2 1 (by decide) _ _ _ r l).trans <| read_other _ _ 2 0 (by decide) _ _ _ r l) (fun l => (load_head _ _ 2 (by decide) _ r l).trans <| (read_other _ _ 2 1 (by decide) _ _ _ r l).trans <| read_other _ _ 2 0 (by decide) _ _ _ r l) _
      (fun l => (load_head _ _ 2 (by decide) _ r l).trans <| (read_other _ _ 2 3 (by decide) _ _ _ r l).trans <| (read_head _ _ 2 (by decide) _ _ _ r l).trans <|  accMasked _ _ _ _ _ r l)) (by omega) (hs 2) (hv 2) l
  · refine (read_pair _ _ 128 _ _ _ r _ (far (vlane l)) (by show 64 * 3 + l.val = 128 + (l.val + 64) % 128; omega)).trans <|
      quot_snd (kernelRun0_A.sl.v213 (F := Ideal) c i arg2 harg2 arg3 harg3 arg4 harg4 arg5 harg5 arg6 harg6 arg7 harg7 x0 x1 x2) (kernelRun0_A.sl.v215 (F := Ideal) c i arg2 harg2 arg3 harg3 arg4 harg4 arg5 harg5 arg6 harg6 arg7 harg7 x0 x1 x2) r (seen_masked hQ hK (hS 3 r) hlim
      (arg2.view.readAt (Elt Ideal) (Rect.unit (s := S512x512) ![0, 384] S512x128.size inb_S512x512_S512x128_0_384).toLoadRect (harg2.unread x0))
      (fun d => (load_rows _ _ _ 0 384 _ rfl 3 rfl r d (by omega)).trans (by simp only [Nat.zero_add]))
      (arg3.view.readAt (Elt Ideal) (Rect.unit (s := S8192x512) (k0_off20 i) S512x128.size (k0_off20_inb i)).toLoadRect (harg3.unread x1))
      (arg4.view.readAt (Elt Ideal) (Rect.unit (s := S8192x512) (k0_off20 i) S512x128.size (k0_off20_inb i)).toLoadRect (harg4.unread x2))
      (fun j d => load_rows _ _ _ _ _ _ o3 3 rfl j d (by omega))
      (fun j d => load_rows _ _ _ _ _ _ o3 3 rfl j d (by omega))
      (arg6.view.readAt (Elt Ideal) (Rect.unit (s := S4x512x128) ![3, 0, 0] S1x512x128.size inb_S4x512x128_S1x512x128_3_0_0).toLoadRect (arg6.view.writes (Elt Ideal) arg6.view.junk (kernelRun0_A.sl.HS0_3 (F := Ideal) c i arg2 harg2 arg3 harg3 arg4 harg4 arg5 harg5 arg6 harg6 arg7 harg7 x0 x1 x2)))
      (arg7.view.readAt (Elt Ideal) (Rect.unit (s := S4x512x128) ![3, 0, 0] S1x512x128.size inb_S4x512x128_S1x512x128_3_0_0).toLoadRect (arg7.view.writes (Elt Ideal) arg7.view.junk (kernelRun0_A.sl.HS1_3 (F := Ideal) c i arg2 harg2 arg3 harg3 arg4 harg4 arg5 harg5 arg6 harg6 arg7 harg7 x0 x1 x2)))
      (fun l => (load_head _ _ 3 (by decide) _ r l).trans <| (read_other _ _ 3 2 (by decide) _ _ _ r l).trans <| (read_other _ _ 3 1 (by decide) _ _ _ r l).trans <| read_other _ _ 3 0 (by decide) _ _ _ r l) (fun l => (load_head _ _ 3 (by decide) _ r l).trans <| (read_other _ _ 3 2 (by decide) _ _ _ r l).trans <| (read_other _ _ 3 1 (by decide) _ _ _ r l).trans <| read_other _ _ 3 0 (by decide) _ _ _ r l) _
      (fun l => (load_head _ _ 3 (by decide) _ r l).trans <| (read_head _ _ 3 (by decide) _ _ _ r l).trans <|  accMasked _ _ _ _ _ r l)) (by omega) (hs 3) (hv 3) l
  · exact absurd hh (by omega)

end Attn
end
end
-- ==== Proof.CaseB.lean ====
module
public import proofs.«01_k».proof.Proof.Loop

/-! # A grid point with 512 keys left between the blocks of 1536 and the diagonal block

The output block's entry is the softmax mean over the keys up to and including the diagonal block. -/

@[expose] public section
set_option maxRecDepth 16384
noncomputable section
open Idealize.ShloMosaic Idealize.ShloMosaic.TcCoe Idealize.SL.Sem
namespace Attn
open Cert.KernelIdeal Cert.KernelIdeal.Gen Blocks

/-- The left-over block of 512 keys. -/
theorem mid_stateB (c : Dev nD) (i : grid0.Coords) (arg2 : Memref sig .tc .vmem S512x512 .bf16) (harg2 : arg2.IsWhole)
    (arg3 : Memref sig .tc .vmem S8192x512 .bf16) (harg3 : arg3.IsWhole) (arg4 : Memref sig .tc .vmem S8192x512 .bf16) (harg4 : arg4.IsWhole)
    (arg5 : Memref sig .tc .vmem S512x256 .f32) (harg5 : arg5.IsWhole) (arg6 : Memref sig .tc .vmem S4x512x128 .f32) (harg6 : arg6.IsWhole)
    (arg7 : Memref sig .tc .vmem S4x512x128 .f32) (harg7 : arg7.IsWhole)
    (hc0 : ¬cond0_0 i) (hc1 : cond0_1 i)
    (x0 : Vec Ideal S512x512 .bf16) (x1 x2 : Vec Ideal S8192x512 .bf16)
    (hQ : ∀ y, IsReal (arg2.view.read (Elt Ideal) (harg2.unread x0) y)) (hK : ∀ y, IsReal (arg3.view.read (Elt Ideal) (harg3.unread x1) y))
    (n : ℕ) (hlim : n + 512 + 512 ≤ 8192) (t1 : 1536 * (k0_t1_loop i).trips = n) (t2 : (k0_t2_loop i).trips = 0)
    (p0 : k0_off13 i = ![n, 0])    (p1 : k0_off14 i = ![n, 128])    (p2 : k0_off15 i = ![n, 256])    (p3 : k0_off16 i = ![n, 384]) :
    State (arg2.view.read (Elt Ideal) (harg2.unread x0)) (arg3.view.read (Elt Ideal) (harg3.unread x1)) (arg4.view.read (Elt Ideal) (harg4.unread x2)) (n + 512) (n + 512)
      (arg6.view.read (Elt Ideal) (arg6.view.writes (Elt Ideal) arg6.view.junk (kernelRun0_B.sl.HS0_4 (F := Ideal) c i arg2 harg2 arg3 harg3 arg4 harg4 arg5 harg5 arg6 harg6 arg7 harg7 hc1 x0 x1 x2)))
      (arg7.view.read (Elt Ideal) (arg7.view.writes (Elt Ideal) arg7.view.junk (kernelRun0_B.sl.HS1_4 (F := Ideal) c i arg2 harg2 arg3 harg3 arg4 harg4 arg5 harg5 arg6 harg6 arg7 harg7 hc1 x0 x1 x2))) := by
  have hS := base_state c i arg2 harg2 arg3 harg3 arg4 harg4 arg5 harg5 arg6 harg6 arg7 harg7 (kernelRun0_B.sl.v30 i) (harg2.unread x0) (harg3.unread x1) (harg4.unread x2) hQ hK (n + 512) hlim n t1 (by omega) t2
  intro h r
  rcases h with ⟨_ | _ | _ | _ | h, hh⟩
  · exact seen_dots hQ hK (hS 0 r) (W := 512) (by decide) (by omega) (by omega)
      (arg2.view.readAt (Elt Ideal) (Rect.unit (s := S512x512) ![0, 0] S512x128.size inb_S512x512_S512x128_0_0).toLoadRect (harg2.unread x0))
      (fun d => (load_rows _ _ _ 0 0 _ rfl 0 rfl r d (by omega)).trans (by simp only [Nat.zero_add]))
      (arg3.view.readAt (Elt Ideal) (Rect.unit (s := S8192x512) (k0_off13 i) S512x128.size (k0_off13_inb i hc1)).toLoadRect (harg3.unread x1))
      (arg4.view.readAt (Elt Ideal) (Rect.unit (s := S8192x512) (k0_off13 i) S512x128.size (k0_off13_inb i hc1)).toLoadRect (harg4.unread x2))
      (fun j d => load_rows _ _ _ _ _ _ p0 0 rfl j d (by omega))
      (fun j d => load_rows _ _ _ _ _ _ p0 0 rfl j d (by omega))
      (arg6.view.readAt (Elt Ideal) (Rect.unit (s := S4x512x128) ![0, 0, 0] S1x512x128.size inb_S4x512x128_S1x512x128_0_0_0).toLoadRect (arg6.view.writes (Elt Ideal) arg6.view.junk (base6 c i arg2 harg2 arg3 harg3 arg4 harg4 arg5 harg5 arg6 harg6 arg7 harg7 (kernelRun0_B.sl.v30 i) (harg2.unread x0) (harg3.unread x1) (harg4.unread x2))))
      (arg7.view.readAt (Elt Ideal) (Rect.unit (s := S4x512x128) ![0, 0, 0] S1x512x128.size inb_S4x512x128_S1x512x128_0_0_0).toLoadRect (arg7.view.writes (Elt Ideal) arg7.view.junk (base7 c i arg2 harg2 arg3 harg3 arg4 harg4 arg5 harg5 arg6 harg6 arg7 harg7 (kernelRun0_B.sl.v30 i) (harg2.unread x0) (harg3.unread x1) (harg4.unread x2))))
      (fun l => (load_head _ _ 0 (by decide) _ r l)) (fun l => (load_head _ _ 0 (by decide) _ r l)) _ _
      (fun l => (read_other _ _ 0 3 (by decide) _ _ _ r l).trans <| (read_other _ _ 0 2 (by decide) _ _ _ r l).trans <| (read_other _ _ 0 1 (by decide) _ _ _ r l).trans <| (read_head _ _ 0 (by decide) _ _ _ r l).trans <|  max512 _ _ _ r l)
      fun l => (read_other _ _ 0 3 (by decide) _ _ _ r l).trans <| (read_other _ _ 0 2 (by decide) _ _ _ r l).trans <| (read_other _ _ 0 1 (by decide) _ _ _ r l).trans <| (read_head _ _ 0 (by decide) _ _ _ r l).trans <|  acc512 _ _ _ _ _ r l
  · exact seen_dots hQ hK (hS 1 r) (W := 512) (by decide) (by omega) (by omega)
      (arg2.view.readAt (Elt Ideal) (Rect.unit (s := S512x512) ![0, 128] S512x128.size inb_S512x512_S512x128_0_128).toLoadRect (harg2.unread x0))
      (fun d => (load_rows _ _ _ 0 128 _ rfl 1 rfl r d (by omega)).trans (by simp only [Nat.zero_add]))
      (arg3.view.readAt (Elt Ideal) (Rect.unit (s := S8192x512) (k0_off14 i) S512x128.size (k0_off14_inb i hc1)).toLoadRect (harg3.unread x1))
      (arg4.view.readAt (Elt Ideal) (Rect.unit (s := S8192x512) (k0_off14 i) S512x128.size (k0_off14_inb i hc1)).toLoadRect (harg4.unread x2))
      (fun j d => load_rows _ _ _ _ _ _ p1 1 rfl j d (by omega))
      (fun j d => load_rows _ _ _ _ _ _ p1 1 rfl j d (by omega))
      (arg6.view.readAt (Elt Ideal) (Rect.unit (s := S4x512x128) ![1, 0, 0] S1x512x128.size inb_S4x512x128_S1x512x128_1_0_0).toLoadRect (arg6.view.writes (Elt Ideal) arg6.view.junk (kernelRun0_B.sl.HS0_1_1 (F := Ideal) c i arg2 harg2 arg3 harg3 arg4 harg4 arg5 harg5 arg6 harg6 arg7 harg7 hc1 x0 x1 x2)))
      (arg7.view.readAt (Elt Ideal) (Rect.unit (s := S4x512x128) ![1, 0, 0] S1x512x128.size inb_S4x512x128_S1x512x128_1_0_0).toLoadRect (arg7.view.writes (Elt Ideal) arg7.view.junk (kernelRun0_B.sl.HS1_1_1 (F := Ideal) c i arg2 harg2 arg3 harg3 arg4 harg4 arg5 harg5 arg6 harg6 arg7 harg7 hc1 x0 x1 x2)))
      (fun l => (load_head _ _ 1 (by decide) _ r l).trans <| read_other _ _ 1 0 (by decide) _ _ _ r l) (fun l => (load_head _ _ 1 (by decide) _ r l).trans <| read_other _ _ 1 0 (by decide) _ _ _ r l) _ _
      (fun l => (read_other _ _ 1 3 (by decide) _ _ _ r l).trans <| (read_other _ _ 1 2 (by decide) _ _ _ r l).trans <| (read_head _ _ 1 (by decide) _ _ _ r l).trans <|  max512 _ _ _ r l)
      fun l => (read_other _ _ 1 3 (by decide) _ _ _ r l).trans <| (read_other _ _ 1 2 (by decide) _ _ _ r l).trans <| (read_head _ _ 1 (by decide) _ _ _ r l).trans <|  acc512 _ _ _ _ _ r l
  · exact seen_dots hQ hK (hS 2 r) (W := 512) (by decide) (by omega) (by omega)
      (arg2.view.readAt (Elt Ideal) (Rect.unit (s := S512x512) ![0, 256] S512x128.size inb_S512x512_S512x128_0_256).toLoadRect (harg2.unread x0))
      (fun d => (load_rows _ _ _ 0 256 _ rfl 2 rfl r d (by omega)).trans (by simp only [Nat.zero_add]))
      (arg3.view.readAt (Elt Ideal) (Rect.unit (s := S8192x512) (k0_off15 i) S512x128.size (k0_off15_inb i hc1)).toLoadRect (harg3.unread x1))
      (arg4.view.readAt (Elt Ideal) (Rect.unit (s := S8192x512) (k0_off15 i) S512x128.size (k0_off15_inb i hc1)).toLoadRect (harg4.unread x2))
      (fun j d => load_rows _ _ _ _ _ _ p2 2 rfl j d (by omega))
      (fun j d => load_rows _ _ _ _ _ _ p2 2 rfl j d (by omega))
      (arg6.view.readAt (Elt Ideal) (Rect.unit (s := S4x512x128) ![2, 0, 0] S1x512x128.size inb_S4x512x128_S1x512x128_2_0_0).toLoadRect (arg6.view.writes (Elt Ideal) arg6.view.junk (kernelRun0_B.sl.HS0_2 (F := Ideal) c i arg2 harg2 arg3 harg3 arg4 harg4 arg5 harg5 arg6 harg6 arg7 harg7 hc1 x0 x1 x2)))
      (arg7.view.readAt (Elt Ideal) (Rect.unit (s := S4x512x128) ![2, 0, 0] S1x512x128.size inb_S4x512x128_S1x512x128_2_0_0).toLoadRect (arg7.view.writes (Elt Ideal) arg7.view.junk (kernelRun0_B.sl.HS1_2 (F := Ideal) c i arg2 harg2 arg3 harg3 arg4 harg4 arg5 harg5 arg6 harg6 arg7 harg7 hc1 x0 x1 x2)))
      (fun l => (load_head _ _ 2 (by decide) _ r l).trans <| (read_other _ _ 2 1 (by decide) _ _ _ r l).trans <| read_other _ _ 2 0 (by decide) _ _ _ r l) (fun l => (load_head _ _ 2 (by decide) _ r l).trans <| (read_other _ _ 2 1 (by decide) _ _ _ r l).trans <| read_other _ _ 2 0 (by decide) _ _ _ r l) _ _
      (fun l => (read_other _ _ 2 3 (by decide) _ _ _ r l).trans <| (read_head _ _ 2 (by decide) _ _ _ r l).trans <|  max512 _ _ _ r l)
      fun l => (read_other _ _ 2 3 (by decide) _ _ _ r l).trans <| (read_head _ _ 2 (by decide) _ _ _ r l).trans <|  acc512 _ _ _ _ _ r l
  · exact seen_dots hQ hK (hS 3 r) (W := 512) (by decide) (by omega) (by omega)
      (arg2.view.readAt (Elt Ideal) (Rect.unit (s := S512x512) ![0, 384] S512x128.size inb_S512x512_S512x128_0_384).toLoadRect (harg2.unread x0))
      (fun d => (load_rows _ _ _ 0 384 _ rfl 3 rfl r d (by omega)).trans (by simp only [Nat.zero_add]))
      (arg3.view.readAt (Elt Ideal) (Rect.unit (s := S8192x512) (k0_off16 i) S512x128.size (k0_off16_inb i hc1)).toLoadRect (harg3.unread x1))
      (arg4.view.readAt (Elt Ideal) (Rect.unit (s := S8192x512) (k0_off16 i) S512x128.size (k0_off16_inb i hc1)).toLoadRect (harg4.unread x2))
      (fun j d => load_rows _ _ _ _ _ _ p3 3 rfl j d (by omega))
      (fun j d => load_rows _ _ _ _ _ _ p3 3 rfl j d (by omega))
      (arg6.view.readAt (Elt Ideal) (Rect.unit (s := S4x512x128) ![3, 0, 0] S1x512x128.size inb_S4x512x128_S1x512x128_3_0_0).toLoadRect (arg6.view.writes (Elt Ideal) arg6.view.junk (kernelRun0_B.sl.HS0_3 (F := Ideal) c i arg2 harg2 arg3 harg3 arg4 harg4 arg5 harg5 arg6 harg6 arg7 harg7 hc1 x0 x1 x2)))
      (arg7.view.readAt (Elt Ideal) (Rect.unit (s := S4x512x128) ![3, 0, 0] S1x512x128.size inb_S4x512x128_S1x512x128_3_0_0).toLoadRect (arg7.view.writes (Elt Ideal) arg7.view.junk (kernelRun0_B.sl.HS1_3 (F := Ideal) c i arg2 harg2 arg3 harg3 arg4 harg4 arg5 harg5 arg6 harg6 arg7 harg7 hc1 x0 x1 x2)))
      (fun l => (load_head _ _ 3 (by decide) _ r l).trans <| (read_other _ _ 3 2 (by decide) _ _ _ r l).trans <| (read_other _ _ 3 1 (by decide) _ _ _ r l).trans <| read_other _ _ 3 0 (by decide) _ _ _ r l) (fun l => (load_head _ _ 3 (by decide) _ r l).trans <| (read_other _ _ 3 2 (by decide) _ _ _ r l).trans <| (read_other _ _ 3 1 (by decide) _ _ _ r l).trans <| read_other _ _ 3 0 (by decide) _ _ _ r l) _ _
      (fun l => (read_head _ _ 3 (by decide) _ _ _ r l).trans <|  max512 _ _ _ r l)
      fun l => (read_head _ _ 3 (by decide) _ _ _ r l).trans <|  acc512 _ _ _ _ _ r l
  · exact absurd hh (by omega)

/-- The block's entries. -/
theorem outB_mean (c : Dev nD) (i : grid0.Coords) (arg2 : Memref sig .tc .vmem S512x512 .bf16) (harg2 : arg2.IsWhole)
    (arg3 : Memref sig .tc .vmem S8192x512 .bf16) (harg3 : arg3.IsWhole) (arg4 : Memref sig .tc .vmem S8192x512 .bf16) (harg4 : arg4.IsWhole)
    (arg5 : Memref sig .tc .vmem S512x256 .f32) (harg5 : arg5.IsWhole) (arg6 : Memref sig .tc .vmem S4x512x128 .f32) (harg6 : arg6.IsWhole)
    (arg7 : Memref sig .tc .vmem S4x512x128 .f32) (harg7 : arg7.IsWhole)
    (hc0 : ¬cond0_0 i) (hc1 : cond0_1 i)
    (x0 : Vec Ideal S512x512 .bf16) (x1 x2 : Vec Ideal S8192x512 .bf16)
    (hQ : ∀ y, IsReal (arg2.view.read (Elt Ideal) (harg2.unread x0) y)) (hK : ∀ y, IsReal (arg3.view.read (Elt Ideal) (harg3.unread x1) y))
    (n : ℕ) (hlim : n + 512 + 512 ≤ 8192) (t1 : 1536 * (k0_t1_loop i).trips = n) (t2 : (k0_t2_loop i).trips = 0)
    (p0 : k0_off13 i = ![n, 0])    (p1 : k0_off14 i = ![n, 128])    (p2 : k0_off15 i = ![n, 256])    (p3 : k0_off16 i = ![n, 384])
    (o0 : k0_off17 i = ![n + 512, 0])    (o1 : k0_off18 i = ![n + 512, 128])    (o2 : k0_off19 i = ![n + 512, 256])    (o3 : k0_off20 i = ![n + 512, 384])
    (hV : ∀ (k : Fin 8192) (h : Fin 4) (l : Fin 128), 64 ≤ l.val → arg4.view.read (Elt Ideal) (harg4.unread x2) (ix2 k (hcol h l)) = 1)
    (r : Fin 512) (h : Fin 4) (l : Fin 64) :
    out0_B_3 (F := Ideal) c i arg2 harg2 arg3 harg3 arg4 harg4 arg5 harg5 arg6 harg6 arg7 harg7 hc0 hc1 x0 x1 x2 (ix2 r (ocol h l))
      = mean (score (arg2.view.read (Elt Ideal) (harg2.unread x0)) (arg3.view.read (Elt Ideal) (harg3.unread x1)) (n + 512) h r)
          (value (arg4.view.read (Elt Ideal) (harg4.unread x2)) h) (n + 512 + 512) (vlane l) := by
  have hS := mid_stateB c i arg2 harg2 arg3 harg3 arg4 harg4 arg5 harg5 arg6 harg6 arg7 harg7 hc0 hc1 x0 x1 x2 hQ hK n hlim t1 t2 p0 p1 p2 p3
  have hv : ∀ (h : Fin 4) (k : ℕ), k < n + 512 + 512 → ∀ l : Fin 128, 64 ≤ l.val →
      value (arg4.view.read (Elt Ideal) (harg4.unread x2)) h k l = 1 := by
    intro h k hk l hl
    unfold value
    rw [dif_pos (by omega)]
    exact hV _ _ _ hl
  have hs : ∀ h : Fin 4, IsReal (score (arg2.view.read (Elt Ideal) (harg2.unread x0)) (arg3.view.read (Elt Ideal) (harg3.unread x1)) (n + 512) h r 0) :=
    fun h => isReal_score hQ hK (n + 512) h r 0 (by omega) (by omega)
  unfold out0_B_3 kernelRun0_B
  dsimp only
  rcases h with ⟨_ | _ | _ | _ | h, hh⟩
  · refine (read_pair_other _ _ _ _ _ r _ (by show 64 * 0 + l.val < 128; omega)).trans <| (read_pair _ _ 0 _ _ _ r _ (vlane l) (by show 64 * 0 + l.val = 0 + l.val; omega)).trans <|
      quot_fst (kernelRun0_B.sl.v202 (F := Ideal) c i arg2 harg2 arg3 harg3 arg4 harg4 arg5 harg5 arg6 harg6 arg7 harg7 hc1 x0 x1 x2) (kernelRun0_B.sl.v204 (F := Ideal) c i arg2 harg2 arg3 harg3 arg4 harg4 arg5 harg5 arg6 harg6 arg7 harg7 hc1 x0 x1 x2) r (seen_masked hQ hK (hS 0 r) hlim
      (arg2.view.readAt (Elt Ideal) (Rect.unit (s := S512x512) ![0, 0] S512x128.size inb_S512x512_S512x128_0_0).toLoadRect (harg2.unread x0))
      (fun d => (load_rows _ _ _ 0 0 _ rfl 0 rfl r d (by omega)).trans (by simp only [Nat.zero_add]))
      (arg3.view.readAt (Elt Ideal) (Rect.unit (s := S8192x512) (k0_off17 i) S512x128.size (k0_off17_inb i)).toLoadRect (harg3.unread x1))
      (arg4.view.readAt (Elt Ideal) (Rect.unit (s := S8192x512) (k0_off17 i) S512x128.size (k0_off17_inb i)).toLoadRect (harg4.unread x2))
      (fun j d => load_rows _ _ _ _ _ _ o0 0 rfl j d (by omega))
      (fun j d => load_rows _ _ _ _ _ _ o0 0 rfl j d (by omega))
      (arg6.view.readAt (Elt Ideal) (Rect.unit (s := S4x512x128) ![0, 0, 0] S1x512x128.size inb_S4x512x128_S1x512x128_0_0_0).toLoadRect (arg6.view.writes (Elt Ideal) arg6.view.junk (kernelRun0_B.sl.HS0_4 (F := Ideal) c i arg2 harg2 arg3 harg3 arg4 harg4 arg5 harg5 arg6 harg6 arg7 harg7 hc1 x0 x1 x2)))
      (arg7.view.readAt (Elt Ideal) (Rect.unit (s := S4x512x128) ![0, 0, 0] S1x512x128.size inb_S4x512x128_S1x512x128_0_0_0).toLoadRect (arg7.view.writes (Elt Ideal) arg7.view.junk (kernelRun0_B.sl.HS1_4 (F := Ideal) c i arg2 harg2 arg3 harg3 arg4 harg4 arg5 harg5 arg6 harg6 arg7 harg7 hc1 x0 x1 x2)))
      (fun l => (load_head _ _ 0 (by decide) _ r l)) (fun l => (load_head _ _ 0 (by decide) _ r l)) _
      (fun l => (load_head _ _ 0 (by decide) _ r l).trans <| (read_other _ _ 0 3 (by decide) _ _ _ r l).trans <| (read_other _ _ 0 2 (by decide) _ _ _ r l).trans <| (read_other _ _ 0 1 (by decide) _ _ _ r l).trans <| (read_head _ _ 0 (by decide) _ _ _ r l).trans <|  accMasked _ _ _ _ _ r l)) (by omega) (hs 0) (hv 0) l
  · refine (read_pair_other _ _ _ _ _ r _ (by show 64 * 1 + l.val < 128; omega)).trans <| (read_pair _ _ 0 _ _ _ r _ (far (vlane l)) (by show 64 * 1 + l.val = 0 + (l.val + 64) % 128; omega)).trans <|
      quot_snd (kernelRun0_B.sl.v202 (F := Ideal) c i arg2 harg2 arg3 harg3 arg4 harg4 arg5 harg5 arg6 harg6 arg7 harg7 hc1 x0 x1 x2) (kernelRun0_B.sl.v204 (F := Ideal) c i arg2 harg2 arg3 harg3 arg4 harg4 arg5 harg5 arg6 harg6 arg7 harg7 hc1 x0 x1 x2) r (seen_masked hQ hK (hS 1 r) hlim
      (arg2.view.readAt (Elt Ideal) (Rect.unit (s := S512x512) ![0, 128] S512x128.size inb_S512x512_S512x128_0_128).toLoadRect (harg2.unread x0))
      (fun d => (load_rows _ _ _ 0 128 _ rfl 1 rfl r d (by omega)).trans (by simp only [Nat.zero_add]))
      (arg3.view.readAt (Elt Ideal) (Rect.unit (s := S8192x512) (k0_off18 i) S512x128.size (k0_off18_inb i)).toLoadRect (harg3.unread x1))
      (arg4.view.readAt (Elt Ideal) (Rect.unit (s := S8192x512) (k0_off18 i) S512x128.size (k0_off18_inb i)).toLoadRect (harg4.unread x2))
      (fun j d => load_rows _ _ _ _ _ _ o1 1 rfl j d (by omega))
      (fun j d => load_rows _ _ _ _ _ _ o1 1 rfl j d (by omega))
      (arg6.view.readAt (Elt Ideal) (Rect.unit (s := S4x512x128) ![1, 0, 0] S1x512x128.size inb_S4x512x128_S1x512x128_1_0_0).toLoadRect (arg6.view.writes (Elt Ideal) arg6.view.junk (kernelRun0_B.sl.HS0_5 (F := Ideal) c i arg2 harg2 arg3 harg3 arg4 harg4 arg5 harg5 arg6 harg6 arg7 harg7 hc1 x0 x1 x2)))
      (arg7.view.readAt (Elt Ideal) (Rect.unit (s := S4x512x128) ![1, 0, 0] S1x512x128.size inb_S4x512x128_S1x512x128_1_0_0).toLoadRect (arg7.view.writes (Elt Ideal) arg7.view.junk (kernelRun0_B.sl.HS1_5 (F := Ideal) c i arg2 harg2 arg3 harg3 arg4 harg4 arg5 harg5 arg6 harg6 arg7 harg7 hc1 x0 x1 x2)))
      (fun l => (load_head _ _ 1 (by decide) _ r l).trans <| read_other _ _ 1 0 (by decide) _ _ _ r l) (fun l => (load_head _ _ 1 (by decide) _ r l).trans <| read_other _ _ 1 0 (by decide) _ _ _ r l) _
      (fun l => (load_head _ _ 1 (by decide) _ r l).trans <| (read_other _ _ 1 3 (by decide) _ _ _ r l).trans <| (read_other _ _ 1 2 (by decide) _ _ _ r l).trans <| (read_head _ _ 1 (by decide) _ _ _ r l).trans <|  accMasked _ _ _ _ _ r l)) (by omega) (hs 1) (hv 1) l
  · refine (read_pair _ _ 128 _ _ _ r _ (vlane l) (by show 64 * 2 + l.val = 128 + l.val; omega)).trans <|
      quot_fst (kernelRun0_B.sl.v213 (F := Ideal) c i arg2 harg2 arg3 harg3 arg4 harg4 arg5 harg5 arg6 harg6 arg7 harg7 hc1 x0 x1 x2) (kernelRun0_B.sl.v215 (F := Ideal) c i arg2 harg2 arg3 harg3 arg4 harg4 arg5 harg5 arg6 harg6 arg7 harg7 hc1 x0 x1 x2) r (seen_masked hQ hK (hS 2 r) hlim
      (arg2.view.readAt (Elt Ideal) (Rect.unit (s := S512x512) ![0, 256] S512x128.size inb_S512x512_S512x128_0_256).toLoadRect (harg2.unread x0))
      (fun d => (load_rows _ _ _ 0 256 _ rfl 2 rfl r d (by omega)).trans (by simp only [Nat.zero_add]))
      (arg3.view.readAt (Elt Ideal) (Rect.unit (s := S8192x512) (k0_off19 i) S512x128.size (k0_off19_inb i)).toLoadRect (harg3.unread x1))
      (arg4.view.readAt (Elt Ideal) (Rect.unit (s := S8192x512) (k0_off19 i) S512x128.size (k0_off19_inb i)).toLoadRect (harg4.unread x2))
      (fun j d => load_rows _ _ _ _ _ _ o2 2 rfl j d (by omega))
      (fun j d => load_rows _ _ _ _ _ _ o2 2 rfl j d (by omega))
      (arg6.view.readAt (Elt Ideal) (Rect.unit (s := S4x512x128) ![2, 0, 0] S1x512x128.size inb_S4x512x128_S1x512x128_2_0_0).toLoadRect (arg6.view.writes (Elt Ideal) arg6.view.junk (kernelRun0_B.sl.HS0_6 (F := Ideal) c i arg2 harg2 arg3 harg3 arg4 harg4 arg5 harg5 arg6 harg6 arg7 harg7 hc1 x0 x1 x2)))
      (arg7.view.readAt (Elt Ideal) (Rect.unit (s := S4x512x128) ![2, 0, 0] S1x512x128.size inb_S4x512x128_S1x512x128_2_0_0).toLoadRect (arg7.view.writes (Elt Ideal) arg7.view.junk (kernelRun0_B.sl.HS1_6 (F := Ideal) c i arg2 harg2 arg3 harg3 arg4 harg4 arg5 harg5 arg6 harg6 arg7 harg7 hc1 x0 x1 x2)))
      (fun l => (load_head _ _ 2 (by decide) _ r l).trans <| (read_other _ _ 2 1 (by decide) _ _ _ r l).trans <| read_other _ _ 2 0 (by decide) _ _ _ r l) (fun l => (load_head _ _ 2 (by decide) _ r l).trans <| (read_other _ _ 2 1 (by decide) _ _ _ r l).trans <| read_other _ _ 2 0 (by decide) _ _ _ r l) _
      (fun l => (load_head _ _ 2 (by decide) _ r l).trans <| (read_other _ _ 2 3 (by decide) _ _ _ r l).trans <| (read_head _ _ 2 (by decide) _ _ _ r l).trans <|  accMasked _ _ _ _ _ r l)) (by omega) (hs 2) (hv 2) l
  · refine (read_pair _ _ 128 _ _ _ r _ (far (vlane l)) (by show 64 * 3 + l.val = 128 + (l.val + 64) % 128; omega)).trans <|
      quot_snd (kernelRun0_B.sl.v213 (F := Ideal) c i arg2 harg2 arg3 harg3 arg4 harg4 arg5 harg5 arg6 harg6 arg7 harg7 hc1 x0 x1 x2) (kernelRun0_B.sl.v215 (F := Ideal) c i arg2 harg2 arg3 harg3 arg4 harg4 arg5 harg5 arg6 harg6 arg7 harg7 hc1 x0 x1 x2) r (seen_masked hQ hK (hS 3 r) hlim
      (arg2.view.readAt (Elt Ideal) (Rect.unit (s := S512x512) ![0, 384] S512x128.size inb_S512x512_S512x128_0_384).toLoadRect (harg2.unread x0))
      (fun d => (load_rows _ _ _ 0 384 _ rfl 3 rfl r d (by omega)).trans (by simp only [Nat.zero_add]))
      (arg3.view.readAt (Elt Ideal) (Rect.unit (s := S8192x512) (k0_off20 i) S512x128.size (k0_off20_inb i)).toLoadRect (harg3.unread x1))
      (arg4.view.readAt (Elt Ideal) (Rect.unit (s := S8192x512) (k0_off20 i) S512x128.size (k0_off20_inb i)).toLoadRect (harg4.unread x2))
      (fun j d => load_rows _ _ _ _ _ _ o3 3 rfl j d (by omega))
      (fun j d => load_rows _ _ _ _ _ _ o3 3 rfl j d (by omega))
      (arg6.view.readAt (Elt Ideal) (Rect.unit (s := S4x512x128) ![3, 0, 0] S1x512x128.size inb_S4x512x128_S1x512x128_3_0_0).toLoadRect (arg6.view.writes (Elt Ideal) arg6.view.junk (kernelRun0_B.sl.HS0_7 (F := Ideal) c i arg2 harg2 arg3 harg3 arg4 harg4 arg5 harg5 arg6 harg6 arg7 harg7 hc1 x0 x1 x2)))
      (arg7.view.readAt (Elt Ideal) (Rect.unit (s := S4x512x128) ![3, 0, 0] S1x512x128.size inb_S4x512x128_S1x512x128_3_0_0).toLoadRect (arg7.view.writes (Elt Ideal) arg7.view.junk (kernelRun0_B.sl.HS1_7 (F := Ideal) c i arg2 harg2 arg3 harg3 arg4 harg4 arg5 harg5 arg6 harg6 arg7 harg7 hc1 x0 x1 x2)))
      (fun l => (load_head _ _ 3 (by decide) _ r l).trans <| (read_other _ _ 3 2 (by decide) _ _ _ r l).trans <| (read_other _ _ 3 1 (by decide) _ _ _ r l).trans <| read_other _ _ 3 0 (by decide) _ _ _ r l) (fun l => (load_head _ _ 3 (by decide) _ r l).trans <| (read_other _ _ 3 2 (by decide) _ _ _ r l).trans <| (read_other _ _ 3 1 (by decide) _ _ _ r l).trans <| read_other _ _ 3 0 (by decide) _ _ _ r l) _
      (fun l => (load_head _ _ 3 (by decide) _ r l).trans <| (read_head _ _ 3 (by decide) _ _ _ r l).trans <|  accMasked _ _ _ _ _ r l)) (by omega) (hs 3) (hv 3) l
  · exact absurd hh (by omega)

end Attn
end
end
-- ==== Proof.CaseC.lean ====
module
public import proofs.«01_k».proof.Proof.Loop

/-! # A grid point with 1024 keys left between the blocks of 1536 and the diagonal block

The output block's entry is the softmax mean over the keys up to and including the diagonal block. -/

@[expose] public section
set_option maxRecDepth 16384
noncomputable section
open Idealize.ShloMosaic Idealize.ShloMosaic.TcCoe Idealize.SL.Sem
namespace Attn
open Cert.KernelIdeal Cert.KernelIdeal.Gen Blocks

/-- The left-over block of 1024 keys. -/
theorem mid_stateC (c : Dev nD) (i : grid0.Coords) (arg2 : Memref sig .tc .vmem S512x512 .bf16) (harg2 : arg2.IsWhole)
    (arg3 : Memref sig .tc .vmem S8192x512 .bf16) (harg3 : arg3.IsWhole) (arg4 : Memref sig .tc .vmem S8192x512 .bf16) (harg4 : arg4.IsWhole)
    (arg5 : Memref sig .tc .vmem S512x256 .f32) (harg5 : arg5.IsWhole) (arg6 : Memref sig .tc .vmem S4x512x128 .f32) (harg6 : arg6.IsWhole)
    (arg7 : Memref sig .tc .vmem S4x512x128 .f32) (harg7 : arg7.IsWhole)
    (hc0 : cond0_0 i) (hc1 : ¬cond0_1 i)
    (x0 : Vec Ideal S512x512 .bf16) (x1 x2 : Vec Ideal S8192x512 .bf16)
    (hQ : ∀ y, IsReal (arg2.view.read (Elt Ideal) (harg2.unread x0) y)) (hK : ∀ y, IsReal (arg3.view.read (Elt Ideal) (harg3.unread x1) y))
    (n : ℕ) (hlim : n + 1024 + 512 ≤ 8192) (t1 : 1536 * (k0_t1_loop i).trips = n) (t2 : (k0_t2_loop i).trips = 0)
    (p0 : k0_off9 i = ![n, 0])    (p1 : k0_off10 i = ![n, 128])    (p2 : k0_off11 i = ![n, 256])    (p3 : k0_off12 i = ![n, 384]) :
    State (arg2.view.read (Elt Ideal) (harg2.unread x0)) (arg3.view.read (Elt Ideal) (harg3.unread x1)) (arg4.view.read (Elt Ideal) (harg4.unread x2)) (n + 1024) (n + 1024)
      (arg6.view.read (Elt Ideal) (arg6.view.writes (Elt Ideal) arg6.view.junk (kernelRun0_C.sl.HS0_4 (F := Ideal) c i arg2 harg2 arg3 harg3 arg4 harg4 arg5 harg5 arg6 harg6 arg7 harg7 hc0 x0 x1 x2)))
      (arg7.view.read (Elt Ideal) (arg7.view.writes (Elt Ideal) arg7.view.junk (kernelRun0_C.sl.HS1_4 (F := Ideal) c i arg2 harg2 arg3 harg3 arg4 harg4 arg5 harg5 arg6 harg6 arg7 harg7 hc0 x0 x1 x2))) := by
  have hS := base_state c i arg2 harg2 arg3 harg3 arg4 harg4 arg5 harg5 arg6 harg6 arg7 harg7 (kernelRun0_C.sl.v30 i) (harg2.unread x0) (harg3.unread x1) (harg4.unread x2) hQ hK (n + 1024) hlim n t1 (by omega) t2
  intro h r
  rcases h with ⟨_ | _ | _ | _ | h, hh⟩
  · exact seen_dots hQ hK (hS 0 r) (W := 1024) (by decide) (by omega) (by omega)
      (arg2.view.readAt (Elt Ideal) (Rect.unit (s := S512x512) ![0, 0] S512x128.size inb_S512x512_S512x128_0_0).toLoadRect (harg2.unread x0))
      (fun d => (load_rows _ _ _ 0 0 _ rfl 0 rfl r d (by omega)).trans (by simp only [Nat.zero_add]))
      (arg3.view.readAt (Elt Ideal) (Rect.unit (s := S8192x512) (k0_off9 i) S1024x128.size (k0_off9_inb i hc0)).toLoadRect (harg3.unread x1))
      (arg4.view.readAt (Elt Ideal) (Rect.unit (s := S8192x512) (k0_off9 i) S1024x128.size (k0_off9_inb i hc0)).toLoadRect (harg4.unread x2))
      (fun j d => load_rows _ _ _ _ _ _ p0 0 rfl j d (by omega))
      (fun j d => load_rows _ _ _ _ _ _ p0 0 rfl j d (by omega))
      (arg6.view.readAt (Elt Ideal) (Rect.unit (s := S4x512x128) ![0, 0, 0] S1x512x128.size inb_S4x512x128_S1x512x128_0_0_0).toLoadRect (arg6.view.writes (Elt Ideal) arg6.view.junk (base6 c i arg2 harg2 arg3 harg3 arg4 harg4 arg5 harg5 arg6 harg6 arg7 harg7 (kernelRun0_C.sl.v30 i) (harg2.unread x0) (harg3.unread x1) (harg4.unread x2))))
      (arg7.view.readAt (Elt Ideal) (Rect.unit (s := S4x512x128) ![0, 0, 0] S1x512x128.size inb_S4x512x128_S1x512x128_0_0_0).toLoadRect (arg7.view.writes (Elt Ideal) arg7.view.junk (base7 c i arg2 harg2 arg3 harg3 arg4 harg4 arg5 harg5 arg6 harg6 arg7 harg7 (kernelRun0_C.sl.v30 i) (harg2.unread x0) (harg3.unread x1) (harg4.unread x2))))
      (fun l => (load_head _ _ 0 (by decide) _ r l)) (fun l => (load_head _ _ 0 (by decide) _ r l)) _ _
      (fun l => (read_other _ _ 0 3 (by decide) _ _ _ r l).trans <| (read_other _ _ 0 2 (by decide) _ _ _ r l).trans <| (read_other _ _ 0 1 (by decide) _ _ _ r l).trans <| (read_head _ _ 0 (by decide) _ _ _ r l).trans <|  max1024 _ _ _ r l)
      fun l => (read_other _ _ 0 3 (by decide) _ _ _ r l).trans <| (read_other _ _ 0 2 (by decide) _ _ _ r l).trans <| (read_other _ _ 0 1 (by decide) _ _ _ r l).trans <| (read_head _ _ 0 (by decide) _ _ _ r l).trans <|  acc1024 _ _ _ _ _ r l
  · exact seen_dots hQ hK (hS 1 r) (W := 1024) (by decide) (by omega) (by omega)
      (arg2.view.readAt (Elt Ideal) (Rect.unit (s := S512x512) ![0, 128] S512x128.size inb_S512x512_S512x128_0_128).toLoadRect (harg2.unread x0))
      (fun d => (load_rows _ _ _ 0 128 _ rfl 1 rfl r d (by omega)).trans (by simp only [Nat.zero_add]))
      (arg3.view.readAt (Elt Ideal) (Rect.unit (s := S8192x512) (k0_off10 i) S1024x128.size (k0_off10_inb i hc0)).toLoadRect (harg3.unread x1))
      (arg4.view.readAt (Elt Ideal) (Rect.unit (s := S8192x512) (k0_off10 i) S1024x128.size (k0_off10_inb i hc0)).toLoadRect (harg4.unread x2))
      (fun j d => load_rows _ _ _ _ _ _ p1 1 rfl j d (by omega))
      (fun j d => load_rows _ _ _ _ _ _ p1 1 rfl j d (by omega))
      (arg6.view.readAt (Elt Ideal) (Rect.unit (s := S4x512x128) ![1, 0, 0] S1x512x128.size inb_S4x512x128_S1x512x128_1_0_0).toLoadRect (arg6.view.writes (Elt Ideal) arg6.view.junk (kernelRun0_C.sl.HS0_1_1 (F := Ideal) c i arg2 harg2 arg3 harg3 arg4 harg4 arg5 harg5 arg6 harg6 arg7 harg7 hc0 x0 x1 x2)))
      (arg7.view.readAt (Elt Ideal) (Rect.unit (s := S4x512x128) ![1, 0, 0] S1x512x128.size inb_S4x512x128_S1x512x128_1_0_0).toLoadRect (arg7.view.writes (Elt Ideal) arg7.view.junk (kernelRun0_C.sl.HS1_1_1 (F := Ideal) c i arg2 harg2 arg3 harg3 arg4 harg4 arg5 harg5 arg6 harg6 arg7 harg7 hc0 x0 x1 x2)))
      (fun l => (load_head _ _ 1 (by decide) _ r l).trans <| read_other _ _ 1 0 (by decide) _ _ _ r l) (fun l => (load_head _ _ 1 (by decide) _ r l).trans <| read_other _ _ 1 0 (by decide) _ _ _ r l) _ _
      (fun l => (read_other _ _ 1 3 (by decide) _ _ _ r l).trans <| (read_other _ _ 1 2 (by decide) _ _ _ r l).trans <| (read_head _ _ 1 (by decide) _ _ _ r l).trans <|  max1024 _ _ _ r l)
      fun l => (read_other _ _ 1 3 (by decide) _ _ _ r l).trans <| (read_other _ _ 1 2 (by decide) _ _ _ r l).trans <| (read_head _ _ 1 (by decide) _ _ _ r l).trans <|  acc1024 _ _ _ _ _ r l
  · exact seen_dots hQ hK (hS 2 r) (W := 1024) (by decide) (by omega) (by omega)
      (arg2.view.readAt (Elt Ideal) (Rect.unit (s := S512x512) ![0, 256] S512x128.size inb_S512x512_S512x128_0_256).toLoadRect (harg2.unread x0))
      (fun d => (load_rows _ _ _ 0 256 _ rfl 2 rfl r d (by omega)).trans (by simp only [Nat.zero_add]))
      (arg3.view.readAt (Elt Ideal) (Rect.unit (s := S8192x512) (k0_off11 i) S1024x128.size (k0_off11_inb i hc0)).toLoadRect (harg3.unread x1))
      (arg4.view.readAt (Elt Ideal) (Rect.unit (s := S8192x512) (k0_off11 i) S1024x128.size (k0_off11_inb i hc0)).toLoadRect (harg4.unread x2))
      (fun j d => load_rows _ _ _ _ _ _ p2 2 rfl j d (by omega))
      (fun j d => load_rows _ _ _ _ _ _ p2 2 rfl j d (by omega))
      (arg6.view.readAt (Elt Ideal) (Rect.unit (s := S4x512x128) ![2, 0, 0] S1x512x128.size inb_S4x512x128_S1x512x128_2_0_0).toLoadRect (arg6.view.writes (Elt Ideal) arg6.view.junk (kernelRun0_C.sl.HS0_2 (F := Ideal) c i arg2 harg2 arg3 harg3 arg4 harg4 arg5 harg5 arg6 harg6 arg7 harg7 hc0 x0 x1 x2)))
      (arg7.view.readAt (Elt Ideal) (Rect.unit (s := S4x512x128) ![2, 0, 0] S1x512x128.size inb_S4x512x128_S1x512x128_2_0_0).toLoadRect (arg7.view.writes (Elt Ideal) arg7.view.junk (kernelRun0_C.sl.HS1_2 (F := Ideal) c i arg2 harg2 arg3 harg3 arg4 harg4 arg5 harg5 arg6 harg6 arg7 harg7 hc0 x0 x1 x2)))
      (fun l => (load_head _ _ 2 (by decide) _ r l).trans <| (read_other _ _ 2 1 (by decide) _ _ _ r l).trans <| read_other _ _ 2 0 (by decide) _ _ _ r l) (fun l => (load_head _ _ 2 (by decide) _ r l).trans <| (read_other _ _ 2 1 (by decide) _ _ _ r l).trans <| read_other _ _ 2 0 (by decide) _ _ _ r l) _ _
      (fun l => (read_other _ _ 2 3 (by decide) _ _ _ r l).trans <| (read_head _ _ 2 (by decide) _ _ _ r l).trans <|  max1024 _ _ _ r l)
      fun l => (read_other _ _ 2 3 (by decide) _ _ _ r l).trans <| (read_head _ _ 2 (by decide) _ _ _ r l).trans <|  acc1024 _ _ _ _ _ r l
  · exact seen_dots hQ hK (hS 3 r) (W := 1024) (by decide) (by omega) (by omega)
      (arg2.view.readAt (Elt Ideal) (Rect.unit (s := S512x512) ![0, 384] S512x128.size inb_S512x512_S512x128_0_384).toLoadRect (harg2.unread x0))
      (fun d => (load_rows _ _ _ 0 384 _ rfl 3 rfl r d (by omega)).trans (by simp only [Nat.zero_add]))
      (arg3.view.readAt (Elt Ideal) (Rect.unit (s := S8192x512) (k0_off12 i) S1024x128.size (k0_off12_inb i hc0)).toLoadRect (harg3.unread x1))
      (arg4.view.readAt (Elt Ideal) (Rect.unit (s := S8192x512) (k0_off12 i) S1024x128.size (k0_off12_inb i hc0)).toLoadRect (harg4.unread x2))
      (fun j d => load_rows _ _ _ _ _ _ p3 3 rfl j d (by omega))
      (fun j d => load_rows _ _ _ _ _ _ p3 3 rfl j d (by omega))
      (arg6.view.readAt (Elt Ideal) (Rect.unit (s := S4x512x128) ![3, 0, 0] S1x512x128.size inb_S4x512x128_S1x512x128_3_0_0).toLoadRect (arg6.view.writes (Elt Ideal) arg6.view.junk (kernelRun0_C.sl.HS0_3 (F := Ideal) c i arg2 harg2 arg3 harg3 arg4 harg4 arg5 harg5 arg6 harg6 arg7 harg7 hc0 x0 x1 x2)))
      (arg7.view.readAt (Elt Ideal) (Rect.unit (s := S4x512x128) ![3, 0, 0] S1x512x128.size inb_S4x512x128_S1x512x128_3_0_0).toLoadRect (arg7.view.writes (Elt Ideal) arg7.view.junk (kernelRun0_C.sl.HS1_3 (F := Ideal) c i arg2 harg2 arg3 harg3 arg4 harg4 arg5 harg5 arg6 harg6 arg7 harg7 hc0 x0 x1 x2)))
      (fun l => (load_head _ _ 3 (by decide) _ r l).trans <| (read_other _ _ 3 2 (by decide) _ _ _ r l).trans <| (read_other _ _ 3 1 (by decide) _ _ _ r l).trans <| read_other _ _ 3 0 (by decide) _ _ _ r l) (fun l => (load_head _ _ 3 (by decide) _ r l).trans <| (read_other _ _ 3 2 (by decide) _ _ _ r l).trans <| (read_other _ _ 3 1 (by decide) _ _ _ r l).trans <| read_other _ _ 3 0 (by decide) _ _ _ r l) _ _
      (fun l => (read_head _ _ 3 (by decide) _ _ _ r l).trans <|  max1024 _ _ _ r l)
      fun l => (read_head _ _ 3 (by decide) _ _ _ r l).trans <|  acc1024 _ _ _ _ _ r l
  · exact absurd hh (by omega)

/-- The block's entries. -/
theorem outC_mean (c : Dev nD) (i : grid0.Coords) (arg2 : Memref sig .tc .vmem S512x512 .bf16) (harg2 : arg2.IsWhole)
    (arg3 : Memref sig .tc .vmem S8192x512 .bf16) (harg3 : arg3.IsWhole) (arg4 : Memref sig .tc .vmem S8192x512 .bf16) (harg4 : arg4.IsWhole)
    (arg5 : Memref sig .tc .vmem S512x256 .f32) (harg5 : arg5.IsWhole) (arg6 : Memref sig .tc .vmem S4x512x128 .f32) (harg6 : arg6.IsWhole)
    (arg7 : Memref sig .tc .vmem S4x512x128 .f32) (harg7 : arg7.IsWhole)
    (hc0 : cond0_0 i) (hc1 : ¬cond0_1 i)
    (x0 : Vec Ideal S512x512 .bf16) (x1 x2 : Vec Ideal S8192x512 .bf16)
    (hQ : ∀ y, IsReal (arg2.view.read (Elt Ideal) (harg2.unread x0) y)) (hK : ∀ y, IsReal (arg3.view.read (Elt Ideal) (harg3.unread x1) y))
    (n : ℕ) (hlim : n + 1024 + 512 ≤ 8192) (t1 : 1536 * (k0_t1_loop i).trips = n) (t2 : (k0_t2_loop i).trips = 0)
    (p0 : k0_off9 i = ![n, 0])    (p1 : k0_off10 i = ![n, 128])    (p2 : k0_off11 i = ![n, 256])    (p3 : k0_off12 i = ![n, 384])
    (o0 : k0_off17 i = ![n + 1024, 0])    (o1 : k0_off18 i = ![n + 1024, 128])    (o2 : k0_off19 i = ![n + 1024, 256])    (o3 : k0_off20 i = ![n + 1024, 384])
    (hV : ∀ (k : Fin 8192) (h : Fin 4) (l : Fin 128), 64 ≤ l.val → arg4.view.read (Elt Ideal) (harg4.unread x2) (ix2 k (hcol h l)) = 1)
    (r : Fin 512) (h : Fin 4) (l : Fin 64) :
    out0_C_3 (F := Ideal) c i arg2 harg2 arg3 harg3 arg4 harg4 arg5 harg5 arg6 harg6 arg7 harg7 hc0 hc1 x0 x1 x2 (ix2 r (ocol h l))
      = mean (score (arg2.view.read (Elt Ideal) (harg2.unread x0)) (arg3.view.read (Elt Ideal) (harg3.unread x1)) (n + 1024) h r)
          (value (arg4.view.read (Elt Ideal) (harg4.unread x2)) h) (n + 1024 + 512) (vlane l) := by
  have hS := mid_stateC c i arg2 harg2 arg3 harg3 arg4 harg4 arg5 harg5 arg6 harg6 arg7 harg7 hc0 hc1 x0 x1 x2 hQ hK n hlim t1 t2 p0 p1 p2 p3
  have hv : ∀ (h : Fin 4) (k : ℕ), k < n + 1024 + 512 → ∀ l : Fin 128, 64 ≤ l.val →
      value (arg4.view.read (Elt Ideal) (harg4.unread x2)) h k l = 1 := by
    intro h k hk l hl
    unfold value
    rw [dif_pos (by omega)]
    exact hV _ _ _ hl
  have hs : ∀ h : Fin 4, IsReal (score (arg2.view.read (Elt Ideal) (harg2.unread x0)) (arg3.view.read (Elt Ideal) (harg3.unread x1)) (n + 1024) h r 0) :=
    fun h => isReal_score hQ hK (n + 1024) h r 0 (by omega) (by omega)
  unfold out0_C_3 kernelRun0_C
  dsimp only
  rcases h with ⟨_ | _ | _ | _ | h, hh⟩
  · refine (read_pair_other _ _ _ _ _ r _ (by show 64 * 0 + l.val < 128; omega)).trans <| (read_pair _ _ 0 _ _ _ r _ (vlane l) (by show 64 * 0 + l.val = 0 + l.val; omega)).trans <|
      quot_fst (kernelRun0_C.sl.v202 (F := Ideal) c i arg2 harg2 arg3 harg3 arg4 harg4 arg5 harg5 arg6 harg6 arg7 harg7 hc0 x0 x1 x2) (kernelRun0_C.sl.v204 (F := Ideal) c i arg2 harg2 arg3 harg3 arg4 harg4 arg5 harg5 arg6 harg6 arg7 harg7 hc0 x0 x1 x2) r (seen_masked hQ hK (hS 0 r) hlim
      (arg2.view.readAt (Elt Ideal) (Rect.unit (s := S512x512) ![0, 0] S512x128.size inb_S512x512_S512x128_0_0).toLoadRect (harg2.unread x0))
      (fun d => (load_rows _ _ _ 0 0 _ rfl 0 rfl r d (by omega)).trans (by simp only [Nat.zero_add]))
      (arg3.view.readAt (Elt Ideal) (Rect.unit (s := S8192x512) (k0_off17 i) S512x128.size (k0_off17_inb i)).toLoadRect (harg3.unread x1))
      (arg4.view.readAt (Elt Ideal) (Rect.unit (s := S8192x512) (k0_off17 i) S512x128.size (k0_off17_inb i)).toLoadRect (harg4.unread x2))
      (fun j d => load_rows _ _ _ _ _ _ o0 0 rfl j d (by omega))
      (fun j d => load_rows _ _ _ _ _ _ o0 0 rfl j d (by omega))
      (arg6.view.readAt (Elt Ideal) (Rect.unit (s := S4x512x128) ![0, 0, 0] S1x512x128.size inb_S4x512x128_S1x512x128_0_0_0).toLoadRect (arg6.view.writes (Elt Ideal) arg6.view.junk (kernelRun0_C.sl.HS0_4 (F := Ideal) c i arg2 harg2 arg3 harg3 arg4 harg4 arg5 harg5 arg6 harg6 arg7 harg7 hc0 x0 x1 x2)))
      (arg7.view.readAt (Elt Ideal) (Rect.unit (s := S4x512x128) ![0, 0, 0] S1x512x128.size inb_S4x512x128_S1x512x128_0_0_0).toLoadRect (arg7.view.writes (Elt Ideal) arg7.view.junk (kernelRun0_C.sl.HS1_4 (F := Ideal) c i arg2 harg2 arg3 harg3 arg4 harg4 arg5 harg5 arg6 harg6 arg7 harg7 hc0 x0 x1 x2)))
      (fun l => (load_head _ _ 0 (by decide) _ r l)) (fun l => (load_head _ _ 0 (by decide) _ r l)) _
      (fun l => (load_head _ _ 0 (by decide) _ r l).trans <| (read_other _ _ 0 3 (by decide) _ _ _ r l).trans <| (read_other _ _ 0 2 (by decide) _ _ _ r l).trans <| (read_other _ _ 0 1 (by decide) _ _ _ r l).trans <| (read_head _ _ 0 (by decide) _ _ _ r l).trans <|  accMasked _ _ _ _ _ r l)) (by omega) (hs 0) (hv 0) l
  · refine (read_pair_other _ _ _ _ _ r _ (by show 64 * 1 + l.val < 128; omega)).trans <| (read_pair _ _ 0 _ _ _ r _ (far (vlane l)) (by show 64 * 1 + l.val = 0 + (l.val + 64) % 128; omega)).trans <|
      quot_snd (kernelRun0_C.sl.v202 (F := Ideal) c i arg2 harg2 arg3 harg3 arg4 harg4 arg5 harg5 arg6 harg6 arg7 harg7 hc0 x0 x1 x2) (kernelRun0_C.sl.v204 (F := Ideal) c i arg2 harg2 arg3 harg3 arg4 harg4 arg5 harg5 arg6 harg6 arg7 harg7 hc0 x0 x1 x2) r (seen_masked hQ hK (hS 1 r) hlim
      (arg2.view.readAt (Elt Ideal) (Rect.unit (s := S512x512) ![0, 128] S512x128.size inb_S512x512_S512x128_0_128).toLoadRect (harg2.unread x0))
      (fun d => (load_rows _ _ _ 0 128 _ rfl 1 rfl r d (by omega)).trans (by simp only [Nat.zero_add]))
      (arg3.view.readAt (Elt Ideal) (Rect.unit (s := S8192x512) (k0_off18 i) S512x128.size (k0_off18_inb i)).toLoadRect (harg3.unread x1))
      (arg4.view.readAt (Elt Ideal) (Rect.unit (s := S8192x512) (k0_off18 i) S512x128.size (k0_off18_inb i)).toLoadRect (harg4.unread x2))
      (fun j d => load_rows _ _ _ _ _ _ o1 1 rfl j d (by omega))
      (fun j d => load_rows _ _ _ _ _ _ o1 1 rfl j d (by omega))
      (arg6.view.readAt (Elt Ideal) (Rect.unit (s := S4x512x128) ![1, 0, 0] S1x512x128.size inb_S4x512x128_S1x512x128_1_0_0).toLoadRect (arg6.view.writes (Elt Ideal) arg6.view.junk (kernelRun0_C.sl.HS0_5 (F := Ideal) c i arg2 harg2 arg3 harg3 arg4 harg4 arg5 harg5 arg6 harg6 arg7 harg7 hc0 x0 x1 x2)))
      (arg7.view.readAt (Elt Ideal) (Rect.unit (s := S4x512x128) ![1, 0, 0] S1x512x128.size inb_S4x512x128_S1x512x128_1_0_0).toLoadRect (arg7.view.writes (Elt Ideal) arg7.view.junk (kernelRun0_C.sl.HS1_5 (F := Ideal) c i arg2 harg2 arg3 harg3 arg4 harg4 arg5 harg5 arg6 harg6 arg7 harg7 hc0 x0 x1 x2)))
      (fun l => (load_head _ _ 1 (by decide) _ r l).trans <| read_other _ _ 1 0 (by decide) _ _ _ r l) (fun l => (load_head _ _ 1 (by decide) _ r l).trans <| read_other _ _ 1 0 (by decide) _ _ _ r l) _
      (fun l => (load_head _ _ 1 (by decide) _ r l).trans <| (read_other _ _ 1 3 (by decide) _ _ _ r l).trans <| (read_other _ _ 1 2 (by decide) _ _ _ r l).trans <| (read_head _ _ 1 (by decide) _ _ _ r l).trans <|  accMasked _ _ _ _ _ r l)) (by omega) (hs 1) (hv 1) l
  · refine (read_pair _ _ 128 _ _ _ r _ (vlane l) (by show 64 * 2 + l.val = 128 + l.val; omega)).trans <|
      quot_fst (kernelRun0_C.sl.v213 (F := Ideal) c i arg2 harg2 arg3 harg3 arg4 harg4 arg5 harg5 arg6 harg6 arg7 harg7 hc0 x0 x1 x2) (kernelRun0_C.sl.v215 (F := Ideal) c i arg2 harg2 arg3 harg3 arg4 harg4 arg5 harg5 arg6 harg6 arg7 harg7 hc0 x0 x1 x2) r (seen_masked hQ hK (hS 2 r) hlim
      (arg2.view.readAt (Elt Ideal) (Rect.unit (s := S512x512) ![0, 256] S512x128.size inb_S512x512_S512x128_0_256).toLoadRect (harg2.unread x0))
      (fun d => (load_rows _ _ _ 0 256 _ rfl 2 rfl r d (by omega)).trans (by simp only [Nat.zero_add]))
      (arg3.view.readAt (Elt Ideal) (Rect.unit (s := S8192x512) (k0_off19 i) S512x128.size (k0_off19_inb i)).toLoadRect (harg3.unread x1))
      (arg4.view.readAt (Elt Ideal) (Rect.unit (s := S8192x512) (k0_off19 i) S512x128.size (k0_off19_inb i)).toLoadRect (harg4.unread x2))
      (fun j d => load_rows _ _ _ _ _ _ o2 2 rfl j d (by omega))
      (fun j d => load_rows _ _ _ _ _ _ o2 2 rfl j d (by omega))
      (arg6.view.readAt (Elt Ideal) (Rect.unit (s := S4x512x128) ![2, 0, 0] S1x512x128.size inb_S4x512x128_S1x512x128_2_0_0).toLoadRect (arg6.view.writes (Elt Ideal) arg6.view.junk (kernelRun0_C.sl.HS0_6 (F := Ideal) c i arg2 harg2 arg3 harg3 arg4 harg4 arg5 harg5 arg6 harg6 arg7 harg7 hc0 x0 x1 x2)))
      (arg7.view.readAt (Elt Ideal) (Rect.unit (s := S4x512x128) ![2, 0, 0] S1x512x128.size inb_S4x512x128_S1x512x128_2_0_0).toLoadRect (arg7.view.writes (Elt Ideal) arg7.view.junk (kernelRun0_C.sl.HS1_6 (F := Ideal) c i arg2 harg2 arg3 harg3 arg4 harg4 arg5 harg5 arg6 harg6 arg7 harg7 hc0 x0 x1 x2)))
      (fun l => (load_head _ _ 2 (by decide) _ r l).trans <| (read_other _ _ 2 1 (by decide) _ _ _ r l).trans <| read_other _ _ 2 0 (by decide) _ _ _ r l) (fun l => (load_head _ _ 2 (by decide) _ r l).trans <| (read_other _ _ 2 1 (by decide) _ _ _ r l).trans <| read_other _ _ 2 0 (by decide) _ _ _ r l) _
      (fun l => (load_head _ _ 2 (by decide) _ r l).trans <| (read_other _ _ 2 3 (by decide) _ _ _ r l).trans <| (read_head _ _ 2 (by decide) _ _ _ r l).trans <|  accMasked _ _ _ _ _ r l)) (by omega) (hs 2) (hv 2) l
  · refine (read_pair _ _ 128 _ _ _ r _ (far (vlane l)) (by show 64 * 3 + l.val = 128 + (l.val + 64) % 128; omega)).trans <|
      quot_snd (kernelRun0_C.sl.v213 (F := Ideal) c i arg2 harg2 arg3 harg3 arg4 harg4 arg5 harg5 arg6 harg6 arg7 harg7 hc0 x0 x1 x2) (kernelRun0_C.sl.v215 (F := Ideal) c i arg2 harg2 arg3 harg3 arg4 harg4 arg5 harg5 arg6 harg6 arg7 harg7 hc0 x0 x1 x2) r (seen_masked hQ hK (hS 3 r) hlim
      (arg2.view.readAt (Elt Ideal) (Rect.unit (s := S512x512) ![0, 384] S512x128.size inb_S512x512_S512x128_0_384).toLoadRect (harg2.unread x0))
      (fun d => (load_rows _ _ _ 0 384 _ rfl 3 rfl r d (by omega)).trans (by simp only [Nat.zero_add]))
      (arg3.view.readAt (Elt Ideal) (Rect.unit (s := S8192x512) (k0_off20 i) S512x128.size (k0_off20_inb i)).toLoadRect (harg3.unread x1))
      (arg4.view.readAt (Elt Ideal) (Rect.unit (s := S8192x512) (k0_off20 i) S512x128.size (k0_off20_inb i)).toLoadRect (harg4.unread x2))
      (fun j d => load_rows _ _ _ _ _ _ o3 3 rfl j d (by omega))
      (fun j d => load_rows _ _ _ _ _ _ o3 3 rfl j d (by omega))
      (arg6.view.readAt (Elt Ideal) (Rect.unit (s := S4x512x128) ![3, 0, 0] S1x512x128.size inb_S4x512x128_S1x512x128_3_0_0).toLoadRect (arg6.view.writes (Elt Ideal) arg6.view.junk (kernelRun0_C.sl.HS0_7 (F := Ideal) c i arg2 harg2 arg3 harg3 arg4 harg4 arg5 harg5 arg6 harg6 arg7 harg7 hc0 x0 x1 x2)))
      (arg7.view.readAt (Elt Ideal) (Rect.unit (s := S4x512x128) ![3, 0, 0] S1x512x128.size inb_S4x512x128_S1x512x128_3_0_0).toLoadRect (arg7.view.writes (Elt Ideal) arg7.view.junk (kernelRun0_C.sl.HS1_7 (F := Ideal) c i arg2 harg2 arg3 harg3 arg4 harg4 arg5 harg5 arg6 harg6 arg7 harg7 hc0 x0 x1 x2)))
      (fun l => (load_head _ _ 3 (by decide) _ r l).trans <| (read_other _ _ 3 2 (by decide) _ _ _ r l).trans <| (read_other _ _ 3 1 (by decide) _ _ _ r l).trans <| read_other _ _ 3 0 (by decide) _ _ _ r l) (fun l => (load_head _ _ 3 (by decide) _ r l).trans <| (read_other _ _ 3 2 (by decide) _ _ _ r l).trans <| (read_other _ _ 3 1 (by decide) _ _ _ r l).trans <| read_other _ _ 3 0 (by decide) _ _ _ r l) _
      (fun l => (load_head _ _ 3 (by decide) _ r l).trans <| (read_head _ _ 3 (by decide) _ _ _ r l).trans <|  accMasked _ _ _ _ _ r l)) (by omega) (hs 3) (hv 3) l
  · exact absurd hh (by omega)

end Attn
end
end
-- ==== Proof.Array.lean ====
module

public import proofs.«01_k».proof.Proof.Operands
public import proofs.«01_k».proof.Proof.CaseA
public import proofs.«01_k».proof.Proof.CaseB
public import proofs.«01_k».proof.Proof.CaseC

@[expose] public section
set_option maxRecDepth 16384
noncomputable section
open Idealize.ShloMosaic Idealize.ShloMosaic.TcCoe Idealize.SL.Sem
namespace Attn
open Cert.KernelIdeal Cert.KernelIdeal.Gen Blocks
variable (m : (ℓ : Loc nD τ sig) → Buf (Elt Ideal) ℓ)

/-! ## The schedule, point by point

Point `t` takes row block `t % 16` of batch `t / 16`; it meets `t % 16 / 3` wide blocks, then `t % 16 % 3` blocks in one
narrower piece, then the diagonal block. -/

theorem trips1 : ∀ t : Fin cfg0.N, 1536 * (k0_t1_loop (grid0.coords t)).trips = 1536 * (t.val % 16 / 3) :=
  (by decide +kernel : ∀ t : Fin grid0.N, 1536 * (k0_t1_loop (grid0.coords t)).trips = 1536 * (t.val % 16 / 3))

theorem trips2 : ∀ t : Fin cfg0.N, (k0_t2_loop (grid0.coords t)).trips = 0 :=
  (by decide +kernel : ∀ t : Fin grid0.N, (k0_t2_loop (grid0.coords t)).trips = 0)

theorem off9 : ∀ t : Fin cfg0.N, t.val % 16 % 3 = 2 → k0_off9 (grid0.coords t) = ![1536 * (t.val % 16 / 3), 0] :=
  (by decide +kernel : ∀ t : Fin grid0.N, t.val % 16 % 3 = 2 → k0_off9 (grid0.coords t) = ![1536 * (t.val % 16 / 3), 0])

theorem off10 : ∀ t : Fin cfg0.N, t.val % 16 % 3 = 2 → k0_off10 (grid0.coords t) = ![1536 * (t.val % 16 / 3), 128] :=
  (by decide +kernel : ∀ t : Fin grid0.N, t.val % 16 % 3 = 2 → k0_off10 (grid0.coords t) = ![1536 * (t.val % 16 / 3), 128])

theorem off11 : ∀ t : Fin cfg0.N, t.val % 16 % 3 = 2 → k0_off11 (grid0.coords t) = ![1536 * (t.val % 16 / 3), 256] :=
  (by decide +kernel : ∀ t : Fin grid0.N, t.val % 16 % 3 = 2 → k0_off11 (grid0.coords t) = ![1536 * (t.val % 16 / 3), 256])

theorem off12 : ∀ t : Fin cfg0.N, t.val % 16 % 3 = 2 → k0_off12 (grid0.coords t) = ![1536 * (t.val % 16 / 3), 384] :=
  (by decide +kernel : ∀ t : Fin grid0.N, t.val % 16 % 3 = 2 → k0_off12 (grid0.coords t) = ![1536 * (t.val % 16 / 3), 384])

theorem off13 : ∀ t : Fin cfg0.N, t.val % 16 % 3 = 1 → k0_off13 (grid0.coords t) = ![1536 * (t.val % 16 / 3), 0] :=
  (by decide +kernel : ∀ t : Fin grid0.N, t.val % 16 % 3 = 1 → k0_off13 (grid0.coords t) = ![1536 * (t.val % 16 / 3), 0])

theorem off14 : ∀ t : Fin cfg0.N, t.val % 16 % 3 = 1 → k0_off14 (grid0.coords t) = ![1536 * (t.val % 16 / 3), 128] :=
  (by decide +kernel : ∀ t : Fin grid0.N, t.val % 16 % 3 = 1 → k0_off14 (grid0.coords t) = ![1536 * (t.val % 16 / 3), 128])

theorem off15 : ∀ t : Fin cfg0.N, t.val % 16 % 3 = 1 → k0_off15 (grid0.coords t) = ![1536 * (t.val % 16 / 3), 256] :=
  (by decide +kernel : ∀ t : Fin grid0.N, t.val % 16 % 3 = 1 → k0_off15 (grid0.coords t) = ![1536 * (t.val % 16 / 3), 256])

theorem off16 : ∀ t : Fin cfg0.N, t.val % 16 % 3 = 1 → k0_off16 (grid0.coords t) = ![1536 * (t.val % 16 / 3), 384] :=
  (by decide +kernel : ∀ t : Fin grid0.N, t.val % 16 % 3 = 1 → k0_off16 (grid0.coords t) = ![1536 * (t.val % 16 / 3), 384])

theorem off17 : ∀ t : Fin cfg0.N, k0_off17 (grid0.coords t) = ![1536 * (t.val % 16 / 3) + 512 * (t.val % 16 % 3), 0] :=
  (by decide +kernel : ∀ t : Fin grid0.N, k0_off17 (grid0.coords t) = ![1536 * (t.val % 16 / 3) + 512 * (t.val % 16 % 3), 0])

theorem off18 : ∀ t : Fin cfg0.N, k0_off18 (grid0.coords t) = ![1536 * (t.val % 16 / 3) + 512 * (t.val % 16 % 3), 128] :=
  (by decide +kernel : ∀ t : Fin grid0.N, k0_off18 (grid0.coords t) = ![1536 * (t.val % 16 / 3) + 512 * (t.val % 16 % 3), 128])

theorem off19 : ∀ t : Fin cfg0.N, k0_off19 (grid0.coords t) = ![1536 * (t.val % 16 / 3) + 512 * (t.val % 16 % 3), 256] :=
  (by decide +kernel : ∀ t : Fin grid0.N, k0_off19 (grid0.coords t) = ![1536 * (t.val % 16 / 3) + 512 * (t.val % 16 % 3), 256])

theorem off20 : ∀ t : Fin cfg0.N, k0_off20 (grid0.coords t) = ![1536 * (t.val % 16 / 3) + 512 * (t.val % 16 % 3), 384] :=
  (by decide +kernel : ∀ t : Fin grid0.N, k0_off20 (grid0.coords t) = ![1536 * (t.val % 16 / 3) + 512 * (t.val % 16 % 3), 384])

theorem idx0 : ∀ t : Fin cfg0.N, win0_0.index t = ![t.val, 0] :=
  (by decide +kernel : ∀ t : Fin grid0.N, win0_0.index t = ![t.val, 0])
theorem idx1 : ∀ t : Fin cfg0.N, win0_1.index t = ![t.val / 16, 0] :=
  (by decide +kernel : ∀ t : Fin grid0.N, win0_1.index t = ![t.val / 16, 0])
theorem idx2 : ∀ t : Fin cfg0.N, win0_2.index t = ![t.val / 16, 0] :=
  (by decide +kernel : ∀ t : Fin grid0.N, win0_2.index t = ![t.val / 16, 0])
theorem idx3 : ∀ t : Fin cfg0.N, win0_3.index t = ![t.val, 0] :=
  (by decide +kernel : ∀ t : Fin grid0.N, win0_3.index t = ![t.val, 0])

set_option backward.isDefEq.respectTransparency false in
theorem blkQ (c : Dev nD) (t : Fin cfg0.N) (r d : Fin 512) (X : FVec Ideal S16384x512 .bf16) (hX : V m c main_v7 = X) :
    (iblk m c 0 t : FVec Ideal S512x512 .bf16) (ix2 r d) = X (ix2 ⟨512 * t.val + r.val, by have : t.val < 32 := t.isLt; omega⟩ d) := by
  rw [← hX]
  blk_ext [iblk, V, idx0 t]

set_option backward.isDefEq.respectTransparency false in
theorem blkK (c : Dev nD) (t : Fin cfg0.N) (r : Fin 8192) (d : Fin 512) (X : FVec Ideal S16384x512 .bf16) (hX : V m c main_v10 = X) :
    (iblk m c 1 t : FVec Ideal S8192x512 .bf16) (ix2 r d) = X (ix2 ⟨8192 * (t.val / 16) + r.val, by have : t.val < 32 := t.isLt; omega⟩ d) := by
  rw [← hX]
  blk_ext [iblk, V, idx1 t]

set_option backward.isDefEq.respectTransparency false in
theorem blkV (c : Dev nD) (t : Fin cfg0.N) (r : Fin 8192) (d : Fin 512) (X : FVec Ideal S16384x512 .bf16) (hX : V m c main_v13 = X) :
    (iblk m c 2 t : FVec Ideal S8192x512 .bf16) (ix2 r d) = X (ix2 ⟨8192 * (t.val / 16) + r.val, by have : t.val < 32 := t.isLt; omega⟩ d) := by
  rw [← hX]
  blk_ext [iblk, V, idx2 t]

/-! ## One query row of the whole arrays -/

/-- The score of key `j` for query row `s` of batch `b` and head `h`, in the binary unit; minus infinity above the
    diagonal. -/
def rowScore (Q K : S16384x512.Idx → EReal) (b : Fin 2) (s : Fin 8192) (h : Fin 4) (j : ℕ) : EReal :=
  if hj : j < 8192 then
    if j ≤ s.val then ∑ d : Fin 128, Q (ix2 (mrow b s) (hcol h d)) * K (ix2 (mrow b ⟨j, hj⟩) (hcol h d)) else ⊥
  else ⊥

/-- The value of key `j` of batch `b` and head `h`, lane by lane. -/
def rowValue (V : S16384x512.Idx → EReal) (b : Fin 2) (h : Fin 4) (j : ℕ) (l : Fin 128) : EReal :=
  if hj : j < 8192 then V (ix2 (mrow b ⟨j, hj⟩) (hcol h l)) else 0

/-- The batch of a grid point. -/
def pbatch (t : Fin cfg0.N) : Fin 2 := ⟨t.val / 16, by have : t.val < 32 := t.isLt; omega⟩

/-- The query row of a grid point's row. -/
def prow (t : Fin cfg0.N) (r : Fin 512) : Fin 8192 := ⟨512 * (t.val % 16) + r.val, by omega⟩

/-- What the call leaves at a row, a head and a lane. -/
def attended (Q K V : S16384x512.Idx → EReal) (b : Fin 2) (s : Fin 8192) (h : Fin 4) (l : Fin 64) : EReal :=
  mean (rowScore Q K b s h) (rowValue V b h) 8192 (vlane l)

variable {m}

theorem score_rowScore {c : Dev nD} {Q K : FVec Ideal S16384x512 .bf16} (hQ : V m c main_v7 = Q) (hK : V m c main_v10 = K)
    (t : Fin cfg0.N) (n : ℕ) (hn : n = 512 * (t.val % 16)) (h : Fin 4) (r : Fin 512) :
    score (iblk m c 0 t : FVec Ideal S512x512 .bf16) (iblk m c 1 t : FVec Ideal S8192x512 .bf16) n h r
      = rowScore Q K (pbatch t) (prow t r) h := by
  have e : (⟨512 * t.val + r.val, by have : t.val < 32 := t.isLt; omega⟩ : Fin 16384) = mrow (pbatch t) (prow t r) :=
    Fin.ext (show 512 * t.val + r.val = 8192 * (t.val / 16) + (512 * (t.val % 16) + r.val) by omega)
  funext j
  unfold score rowScore
  refine dite_congr rfl (fun hj => ?_) fun _ => rfl
  refine if_congr (by rw [hn]; rfl) (Finset.sum_congr rfl fun d _ => ?_) rfl
  rw [blkQ m c t r _ Q hQ, blkK m c t _ _ K hK, e]
  rfl

theorem value_rowValue {c : Dev nD} {W : FVec Ideal S16384x512 .bf16} (hV : V m c main_v13 = W)
    (t : Fin cfg0.N) (h : Fin 4) :
    value (iblk m c 2 t : FVec Ideal S8192x512 .bf16) h = rowValue W (pbatch t) h := by
  funext j l
  unfold value rowValue
  refine dite_congr rfl (fun hj => ?_) fun _ => rfl
  rw [blkV m c t _ _ W hV]
  rfl

/-- The keys past the diagonal block change nothing. -/
theorem mean_all (Q K W : S16384x512.Idx → EReal) (t : Fin cfg0.N) (h : Fin 4) (r : Fin 512) (l : Fin 64) (n : ℕ)
    (hn : n = 512 * (t.val % 16) + 512) :
    mean (rowScore Q K (pbatch t) (prow t r) h) (rowValue W (pbatch t) h) n (vlane l)
      = attended Q K W (pbatch t) (prow t r) h l := by
  refine (mean_masked _ _ _ _ (by omega) (fun k hk hk' => ?_) _).symm
  unfold rowScore
  rw [dif_pos hk', if_neg]
  show ¬ k ≤ 512 * (t.val % 16) + r.val
  omega

section
variable {c : Dev nD} {Q K W : FVec Ideal S16384x512 .bf16} (hQ : V m c main_v7 = Q) (hK : V m c main_v10 = K)
  (hV : V m c main_v13 = W) (rQ : ∀ y, IsReal (Q y)) (rK : ∀ y, IsReal (K y))
  (oV : ∀ b s h (l : Fin 128), 64 ≤ l.val → W (ix2 (mrow b s) (hcol h l)) = (1 : EReal))
include hQ hK hV rQ rK oV

theorem real_blkQ (t : Fin cfg0.N) (y : S512x512.Idx) : IsReal ((iblk m c 0 t : FVec Ideal S512x512 .bf16) y) := by
  idx_vars y
  rw [blkQ m c t _ _ Q hQ]
  exact rQ _

theorem real_blkK (t : Fin cfg0.N) (y : S8192x512.Idx) : IsReal ((iblk m c 1 t : FVec Ideal S8192x512 .bf16) y) := by
  idx_vars y
  rw [blkK m c t _ _ K hK]
  exact rK _

theorem one_blkV (t : Fin cfg0.N) (k : Fin 8192) (h : Fin 4) (l : Fin 128) (hl : 64 ≤ l.val) :
    (iblk m c 2 t : FVec Ideal S8192x512 .bf16) (ix2 k (hcol h l)) = (1 : EReal) := by
  rw [blkV m c t _ _ W hV]
  exact oV (pbatch t) k h l hl

theorem point_A (t : Fin cfg0.N) (h0 : ¬(t.val % 16 = 2 ∨ t.val % 16 = 5 ∨ t.val % 16 = 8 ∨ t.val % 16 = 11 ∨ t.val % 16 = 14))
    (h1 : ¬(t.val % 16 = 1 ∨ t.val % 16 = 4 ∨ t.val % 16 = 7 ∨ t.val % 16 = 10 ∨ t.val % 16 = 13))
    (r : Fin 512) (h : Fin 4) (l : Fin 64) :
    (outsAt0 m c t.val t.isLt : FVec Ideal S512x256 .f32) (ix2 r (ocol h l)) = attended Q K W (pbatch t) (prow t r) h l := by
  have hm : t.val % 16 % 3 = 0 := by omega
  have hd : 1536 * (t.val % 16 / 3) + 0 = 512 * (t.val % 16) := by omega
  have o17 := off17 t
  have o18 := off18 t
  have o19 := off19 t
  have o20 := off20 t
  rw [show 1536 * (t.val % 16 / 3) + 512 * (t.val % 16 % 3) = 1536 * (t.val % 16 / 3) + 0 by rw [hm]] at o17 o18 o19 o20
  rw [outsAt0_A m c t h0 h1]
  refine (outA_mean c (grid0.coords t) (ms0_0 t) (hs0_0 t) (ms0_1 t) (hs0_1 t) (ms0_2 t) (hs0_2 t) (ms0_3 t) (hs0_3 t)
    scM0_0 (Memref.isWhole_whole _) scM0_1 (Memref.isWhole_whole _) (fun h => h0 ((hcond0_0 t).mp h)) (fun h => h1 ((hcond0_1 t).mp h))
    (iblk m c 0 t) (iblk m c 1 t) (iblk m c 2 t) ?_ ?_ (1536 * (t.val % 16 / 3)) (by omega) (trips1 t) (trips2 t)
    o17 o18 o19 o20 ?_ r h l).trans ?_
  · intro y
    rw [(hs0_0 t).read_unread]
    exact real_blkQ hQ hK hV rQ rK oV t y
  · intro y
    rw [(hs0_1 t).read_unread]
    exact real_blkK hQ hK hV rQ rK oV t y
  · intro k h l hl
    rw [(hs0_2 t).read_unread]
    exact one_blkV hQ hK hV rQ rK oV t k h l hl
  · rw [(hs0_0 t).read_unread, (hs0_1 t).read_unread, (hs0_2 t).read_unread]
    refine (congrArg₂ (fun a b => mean a b (1536 * (t.val % 16 / 3) + 0 + 512) (vlane l))
      (score_rowScore hQ hK t _ hd h r) (value_rowValue hV t h)).trans ?_
    exact mean_all Q K W t h r l _ (by omega)

theorem point_B (t : Fin cfg0.N) (h0 : ¬(t.val % 16 = 2 ∨ t.val % 16 = 5 ∨ t.val % 16 = 8 ∨ t.val % 16 = 11 ∨ t.val % 16 = 14))
    (h1 : (t.val % 16 = 1 ∨ t.val % 16 = 4 ∨ t.val % 16 = 7 ∨ t.val % 16 = 10 ∨ t.val % 16 = 13))
    (r : Fin 512) (h : Fin 4) (l : Fin 64) :
    (outsAt0 m c t.val t.isLt : FVec Ideal S512x256 .f32) (ix2 r (ocol h l)) = attended Q K W (pbatch t) (prow t r) h l := by
  have hm : t.val % 16 % 3 = 1 := by omega
  have hd : 1536 * (t.val % 16 / 3) + 512 = 512 * (t.val % 16) := by omega
  have o17 := off17 t
  have o18 := off18 t
  have o19 := off19 t
  have o20 := off20 t
  rw [show 1536 * (t.val % 16 / 3) + 512 * (t.val % 16 % 3) = 1536 * (t.val % 16 / 3) + 512 by rw [hm]] at o17 o18 o19 o20
  rw [outsAt0_B m c t h0 h1]
  refine (outB_mean c (grid0.coords t) (ms0_0 t) (hs0_0 t) (ms0_1 t) (hs0_1 t) (ms0_2 t) (hs0_2 t) (ms0_3 t) (hs0_3 t)
    scM0_0 (Memref.isWhole_whole _) scM0_1 (Memref.isWhole_whole _) (fun h => h0 ((hcond0_0 t).mp h)) ((hcond0_1 t).mpr h1)
    (iblk m c 0 t) (iblk m c 1 t) (iblk m c 2 t) ?_ ?_ (1536 * (t.val % 16 / 3)) (by omega) (trips1 t) (trips2 t)
    (off13 t hm) (off14 t hm) (off15 t hm) (off16 t hm) o17 o18 o19 o20 ?_ r h l).trans ?_
  · intro y
    rw [(hs0_0 t).read_unread]
    exact real_blkQ hQ hK hV rQ rK oV t y
  · intro y
    rw [(hs0_1 t).read_unread]
    exact real_blkK hQ hK hV rQ rK oV t y
  · intro k h l hl
    rw [(hs0_2 t).read_unread]
    exact one_blkV hQ hK hV rQ rK oV t k h l hl
  · rw [(hs0_0 t).read_unread, (hs0_1 t).read_unread, (hs0_2 t).read_unread]
    refine (congrArg₂ (fun a b => mean a b (1536 * (t.val % 16 / 3) + 512 + 512) (vlane l))
      (score_rowScore hQ hK t _ hd h r) (value_rowValue hV t h)).trans ?_
    exact mean_all Q K W t h r l _ (by omega)

theorem point_C (t : Fin cfg0.N) (h0 : (t.val % 16 = 2 ∨ t.val % 16 = 5 ∨ t.val % 16 = 8 ∨ t.val % 16 = 11 ∨ t.val % 16 = 14))
    (h1 : ¬(t.val % 16 = 1 ∨ t.val % 16 = 4 ∨ t.val % 16 = 7 ∨ t.val % 16 = 10 ∨ t.val % 16 = 13))
    (r : Fin 512) (h : Fin 4) (l : Fin 64) :
    (outsAt0 m c t.val t.isLt : FVec Ideal S512x256 .f32) (ix2 r (ocol h l)) = attended Q K W (pbatch t) (prow t r) h l := by
  have hm : t.val % 16 % 3 = 2 := by omega
  have hd : 1536 * (t.val % 16 / 3) + 1024 = 512 * (t.val % 16) := by omega
  have o17 := off17 t
  have o18 := off18 t
  have o19 := off19 t
  have o20 := off20 t
  rw [show 1536 * (t.val % 16 / 3) + 512 * (t.val % 16 % 3) = 1536 * (t.val % 16 / 3) + 1024 by rw [hm]] at o17 o18 o19 o20
  rw [outsAt0_C m c t h0 h1]
  refine (outC_mean c (grid0.coords t) (ms0_0 t) (hs0_0 t) (ms0_1 t) (hs0_1 t) (ms0_2 t) (hs0_2 t) (ms0_3 t) (hs0_3 t)
    scM0_0 (Memref.isWhole_whole _) scM0_1 (Memref.isWhole_whole _) ((hcond0_0 t).mpr h0) (fun h => h1 ((hcond0_1 t).mp h))
    (iblk m c 0 t) (iblk m c 1 t) (iblk m c 2 t) ?_ ?_ (1536 * (t.val % 16 / 3)) (by omega) (trips1 t) (trips2 t)
    (off9 t hm) (off10 t hm) (off11 t hm) (off12 t hm) o17 o18 o19 o20 ?_ r h l).trans ?_
  · intro y
    rw [(hs0_0 t).read_unread]
    exact real_blkQ hQ hK hV rQ rK oV t y
  · intro y
    rw [(hs0_1 t).read_unread]
    exact real_blkK hQ hK hV rQ rK oV t y
  · intro k h l hl
    rw [(hs0_2 t).read_unread]
    exact one_blkV hQ hK hV rQ rK oV t k h l hl
  · rw [(hs0_0 t).read_unread, (hs0_1 t).read_unread, (hs0_2 t).read_unread]
    refine (congrArg₂ (fun a b => mean a b (1536 * (t.val % 16 / 3) + 1024 + 512) (vlane l))
      (score_rowScore hQ hK t _ hd h r) (value_rowValue hV t h)).trans ?_
    exact mean_all Q K W t h r l _ (by omega)

/-- The result's block of a grid point. -/
theorem point (t : Fin cfg0.N) (r : Fin 512) (h : Fin 4) (l : Fin 64) :
    (outsAt0 m c t.val t.isLt : FVec Ideal S512x256 .f32) (ix2 r (ocol h l)) = attended Q K W (pbatch t) (prow t r) h l := by
  by_cases h0 : (t.val % 16 = 2 ∨ t.val % 16 = 5 ∨ t.val % 16 = 8 ∨ t.val % 16 = 11 ∨ t.val % 16 = 14)
  · exact point_C hQ hK hV rQ rK oV t h0 (by omega) r h l
  · by_cases h1 : (t.val % 16 = 1 ∨ t.val % 16 = 4 ∨ t.val % 16 = 7 ∨ t.val % 16 = 10 ∨ t.val % 16 = 13)
    · exact point_B hQ hK hV rQ rK oV t h0 h1 r h l
    · exact point_A hQ hK hV rQ rK oV t h0 h1 r h l

/-- The result array: each row, head and lane by itself. -/
def whole (Q K W : S16384x512.Idx → EReal) : S16384x256.Idx → EReal := fun y =>
  attended Q K W ⟨(y 0).val / 8192, by have : (y 0).val < 16384 := (y 0).isLt; omega⟩
    ⟨(y 0).val % 8192, Nat.mod_lt _ (by norm_num)⟩
    ⟨(y 1).val / 64, by have : (y 1).val < 256 := (y 1).isLt; omega⟩ ⟨(y 1).val % 64, Nat.mod_lt _ (by norm_num)⟩

theorem result : ((dats m 0 c).arrAt 3 cfg0.N : FVec Ideal S16384x256 .f32) = whole Q K W := by
  refine Pipeline.Dat.arrAt_eq_of_covers (dats m 0 c) 3 (whole Q K W) (by decide +kernel) fun t hf y => ?_
  blk_simp
  rw [after0_3]
  idx_vars y
  have hy : (ix2 y0 y1 : S512x256.Idx) = ix2 y0 (ocol ⟨y1.val / 64, by omega⟩ ⟨y1.val % 64, by omega⟩) := by
    congr 1
    exact Fin.ext (show y1.val = 64 * (y1.val / 64) + y1.val % 64 by omega)
  refine ((congrArg _ hy).trans (point hQ hK hV rQ rK oV t y0 _ _)).trans ?_
  have ht : t.val < 32 := t.isLt
  have ez : whole Q K W (ix2 ⟨512 * t.val + y0.val, by omega⟩ y1)
      = whole Q K W (((View.whole main_v14).slice (win0_3.rect t)).emb (ix2 y0 y1)) := by
    blk_ext [idx3 t]
  refine Eq.trans ?_ ez
  unfold whole
  congr 1
  · exact Fin.ext (show t.val / 16 = (512 * t.val + y0.val) / 8192 by omega)
  · exact Fin.ext (show 512 * (t.val % 16) + y0.val = (512 * t.val + y0.val) % 8192 by omega)
end
end Attn
end
end
-- ==== Proof.Reference.lean ====
module

public import proofs.«01_k».proof.Proof.Array
public import proofs.«01_k».proof.Proof.Gen.ReferenceIdeal.Read
public import Idealize.ShloMosaic.PureOps.Reduce
public import Idealize.ShloMosaic.PureOps.Ideal.Laws
public import Idealize.ShloMosaic.Lib.Affine
public import Idealize.ShloMosaic.Lib.Pointwise

/-! # The reference, one result at a time

Its masked logits in the natural unit, its row maximum (of which only that it is a real number matters), its
probabilities and its mean. -/

@[expose] public section
set_option maxRecDepth 16384
noncomputable section
open Idealize.ShloMosaic Idealize.ShloMosaic.TcCoe Idealize.SL.Sem
namespace Attn
open Cert.ReferenceIdeal Cert.ReferenceIdeal.Gen Cert.ReferenceIdeal.Read

/-- The reference's logit of key `j` for query row `s`. -/
def natLogit (q k : FVec Ideal S2x8192x4x96 .f32) (b : Fin 2) (s : Fin 8192) (h : Fin 4) (j : ℕ) : EReal :=
  if hj : j < 8192 then
    if j ≤ s.val then (∑ d : Fin 96, (q (ix4 b s h d) : EReal) * k (ix4 b ⟨j, hj⟩ h d)) * Ideal.ofBits FTy.f32 1037108716#32 else ⊥
  else ⊥

theorem causal (s j : Fin 8192) : IntOp.cmpi .sle (BitVec.ofNat 32 j.val) (BitVec.ofNat 32 s.val) = 1#1 ↔ j.val ≤ s.val := by
  rw [IntOp.cmpi_sle]
  have e : ∀ n : Fin 8192, (BitVec.ofNat 32 n.val).toInt = n.val := fun n => by
    rw [BitVec.toInt_ofNat', Int.bmod_eq_of_le] <;> omega
  rw [e, e]
  omega

theorem logit_apply (q k : FVec Ideal S2x8192x4x96 .f32) (b : Fin 2) (h : Fin 4) (s j : Fin 8192) :
    val_main_v9 (F := Ideal) q k (ix4 b h s j) = natLogit q k b s h j.val := by
  rw [val_main_v9_apply, val_main_call0_v1_apply, val_main_v8_apply, val_main_v6_apply, val_main_v7_apply, val_main_v4_apply,
    val_main_v5_apply, val_main_v3_apply, val_main_v3_apply, val_main_call0_v2_apply, val_main_call0_v0_apply, val_main_cst_0_apply]
  unfold natLogit
  rw [dif_pos j.isLt]
  show Scalar.select (IntOp.cmpi .sle (BitVec.ofNat 32 j.val) (BitVec.ofNat 32 s.val)) _ _ = _
  by_cases hjs : j.val ≤ s.val
  · rw [(causal s j).mpr hjs, if_pos hjs]
    show val_main_v2 (F := Ideal) q k (ix4 b h s j) = _
    rw [val_main_v2_apply, val_main_v0_apply, val_main_v1_apply, val_main_cst_apply]
    refine congrArg (fun z : EReal => z * Ideal.ofBits FTy.f32 1037108716#32) (Finset.sum_congr rfl fun d _ => ?_)
    exact congrArg₂ (fun z w => (q z : EReal) * k w)
      (show lidx_main_v0 (ix4 b h s j) d = ix4 b s h d from (funext fun a => by match a with | ⟨0, _⟩ => rfl | ⟨1, _⟩ => rfl | ⟨2, _⟩ => rfl | ⟨3, _⟩ => rfl))
      (show ridx_main_v0 (ix4 b h s j) d = ix4 b ⟨j.val, j.isLt⟩ h d from (funext fun a => by match a with | ⟨0, _⟩ => rfl | ⟨1, _⟩ => rfl | ⟨2, _⟩ => rfl | ⟨3, _⟩ => rfl))
  · rw [if_neg hjs]
    have : IntOp.cmpi .sle (BitVec.ofNat 32 j.val) (BitVec.ofNat 32 s.val) = 0#1 := by
      have := (causal s j).not.mpr hjs
      generalize IntOp.cmpi .sle (BitVec.ofNat 32 j.val) (BitVec.ofNat 32 s.val) = z at this
      revert this; revert z; decide
    rw [this]
    exact Blocks.ofBits_bot

theorem logit_logit (q k : FVec Ideal S2x8192x4x96 .f32) (hq : ∀ i, IsReal (q i)) (hk : ∀ i, IsReal (k i))
    (b : Fin 2) (s : Fin 8192) (h : Fin 4) (j : ℕ) : Logit (natLogit q k b s h j) := by
  unfold natLogit
  split
  · split
    · exact Or.inr ((IsReal.sum _ _ fun d _ => (hq _).mul (hk _)).mul scale_real)
    · exact Or.inl rfl
  · exact Or.inl rfl

theorem max_real (q k : FVec Ideal S2x8192x4x96 .f32) (hq : ∀ i, IsReal (q i)) (hk : ∀ i, IsReal (k i))
    (b : Fin 2) (h : Fin 4) (s : Fin 8192) : IsReal (val_main_v12 (F := Ideal) q k (ix3 b h s)) := by
  rw [val_main_v12_apply, val_main_v11_apply, val_main_cst_2_apply]
  unfold val_main_v10
  rw [Host.reduce_eq_fold]
  have hdrop : reducesTo_S2x4x8192x8192_S2x4x8192_d3.drop (ix4 b h s (0 : Fin 8192)) = ix3 b h s :=
    (funext fun a => by match a with | ⟨0, _⟩ => rfl | ⟨1, _⟩ => rfl | ⟨2, _⟩ => rfl)
  have hb : val_main_cst_1 (F := Ideal) (Shape.Idx.first h_S_) = (⊥ : EReal) := Blocks.ofBits_bot
  rw [hb]
  have key : IsReal (Finset.fold Max.max (⊥ : EReal) (val_main_v9 (F := Ideal) q k)
      (Finset.univ.filter fun i => reducesTo_S2x4x8192x8192_S2x4x8192_d3.drop i = ix3 b h s)) := by
    refine isReal_fold _ _ (fun i _ => ?_) (ix4 b h s (0 : Fin 8192)) (Finset.mem_filter.mpr ⟨Finset.mem_univ _, hdrop⟩) ?_
    · idx_vars i
      rw [logit_apply]
      exact logit_logit q k hq hk _ _ _ _
    · rw [logit_apply]
      unfold natLogit
      rw [dif_pos (0 : Fin 8192).isLt, if_pos (show (0 : Fin 8192).val ≤ s.val from Nat.zero_le _)]
      exact (IsReal.sum _ _ fun d _ => (hq _).mul (hk _)).mul scale_real
  have := IsReal.max_logit key (Or.inl Blocks.ofBits_bot : Logit (Ideal.ofBits FTy.f32 4286578688#32))
  rw [max_comm] at this
  exact this

theorem prob_apply (q k : FVec Ideal S2x8192x4x96 .f32) (b : Fin 2) (h : Fin 4) (s j : Fin 8192) :
    val_main_v20 (F := Ideal) q k (ix4 b h s j)
      = Ideal.div (Ideal.exp (natLogit q k b s h j.val - val_main_v12 (F := Ideal) q k (ix3 b h s)))
          (∑ j' : Fin 8192, Ideal.exp (natLogit q k b s h j'.val - val_main_v12 (F := Ideal) q k (ix3 b h s))) := by
  have e : ∀ j, val_main_v16 (F := Ideal) q k (ix4 b h s j)
      = Ideal.exp (natLogit q k b s h j.val - val_main_v12 (F := Ideal) q k (ix3 b h s)) := fun j => by
    rw [val_main_v16_apply, val_main_v15_apply, val_main_v14_apply, val_main_v13_apply, logit_apply]
    rw [show idx_main_v13 (idx_main_v14 (ix4 b h s j)) = ix3 b h s from (funext fun a => by match a with | ⟨0, _⟩ => rfl | ⟨1, _⟩ => rfl | ⟨2, _⟩ => rfl)]
    rfl
  rw [val_main_v20_apply, val_main_v19_apply, val_main_v18_apply, val_main_v17_apply, e]
  have e0 : val_main_cst_3 (F := Ideal) (Shape.Idx.first h_S_) = (0 : EReal) := by
    show Ideal.ofBits FTy.f32 0#32 = 0
    simp [Ideal.ofBits, Ideal.ieee]
  rw [e0, zero_add]
  refine congrArg (Ideal.div _) (Finset.sum_congr rfl fun j' _ => ?_)
  rw [show idx_main_v17 (idx_main_v18 (idx_main_v19 (ix4 b h s j))) j' = ix4 b h s j' from (funext fun a => by match a with | ⟨0, _⟩ => rfl | ⟨1, _⟩ => rfl | ⟨2, _⟩ => rfl | ⟨3, _⟩ => rfl)]
  exact e j'

theorem ref_apply (q k : FVec Ideal S2x8192x4x96 .f32) (v : FVec Ideal S2x8192x4x64 .f32) (y : S16384x256.Idx)
    (b : Fin 2) (s : Fin 8192) (h : Fin 4) (l : Fin 64) (hb : b.val = (y 0).val / 8192) (hs : s.val = (y 0).val % 8192)
    (hh : h.val = (y 1).val / 64) (hl : l.val = (y 1).val % 64) :
    val_main_v23 (F := Ideal) q k v y = ∑ j : Fin 8192, val_main_v20 (F := Ideal) q k (ix4 b h s j) * v (ix4 b j h l) := by
  have h0 : (y 0).val < 16384 := (y 0).isLt
  have h1 : (y 1).val < 256 := (y 1).isLt
  rw [val_main_v23_apply]
  have e : idx_main_v23 y = ix4 b s h l := by
    funext a
    match a with
    | ⟨0, _⟩ => exact Fin.ext (show ((y 0).val * 256 + (y 1).val) / 2097152 = b.val by omega)
    | ⟨1, _⟩ => exact Fin.ext (show ((y 0).val * 256 + (y 1).val) / 256 % 8192 = s.val by omega)
    | ⟨2, _⟩ => exact Fin.ext (show ((y 0).val * 256 + (y 1).val) / 64 % 4 = h.val by omega)
    | ⟨3, _⟩ => exact Fin.ext (show ((y 0).val * 256 + (y 1).val) % 64 = l.val by omega)
  rw [e, val_main_v22_apply, val_main_v21_apply]
  refine Finset.sum_congr rfl fun j _ => ?_
  rw [mul_comm]
  exact congrArg₂ (fun z w => val_main_v20 (F := Ideal) q k z * (v w : EReal))
    (show ridx_main_v21 (idx_main_v22 (ix4 b s h l)) j = ix4 b h s j from (funext fun a => by match a with | ⟨0, _⟩ => rfl | ⟨1, _⟩ => rfl | ⟨2, _⟩ => rfl | ⟨3, _⟩ => rfl))
    (show lidx_main_v21 (idx_main_v22 (ix4 b s h l)) j = ix4 b j h l from (funext fun a => by match a with | ⟨0, _⟩ => rfl | ⟨1, _⟩ => rfl | ⟨2, _⟩ => rfl | ⟨3, _⟩ => rfl))
/-- THE REFERENCE'S RESULT is the mean the call leaves, once queries and keys are real numbers. -/
theorem ref_attended (q k : FVec Ideal S2x8192x4x96 .f32) (v : FVec Ideal S2x8192x4x64 .f32)
    (hq : ∀ i, IsReal (q i)) (hk : ∀ i, IsReal (k i)) (b : Fin 2) (s : Fin 8192) (h : Fin 4) (l : Fin 64) :
    ∑ j : Fin 8192, (val_main_v20 (F := Ideal) q k (ix4 b h s j) : EReal) * v (ix4 b j h l)
      = attended (hostQ q) (hostK k) (hostV v) b s h l := by
  unfold attended
  rw [← softmax_eq_mean 8192 (rowScore (hostQ q) (hostK k) b s h) (natLogit q k b s h) (rowValue (hostV v) b h) ?_ 0 (by norm_num) ?_
    (val_main_v12 (F := Ideal) q k (ix3 b h s)) (max_real q k hq hk b h s) (vlane l)]
  · refine Finset.sum_congr rfl fun j _ => ?_
    rw [prob_apply]
    congr 1
    unfold rowValue
    rw [dif_pos j.isLt, hostV_apply]
    refine Eq.trans ?_ (dif_pos (c := (vlane l).val < 64) l.isLt).symm
    rfl
  · intro j hj
    obtain ⟨r, h1, h2⟩ := dot_logit q k hq hk b s ⟨j, hj⟩ h
    unfold rowScore natLogit
    rw [dif_pos hj, dif_pos hj]
    by_cases hjs : j ≤ s.val
    · rw [if_pos hjs, if_pos hjs]
      exact Or.inr ⟨r, h1, h2⟩
    · rw [if_neg hjs, if_neg hjs]
      exact Or.inl ⟨rfl, rfl⟩
  · obtain ⟨r, h1, h2⟩ := dot_logit q k hq hk b s 0 h
    unfold rowScore
    rw [dif_pos (by norm_num), if_pos (Nat.zero_le _)]
    exact ⟨r, h1⟩
end Attn
end
end
-- ==== Proof.Value.lean ====
module

public import proofs.«01_k».proof.Proof.Reference
public import proofs.«01_k».proof.Defs
public import proofs.«01_k».proof.Proof.Gen.Pre_finite_qk

/-! # Kernel and reference end with one result

The precondition makes queries and keys real numbers; the call's result array and the reference's are then the same mean,
row by row. -/

@[expose] public section
set_option maxRecDepth 16384
noncomputable section
open Idealize.ShloMosaic Idealize.ShloMosaic.TcCoe Idealize.SL.Sem
namespace Attn

/-- A number whose absolute value is below plus infinity is real. -/
theorem isReal_of_abs (x : EReal) (h : Ideal.cmp .olt (max x (-x)) (Ideal.ofBits FTy.f32 0x7F800000#32) = 1#1) : IsReal x := by
  have ht : Ideal.ofBits FTy.f32 0x7F800000#32 = ⊤ := by simp [Ideal.ofBits, Ideal.ieee]
  rw [ht] at h
  induction x using EReal.rec with
  | bot => simp [Ideal.cmp] at h
  | top => simp [Ideal.cmp] at h
  | coe r => exact ⟨r, rfl⟩

theorem and_one {a b : BitVec 1} (h : IntOp.andi a b = 1#1) : a = 1#1 ∧ b = 1#1 := by
  revert h; revert a b; decide

theorem real_of_pre (q k : FVec Ideal Cert.Pre_finite_qk.S2x8192x4x96 .f32) (v : FVec Ideal Cert.Pre_finite_qk.S2x8192x4x64 .f32)
    (h : Cert.Pre_finite_qk.fn (F := Ideal) q k v = fun _ => 1#1) : (∀ i, IsReal (q i)) ∧ ∀ i, IsReal (k i) := by
  refine ⟨fun i => ?_, fun i => ?_⟩
  · exact isReal_of_abs _ (and_one (congrFun h i)).1
  · exact isReal_of_abs _ (and_one (congrFun h i)).2

/-- The two results are one array. -/
theorem results_eq (m : (ℓ : Loc Cert.KernelIdeal.nD Cert.KernelIdeal.τ Cert.KernelIdeal.sig) → Buf (Elt Ideal) ℓ) (c : Dev Cert.KernelIdeal.nD)
    (q k : FVec Ideal Cert.KernelIdeal.S2x8192x4x96 .f32) (v : FVec Ideal Cert.KernelIdeal.S2x8192x4x64 .f32)
    (eq : m ((c : Thread Cert.KernelIdeal.nD Cert.KernelIdeal.τ).loc Cert.KernelIdeal.main_arg0) = q)
    (ek : m ((c : Thread Cert.KernelIdeal.nD Cert.KernelIdeal.τ).loc Cert.KernelIdeal.main_arg1) = k)
    (ev : m ((c : Thread Cert.KernelIdeal.nD Cert.KernelIdeal.τ).loc Cert.KernelIdeal.main_arg2) = v)
    (hq : ∀ i, IsReal (q i)) (hk : ∀ i, IsReal (k i)) :
    (Cert.ReferenceIdeal.Read.val_main_v23 (F := Ideal) q k v : FVec Ideal Cert.KernelIdeal.S16384x256 .f32)
      = (Cert.KernelIdeal.Gen.dats m 0 c).arrAt 3 Cert.KernelIdeal.cfg0.N := by
  refine Eq.trans ?_ (result (Q := hostQ q) (K := hostK k) (W := hostV v) ((entryQ m c).trans (congrArg hostQ eq))
    ((entryK m c).trans (congrArg hostK ek)) ((entryV m c).trans (congrArg hostV ev)) (isReal_hostQ q hq) (isReal_hostK k hk)
    (fun b s h l hl => (hostV_apply v b s h l).trans (dif_neg (by omega)))).symm
  funext y
  refine (ref_apply q k v y
    ⟨(y 0).val / 8192, by have : (y 0).val < 16384 := (y 0).isLt; omega⟩ ⟨(y 0).val % 8192, Nat.mod_lt _ (by norm_num)⟩
    ⟨(y 1).val / 64, by have : (y 1).val < 256 := (y 1).isLt; omega⟩ ⟨(y 1).val % 64, Nat.mod_lt _ (by norm_num)⟩ rfl rfl rfl rfl).trans ?_
  exact ref_attended q k v hq hk _ _ _ _

end Attn
end
end
-- ==== Proof.PostMath.lean ====
module
public import Idealize.ShloMosaic.PureOps
public import Idealize.ShloMosaic.Lib.Pointwise

/-! # A layer's tail, one token at a time

From the four groups' outputs of one token to its row of the result, over the extended reals: the groups' norms, the output
projection, the gated feed-forward part with its convolution over the token and the two before it, the layer embedding and
the last norm.  No program is mentioned here. -/

@[expose] public section
noncomputable section
open Idealize.ShloMosaic
namespace Post

/-- `1 / (1 + e⁻ᶻ)`. -/
def sigm (z : EReal) : EReal := Ideal.div 1 (1 + Ideal.exp (0 - z))

/-- A row divided by the root of its mean square (`N` is its length), times the gains. -/
def rms {n : ℕ} (N : EReal) (x g : Fin n → EReal) (i : Fin n) : EReal :=
  x i * Ideal.rsqrt (Ideal.div (∑ k, x k * x k) N + Ideal.ofBits FTy.f32 897988541#32) * g i

/-- The length of a group's row. -/
abbrev len256 : EReal := Ideal.ofBits FTy.f32 1132462080#32

/-- The length of a model row. -/
abbrev len1024 : EReal := Ideal.ofBits FTy.f32 1149239296#32

/-- What the layer multiplies with. -/
structure Weights where
  /-- The gains of the groups' norms. -/
  gn : Fin 4 → Fin 256 → EReal
  /-- The output projection, group by group. -/
  wo : Fin 4 → Fin 256 → Fin 1024 → EReal
  /-- The gains before the feed-forward part. -/
  fg : Fin 1024 → EReal
  /-- The up-projection. -/
  wu : Fin 1024 → Fin 5632 → EReal
  /-- The taps of the convolution, the earliest token first. -/
  cw : Fin 3 → Fin 5632 → EReal
  /-- The convolution's bias. -/
  cb : Fin 5632 → EReal
  /-- The down-projection. -/
  wd : Fin 2816 → Fin 1024 → EReal
  /-- The gains before the embedding's gate. -/
  pg : Fin 1024 → EReal
  /-- The embedding's gate. -/
  wpg : Fin 1024 → Fin 1024 → EReal
  /-- The embedding's projection. -/
  wp : Fin 256 → Fin 1024 → EReal
  /-- The gains of the last norm. -/
  ng : Fin 1024 → EReal

variable (w : Weights)

/-- The residual after the groups' outputs `a`, `b`, `c`, `d` have been taken in, the third one gated by `z`. -/
def mixed (a b c z d : Fin 256 → EReal) (h : Fin 1024 → EReal) (j : Fin 1024) : EReal :=
  h j + ∑ k, rms len256 a (w.gn 0) k * w.wo 0 k j + ∑ k, rms len256 b (w.gn 1) k * w.wo 1 k j
    + ∑ k, rms len256 c (w.gn 2) k * sigm (z k) * w.wo 2 k j + ∑ k, rms len256 d (w.gn 3) k * w.wo 3 k j

/-- A row up-projected. -/
def up (x : Fin 1024 → EReal) (f : Fin 5632) : EReal := ∑ d, x d * w.wu d f

/-- The convolution over three tokens' rows, the last one the token's own. -/
def conv (u2 u1 u0 : Fin 5632 → EReal) (f : Fin 5632) : EReal :=
  w.cb f + w.cw 0 f * u2 f + w.cw 1 f * u1 f + w.cw 2 f * u0 f

/-- Feature `f` of the gates. -/
def gateCol (f : Fin 2816) : Fin 5632 := ⟨f.val, by omega⟩

/-- Feature `f` of the values. -/
def valCol (f : Fin 2816) : Fin 5632 := ⟨f.val + 2816, by omega⟩

/-- The gated features. -/
def act (u2 u1 u0 : Fin 5632 → EReal) (f : Fin 2816) : EReal :=
  conv w u2 u1 u0 (gateCol f) * sigm (conv w u2 u1 u0 (gateCol f)) * conv w u2 u1 u0 (valCol f)

/-- The residual after the feed-forward part. -/
def fed (h : Fin 1024 → EReal) (s : Fin 2816 → EReal) (j : Fin 1024) : EReal := h j + ∑ f, s f * w.wd f j

/-- The residual after the layer embedding `p`. -/
def embedded (h : Fin 1024 → EReal) (p : Fin 256 → EReal) (j : Fin 1024) : EReal :=
  h j + sigm (∑ k, rms len1024 h w.pg k * w.wpg k j) * ∑ k, p k * w.wp k j

/-- The row of the result. -/
def outRow (h : Fin 1024 → EReal) (u2 u1 u0 : Fin 5632 → EReal) (p : Fin 256 → EReal) : Fin 1024 → EReal :=
  rms len1024 (embedded w (fed w h (act w u2 u1 u0)) p) w.ng

/-- Nothing up-projected is nothing. -/
theorem up_zero (f : Fin 5632) : up w (fun _ => 0) f = 0 := by simp [up]

end Post
end
end
-- ==== Proof.PostTail.lean ====
module
public import proofs.«01_k».proof.Proof.PostMath

/-! # The tail of the layer, row by row

Rows are numbered through the whole batch, 8192 to a sequence.  A row of the result needs the residual after the groups at
that row and the normed residual there and at the two rows before, where they are of the same sequence. -/

@[expose] public section
noncomputable section
open Idealize.ShloMosaic
namespace Post

/-- The normed row `d` rows before row `R`; zero where the sequence begins after it. -/
def before (w : Weights) (rows : Fin 16384 → Fin 1024 → EReal) (d : ℕ) (R : Fin 16384) (j : Fin 1024) : EReal :=
  if d ≤ R.val % 8192 then rms len1024 (rows ⟨R.val - d, by omega⟩) w.fg j else 0

/-- Row `R` of the result, from the residual after the groups. -/
def tail (w : Weights) (rows : Fin 16384 → Fin 1024 → EReal) (p : Fin 16384 → Fin 256 → EReal) (R : Fin 16384) : Fin 1024 → EReal :=
  outRow w (rows R) (up w (before w rows 2 R)) (up w (before w rows 1 R)) (up w (before w rows 0 R)) (p R)

end Post
end
end
-- ==== Proof.PostBlocks.lean ====
module
public import proofs.«01_k».proof.Proof.Gen.Kernel2Ideal.Skeleton
public import proofs.«01_k».proof.Proof.PostMath
public import Idealize.ShloMosaic.Lib.Pointwise

/-! # The tail call's stored values, one entry at a time

What each store writes, as a function of what was loaded: the residual after the groups, its norm, the twenty-two blocks of
the up-projection, the eleven blocks of gated features, and the row of the result. -/

@[expose] public section
set_option maxRecDepth 16384
noncomputable section
open Idealize.ShloMosaic Idealize.ShloMosaic.TcCoe Idealize.SL.Sem
namespace PostBlocks
open Cert.Kernel2Ideal Cert.Kernel2Ideal.Gen

/-- One feature of the convolution, from the loaded bias, taps and rows. -/
def taps (b k₂ k₁ k₀ : FVec Ideal S1x1x256 .f32) (u₂ u₁ u₀ : FVec Ideal S1x512x256 .f32) (r : Fin 512) (i : Fin 256) : EReal :=
  b (ix3 (0 : Fin 1) (0 : Fin 1) i) + k₂ (ix3 (0 : Fin 1) (0 : Fin 1) i) * u₂ (ix3 (0 : Fin 1) r i)
    + k₁ (ix3 (0 : Fin 1) (0 : Fin 1) i) * u₁ (ix3 (0 : Fin 1) r i) + k₀ (ix3 (0 : Fin 1) (0 : Fin 1) i) * u₀ (ix3 (0 : Fin 1) r i)

/-- A value gated by the logistic unit of another. -/
def glu (g v : EReal) : EReal := g * Post.sigm g * v

/-- The residual after the groups' outputs. -/
theorem mixed_apply (a b c z d : FVec Ideal S512x256 .f32) (ga gb gc gd : FVec Ideal S1x1x256 .f32) (h : FVec Ideal S512x1024 .f32)
    (wa wb wc wd : FVec Ideal S1x256x1024 .bf16) (r : Fin 512) (j : Fin 1024) :
    (k0_pay12 (F := Ideal) (k0_pay3 (F := Ideal) a ga) (k0_pay7 (F := Ideal) b (k0_pay4 (F := Ideal) gb) (k0_pay5 (F := Ideal) b) (k0_pay6 (F := Ideal))) (k0_pay8 (F := Ideal) c gc z) d (k0_pay9 (F := Ideal) gd) (k0_pay10 (F := Ideal) d) (k0_pay11 (F := Ideal))
        h wa wb wc wd (ix2 r j) : EReal)
      = h (ix2 r j)
        + ∑ k, Post.rms Post.len256 (fun k : Fin 256 => a (ix2 r k)) (fun k => ga (ix3 (0 : Fin 1) (0 : Fin 1) k)) k * wa (ix3 (0 : Fin 1) k j)
        + ∑ k, Post.rms Post.len256 (fun k : Fin 256 => b (ix2 r k)) (fun k => gb (ix3 (0 : Fin 1) (0 : Fin 1) k)) k * wb (ix3 (0 : Fin 1) k j)
        + ∑ k, Post.rms Post.len256 (fun k : Fin 256 => c (ix2 r k)) (fun k => gc (ix3 (0 : Fin 1) (0 : Fin 1) k)) k * Post.sigm (z (ix2 r k))
            * wc (ix3 (0 : Fin 1) k j)
        + ∑ k, Post.rms Post.len256 (fun k : Fin 256 => d (ix2 r k)) (fun k => gd (ix3 (0 : Fin 1) (0 : Fin 1) k)) k * wd (ix3 (0 : Fin 1) k j) := by
  unfold Post.rms Post.sigm Post.len256
  pointwise [k0_pay3, k0_pay4, k0_pay5, k0_pay6, k0_pay7, k0_pay8, k0_pay9, k0_pay10, k0_pay11, k0_pay12]

/-- The sum of its squares. -/
theorem squares_apply (a b c d : FVec Ideal S512x256 .f32) (gd : FVec Ideal S1x256 .f32) (q e : FVec Ideal S512x1 .f32) (h : FVec Ideal S512x1024 .f32)
    (wa wb wc wd : FVec Ideal S1x256x1024 .bf16) (r : Fin 512) :
    (k0_pay14 (F := Ideal) a b c d gd q e h wa wb wc wd (ix1 r) : EReal)
      = ∑ k, k0_pay12 (F := Ideal) a b c d gd q e h wa wb wc wd (ix2 r k) * k0_pay12 (F := Ideal) a b c d gd q e h wa wb wc wd (ix2 r k) := by
  pointwise [k0_pay14]

/-- The residual's norm. -/
theorem normed_apply (h : FVec Ideal S512x1024 .f32) (g : FVec Ideal S1x1x1024 .f32) (q : FVec Ideal S512 .f32) (r : Fin 512) (j : Fin 1024)
    (hq : q (ix1 r) = ∑ k, h (ix2 r k) * h (ix2 r k)) :
    (k0_pay15 (F := Ideal) h (k0_pay13 (F := Ideal) g) q (ix2 r j) : EReal)
      = Post.rms Post.len1024 (fun k : Fin 1024 => h (ix2 r k)) (fun k => g (ix3 (0 : Fin 1) (0 : Fin 1) k)) j := by
  unfold Post.rms Post.len1024
  rw [← hq]
  pointwise [k0_pay13, k0_pay15]

/-- The row of the result. -/
theorem out_apply (h : FVec Ideal S512x1024 .f32) (s : FVec Ideal S512x2816 .bf16) (wd : FVec Ideal S1x2816x1024 .bf16)
    (pg : FVec Ideal S1x1x1024 .f32) (wpg : FVec Ideal S1x1024x1024 .bf16) (p : FVec Ideal S512x256 .f32) (wp : FVec Ideal S1x256x1024 .bf16)
    (ng : FVec Ideal S1x1x1024 .f32) (r : Fin 512) (j : Fin 1024) (w : Post.Weights)
    (hwd : w.wd = fun f j => wd (ix3 (0 : Fin 1) f j)) (hpg : w.pg = fun j => pg (ix3 (0 : Fin 1) (0 : Fin 1) j))
    (hwpg : w.wpg = fun k j => wpg (ix3 (0 : Fin 1) k j)) (hwp : w.wp = fun k j => wp (ix3 (0 : Fin 1) k j))
    (hng : w.ng = fun j => ng (ix3 (0 : Fin 1) (0 : Fin 1) j)) :
    (k0_pay1 (F := Ideal) (k0_pay97 (F := Ideal) (k0_pay96 (F := Ideal) h s wd) pg wpg p wp) (k0_pay98 (F := Ideal) ng) (k0_pay99 (F := Ideal) (k0_pay96 (F := Ideal) h s wd) pg wpg p wp) (ix2 r j) : EReal)
      = Post.rms Post.len1024 (Post.embedded w (Post.fed w (fun k => h (ix2 r k)) fun f => s (ix2 r f)) fun k => p (ix2 r k)) w.ng j := by
  unfold Post.embedded Post.fed Post.rms Post.sigm Post.len1024
  rw [hwd, hpg, hwpg, hwp, hng]
  pointwise [k0_pay1, k0_pay96, k0_pay97, k0_pay98, k0_pay99]

theorem up1 (x : FVec Ideal S528x1024 .bf16) (g : FVec Ideal S1x1024x256 .bf16) (s : Fin 528) (i : Fin 256) :
    (k0_pay16 (F := Ideal) x g (ix3 (0 : Fin 1) s i) : EReal) = ∑ d, x (ix2 s d) * g (ix3 (0 : Fin 1) d i) := by
  pointwise [k0_pay16]

theorem up2 (x : FVec Ideal S528x1024 .bf16) (g : FVec Ideal S1x1024x256 .bf16) (s : Fin 528) (i : Fin 256) :
    (k0_pay20 (F := Ideal) x g (ix3 (0 : Fin 1) s i) : EReal) = ∑ d, x (ix2 s d) * g (ix3 (0 : Fin 1) d i) := by
  pointwise [k0_pay20]

theorem up3 (x : FVec Ideal S528x1024 .bf16) (g : FVec Ideal S1x1024x256 .bf16) (s : Fin 528) (i : Fin 256) :
    (k0_pay23 (F := Ideal) x g (ix3 (0 : Fin 1) s i) : EReal) = ∑ d, x (ix2 s d) * g (ix3 (0 : Fin 1) d i) := by
  pointwise [k0_pay23]

theorem up4 (x : FVec Ideal S528x1024 .bf16) (g : FVec Ideal S1x1024x256 .bf16) (s : Fin 528) (i : Fin 256) :
    ((k0_pay25 (F := Ideal) x g) (ix3 (0 : Fin 1) s i) : EReal) = ∑ d, x (ix2 s d) * g (ix3 (0 : Fin 1) d i) := by
  pointwise [k0_pay25]

theorem up5 (x : FVec Ideal S528x1024 .bf16) (g : FVec Ideal S1x1024x256 .bf16) (s : Fin 528) (i : Fin 256) :
    (k0_pay28 (F := Ideal) x g (ix3 (0 : Fin 1) s i) : EReal) = ∑ d, x (ix2 s d) * g (ix3 (0 : Fin 1) d i) := by
  pointwise [k0_pay28]

theorem up6 (x : FVec Ideal S528x1024 .bf16) (g : FVec Ideal S1x1024x256 .bf16) (s : Fin 528) (i : Fin 256) :
    (k0_pay32 (F := Ideal) x g (ix3 (0 : Fin 1) s i) : EReal) = ∑ d, x (ix2 s d) * g (ix3 (0 : Fin 1) d i) := by
  pointwise [k0_pay32]

theorem up7 (x : FVec Ideal S528x1024 .bf16) (g : FVec Ideal S1x1024x256 .bf16) (s : Fin 528) (i : Fin 256) :
    (k0_pay35 (F := Ideal) x g (ix3 (0 : Fin 1) s i) : EReal) = ∑ d, x (ix2 s d) * g (ix3 (0 : Fin 1) d i) := by
  pointwise [k0_pay35]

theorem up8 (x : FVec Ideal S528x1024 .bf16) (g : FVec Ideal S1x1024x256 .bf16) (s : Fin 528) (i : Fin 256) :
    (k0_pay40 (F := Ideal) x g (ix3 (0 : Fin 1) s i) : EReal) = ∑ d, x (ix2 s d) * g (ix3 (0 : Fin 1) d i) := by
  pointwise [k0_pay40]

theorem up9 (x : FVec Ideal S528x1024 .bf16) (g : FVec Ideal S1x1024x256 .bf16) (s : Fin 528) (i : Fin 256) :
    (k0_pay45 (F := Ideal) x (k0_pay44 (F := Ideal) g) (constant (F := Ideal) S528x256 FTy.f32 0#32) (ix3 (0 : Fin 1) s i) : EReal) = ∑ d, x (ix2 s d) * g (ix3 (0 : Fin 1) d i) := by
  pointwise [k0_pay44, k0_pay45]

theorem up10 (x : FVec Ideal S528x1024 .bf16) (g : FVec Ideal S1x1024x256 .bf16) (s : Fin 528) (i : Fin 256) :
    (k0_pay47 (F := Ideal) x g (ix3 (0 : Fin 1) s i) : EReal) = ∑ d, x (ix2 s d) * g (ix3 (0 : Fin 1) d i) := by
  pointwise [k0_pay47]

theorem up11 (x : FVec Ideal S528x1024 .bf16) (g : FVec Ideal S1x1024x256 .bf16) (s : Fin 528) (i : Fin 256) :
    (k0_pay51 (F := Ideal) x g (ix3 (0 : Fin 1) s i) : EReal) = ∑ d, x (ix2 s d) * g (ix3 (0 : Fin 1) d i) := by
  pointwise [k0_pay51]

theorem up12 (x : FVec Ideal S528x1024 .bf16) (g : FVec Ideal S1x1024x256 .bf16) (s : Fin 528) (i : Fin 256) :
    (k0_pay56 (F := Ideal) x g (ix3 (0 : Fin 1) s i) : EReal) = ∑ d, x (ix2 s d) * g (ix3 (0 : Fin 1) d i) := by
  pointwise [k0_pay56]

theorem up13 (x : FVec Ideal S528x1024 .bf16) (g : FVec Ideal S1x1024x256 .bf16) (s : Fin 528) (i : Fin 256) :
    (k0_pay60 (F := Ideal) x g (ix3 (0 : Fin 1) s i) : EReal) = ∑ d, x (ix2 s d) * g (ix3 (0 : Fin 1) d i) := by
  pointwise [k0_pay60]

theorem up14 (x : FVec Ideal S528x1024 .bf16) (g : FVec Ideal S1x1024x256 .bf16) (s : Fin 528) (i : Fin 256) :
    (k0_pay63 (F := Ideal) x g (ix3 (0 : Fin 1) s i) : EReal) = ∑ d, x (ix2 s d) * g (ix3 (0 : Fin 1) d i) := by
  pointwise [k0_pay63]

theorem up15 (x : FVec Ideal S528x1024 .bf16) (g : FVec Ideal S1x1024x256 .bf16) (s : Fin 528) (i : Fin 256) :
    (k0_pay65 (F := Ideal) x g (ix3 (0 : Fin 1) s i) : EReal) = ∑ d, x (ix2 s d) * g (ix3 (0 : Fin 1) d i) := by
  pointwise [k0_pay65]

theorem up16 (x : FVec Ideal S528x1024 .bf16) (g : FVec Ideal S1x1024x256 .bf16) (s : Fin 528) (i : Fin 256) :
    (k0_pay70 (F := Ideal) x g (ix3 (0 : Fin 1) s i) : EReal) = ∑ d, x (ix2 s d) * g (ix3 (0 : Fin 1) d i) := by
  pointwise [k0_pay70]

theorem up17 (x : FVec Ideal S528x1024 .bf16) (g : FVec Ideal S1x1024x256 .bf16) (s : Fin 528) (i : Fin 256) :
    (k0_pay74 (F := Ideal) x g (ix3 (0 : Fin 1) s i) : EReal) = ∑ d, x (ix2 s d) * g (ix3 (0 : Fin 1) d i) := by
  pointwise [k0_pay74]

theorem up18 (x : FVec Ideal S528x1024 .bf16) (g : FVec Ideal S1x1024x256 .bf16) (s : Fin 528) (i : Fin 256) :
    (k0_pay77 (F := Ideal) x g (ix3 (0 : Fin 1) s i) : EReal) = ∑ d, x (ix2 s d) * g (ix3 (0 : Fin 1) d i) := by
  pointwise [k0_pay77]

theorem up19 (x : FVec Ideal S528x1024 .bf16) (g : FVec Ideal S1x1024x256 .bf16) (s : Fin 528) (i : Fin 256) :
    (k0_pay82 (F := Ideal) (k0_pay81 (F := Ideal) x g) (ix3 (0 : Fin 1) s i) : EReal) = ∑ d, x (ix2 s d) * g (ix3 (0 : Fin 1) d i) := by
  pointwise [k0_pay81, k0_pay82]

theorem up20 (x : FVec Ideal S528x1024 .bf16) (g : FVec Ideal S1x1024x256 .bf16) (s : Fin 528) (i : Fin 256) :
    (k0_pay85 (F := Ideal) (k0_pay84 (F := Ideal) x g) (ix3 (0 : Fin 1) s i) : EReal) = ∑ d, x (ix2 s d) * g (ix3 (0 : Fin 1) d i) := by
  pointwise [k0_pay84, k0_pay85]

theorem up21 (x : FVec Ideal S528x1024 .bf16) (g : FVec Ideal S1x1024x256 .bf16) (s : Fin 528) (i : Fin 256) :
    (k0_pay89 (F := Ideal) x g (ix3 (0 : Fin 1) s i) : EReal) = ∑ d, x (ix2 s d) * g (ix3 (0 : Fin 1) d i) := by
  pointwise [k0_pay89]

theorem up22 (x : FVec Ideal S528x1024 .bf16) (g : FVec Ideal S1x1024x256 .bf16) (s : Fin 528) (i : Fin 256) :
    (k0_pay92 (F := Ideal) x g (ix3 (0 : Fin 1) s i) : EReal) = ∑ d, x (ix2 s d) * g (ix3 (0 : Fin 1) d i) := by
  pointwise [k0_pay92]

theorem chunk0 (b k₂ k₁ k₀ b' k₂' k₁' k₀' : FVec Ideal S1x1x256 .f32) (u₂ u₁ u₀ v₂ v₁ v₀ : FVec Ideal S1x512x256 .f32) (r : Fin 512) (i : Fin 256) :
    (k0_pay22 (F := Ideal) (k0_pay19 (F := Ideal) (k0_pay17 (F := Ideal) b k₂ u₂) (k0_pay18 (F := Ideal) k₁) u₁ k₀ u₀) (k0_pay21 (F := Ideal) b' k₂' v₂) k₁' v₁ k₀' v₀ (ix2 r i) : EReal)
      = glu (taps b k₂ k₁ k₀ u₂ u₁ u₀ r i) (taps b' k₂' k₁' k₀' v₂ v₁ v₀ r i) := by
  unfold glu taps Post.sigm
  pointwise [k0_pay17, k0_pay18, k0_pay19, k0_pay21, k0_pay22]

theorem chunk1 (b k₂ k₁ k₀ b' k₂' k₁' k₀' : FVec Ideal S1x1x256 .f32) (u₂ u₁ u₀ v₂ v₁ v₀ : FVec Ideal S1x512x256 .f32) (r : Fin 512) (i : Fin 256) :
    (k0_pay27 (F := Ideal) (k0_pay26 (F := Ideal) (k0_pay24 (F := Ideal) b k₂ u₂ k₁ u₁ k₀ u₀) b' k₂' v₂ k₁' v₁ k₀' v₀) (ix2 r i) : EReal)
      = glu (taps b k₂ k₁ k₀ u₂ u₁ u₀ r i) (taps b' k₂' k₁' k₀' v₂ v₁ v₀ r i) := by
  unfold glu taps Post.sigm
  pointwise [k0_pay24, k0_pay26, k0_pay27]

theorem chunk2 (b k₂ k₁ k₀ b' k₂' k₁' k₀' : FVec Ideal S1x1x256 .f32) (u₂ u₁ u₀ v₂ v₁ v₀ : FVec Ideal S1x512x256 .f32) (r : Fin 512) (i : Fin 256) :
    (k0_pay34 (F := Ideal) (k0_pay31 (F := Ideal) (k0_pay29 (F := Ideal) b k₂ u₂ k₁ u₁) (k0_pay30 (F := Ideal) k₀) u₀) (k0_pay33 (F := Ideal) b' k₂' v₂ k₁' v₁) k₀' v₀ (ix2 r i) : EReal)
      = glu (taps b k₂ k₁ k₀ u₂ u₁ u₀ r i) (taps b' k₂' k₁' k₀' v₂ v₁ v₀ r i) := by
  unfold glu taps Post.sigm
  pointwise [k0_pay29, k0_pay30, k0_pay31, k0_pay33, k0_pay34]

theorem chunk3 (b k₂ k₁ k₀ b' k₂' k₁' k₀' : FVec Ideal S1x1x256 .f32) (u₂ u₁ u₀ v₂ v₁ v₀ : FVec Ideal S1x512x256 .f32) (r : Fin 512) (i : Fin 256) :
    (k0_pay43 (F := Ideal) (k0_pay39 (F := Ideal) (k0_pay36 (F := Ideal) b) (k0_pay37 (F := Ideal) k₂) (k0_pay38 (F := Ideal) u₂) k₁ u₁ k₀ u₀) (k0_pay41 (F := Ideal) b') (k0_pay42 (F := Ideal) k₂') v₂ k₁' v₁ k₀' v₀ (ix2 r i) : EReal)
      = glu (taps b k₂ k₁ k₀ u₂ u₁ u₀ r i) (taps b' k₂' k₁' k₀' v₂ v₁ v₀ r i) := by
  unfold glu taps Post.sigm
  pointwise [k0_pay36, k0_pay37, k0_pay38, k0_pay39, k0_pay41, k0_pay42, k0_pay43]

theorem chunk4 (b k₂ k₁ k₀ b' k₂' k₁' k₀' : FVec Ideal S1x1x256 .f32) (u₂ u₁ u₀ v₂ v₁ v₀ : FVec Ideal S1x512x256 .f32) (r : Fin 512) (i : Fin 256) :
    (k0_pay50 (F := Ideal) (k0_pay46 (F := Ideal) b k₂ u₂ k₁ u₁ k₀ u₀) (k0_pay48 (F := Ideal) b' k₂' v₂ k₁' v₁ k₀' v₀) (k0_pay49 (F := Ideal) (k0_pay46 (F := Ideal) b k₂ u₂ k₁ u₁ k₀ u₀)) (FloatOps.ofBits (F := Ideal) FTy.f32 1065353216#32) (ix2 r i) : EReal)
      = glu (taps b k₂ k₁ k₀ u₂ u₁ u₀ r i) (taps b' k₂' k₁' k₀' v₂ v₁ v₀ r i) := by
  unfold glu taps Post.sigm
  pointwise [k0_pay46, k0_pay48, k0_pay49, k0_pay50]

theorem chunk5 (b k₂ k₁ k₀ b' k₂' k₁' k₀' : FVec Ideal S1x1x256 .f32) (u₂ u₁ u₀ v₂ v₁ v₀ : FVec Ideal S1x512x256 .f32) (r : Fin 512) (i : Fin 256) :
    (k0_pay59 (F := Ideal) (k0_pay55 (F := Ideal) (k0_pay52 (F := Ideal) b k₂ u₂) (k0_pay53 (F := Ideal) k₁) (k0_pay54 (F := Ideal) u₁) k₀ u₀) (k0_pay57 (F := Ideal) b' k₂' v₂) (k0_pay58 (F := Ideal) k₁') v₁ k₀' v₀ (ix2 r i) : EReal)
      = glu (taps b k₂ k₁ k₀ u₂ u₁ u₀ r i) (taps b' k₂' k₁' k₀' v₂ v₁ v₀ r i) := by
  unfold glu taps Post.sigm
  pointwise [k0_pay52, k0_pay53, k0_pay54, k0_pay55, k0_pay57, k0_pay58, k0_pay59]

theorem chunk6 (b k₂ k₁ k₀ b' k₂' k₁' k₀' : FVec Ideal S1x1x256 .f32) (u₂ u₁ u₀ v₂ v₁ v₀ : FVec Ideal S1x512x256 .f32) (r : Fin 512) (i : Fin 256) :
    (k0_pay64 (F := Ideal) (k0_pay62 (F := Ideal) (k0_pay61 (F := Ideal) b) k₂ u₂ k₁ u₁ k₀ u₀) b' k₂' v₂ k₁' v₁ k₀' v₀ (ix2 r i) : EReal)
      = glu (taps b k₂ k₁ k₀ u₂ u₁ u₀ r i) (taps b' k₂' k₁' k₀' v₂ v₁ v₀ r i) := by
  unfold glu taps Post.sigm
  pointwise [k0_pay61, k0_pay62, k0_pay64]

theorem chunk7 (b k₂ k₁ k₀ b' k₂' k₁' k₀' : FVec Ideal S1x1x256 .f32) (u₂ u₁ u₀ v₂ v₁ v₀ : FVec Ideal S1x512x256 .f32) (r : Fin 512) (i : Fin 256) :
    (k0_pay73 (F := Ideal) (k0_pay69 (F := Ideal) (k0_pay66 (F := Ideal) b k₂ u₂ k₁ u₁) (k0_pay67 (F := Ideal) u₀) (k0_pay68 (F := Ideal) k₀)) (k0_pay71 (F := Ideal) b' k₂' v₂ k₁' v₁) (k0_pay72 (F := Ideal) k₀') v₀ (ix2 r i) : EReal)
      = glu (taps b k₂ k₁ k₀ u₂ u₁ u₀ r i) (taps b' k₂' k₁' k₀' v₂ v₁ v₀ r i) := by
  unfold glu taps Post.sigm
  pointwise [k0_pay66, k0_pay67, k0_pay68, k0_pay69, k0_pay71, k0_pay72, k0_pay73]

theorem chunk8 (b k₂ k₁ k₀ b' k₂' k₁' k₀' : FVec Ideal S1x1x256 .f32) (u₂ u₁ u₀ v₂ v₁ v₀ : FVec Ideal S1x512x256 .f32) (r : Fin 512) (i : Fin 256) :
    (k0_pay80 (F := Ideal) (k0_pay76 (F := Ideal) (k0_pay75 (F := Ideal) b k₂ u₂) k₁ u₁ k₀ u₀) (k0_pay78 (F := Ideal) k₂' v₂) (k0_pay79 (F := Ideal) b') k₁' v₁ k₀' v₀ (ix2 r i) : EReal)
      = glu (taps b k₂ k₁ k₀ u₂ u₁ u₀ r i) (taps b' k₂' k₁' k₀' v₂ v₁ v₀ r i) := by
  unfold glu taps Post.sigm
  pointwise [k0_pay75, k0_pay76, k0_pay78, k0_pay79, k0_pay80]

theorem chunk9 (b k₂ k₁ k₀ b' k₂' k₁' k₀' : FVec Ideal S1x1x256 .f32) (u₂ u₁ u₀ v₂ v₁ v₀ : FVec Ideal S1x512x256 .f32) (r : Fin 512) (i : Fin 256) :
    (k0_pay88 (F := Ideal) (k0_pay83 (F := Ideal) b k₂ u₂ k₁ u₁ k₀ u₀) (k0_pay86 (F := Ideal) b' k₂' v₂ k₁' v₁ k₀' v₀) (k0_pay87 (F := Ideal) (k0_pay83 (F := Ideal) b k₂ u₂ k₁ u₁ k₀ u₀)) (ix2 r i) : EReal)
      = glu (taps b k₂ k₁ k₀ u₂ u₁ u₀ r i) (taps b' k₂' k₁' k₀' v₂ v₁ v₀ r i) := by
  unfold glu taps Post.sigm
  pointwise [k0_pay83, k0_pay86, k0_pay87, k0_pay88]

theorem chunk10 (b k₂ k₁ k₀ b' k₂' k₁' k₀' : FVec Ideal S1x1x256 .f32) (u₂ u₁ u₀ v₂ v₁ v₀ : FVec Ideal S1x512x256 .f32) (r : Fin 512) (i : Fin 256) :
    (k0_pay94 (F := Ideal) (k0_pay91 (F := Ideal) (k0_pay90 (F := Ideal) b k₂ u₂ k₁ u₁) k₀ u₀) (k0_pay93 (F := Ideal) b' k₂' v₂ k₁' v₁) k₀' v₀ (ix2 r i) : EReal)
      = glu (taps b k₂ k₁ k₀ u₂ u₁ u₀ r i) (taps b' k₂' k₁' k₀' v₂ v₁ v₀ r i) := by
  unfold glu taps Post.sigm
  pointwise [k0_pay90, k0_pay91, k0_pay93, k0_pay94]

end PostBlocks
end
end
-- ==== Proof.PostState.lean ====
module
public import proofs.«01_k».proof.Proof.PostBlocks
public import Idealize.ShloMosaic.Lib.WritesUnit
public import Idealize.ShloMosaic.Lib.VecWindow
public import Idealize.ShloMosaic.Lib.Pipeline.ValueKit

/-! # What the tail call's buffers hold

The call works on tiles of 512 rows.  Here are the weights as the blocks hold them, the rows of a tile after the groups have
been taken in, the normed rows with the sixteen before them, and the reads of what was just stored. -/

@[expose] public section
set_option maxRecDepth 16384
noncomputable section
open Idealize.ShloMosaic Idealize.ShloMosaic.TcCoe Idealize.SL.Sem
namespace PostState
open Cert.Kernel2Ideal Cert.Kernel2Ideal.Gen PostBlocks

/-- Lane `k` of group `g`. -/
def gcol (g : Fin 4) (k : Fin 256) : Fin 1024 := ⟨256 * g.val + k.val, by omega⟩

/-- The weights, from the blocks that hold them. -/
def weights (x7 : FVec Ideal S1x1x1024 .f32) (x8 : FVec Ideal S1x1024x1024 .bf16) (x9 : FVec Ideal S1x1x1024 .f32)
    (x10 : FVec Ideal S1x1024x5632 .bf16) (x11 : FVec Ideal S1x3x5632 .f32) (x12 : FVec Ideal S1x1x5632 .f32)
    (x13 : FVec Ideal S1x2816x1024 .bf16) (x14 : FVec Ideal S1x1x1024 .f32) (x15 : FVec Ideal S1x1024x1024 .bf16)
    (x16 : FVec Ideal S1x256x1024 .bf16) (x17 : FVec Ideal S1x1x1024 .f32) : Post.Weights where
  gn g k := x7 (ix3 (0 : Fin 1) (0 : Fin 1) (gcol g k))
  wo g k j := x8 (ix3 (0 : Fin 1) (gcol g k) j)
  fg j := x9 (ix3 (0 : Fin 1) (0 : Fin 1) j)
  wu d f := x10 (ix3 (0 : Fin 1) d f)
  cw t f := x11 (ix3 (0 : Fin 1) t f)
  cb f := x12 (ix3 (0 : Fin 1) (0 : Fin 1) f)
  wd f j := x13 (ix3 (0 : Fin 1) f j)
  pg j := x14 (ix3 (0 : Fin 1) (0 : Fin 1) j)
  wpg k j := x15 (ix3 (0 : Fin 1) k j)
  wp k j := x16 (ix3 (0 : Fin 1) k j)
  ng j := x17 (ix3 (0 : Fin 1) (0 : Fin 1) j)

/-- A tile's row after the groups' outputs have been taken in. -/
def tileRow (w : Post.Weights) (x0 x1 x2 x3 x4 : FVec Ideal S512x256 .f32) (x5 : FVec Ideal S512x1024 .f32) (r : Fin 512) :
    Fin 1024 → EReal :=
  Post.mixed w (fun k => x0 (ix2 r k)) (fun k => x1 (ix2 r k)) (fun k => x2 (ix2 r k)) (fun k => x3 (ix2 r k))
    (fun k => x4 (ix2 r k)) fun j => x5 (ix2 r j)

/-- The sixteen rows `H` before a tile, then the tile's normed rows. -/
def normedRow (w : Post.Weights) (R : Fin 512 → Fin 1024 → EReal) (H : Fin 16 → Fin 1024 → EReal) (s : Fin 528) (j : Fin 1024) : EReal :=
  if h : s.val < 16 then H ⟨s.val, h⟩ j else Post.rms Post.len1024 (R ⟨s.val - 16, by omega⟩) w.fg j

/-- Row `o + r` of them. -/
def at' (o : ℕ) (ho : o ≤ 16) (r : Fin 512) : Fin 528 := ⟨o + r.val, by omega⟩

/-- The tile's row of the result. -/
def tileOut (w : Post.Weights) (R : Fin 512 → Fin 1024 → EReal) (H : Fin 16 → Fin 1024 → EReal) (x6 : FVec Ideal S512x256 .f32)
    (r : Fin 512) : Fin 1024 → EReal :=
  Post.outRow w (R r) (Post.up w (normedRow w R H (at' 14 (by decide) r))) (Post.up w (normedRow w R H (at' 15 (by decide) r)))
    (Post.up w (normedRow w R H (at' 16 (by decide) r))) fun k => x6 (ix2 r k)

/-- A block of the up-projection, from its rows and columns. -/
theorem dot_up (w : Post.Weights) {X : Fin 528 → Fin 1024 → EReal} {x : FVec Ideal S528x1024 .bf16} {g : FVec Ideal S1x1024x256 .bf16}
    (hx : ∀ s j, x (ix2 s j) = X s j) (f : Fin 5632) (i : Fin 256) (hg : ∀ d, g (ix3 (0 : Fin 1) d i) = w.wu d f) (s : Fin 528) :
    (∑ d, x (ix2 s d) * g (ix3 (0 : Fin 1) d i) : EReal) = Post.up w (X s) f :=
  Finset.sum_congr rfl fun d _ => by rw [hx, hg]

/-- A feature of the convolution, from what was loaded. -/
theorem taps_conv (w : Post.Weights) (U₂ U₁ U₀ : Fin 5632 → EReal) (f : Fin 5632) {b k₂ k₁ k₀ : FVec Ideal S1x1x256 .f32}
    {u₂ u₁ u₀ : FVec Ideal S1x512x256 .f32} {r : Fin 512} {i : Fin 256}
    (hb : b (ix3 (0 : Fin 1) (0 : Fin 1) i) = w.cb f) (h₂ : k₂ (ix3 (0 : Fin 1) (0 : Fin 1) i) = w.cw 0 f)
    (h₁ : k₁ (ix3 (0 : Fin 1) (0 : Fin 1) i) = w.cw 1 f) (h₀ : k₀ (ix3 (0 : Fin 1) (0 : Fin 1) i) = w.cw 2 f)
    (e₂ : u₂ (ix3 (0 : Fin 1) r i) = U₂ f) (e₁ : u₁ (ix3 (0 : Fin 1) r i) = U₁ f) (e₀ : u₀ (ix3 (0 : Fin 1) r i) = U₀ f) :
    taps b k₂ k₁ k₀ u₂ u₁ u₀ r i = Post.conv w U₂ U₁ U₀ f := by
  unfold taps Post.conv
  rw [hb, h₂, h₁, h₀, e₂, e₁, e₀]

theorem glu_act (w : Post.Weights) (U₂ U₁ U₀ : Fin 5632 → EReal) (f : Fin 2816) {g v : EReal}
    (hg : g = Post.conv w U₂ U₁ U₀ (Post.gateCol f)) (hv : v = Post.conv w U₂ U₁ U₀ (Post.valCol f)) :
    glu g v = Post.act w U₂ U₁ U₀ f := by
  subst hg hv
  rfl

/-- The row of the result, from equal rows. -/
theorem outRow_congr (w : Post.Weights) {h h' : Fin 1024 → EReal} {s : Fin 2816 → EReal} {u₂ u₁ u₀ : Fin 5632 → EReal} {p p' : Fin 256 → EReal}
    (hh : ∀ k, h k = h' k) (hs : ∀ f, s f = Post.act w u₂ u₁ u₀ f) (hp : ∀ k, p k = p' k) (j : Fin 1024) :
    Post.rms Post.len1024 (Post.embedded w (Post.fed w h s) p) w.ng j = Post.outRow w h' u₂ u₁ u₀ p' j := by
  obtain rfl := funext hh
  obtain rfl := funext hs
  obtain rfl := funext hp
  rfl

/-- A row norm, from equal rows. -/
theorem rms_congr {n : ℕ} {N : EReal} {x x' g g' : Fin n → EReal} (hx : ∀ k, x k = x' k) (hg : ∀ k, g k = g' k) (j : Fin n) :
    Post.rms N x g j = Post.rms N x' g' j := by
  obtain rfl := funext hx
  obtain rfl := funext hg
  rfl

/-- A group's share of the projection, from equal entries. -/
theorem share_congr {a a' g g' : Fin 256 → EReal} {u u' : Fin 256 → EReal} (ha : ∀ k, a k = a' k) (hg : ∀ k, g k = g' k)
    (hu : ∀ k, u k = u' k) :
    ∑ k, Post.rms Post.len256 a g k * u k = ∑ k, Post.rms Post.len256 a' g' k * u' k := by
  obtain rfl := funext ha
  obtain rfl := funext hg
  obtain rfl := funext hu
  rfl

/-- The gated group's share. -/
theorem gated_congr {a a' g g' z z' : Fin 256 → EReal} {u u' : Fin 256 → EReal} (ha : ∀ k, a k = a' k) (hg : ∀ k, g k = g' k)
    (hz : ∀ k, z k = z' k) (hu : ∀ k, u k = u' k) :
    ∑ k, Post.rms Post.len256 a g k * Post.sigm (z k) * u k = ∑ k, Post.rms Post.len256 a' g' k * Post.sigm (z' k) * u' k := by
  obtain rfl := funext ha
  obtain rfl := funext hg
  obtain rfl := funext hz
  obtain rfl := funext hu
  rfl

theorem add_five {a b c d e a' b' c' d' e' : EReal} (ha : a = a') (hb : b = b') (hc : c = c') (hd : d = d') (he : e = e') :
    a + b + c + d + e = a' + b' + c' + d' + e' := by
  subst ha hb hc hd he
  rfl

section Planes

variable {sig : RefSig} {κ : Kind} {sp : Space} {Val : EltTy → Type} {e : EltTy}

/-- A load of part of a plane. -/
theorem load2 {A B a b : ℕ} (v : View sig κ sp (⟨2, ![A, B]⟩ : Shape) e) (f : v.ty.Contents Val) (x : (⟨2, ![A, B]⟩ : Shape).Idx → Val e)
    (hx : v.read Val f = x) (o₀ o₁ : ℕ)
    (inb : ∀ i, (![o₀, o₁] : Fin 2 → ℕ) i + (![a, b] : Fin 2 → ℕ) i ≤ (⟨2, ![A, B]⟩ : Shape).size i)
    (p : Fin a) (q : Fin b) (p' : Fin A) (q' : Fin B) (hp : p'.val = o₀ + p.val) (hq : q'.val = o₁ + q.val) :
    v.readAt Val (Rect.unit (s := (⟨2, ![A, B]⟩ : Shape)) ![o₀, o₁] ![a, b] inb).toLoadRect f (ix2 p q) = x (ix2 p' q') := by
  subst hx
  exact congrArg (v.read Val f) (funext (Fin.forall_fin_two.mpr
    ⟨Fin.ext (by show o₀ + 1 * p.val = p'.val; omega), Fin.ext (by show o₁ + 1 * q.val = q'.val; omega)⟩))

/-- A load of part of a stack of planes. -/
theorem load3 {A B C a b c : ℕ} (v : View sig κ sp (⟨3, ![A, B, C]⟩ : Shape) e) (f : v.ty.Contents Val)
    (x : (⟨3, ![A, B, C]⟩ : Shape).Idx → Val e) (hx : v.read Val f = x) (o₀ o₁ o₂ : ℕ)
    (inb : ∀ i, (![o₀, o₁, o₂] : Fin 3 → ℕ) i + (![a, b, c] : Fin 3 → ℕ) i ≤ (⟨3, ![A, B, C]⟩ : Shape).size i)
    (p : Fin a) (q : Fin b) (r : Fin c) (p' : Fin A) (q' : Fin B) (r' : Fin C)
    (hp : p'.val = o₀ + p.val) (hq : q'.val = o₁ + q.val) (hr : r'.val = o₂ + r.val) :
    v.readAt Val (Rect.unit (s := (⟨3, ![A, B, C]⟩ : Shape)) ![o₀, o₁, o₂] ![a, b, c] inb).toLoadRect f (ix3 p q r) = x (ix3 p' q' r') := by
  subst hx
  exact congrArg (v.read Val f) (funext (Fin.forall_fin_succ.mpr ⟨Fin.ext (by show o₀ + 1 * p.val = p'.val; omega), Fin.forall_fin_two.mpr
    ⟨Fin.ext (by show o₁ + 1 * q.val = q'.val; omega), Fin.ext (by show o₂ + 1 * r.val = r'.val; omega)⟩⟩))

/-- Rows of the plane stored last. -/
theorem load_up (v : View sig κ sp S4x528x256 e) (f : v.ty.Contents Val) (n o : ℕ) (ho : o ≤ 16)
    (inb : ∀ a, (![n, o, 0] : Fin 3 → ℕ) a + (![1, 512, 256] : Fin 3 → ℕ) a ≤ S4x528x256.size a)
    (inb' : ∀ a, (![n, 0, 0] : Fin 3 → ℕ) a + (![1, 528, 256] : Fin 3 → ℕ) a ≤ S4x528x256.size a)
    (w : (Rect.unit (s := S4x528x256) ![n, 0, 0] ![1, 528, 256] inb').shape.Idx → Val e) (L : List (View.Piece Val S4x528x256 e))
    (r : Fin 512) (i : Fin 256) :
    v.readAt Val (Rect.unit (s := S4x528x256) ![n, o, 0] ![1, 512, 256] inb).toLoadRect
        (v.writes Val f ((⟨Rect.unit (s := S4x528x256) ![n, 0, 0] ![1, 528, 256] inb', w⟩ : View.Piece Val S4x528x256 e) :: L)) (ix3 (0 : Fin 1) r i)
      = w (ix3 (0 : Fin 1) (at' o ho r) i) :=
  View.read_writes_cons_unit_of_mem v f inb' w L _ (ix3 (0 : Fin 1) (at' o ho r) i) rfl (Fin.forall_fin_succ.mpr ⟨rfl, Fin.forall_fin_two.mpr
    ⟨by show o + 1 * r.val = 0 + (o + r.val); omega, by show 0 + 1 * i.val = 0 + i.val; omega⟩⟩)

/-- A load of the whole buffer. -/
theorem load_whole {A B : ℕ} (v : View sig κ sp (⟨2, ![A, B]⟩ : Shape) e) (f : v.ty.Contents Val)
    (inb : ∀ i, (![0, 0] : Fin 2 → ℕ) i + (![A, B] : Fin 2 → ℕ) i ≤ (⟨2, ![A, B]⟩ : Shape).size i) (p : Fin A) (q : Fin B) :
    v.readAt Val (Rect.unit (s := (⟨2, ![A, B]⟩ : Shape)) ![0, 0] ![A, B] inb).toLoadRect f (ix2 p q) = v.read Val f (ix2 p q) :=
  load2 v f _ rfl 0 0 inb p q p q (by omega) (by omega)

/-- The entries of the rows stored last. -/
theorem read_rows {A B a : ℕ} (v : View sig κ sp (⟨2, ![A, B]⟩ : Shape) e) (f : v.ty.Contents Val) (o : ℕ)
    (inb : ∀ i, (![o, 0] : Fin 2 → ℕ) i + (![a, B] : Fin 2 → ℕ) i ≤ (⟨2, ![A, B]⟩ : Shape).size i)
    (w : (Rect.unit (s := (⟨2, ![A, B]⟩ : Shape)) ![o, 0] ![a, B] inb).shape.Idx → Val e) (L : List (View.Piece Val (⟨2, ![A, B]⟩ : Shape) e))
    (p : Fin A) (q : Fin B) (p' : Fin a) (hp : p.val = o + p'.val) :
    v.read Val (v.writes Val f ((⟨Rect.unit (s := (⟨2, ![A, B]⟩ : Shape)) ![o, 0] ![a, B] inb, w⟩ : View.Piece Val (⟨2, ![A, B]⟩ : Shape) e) :: L)) (ix2 p q)
      = w (ix2 p' q) :=
  View.read_writes_cons_unit_of_mem v f inb w L _ (ix2 p' q) rfl (Fin.forall_fin_two.mpr ⟨hp, (Nat.zero_add _).symm⟩)

/-- The entries of the other rows. -/
theorem read_rows_other {A B a : ℕ} (v : View sig κ sp (⟨2, ![A, B]⟩ : Shape) e) (f : v.ty.Contents Val) (o : ℕ)
    (inb : ∀ i, (![o, 0] : Fin 2 → ℕ) i + (![a, B] : Fin 2 → ℕ) i ≤ (⟨2, ![A, B]⟩ : Shape).size i)
    (w : (Rect.unit (s := (⟨2, ![A, B]⟩ : Shape)) ![o, 0] ![a, B] inb).shape.Idx → Val e) (L : List (View.Piece Val (⟨2, ![A, B]⟩ : Shape) e))
    (p : Fin A) (q : Fin B) (hp : p.val < o) :
    v.read Val (v.writes Val f ((⟨Rect.unit (s := (⟨2, ![A, B]⟩ : Shape)) ![o, 0] ![a, B] inb, w⟩ : View.Piece Val (⟨2, ![A, B]⟩ : Shape) e) :: L)) (ix2 p q)
      = v.read Val (v.writes Val f L) (ix2 p q) :=
  View.read_writes_cons_unit_of_not_mem v f inb w L _ rfl (0 : Fin 2) (Or.inl hp)

/-- The entries of the columns stored last. -/
theorem read_cols {A B b : ℕ} (v : View sig κ sp (⟨2, ![A, B]⟩ : Shape) e) (f : v.ty.Contents Val) (o : ℕ)
    (inb : ∀ i, (![0, o] : Fin 2 → ℕ) i + (![A, b] : Fin 2 → ℕ) i ≤ (⟨2, ![A, B]⟩ : Shape).size i)
    (w : (Rect.unit (s := (⟨2, ![A, B]⟩ : Shape)) ![0, o] ![A, b] inb).shape.Idx → Val e) (L : List (View.Piece Val (⟨2, ![A, B]⟩ : Shape) e))
    (p : Fin A) (q : Fin B) (q' : Fin b) (hq : q.val = o + q'.val) :
    v.read Val (v.writes Val f ((⟨Rect.unit (s := (⟨2, ![A, B]⟩ : Shape)) ![0, o] ![A, b] inb, w⟩ : View.Piece Val (⟨2, ![A, B]⟩ : Shape) e) :: L)) (ix2 p q)
      = w (ix2 p q') :=
  View.read_writes_cons_unit_of_mem v f inb w L _ (ix2 p q') rfl (Fin.forall_fin_two.mpr ⟨(Nat.zero_add _).symm, hq⟩)

/-- The entries of the columns before them. -/
theorem read_cols_other {A B b : ℕ} (v : View sig κ sp (⟨2, ![A, B]⟩ : Shape) e) (f : v.ty.Contents Val) (o : ℕ)
    (inb : ∀ i, (![0, o] : Fin 2 → ℕ) i + (![A, b] : Fin 2 → ℕ) i ≤ (⟨2, ![A, B]⟩ : Shape).size i)
    (w : (Rect.unit (s := (⟨2, ![A, B]⟩ : Shape)) ![0, o] ![A, b] inb).shape.Idx → Val e) (L : List (View.Piece Val (⟨2, ![A, B]⟩ : Shape) e))
    (p : Fin A) (q : Fin B) (hq : q.val < o) :
    v.read Val (v.writes Val f ((⟨Rect.unit (s := (⟨2, ![A, B]⟩ : Shape)) ![0, o] ![A, b] inb, w⟩ : View.Piece Val (⟨2, ![A, B]⟩ : Shape) e) :: L)) (ix2 p q)
      = v.read Val (v.writes Val f L) (ix2 p q) :=
  View.read_writes_cons_unit_of_not_mem v f inb w L _ rfl (1 : Fin 2) (Or.inl hq)

end Planes

end PostState
end
end
-- ==== Proof.PostChunk.lean ====
module
public import proofs.«01_k».proof.Proof.PostState

/-! # The tail call's loads, read together

The residual of a tile, its normed rows, and one feature of the convolution, each from the loads its terms are made of. -/

@[expose] public section
set_option maxRecDepth 16384
noncomputable section
open Idealize.ShloMosaic Idealize.ShloMosaic.TcCoe Idealize.SL.Sem
namespace PostState
open Cert.Kernel2Ideal Cert.Kernel2Ideal.Gen PostBlocks

/-- The residual, from loads that are rows of the groups' blocks and stretches of the weights. -/
theorem mixed_row (x0 x1 x2 x3 x4 : FVec Ideal S512x256 .f32) (x5 : FVec Ideal S512x1024 .f32)
    (x7 : FVec Ideal S1x1x1024 .f32) (x8 : FVec Ideal S1x1024x1024 .bf16) (x9 : FVec Ideal S1x1x1024 .f32)
    (x10 : FVec Ideal S1x1024x5632 .bf16) (x11 : FVec Ideal S1x3x5632 .f32) (x12 : FVec Ideal S1x1x5632 .f32)
    (x13 : FVec Ideal S1x2816x1024 .bf16) (x14 : FVec Ideal S1x1x1024 .f32) (x15 : FVec Ideal S1x1024x1024 .bf16)
    (x16 : FVec Ideal S1x256x1024 .bf16) (x17 : FVec Ideal S1x1x1024 .f32)
    {a b c z d : FVec Ideal S512x256 .f32} {ga gb gc gd : FVec Ideal S1x1x256 .f32} {h : FVec Ideal S512x1024 .f32}
    {wa wb wc wd : FVec Ideal S1x256x1024 .bf16} (r : Fin 512) (j : Fin 1024)
    (ha : ∀ k, a (ix2 r k) = x0 (ix2 r k)) (hb : ∀ k, b (ix2 r k) = x1 (ix2 r k)) (hc : ∀ k, c (ix2 r k) = x2 (ix2 r k))
    (hz : ∀ k, z (ix2 r k) = x3 (ix2 r k)) (hd : ∀ k, d (ix2 r k) = x4 (ix2 r k)) (hh : h (ix2 r j) = x5 (ix2 r j))
    (hga : ∀ k, ga (ix3 (0 : Fin 1) (0 : Fin 1) k) = x7 (ix3 (0 : Fin 1) (0 : Fin 1) (gcol 0 k)))
    (hgb : ∀ k, gb (ix3 (0 : Fin 1) (0 : Fin 1) k) = x7 (ix3 (0 : Fin 1) (0 : Fin 1) (gcol 1 k)))
    (hgc : ∀ k, gc (ix3 (0 : Fin 1) (0 : Fin 1) k) = x7 (ix3 (0 : Fin 1) (0 : Fin 1) (gcol 2 k)))
    (hgd : ∀ k, gd (ix3 (0 : Fin 1) (0 : Fin 1) k) = x7 (ix3 (0 : Fin 1) (0 : Fin 1) (gcol 3 k)))
    (hwa : ∀ k, wa (ix3 (0 : Fin 1) k j) = x8 (ix3 (0 : Fin 1) (gcol 0 k) j))
    (hwb : ∀ k, wb (ix3 (0 : Fin 1) k j) = x8 (ix3 (0 : Fin 1) (gcol 1 k) j))
    (hwc : ∀ k, wc (ix3 (0 : Fin 1) k j) = x8 (ix3 (0 : Fin 1) (gcol 2 k) j))
    (hwd : ∀ k, wd (ix3 (0 : Fin 1) k j) = x8 (ix3 (0 : Fin 1) (gcol 3 k) j)) :
    (k0_pay12 (F := Ideal) (k0_pay3 (F := Ideal) a ga) (k0_pay7 (F := Ideal) b (k0_pay4 (F := Ideal) gb) (k0_pay5 (F := Ideal) b) (k0_pay6 (F := Ideal))) (k0_pay8 (F := Ideal) c gc z) d (k0_pay9 (F := Ideal) gd) (k0_pay10 (F := Ideal) d) (k0_pay11 (F := Ideal))
        h wa wb wc wd (ix2 r j) : EReal)
      = tileRow (weights x7 x8 x9 x10 x11 x12 x13 x14 x15 x16 x17) x0 x1 x2 x3 x4 x5 r j :=
  (mixed_apply a b c z d ga gb gc gd h wa wb wc wd r j).trans (add_five hh (share_congr ha hga hwa) (share_congr hb hgb hwb)
    (gated_congr hc hgc hz hwc) (share_congr hd hgd hwd))

/-- The residual's norm, from loads. -/
theorem normed_of_rows (w : Post.Weights) {a b c d : FVec Ideal S512x256 .f32} {gd : FVec Ideal S1x256 .f32} {q e : FVec Ideal S512x1 .f32} {h : FVec Ideal S512x1024 .f32}
    {wa wb wc wd : FVec Ideal S1x256x1024 .bf16} {g : FVec Ideal S1x1x1024 .f32} {R : Fin 512 → Fin 1024 → EReal}
    (hR : ∀ r j, (k0_pay12 (F := Ideal) a b c d gd q e h wa wb wc wd (ix2 r j) : EReal) = R r j)
    (hg : ∀ k, g (ix3 (0 : Fin 1) (0 : Fin 1) k) = w.fg k) (r : Fin 512) (j : Fin 1024) :
    (k0_pay15 (F := Ideal) (k0_pay12 (F := Ideal) a b c d gd q e h wa wb wc wd) (k0_pay13 (F := Ideal) g) (k0_pay14 (F := Ideal) a b c d gd q e h wa wb wc wd) (ix2 r j) : EReal)
      = Post.rms Post.len1024 (R r) w.fg j :=
  (normed_apply _ g _ r j (squares_apply a b c d gd q e h wa wb wc wd r)).trans (rms_congr (hR r) hg j)

/-- The rows left for the next tile are stored as they are. -/
theorem left_apply (x : FVec Ideal S16x1024 .bf16) (s : Fin 16) (j : Fin 1024) : (k0_pay95 (F := Ideal) x (ix2 s j) : EReal) = x (ix2 s j) := by
  pointwise [k0_pay95]

/-- A feature of the convolution, from the loads of its weights and of the rows of the plane just stored. -/
theorem taps_loaded (x7 : FVec Ideal S1x1x1024 .f32) (x8 : FVec Ideal S1x1024x1024 .bf16) (x9 : FVec Ideal S1x1x1024 .f32)
    (x10 : FVec Ideal S1x1024x5632 .bf16) (x11 : FVec Ideal S1x3x5632 .f32) (x12 : FVec Ideal S1x1x5632 .f32)
    (x13 : FVec Ideal S1x2816x1024 .bf16) (x14 : FVec Ideal S1x1x1024 .f32) (x15 : FVec Ideal S1x1024x1024 .bf16)
    (x16 : FVec Ideal S1x256x1024 .bf16) (x17 : FVec Ideal S1x1x1024 .f32)
    (v11 : View sig .tc .vmem S1x1024x5632 .bf16) {f11 : v11.ty.Contents (Elt Ideal)} (h11 : v11.read (Elt Ideal) f11 = x10)
    (v12 : View sig .tc .vmem S1x3x5632 .f32) {f12 : v12.ty.Contents (Elt Ideal)} (h12 : v12.read (Elt Ideal) f12 = x11)
    (v13 : View sig .tc .vmem S1x1x5632 .f32) {f13 : v13.ty.Contents (Elt Ideal)} (h13 : v13.read (Elt Ideal) f13 = x12)
    (v21 : View sig .tc .vmem S4x528x256 .f32) {f21 : v21.ty.Contents (Elt Ideal)}
    {X : Fin 528 → Fin 1024 → EReal} {x : FVec Ideal S528x1024 .bf16} (hx : ∀ s j, x (ix2 s j) = X s j)
    (n col : ℕ) (f : Fin 5632) (r : Fin 512) (i : Fin 256) (hf : f.val = col + i.val)
    (i11 : ∀ a, (![0, 0, col] : Fin 3 → ℕ) a + (![1, 1024, 256] : Fin 3 → ℕ) a ≤ S1x1024x5632.size a)
    (i120 : ∀ a, (![0, 0, col] : Fin 3 → ℕ) a + (![1, 1, 256] : Fin 3 → ℕ) a ≤ S1x3x5632.size a)
    (i121 : ∀ a, (![0, 1, col] : Fin 3 → ℕ) a + (![1, 1, 256] : Fin 3 → ℕ) a ≤ S1x3x5632.size a)
    (i122 : ∀ a, (![0, 2, col] : Fin 3 → ℕ) a + (![1, 1, 256] : Fin 3 → ℕ) a ≤ S1x3x5632.size a)
    (i13 : ∀ a, (![0, 0, col] : Fin 3 → ℕ) a + (![1, 1, 256] : Fin 3 → ℕ) a ≤ S1x1x5632.size a)
    (i2 : ∀ a, (![n, 14, 0] : Fin 3 → ℕ) a + (![1, 512, 256] : Fin 3 → ℕ) a ≤ S4x528x256.size a)
    (i1 : ∀ a, (![n, 15, 0] : Fin 3 → ℕ) a + (![1, 512, 256] : Fin 3 → ℕ) a ≤ S4x528x256.size a)
    (i0 : ∀ a, (![n, 16, 0] : Fin 3 → ℕ) a + (![1, 512, 256] : Fin 3 → ℕ) a ≤ S4x528x256.size a)
    (ip : ∀ a, (![n, 0, 0] : Fin 3 → ℕ) a + (![1, 528, 256] : Fin 3 → ℕ) a ≤ S4x528x256.size a)
    {P : FVec Ideal S1x528x256 .f32} {L : List (View.Piece (Elt Ideal) S4x528x256 .f32)}
    (hP : ∀ s i, P (ix3 (0 : Fin 1) s i) = ∑ d, x (ix2 s d)
      * (v11.readAt (Elt Ideal) (Rect.unit (s := S1x1024x5632) ![0, 0, col] ![1, 1024, 256] i11).toLoadRect f11 : FVec Ideal S1x1024x256 .bf16) (ix3 (0 : Fin 1) d i)) :
    taps (v13.readAt (Elt Ideal) (Rect.unit (s := S1x1x5632) ![0, 0, col] ![1, 1, 256] i13).toLoadRect f13)
        (v12.readAt (Elt Ideal) (Rect.unit (s := S1x3x5632) ![0, 0, col] ![1, 1, 256] i120).toLoadRect f12)
        (v12.readAt (Elt Ideal) (Rect.unit (s := S1x3x5632) ![0, 1, col] ![1, 1, 256] i121).toLoadRect f12)
        (v12.readAt (Elt Ideal) (Rect.unit (s := S1x3x5632) ![0, 2, col] ![1, 1, 256] i122).toLoadRect f12)
        (v21.readAt (Elt Ideal) (Rect.unit (s := S4x528x256) ![n, 14, 0] ![1, 512, 256] i2).toLoadRect (v21.writes (Elt Ideal) f21 ((⟨Rect.unit (s := S4x528x256) ![n, 0, 0] ![1, 528, 256] ip, P⟩ : View.Piece (Elt Ideal) S4x528x256 .f32) :: L)))
        (v21.readAt (Elt Ideal) (Rect.unit (s := S4x528x256) ![n, 15, 0] ![1, 512, 256] i1).toLoadRect (v21.writes (Elt Ideal) f21 ((⟨Rect.unit (s := S4x528x256) ![n, 0, 0] ![1, 528, 256] ip, P⟩ : View.Piece (Elt Ideal) S4x528x256 .f32) :: L)))
        (v21.readAt (Elt Ideal) (Rect.unit (s := S4x528x256) ![n, 16, 0] ![1, 512, 256] i0).toLoadRect (v21.writes (Elt Ideal) f21 ((⟨Rect.unit (s := S4x528x256) ![n, 0, 0] ![1, 528, 256] ip, P⟩ : View.Piece (Elt Ideal) S4x528x256 .f32) :: L))) r i
      = Post.conv (weights x7 x8 x9 x10 x11 x12 x13 x14 x15 x16 x17)
          (Post.up (weights x7 x8 x9 x10 x11 x12 x13 x14 x15 x16 x17) (X (at' 14 (by decide) r)))
          (Post.up (weights x7 x8 x9 x10 x11 x12 x13 x14 x15 x16 x17) (X (at' 15 (by decide) r)))
          (Post.up (weights x7 x8 x9 x10 x11 x12 x13 x14 x15 x16 x17) (X (at' 16 (by decide) r))) f := by
  have hu : ∀ s, P (ix3 (0 : Fin 1) s i) = Post.up (weights x7 x8 x9 x10 x11 x12 x13 x14 x15 x16 x17) (X s) f := fun s =>
    (hP s i).trans (dot_up (weights x7 x8 x9 x10 x11 x12 x13 x14 x15 x16 x17) hx f i
      (fun d => load3 v11 f11 x10 h11 0 0 col i11 (0 : Fin 1) d i (0 : Fin 1) d f rfl (Nat.zero_add _).symm hf) s)
  exact taps_conv (weights x7 x8 x9 x10 x11 x12 x13 x14 x15 x16 x17) _ _ _ f
    (load3 v13 f13 x12 h13 0 0 col i13 (0 : Fin 1) (0 : Fin 1) i (0 : Fin 1) (0 : Fin 1) f rfl rfl hf)
    (load3 v12 f12 x11 h12 0 0 col i120 (0 : Fin 1) (0 : Fin 1) i (0 : Fin 1) (0 : Fin 3) f rfl rfl hf)
    (load3 v12 f12 x11 h12 0 1 col i121 (0 : Fin 1) (0 : Fin 1) i (0 : Fin 1) (1 : Fin 3) f rfl rfl hf)
    (load3 v12 f12 x11 h12 0 2 col i122 (0 : Fin 1) (0 : Fin 1) i (0 : Fin 1) (2 : Fin 3) f rfl rfl hf)
    ((load_up v21 f21 n 14 (by decide) i2 ip P L r i).trans (hu _))
    ((load_up v21 f21 n 15 (by decide) i1 ip P L r i).trans (hu _))
    ((load_up v21 f21 n 16 (by decide) i0 ip P L r i).trans (hu _))

end PostState
end
end
-- ==== Proof.PostRowsA.lean ====
module
public import proofs.«01_k».proof.Proof.Gen.Kernel2Ideal.Frame
public import proofs.«01_k».proof.Proof.PostChunk

/-! # The tile that begins a sequence: the rows before it are zero -/

@[expose] public section
set_option maxRecDepth 16384
noncomputable section
open Idealize.ShloMosaic Idealize.ShloMosaic.TcCoe Idealize.SL.Sem
namespace PostState
open Cert.Kernel2Ideal Cert.Kernel2Ideal.Gen PostBlocks

/-- The residual's entries. -/
theorem mixedA (c : Dev nD)
    (arg1 : Memref sig .tc .vmem S512x256 .f32) (harg1 : arg1.IsWhole)
    (arg2 : Memref sig .tc .vmem S512x256 .f32) (harg2 : arg2.IsWhole)
    (arg3 : Memref sig .tc .vmem S512x256 .f32) (harg3 : arg3.IsWhole)
    (arg4 : Memref sig .tc .vmem S512x256 .f32) (harg4 : arg4.IsWhole)
    (arg5 : Memref sig .tc .vmem S512x256 .f32) (harg5 : arg5.IsWhole)
    (arg6 : Memref sig .tc .vmem S512x1024 .f32) (harg6 : arg6.IsWhole)
    (arg8 : Memref sig .tc .vmem S1x1x1024 .f32) (harg8 : arg8.IsWhole)
    (arg9 : Memref sig .tc .vmem S1x1024x1024 .bf16) (harg9 : arg9.IsWhole)
    (x0 : Vec Ideal S512x256 .f32) (x1 : Vec Ideal S512x256 .f32) (x2 : Vec Ideal S512x256 .f32) (x3 : Vec Ideal S512x256 .f32) (x4 : Vec Ideal S512x256 .f32) (x5 : Vec Ideal S512x1024 .f32) (x7 : Vec Ideal S1x1x1024 .f32) (x8 : Vec Ideal S1x1024x1024 .bf16) (x9 : Vec Ideal S1x1x1024 .f32) (x10 : Vec Ideal S1x1024x5632 .bf16) (x11 : Vec Ideal S1x3x5632 .f32) (x12 : Vec Ideal S1x1x5632 .f32) (x13 : Vec Ideal S1x2816x1024 .bf16) (x14 : Vec Ideal S1x1x1024 .f32) (x15 : Vec Ideal S1x1024x1024 .bf16) (x16 : Vec Ideal S1x256x1024 .bf16) (x17 : Vec Ideal S1x1x1024 .f32) (r : Fin 512) (j : Fin 1024) :
    (kernelRun0_A.sl.r_9 (F := Ideal) c arg1 harg1 arg2 harg2 arg3 harg3 arg4 harg4 arg5 harg5 arg6 harg6 arg8 harg8 arg9 harg9 x0 x1 x2 x3 x4 x5 x7 x8 (ix2 r j) : EReal)
      = tileRow (weights x7 x8 x9 x10 x11 x12 x13 x14 x15 x16 x17) x0 x1 x2 x3 x4 x5 r j :=
  mixed_row x0 x1 x2 x3 x4 x5 x7 x8 x9 x10 x11 x12 x13 x14 x15 x16 x17 r j
    (fun k => load2 _ _ _ (harg1.read_unread x0) 0 0 _ r k r k (by omega) (by omega))
    (fun k => load2 _ _ _ (harg2.read_unread x1) 0 0 _ r k r k (by omega) (by omega))
    (fun k => load2 _ _ _ (harg3.read_unread x2) 0 0 _ r k r k (by omega) (by omega))
    (fun k => load2 _ _ _ (harg4.read_unread x3) 0 0 _ r k r k (by omega) (by omega))
    (fun k => load2 _ _ _ (harg5.read_unread x4) 0 0 _ r k r k (by omega) (by omega))
    (load2 _ _ _ (harg6.read_unread x5) 0 0 _ r j r j (by omega) (by omega))
    (fun k => load3 _ _ _ (harg8.read_unread x7) 0 0 0 _ (0 : Fin 1) (0 : Fin 1) k (0 : Fin 1) (0 : Fin 1) (gcol 0 k) rfl rfl rfl)
    (fun k => load3 _ _ _ (harg8.read_unread x7) 0 0 256 _ (0 : Fin 1) (0 : Fin 1) k (0 : Fin 1) (0 : Fin 1) (gcol 1 k) rfl rfl rfl)
    (fun k => load3 _ _ _ (harg8.read_unread x7) 0 0 512 _ (0 : Fin 1) (0 : Fin 1) k (0 : Fin 1) (0 : Fin 1) (gcol 2 k) rfl rfl rfl)
    (fun k => load3 _ _ _ (harg8.read_unread x7) 0 0 768 _ (0 : Fin 1) (0 : Fin 1) k (0 : Fin 1) (0 : Fin 1) (gcol 3 k) rfl rfl rfl)
    (fun k => load3 _ _ _ (harg9.read_unread x8) 0 0 0 _ (0 : Fin 1) k j (0 : Fin 1) (gcol 0 k) j rfl rfl (Nat.zero_add _).symm)
    (fun k => load3 _ _ _ (harg9.read_unread x8) 0 256 0 _ (0 : Fin 1) k j (0 : Fin 1) (gcol 1 k) j rfl rfl (Nat.zero_add _).symm)
    (fun k => load3 _ _ _ (harg9.read_unread x8) 0 512 0 _ (0 : Fin 1) k j (0 : Fin 1) (gcol 2 k) j rfl rfl (Nat.zero_add _).symm)
    (fun k => load3 _ _ _ (harg9.read_unread x8) 0 768 0 _ (0 : Fin 1) k j (0 : Fin 1) (gcol 3 k) j rfl rfl (Nat.zero_add _).symm)

/-- The normed rows with the sixteen before them, as the buffer holds them. -/
theorem rowsA (c : Dev nD)
    (arg1 : Memref sig .tc .vmem S512x256 .f32) (harg1 : arg1.IsWhole)
    (arg2 : Memref sig .tc .vmem S512x256 .f32) (harg2 : arg2.IsWhole)
    (arg3 : Memref sig .tc .vmem S512x256 .f32) (harg3 : arg3.IsWhole)
    (arg4 : Memref sig .tc .vmem S512x256 .f32) (harg4 : arg4.IsWhole)
    (arg5 : Memref sig .tc .vmem S512x256 .f32) (harg5 : arg5.IsWhole)
    (arg6 : Memref sig .tc .vmem S512x1024 .f32) (harg6 : arg6.IsWhole)
    (arg8 : Memref sig .tc .vmem S1x1x1024 .f32) (harg8 : arg8.IsWhole)
    (arg9 : Memref sig .tc .vmem S1x1024x1024 .bf16) (harg9 : arg9.IsWhole)
    (arg10 : Memref sig .tc .vmem S1x1x1024 .f32) (harg10 : arg10.IsWhole)
    (arg20 : Memref sig .tc .vmem S528x1024 .bf16) (harg20 : arg20.IsWhole)
    (x0 : Vec Ideal S512x256 .f32) (x1 : Vec Ideal S512x256 .f32) (x2 : Vec Ideal S512x256 .f32) (x3 : Vec Ideal S512x256 .f32) (x4 : Vec Ideal S512x256 .f32) (x5 : Vec Ideal S512x1024 .f32) (x7 : Vec Ideal S1x1x1024 .f32) (x8 : Vec Ideal S1x1024x1024 .bf16) (x9 : Vec Ideal S1x1x1024 .f32) (x10 : Vec Ideal S1x1024x5632 .bf16) (x11 : Vec Ideal S1x3x5632 .f32) (x12 : Vec Ideal S1x1x5632 .f32) (x13 : Vec Ideal S1x2816x1024 .bf16) (x14 : Vec Ideal S1x1x1024 .f32) (x15 : Vec Ideal S1x1024x1024 .bf16) (x16 : Vec Ideal S1x256x1024 .bf16) (x17 : Vec Ideal S1x1x1024 .f32) (s : Fin 528) (j : Fin 1024) :
    (kernelRun0_A.sl.v122 (F := Ideal) c arg1 harg1 arg2 harg2 arg3 harg3 arg4 harg4 arg5 harg5 arg6 harg6 arg8 harg8 arg9 harg9 arg10 harg10 arg20 x0 x1 x2 x3 x4 x5 x7 x8 x9 (ix2 s j) : EReal)
      = normedRow (weights x7 x8 x9 x10 x11 x12 x13 x14 x15 x16 x17) (tileRow (weights x7 x8 x9 x10 x11 x12 x13 x14 x15 x16 x17) x0 x1 x2 x3 x4 x5) (fun _ _ => 0) s j := by
  refine (load_whole _ _ _ s j).trans ?_
  unfold normedRow
  split
  · rename_i h
    refine (read_rows_other _ _ 16 _ _ _ s j h).trans ?_
    refine (read_rows _ _ 0 _ _ _ s j (⟨s.val, h⟩ : Fin 16) (Nat.zero_add _).symm).trans ?_
    show (k0_pay2 (F := Ideal) (ix2 (⟨s.val, h⟩ : Fin 16) j) : EReal) = 0
    pointwise [k0_pay2]
  · rename_i h
    refine (read_rows _ _ 16 _ _ _ s j (⟨s.val - 16, by omega⟩ : Fin 512) (by show s.val = 16 + (s.val - 16); omega)).trans ?_
    exact normed_of_rows (weights x7 x8 x9 x10 x11 x12 x13 x14 x15 x16 x17) (fun r j => mixedA c arg1 harg1 arg2 harg2 arg3 harg3 arg4 harg4 arg5 harg5 arg6 harg6 arg8 harg8 arg9 harg9 x0 x1 x2 x3 x4 x5 x7 x8 x9 x10 x11 x12 x13 x14 x15 x16 x17 r j)
      (fun k => load3 _ _ _ (harg10.read_unread x9) 0 0 0 _ (0 : Fin 1) (0 : Fin 1) k (0 : Fin 1) (0 : Fin 1) k rfl rfl (Nat.zero_add _).symm) _ j

/-- What the tile leaves for the next one: its last sixteen normed rows. -/
theorem leftA (c : Dev nD) (i : grid0.Coords)
    (arg1 : Memref sig .tc .vmem S512x256 .f32) (harg1 : arg1.IsWhole)
    (arg2 : Memref sig .tc .vmem S512x256 .f32) (harg2 : arg2.IsWhole)
    (arg3 : Memref sig .tc .vmem S512x256 .f32) (harg3 : arg3.IsWhole)
    (arg4 : Memref sig .tc .vmem S512x256 .f32) (harg4 : arg4.IsWhole)
    (arg5 : Memref sig .tc .vmem S512x256 .f32) (harg5 : arg5.IsWhole)
    (arg6 : Memref sig .tc .vmem S512x1024 .f32) (harg6 : arg6.IsWhole)
    (arg7 : Memref sig .tc .vmem S512x256 .f32) (harg7 : arg7.IsWhole)
    (arg8 : Memref sig .tc .vmem S1x1x1024 .f32) (harg8 : arg8.IsWhole)
    (arg9 : Memref sig .tc .vmem S1x1024x1024 .bf16) (harg9 : arg9.IsWhole)
    (arg10 : Memref sig .tc .vmem S1x1x1024 .f32) (harg10 : arg10.IsWhole)
    (arg11 : Memref sig .tc .vmem S1x1024x5632 .bf16) (harg11 : arg11.IsWhole)
    (arg12 : Memref sig .tc .vmem S1x3x5632 .f32) (harg12 : arg12.IsWhole)
    (arg13 : Memref sig .tc .vmem S1x1x5632 .f32) (harg13 : arg13.IsWhole)
    (arg14 : Memref sig .tc .vmem S1x2816x1024 .bf16) (harg14 : arg14.IsWhole)
    (arg15 : Memref sig .tc .vmem S1x1x1024 .f32) (harg15 : arg15.IsWhole)
    (arg16 : Memref sig .tc .vmem S1x1024x1024 .bf16) (harg16 : arg16.IsWhole)
    (arg17 : Memref sig .tc .vmem S1x256x1024 .bf16) (harg17 : arg17.IsWhole)
    (arg18 : Memref sig .tc .vmem S1x1x1024 .f32) (harg18 : arg18.IsWhole)
    (arg19 : Memref sig .tc .vmem S512x1024 .f32) (harg19 : arg19.IsWhole)
    (arg20 : Memref sig .tc .vmem S528x1024 .bf16) (harg20 : arg20.IsWhole)
    (arg21 : Memref sig .tc .vmem S4x528x256 .f32) (harg21 : arg21.IsWhole)
    (arg22 : Memref sig .tc .vmem S512x2816 .bf16) (harg22 : arg22.IsWhole)
    (hc0 : cond0_0 i)
    (x0 : Vec Ideal S512x256 .f32) (x1 : Vec Ideal S512x256 .f32) (x2 : Vec Ideal S512x256 .f32) (x3 : Vec Ideal S512x256 .f32) (x4 : Vec Ideal S512x256 .f32) (x5 : Vec Ideal S512x1024 .f32) (x6 : Vec Ideal S512x256 .f32) (x7 : Vec Ideal S1x1x1024 .f32) (x8 : Vec Ideal S1x1024x1024 .bf16) (x9 : Vec Ideal S1x1x1024 .f32) (x10 : Vec Ideal S1x1024x5632 .bf16) (x11 : Vec Ideal S1x3x5632 .f32) (x12 : Vec Ideal S1x1x5632 .f32) (x13 : Vec Ideal S1x2816x1024 .bf16) (x14 : Vec Ideal S1x1x1024 .f32) (x15 : Vec Ideal S1x1024x1024 .bf16) (x16 : Vec Ideal S1x256x1024 .bf16) (x17 : Vec Ideal S1x1x1024 .f32) (s : Fin 16) (j : Fin 1024) :
    (sout0_A_0 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 x15 x16 x17 (ix2 (⟨s.val, by omega⟩ : Fin 528) j) : EReal)
      = Post.rms Post.len1024 (tileRow (weights x7 x8 x9 x10 x11 x12 x13 x14 x15 x16 x17) x0 x1 x2 x3 x4 x5 (⟨496 + s.val, by omega⟩ : Fin 512)) (weights x7 x8 x9 x10 x11 x12 x13 x14 x15 x16 x17).fg j := by
  unfold sout0_A_0 kernelRun0_A
  dsimp only
  refine (read_rows _ _ 0 _ _ _ (⟨s.val, by omega⟩ : Fin 528) j s (Nat.zero_add _).symm).trans ?_
  refine (left_apply _ s j).trans ?_
  refine (load2 _ _ _ rfl 512 0 _ s j (⟨512 + s.val, by omega⟩ : Fin 528) j rfl (Nat.zero_add _).symm).trans ?_
  refine (read_rows _ _ 16 _ _ _ (⟨512 + s.val, by omega⟩ : Fin 528) j (⟨496 + s.val, by omega⟩ : Fin 512) (by show 512 + s.val = 16 + (496 + s.val); omega)).trans ?_
  exact normed_of_rows (weights x7 x8 x9 x10 x11 x12 x13 x14 x15 x16 x17) (fun r j => mixedA c arg1 harg1 arg2 harg2 arg3 harg3 arg4 harg4 arg5 harg5 arg6 harg6 arg8 harg8 arg9 harg9 x0 x1 x2 x3 x4 x5 x7 x8 x9 x10 x11 x12 x13 x14 x15 x16 x17 r j)
      (fun k => load3 _ _ _ (harg10.read_unread x9) 0 0 0 _ (0 : Fin 1) (0 : Fin 1) k (0 : Fin 1) (0 : Fin 1) k rfl rfl (Nat.zero_add _).symm) _ j

end PostState
end
end
-- ==== Proof.PostFeaturesA.lean ====
module
public import proofs.«01_k».proof.Proof.PostRowsA

/-! # The gated features of such a tile -/

@[expose] public section
set_option maxRecDepth 16384
noncomputable section
open Idealize.ShloMosaic Idealize.ShloMosaic.TcCoe Idealize.SL.Sem
namespace PostState
open Cert.Kernel2Ideal Cert.Kernel2Ideal.Gen PostBlocks

/-- The buffer's entries: each block of 256 columns is what its store wrote. -/
theorem featuresA (c : Dev nD)
    (arg1 : Memref sig .tc .vmem S512x256 .f32) (harg1 : arg1.IsWhole)
    (arg2 : Memref sig .tc .vmem S512x256 .f32) (harg2 : arg2.IsWhole)
    (arg3 : Memref sig .tc .vmem S512x256 .f32) (harg3 : arg3.IsWhole)
    (arg4 : Memref sig .tc .vmem S512x256 .f32) (harg4 : arg4.IsWhole)
    (arg5 : Memref sig .tc .vmem S512x256 .f32) (harg5 : arg5.IsWhole)
    (arg6 : Memref sig .tc .vmem S512x1024 .f32) (harg6 : arg6.IsWhole)
    (arg8 : Memref sig .tc .vmem S1x1x1024 .f32) (harg8 : arg8.IsWhole)
    (arg9 : Memref sig .tc .vmem S1x1024x1024 .bf16) (harg9 : arg9.IsWhole)
    (arg10 : Memref sig .tc .vmem S1x1x1024 .f32) (harg10 : arg10.IsWhole)
    (arg11 : Memref sig .tc .vmem S1x1024x5632 .bf16) (harg11 : arg11.IsWhole)
    (arg12 : Memref sig .tc .vmem S1x3x5632 .f32) (harg12 : arg12.IsWhole)
    (arg13 : Memref sig .tc .vmem S1x1x5632 .f32) (harg13 : arg13.IsWhole)
    (arg20 : Memref sig .tc .vmem S528x1024 .bf16) (harg20 : arg20.IsWhole)
    (arg21 : Memref sig .tc .vmem S4x528x256 .f32) (harg21 : arg21.IsWhole)
    (arg22 : Memref sig .tc .vmem S512x2816 .bf16) (harg22 : arg22.IsWhole)
    (x0 : Vec Ideal S512x256 .f32) (x1 : Vec Ideal S512x256 .f32) (x2 : Vec Ideal S512x256 .f32) (x3 : Vec Ideal S512x256 .f32) (x4 : Vec Ideal S512x256 .f32) (x5 : Vec Ideal S512x1024 .f32) (x7 : Vec Ideal S1x1x1024 .f32) (x8 : Vec Ideal S1x1024x1024 .bf16) (x9 : Vec Ideal S1x1x1024 .f32) (x10 : Vec Ideal S1x1024x5632 .bf16) (x11 : Vec Ideal S1x3x5632 .f32) (x12 : Vec Ideal S1x1x5632 .f32) (x13 : Vec Ideal S1x2816x1024 .bf16) (x14 : Vec Ideal S1x1x1024 .f32) (x15 : Vec Ideal S1x1024x1024 .bf16) (x16 : Vec Ideal S1x256x1024 .bf16) (x17 : Vec Ideal S1x1x1024 .f32) (r : Fin 512) (f : Fin 2816) :
    (kernelRun0_A.sl.v953 (F := Ideal) c arg1 harg1 arg2 harg2 arg3 harg3 arg4 harg4 arg5 harg5 arg6 harg6 arg8 harg8 arg9 harg9 arg10 harg10 arg11 harg11 arg12 harg12 arg13 harg13 arg20 arg21 arg22 x0 x1 x2 x3 x4 x5 x7 x8 x9 x10 x11 x12 (ix2 r f) : EReal)
      = Post.act (weights x7 x8 x9 x10 x11 x12 x13 x14 x15 x16 x17)
          (Post.up (weights x7 x8 x9 x10 x11 x12 x13 x14 x15 x16 x17) (normedRow (weights x7 x8 x9 x10 x11 x12 x13 x14 x15 x16 x17) (tileRow (weights x7 x8 x9 x10 x11 x12 x13 x14 x15 x16 x17) x0 x1 x2 x3 x4 x5) (fun _ _ => 0) (at' 14 (by decide) r)))
          (Post.up (weights x7 x8 x9 x10 x11 x12 x13 x14 x15 x16 x17) (normedRow (weights x7 x8 x9 x10 x11 x12 x13 x14 x15 x16 x17) (tileRow (weights x7 x8 x9 x10 x11 x12 x13 x14 x15 x16 x17) x0 x1 x2 x3 x4 x5) (fun _ _ => 0) (at' 15 (by decide) r)))
          (Post.up (weights x7 x8 x9 x10 x11 x12 x13 x14 x15 x16 x17) (normedRow (weights x7 x8 x9 x10 x11 x12 x13 x14 x15 x16 x17) (tileRow (weights x7 x8 x9 x10 x11 x12 x13 x14 x15 x16 x17) x0 x1 x2 x3 x4 x5) (fun _ _ => 0) (at' 16 (by decide) r))) f := by
  have hx := rowsA c arg1 harg1 arg2 harg2 arg3 harg3 arg4 harg4 arg5 harg5 arg6 harg6 arg8 harg8 arg9 harg9 arg10 harg10 arg20 harg20 x0 x1 x2 x3 x4 x5 x7 x8 x9 x10 x11 x12 x13 x14 x15 x16 x17
  refine (load_whole _ _ _ r f).trans ?_
  rcases Nat.lt_or_ge f.val 2560 with h10 | h10
  on_goal 2 =>
    refine (read_cols _ _ 2560 _ _ _ r f (⟨f.val - 2560, by omega⟩ : Fin 256) (by show f.val = 2560 + (f.val - 2560); omega)).trans ?_
    refine (chunk10 _ _ _ _ _ _ _ _ _ _ _ _ _ _ r _).trans (glu_act (weights x7 x8 x9 x10 x11 x12 x13 x14 x15 x16 x17) _ _ _ f ?_ ?_)
    · exact taps_loaded x7 x8 x9 x10 x11 x12 x13 x14 x15 x16 x17 _ (harg11.read_unread x10) _ (harg12.read_unread x11) _ (harg13.read_unread x12) _
        hx 0 2560 _ r (⟨f.val - 2560, by omega⟩ : Fin 256) (by show f.val = 2560 + (f.val - 2560); omega) _ _ _ _ _ _ _ _ _ (fun s i => up21 _ _ s i)
    · exact taps_loaded x7 x8 x9 x10 x11 x12 x13 x14 x15 x16 x17 _ (harg11.read_unread x10) _ (harg12.read_unread x11) _ (harg13.read_unread x12) _
        hx 1 5376 _ r (⟨f.val - 2560, by omega⟩ : Fin 256) (by show f.val + 2816 = 5376 + (f.val - 2560); omega) _ _ _ _ _ _ _ _ _ (fun s i => up22 _ _ s i)
  refine (read_cols_other _ _ 2560 _ _ _ r f h10).trans ?_
  rcases Nat.lt_or_ge f.val 2304 with h9 | h9
  on_goal 2 =>
    refine (read_cols _ _ 2304 _ _ _ r f (⟨f.val - 2304, by omega⟩ : Fin 256) (by show f.val = 2304 + (f.val - 2304); omega)).trans ?_
    refine (chunk9 _ _ _ _ _ _ _ _ _ _ _ _ _ _ r _).trans (glu_act (weights x7 x8 x9 x10 x11 x12 x13 x14 x15 x16 x17) _ _ _ f ?_ ?_)
    · exact taps_loaded x7 x8 x9 x10 x11 x12 x13 x14 x15 x16 x17 _ (harg11.read_unread x10) _ (harg12.read_unread x11) _ (harg13.read_unread x12) _
        hx 2 2304 _ r (⟨f.val - 2304, by omega⟩ : Fin 256) (by show f.val = 2304 + (f.val - 2304); omega) _ _ _ _ _ _ _ _ _ (fun s i => up19 _ _ s i)
    · exact taps_loaded x7 x8 x9 x10 x11 x12 x13 x14 x15 x16 x17 _ (harg11.read_unread x10) _ (harg12.read_unread x11) _ (harg13.read_unread x12) _
        hx 3 5120 _ r (⟨f.val - 2304, by omega⟩ : Fin 256) (by show f.val + 2816 = 5120 + (f.val - 2304); omega) _ _ _ _ _ _ _ _ _ (fun s i => up20 _ _ s i)
  refine (read_cols_other _ _ 2304 _ _ _ r f h9).trans ?_
  rcases Nat.lt_or_ge f.val 2048 with h8 | h8
  on_goal 2 =>
    refine (read_cols _ _ 2048 _ _ _ r f (⟨f.val - 2048, by omega⟩ : Fin 256) (by show f.val = 2048 + (f.val - 2048); omega)).trans ?_
    refine (chunk8 _ _ _ _ _ _ _ _ _ _ _ _ _ _ r _).trans (glu_act (weights x7 x8 x9 x10 x11 x12 x13 x14 x15 x16 x17) _ _ _ f ?_ ?_)
    · exact taps_loaded x7 x8 x9 x10 x11 x12 x13 x14 x15 x16 x17 _ (harg11.read_unread x10) _ (harg12.read_unread x11) _ (harg13.read_unread x12) _
        hx 0 2048 _ r (⟨f.val - 2048, by omega⟩ : Fin 256) (by show f.val = 2048 + (f.val - 2048); omega) _ _ _ _ _ _ _ _ _ (fun s i => up17 _ _ s i)
    · exact taps_loaded x7 x8 x9 x10 x11 x12 x13 x14 x15 x16 x17 _ (harg11.read_unread x10) _ (harg12.read_unread x11) _ (harg13.read_unread x12) _
        hx 1 4864 _ r (⟨f.val - 2048, by omega⟩ : Fin 256) (by show f.val + 2816 = 4864 + (f.val - 2048); omega) _ _ _ _ _ _ _ _ _ (fun s i => up18 _ _ s i)
  refine (read_cols_other _ _ 2048 _ _ _ r f h8).trans ?_
  rcases Nat.lt_or_ge f.val 1792 with h7 | h7
  on_goal 2 =>
    refine (read_cols _ _ 1792 _ _ _ r f (⟨f.val - 1792, by omega⟩ : Fin 256) (by show f.val = 1792 + (f.val - 1792); omega)).trans ?_
    refine (chunk7 _ _ _ _ _ _ _ _ _ _ _ _ _ _ r _).trans (glu_act (weights x7 x8 x9 x10 x11 x12 x13 x14 x15 x16 x17) _ _ _ f ?_ ?_)
    · exact taps_loaded x7 x8 x9 x10 x11 x12 x13 x14 x15 x16 x17 _ (harg11.read_unread x10) _ (harg12.read_unread x11) _ (harg13.read_unread x12) _
        hx 2 1792 _ r (⟨f.val - 1792, by omega⟩ : Fin 256) (by show f.val = 1792 + (f.val - 1792); omega) _ _ _ _ _ _ _ _ _ (fun s i => up15 _ _ s i)
    · exact taps_loaded x7 x8 x9 x10 x11 x12 x13 x14 x15 x16 x17 _ (harg11.read_unread x10) _ (harg12.read_unread x11) _ (harg13.read_unread x12) _
        hx 3 4608 _ r (⟨f.val - 1792, by omega⟩ : Fin 256) (by show f.val + 2816 = 4608 + (f.val - 1792); omega) _ _ _ _ _ _ _ _ _ (fun s i => up16 _ _ s i)
  refine (read_cols_other _ _ 1792 _ _ _ r f h7).trans ?_
  rcases Nat.lt_or_ge f.val 1536 with h6 | h6
  on_goal 2 =>
    refine (read_cols _ _ 1536 _ _ _ r f (⟨f.val - 1536, by omega⟩ : Fin 256) (by show f.val = 1536 + (f.val - 1536); omega)).trans ?_
    refine (chunk6 _ _ _ _ _ _ _ _ _ _ _ _ _ _ r _).trans (glu_act (weights x7 x8 x9 x10 x11 x12 x13 x14 x15 x16 x17) _ _ _ f ?_ ?_)
    · exact taps_loaded x7 x8 x9 x10 x11 x12 x13 x14 x15 x16 x17 _ (harg11.read_unread x10) _ (harg12.read_unread x11) _ (harg13.read_unread x12) _
        hx 0 1536 _ r (⟨f.val - 1536, by omega⟩ : Fin 256) (by show f.val = 1536 + (f.val - 1536); omega) _ _ _ _ _ _ _ _ _ (fun s i => up13 _ _ s i)
    · exact taps_loaded x7 x8 x9 x10 x11 x12 x13 x14 x15 x16 x17 _ (harg11.read_unread x10) _ (harg12.read_unread x11) _ (harg13.read_unread x12) _
        hx 1 4352 _ r (⟨f.val - 1536, by omega⟩ : Fin 256) (by show f.val + 2816 = 4352 + (f.val - 1536); omega) _ _ _ _ _ _ _ _ _ (fun s i => up14 _ _ s i)
  refine (read_cols_other _ _ 1536 _ _ _ r f h6).trans ?_
  rcases Nat.lt_or_ge f.val 1280 with h5 | h5
  on_goal 2 =>
    refine (read_cols _ _ 1280 _ _ _ r f (⟨f.val - 1280, by omega⟩ : Fin 256) (by show f.val = 1280 + (f.val - 1280); omega)).trans ?_
    refine (chunk5 _ _ _ _ _ _ _ _ _ _ _ _ _ _ r _).trans (glu_act (weights x7 x8 x9 x10 x11 x12 x13 x14 x15 x16 x17) _ _ _ f ?_ ?_)
    · exact taps_loaded x7 x8 x9 x10 x11 x12 x13 x14 x15 x16 x17 _ (harg11.read_unread x10) _ (harg12.read_unread x11) _ (harg13.read_unread x12) _
        hx 2 1280 _ r (⟨f.val - 1280, by omega⟩ : Fin 256) (by show f.val = 1280 + (f.val - 1280); omega) _ _ _ _ _ _ _ _ _ (fun s i => up11 _ _ s i)
    · exact taps_loaded x7 x8 x9 x10 x11 x12 x13 x14 x15 x16 x17 _ (harg11.read_unread x10) _ (harg12.read_unread x11) _ (harg13.read_unread x12) _
        hx 3 4096 _ r (⟨f.val - 1280, by omega⟩ : Fin 256) (by show f.val + 2816 = 4096 + (f.val - 1280); omega) _ _ _ _ _ _ _ _ _ (fun s i => up12 _ _ s i)
  refine (read_cols_other _ _ 1280 _ _ _ r f h5).trans ?_
  rcases Nat.lt_or_ge f.val 1024 with h4 | h4
  on_goal 2 =>
    refine (read_cols _ _ 1024 _ _ _ r f (⟨f.val - 1024, by omega⟩ : Fin 256) (by show f.val = 1024 + (f.val - 1024); omega)).trans ?_
    refine (chunk4 _ _ _ _ _ _ _ _ _ _ _ _ _ _ r _).trans (glu_act (weights x7 x8 x9 x10 x11 x12 x13 x14 x15 x16 x17) _ _ _ f ?_ ?_)
    · exact taps_loaded x7 x8 x9 x10 x11 x12 x13 x14 x15 x16 x17 _ (harg11.read_unread x10) _ (harg12.read_unread x11) _ (harg13.read_unread x12) _
        hx 0 1024 _ r (⟨f.val - 1024, by omega⟩ : Fin 256) (by show f.val = 1024 + (f.val - 1024); omega) _ _ _ _ _ _ _ _ _ (fun s i => up9 _ _ s i)
    · exact taps_loaded x7 x8 x9 x10 x11 x12 x13 x14 x15 x16 x17 _ (harg11.read_unread x10) _ (harg12.read_unread x11) _ (harg13.read_unread x12) _
        hx 1 3840 _ r (⟨f.val - 1024, by omega⟩ : Fin 256) (by show f.val + 2816 = 3840 + (f.val - 1024); omega) _ _ _ _ _ _ _ _ _ (fun s i => up10 _ _ s i)
  refine (read_cols_other _ _ 1024 _ _ _ r f h4).trans ?_
  rcases Nat.lt_or_ge f.val 768 with h3 | h3
  on_goal 2 =>
    refine (read_cols _ _ 768 _ _ _ r f (⟨f.val - 768, by omega⟩ : Fin 256) (by show f.val = 768 + (f.val - 768); omega)).trans ?_
    refine (chunk3 _ _ _ _ _ _ _ _ _ _ _ _ _ _ r _).trans (glu_act (weights x7 x8 x9 x10 x11 x12 x13 x14 x15 x16 x17) _ _ _ f ?_ ?_)
    · exact taps_loaded x7 x8 x9 x10 x11 x12 x13 x14 x15 x16 x17 _ (harg11.read_unread x10) _ (harg12.read_unread x11) _ (harg13.read_unread x12) _
        hx 2 768 _ r (⟨f.val - 768, by omega⟩ : Fin 256) (by show f.val = 768 + (f.val - 768); omega) _ _ _ _ _ _ _ _ _ (fun s i => up7 _ _ s i)
    · exact taps_loaded x7 x8 x9 x10 x11 x12 x13 x14 x15 x16 x17 _ (harg11.read_unread x10) _ (harg12.read_unread x11) _ (harg13.read_unread x12) _
        hx 3 3584 _ r (⟨f.val - 768, by omega⟩ : Fin 256) (by show f.val + 2816 = 3584 + (f.val - 768); omega) _ _ _ _ _ _ _ _ _ (fun s i => up8 _ _ s i)
  refine (read_cols_other _ _ 768 _ _ _ r f h3).trans ?_
  rcases Nat.lt_or_ge f.val 512 with h2 | h2
  on_goal 2 =>
    refine (read_cols _ _ 512 _ _ _ r f (⟨f.val - 512, by omega⟩ : Fin 256) (by show f.val = 512 + (f.val - 512); omega)).trans ?_
    refine (chunk2 _ _ _ _ _ _ _ _ _ _ _ _ _ _ r _).trans (glu_act (weights x7 x8 x9 x10 x11 x12 x13 x14 x15 x16 x17) _ _ _ f ?_ ?_)
    · exact taps_loaded x7 x8 x9 x10 x11 x12 x13 x14 x15 x16 x17 _ (harg11.read_unread x10) _ (harg12.read_unread x11) _ (harg13.read_unread x12) _
        hx 0 512 _ r (⟨f.val - 512, by omega⟩ : Fin 256) (by show f.val = 512 + (f.val - 512); omega) _ _ _ _ _ _ _ _ _ (fun s i => up5 _ _ s i)
    · exact taps_loaded x7 x8 x9 x10 x11 x12 x13 x14 x15 x16 x17 _ (harg11.read_unread x10) _ (harg12.read_unread x11) _ (harg13.read_unread x12) _
        hx 1 3328 _ r (⟨f.val - 512, by omega⟩ : Fin 256) (by show f.val + 2816 = 3328 + (f.val - 512); omega) _ _ _ _ _ _ _ _ _ (fun s i => up6 _ _ s i)
  refine (read_cols_other _ _ 512 _ _ _ r f h2).trans ?_
  rcases Nat.lt_or_ge f.val 256 with h1 | h1
  on_goal 2 =>
    refine (read_cols _ _ 256 _ _ _ r f (⟨f.val - 256, by omega⟩ : Fin 256) (by show f.val = 256 + (f.val - 256); omega)).trans ?_
    refine (chunk1 _ _ _ _ _ _ _ _ _ _ _ _ _ _ r _).trans (glu_act (weights x7 x8 x9 x10 x11 x12 x13 x14 x15 x16 x17) _ _ _ f ?_ ?_)
    · exact taps_loaded x7 x8 x9 x10 x11 x12 x13 x14 x15 x16 x17 _ (harg11.read_unread x10) _ (harg12.read_unread x11) _ (harg13.read_unread x12) _
        hx 2 256 _ r (⟨f.val - 256, by omega⟩ : Fin 256) (by show f.val = 256 + (f.val - 256); omega) _ _ _ _ _ _ _ _ _ (fun s i => up3 _ _ s i)
    · exact taps_loaded x7 x8 x9 x10 x11 x12 x13 x14 x15 x16 x17 _ (harg11.read_unread x10) _ (harg12.read_unread x11) _ (harg13.read_unread x12) _
        hx 3 3072 _ r (⟨f.val - 256, by omega⟩ : Fin 256) (by show f.val + 2816 = 3072 + (f.val - 256); omega) _ _ _ _ _ _ _ _ _ (fun s i => up4 _ _ s i)
  refine (read_cols_other _ _ 256 _ _ _ r f h1).trans ?_
  on_goal 1 =>
    refine (read_cols _ _ 0 _ _ _ r f (⟨f.val - 0, by omega⟩ : Fin 256) (by show f.val = 0 + (f.val - 0); omega)).trans ?_
    refine (chunk0 _ _ _ _ _ _ _ _ _ _ _ _ _ _ r _).trans (glu_act (weights x7 x8 x9 x10 x11 x12 x13 x14 x15 x16 x17) _ _ _ f ?_ ?_)
    · exact taps_loaded x7 x8 x9 x10 x11 x12 x13 x14 x15 x16 x17 _ (harg11.read_unread x10) _ (harg12.read_unread x11) _ (harg13.read_unread x12) _
        hx 0 0 _ r (⟨f.val - 0, by omega⟩ : Fin 256) (by show f.val = 0 + (f.val - 0); omega) _ _ _ _ _ _ _ _ _ (fun s i => up1 _ _ s i)
    · exact taps_loaded x7 x8 x9 x10 x11 x12 x13 x14 x15 x16 x17 _ (harg11.read_unread x10) _ (harg12.read_unread x11) _ (harg13.read_unread x12) _
        hx 1 2816 _ r (⟨f.val - 0, by omega⟩ : Fin 256) (by show f.val + 2816 = 2816 + (f.val - 0); omega) _ _ _ _ _ _ _ _ _ (fun s i => up2 _ _ s i)

end PostState
end
end
-- ==== Proof.PostCaseA.lean ====
module
public import proofs.«01_k».proof.Proof.PostFeaturesA

/-! # The result of such a tile -/

@[expose] public section
set_option maxRecDepth 16384
noncomputable section
open Idealize.ShloMosaic Idealize.ShloMosaic.TcCoe Idealize.SL.Sem
namespace PostState
open Cert.Kernel2Ideal Cert.Kernel2Ideal.Gen PostBlocks

/-- The block's entries. -/
theorem outA (c : Dev nD) (i : grid0.Coords)
    (arg1 : Memref sig .tc .vmem S512x256 .f32) (harg1 : arg1.IsWhole)
    (arg2 : Memref sig .tc .vmem S512x256 .f32) (harg2 : arg2.IsWhole)
    (arg3 : Memref sig .tc .vmem S512x256 .f32) (harg3 : arg3.IsWhole)
    (arg4 : Memref sig .tc .vmem S512x256 .f32) (harg4 : arg4.IsWhole)
    (arg5 : Memref sig .tc .vmem S512x256 .f32) (harg5 : arg5.IsWhole)
    (arg6 : Memref sig .tc .vmem S512x1024 .f32) (harg6 : arg6.IsWhole)
    (arg7 : Memref sig .tc .vmem S512x256 .f32) (harg7 : arg7.IsWhole)
    (arg8 : Memref sig .tc .vmem S1x1x1024 .f32) (harg8 : arg8.IsWhole)
    (arg9 : Memref sig .tc .vmem S1x1024x1024 .bf16) (harg9 : arg9.IsWhole)
    (arg10 : Memref sig .tc .vmem S1x1x1024 .f32) (harg10 : arg10.IsWhole)
    (arg11 : Memref sig .tc .vmem S1x1024x5632 .bf16) (harg11 : arg11.IsWhole)
    (arg12 : Memref sig .tc .vmem S1x3x5632 .f32) (harg12 : arg12.IsWhole)
    (arg13 : Memref sig .tc .vmem S1x1x5632 .f32) (harg13 : arg13.IsWhole)
    (arg14 : Memref sig .tc .vmem S1x2816x1024 .bf16) (harg14 : arg14.IsWhole)
    (arg15 : Memref sig .tc .vmem S1x1x1024 .f32) (harg15 : arg15.IsWhole)
    (arg16 : Memref sig .tc .vmem S1x1024x1024 .bf16) (harg16 : arg16.IsWhole)
    (arg17 : Memref sig .tc .vmem S1x256x1024 .bf16) (harg17 : arg17.IsWhole)
    (arg18 : Memref sig .tc .vmem S1x1x1024 .f32) (harg18 : arg18.IsWhole)
    (arg19 : Memref sig .tc .vmem S512x1024 .f32) (harg19 : arg19.IsWhole)
    (arg20 : Memref sig .tc .vmem S528x1024 .bf16) (harg20 : arg20.IsWhole)
    (arg21 : Memref sig .tc .vmem S4x528x256 .f32) (harg21 : arg21.IsWhole)
    (arg22 : Memref sig .tc .vmem S512x2816 .bf16) (harg22 : arg22.IsWhole)
    (hc0 : cond0_0 i)
    (x0 : Vec Ideal S512x256 .f32) (x1 : Vec Ideal S512x256 .f32) (x2 : Vec Ideal S512x256 .f32) (x3 : Vec Ideal S512x256 .f32) (x4 : Vec Ideal S512x256 .f32) (x5 : Vec Ideal S512x1024 .f32) (x6 : Vec Ideal S512x256 .f32) (x7 : Vec Ideal S1x1x1024 .f32) (x8 : Vec Ideal S1x1024x1024 .bf16) (x9 : Vec Ideal S1x1x1024 .f32) (x10 : Vec Ideal S1x1024x5632 .bf16) (x11 : Vec Ideal S1x3x5632 .f32) (x12 : Vec Ideal S1x1x5632 .f32) (x13 : Vec Ideal S1x2816x1024 .bf16) (x14 : Vec Ideal S1x1x1024 .f32) (x15 : Vec Ideal S1x1024x1024 .bf16) (x16 : Vec Ideal S1x256x1024 .bf16) (x17 : Vec Ideal S1x1x1024 .f32) (r : Fin 512) (j : Fin 1024) :
    (out0_A_18 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 x15 x16 x17 (ix2 r j) : EReal)
      = tileOut (weights x7 x8 x9 x10 x11 x12 x13 x14 x15 x16 x17) (tileRow (weights x7 x8 x9 x10 x11 x12 x13 x14 x15 x16 x17) x0 x1 x2 x3 x4 x5) (fun _ _ => 0) x6 r j := by
  unfold out0_A_18 kernelRun0_A
  dsimp only
  refine (read_rows _ _ 0 _ _ _ r j r (Nat.zero_add _).symm).trans ?_
  refine (out_apply _ _ _ _ _ _ _ _ r j (weights x7 x8 x9 x10 x11 x12 x13 x14 x15 x16 x17)
    (funext fun k => funext fun l => (load3 _ _ _ (harg14.read_unread x13) 0 0 0 _ (0 : Fin 1) k l (0 : Fin 1) k l rfl (Nat.zero_add _).symm (Nat.zero_add _).symm).symm)
    (funext fun l => (load3 _ _ _ (harg15.read_unread x14) 0 0 0 _ (0 : Fin 1) (0 : Fin 1) l (0 : Fin 1) (0 : Fin 1) l rfl rfl (Nat.zero_add _).symm).symm)
    (funext fun k => funext fun l => (load3 _ _ _ (harg16.read_unread x15) 0 0 0 _ (0 : Fin 1) k l (0 : Fin 1) k l rfl (Nat.zero_add _).symm (Nat.zero_add _).symm).symm)
    (funext fun k => funext fun l => (load3 _ _ _ (harg17.read_unread x16) 0 0 0 _ (0 : Fin 1) k l (0 : Fin 1) k l rfl (Nat.zero_add _).symm (Nat.zero_add _).symm).symm)
    (funext fun l => (load3 _ _ _ (harg18.read_unread x17) 0 0 0 _ (0 : Fin 1) (0 : Fin 1) l (0 : Fin 1) (0 : Fin 1) l rfl rfl (Nat.zero_add _).symm).symm)).trans ?_
  exact outRow_congr (weights x7 x8 x9 x10 x11 x12 x13 x14 x15 x16 x17)
    (fun k => (load_whole _ _ _ r k).trans ((read_rows _ _ 0 _ _ _ r k r (Nat.zero_add _).symm).trans
      (mixedA c arg1 harg1 arg2 harg2 arg3 harg3 arg4 harg4 arg5 harg5 arg6 harg6 arg8 harg8 arg9 harg9 x0 x1 x2 x3 x4 x5 x7 x8 x9 x10 x11 x12 x13 x14 x15 x16 x17 r k)))
    (fun f => featuresA c arg1 harg1 arg2 harg2 arg3 harg3 arg4 harg4 arg5 harg5 arg6 harg6 arg8 harg8 arg9 harg9 arg10 harg10 arg11 harg11 arg12 harg12 arg13 harg13 arg20 harg20 arg21 harg21 arg22 harg22 x0 x1 x2 x3 x4 x5 x7 x8 x9 x10 x11 x12 x13 x14 x15 x16 x17 r f)
    (fun k => load2 _ _ _ (harg7.read_unread x6) 0 0 _ r k r k (Nat.zero_add _).symm (Nat.zero_add _).symm) j

end PostState
end
end
-- ==== Proof.PostRowsB.lean ====
module
public import proofs.«01_k».proof.Proof.Gen.Kernel2Ideal.Frame
public import proofs.«01_k».proof.Proof.PostChunk

/-! # The tile in the middle of a sequence: the rows before it are those the tile before left -/

@[expose] public section
set_option maxRecDepth 16384
noncomputable section
open Idealize.ShloMosaic Idealize.ShloMosaic.TcCoe Idealize.SL.Sem
namespace PostState
open Cert.Kernel2Ideal Cert.Kernel2Ideal.Gen PostBlocks

/-- The residual's entries. -/
theorem mixedB (c : Dev nD)
    (arg1 : Memref sig .tc .vmem S512x256 .f32) (harg1 : arg1.IsWhole)
    (arg2 : Memref sig .tc .vmem S512x256 .f32) (harg2 : arg2.IsWhole)
    (arg3 : Memref sig .tc .vmem S512x256 .f32) (harg3 : arg3.IsWhole)
    (arg4 : Memref sig .tc .vmem S512x256 .f32) (harg4 : arg4.IsWhole)
    (arg5 : Memref sig .tc .vmem S512x256 .f32) (harg5 : arg5.IsWhole)
    (arg6 : Memref sig .tc .vmem S512x1024 .f32) (harg6 : arg6.IsWhole)
    (arg8 : Memref sig .tc .vmem S1x1x1024 .f32) (harg8 : arg8.IsWhole)
    (arg9 : Memref sig .tc .vmem S1x1024x1024 .bf16) (harg9 : arg9.IsWhole)
    (x0 : Vec Ideal S512x256 .f32) (x1 : Vec Ideal S512x256 .f32) (x2 : Vec Ideal S512x256 .f32) (x3 : Vec Ideal S512x256 .f32) (x4 : Vec Ideal S512x256 .f32) (x5 : Vec Ideal S512x1024 .f32) (x7 : Vec Ideal S1x1x1024 .f32) (x8 : Vec Ideal S1x1024x1024 .bf16) (x9 : Vec Ideal S1x1x1024 .f32) (x10 : Vec Ideal S1x1024x5632 .bf16) (x11 : Vec Ideal S1x3x5632 .f32) (x12 : Vec Ideal S1x1x5632 .f32) (x13 : Vec Ideal S1x2816x1024 .bf16) (x14 : Vec Ideal S1x1x1024 .f32) (x15 : Vec Ideal S1x1024x1024 .bf16) (x16 : Vec Ideal S1x256x1024 .bf16) (x17 : Vec Ideal S1x1x1024 .f32) (r : Fin 512) (j : Fin 1024) :
    (kernelRun0_B.sl.r_9 (F := Ideal) c arg1 harg1 arg2 harg2 arg3 harg3 arg4 harg4 arg5 harg5 arg6 harg6 arg8 harg8 arg9 harg9 x0 x1 x2 x3 x4 x5 x7 x8 (ix2 r j) : EReal)
      = tileRow (weights x7 x8 x9 x10 x11 x12 x13 x14 x15 x16 x17) x0 x1 x2 x3 x4 x5 r j :=
  mixed_row x0 x1 x2 x3 x4 x5 x7 x8 x9 x10 x11 x12 x13 x14 x15 x16 x17 r j
    (fun k => load2 _ _ _ (harg1.read_unread x0) 0 0 _ r k r k (by omega) (by omega))
    (fun k => load2 _ _ _ (harg2.read_unread x1) 0 0 _ r k r k (by omega) (by omega))
    (fun k => load2 _ _ _ (harg3.read_unread x2) 0 0 _ r k r k (by omega) (by omega))
    (fun k => load2 _ _ _ (harg4.read_unread x3) 0 0 _ r k r k (by omega) (by omega))
    (fun k => load2 _ _ _ (harg5.read_unread x4) 0 0 _ r k r k (by omega) (by omega))
    (load2 _ _ _ (harg6.read_unread x5) 0 0 _ r j r j (by omega) (by omega))
    (fun k => load3 _ _ _ (harg8.read_unread x7) 0 0 0 _ (0 : Fin 1) (0 : Fin 1) k (0 : Fin 1) (0 : Fin 1) (gcol 0 k) rfl rfl rfl)
    (fun k => load3 _ _ _ (harg8.read_unread x7) 0 0 256 _ (0 : Fin 1) (0 : Fin 1) k (0 : Fin 1) (0 : Fin 1) (gcol 1 k) rfl rfl rfl)
    (fun k => load3 _ _ _ (harg8.read_unread x7) 0 0 512 _ (0 : Fin 1) (0 : Fin 1) k (0 : Fin 1) (0 : Fin 1) (gcol 2 k) rfl rfl rfl)
    (fun k => load3 _ _ _ (harg8.read_unread x7) 0 0 768 _ (0 : Fin 1) (0 : Fin 1) k (0 : Fin 1) (0 : Fin 1) (gcol 3 k) rfl rfl rfl)
    (fun k => load3 _ _ _ (harg9.read_unread x8) 0 0 0 _ (0 : Fin 1) k j (0 : Fin 1) (gcol 0 k) j rfl rfl (Nat.zero_add _).symm)
    (fun k => load3 _ _ _ (harg9.read_unread x8) 0 256 0 _ (0 : Fin 1) k j (0 : Fin 1) (gcol 1 k) j rfl rfl (Nat.zero_add _).symm)
    (fun k => load3 _ _ _ (harg9.read_unread x8) 0 512 0 _ (0 : Fin 1) k j (0 : Fin 1) (gcol 2 k) j rfl rfl (Nat.zero_add _).symm)
    (fun k => load3 _ _ _ (harg9.read_unread x8) 0 768 0 _ (0 : Fin 1) k j (0 : Fin 1) (gcol 3 k) j rfl rfl (Nat.zero_add _).symm)

/-- The normed rows with the sixteen before them, as the buffer holds them. -/
theorem rowsB (c : Dev nD)
    (arg1 : Memref sig .tc .vmem S512x256 .f32) (harg1 : arg1.IsWhole)
    (arg2 : Memref sig .tc .vmem S512x256 .f32) (harg2 : arg2.IsWhole)
    (arg3 : Memref sig .tc .vmem S512x256 .f32) (harg3 : arg3.IsWhole)
    (arg4 : Memref sig .tc .vmem S512x256 .f32) (harg4 : arg4.IsWhole)
    (arg5 : Memref sig .tc .vmem S512x256 .f32) (harg5 : arg5.IsWhole)
    (arg6 : Memref sig .tc .vmem S512x1024 .f32) (harg6 : arg6.IsWhole)
    (arg8 : Memref sig .tc .vmem S1x1x1024 .f32) (harg8 : arg8.IsWhole)
    (arg9 : Memref sig .tc .vmem S1x1024x1024 .bf16) (harg9 : arg9.IsWhole)
    (arg10 : Memref sig .tc .vmem S1x1x1024 .f32) (harg10 : arg10.IsWhole)
    (arg20 : Memref sig .tc .vmem S528x1024 .bf16) (harg20 : arg20.IsWhole)
    (x0 : Vec Ideal S512x256 .f32) (x1 : Vec Ideal S512x256 .f32) (x2 : Vec Ideal S512x256 .f32) (x3 : Vec Ideal S512x256 .f32) (x4 : Vec Ideal S512x256 .f32) (x5 : Vec Ideal S512x1024 .f32) (x7 : Vec Ideal S1x1x1024 .f32) (x8 : Vec Ideal S1x1024x1024 .bf16) (x9 : Vec Ideal S1x1x1024 .f32) (x10 : Vec Ideal S1x1024x5632 .bf16) (x11 : Vec Ideal S1x3x5632 .f32) (x12 : Vec Ideal S1x1x5632 .f32) (x13 : Vec Ideal S1x2816x1024 .bf16) (x14 : Vec Ideal S1x1x1024 .f32) (x15 : Vec Ideal S1x1024x1024 .bf16) (x16 : Vec Ideal S1x256x1024 .bf16) (x17 : Vec Ideal S1x1x1024 .f32) (xs0 : Vec Ideal S528x1024 .bf16) (s : Fin 528) (j : Fin 1024) :
    (kernelRun0_B.sl.v122 (F := Ideal) c arg1 harg1 arg2 harg2 arg3 harg3 arg4 harg4 arg5 harg5 arg6 harg6 arg8 harg8 arg9 harg9 arg10 harg10 arg20 harg20 x0 x1 x2 x3 x4 x5 x7 x8 x9 xs0 (ix2 s j) : EReal)
      = normedRow (weights x7 x8 x9 x10 x11 x12 x13 x14 x15 x16 x17) (tileRow (weights x7 x8 x9 x10 x11 x12 x13 x14 x15 x16 x17) x0 x1 x2 x3 x4 x5) (fun s j => xs0 (ix2 (⟨s.val, by omega⟩ : Fin 528) j)) s j := by
  refine (load_whole _ _ _ s j).trans ?_
  unfold normedRow
  split
  · rename_i h
    refine (read_rows_other _ _ 16 _ _ _ s j h).trans ?_
    exact congrFun (harg20.read_unread xs0) _
  · rename_i h
    refine (read_rows _ _ 16 _ _ _ s j (⟨s.val - 16, by omega⟩ : Fin 512) (by show s.val = 16 + (s.val - 16); omega)).trans ?_
    exact normed_of_rows (weights x7 x8 x9 x10 x11 x12 x13 x14 x15 x16 x17) (fun r j => mixedB c arg1 harg1 arg2 harg2 arg3 harg3 arg4 harg4 arg5 harg5 arg6 harg6 arg8 harg8 arg9 harg9 x0 x1 x2 x3 x4 x5 x7 x8 x9 x10 x11 x12 x13 x14 x15 x16 x17 r j)
      (fun k => load3 _ _ _ (harg10.read_unread x9) 0 0 0 _ (0 : Fin 1) (0 : Fin 1) k (0 : Fin 1) (0 : Fin 1) k rfl rfl (Nat.zero_add _).symm) _ j

/-- What the tile leaves for the next one: its last sixteen normed rows. -/
theorem leftB (c : Dev nD) (i : grid0.Coords)
    (arg1 : Memref sig .tc .vmem S512x256 .f32) (harg1 : arg1.IsWhole)
    (arg2 : Memref sig .tc .vmem S512x256 .f32) (harg2 : arg2.IsWhole)
    (arg3 : Memref sig .tc .vmem S512x256 .f32) (harg3 : arg3.IsWhole)
    (arg4 : Memref sig .tc .vmem S512x256 .f32) (harg4 : arg4.IsWhole)
    (arg5 : Memref sig .tc .vmem S512x256 .f32) (harg5 : arg5.IsWhole)
    (arg6 : Memref sig .tc .vmem S512x1024 .f32) (harg6 : arg6.IsWhole)
    (arg7 : Memref sig .tc .vmem S512x256 .f32) (harg7 : arg7.IsWhole)
    (arg8 : Memref sig .tc .vmem S1x1x1024 .f32) (harg8 : arg8.IsWhole)
    (arg9 : Memref sig .tc .vmem S1x1024x1024 .bf16) (harg9 : arg9.IsWhole)
    (arg10 : Memref sig .tc .vmem S1x1x1024 .f32) (harg10 : arg10.IsWhole)
    (arg11 : Memref sig .tc .vmem S1x1024x5632 .bf16) (harg11 : arg11.IsWhole)
    (arg12 : Memref sig .tc .vmem S1x3x5632 .f32) (harg12 : arg12.IsWhole)
    (arg13 : Memref sig .tc .vmem S1x1x5632 .f32) (harg13 : arg13.IsWhole)
    (arg14 : Memref sig .tc .vmem S1x2816x1024 .bf16) (harg14 : arg14.IsWhole)
    (arg15 : Memref sig .tc .vmem S1x1x1024 .f32) (harg15 : arg15.IsWhole)
    (arg16 : Memref sig .tc .vmem S1x1024x1024 .bf16) (harg16 : arg16.IsWhole)
    (arg17 : Memref sig .tc .vmem S1x256x1024 .bf16) (harg17 : arg17.IsWhole)
    (arg18 : Memref sig .tc .vmem S1x1x1024 .f32) (harg18 : arg18.IsWhole)
    (arg19 : Memref sig .tc .vmem S512x1024 .f32) (harg19 : arg19.IsWhole)
    (arg20 : Memref sig .tc .vmem S528x1024 .bf16) (harg20 : arg20.IsWhole)
    (arg21 : Memref sig .tc .vmem S4x528x256 .f32) (harg21 : arg21.IsWhole)
    (arg22 : Memref sig .tc .vmem S512x2816 .bf16) (harg22 : arg22.IsWhole)
    (hc0 : ¬cond0_0 i)
    (x0 : Vec Ideal S512x256 .f32) (x1 : Vec Ideal S512x256 .f32) (x2 : Vec Ideal S512x256 .f32) (x3 : Vec Ideal S512x256 .f32) (x4 : Vec Ideal S512x256 .f32) (x5 : Vec Ideal S512x1024 .f32) (x6 : Vec Ideal S512x256 .f32) (x7 : Vec Ideal S1x1x1024 .f32) (x8 : Vec Ideal S1x1024x1024 .bf16) (x9 : Vec Ideal S1x1x1024 .f32) (x10 : Vec Ideal S1x1024x5632 .bf16) (x11 : Vec Ideal S1x3x5632 .f32) (x12 : Vec Ideal S1x1x5632 .f32) (x13 : Vec Ideal S1x2816x1024 .bf16) (x14 : Vec Ideal S1x1x1024 .f32) (x15 : Vec Ideal S1x1024x1024 .bf16) (x16 : Vec Ideal S1x256x1024 .bf16) (x17 : Vec Ideal S1x1x1024 .f32) (xs0 : Vec Ideal S528x1024 .bf16) (s : Fin 16) (j : Fin 1024) :
    (sout0_B_0 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 x15 x16 x17 xs0 (ix2 (⟨s.val, by omega⟩ : Fin 528) j) : EReal)
      = Post.rms Post.len1024 (tileRow (weights x7 x8 x9 x10 x11 x12 x13 x14 x15 x16 x17) x0 x1 x2 x3 x4 x5 (⟨496 + s.val, by omega⟩ : Fin 512)) (weights x7 x8 x9 x10 x11 x12 x13 x14 x15 x16 x17).fg j := by
  unfold sout0_B_0 kernelRun0_B
  dsimp only
  refine (read_rows _ _ 0 _ _ _ (⟨s.val, by omega⟩ : Fin 528) j s (Nat.zero_add _).symm).trans ?_
  refine (left_apply _ s j).trans ?_
  refine (load2 _ _ _ rfl 512 0 _ s j (⟨512 + s.val, by omega⟩ : Fin 528) j rfl (Nat.zero_add _).symm).trans ?_
  refine (read_rows _ _ 16 _ _ _ (⟨512 + s.val, by omega⟩ : Fin 528) j (⟨496 + s.val, by omega⟩ : Fin 512) (by show 512 + s.val = 16 + (496 + s.val); omega)).trans ?_
  exact normed_of_rows (weights x7 x8 x9 x10 x11 x12 x13 x14 x15 x16 x17) (fun r j => mixedB c arg1 harg1 arg2 harg2 arg3 harg3 arg4 harg4 arg5 harg5 arg6 harg6 arg8 harg8 arg9 harg9 x0 x1 x2 x3 x4 x5 x7 x8 x9 x10 x11 x12 x13 x14 x15 x16 x17 r j)
      (fun k => load3 _ _ _ (harg10.read_unread x9) 0 0 0 _ (0 : Fin 1) (0 : Fin 1) k (0 : Fin 1) (0 : Fin 1) k rfl rfl (Nat.zero_add _).symm) _ j

end PostState
end
end
-- ==== Proof.PostFeaturesB.lean ====
module
public import proofs.«01_k».proof.Proof.PostRowsB

/-! # The gated features of such a tile -/

@[expose] public section
set_option maxRecDepth 16384
noncomputable section
open Idealize.ShloMosaic Idealize.ShloMosaic.TcCoe Idealize.SL.Sem
namespace PostState
open Cert.Kernel2Ideal Cert.Kernel2Ideal.Gen PostBlocks

/-- The buffer's entries: each block of 256 columns is what its store wrote. -/
theorem featuresB (c : Dev nD)
    (arg1 : Memref sig .tc .vmem S512x256 .f32) (harg1 : arg1.IsWhole)
    (arg2 : Memref sig .tc .vmem S512x256 .f32) (harg2 : arg2.IsWhole)
    (arg3 : Memref sig .tc .vmem S512x256 .f32) (harg3 : arg3.IsWhole)
    (arg4 : Memref sig .tc .vmem S512x256 .f32) (harg4 : arg4.IsWhole)
    (arg5 : Memref sig .tc .vmem S512x256 .f32) (harg5 : arg5.IsWhole)
    (arg6 : Memref sig .tc .vmem S512x1024 .f32) (harg6 : arg6.IsWhole)
    (arg8 : Memref sig .tc .vmem S1x1x1024 .f32) (harg8 : arg8.IsWhole)
    (arg9 : Memref sig .tc .vmem S1x1024x1024 .bf16) (harg9 : arg9.IsWhole)
    (arg10 : Memref sig .tc .vmem S1x1x1024 .f32) (harg10 : arg10.IsWhole)
    (arg11 : Memref sig .tc .vmem S1x1024x5632 .bf16) (harg11 : arg11.IsWhole)
    (arg12 : Memref sig .tc .vmem S1x3x5632 .f32) (harg12 : arg12.IsWhole)
    (arg13 : Memref sig .tc .vmem S1x1x5632 .f32) (harg13 : arg13.IsWhole)
    (arg20 : Memref sig .tc .vmem S528x1024 .bf16) (harg20 : arg20.IsWhole)
    (arg21 : Memref sig .tc .vmem S4x528x256 .f32) (harg21 : arg21.IsWhole)
    (arg22 : Memref sig .tc .vmem S512x2816 .bf16) (harg22 : arg22.IsWhole)
    (x0 : Vec Ideal S512x256 .f32) (x1 : Vec Ideal S512x256 .f32) (x2 : Vec Ideal S512x256 .f32) (x3 : Vec Ideal S512x256 .f32) (x4 : Vec Ideal S512x256 .f32) (x5 : Vec Ideal S512x1024 .f32) (x7 : Vec Ideal S1x1x1024 .f32) (x8 : Vec Ideal S1x1024x1024 .bf16) (x9 : Vec Ideal S1x1x1024 .f32) (x10 : Vec Ideal S1x1024x5632 .bf16) (x11 : Vec Ideal S1x3x5632 .f32) (x12 : Vec Ideal S1x1x5632 .f32) (x13 : Vec Ideal S1x2816x1024 .bf16) (x14 : Vec Ideal S1x1x1024 .f32) (x15 : Vec Ideal S1x1024x1024 .bf16) (x16 : Vec Ideal S1x256x1024 .bf16) (x17 : Vec Ideal S1x1x1024 .f32) (xs0 : Vec Ideal S528x1024 .bf16) (r : Fin 512) (f : Fin 2816) :
    (kernelRun0_B.sl.v953 (F := Ideal) c arg1 harg1 arg2 harg2 arg3 harg3 arg4 harg4 arg5 harg5 arg6 harg6 arg8 harg8 arg9 harg9 arg10 harg10 arg11 harg11 arg12 harg12 arg13 harg13 arg20 harg20 arg21 arg22 x0 x1 x2 x3 x4 x5 x7 x8 x9 x10 x11 x12 xs0 (ix2 r f) : EReal)
      = Post.act (weights x7 x8 x9 x10 x11 x12 x13 x14 x15 x16 x17)
          (Post.up (weights x7 x8 x9 x10 x11 x12 x13 x14 x15 x16 x17) (normedRow (weights x7 x8 x9 x10 x11 x12 x13 x14 x15 x16 x17) (tileRow (weights x7 x8 x9 x10 x11 x12 x13 x14 x15 x16 x17) x0 x1 x2 x3 x4 x5) (fun s j => xs0 (ix2 (⟨s.val, by omega⟩ : Fin 528) j)) (at' 14 (by decide) r)))
          (Post.up (weights x7 x8 x9 x10 x11 x12 x13 x14 x15 x16 x17) (normedRow (weights x7 x8 x9 x10 x11 x12 x13 x14 x15 x16 x17) (tileRow (weights x7 x8 x9 x10 x11 x12 x13 x14 x15 x16 x17) x0 x1 x2 x3 x4 x5) (fun s j => xs0 (ix2 (⟨s.val, by omega⟩ : Fin 528) j)) (at' 15 (by decide) r)))
          (Post.up (weights x7 x8 x9 x10 x11 x12 x13 x14 x15 x16 x17) (normedRow (weights x7 x8 x9 x10 x11 x12 x13 x14 x15 x16 x17) (tileRow (weights x7 x8 x9 x10 x11 x12 x13 x14 x15 x16 x17) x0 x1 x2 x3 x4 x5) (fun s j => xs0 (ix2 (⟨s.val, by omega⟩ : Fin 528) j)) (at' 16 (by decide) r))) f := by
  have hx := rowsB c arg1 harg1 arg2 harg2 arg3 harg3 arg4 harg4 arg5 harg5 arg6 harg6 arg8 harg8 arg9 harg9 arg10 harg10 arg20 harg20 x0 x1 x2 x3 x4 x5 x7 x8 x9 x10 x11 x12 x13 x14 x15 x16 x17 xs0
  refine (load_whole _ _ _ r f).trans ?_
  rcases Nat.lt_or_ge f.val 2560 with h10 | h10
  on_goal 2 =>
    refine (read_cols _ _ 2560 _ _ _ r f (⟨f.val - 2560, by omega⟩ : Fin 256) (by show f.val = 2560 + (f.val - 2560); omega)).trans ?_
    refine (chunk10 _ _ _ _ _ _ _ _ _ _ _ _ _ _ r _).trans (glu_act (weights x7 x8 x9 x10 x11 x12 x13 x14 x15 x16 x17) _ _ _ f ?_ ?_)
    · exact taps_loaded x7 x8 x9 x10 x11 x12 x13 x14 x15 x16 x17 _ (harg11.read_unread x10) _ (harg12.read_unread x11) _ (harg13.read_unread x12) _
        hx 0 2560 _ r (⟨f.val - 2560, by omega⟩ : Fin 256) (by show f.val = 2560 + (f.val - 2560); omega) _ _ _ _ _ _ _ _ _ (fun s i => up21 _ _ s i)
    · exact taps_loaded x7 x8 x9 x10 x11 x12 x13 x14 x15 x16 x17 _ (harg11.read_unread x10) _ (harg12.read_unread x11) _ (harg13.read_unread x12) _
        hx 1 5376 _ r (⟨f.val - 2560, by omega⟩ : Fin 256) (by show f.val + 2816 = 5376 + (f.val - 2560); omega) _ _ _ _ _ _ _ _ _ (fun s i => up22 _ _ s i)
  refine (read_cols_other _ _ 2560 _ _ _ r f h10).trans ?_
  rcases Nat.lt_or_ge f.val 2304 with h9 | h9
  on_goal 2 =>
    refine (read_cols _ _ 2304 _ _ _ r f (⟨f.val - 2304, by omega⟩ : Fin 256) (by show f.val = 2304 + (f.val - 2304); omega)).trans ?_
    refine (chunk9 _ _ _ _ _ _ _ _ _ _ _ _ _ _ r _).trans (glu_act (weights x7 x8 x9 x10 x11 x12 x13 x14 x15 x16 x17) _ _ _ f ?_ ?_)
    · exact taps_loaded x7 x8 x9 x10 x11 x12 x13 x14 x15 x16 x17 _ (harg11.read_unread x10) _ (harg12.read_unread x11) _ (harg13.read_unread x12) _
        hx 2 2304 _ r (⟨f.val - 2304, by omega⟩ : Fin 256) (by show f.val = 2304 + (f.val - 2304); omega) _ _ _ _ _ _ _ _ _ (fun s i => up19 _ _ s i)
    · exact taps_loaded x7 x8 x9 x10 x11 x12 x13 x14 x15 x16 x17 _ (harg11.read_unread x10) _ (harg12.read_unread x11) _ (harg13.read_unread x12) _
        hx 3 5120 _ r (⟨f.val - 2304, by omega⟩ : Fin 256) (by show f.val + 2816 = 5120 + (f.val - 2304); omega) _ _ _ _ _ _ _ _ _ (fun s i => up20 _ _ s i)
  refine (read_cols_other _ _ 2304 _ _ _ r f h9).trans ?_
  rcases Nat.lt_or_ge f.val 2048 with h8 | h8
  on_goal 2 =>
    refine (read_cols _ _ 2048 _ _ _ r f (⟨f.val - 2048, by omega⟩ : Fin 256) (by show f.val = 2048 + (f.val - 2048); omega)).trans ?_
    refine (chunk8 _ _ _ _ _ _ _ _ _ _ _ _ _ _ r _).trans (glu_act (weights x7 x8 x9 x10 x11 x12 x13 x14 x15 x16 x17) _ _ _ f ?_ ?_)
    · exact taps_loaded x7 x8 x9 x10 x11 x12 x13 x14 x15 x16 x17 _ (harg11.read_unread x10) _ (harg12.read_unread x11) _ (harg13.read_unread x12) _
        hx 0 2048 _ r (⟨f.val - 2048, by omega⟩ : Fin 256) (by show f.val = 2048 + (f.val - 2048); omega) _ _ _ _ _ _ _ _ _ (fun s i => up17 _ _ s i)
    · exact taps_loaded x7 x8 x9 x10 x11 x12 x13 x14 x15 x16 x17 _ (harg11.read_unread x10) _ (harg12.read_unread x11) _ (harg13.read_unread x12) _
        hx 1 4864 _ r (⟨f.val - 2048, by omega⟩ : Fin 256) (by show f.val + 2816 = 4864 + (f.val - 2048); omega) _ _ _ _ _ _ _ _ _ (fun s i => up18 _ _ s i)
  refine (read_cols_other _ _ 2048 _ _ _ r f h8).trans ?_
  rcases Nat.lt_or_ge f.val 1792 with h7 | h7
  on_goal 2 =>
    refine (read_cols _ _ 1792 _ _ _ r f (⟨f.val - 1792, by omega⟩ : Fin 256) (by show f.val = 1792 + (f.val - 1792); omega)).trans ?_
    refine (chunk7 _ _ _ _ _ _ _ _ _ _ _ _ _ _ r _).trans (glu_act (weights x7 x8 x9 x10 x11 x12 x13 x14 x15 x16 x17) _ _ _ f ?_ ?_)
    · exact taps_loaded x7 x8 x9 x10 x11 x12 x13 x14 x15 x16 x17 _ (harg11.read_unread x10) _ (harg12.read_unread x11) _ (harg13.read_unread x12) _
        hx 2 1792 _ r (⟨f.val - 1792, by omega⟩ : Fin 256) (by show f.val = 1792 + (f.val - 1792); omega) _ _ _ _ _ _ _ _ _ (fun s i => up15 _ _ s i)
    · exact taps_loaded x7 x8 x9 x10 x11 x12 x13 x14 x15 x16 x17 _ (harg11.read_unread x10) _ (harg12.read_unread x11) _ (harg13.read_unread x12) _
        hx 3 4608 _ r (⟨f.val - 1792, by omega⟩ : Fin 256) (by show f.val + 2816 = 4608 + (f.val - 1792); omega) _ _ _ _ _ _ _ _ _ (fun s i => up16 _ _ s i)
  refine (read_cols_other _ _ 1792 _ _ _ r f h7).trans ?_
  rcases Nat.lt_or_ge f.val 1536 with h6 | h6
  on_goal 2 =>
    refine (read_cols _ _ 1536 _ _ _ r f (⟨f.val - 1536, by omega⟩ : Fin 256) (by show f.val = 1536 + (f.val - 1536); omega)).trans ?_
    refine (chunk6 _ _ _ _ _ _ _ _ _ _ _ _ _ _ r _).trans (glu_act (weights x7 x8 x9 x10 x11 x12 x13 x14 x15 x16 x17) _ _ _ f ?_ ?_)
    · exact taps_loaded x7 x8 x9 x10 x11 x12 x13 x14 x15 x16 x17 _ (harg11.read_unread x10) _ (harg12.read_unread x11) _ (harg13.read_unread x12) _
        hx 0 1536 _ r (⟨f.val - 1536, by omega⟩ : Fin 256) (by show f.val = 1536 + (f.val - 1536); omega) _ _ _ _ _ _ _ _ _ (fun s i => up13 _ _ s i)
    · exact taps_loaded x7 x8 x9 x10 x11 x12 x13 x14 x15 x16 x17 _ (harg11.read_unread x10) _ (harg12.read_unread x11) _ (harg13.read_unread x12) _
        hx 1 4352 _ r (⟨f.val - 1536, by omega⟩ : Fin 256) (by show f.val + 2816 = 4352 + (f.val - 1536); omega) _ _ _ _ _ _ _ _ _ (fun s i => up14 _ _ s i)
  refine (read_cols_other _ _ 1536 _ _ _ r f h6).trans ?_
  rcases Nat.lt_or_ge f.val 1280 with h5 | h5
  on_goal 2 =>
    refine (read_cols _ _ 1280 _ _ _ r f (⟨f.val - 1280, by omega⟩ : Fin 256) (by show f.val = 1280 + (f.val - 1280); omega)).trans ?_
    refine (chunk5 _ _ _ _ _ _ _ _ _ _ _ _ _ _ r _).trans (glu_act (weights x7 x8 x9 x10 x11 x12 x13 x14 x15 x16 x17) _ _ _ f ?_ ?_)
    · exact taps_loaded x7 x8 x9 x10 x11 x12 x13 x14 x15 x16 x17 _ (harg11.read_unread x10) _ (harg12.read_unread x11) _ (harg13.read_unread x12) _
        hx 2 1280 _ r (⟨f.val - 1280, by omega⟩ : Fin 256) (by show f.val = 1280 + (f.val - 1280); omega) _ _ _ _ _ _ _ _ _ (fun s i => up11 _ _ s i)
    · exact taps_loaded x7 x8 x9 x10 x11 x12 x13 x14 x15 x16 x17 _ (harg11.read_unread x10) _ (harg12.read_unread x11) _ (harg13.read_unread x12) _
        hx 3 4096 _ r (⟨f.val - 1280, by omega⟩ : Fin 256) (by show f.val + 2816 = 4096 + (f.val - 1280); omega) _ _ _ _ _ _ _ _ _ (fun s i => up12 _ _ s i)
  refine (read_cols_other _ _ 1280 _ _ _ r f h5).trans ?_
  rcases Nat.lt_or_ge f.val 1024 with h4 | h4
  on_goal 2 =>
    refine (read_cols _ _ 1024 _ _ _ r f (⟨f.val - 1024, by omega⟩ : Fin 256) (by show f.val = 1024 + (f.val - 1024); omega)).trans ?_
    refine (chunk4 _ _ _ _ _ _ _ _ _ _ _ _ _ _ r _).trans (glu_act (weights x7 x8 x9 x10 x11 x12 x13 x14 x15 x16 x17) _ _ _ f ?_ ?_)
    · exact taps_loaded x7 x8 x9 x10 x11 x12 x13 x14 x15 x16 x17 _ (harg11.read_unread x10) _ (harg12.read_unread x11) _ (harg13.read_unread x12) _
        hx 0 1024 _ r (⟨f.val - 1024, by omega⟩ : Fin 256) (by show f.val = 1024 + (f.val - 1024); omega) _ _ _ _ _ _ _ _ _ (fun s i => up9 _ _ s i)
    · exact taps_loaded x7 x8 x9 x10 x11 x12 x13 x14 x15 x16 x17 _ (harg11.read_unread x10) _ (harg12.read_unread x11) _ (harg13.read_unread x12) _
        hx 1 3840 _ r (⟨f.val - 1024, by omega⟩ : Fin 256) (by show f.val + 2816 = 3840 + (f.val - 1024); omega) _ _ _ _ _ _ _ _ _ (fun s i => up10 _ _ s i)
  refine (read_cols_other _ _ 1024 _ _ _ r f h4).trans ?_
  rcases Nat.lt_or_ge f.val 768 with h3 | h3
  on_goal 2 =>
    refine (read_cols _ _ 768 _ _ _ r f (⟨f.val - 768, by omega⟩ : Fin 256) (by show f.val = 768 + (f.val - 768); omega)).trans ?_
    refine (chunk3 _ _ _ _ _ _ _ _ _ _ _ _ _ _ r _).trans (glu_act (weights x7 x8 x9 x10 x11 x12 x13 x14 x15 x16 x17) _ _ _ f ?_ ?_)
    · exact taps_loaded x7 x8 x9 x10 x11 x12 x13 x14 x15 x16 x17 _ (harg11.read_unread x10) _ (harg12.read_unread x11) _ (harg13.read_unread x12) _
        hx 2 768 _ r (⟨f.val - 768, by omega⟩ : Fin 256) (by show f.val = 768 + (f.val - 768); omega) _ _ _ _ _ _ _ _ _ (fun s i => up7 _ _ s i)
    · exact taps_loaded x7 x8 x9 x10 x11 x12 x13 x14 x15 x16 x17 _ (harg11.read_unread x10) _ (harg12.read_unread x11) _ (harg13.read_unread x12) _
        hx 3 3584 _ r (⟨f.val - 768, by omega⟩ : Fin 256) (by show f.val + 2816 = 3584 + (f.val - 768); omega) _ _ _ _ _ _ _ _ _ (fun s i => up8 _ _ s i)
  refine (read_cols_other _ _ 768 _ _ _ r f h3).trans ?_
  rcases Nat.lt_or_ge f.val 512 with h2 | h2
  on_goal 2 =>
    refine (read_cols _ _ 512 _ _ _ r f (⟨f.val - 512, by omega⟩ : Fin 256) (by show f.val = 512 + (f.val - 512); omega)).trans ?_
    refine (chunk2 _ _ _ _ _ _ _ _ _ _ _ _ _ _ r _).trans (glu_act (weights x7 x8 x9 x10 x11 x12 x13 x14 x15 x16 x17) _ _ _ f ?_ ?_)
    · exact taps_loaded x7 x8 x9 x10 x11 x12 x13 x14 x15 x16 x17 _ (harg11.read_unread x10) _ (harg12.read_unread x11) _ (harg13.read_unread x12) _
        hx 0 512 _ r (⟨f.val - 512, by omega⟩ : Fin 256) (by show f.val = 512 + (f.val - 512); omega) _ _ _ _ _ _ _ _ _ (fun s i => up5 _ _ s i)
    · exact taps_loaded x7 x8 x9 x10 x11 x12 x13 x14 x15 x16 x17 _ (harg11.read_unread x10) _ (harg12.read_unread x11) _ (harg13.read_unread x12) _
        hx 1 3328 _ r (⟨f.val - 512, by omega⟩ : Fin 256) (by show f.val + 2816 = 3328 + (f.val - 512); omega) _ _ _ _ _ _ _ _ _ (fun s i => up6 _ _ s i)
  refine (read_cols_other _ _ 512 _ _ _ r f h2).trans ?_
  rcases Nat.lt_or_ge f.val 256 with h1 | h1
  on_goal 2 =>
    refine (read_cols _ _ 256 _ _ _ r f (⟨f.val - 256, by omega⟩ : Fin 256) (by show f.val = 256 + (f.val - 256); omega)).trans ?_
    refine (chunk1 _ _ _ _ _ _ _ _ _ _ _ _ _ _ r _).trans (glu_act (weights x7 x8 x9 x10 x11 x12 x13 x14 x15 x16 x17) _ _ _ f ?_ ?_)
    · exact taps_loaded x7 x8 x9 x10 x11 x12 x13 x14 x15 x16 x17 _ (harg11.read_unread x10) _ (harg12.read_unread x11) _ (harg13.read_unread x12) _
        hx 2 256 _ r (⟨f.val - 256, by omega⟩ : Fin 256) (by show f.val = 256 + (f.val - 256); omega) _ _ _ _ _ _ _ _ _ (fun s i => up3 _ _ s i)
    · exact taps_loaded x7 x8 x9 x10 x11 x12 x13 x14 x15 x16 x17 _ (harg11.read_unread x10) _ (harg12.read_unread x11) _ (harg13.read_unread x12) _
        hx 3 3072 _ r (⟨f.val - 256, by omega⟩ : Fin 256) (by show f.val + 2816 = 3072 + (f.val - 256); omega) _ _ _ _ _ _ _ _ _ (fun s i => up4 _ _ s i)
  refine (read_cols_other _ _ 256 _ _ _ r f h1).trans ?_
  on_goal 1 =>
    refine (read_cols _ _ 0 _ _ _ r f (⟨f.val - 0, by omega⟩ : Fin 256) (by show f.val = 0 + (f.val - 0); omega)).trans ?_
    refine (chunk0 _ _ _ _ _ _ _ _ _ _ _ _ _ _ r _).trans (glu_act (weights x7 x8 x9 x10 x11 x12 x13 x14 x15 x16 x17) _ _ _ f ?_ ?_)
    · exact taps_loaded x7 x8 x9 x10 x11 x12 x13 x14 x15 x16 x17 _ (harg11.read_unread x10) _ (harg12.read_unread x11) _ (harg13.read_unread x12) _
        hx 0 0 _ r (⟨f.val - 0, by omega⟩ : Fin 256) (by show f.val = 0 + (f.val - 0); omega) _ _ _ _ _ _ _ _ _ (fun s i => up1 _ _ s i)
    · exact taps_loaded x7 x8 x9 x10 x11 x12 x13 x14 x15 x16 x17 _ (harg11.read_unread x10) _ (harg12.read_unread x11) _ (harg13.read_unread x12) _
        hx 1 2816 _ r (⟨f.val - 0, by omega⟩ : Fin 256) (by show f.val + 2816 = 2816 + (f.val - 0); omega) _ _ _ _ _ _ _ _ _ (fun s i => up2 _ _ s i)

end PostState
end
end
-- ==== Proof.PostCaseB.lean ====
module
public import proofs.«01_k».proof.Proof.PostFeaturesB

/-! # The result of such a tile -/

@[expose] public section
set_option maxRecDepth 16384
noncomputable section
open Idealize.ShloMosaic Idealize.ShloMosaic.TcCoe Idealize.SL.Sem
namespace PostState
open Cert.Kernel2Ideal Cert.Kernel2Ideal.Gen PostBlocks

/-- The block's entries. -/
theorem outB (c : Dev nD) (i : grid0.Coords)
    (arg1 : Memref sig .tc .vmem S512x256 .f32) (harg1 : arg1.IsWhole)
    (arg2 : Memref sig .tc .vmem S512x256 .f32) (harg2 : arg2.IsWhole)
    (arg3 : Memref sig .tc .vmem S512x256 .f32) (harg3 : arg3.IsWhole)
    (arg4 : Memref sig .tc .vmem S512x256 .f32) (harg4 : arg4.IsWhole)
    (arg5 : Memref sig .tc .vmem S512x256 .f32) (harg5 : arg5.IsWhole)
    (arg6 : Memref sig .tc .vmem S512x1024 .f32) (harg6 : arg6.IsWhole)
    (arg7 : Memref sig .tc .vmem S512x256 .f32) (harg7 : arg7.IsWhole)
    (arg8 : Memref sig .tc .vmem S1x1x1024 .f32) (harg8 : arg8.IsWhole)
    (arg9 : Memref sig .tc .vmem S1x1024x1024 .bf16) (harg9 : arg9.IsWhole)
    (arg10 : Memref sig .tc .vmem S1x1x1024 .f32) (harg10 : arg10.IsWhole)
    (arg11 : Memref sig .tc .vmem S1x1024x5632 .bf16) (harg11 : arg11.IsWhole)
    (arg12 : Memref sig .tc .vmem S1x3x5632 .f32) (harg12 : arg12.IsWhole)
    (arg13 : Memref sig .tc .vmem S1x1x5632 .f32) (harg13 : arg13.IsWhole)
    (arg14 : Memref sig .tc .vmem S1x2816x1024 .bf16) (harg14 : arg14.IsWhole)
    (arg15 : Memref sig .tc .vmem S1x1x1024 .f32) (harg15 : arg15.IsWhole)
    (arg16 : Memref sig .tc .vmem S1x1024x1024 .bf16) (harg16 : arg16.IsWhole)
    (arg17 : Memref sig .tc .vmem S1x256x1024 .bf16) (harg17 : arg17.IsWhole)
    (arg18 : Memref sig .tc .vmem S1x1x1024 .f32) (harg18 : arg18.IsWhole)
    (arg19 : Memref sig .tc .vmem S512x1024 .f32) (harg19 : arg19.IsWhole)
    (arg20 : Memref sig .tc .vmem S528x1024 .bf16) (harg20 : arg20.IsWhole)
    (arg21 : Memref sig .tc .vmem S4x528x256 .f32) (harg21 : arg21.IsWhole)
    (arg22 : Memref sig .tc .vmem S512x2816 .bf16) (harg22 : arg22.IsWhole)
    (hc0 : ¬cond0_0 i)
    (x0 : Vec Ideal S512x256 .f32) (x1 : Vec Ideal S512x256 .f32) (x2 : Vec Ideal S512x256 .f32) (x3 : Vec Ideal S512x256 .f32) (x4 : Vec Ideal S512x256 .f32) (x5 : Vec Ideal S512x1024 .f32) (x6 : Vec Ideal S512x256 .f32) (x7 : Vec Ideal S1x1x1024 .f32) (x8 : Vec Ideal S1x1024x1024 .bf16) (x9 : Vec Ideal S1x1x1024 .f32) (x10 : Vec Ideal S1x1024x5632 .bf16) (x11 : Vec Ideal S1x3x5632 .f32) (x12 : Vec Ideal S1x1x5632 .f32) (x13 : Vec Ideal S1x2816x1024 .bf16) (x14 : Vec Ideal S1x1x1024 .f32) (x15 : Vec Ideal S1x1024x1024 .bf16) (x16 : Vec Ideal S1x256x1024 .bf16) (x17 : Vec Ideal S1x1x1024 .f32) (xs0 : Vec Ideal S528x1024 .bf16) (r : Fin 512) (j : Fin 1024) :
    (out0_B_18 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 x15 x16 x17 xs0 (ix2 r j) : EReal)
      = tileOut (weights x7 x8 x9 x10 x11 x12 x13 x14 x15 x16 x17) (tileRow (weights x7 x8 x9 x10 x11 x12 x13 x14 x15 x16 x17) x0 x1 x2 x3 x4 x5) (fun s j => xs0 (ix2 (⟨s.val, by omega⟩ : Fin 528) j)) x6 r j := by
  unfold out0_B_18 kernelRun0_B
  dsimp only
  refine (read_rows _ _ 0 _ _ _ r j r (Nat.zero_add _).symm).trans ?_
  refine (out_apply _ _ _ _ _ _ _ _ r j (weights x7 x8 x9 x10 x11 x12 x13 x14 x15 x16 x17)
    (funext fun k => funext fun l => (load3 _ _ _ (harg14.read_unread x13) 0 0 0 _ (0 : Fin 1) k l (0 : Fin 1) k l rfl (Nat.zero_add _).symm (Nat.zero_add _).symm).symm)
    (funext fun l => (load3 _ _ _ (harg15.read_unread x14) 0 0 0 _ (0 : Fin 1) (0 : Fin 1) l (0 : Fin 1) (0 : Fin 1) l rfl rfl (Nat.zero_add _).symm).symm)
    (funext fun k => funext fun l => (load3 _ _ _ (harg16.read_unread x15) 0 0 0 _ (0 : Fin 1) k l (0 : Fin 1) k l rfl (Nat.zero_add _).symm (Nat.zero_add _).symm).symm)
    (funext fun k => funext fun l => (load3 _ _ _ (harg17.read_unread x16) 0 0 0 _ (0 : Fin 1) k l (0 : Fin 1) k l rfl (Nat.zero_add _).symm (Nat.zero_add _).symm).symm)
    (funext fun l => (load3 _ _ _ (harg18.read_unread x17) 0 0 0 _ (0 : Fin 1) (0 : Fin 1) l (0 : Fin 1) (0 : Fin 1) l rfl rfl (Nat.zero_add _).symm).symm)).trans ?_
  exact outRow_congr (weights x7 x8 x9 x10 x11 x12 x13 x14 x15 x16 x17)
    (fun k => (load_whole _ _ _ r k).trans ((read_rows _ _ 0 _ _ _ r k r (Nat.zero_add _).symm).trans
      (mixedB c arg1 harg1 arg2 harg2 arg3 harg3 arg4 harg4 arg5 harg5 arg6 harg6 arg8 harg8 arg9 harg9 x0 x1 x2 x3 x4 x5 x7 x8 x9 x10 x11 x12 x13 x14 x15 x16 x17 r k)))
    (fun f => featuresB c arg1 harg1 arg2 harg2 arg3 harg3 arg4 harg4 arg5 harg5 arg6 harg6 arg8 harg8 arg9 harg9 arg10 harg10 arg11 harg11 arg12 harg12 arg13 harg13 arg20 harg20 arg21 harg21 arg22 harg22 x0 x1 x2 x3 x4 x5 x7 x8 x9 x10 x11 x12 x13 x14 x15 x16 x17 xs0 r f)
    (fun k => load2 _ _ _ (harg7.read_unread x6) 0 0 _ r k r k (Nat.zero_add _).symm (Nat.zero_add _).symm) j

end PostState
end
end
-- ==== Proof.PostOperands.lean ====
module
public import proofs.«01_k».proof.Proof.PostCaseA
public import proofs.«01_k».proof.Proof.PostCaseB
public import proofs.«01_k».proof.Proof.Gen.Kernel2Ideal.Value
public import Idealize.ShloMosaic.Lib.Claim

/-! # What the tail call's blocks hold

The host casts, reshapes and broadcasts; over the extended reals these move entries and change none. -/

@[expose] public section
set_option maxRecDepth 16384
noncomputable section
open Idealize.ShloMosaic Idealize.ShloMosaic.TcCoe Idealize.SL.Sem
namespace PostState
open Cert.Kernel2Ideal Cert.Kernel2Ideal.Gen PostBlocks
variable (m : (ℓ : Loc nD τ sig) → Buf (Elt Ideal) ℓ)

/-- The last layer's weights, from the arguments that stack both layers'. -/
def layerWeights (a7 : FVec Ideal S2x1024 .f32) (a8 : FVec Ideal S2x1024x1024 .f32) (a9 : FVec Ideal S2x1024 .f32)
    (a10 : FVec Ideal S2x1024x5632 .f32) (a11 : FVec Ideal S2x3x5632 .f32) (a12 : FVec Ideal S2x5632 .f32)
    (a13 : FVec Ideal S2x2816x1024 .f32) (a14 : FVec Ideal S2x1024 .f32) (a15 : FVec Ideal S2x1024x1024 .f32)
    (a16 : FVec Ideal S2x256x1024 .f32) (a17 : FVec Ideal S1024 .f32) : Post.Weights where
  gn g k := a7 (ix2 (1 : Fin 2) (gcol g k))
  wo g k j := a8 (ix3 (1 : Fin 2) (gcol g k) j)
  fg j := a9 (ix2 (1 : Fin 2) j)
  wu d f := a10 (ix3 (1 : Fin 2) d f)
  cw t f := a11 (ix3 (1 : Fin 2) t f)
  cb f := a12 (ix2 (1 : Fin 2) f)
  wd f j := a13 (ix3 (1 : Fin 2) f j)
  pg j := a14 (ix2 (1 : Fin 2) j)
  wpg k j := a15 (ix3 (1 : Fin 2) k j)
  wp k j := a16 (ix3 (1 : Fin 2) k j)
  ng j := a17 (ix1 j)

theorem pidx0 : ∀ t : Fin cfg0.N, win0_0.index t = ![t.val, 0] :=
  (by decide +kernel : ∀ t : Fin grid0.N, win0_0.index t = ![t.val, 0])
theorem pidx1 : ∀ t : Fin cfg0.N, win0_1.index t = ![t.val, 0] :=
  (by decide +kernel : ∀ t : Fin grid0.N, win0_1.index t = ![t.val, 0])
theorem pidx2 : ∀ t : Fin cfg0.N, win0_2.index t = ![t.val, 0] :=
  (by decide +kernel : ∀ t : Fin grid0.N, win0_2.index t = ![t.val, 0])
theorem pidx4 : ∀ t : Fin cfg0.N, win0_4.index t = ![t.val, 0] :=
  (by decide +kernel : ∀ t : Fin grid0.N, win0_4.index t = ![t.val, 0])
theorem pidx5 : ∀ t : Fin cfg0.N, win0_5.index t = ![t.val, 0] :=
  (by decide +kernel : ∀ t : Fin grid0.N, win0_5.index t = ![t.val, 0])
theorem pidx18 : ∀ t : Fin cfg0.N, win0_18.index t = ![t.val, 0] :=
  (by decide +kernel : ∀ t : Fin grid0.N, win0_18.index t = ![t.val, 0])
theorem pidx3 : ∀ t : Fin cfg0.N, win0_3.index t = ![t.val, 3] :=
  (by decide +kernel : ∀ t : Fin grid0.N, win0_3.index t = ![t.val, 3])
theorem pidx6 : ∀ t : Fin cfg0.N, win0_6.index t = ![32 + t.val, 0] :=
  (by decide +kernel : ∀ t : Fin grid0.N, win0_6.index t = ![32 + t.val, 0])
theorem pidx7 : ∀ t : Fin cfg0.N, win0_7.index t = ![1, 0, 0] :=
  (by decide +kernel : ∀ t : Fin grid0.N, win0_7.index t = ![1, 0, 0])
theorem pidx8 : ∀ t : Fin cfg0.N, win0_8.index t = ![1, 0, 0] :=
  (by decide +kernel : ∀ t : Fin grid0.N, win0_8.index t = ![1, 0, 0])
theorem pidx9 : ∀ t : Fin cfg0.N, win0_9.index t = ![1, 0, 0] :=
  (by decide +kernel : ∀ t : Fin grid0.N, win0_9.index t = ![1, 0, 0])
theorem pidx10 : ∀ t : Fin cfg0.N, win0_10.index t = ![1, 0, 0] :=
  (by decide +kernel : ∀ t : Fin grid0.N, win0_10.index t = ![1, 0, 0])
theorem pidx11 : ∀ t : Fin cfg0.N, win0_11.index t = ![1, 0, 0] :=
  (by decide +kernel : ∀ t : Fin grid0.N, win0_11.index t = ![1, 0, 0])
theorem pidx12 : ∀ t : Fin cfg0.N, win0_12.index t = ![1, 0, 0] :=
  (by decide +kernel : ∀ t : Fin grid0.N, win0_12.index t = ![1, 0, 0])
theorem pidx13 : ∀ t : Fin cfg0.N, win0_13.index t = ![1, 0, 0] :=
  (by decide +kernel : ∀ t : Fin grid0.N, win0_13.index t = ![1, 0, 0])
theorem pidx14 : ∀ t : Fin cfg0.N, win0_14.index t = ![1, 0, 0] :=
  (by decide +kernel : ∀ t : Fin grid0.N, win0_14.index t = ![1, 0, 0])
theorem pidx15 : ∀ t : Fin cfg0.N, win0_15.index t = ![1, 0, 0] :=
  (by decide +kernel : ∀ t : Fin grid0.N, win0_15.index t = ![1, 0, 0])
theorem pidx16 : ∀ t : Fin cfg0.N, win0_16.index t = ![1, 0, 0] :=
  (by decide +kernel : ∀ t : Fin grid0.N, win0_16.index t = ![1, 0, 0])
theorem pidx17 : ∀ t : Fin cfg0.N, win0_17.index t = ![1, 0, 0] :=
  (by decide +kernel : ∀ t : Fin grid0.N, win0_17.index t = ![1, 0, 0])

/-- A stack of rows as a stack of planes of one row. -/
def hostRow (a : FVec Ideal S2x1024 .f32) : FVec Ideal S2x1x1024 .f32 := shapeCast S2x1x1024 a shapeCasts_S2x1024_S2x1x1024
def hostBias (a : FVec Ideal S2x5632 .f32) : FVec Ideal S2x1x5632 .f32 := shapeCast S2x1x5632 a shapeCasts_S2x5632_S2x1x5632
/-- The final norm's weights, once for every layer. -/
def hostFinal (a : FVec Ideal S1024 .f32) : FVec Ideal S2x1x1024 .f32 :=
  broadcastInDim S2x1x1024 ![0, 1, 2] bcast_S1x1x1024_S2x1x1024_0_1_2 (shapeCast S1x1x1024 a shapeCasts_S1024_S1x1x1024)
/-- The per-layer embeddings, the layers one under the other. -/
def hostEmb (a : FVec Ideal S2x2x8192x256 .f32) : FVec Ideal S32768x256 .f32 := shapeCast S32768x256 a shapeCasts_S2x2x8192x256_S32768x256

theorem entry7 (c : Dev nD) : V m c main_v0 = hostRow (m ((c : Thread nD τ).loc main_arg7)) := by
  unfold V
  simp only [hostOps0]
  after_results
  rfl

theorem entry9 (c : Dev nD) : V m c main_v2 = hostRow (m ((c : Thread nD τ).loc main_arg9)) := by
  unfold V
  simp only [hostOps0]
  after_results
  rfl

theorem entry14 (c : Dev nD) : V m c main_v6 = hostRow (m ((c : Thread nD τ).loc main_arg14)) := by
  unfold V
  simp only [hostOps0]
  after_results
  rfl

theorem entry12 (c : Dev nD) : V m c main_v4 = hostBias (m ((c : Thread nD τ).loc main_arg12)) := by
  unfold V
  simp only [hostOps0]
  after_results
  rfl

theorem entry17 (c : Dev nD) : V m c main_v10 = hostFinal (m ((c : Thread nD τ).loc main_arg17)) := by
  unfold V
  simp only [hostOps0]
  after_results
  rfl

theorem entry6 (c : Dev nD) : V m c main_v11 = hostEmb (m ((c : Thread nD τ).loc main_arg6)) := by
  unfold V
  simp only [hostOps0]
  after_results
  rfl

theorem entry8 (c : Dev nD) : V m c main_v1 = truncf (F := Ideal) .bf16 (show FVec Ideal S2x1024x1024 .f32 from m ((c : Thread nD τ).loc main_arg8)) bitsLt_bf16_f32 := by
  unfold V
  simp only [hostOps0]
  after_results

theorem entry10 (c : Dev nD) : V m c main_v3 = truncf (F := Ideal) .bf16 (show FVec Ideal S2x1024x5632 .f32 from m ((c : Thread nD τ).loc main_arg10)) bitsLt_bf16_f32 := by
  unfold V
  simp only [hostOps0]
  after_results

theorem entry13 (c : Dev nD) : V m c main_v5 = truncf (F := Ideal) .bf16 (show FVec Ideal S2x2816x1024 .f32 from m ((c : Thread nD τ).loc main_arg13)) bitsLt_bf16_f32 := by
  unfold V
  simp only [hostOps0]
  after_results

theorem entry15 (c : Dev nD) : V m c main_v7 = truncf (F := Ideal) .bf16 (show FVec Ideal S2x1024x1024 .f32 from m ((c : Thread nD τ).loc main_arg15)) bitsLt_bf16_f32 := by
  unfold V
  simp only [hostOps0]
  after_results

theorem entry16 (c : Dev nD) : V m c main_v8 = truncf (F := Ideal) .bf16 (show FVec Ideal S2x256x1024 .f32 from m ((c : Thread nD τ).loc main_arg16)) bitsLt_bf16_f32 := by
  unfold V
  simp only [hostOps0]
  after_results

theorem hostRow_apply (a : FVec Ideal S2x1024 .f32) (l : Fin 2) (j : Fin 1024) : (hostRow a (ix3 l (0 : Fin 1) j) : EReal) = a (ix2 l j) := by
  pointwise [hostRow]
theorem hostBias_apply (a : FVec Ideal S2x5632 .f32) (l : Fin 2) (j : Fin 5632) : (hostBias a (ix3 l (0 : Fin 1) j) : EReal) = a (ix2 l j) := by
  pointwise [hostBias]
theorem hostFinal_apply (a : FVec Ideal S1024 .f32) (l : Fin 2) (j : Fin 1024) : (hostFinal a (ix3 l (0 : Fin 1) j) : EReal) = a (ix1 j) := by
  pointwise [hostFinal]
/-- The last layer's row of the embeddings. -/
def embRow (R : Fin 16384) : Fin 32768 := ⟨16384 + R.val, by omega⟩
theorem hostEmb_apply (a : FVec Ideal S2x2x8192x256 .f32) (R : Fin 16384) (k : Fin 256) :
    (hostEmb a (ix2 (embRow R) k) : EReal)
      = a (ix4 (1 : Fin 2) (⟨R.val / 8192, by omega⟩ : Fin 2) (⟨R.val % 8192, Nat.mod_lt _ (by norm_num)⟩ : Fin 8192) k) := by
  pointwise [hostEmb]
  have h1 : (embRow R).val / 16384 = 1 := by show (16384 + R.val) / 16384 = 1; omega
  have h2 : (embRow R).val / 8192 % 2 = R.val / 8192 := by show (16384 + R.val) / 8192 % 2 = _; omega
  have h3 : (embRow R).val % 8192 = R.val % 8192 := by show (16384 + R.val) % 8192 = _; omega
  simp only [h1, h2, h3]
  rfl

/-- The array's row of a tile's row. -/
def gridRow (t : Fin cfg0.N) (r : Fin 512) : Fin 16384 := ⟨512 * t.val + r.val, by have : t.val < 32 := t.isLt; omega⟩

set_option backward.isDefEq.respectTransparency false in
theorem blk0 (c : Dev nD) (t : Fin cfg0.N) (r : Fin 512) (k : Fin 256) :
    (iblk m c 0 t : FVec Ideal S512x256 .f32) (ix2 r k) = (V m c main_arg0 : FVec Ideal S16384x256 .f32) (ix2 (gridRow t r) k) := by
  blk_ext [iblk, V, pidx0 t]
  · show t.val * 512 + r.val = 512 * t.val + r.val; omega

set_option backward.isDefEq.respectTransparency false in
theorem blk1 (c : Dev nD) (t : Fin cfg0.N) (r : Fin 512) (k : Fin 256) :
    (iblk m c 1 t : FVec Ideal S512x256 .f32) (ix2 r k) = (V m c main_arg1 : FVec Ideal S16384x256 .f32) (ix2 (gridRow t r) k) := by
  blk_ext [iblk, V, pidx1 t]
  · show t.val * 512 + r.val = 512 * t.val + r.val; omega

set_option backward.isDefEq.respectTransparency false in
theorem blk2 (c : Dev nD) (t : Fin cfg0.N) (r : Fin 512) (k : Fin 256) :
    (iblk m c 2 t : FVec Ideal S512x256 .f32) (ix2 r k) = (V m c main_arg2 : FVec Ideal S16384x256 .f32) (ix2 (gridRow t r) k) := by
  blk_ext [iblk, V, pidx2 t]
  · show t.val * 512 + r.val = 512 * t.val + r.val; omega

set_option backward.isDefEq.respectTransparency false in
theorem blk4 (c : Dev nD) (t : Fin cfg0.N) (r : Fin 512) (k : Fin 256) :
    (iblk m c 4 t : FVec Ideal S512x256 .f32) (ix2 r k) = (V m c main_arg4 : FVec Ideal S16384x256 .f32) (ix2 (gridRow t r) k) := by
  blk_ext [iblk, V, pidx4 t]
  · show t.val * 512 + r.val = 512 * t.val + r.val; omega

set_option backward.isDefEq.respectTransparency false in
theorem blk3 (c : Dev nD) (t : Fin cfg0.N) (r : Fin 512) (k : Fin 256) :
    (iblk m c 3 t : FVec Ideal S512x256 .f32) (ix2 r k) = (V m c main_arg3 : FVec Ideal S16384x1024 .f32) (ix2 (gridRow t r) (gcol 3 k)) := by
  blk_ext [iblk, V, pidx3 t]
  · show t.val * 512 + r.val = 512 * t.val + r.val; omega
  · show 3 * 256 + k.val = 256 * 3 + k.val; omega

set_option backward.isDefEq.respectTransparency false in
theorem blk5 (c : Dev nD) (t : Fin cfg0.N) (r : Fin 512) (k : Fin 1024) :
    (iblk m c 5 t : FVec Ideal S512x1024 .f32) (ix2 r k) = (V m c main_arg5 : FVec Ideal S16384x1024 .f32) (ix2 (gridRow t r) k) := by
  blk_ext [iblk, V, pidx5 t]
  · show t.val * 512 + r.val = 512 * t.val + r.val; omega

set_option backward.isDefEq.respectTransparency false in
theorem blk6 (c : Dev nD) (t : Fin cfg0.N) (r : Fin 512) (k : Fin 256) :
    (iblk m c 6 t : FVec Ideal S512x256 .f32) (ix2 r k) = (V m c main_v11 : FVec Ideal S32768x256 .f32) (ix2 (embRow (gridRow t r)) k) := by
  blk_ext [iblk, V, pidx6 t]
  · show (32 + t.val) * 512 + r.val = 16384 + (512 * t.val + r.val); omega

set_option backward.isDefEq.respectTransparency false in
theorem blk7 (c : Dev nD) (t : Fin cfg0.N) (b : Fin 1024) :
    (iblk m c 7 t : FVec Ideal S1x1x1024 .f32) (ix3 (0 : Fin 1) (0 : Fin 1) b) = (V m c main_v0 : FVec Ideal S2x1x1024 .f32) (ix3 (1 : Fin 2) (0 : Fin 1) b) := by
  blk_ext [iblk, V, pidx7 t]

set_option backward.isDefEq.respectTransparency false in
theorem blk8 (c : Dev nD) (t : Fin cfg0.N) (a : Fin 1024) (b : Fin 1024) :
    (iblk m c 8 t : FVec Ideal S1x1024x1024 .bf16) (ix3 (0 : Fin 1) a b) = (V m c main_v1 : FVec Ideal S2x1024x1024 .bf16) (ix3 (1 : Fin 2) a b) := by
  blk_ext [iblk, V, pidx8 t]

set_option backward.isDefEq.respectTransparency false in
theorem blk9 (c : Dev nD) (t : Fin cfg0.N) (b : Fin 1024) :
    (iblk m c 9 t : FVec Ideal S1x1x1024 .f32) (ix3 (0 : Fin 1) (0 : Fin 1) b) = (V m c main_v2 : FVec Ideal S2x1x1024 .f32) (ix3 (1 : Fin 2) (0 : Fin 1) b) := by
  blk_ext [iblk, V, pidx9 t]

set_option backward.isDefEq.respectTransparency false in
theorem blk10 (c : Dev nD) (t : Fin cfg0.N) (a : Fin 1024) (b : Fin 5632) :
    (iblk m c 10 t : FVec Ideal S1x1024x5632 .bf16) (ix3 (0 : Fin 1) a b) = (V m c main_v3 : FVec Ideal S2x1024x5632 .bf16) (ix3 (1 : Fin 2) a b) := by
  blk_ext [iblk, V, pidx10 t]

set_option backward.isDefEq.respectTransparency false in
theorem blk11 (c : Dev nD) (t : Fin cfg0.N) (a : Fin 3) (b : Fin 5632) :
    (iblk m c 11 t : FVec Ideal S1x3x5632 .f32) (ix3 (0 : Fin 1) a b) = (V m c main_arg11 : FVec Ideal S2x3x5632 .f32) (ix3 (1 : Fin 2) a b) := by
  blk_ext [iblk, V, pidx11 t]

set_option backward.isDefEq.respectTransparency false in
theorem blk12 (c : Dev nD) (t : Fin cfg0.N) (b : Fin 5632) :
    (iblk m c 12 t : FVec Ideal S1x1x5632 .f32) (ix3 (0 : Fin 1) (0 : Fin 1) b) = (V m c main_v4 : FVec Ideal S2x1x5632 .f32) (ix3 (1 : Fin 2) (0 : Fin 1) b) := by
  blk_ext [iblk, V, pidx12 t]

set_option backward.isDefEq.respectTransparency false in
theorem blk13 (c : Dev nD) (t : Fin cfg0.N) (a : Fin 2816) (b : Fin 1024) :
    (iblk m c 13 t : FVec Ideal S1x2816x1024 .bf16) (ix3 (0 : Fin 1) a b) = (V m c main_v5 : FVec Ideal S2x2816x1024 .bf16) (ix3 (1 : Fin 2) a b) := by
  blk_ext [iblk, V, pidx13 t]

set_option backward.isDefEq.respectTransparency false in
theorem blk14 (c : Dev nD) (t : Fin cfg0.N) (b : Fin 1024) :
    (iblk m c 14 t : FVec Ideal S1x1x1024 .f32) (ix3 (0 : Fin 1) (0 : Fin 1) b) = (V m c main_v6 : FVec Ideal S2x1x1024 .f32) (ix3 (1 : Fin 2) (0 : Fin 1) b) := by
  blk_ext [iblk, V, pidx14 t]

set_option backward.isDefEq.respectTransparency false in
theorem blk15 (c : Dev nD) (t : Fin cfg0.N) (a : Fin 1024) (b : Fin 1024) :
    (iblk m c 15 t : FVec Ideal S1x1024x1024 .bf16) (ix3 (0 : Fin 1) a b) = (V m c main_v7 : FVec Ideal S2x1024x1024 .bf16) (ix3 (1 : Fin 2) a b) := by
  blk_ext [iblk, V, pidx15 t]

set_option backward.isDefEq.respectTransparency false in
theorem blk16 (c : Dev nD) (t : Fin cfg0.N) (a : Fin 256) (b : Fin 1024) :
    (iblk m c 16 t : FVec Ideal S1x256x1024 .bf16) (ix3 (0 : Fin 1) a b) = (V m c main_v8 : FVec Ideal S2x256x1024 .bf16) (ix3 (1 : Fin 2) a b) := by
  blk_ext [iblk, V, pidx16 t]

set_option backward.isDefEq.respectTransparency false in
theorem blk17 (c : Dev nD) (t : Fin cfg0.N) (b : Fin 1024) :
    (iblk m c 17 t : FVec Ideal S1x1x1024 .f32) (ix3 (0 : Fin 1) (0 : Fin 1) b) = (V m c main_v10 : FVec Ideal S2x1x1024 .f32) (ix3 (1 : Fin 2) (0 : Fin 1) b) := by
  blk_ext [iblk, V, pidx17 t]

end PostState
end
end
-- ==== Proof.PostReference.lean ====
module
public import proofs.«01_k».proof.Proof.Gen.Reference2Ideal.Read
public import proofs.«01_k».proof.Proof.PostTail
public import proofs.«01_k».proof.Proof.PostOperands
public import Idealize.ShloMosaic.Lib.Pointwise
public import Idealize.ShloMosaic.Lib.VecWindow
public import Idealize.ShloMosaic.PureOps.Reduce
public import Idealize.ShloMosaic.PureOps.Ideal.Laws

/-! # The reference's tail, row by row -/

@[expose] public section
set_option maxRecDepth 16384
noncomputable section
open Idealize.ShloMosaic Idealize.ShloMosaic.TcCoe Idealize.SL.Sem
namespace PostRef
open Cert.Reference2Ideal Cert.Reference2Ideal.Read
open PostState (gcol layerWeights)

/-- The sequence a row belongs to. -/
def seqOf (R : Fin 16384) : Fin 2 := ⟨R.val / 8192, by omega⟩

/-- Its place there. -/
def placeOf (R : Fin 16384) : Fin 8192 := ⟨R.val % 8192, Nat.mod_lt _ (by norm_num)⟩

/-- The normed output of group 0. -/
theorem group0 (x0 : FVec Ideal S16384x256 .f32) (x7 : FVec Ideal S2x1024 .f32) (R : Fin 16384) (k : Fin 256) :
    ((val_main_v15 (F := Ideal) x0 x7) (ix2 R k) : EReal)
      = Post.rms Post.len256 (fun k => x0 (ix2 R k)) (fun k => x7 (ix2 (1 : Fin 2) (gcol 0 k))) k := by
  unfold Post.rms Post.len256
  pointwise [val_main_v15, val_main_v14, val_main_v13, val_main_v12, val_main_v11, val_main_v10, val_main_v9, val_main_v8, val_main_v7, val_main_v6, val_main_v5, val_main_v4, val_main_v3, val_main_v2, val_main_cst, val_main_cst_0, val_main_cst_1, val_main_v0, val_main_v1]
  rw [show gcol 0 k = ⟨k.val, by omega⟩ from Fin.ext (by show 256 * 0 + k.val = k.val; omega)]

/-- The normed output of group 1. -/
theorem group1 (x1 : FVec Ideal S16384x256 .f32) (x7 : FVec Ideal S2x1024 .f32) (R : Fin 16384) (k : Fin 256) :
    ((val_main_v29 (F := Ideal) x1 x7) (ix2 R k) : EReal)
      = Post.rms Post.len256 (fun k => x1 (ix2 R k)) (fun k => x7 (ix2 (1 : Fin 2) (gcol 1 k))) k := by
  unfold Post.rms Post.len256
  pointwise [val_main_v29, val_main_v28, val_main_v27, val_main_v26, val_main_v25, val_main_v24, val_main_v23, val_main_v22, val_main_v21, val_main_v20, val_main_v19, val_main_v18, val_main_v17, val_main_v16, val_main_cst_2, val_main_cst_3, val_main_cst_4, val_main_v0, val_main_v1]
  rfl

/-- The normed output of group 2. -/
theorem group2 (x2 : FVec Ideal S16384x256 .f32) (x7 : FVec Ideal S2x1024 .f32) (R : Fin 16384) (k : Fin 256) :
    ((val_main_v43 (F := Ideal) x2 x7) (ix2 R k) : EReal)
      = Post.rms Post.len256 (fun k => x2 (ix2 R k)) (fun k => x7 (ix2 (1 : Fin 2) (gcol 2 k))) k := by
  unfold Post.rms Post.len256
  pointwise [val_main_v43, val_main_v42, val_main_v41, val_main_v40, val_main_v39, val_main_v38, val_main_v37, val_main_v36, val_main_v35, val_main_v34, val_main_v33, val_main_v32, val_main_v31, val_main_v30, val_main_cst_5, val_main_cst_6, val_main_cst_7, val_main_v0, val_main_v1]
  rfl

/-- The normed output of group 3. -/
theorem group3 (x4 : FVec Ideal S16384x256 .f32) (x7 : FVec Ideal S2x1024 .f32) (R : Fin 16384) (k : Fin 256) :
    ((val_main_v65 (F := Ideal) x4 x7) (ix2 R k) : EReal)
      = Post.rms Post.len256 (fun k => x4 (ix2 R k)) (fun k => x7 (ix2 (1 : Fin 2) (gcol 3 k))) k := by
  unfold Post.rms Post.len256
  pointwise [val_main_v65, val_main_v64, val_main_v63, val_main_v62, val_main_v61, val_main_v60, val_main_v59, val_main_v58, val_main_v57, val_main_v56, val_main_v55, val_main_v54, val_main_v53, val_main_v52, val_main_cst_10, val_main_cst_11, val_main_cst_12, val_main_v0, val_main_v1]
  rfl

/-- The third group's, gated. -/
theorem gated (x2 : FVec Ideal S16384x256 .f32) (x3 : FVec Ideal S16384x1024 .f32) (x7 : FVec Ideal S2x1024 .f32) (R : Fin 16384) (k : Fin 256) :
    ((val_main_v51 (F := Ideal) x2 x3 x7) (ix2 R k) : EReal)
      = Post.rms Post.len256 (fun k => x2 (ix2 R k)) (fun k => x7 (ix2 (1 : Fin 2) (gcol 2 k))) k
        * Post.sigm (x3 (ix2 R (gcol 3 k))) := by
  rw [← group2]
  unfold Post.sigm
  unfold val_main_v51
  generalize (val_main_v43 (F := Ideal) x2 x7) = H
  pointwise [val_main_v50, val_main_v49, val_main_v48, val_main_v47, val_main_v46, val_main_v45, val_main_v44, val_main_cst_8, val_main_cst_9]
  rw [zero_sub]
  rfl

/-- The norm before the feed-forward part. -/
theorem normF (x0 : FVec Ideal S16384x256 .f32) (x1 : FVec Ideal S16384x256 .f32) (x2 : FVec Ideal S16384x256 .f32) (x3 : FVec Ideal S16384x1024 .f32) (x4 : FVec Ideal S16384x256 .f32) (x5 : FVec Ideal S16384x1024 .f32) (x7 : FVec Ideal S2x1024 .f32) (x8 : FVec Ideal S2x1024x1024 .f32) (x9 : FVec Ideal S2x1024 .f32) (R : Fin 16384) (j : Fin 1024) :
    ((val_main_v85 (F := Ideal) x0 x1 x2 x3 x4 x5 x7 x8 x9) (ix2 R j) : EReal)
      = Post.rms Post.len1024 (fun j => (val_main_v70 (F := Ideal) x0 x1 x2 x3 x4 x5 x7 x8) (ix2 R j)) (fun j => x9 (ix2 (1 : Fin 2) j)) j := by
  unfold Post.rms Post.len1024 val_main_v85 val_main_v84 val_main_v83 val_main_v82 val_main_v81 val_main_v80 val_main_v79 val_main_v78 val_main_v77 val_main_v76 val_main_v75 val_main_v74 val_main_v73
  generalize (val_main_v70 (F := Ideal) x0 x1 x2 x3 x4 x5 x7 x8) = H
  pointwise [val_main_v72, val_main_v71, val_main_cst_13, val_main_cst_14, val_main_cst_15]

/-- The norm before the embedding's gate. -/
theorem normE (x0 : FVec Ideal S16384x256 .f32) (x1 : FVec Ideal S16384x256 .f32) (x2 : FVec Ideal S16384x256 .f32) (x3 : FVec Ideal S16384x1024 .f32) (x4 : FVec Ideal S16384x256 .f32) (x5 : FVec Ideal S16384x1024 .f32) (x7 : FVec Ideal S2x1024 .f32) (x8 : FVec Ideal S2x1024x1024 .f32) (x9 : FVec Ideal S2x1024 .f32) (x10 : FVec Ideal S2x1024x5632 .f32) (x11 : FVec Ideal S2x3x5632 .f32) (x12 : FVec Ideal S2x5632 .f32) (x13 : FVec Ideal S2x2816x1024 .f32) (x14 : FVec Ideal S2x1024 .f32) (R : Fin 16384) (j : Fin 1024) :
    ((val_main_v141 (F := Ideal) x0 x1 x2 x3 x4 x5 x7 x8 x9 x10 x11 x12 x13 x14) (ix2 R j) : EReal)
      = Post.rms Post.len1024 (fun j => (val_main_v126 (F := Ideal) x0 x1 x2 x3 x4 x5 x7 x8 x9 x10 x11 x12 x13) (ix2 R j)) (fun j => x14 (ix2 (1 : Fin 2) j)) j := by
  unfold Post.rms Post.len1024 val_main_v141 val_main_v140 val_main_v139 val_main_v138 val_main_v137 val_main_v136 val_main_v135 val_main_v134 val_main_v133 val_main_v132 val_main_v131 val_main_v130 val_main_v129
  generalize (val_main_v126 (F := Ideal) x0 x1 x2 x3 x4 x5 x7 x8 x9 x10 x11 x12 x13) = H
  pointwise [val_main_v128, val_main_v127, val_main_cst_16, val_main_cst_17, val_main_cst_18]

/-- The last norm. -/
theorem normL (x0 : FVec Ideal S16384x256 .f32) (x1 : FVec Ideal S16384x256 .f32) (x2 : FVec Ideal S16384x256 .f32) (x3 : FVec Ideal S16384x1024 .f32) (x4 : FVec Ideal S16384x256 .f32) (x5 : FVec Ideal S16384x1024 .f32) (x6 : FVec Ideal S2x2x8192x256 .f32) (x7 : FVec Ideal S2x1024 .f32) (x8 : FVec Ideal S2x1024x1024 .f32) (x9 : FVec Ideal S2x1024 .f32) (x10 : FVec Ideal S2x1024x5632 .f32) (x11 : FVec Ideal S2x3x5632 .f32) (x12 : FVec Ideal S2x5632 .f32) (x13 : FVec Ideal S2x2816x1024 .f32) (x14 : FVec Ideal S2x1024 .f32) (x15 : FVec Ideal S2x1024x1024 .f32) (x16 : FVec Ideal S2x256x1024 .f32) (x17 : FVec Ideal S1024 .f32) (R : Fin 16384) (j : Fin 1024) :
    ((val_main_v171 (F := Ideal) x0 x1 x2 x3 x4 x5 x6 x7 x8 x9 x10 x11 x12 x13 x14 x15 x16 x17) (ix2 R j) : EReal)
      = Post.rms Post.len1024 (fun j => (val_main_v158 (F := Ideal) x0 x1 x2 x3 x4 x5 x6 x7 x8 x9 x10 x11 x12 x13 x14 x15 x16) (ix2 R j)) (fun j => x17 (ix1 j)) j := by
  unfold Post.rms Post.len1024 val_main_v171 val_main_v170 val_main_v169 val_main_v168 val_main_v167 val_main_v166 val_main_v165 val_main_v164 val_main_v163 val_main_v162 val_main_v161 val_main_v160 val_main_v159
  generalize (val_main_v158 (F := Ideal) x0 x1 x2 x3 x4 x5 x6 x7 x8 x9 x10 x11 x12 x13 x14 x15 x16) = H
  pointwise [val_main_cst_21, val_main_cst_22, val_main_cst_23]

/-- The up-projection. -/
theorem ups (x0 : FVec Ideal S16384x256 .f32) (x1 : FVec Ideal S16384x256 .f32) (x2 : FVec Ideal S16384x256 .f32) (x3 : FVec Ideal S16384x1024 .f32) (x4 : FVec Ideal S16384x256 .f32) (x5 : FVec Ideal S16384x1024 .f32) (x7 : FVec Ideal S2x1024 .f32) (x8 : FVec Ideal S2x1024x1024 .f32) (x9 : FVec Ideal S2x1024 .f32) (x10 : FVec Ideal S2x1024x5632 .f32) (R : Fin 16384) (f : Fin 5632) :
    ((val_main_v94 (F := Ideal) x0 x1 x2 x3 x4 x5 x7 x8 x9 x10) (ix2 R f) : EReal)
      = ∑ d : Fin 1024, (val_main_v85 (F := Ideal) x0 x1 x2 x3 x4 x5 x7 x8 x9) (ix2 R d) * x10 (ix3 (1 : Fin 2) d f) := by
  unfold val_main_v94
  generalize (val_main_v85 (F := Ideal) x0 x1 x2 x3 x4 x5 x7 x8 x9) = H
  pointwise [val_main_v86, val_main_v87]

/-- The residual takes in the output projection. -/
theorem mix (x0 : FVec Ideal S16384x256 .f32) (x1 : FVec Ideal S16384x256 .f32) (x2 : FVec Ideal S16384x256 .f32) (x3 : FVec Ideal S16384x1024 .f32) (x4 : FVec Ideal S16384x256 .f32) (x5 : FVec Ideal S16384x1024 .f32) (x7 : FVec Ideal S2x1024 .f32) (x8 : FVec Ideal S2x1024x1024 .f32) (R : Fin 16384) (j : Fin 1024) :
    ((val_main_v70 (F := Ideal) x0 x1 x2 x3 x4 x5 x7 x8) (ix2 R j) : EReal)
      = x5 (ix2 R j) + ∑ k : Fin 1024, (val_main_v66 (F := Ideal) x0 x1 x2 x3 x4 x7) (ix2 R k) * x8 (ix3 (1 : Fin 2) k j) := by
  unfold val_main_v70 val_main_v69
  generalize (val_main_v66 (F := Ideal) x0 x1 x2 x3 x4 x7) = H
  pointwise [val_main_v67, val_main_v68]

/-- Group 0's lanes of the joined row. -/
theorem cat0 (x0 : FVec Ideal S16384x256 .f32) (x1 : FVec Ideal S16384x256 .f32) (x2 : FVec Ideal S16384x256 .f32) (x3 : FVec Ideal S16384x1024 .f32) (x4 : FVec Ideal S16384x256 .f32) (x7 : FVec Ideal S2x1024 .f32) (R : Fin 16384) (k : Fin 256) :
    ((val_main_v66 (F := Ideal) x0 x1 x2 x3 x4 x7) (ix2 R (gcol 0 k)) : EReal) = (val_main_v15 (F := Ideal) x0 x7) (ix2 R k) := by
  unfold val_main_v66
  generalize (val_main_v15 (F := Ideal) x0 x7) = A
  generalize (val_main_v29 (F := Ideal) x1 x7) = B
  generalize (val_main_v51 (F := Ideal) x2 x3 x7) = C
  generalize (val_main_v65 (F := Ideal) x4 x7) = D
  have e : (gcol 0 k).val = 0 + k.val := rfl
  pointwise []
  rw [dif_pos (by omega)]
  exact congrArg (fun z => A (ix2 R z)) (Fin.ext (by show (gcol 0 k).val = k.val; omega))

/-- Group 1's lanes of the joined row. -/
theorem cat1 (x0 : FVec Ideal S16384x256 .f32) (x1 : FVec Ideal S16384x256 .f32) (x2 : FVec Ideal S16384x256 .f32) (x3 : FVec Ideal S16384x1024 .f32) (x4 : FVec Ideal S16384x256 .f32) (x7 : FVec Ideal S2x1024 .f32) (R : Fin 16384) (k : Fin 256) :
    ((val_main_v66 (F := Ideal) x0 x1 x2 x3 x4 x7) (ix2 R (gcol 1 k)) : EReal) = (val_main_v29 (F := Ideal) x1 x7) (ix2 R k) := by
  unfold val_main_v66
  generalize (val_main_v15 (F := Ideal) x0 x7) = A
  generalize (val_main_v29 (F := Ideal) x1 x7) = B
  generalize (val_main_v51 (F := Ideal) x2 x3 x7) = C
  generalize (val_main_v65 (F := Ideal) x4 x7) = D
  have e : (gcol 1 k).val = 256 + k.val := rfl
  pointwise []
  rw [dif_neg (by omega), dif_pos (by omega)]
  exact congrArg (fun z => B (ix2 R z)) (Fin.ext (by show (gcol 1 k).val - 256 = k.val; omega))

/-- Group 2's lanes of the joined row. -/
theorem cat2 (x0 : FVec Ideal S16384x256 .f32) (x1 : FVec Ideal S16384x256 .f32) (x2 : FVec Ideal S16384x256 .f32) (x3 : FVec Ideal S16384x1024 .f32) (x4 : FVec Ideal S16384x256 .f32) (x7 : FVec Ideal S2x1024 .f32) (R : Fin 16384) (k : Fin 256) :
    ((val_main_v66 (F := Ideal) x0 x1 x2 x3 x4 x7) (ix2 R (gcol 2 k)) : EReal) = (val_main_v51 (F := Ideal) x2 x3 x7) (ix2 R k) := by
  unfold val_main_v66
  generalize (val_main_v15 (F := Ideal) x0 x7) = A
  generalize (val_main_v29 (F := Ideal) x1 x7) = B
  generalize (val_main_v51 (F := Ideal) x2 x3 x7) = C
  generalize (val_main_v65 (F := Ideal) x4 x7) = D
  have e : (gcol 2 k).val = 512 + k.val := rfl
  pointwise []
  rw [dif_neg (by omega), dif_neg (by omega), dif_pos (by omega)]
  exact congrArg (fun z => C (ix2 R z)) (Fin.ext (by show (gcol 2 k).val - 256 - 256 = k.val; omega))

/-- Group 3's lanes of the joined row. -/
theorem cat3 (x0 : FVec Ideal S16384x256 .f32) (x1 : FVec Ideal S16384x256 .f32) (x2 : FVec Ideal S16384x256 .f32) (x3 : FVec Ideal S16384x1024 .f32) (x4 : FVec Ideal S16384x256 .f32) (x7 : FVec Ideal S2x1024 .f32) (R : Fin 16384) (k : Fin 256) :
    ((val_main_v66 (F := Ideal) x0 x1 x2 x3 x4 x7) (ix2 R (gcol 3 k)) : EReal) = (val_main_v65 (F := Ideal) x4 x7) (ix2 R k) := by
  unfold val_main_v66
  generalize (val_main_v15 (F := Ideal) x0 x7) = A
  generalize (val_main_v29 (F := Ideal) x1 x7) = B
  generalize (val_main_v51 (F := Ideal) x2 x3 x7) = C
  generalize (val_main_v65 (F := Ideal) x4 x7) = D
  have e : (gcol 3 k).val = 768 + k.val := rfl
  pointwise []
  rw [dif_neg (by omega), dif_neg (by omega), dif_neg (by omega)]
  exact congrArg (fun z => D (ix2 R z)) (Fin.ext (by show (gcol 3 k).val - 256 - 256 - 256 = k.val; omega))

/-- Two rows of nothing stand before each sequence. -/
theorem padded (x0 : FVec Ideal S16384x256 .f32) (x1 : FVec Ideal S16384x256 .f32) (x2 : FVec Ideal S16384x256 .f32) (x3 : FVec Ideal S16384x1024 .f32) (x4 : FVec Ideal S16384x256 .f32) (x5 : FVec Ideal S16384x1024 .f32) (x7 : FVec Ideal S2x1024 .f32) (x8 : FVec Ideal S2x1024x1024 .f32) (x9 : FVec Ideal S2x1024 .f32) (x10 : FVec Ideal S2x1024x5632 .f32) (b : Fin 2) (s : Fin 8194) (f : Fin 5632) :
    ((val_main_v96 (F := Ideal) x0 x1 x2 x3 x4 x5 x7 x8 x9 x10) (ix3 b s f) : EReal)
      = if h : 2 ≤ s.val then (val_main_v94 (F := Ideal) x0 x1 x2 x3 x4 x5 x7 x8 x9 x10) (ix2 (⟨b.val * 8192 + (s.val - 2), by omega⟩ : Fin 16384) f) else 0 := by
  unfold val_main_v96 val_main_v95
  generalize (val_main_v94 (F := Ideal) x0 x1 x2 x3 x4 x5 x7 x8 x9 x10) = H
  pointwise [val_main_call0_v0]
  by_cases h : 2 ≤ s.val
  · rw [dif_pos h, dif_pos ⟨h, by omega⟩]
  · rw [dif_neg h, dif_neg (fun q => h q.1)]
    show (((0#32 : BitVec 32).toInt : ℝ) : EReal) = 0
    simp

/-- The convolution. -/
theorem conved (x0 : FVec Ideal S16384x256 .f32) (x1 : FVec Ideal S16384x256 .f32) (x2 : FVec Ideal S16384x256 .f32) (x3 : FVec Ideal S16384x1024 .f32) (x4 : FVec Ideal S16384x256 .f32) (x5 : FVec Ideal S16384x1024 .f32) (x7 : FVec Ideal S2x1024 .f32) (x8 : FVec Ideal S2x1024x1024 .f32) (x9 : FVec Ideal S2x1024 .f32) (x10 : FVec Ideal S2x1024x5632 .f32) (x11 : FVec Ideal S2x3x5632 .f32) (x12 : FVec Ideal S2x5632 .f32) (b : Fin 2) (s : Fin 8192) (f : Fin 5632) :
    ((val_main_v119 (F := Ideal) x0 x1 x2 x3 x4 x5 x7 x8 x9 x10 x11 x12) (ix3 b s f) : EReal)
      = x12 (ix2 (1 : Fin 2) f) + x11 (ix3 (1 : Fin 2) (0 : Fin 3) f) * (val_main_v96 (F := Ideal) x0 x1 x2 x3 x4 x5 x7 x8 x9 x10) (ix3 b (⟨s.val, by omega⟩ : Fin 8194) f)
        + x11 (ix3 (1 : Fin 2) (1 : Fin 3) f) * (val_main_v96 (F := Ideal) x0 x1 x2 x3 x4 x5 x7 x8 x9 x10) (ix3 b (⟨1 + s.val, by omega⟩ : Fin 8194) f)
        + x11 (ix3 (1 : Fin 2) (2 : Fin 3) f) * (val_main_v96 (F := Ideal) x0 x1 x2 x3 x4 x5 x7 x8 x9 x10) (ix3 b (⟨2 + s.val, by omega⟩ : Fin 8194) f) := by
  unfold val_main_v119 val_main_v118 val_main_v117 val_main_v116 val_main_v115 val_main_v114 val_main_v113 val_main_v112 val_main_v111 val_main_v110 val_main_v109 val_main_v108 val_main_v107 val_main_v106 val_main_v105 val_main_v104 val_main_v103 val_main_v102 val_main_v101 val_main_v100 val_main_v99 val_main_v98 val_main_v97
  generalize (val_main_v96 (F := Ideal) x0 x1 x2 x3 x4 x5 x7 x8 x9 x10) = H
  pointwise [val_main_v91, val_main_v90, val_main_v89, val_main_v88]
/-- The gated features. -/
theorem features (x0 : FVec Ideal S16384x256 .f32) (x1 : FVec Ideal S16384x256 .f32) (x2 : FVec Ideal S16384x256 .f32) (x3 : FVec Ideal S16384x1024 .f32) (x4 : FVec Ideal S16384x256 .f32) (x5 : FVec Ideal S16384x1024 .f32) (x7 : FVec Ideal S2x1024 .f32) (x8 : FVec Ideal S2x1024x1024 .f32) (x9 : FVec Ideal S2x1024 .f32) (x10 : FVec Ideal S2x1024x5632 .f32) (x11 : FVec Ideal S2x3x5632 .f32) (x12 : FVec Ideal S2x5632 .f32) (R : Fin 16384) (f : Fin 2816) :
    ((val_main_v124 (F := Ideal) x0 x1 x2 x3 x4 x5 x7 x8 x9 x10 x11 x12) (ix2 R f) : EReal)
      = (val_main_v119 (F := Ideal) x0 x1 x2 x3 x4 x5 x7 x8 x9 x10 x11 x12) (ix3 (seqOf R) (placeOf R) (Post.gateCol f)) * Post.sigm ((val_main_v119 (F := Ideal) x0 x1 x2 x3 x4 x5 x7 x8 x9 x10 x11 x12) (ix3 (seqOf R) (placeOf R) (Post.gateCol f)))
        * (val_main_v119 (F := Ideal) x0 x1 x2 x3 x4 x5 x7 x8 x9 x10 x11 x12) (ix3 (seqOf R) (placeOf R) (Post.valCol f)) := by
  unfold Post.sigm val_main_v124 val_main_v123 val_main_v122 val_main_v121 val_main_call1_v5 val_main_call1_v4 val_main_call1_v3 val_main_call1_v2 val_main_call1_v1 val_main_call1_v0
  unfold val_main_v120
  generalize (val_main_v119 (F := Ideal) x0 x1 x2 x3 x4 x5 x7 x8 x9 x10 x11 x12) = H
  pointwise [val_main_call1_cst, val_main_call1_cst_0]
  rw [zero_sub, show Post.valCol f = ⟨2816 + f.val, by omega⟩ from Fin.ext (Nat.add_comm _ _)]
  rfl
/-- The residual takes in the feed-forward part. -/
theorem downs (x0 : FVec Ideal S16384x256 .f32) (x1 : FVec Ideal S16384x256 .f32) (x2 : FVec Ideal S16384x256 .f32) (x3 : FVec Ideal S16384x1024 .f32) (x4 : FVec Ideal S16384x256 .f32) (x5 : FVec Ideal S16384x1024 .f32) (x7 : FVec Ideal S2x1024 .f32) (x8 : FVec Ideal S2x1024x1024 .f32) (x9 : FVec Ideal S2x1024 .f32) (x10 : FVec Ideal S2x1024x5632 .f32) (x11 : FVec Ideal S2x3x5632 .f32) (x12 : FVec Ideal S2x5632 .f32) (x13 : FVec Ideal S2x2816x1024 .f32) (R : Fin 16384) (j : Fin 1024) :
    ((val_main_v126 (F := Ideal) x0 x1 x2 x3 x4 x5 x7 x8 x9 x10 x11 x12 x13) (ix2 R j) : EReal)
      = (val_main_v70 (F := Ideal) x0 x1 x2 x3 x4 x5 x7 x8) (ix2 R j) + ∑ f : Fin 2816, (val_main_v124 (F := Ideal) x0 x1 x2 x3 x4 x5 x7 x8 x9 x10 x11 x12) (ix2 R f) * x13 (ix3 (1 : Fin 2) f j) := by
  unfold val_main_v126 val_main_v125
  generalize (val_main_v70 (F := Ideal) x0 x1 x2 x3 x4 x5 x7 x8) = G
  generalize (val_main_v124 (F := Ideal) x0 x1 x2 x3 x4 x5 x7 x8 x9 x10 x11 x12) = H
  pointwise [val_main_v92, val_main_v93]
/-- The residual takes in the layer embedding. -/
theorem embs (x0 : FVec Ideal S16384x256 .f32) (x1 : FVec Ideal S16384x256 .f32) (x2 : FVec Ideal S16384x256 .f32) (x3 : FVec Ideal S16384x1024 .f32) (x4 : FVec Ideal S16384x256 .f32) (x5 : FVec Ideal S16384x1024 .f32) (x6 : FVec Ideal S2x2x8192x256 .f32) (x7 : FVec Ideal S2x1024 .f32) (x8 : FVec Ideal S2x1024x1024 .f32) (x9 : FVec Ideal S2x1024 .f32) (x10 : FVec Ideal S2x1024x5632 .f32) (x11 : FVec Ideal S2x3x5632 .f32) (x12 : FVec Ideal S2x5632 .f32) (x13 : FVec Ideal S2x2816x1024 .f32) (x14 : FVec Ideal S2x1024 .f32) (x15 : FVec Ideal S2x1024x1024 .f32) (x16 : FVec Ideal S2x256x1024 .f32) (R : Fin 16384) (j : Fin 1024) :
    ((val_main_v158 (F := Ideal) x0 x1 x2 x3 x4 x5 x6 x7 x8 x9 x10 x11 x12 x13 x14 x15 x16) (ix2 R j) : EReal)
      = (val_main_v126 (F := Ideal) x0 x1 x2 x3 x4 x5 x7 x8 x9 x10 x11 x12 x13) (ix2 R j) + Post.sigm (∑ k : Fin 1024, (val_main_v141 (F := Ideal) x0 x1 x2 x3 x4 x5 x7 x8 x9 x10 x11 x12 x13 x14) (ix2 R k) * x15 (ix3 (1 : Fin 2) k j))
         * ∑ k : Fin 256, x6 (ix4 (1 : Fin 2) (seqOf R) (placeOf R) k) * x16 (ix3 (1 : Fin 2) k j) := by
  unfold Post.sigm val_main_v158 val_main_v157 val_main_v156 val_main_v150 val_main_v149 val_main_v148 val_main_v147 val_main_v146 val_main_v145 val_main_v144
  generalize (val_main_v126 (F := Ideal) x0 x1 x2 x3 x4 x5 x7 x8 x9 x10 x11 x12 x13) = G
  generalize (val_main_v141 (F := Ideal) x0 x1 x2 x3 x4 x5 x7 x8 x9 x10 x11 x12 x13 x14) = H
  pointwise [val_main_v143, val_main_v142, val_main_v155, val_main_v154, val_main_v153, val_main_v152, val_main_v151, val_main_cst_19, val_main_cst_20]
  rw [zero_sub]
  rfl

variable (x0 : FVec Ideal S16384x256 .f32) (x1 : FVec Ideal S16384x256 .f32) (x2 : FVec Ideal S16384x256 .f32) (x3 : FVec Ideal S16384x1024 .f32) (x4 : FVec Ideal S16384x256 .f32) (x5 : FVec Ideal S16384x1024 .f32) (x6 : FVec Ideal S2x2x8192x256 .f32) (x7 : FVec Ideal S2x1024 .f32) (x8 : FVec Ideal S2x1024x1024 .f32) (x9 : FVec Ideal S2x1024 .f32) (x10 : FVec Ideal S2x1024x5632 .f32) (x11 : FVec Ideal S2x3x5632 .f32) (x12 : FVec Ideal S2x5632 .f32) (x13 : FVec Ideal S2x2816x1024 .f32) (x14 : FVec Ideal S2x1024 .f32) (x15 : FVec Ideal S2x1024x1024 .f32) (x16 : FVec Ideal S2x256x1024 .f32) (x17 : FVec Ideal S1024 .f32)

/-- A sum over a model row, group by group. -/
theorem sum_groups (f : Fin 1024 → EReal) :
    ∑ k, f k = ∑ k, f (gcol 0 k) + ∑ k, f (gcol 1 k) + ∑ k, f (gcol 2 k) + ∑ k, f (gcol 3 k) := by
  have e : ∑ k, f k = ∑ p : Fin 4 × Fin 256, f (gcol p.1 p.2) :=
    (Fintype.sum_equiv (finProdFinEquiv (m := 4) (n := 256)) _ _ fun p => congrArg f (Fin.ext (by
      show 256 * p.1.val + p.2.val = p.2.val + 256 * p.1.val; omega))).symm
  rw [e, Fintype.sum_prod_type, Fin.sum_univ_four]

/-- The residual after the groups. -/
def rows (R : Fin 16384) : Fin 1024 → EReal :=
  Post.mixed (layerWeights x7 x8 x9 x10 x11 x12 x13 x14 x15 x16 x17) (fun k => x0 (ix2 R k)) (fun k => x1 (ix2 R k)) (fun k => x2 (ix2 R k)) (fun k => x3 (ix2 R (gcol 3 k)))
    (fun k => x4 (ix2 R k)) fun j => x5 (ix2 R j)

/-- The layer embedding of a row. -/
def emb (R : Fin 16384) (k : Fin 256) : EReal := x6 (ix4 (1 : Fin 2) (seqOf R) (placeOf R) k)

theorem resid (R : Fin 16384) (j : Fin 1024) : ((val_main_v70 (F := Ideal) x0 x1 x2 x3 x4 x5 x7 x8) (ix2 R j) : EReal) = (rows x0 x1 x2 x3 x4 x5 x7 x8 x9 x10 x11 x12 x13 x14 x15 x16 x17) R j := by
  unfold rows Post.mixed
  refine (mix x0 x1 x2 x3 x4 x5 x7 x8 R j).trans ?_
  rw [sum_groups]
  simp only [cat0, cat1, cat2, cat3, group0, group1, gated, group3]
  rw [← add_assoc, ← add_assoc, ← add_assoc]
  rfl

theorem normed (R : Fin 16384) (j : Fin 1024) :
    ((val_main_v85 (F := Ideal) x0 x1 x2 x3 x4 x5 x7 x8 x9) (ix2 R j) : EReal) = Post.rms Post.len1024 ((rows x0 x1 x2 x3 x4 x5 x7 x8 x9 x10 x11 x12 x13 x14 x15 x16 x17) R) (Post.Weights.fg (layerWeights x7 x8 x9 x10 x11 x12 x13 x14 x15 x16 x17)) j := by
  refine (normF x0 x1 x2 x3 x4 x5 x7 x8 x9 R j).trans (congrArg (fun h => Post.rms Post.len1024 h (Post.Weights.fg (layerWeights x7 x8 x9 x10 x11 x12 x13 x14 x15 x16 x17)) j) (funext fun j => ?_))
  exact resid x0 x1 x2 x3 x4 x5 x7 x8 x9 x10 x11 x12 x13 x14 x15 x16 x17 R j

/-- Each tap meets the up-projection of the row it reaches back to. -/
theorem tap (d : ℕ) (R : Fin 16384) (p : Fin 8194) (hp : p.val + d = R.val % 8192 + 2) (f : Fin 5632) :
    ((val_main_v96 (F := Ideal) x0 x1 x2 x3 x4 x5 x7 x8 x9 x10) (ix3 (seqOf R) p f) : EReal) = Post.up (layerWeights x7 x8 x9 x10 x11 x12 x13 x14 x15 x16 x17) (Post.before (layerWeights x7 x8 x9 x10 x11 x12 x13 x14 x15 x16 x17) (rows x0 x1 x2 x3 x4 x5 x7 x8 x9 x10 x11 x12 x13 x14 x15 x16 x17) d R) f := by
  refine (padded x0 x1 x2 x3 x4 x5 x7 x8 x9 x10 (seqOf R) p f).trans ?_
  by_cases h : d ≤ R.val % 8192
  · rw [dif_pos (by omega)]
    refine (ups x0 x1 x2 x3 x4 x5 x7 x8 x9 x10 _ f).trans (Finset.sum_congr rfl fun k _ => congrArg (· * x10 (ix3 (1 : Fin 2) k f)) ?_)
    refine (normed x0 x1 x2 x3 x4 x5 x7 x8 x9 x10 x11 x12 x13 x14 x15 x16 x17 _ k).trans ?_
    unfold Post.before
    rw [if_pos h]
    exact congrArg (fun R => Post.rms Post.len1024 ((rows x0 x1 x2 x3 x4 x5 x7 x8 x9 x10 x11 x12 x13 x14 x15 x16 x17) R) (Post.Weights.fg (layerWeights x7 x8 x9 x10 x11 x12 x13 x14 x15 x16 x17)) k)
      (Fin.ext (by show R.val / 8192 * 8192 + (p.val - 2) = R.val - d; omega))
  · rw [dif_neg (by omega), show Post.before (layerWeights x7 x8 x9 x10 x11 x12 x13 x14 x15 x16 x17) (rows x0 x1 x2 x3 x4 x5 x7 x8 x9 x10 x11 x12 x13 x14 x15 x16 x17) d R = fun _ => 0 from funext fun j => if_neg h]
    exact (Post.up_zero _ f).symm

theorem convolved (R : Fin 16384) (f : Fin 5632) :
    ((val_main_v119 (F := Ideal) x0 x1 x2 x3 x4 x5 x7 x8 x9 x10 x11 x12) (ix3 (seqOf R) (placeOf R) f) : EReal)
      = Post.conv (layerWeights x7 x8 x9 x10 x11 x12 x13 x14 x15 x16 x17) (Post.up (layerWeights x7 x8 x9 x10 x11 x12 x13 x14 x15 x16 x17) (Post.before (layerWeights x7 x8 x9 x10 x11 x12 x13 x14 x15 x16 x17) (rows x0 x1 x2 x3 x4 x5 x7 x8 x9 x10 x11 x12 x13 x14 x15 x16 x17) 2 R)) (Post.up (layerWeights x7 x8 x9 x10 x11 x12 x13 x14 x15 x16 x17) (Post.before (layerWeights x7 x8 x9 x10 x11 x12 x13 x14 x15 x16 x17) (rows x0 x1 x2 x3 x4 x5 x7 x8 x9 x10 x11 x12 x13 x14 x15 x16 x17) 1 R)) (Post.up (layerWeights x7 x8 x9 x10 x11 x12 x13 x14 x15 x16 x17) (Post.before (layerWeights x7 x8 x9 x10 x11 x12 x13 x14 x15 x16 x17) (rows x0 x1 x2 x3 x4 x5 x7 x8 x9 x10 x11 x12 x13 x14 x15 x16 x17) 0 R)) f := by
  refine (conved x0 x1 x2 x3 x4 x5 x7 x8 x9 x10 x11 x12 (seqOf R) (placeOf R) f).trans ?_
  have hm : R.val % 8192 < 8192 := Nat.mod_lt _ (by norm_num)
  rw [tap x0 x1 x2 x3 x4 x5 x7 x8 x9 x10 x11 x12 x13 x14 x15 x16 x17 2 R _ (by show R.val % 8192 + 2 = _; rfl) f,
    tap x0 x1 x2 x3 x4 x5 x7 x8 x9 x10 x11 x12 x13 x14 x15 x16 x17 1 R _ (by show 1 + R.val % 8192 + 1 = _; omega) f,
    tap x0 x1 x2 x3 x4 x5 x7 x8 x9 x10 x11 x12 x13 x14 x15 x16 x17 0 R _ (by show 2 + R.val % 8192 + 0 = _; omega) f]
  rfl

theorem gates (R : Fin 16384) (f : Fin 2816) :
    ((val_main_v124 (F := Ideal) x0 x1 x2 x3 x4 x5 x7 x8 x9 x10 x11 x12) (ix2 R f) : EReal)
      = Post.act (layerWeights x7 x8 x9 x10 x11 x12 x13 x14 x15 x16 x17) (Post.up (layerWeights x7 x8 x9 x10 x11 x12 x13 x14 x15 x16 x17) (Post.before (layerWeights x7 x8 x9 x10 x11 x12 x13 x14 x15 x16 x17) (rows x0 x1 x2 x3 x4 x5 x7 x8 x9 x10 x11 x12 x13 x14 x15 x16 x17) 2 R)) (Post.up (layerWeights x7 x8 x9 x10 x11 x12 x13 x14 x15 x16 x17) (Post.before (layerWeights x7 x8 x9 x10 x11 x12 x13 x14 x15 x16 x17) (rows x0 x1 x2 x3 x4 x5 x7 x8 x9 x10 x11 x12 x13 x14 x15 x16 x17) 1 R)) (Post.up (layerWeights x7 x8 x9 x10 x11 x12 x13 x14 x15 x16 x17) (Post.before (layerWeights x7 x8 x9 x10 x11 x12 x13 x14 x15 x16 x17) (rows x0 x1 x2 x3 x4 x5 x7 x8 x9 x10 x11 x12 x13 x14 x15 x16 x17) 0 R)) f := by
  refine (features x0 x1 x2 x3 x4 x5 x7 x8 x9 x10 x11 x12 R f).trans ?_
  rw [convolved x0 x1 x2 x3 x4 x5 x7 x8 x9 x10 x11 x12 x13 x14 x15 x16 x17, convolved x0 x1 x2 x3 x4 x5 x7 x8 x9 x10 x11 x12 x13 x14 x15 x16 x17]
  rfl

/-- The row after the feed-forward part. -/
theorem fedRow (R : Fin 16384) (j : Fin 1024) :
    ((val_main_v126 (F := Ideal) x0 x1 x2 x3 x4 x5 x7 x8 x9 x10 x11 x12 x13) (ix2 R j) : EReal) = Post.fed (layerWeights x7 x8 x9 x10 x11 x12 x13 x14 x15 x16 x17) ((rows x0 x1 x2 x3 x4 x5 x7 x8 x9 x10 x11 x12 x13 x14 x15 x16 x17) R) (Post.act (layerWeights x7 x8 x9 x10 x11 x12 x13 x14 x15 x16 x17) (Post.up (layerWeights x7 x8 x9 x10 x11 x12 x13 x14 x15 x16 x17) (Post.before (layerWeights x7 x8 x9 x10 x11 x12 x13 x14 x15 x16 x17) (rows x0 x1 x2 x3 x4 x5 x7 x8 x9 x10 x11 x12 x13 x14 x15 x16 x17) 2 R))
      (Post.up (layerWeights x7 x8 x9 x10 x11 x12 x13 x14 x15 x16 x17) (Post.before (layerWeights x7 x8 x9 x10 x11 x12 x13 x14 x15 x16 x17) (rows x0 x1 x2 x3 x4 x5 x7 x8 x9 x10 x11 x12 x13 x14 x15 x16 x17) 1 R)) (Post.up (layerWeights x7 x8 x9 x10 x11 x12 x13 x14 x15 x16 x17) (Post.before (layerWeights x7 x8 x9 x10 x11 x12 x13 x14 x15 x16 x17) (rows x0 x1 x2 x3 x4 x5 x7 x8 x9 x10 x11 x12 x13 x14 x15 x16 x17) 0 R))) j := by
  refine (downs x0 x1 x2 x3 x4 x5 x7 x8 x9 x10 x11 x12 x13 R j).trans ?_
  rw [resid x0 x1 x2 x3 x4 x5 x7 x8 x9 x10 x11 x12 x13 x14 x15 x16 x17]
  simp only [gates x0 x1 x2 x3 x4 x5 x7 x8 x9 x10 x11 x12 x13 x14 x15 x16 x17]
  rfl

/-- The row after the layer embedding. -/
theorem embRow (R : Fin 16384) (j : Fin 1024) :
    ((val_main_v158 (F := Ideal) x0 x1 x2 x3 x4 x5 x6 x7 x8 x9 x10 x11 x12 x13 x14 x15 x16) (ix2 R j) : EReal) = Post.embedded (layerWeights x7 x8 x9 x10 x11 x12 x13 x14 x15 x16 x17) (Post.fed (layerWeights x7 x8 x9 x10 x11 x12 x13 x14 x15 x16 x17) ((rows x0 x1 x2 x3 x4 x5 x7 x8 x9 x10 x11 x12 x13 x14 x15 x16 x17) R) (Post.act (layerWeights x7 x8 x9 x10 x11 x12 x13 x14 x15 x16 x17) (Post.up (layerWeights x7 x8 x9 x10 x11 x12 x13 x14 x15 x16 x17) (Post.before (layerWeights x7 x8 x9 x10 x11 x12 x13 x14 x15 x16 x17) (rows x0 x1 x2 x3 x4 x5 x7 x8 x9 x10 x11 x12 x13 x14 x15 x16 x17) 2 R))
      (Post.up (layerWeights x7 x8 x9 x10 x11 x12 x13 x14 x15 x16 x17) (Post.before (layerWeights x7 x8 x9 x10 x11 x12 x13 x14 x15 x16 x17) (rows x0 x1 x2 x3 x4 x5 x7 x8 x9 x10 x11 x12 x13 x14 x15 x16 x17) 1 R)) (Post.up (layerWeights x7 x8 x9 x10 x11 x12 x13 x14 x15 x16 x17) (Post.before (layerWeights x7 x8 x9 x10 x11 x12 x13 x14 x15 x16 x17) (rows x0 x1 x2 x3 x4 x5 x7 x8 x9 x10 x11 x12 x13 x14 x15 x16 x17) 0 R)))) (emb x6 R) j := by
  refine (embs x0 x1 x2 x3 x4 x5 x6 x7 x8 x9 x10 x11 x12 x13 x14 x15 x16 R j).trans ?_
  simp only [normE, fedRow x0 x1 x2 x3 x4 x5 x7 x8 x9 x10 x11 x12 x13 x14 x15 x16 x17]
  rfl

/-- The reference's result, row by row. -/
theorem reads (R : Fin 16384) (j : Fin 1024) :
    ((val_main_v171 (F := Ideal) x0 x1 x2 x3 x4 x5 x6 x7 x8 x9 x10 x11 x12 x13 x14 x15 x16 x17) (ix2 R j) : EReal) = Post.tail (layerWeights x7 x8 x9 x10 x11 x12 x13 x14 x15 x16 x17) (rows x0 x1 x2 x3 x4 x5 x7 x8 x9 x10 x11 x12 x13 x14 x15 x16 x17) (emb x6) R j := by
  refine (normL x0 x1 x2 x3 x4 x5 x6 x7 x8 x9 x10 x11 x12 x13 x14 x15 x16 x17 R j).trans ?_
  simp only [embRow x0 x1 x2 x3 x4 x5 x6 x7 x8 x9 x10 x11 x12 x13 x14 x15 x16 x17]
  rfl

end PostRef
end
end
-- ==== Proof.PostArray.lean ====
module
public import proofs.«01_k».proof.Proof.PostOperands
public import proofs.«01_k».proof.Proof.PostTail

/-! # The tail call's result array

Point `t` of the grid takes rows `512 t` to `512 t + 511`; the sixteen normed rows before them are what the point before
left, or zero where a sequence begins. -/

@[expose] public section
set_option maxRecDepth 16384
noncomputable section
open Idealize.ShloMosaic Idealize.ShloMosaic.TcCoe Idealize.SL.Sem
namespace PostState
open Cert.Kernel2Ideal Cert.Kernel2Ideal.Gen PostBlocks
variable (m : (ℓ : Loc nD τ sig) → Buf (Elt Ideal) ℓ)

/-- The weights the arguments hold. -/
def argWeights (c : Dev nD) : Post.Weights :=
  layerWeights (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17))

/-- The residual after the groups, of the arguments. -/
def argRows (c : Dev nD) (R : Fin 16384) : Fin 1024 → EReal :=
  Post.mixed (argWeights m c) (fun k => ((m ((c : Thread nD τ).loc main_arg0)) : FVec Ideal S16384x256 .f32) (ix2 R k)) (fun k => ((m ((c : Thread nD τ).loc main_arg1)) : FVec Ideal S16384x256 .f32) (ix2 R k)) (fun k => ((m ((c : Thread nD τ).loc main_arg2)) : FVec Ideal S16384x256 .f32) (ix2 R k))
    (fun k => ((m ((c : Thread nD τ).loc main_arg3)) : FVec Ideal S16384x1024 .f32) (ix2 R (gcol 3 k))) (fun k => ((m ((c : Thread nD τ).loc main_arg4)) : FVec Ideal S16384x256 .f32) (ix2 R k)) fun j => ((m ((c : Thread nD τ).loc main_arg5)) : FVec Ideal S16384x1024 .f32) (ix2 R j)

/-- The last layer's embedding of a row. -/
def argEmb (c : Dev nD) (R : Fin 16384) (k : Fin 256) : EReal :=
  ((m ((c : Thread nD τ).loc main_arg6)) : FVec Ideal S2x2x8192x256 .f32) (ix4 (1 : Fin 2) (⟨R.val / 8192, by omega⟩ : Fin 2) (⟨R.val % 8192, Nat.mod_lt _ (by norm_num)⟩ : Fin 8192) k)

theorem weights_blk (c : Dev nD) (t : Fin cfg0.N) : (weights (iblk m c 7 t) (iblk m c 8 t) (iblk m c 9 t) (iblk m c 10 t) (iblk m c 11 t) (iblk m c 12 t) (iblk m c 13 t) (iblk m c 14 t) (iblk m c 15 t) (iblk m c 16 t) (iblk m c 17 t)) = argWeights m c := by
  unfold weights argWeights layerWeights
  rw [Post.Weights.mk.injEq]
  refine ⟨funext fun g => funext fun k => (blk7 m c t (gcol g k)).trans ((congrFun (entry7 m c) _).trans (hostRow_apply _ _ _)),
    funext fun g => funext fun k => funext fun j => (blk8 m c t (gcol g k) j).trans (congrFun (entry8 m c) _),
    funext fun j => (blk9 m c t j).trans ((congrFun (entry9 m c) _).trans (hostRow_apply _ _ _)),
    funext fun k => funext fun j => (blk10 m c t k j).trans (congrFun (entry10 m c) _),
    funext fun k => funext fun j => (blk11 m c t k j).trans rfl,
    funext fun j => (blk12 m c t j).trans ((congrFun (entry12 m c) _).trans (hostBias_apply _ _ _)),
    funext fun k => funext fun j => (blk13 m c t k j).trans (congrFun (entry13 m c) _),
    funext fun j => (blk14 m c t j).trans ((congrFun (entry14 m c) _).trans (hostRow_apply _ _ _)),
    funext fun k => funext fun j => (blk15 m c t k j).trans (congrFun (entry15 m c) _),
    funext fun k => funext fun j => (blk16 m c t k j).trans (congrFun (entry16 m c) _),
    funext fun j => (blk17 m c t j).trans ((congrFun (entry17 m c) _).trans (hostFinal_apply _ _ _))⟩

theorem mixed_congr (w : Post.Weights) {a a' b b' d d' z z' e e' : Fin 256 → EReal} {h h' : Fin 1024 → EReal} (ha : a = a') (hb : b = b')
    (hd : d = d') (hz : z = z') (he : e = e') (hh : h = h') : Post.mixed w a b d z e h = Post.mixed w a' b' d' z' e' h' := by
  subst ha hb hd hz he hh
  rfl

theorem tileRow_blk (c : Dev nD) (t : Fin cfg0.N) (r : Fin 512) :
    tileRow (argWeights m c) (iblk m c 0 t) (iblk m c 1 t) (iblk m c 2 t) (iblk m c 3 t) (iblk m c 4 t) (iblk m c 5 t) r = argRows m c (gridRow t r) :=
  mixed_congr _ (funext fun k => blk0 m c t r k) (funext fun k => blk1 m c t r k) (funext fun k => blk2 m c t r k) (funext fun k => blk3 m c t r k) (funext fun k => blk4 m c t r k) (funext fun k => blk5 m c t r k)

theorem emb_blk (c : Dev nD) (t : Fin cfg0.N) (r : Fin 512) (k : Fin 256) :
    (iblk m c 6 t : FVec Ideal S512x256 .f32) (ix2 r k) = argEmb m c (gridRow t r) k :=
  (blk6 m c t r k).trans ((congrFun (entry6 m c) _).trans (hostEmb_apply _ _ _))

theorem fst_of {α β : Type} {p : α × β} {a : α} {b : β} (h : p = (a, b)) : p.1 = a := by rw [h]
theorem snd_of {α β : Type} {p : α × β} {a : α} {b : β} (h : p = (a, b)) : p.2 = b := by rw [h]

set_option maxHeartbeats 4000000 in
/-- What a point leaves for the next one. -/
theorem left (c : Dev nD) (t : Fin cfg0.N) (s : Fin 16) (j : Fin 1024) :
    ((outsAt0 m c t.val t.isLt).2 : FVec Ideal S528x1024 .bf16) (ix2 (⟨s.val, by omega⟩ : Fin 528) j)
      = Post.rms Post.len1024 (argRows m c (gridRow t ⟨496 + s.val, by omega⟩)) (argWeights m c).fg j := by
  have key : Post.rms Post.len1024 (tileRow (weights (iblk m c 7 t) (iblk m c 8 t) (iblk m c 9 t) (iblk m c 10 t) (iblk m c 11 t) (iblk m c 12 t) (iblk m c 13 t) (iblk m c 14 t) (iblk m c 15 t) (iblk m c 16 t) (iblk m c 17 t)) (iblk m c 0 t) (iblk m c 1 t) (iblk m c 2 t) (iblk m c 3 t) (iblk m c 4 t) (iblk m c 5 t) (⟨496 + s.val, by omega⟩ : Fin 512)) (weights (iblk m c 7 t) (iblk m c 8 t) (iblk m c 9 t) (iblk m c 10 t) (iblk m c 11 t) (iblk m c 12 t) (iblk m c 13 t) (iblk m c 14 t) (iblk m c 15 t) (iblk m c 16 t) (iblk m c 17 t)).fg j
      = Post.rms Post.len1024 (argRows m c (gridRow t ⟨496 + s.val, by omega⟩)) (argWeights m c).fg j := by
    rw [weights_blk, tileRow_blk]
  by_cases h0 : t.val % 16 = 0
  · have e := leftA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) scM0_2 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) s j
    refine Eq.trans ?_ (e.trans key)
    exact congrFun (snd_of (outsAt0_A m c t h0)) _
  · have e := leftB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) scM0_2 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (outsAt0 m c (t.val - 1) (Nat.lt_of_le_of_lt (Nat.sub_le _ _) t.isLt)).2 s j
    refine Eq.trans ?_ (e.trans key)
    exact congrFun (snd_of (outsAt0_B m c t h0)) _

/-- The normed rows of a tile are the normed rows up to two before. -/
theorem normed_before (w : Post.Weights) (rows : Fin 16384 → Fin 1024 → EReal) (t : Fin cfg0.N) (H : Fin 16 → Fin 1024 → EReal) (d : ℕ) (hd : d ≤ 2)
    (hH : ∀ s : Fin 16, 14 ≤ s.val → ∀ j, H s j = if t.val % 16 = 0 then 0 else
      Post.rms Post.len1024 (rows ⟨512 * t.val + s.val - 16, by have : t.val < 32 := t.isLt; omega⟩) w.fg j) (r : Fin 512) :
    normedRow w (fun r => rows (gridRow t r)) H (at' (16 - d) (Nat.sub_le _ _) r) = Post.before w rows d (gridRow t r) := by
  have ht : t.val < 32 := t.isLt
  funext j
  unfold normedRow Post.before
  by_cases h : (at' (16 - d) (Nat.sub_le _ _) r).val < 16
  · have h' : 16 - d + r.val < 16 := h
    rw [dif_pos h, hH _ (by show 14 ≤ 16 - d + r.val; omega)]
    by_cases h0 : t.val % 16 = 0
    · rw [if_pos h0, if_neg (by show ¬ d ≤ (512 * t.val + r.val) % 8192; omega)]
    · rw [if_neg h0, if_pos (by show d ≤ (512 * t.val + r.val) % 8192; omega)]
      congr 2
      exact Fin.ext (show 512 * t.val + (16 - d + r.val) - 16 = 512 * t.val + r.val - d by omega)
  · have h' : ¬ 16 - d + r.val < 16 := h
    rw [dif_neg h, if_pos (by show d ≤ (512 * t.val + r.val) % 8192; omega)]
    refine congrArg (fun R => Post.rms Post.len1024 (rows R) w.fg j) ?_
    exact Fin.ext (show 512 * t.val + (16 - d + r.val - 16) = 512 * t.val + r.val - d by omega)

/-- A tile's row of the result is the array's. -/
theorem tileOut_tail (c : Dev nD) (t : Fin cfg0.N) (H : Fin 16 → Fin 1024 → EReal)
    (hH : ∀ s : Fin 16, 14 ≤ s.val → ∀ j, H s j = if t.val % 16 = 0 then 0 else
      Post.rms Post.len1024 (argRows m c ⟨512 * t.val + s.val - 16, by have : t.val < 32 := t.isLt; omega⟩) (argWeights m c).fg j) (r : Fin 512) (j : Fin 1024) :
    tileOut (weights (iblk m c 7 t) (iblk m c 8 t) (iblk m c 9 t) (iblk m c 10 t) (iblk m c 11 t) (iblk m c 12 t) (iblk m c 13 t) (iblk m c 14 t) (iblk m c 15 t) (iblk m c 16 t) (iblk m c 17 t)) (tileRow (weights (iblk m c 7 t) (iblk m c 8 t) (iblk m c 9 t) (iblk m c 10 t) (iblk m c 11 t) (iblk m c 12 t) (iblk m c 13 t) (iblk m c 14 t) (iblk m c 15 t) (iblk m c 16 t) (iblk m c 17 t)) (iblk m c 0 t) (iblk m c 1 t) (iblk m c 2 t) (iblk m c 3 t) (iblk m c 4 t) (iblk m c 5 t)) H (iblk m c 6 t) r j
      = Post.tail (argWeights m c) (argRows m c) (argEmb m c) (gridRow t r) j := by
  rw [weights_blk]
  have hrow : tileRow (argWeights m c) (iblk m c 0 t) (iblk m c 1 t) (iblk m c 2 t) (iblk m c 3 t) (iblk m c 4 t) (iblk m c 5 t) = fun r => argRows m c (gridRow t r) := funext fun r => tileRow_blk m c t r
  have hemb : (fun k : Fin 256 => (iblk m c 6 t : FVec Ideal S512x256 .f32) (ix2 r k)) = argEmb m c (gridRow t r) :=
    funext fun k => emb_blk m c t r k
  unfold tileOut Post.tail
  rw [hrow, hemb]
  rw [show at' 14 (by decide) r = at' (16 - 2) (Nat.sub_le _ _) r from rfl, show at' 15 (by decide) r = at' (16 - 1) (Nat.sub_le _ _) r from rfl,
    show at' 16 (by decide) r = at' (16 - 0) (Nat.sub_le _ _) r from rfl,
    normed_before _ _ t H 2 (by omega) hH r, normed_before _ _ t H 1 (by omega) hH r, normed_before _ _ t H 0 (by omega) hH r]

set_option maxHeartbeats 4000000 in
/-- The result's block of a grid point. -/
theorem point (c : Dev nD) (t : Fin cfg0.N) (r : Fin 512) (j : Fin 1024) :
    ((outsAt0 m c t.val t.isLt).1 : FVec Ideal S512x1024 .f32) (ix2 r j)
      = Post.tail (argWeights m c) (argRows m c) (argEmb m c) (gridRow t r) j := by
  have ht : t.val < 32 := t.isLt
  by_cases h0 : t.val % 16 = 0
  · have e := outA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) scM0_2 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) r j
    refine Eq.trans ?_ (e.trans (tileOut_tail m c t _ (fun s _ j => ?_) r j))
    · exact congrFun (fst_of (outsAt0_A m c t h0)) _
    rw [if_pos h0]
  · have e := outB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) scM0_2 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (outsAt0 m c (t.val - 1) (Nat.lt_of_le_of_lt (Nat.sub_le _ _) t.isLt)).2 r j
    refine Eq.trans ?_ (e.trans (tileOut_tail m c t _ (fun s hs j => ?_) r j))
    · exact congrFun (fst_of (outsAt0_B m c t h0)) _
    rw [if_neg h0]
    refine (left m c (⟨t.val - 1, Nat.lt_of_le_of_lt (Nat.sub_le _ _) t.isLt⟩ : Fin cfg0.N) s j).trans ?_
    congr 2
    exact Fin.ext (show 512 * (t.val - 1) + (496 + s.val) = 512 * t.val + s.val - 16 by omega)

/-- The result array. -/
def whole (c : Dev nD) : S16384x1024.Idx → EReal := fun y => Post.tail (argWeights m c) (argRows m c) (argEmb m c) (y 0) (y 1)

theorem result (c : Dev nD) : ((dats m 0 c).arrAt 18 cfg0.N : FVec Ideal S16384x1024 .f32) = whole m c := by
  refine Pipeline.Dat.arrAt_eq_of_covers (dats m 0 c) 18 (whole m c) (by decide +kernel) fun t hf y => ?_
  blk_simp
  rw [after0_18]
  idx_vars y
  refine (point m c t y0 y1).trans ?_
  have ht : t.val < 32 := t.isLt
  have ez : whole m c (ix2 (⟨512 * t.val + y0.val, by omega⟩ : Fin 16384) y1)
      = whole m c (((View.whole main_v12).slice (win0_18.rect t)).emb (ix2 y0 y1)) := by
    blk_ext [pidx18 t]
  exact ez

end PostState
end
end
-- ==== Proof.PostValue.lean ====
module
public import proofs.«01_k».proof.Proof.PostReference
public import proofs.«01_k».proof.Proof.PostArray

/-! # The tail call and its reference end with one result

Both arrays hold, row by row, what the arguments' weights make of the arguments' rows. -/

@[expose] public section
set_option maxRecDepth 16384
noncomputable section
open Idealize.ShloMosaic Idealize.ShloMosaic.TcCoe Idealize.SL.Sem
namespace Post
open Cert.Kernel2Ideal

theorem results_eq (m : (ℓ : Loc nD τ sig) → Buf (Elt Ideal) ℓ) (c : Dev nD)
    (a0 : FVec Ideal S16384x256 .f32)
    (a1 : FVec Ideal S16384x256 .f32)
    (a2 : FVec Ideal S16384x256 .f32)
    (a3 : FVec Ideal S16384x1024 .f32)
    (a4 : FVec Ideal S16384x256 .f32)
    (a5 : FVec Ideal S16384x1024 .f32)
    (a6 : FVec Ideal S2x2x8192x256 .f32)
    (a7 : FVec Ideal S2x1024 .f32)
    (a8 : FVec Ideal S2x1024x1024 .f32)
    (a9 : FVec Ideal S2x1024 .f32)
    (a10 : FVec Ideal S2x1024x5632 .f32)
    (a11 : FVec Ideal S2x3x5632 .f32)
    (a12 : FVec Ideal S2x5632 .f32)
    (a13 : FVec Ideal S2x2816x1024 .f32)
    (a14 : FVec Ideal S2x1024 .f32)
    (a15 : FVec Ideal S2x1024x1024 .f32)
    (a16 : FVec Ideal S2x256x1024 .f32)
    (a17 : FVec Ideal S1024 .f32)
    (e0 : a0 = m ((c : Thread nD τ).loc main_arg0))
    (e1 : a1 = m ((c : Thread nD τ).loc main_arg1))
    (e2 : a2 = m ((c : Thread nD τ).loc main_arg2))
    (e3 : a3 = m ((c : Thread nD τ).loc main_arg3))
    (e4 : a4 = m ((c : Thread nD τ).loc main_arg4))
    (e5 : a5 = m ((c : Thread nD τ).loc main_arg5))
    (e6 : a6 = m ((c : Thread nD τ).loc main_arg6))
    (e7 : a7 = m ((c : Thread nD τ).loc main_arg7))
    (e8 : a8 = m ((c : Thread nD τ).loc main_arg8))
    (e9 : a9 = m ((c : Thread nD τ).loc main_arg9))
    (e10 : a10 = m ((c : Thread nD τ).loc main_arg10))
    (e11 : a11 = m ((c : Thread nD τ).loc main_arg11))
    (e12 : a12 = m ((c : Thread nD τ).loc main_arg12))
    (e13 : a13 = m ((c : Thread nD τ).loc main_arg13))
    (e14 : a14 = m ((c : Thread nD τ).loc main_arg14))
    (e15 : a15 = m ((c : Thread nD τ).loc main_arg15))
    (e16 : a16 = m ((c : Thread nD τ).loc main_arg16))
    (e17 : a17 = m ((c : Thread nD τ).loc main_arg17)) :
    (Cert.Reference2Ideal.Read.val_main_v171 (F := Ideal) a0 a1 a2 a3 a4 a5 a6 a7 a8 a9 a10 a11 a12 a13 a14 a15 a16 a17 : FVec Ideal S16384x1024 .f32)
      = (Gen.dats m 0 c).arrAt 18 cfg0.N := by
  subst e0 e1 e2 e3 e4 e5 e6 e7 e8 e9 e10 e11 e12 e13 e14 e15 e16 e17
  refine Eq.trans (funext fun y => ?_) (PostState.result m c).symm
  have hy : y = ix2 (y 0) (y 1) := funext fun a => by
    match a with
    | ⟨0, _⟩ => rfl
    | ⟨1, _⟩ => rfl
  rw [hy]
  exact PostRef.reads _ _ _ _ _ _ _ _ _ _ _ _ _ _ _ _ _ _ (y 0) (y 1)

end Post
end
end
-- ==== Proof.FoxBlocks.lean ====
module
public import proofs.«01_k».proof.Proof.Gen.Kernel3Ideal.Value
public import Idealize.ShloMosaic.Lib.Pipeline.ValueKit
public import Idealize.ShloMosaic.Lib.Pointwise

/-! # The forgetting heads: one block of keys, element by element

The kernel takes its keys in blocks of 1536, 1024 and 512, and the last 512 under the causal mask.  For each of these
four the new running maximum and the new accumulator are read here at one row `r` and one lane `l`, from the queries,
keys and values of one head and from the maximum and accumulator found. -/

@[expose] public section
set_option maxRecDepth 16384
noncomputable section
open Idealize.ShloMosaic Idealize.ShloMosaic.TcCoe Idealize.SL.Sem Idealize.ShloMosaic.WordCmp
namespace Fox.Blocks
open Cert.Kernel3Ideal Cert.Kernel3Ideal.Gen

/-- Minus infinity, as the reductions start from it. -/
theorem ofBits_bot : Ideal.ofBits FTy.f32 4286578688#32 = ⊥ := by
  simp [Ideal.ofBits, Ideal.ieee]

/-- The running maximum after a block of logits `s`. -/
def newMax {W : ℕ} (μ : EReal) (s : Fin W → EReal) : EReal := max μ (Finset.univ.fold max ⊥ s)

/-- Row `r` of the queries against key `j` of a block. -/
def dots {W : ℕ} (q : FVec Ideal S512x128 .bf16) (kb : FVec Ideal (⟨2, ![W, 128]⟩ : Shape) .bf16) (r : Fin 512) (j : Fin W) :
    EReal := ∑ d : Fin 128, q (ix2 r d) * kb (ix2 j d)

/-- The lane of the running maximum which the kernel lays beside logit `j`. -/
def lane {W : ℕ} (j : Fin W) : Fin 128 := ⟨j.val % 128, Nat.mod_lt _ (by decide)⟩

/-- The logits of the masked block: key `j` is seen by the rows from `j` on. -/
def maskedDots (q : FVec Ideal S512x128 .bf16) (kb : FVec Ideal S512x128 .bf16) (r : Fin 512) (j : Fin 512) : EReal :=
  if j.val ≤ r.val then dots q kb r j else ⊥

/-- The running maximum of a row, laid beside each of 1536 logits. -/
theorem tile1536 (m : FVec Ideal S512x128 .f32) (r : Fin 512) (j : Fin 1536) :
    concatenate S512x1536 1 [⟨S512x128, m⟩, ⟨S512x128, m⟩, ⟨S512x128, m⟩, ⟨S512x128, m⟩, ⟨S512x128, m⟩, ⟨S512x128, m⟩, ⟨S512x128, m⟩, ⟨S512x128, m⟩, ⟨S512x128, m⟩, ⟨S512x128, m⟩, ⟨S512x128, m⟩, ⟨S512x128, m⟩] concatenates_S512x128_S512x128_S512x128_S512x128_S512x128_S512x128_S512x128_S512x128_S512x128_S512x128_S512x128_S512x128_S512x1536_d1 (ix2 r j) = m (ix2 r (lane j)) :=
  concatenate_replicate_apply 1 12 m concatenates_S512x128_S512x128_S512x128_S512x128_S512x128_S512x128_S512x128_S512x128_S512x128_S512x128_S512x128_S512x128_S512x1536_d1 rfl (ix2 r j) (ix2 r (lane j)) rfl
    (Fin.forall_fin_two.mpr ⟨fun _ => rfl, fun h => absurd rfl h⟩)

/-- The running maximum after a block of 1536 keys, before it is stored. -/
theorem row1536 (q : FVec Ideal S512x128 .bf16) (kb : FVec Ideal S1536x128 .bf16) (M : FVec Ideal S1x512x128 .f32)
    (r : Fin 512) (l : Fin 128) :
    k0_pay7 (F := Ideal) q kb M (ix2 r l) = newMax (M (ix3 (0 : Fin 1) r l)) (dots q kb r) := by
  unfold newMax dots
  pointwise [k0_pay7, k0_pay6, k0_pay2]
  rw [ofBits_bot]

/-- The running maximum after a block of 1536 keys. -/
theorem max1536 (q : FVec Ideal S512x128 .bf16) (kb : FVec Ideal S1536x128 .bf16) (M : FVec Ideal S1x512x128 .f32)
    (r : Fin 512) (l : Fin 128) :
    k0_pay11 (F := Ideal) (k0_pay7 q kb M) (ix3 (0 : Fin 1) r l) = newMax (M (ix3 (0 : Fin 1) r l)) (dots q kb r) := by
  rw [← row1536]
  pointwise [k0_pay11]

/-- The weights of a block of 1536 keys. -/
theorem weight1536 (q : FVec Ideal S512x128 .bf16) (kb : FVec Ideal S1536x128 .bf16) (M : FVec Ideal S1x512x128 .f32)
    (r : Fin 512) (j : Fin 1536) :
    k0_pay8 (F := Ideal) q kb M (ix2 r j)
      = Ideal.exp2 (dots q kb r j - newMax (M (ix3 (0 : Fin 1) r (lane j))) (dots q kb r)) := by
  rw [← row1536]
  refine Eq.trans (b := Ideal.exp2 (k0_pay2 (F := Ideal) q kb (ix2 r j)
    - concatenate S512x1536 1 [⟨S512x128, k0_pay7 (F := Ideal) q kb M⟩, ⟨S512x128, k0_pay7 (F := Ideal) q kb M⟩, ⟨S512x128, k0_pay7 (F := Ideal) q kb M⟩, ⟨S512x128, k0_pay7 (F := Ideal) q kb M⟩, ⟨S512x128, k0_pay7 (F := Ideal) q kb M⟩, ⟨S512x128, k0_pay7 (F := Ideal) q kb M⟩, ⟨S512x128, k0_pay7 (F := Ideal) q kb M⟩, ⟨S512x128, k0_pay7 (F := Ideal) q kb M⟩, ⟨S512x128, k0_pay7 (F := Ideal) q kb M⟩, ⟨S512x128, k0_pay7 (F := Ideal) q kb M⟩, ⟨S512x128, k0_pay7 (F := Ideal) q kb M⟩, ⟨S512x128, k0_pay7 (F := Ideal) q kb M⟩] concatenates_S512x128_S512x128_S512x128_S512x128_S512x128_S512x128_S512x128_S512x128_S512x128_S512x128_S512x128_S512x128_S512x1536_d1 (ix2 r j))) rfl ?_
  rw [tile1536]
  unfold dots
  pointwise [k0_pay2]

/-- The accumulator after a block of 1536 keys. -/
theorem acc1536 (q : FVec Ideal S512x128 .bf16) (kb vb : FVec Ideal S1536x128 .bf16) (M A : FVec Ideal S1x512x128 .f32)
    (r : Fin 512) (l : Fin 128) :
    k0_pay27 (F := Ideal) (k0_pay8 q kb M) (k0_pay10 (k0_pay9 q kb M)) A vb (ix3 (0 : Fin 1) r l)
      = Ideal.exp2 (M (ix3 (0 : Fin 1) r l) - newMax (M (ix3 (0 : Fin 1) r l)) (dots q kb r)) * A (ix3 0 r l)
        + ∑ j : Fin 1536, Ideal.exp2 (dots q kb r j - newMax (M (ix3 (0 : Fin 1) r (lane j))) (dots q kb r)) * vb (ix2 j l) := by
  simp only [← weight1536]
  simp only [← row1536]
  pointwise [k0_pay27, k0_pay10, k0_pay9, k0_pay6]
  rfl

/-- The running maximum of a row, laid beside each of 1024 logits. -/
theorem tile1024 (m : FVec Ideal S512x128 .f32) (r : Fin 512) (j : Fin 1024) :
    concatenate S512x1024 1 [⟨S512x128, m⟩, ⟨S512x128, m⟩, ⟨S512x128, m⟩, ⟨S512x128, m⟩, ⟨S512x128, m⟩, ⟨S512x128, m⟩, ⟨S512x128, m⟩, ⟨S512x128, m⟩] concatenates_S512x128_S512x128_S512x128_S512x128_S512x128_S512x128_S512x128_S512x128_S512x1024_d1 (ix2 r j) = m (ix2 r (lane j)) :=
  concatenate_replicate_apply 1 8 m concatenates_S512x128_S512x128_S512x128_S512x128_S512x128_S512x128_S512x128_S512x128_S512x1024_d1 rfl (ix2 r j) (ix2 r (lane j)) rfl
    (Fin.forall_fin_two.mpr ⟨fun _ => rfl, fun h => absurd rfl h⟩)

/-- The running maximum after a block of 1024 keys, before it is stored. -/
theorem row1024 (q : FVec Ideal S512x128 .bf16) (kb : FVec Ideal S1024x128 .bf16) (M : FVec Ideal S1x512x128 .f32)
    (r : Fin 512) (l : Fin 128) :
    k0_pay61 (F := Ideal) q kb M (ix2 r l) = newMax (M (ix3 (0 : Fin 1) r l)) (dots q kb r) := by
  unfold newMax dots
  pointwise [k0_pay61, k0_pay60, k0_pay56]
  rw [ofBits_bot]

/-- The running maximum after a block of 1024 keys. -/
theorem max1024 (q : FVec Ideal S512x128 .bf16) (kb : FVec Ideal S1024x128 .bf16) (M : FVec Ideal S1x512x128 .f32)
    (r : Fin 512) (l : Fin 128) :
    k0_pay64 (F := Ideal) (k0_pay61 q kb M) (ix3 (0 : Fin 1) r l) = newMax (M (ix3 (0 : Fin 1) r l)) (dots q kb r) := by
  rw [← row1024]
  pointwise [k0_pay64]

/-- The weights of a block of 1024 keys. -/
theorem weight1024 (q : FVec Ideal S512x128 .bf16) (kb : FVec Ideal S1024x128 .bf16) (M : FVec Ideal S1x512x128 .f32)
    (r : Fin 512) (j : Fin 1024) :
    k0_pay62 (F := Ideal) q kb M (ix2 r j)
      = Ideal.exp2 (dots q kb r j - newMax (M (ix3 (0 : Fin 1) r (lane j))) (dots q kb r)) := by
  rw [← row1024]
  refine Eq.trans (b := Ideal.exp2 (k0_pay56 (F := Ideal) q kb (ix2 r j)
    - concatenate S512x1024 1 [⟨S512x128, k0_pay61 (F := Ideal) q kb M⟩, ⟨S512x128, k0_pay61 (F := Ideal) q kb M⟩, ⟨S512x128, k0_pay61 (F := Ideal) q kb M⟩, ⟨S512x128, k0_pay61 (F := Ideal) q kb M⟩, ⟨S512x128, k0_pay61 (F := Ideal) q kb M⟩, ⟨S512x128, k0_pay61 (F := Ideal) q kb M⟩, ⟨S512x128, k0_pay61 (F := Ideal) q kb M⟩, ⟨S512x128, k0_pay61 (F := Ideal) q kb M⟩] concatenates_S512x128_S512x128_S512x128_S512x128_S512x128_S512x128_S512x128_S512x128_S512x1024_d1 (ix2 r j))) rfl ?_
  rw [tile1024]
  unfold dots
  pointwise [k0_pay56]

/-- The accumulator after a block of 1024 keys. -/
theorem acc1024 (q : FVec Ideal S512x128 .bf16) (kb vb : FVec Ideal S1024x128 .bf16) (M A : FVec Ideal S1x512x128 .f32)
    (r : Fin 512) (l : Fin 128) :
    k0_pay80 (F := Ideal) (k0_pay62 q kb M) (k0_pay63 (k0_pay60 M) (k0_pay61 q kb M)) A vb (ix3 (0 : Fin 1) r l)
      = Ideal.exp2 (M (ix3 (0 : Fin 1) r l) - newMax (M (ix3 (0 : Fin 1) r l)) (dots q kb r)) * A (ix3 0 r l)
        + ∑ j : Fin 1024, Ideal.exp2 (dots q kb r j - newMax (M (ix3 (0 : Fin 1) r (lane j))) (dots q kb r)) * vb (ix2 j l) := by
  simp only [← weight1024]
  simp only [← row1024]
  pointwise [k0_pay80, k0_pay63, k0_pay60]
  rfl

/-- The running maximum of a row, laid beside each of 512 logits. -/
theorem tile512 (m : FVec Ideal S512x128 .f32) (r : Fin 512) (j : Fin 512) :
    concatenate S512x512 1 [⟨S512x128, m⟩, ⟨S512x128, m⟩, ⟨S512x128, m⟩, ⟨S512x128, m⟩] concatenates_S512x128_S512x128_S512x128_S512x128_S512x512_d1 (ix2 r j) = m (ix2 r (lane j)) :=
  concatenate_replicate_apply 1 4 m concatenates_S512x128_S512x128_S512x128_S512x128_S512x512_d1 rfl (ix2 r j) (ix2 r (lane j)) rfl
    (Fin.forall_fin_two.mpr ⟨fun _ => rfl, fun h => absurd rfl h⟩)

/-- The running maximum after a block of 512 keys, before it is stored. -/
theorem row512 (q : FVec Ideal S512x128 .bf16) (kb : FVec Ideal S512x128 .bf16) (M : FVec Ideal S1x512x128 .f32)
    (r : Fin 512) (l : Fin 128) :
    k0_pay87 (F := Ideal) q kb M (ix2 r l) = newMax (M (ix3 (0 : Fin 1) r l)) (dots q kb r) := by
  unfold newMax dots
  pointwise [k0_pay87, k0_pay86, k0_pay82]
  rw [ofBits_bot]

/-- The running maximum after a block of 512 keys. -/
theorem max512 (q : FVec Ideal S512x128 .bf16) (kb : FVec Ideal S512x128 .bf16) (M : FVec Ideal S1x512x128 .f32)
    (r : Fin 512) (l : Fin 128) :
    k0_pay90 (F := Ideal) (k0_pay87 q kb M) (ix3 (0 : Fin 1) r l) = newMax (M (ix3 (0 : Fin 1) r l)) (dots q kb r) := by
  rw [← row512]
  pointwise [k0_pay90]

/-- The weights of a block of 512 keys. -/
theorem weight512 (q : FVec Ideal S512x128 .bf16) (kb : FVec Ideal S512x128 .bf16) (M : FVec Ideal S1x512x128 .f32)
    (r : Fin 512) (j : Fin 512) :
    k0_pay88 (F := Ideal) q kb M (ix2 r j)
      = Ideal.exp2 (dots q kb r j - newMax (M (ix3 (0 : Fin 1) r (lane j))) (dots q kb r)) := by
  rw [← row512]
  refine Eq.trans (b := Ideal.exp2 (k0_pay82 (F := Ideal) q kb (ix2 r j)
    - concatenate S512x512 1 [⟨S512x128, k0_pay87 (F := Ideal) q kb M⟩, ⟨S512x128, k0_pay87 (F := Ideal) q kb M⟩, ⟨S512x128, k0_pay87 (F := Ideal) q kb M⟩, ⟨S512x128, k0_pay87 (F := Ideal) q kb M⟩] concatenates_S512x128_S512x128_S512x128_S512x128_S512x512_d1 (ix2 r j))) rfl ?_
  rw [tile512]
  unfold dots
  pointwise [k0_pay82]

/-- The accumulator after a block of 512 keys. -/
theorem acc512 (q : FVec Ideal S512x128 .bf16) (kb vb : FVec Ideal S512x128 .bf16) (M A : FVec Ideal S1x512x128 .f32)
    (r : Fin 512) (l : Fin 128) :
    k0_pay106 (F := Ideal) (k0_pay88 q kb M) (k0_pay89 (k0_pay86 M) (k0_pay87 q kb M)) A vb (ix3 (0 : Fin 1) r l)
      = Ideal.exp2 (M (ix3 (0 : Fin 1) r l) - newMax (M (ix3 (0 : Fin 1) r l)) (dots q kb r)) * A (ix3 0 r l)
        + ∑ j : Fin 512, Ideal.exp2 (dots q kb r j - newMax (M (ix3 (0 : Fin 1) r (lane j))) (dots q kb r)) * vb (ix2 j l) := by
  simp only [← weight512]
  simp only [← row512]
  pointwise [k0_pay106, k0_pay89, k0_pay86]
  rfl

/-- The constant under the mask. -/
theorem mask_bot : Named.named (F := Ideal) (φ := FTy.f32) κ "mask" 4048155338#32 = ⊥ := rfl

/-- The column numbers of the masked block. -/
abbrev cols : IVec S512x512 32 := iota .tc S512x512 32 [1] iota_S512x512_d1_w32

/-- The logits of the block on the diagonal, under the mask. -/
theorem masked (q kb : FVec Ideal S512x128 .bf16) (r j : Fin 512) :
    k0_pay122 (F := Ideal) (k0_pay118 q kb) cols (ix2 r j) = maskedDots q kb r j := by
  unfold maskedDots dots cols
  pointwise [k0_pay122, k0_pay118]
  rw [mask_bot, show IntOp.addi (BitVec.ofNat 32 j.val) 0#32 = BitVec.ofNat 32 j.val from BitVec.add_zero _,
    cmpi_sle_ofNat (by omega) (by omega), select_ofBool]
  simp only [decide_eq_true_eq]

/-- The running maximum after the block on the diagonal, before it is stored. -/
theorem rowMasked (q kb : FVec Ideal S512x128 .bf16) (M : FVec Ideal S1x512x128 .f32) (r : Fin 512) (l : Fin 128) :
    k0_pay124 (F := Ideal) (k0_pay118 q kb) cols M (ix2 r l) = newMax (M (ix3 (0 : Fin 1) r l)) (maskedDots q kb r) := by
  unfold newMax
  rw [show maskedDots q kb r = fun j => k0_pay122 (F := Ideal) (k0_pay118 q kb) cols (ix2 r j) from
    funext fun j => (masked q kb r j).symm]
  generalize k0_pay118 (F := Ideal) q kb = x
  generalize cols = w
  pointwise [k0_pay124, k0_pay123]
  rw [ofBits_bot]

/-- The running maximum after the block on the diagonal. -/
theorem maxMasked (q kb : FVec Ideal S512x128 .bf16) (M : FVec Ideal S1x512x128 .f32) (r : Fin 512) (l : Fin 128) :
    k0_pay127 (F := Ideal) (k0_pay118 q kb) cols M (ix3 (0 : Fin 1) r l)
      = newMax (M (ix3 (0 : Fin 1) r l)) (maskedDots q kb r) := by
  rw [← rowMasked]
  pointwise [k0_pay127]

/-- The weights of the block on the diagonal. -/
theorem weightMasked (q kb : FVec Ideal S512x128 .bf16) (M : FVec Ideal S1x512x128 .f32) (r : Fin 512) (j : Fin 512) :
    k0_pay125 (F := Ideal) (k0_pay118 q kb) cols M (ix2 r j)
      = Ideal.exp2 (maskedDots q kb r j - newMax (M (ix3 (0 : Fin 1) r (lane j))) (maskedDots q kb r)) := by
  rw [← rowMasked, ← masked]
  refine Eq.trans (b := Ideal.exp2 (k0_pay122 (F := Ideal) (k0_pay118 q kb) cols (ix2 r j)
    - concatenate S512x512 1 [⟨S512x128, k0_pay124 (F := Ideal) (k0_pay118 q kb) cols M⟩, ⟨S512x128, k0_pay124 (F := Ideal) (k0_pay118 q kb) cols M⟩, ⟨S512x128, k0_pay124 (F := Ideal) (k0_pay118 q kb) cols M⟩, ⟨S512x128, k0_pay124 (F := Ideal) (k0_pay118 q kb) cols M⟩] concatenates_S512x128_S512x128_S512x128_S512x128_S512x512_d1 (ix2 r j))) rfl ?_
  rw [tile512]

/-- The accumulator after the block on the diagonal. -/
theorem accMasked (q kb vb : FVec Ideal S512x128 .bf16) (M A : FVec Ideal S1x512x128 .f32) (r : Fin 512) (l : Fin 128) :
    k0_pay146 (F := Ideal) (k0_pay125 (k0_pay118 q kb) cols M) (k0_pay126 (k0_pay118 q kb) cols M) A vb (ix3 (0 : Fin 1) r l)
      = Ideal.exp2 (M (ix3 (0 : Fin 1) r l) - newMax (M (ix3 (0 : Fin 1) r l)) (maskedDots q kb r)) * A (ix3 0 r l)
        + ∑ j : Fin 512, Ideal.exp2 (maskedDots q kb r j - newMax (M (ix3 (0 : Fin 1) r (lane j))) (maskedDots q kb r)) * vb (ix2 j l) := by
  simp only [← weightMasked]
  simp only [← rowMasked]
  generalize k0_pay118 (F := Ideal) q kb = x
  generalize cols = w
  pointwise [k0_pay146, k0_pay126, k0_pay123]
  rfl

/-- The running maximum starts at minus infinity. -/
theorem init_max (y : S4x512x128.Idx) : k0_pay108 (F := Ideal) y = ⊥ := by
  pointwise [k0_pay108]
  rfl

/-- The accumulator starts at zero. -/
theorem init_acc (y : S4x512x128.Idx) : k0_pay109 (F := Ideal) y = 0 := by
  pointwise [k0_pay109]

/-- The other half of the lanes. -/
def far (l : Fin 128) : Fin 128 := ⟨(l.val + 64) % 128, Nat.mod_lt _ (by decide)⟩

theorem far_far (l : Fin 128) : far (far l) = l := Fin.ext (by unfold far; dsimp only; omega)

/-- A rotation by half the lanes. -/
theorem roll_apply (a : FVec Ideal S512x128 .f32) (r : Fin 512) (l : Fin 128) :
    dynamicRotate 1 64#32 none a rotates_S512x128_d1 (ix2 r l) = a (ix2 r (far l)) := by
  pointwise
  exact congrArg (fun c => a (ix2 r c)) (Fin.ext (by unfold far; dsimp only; omega))

/-- What is written back for two heads: the first in the low lanes, the second in the high ones, each lane's
accumulator over the one 64 lanes on. -/
theorem quot (A A' : FVec Ideal S1x512x128 .f32) (r : Fin 512) (l : Fin 128) :
    k0_pay152 (F := Ideal) A A' (ix2 r l) = if l.val < 64 then Ideal.div (A (ix3 0 r l)) (A (ix3 0 r (far l)))
      else Ideal.div (A' (ix3 0 r (far l))) (A' (ix3 0 r l)) := by
  refine Eq.trans (b := Scalar.select (k0_pay151 (ix2 r l))
    (Ideal.div (shapeCast S512x128 A shapeCasts_S1x512x128_S512x128 (ix2 r l))
      (dynamicRotate 1 64#32 none (shapeCast S512x128 A shapeCasts_S1x512x128_S512x128) rotates_S512x128_d1 (ix2 r l)))
    (dynamicRotate 1 64#32 none (divf (shapeCast S512x128 A' shapeCasts_S1x512x128_S512x128)
      (dynamicRotate 1 64#32 none (shapeCast S512x128 A' shapeCasts_S1x512x128_S512x128) rotates_S512x128_d1))
      rotates_S512x128_d1 (ix2 r l))) rfl ?_
  rw [roll_apply, roll_apply]
  refine Eq.trans (b := Scalar.select (k0_pay151 (ix2 r l)) _ (Ideal.div
    (shapeCast S512x128 A' shapeCasts_S1x512x128_S512x128 (ix2 r (far l)))
    (dynamicRotate 1 64#32 none (shapeCast S512x128 A' shapeCasts_S1x512x128_S512x128) rotates_S512x128_d1 (ix2 r (far l))))) rfl ?_
  rw [roll_apply, far_far]
  pointwise [k0_pay151]
  rw [cmpi_slt_ofNat (a := l.val) (b := 64) (by omega) (by omega), select_ofBool]
  simp only [decide_eq_true_eq]

end Fox.Blocks
end
end
-- ==== Proof.FoxState.lean ====
module
public import proofs.«01_k».proof.Proof.Softmax
public import proofs.«01_k».proof.Proof.FoxBlocks
public import Idealize.ShloMosaic.Lib.WritesUnit
public import Idealize.ShloMosaic.Lib.VecWindow

/-! # The forgetting heads: what the scratch holds

The kernel keeps, per head and row, a running maximum and an accumulator, in two scratch buffers of shape
[4, 512, 128].  `State` says that the first `n` keys have been taken into them.  Here are the scores and values these
keys have, as functions of the operands' blocks, the step of one block, and the reads and writes of one head's plane. -/

@[expose] public section
set_option maxRecDepth 16384
noncomputable section
open Idealize.ShloMosaic Idealize.ShloMosaic.TcCoe Idealize.SL.Sem
namespace Fox
open Cert.Kernel3Ideal Cert.Kernel3Ideal.Gen Blocks Attn

/-- Column `d` of head `h`. -/
def hcol (h : Fin 4) (d : Fin 128) : Fin 512 := ⟨128 * h.val + d.val, by omega⟩

/-- The score of key `k` for row `r` of head `h`: minus infinity above the diagonal, which is at key `lim + r`. -/
def score (Q : S512x512.Idx → EReal) (K : S8192x512.Idx → EReal) (lim : ℕ) (h : Fin 4) (r : Fin 512) (k : ℕ) : EReal :=
  if hk : k < 8192 then
    if k ≤ lim + r.val then ∑ d : Fin 128, Q (ix2 r (hcol h d)) * K (ix2 ⟨k, hk⟩ (hcol h d)) else ⊥
  else ⊥

/-- The value of key `k` of head `h`, lane by lane. -/
def value (V : S8192x512.Idx → EReal) (h : Fin 4) (k : ℕ) (l : Fin 128) : EReal :=
  if hk : k < 8192 then V (ix2 ⟨k, hk⟩ (hcol h l)) else 0

/-- The first `n` keys have been taken into the running maxima `M` and the accumulators `A`. -/
def State (Q : S512x512.Idx → EReal) (K V : S8192x512.Idx → EReal) (lim n : ℕ) (M A : S4x512x128.Idx → EReal) : Prop :=
  ∀ (h : Fin 4) (r : Fin 512),
    Seen (score Q K lim h r) (value V h) n (fun l => M (ix3 h r l)) (fun l => A (ix3 h r l))

theorem isReal_dot {Q : S512x512.Idx → EReal} {K : S8192x512.Idx → EReal} (hQ : ∀ y, IsReal (Q y)) (hK : ∀ y, IsReal (K y))
    (h : Fin 4) (r : Fin 512) (k : Fin 8192) : IsReal (∑ d : Fin 128, Q (ix2 r (hcol h d)) * K (ix2 k (hcol h d))) :=
  IsReal.sum _ _ fun _ _ => (hQ _).mul (hK _)

/-- A score is minus infinity or a real. -/
theorem logit_score {Q : S512x512.Idx → EReal} {K : S8192x512.Idx → EReal} (hQ : ∀ y, IsReal (Q y)) (hK : ∀ y, IsReal (K y))
    (lim : ℕ) (h : Fin 4) (r : Fin 512) (k : ℕ) : Logit (score Q K lim h r k) := by
  unfold score
  split_ifs with h1 h2
  · exact Or.inr (isReal_dot hQ hK h r ⟨k, h1⟩)
  · exact Or.inl rfl
  · exact Or.inl rfl

/-- A score on or below the diagonal is real. -/
theorem isReal_score {Q : S512x512.Idx → EReal} {K : S8192x512.Idx → EReal} (hQ : ∀ y, IsReal (Q y)) (hK : ∀ y, IsReal (K y))
    (lim : ℕ) (h : Fin 4) (r : Fin 512) (k : ℕ) (h1 : k < 8192) (h2 : k ≤ lim + r.val) : IsReal (score Q K lim h r k) := by
  unfold score
  rw [dif_pos h1, if_pos h2]
  exact isReal_dot hQ hK h r ⟨k, h1⟩

/-- The step of one block, for one head and row: `s` are the block's logits, `vb` its values. -/
theorem seen_block {Q : S512x512.Idx → EReal} {K V : S8192x512.Idx → EReal} (hQ : ∀ y, IsReal (Q y)) (hK : ∀ y, IsReal (K y))
    {lim n : ℕ} {h : Fin 4} {r : Fin 512} {M A : Fin 128 → EReal}
    (hS : Seen (score Q K lim h r) (value V h) n M A)
    (W : ℕ) (hW : 0 < W) (h1 : n + W ≤ 8192) (h2 : n ≤ lim)
    (s : Fin W → EReal) (hs : ∀ j : Fin W, score Q K lim h r (n + j.val) = s j)
    (vb : Fin W → Fin 128 → EReal) (hv : ∀ (j : Fin W) l, V (ix2 ⟨n + j.val, by omega⟩ (hcol h l)) = vb j l)
    (M' A' : Fin 128 → EReal)
    (hM : ∀ l, M' l = newMax (M l) s)
    (hA : ∀ l, A' l = Ideal.exp2 (M l - newMax (M l) s) * A l
      + ∑ j : Fin W, Ideal.exp2 (s j - newMax (M (lane j)) s) * vb j l) :
    Seen (score Q K lim h r) (value V h) (n + W) M' A' := by
  refine hS.step W hW (fun j _ => logit_score hQ hK lim h r _)
    (isReal_score hQ hK lim h r n (by omega) (by omega)) M' A' lane (fun l => ?_) fun l => ?_
  · rw [hM l]
    simp only [hs]
    rfl
  · rw [hA l]
    simp only [hs, hM]
    congr 1
    refine Finset.sum_congr rfl fun j _ => ?_
    rw [← hv j l]
    unfold value
    rw [dif_pos (by omega)]

/-- The block's logits are the scores of its keys, below the diagonal. -/
theorem score_dots {Q : S512x512.Idx → EReal} {K : S8192x512.Idx → EReal} {lim n W : ℕ} {h : Fin 4} {r : Fin 512}
    (h1 : n + W ≤ 8192) (h2 : n + W ≤ lim + 1)
    (q : FVec Ideal S512x128 .bf16) (hq : ∀ d, q (ix2 r d) = Q (ix2 r (hcol h d)))
    (kb : FVec Ideal (⟨2, ![W, 128]⟩ : Shape) .bf16)
    (hk : ∀ (j : Fin W) d, kb (ix2 j d) = K (ix2 ⟨n + j.val, by omega⟩ (hcol h d))) (j : Fin W) :
    score Q K lim h r (n + j.val) = dots q kb r j := by
  unfold score dots
  rw [dif_pos (by omega), if_pos (by omega)]
  exact Finset.sum_congr rfl fun d _ => by rw [hq, hk]

/-- The masked block's logits are the scores of its keys, the diagonal starting at its first key. -/
theorem score_maskedDots {Q : S512x512.Idx → EReal} {K : S8192x512.Idx → EReal} {n : ℕ} {h : Fin 4} {r : Fin 512}
    (h1 : n + 512 ≤ 8192)
    (q : FVec Ideal S512x128 .bf16) (hq : ∀ d, q (ix2 r d) = Q (ix2 r (hcol h d)))
    (kb : FVec Ideal S512x128 .bf16)
    (hk : ∀ (j : Fin 512) d, kb (ix2 j d) = K (ix2 ⟨n + j.val, by omega⟩ (hcol h d))) (j : Fin 512) :
    score Q K n h r (n + j.val) = maskedDots q kb r j := by
  unfold score maskedDots dots
  rw [dif_pos (by omega)]
  by_cases hj : j.val ≤ r.val
  · rw [if_pos (by omega), if_pos hj]
    exact Finset.sum_congr rfl fun d _ => by rw [hq, hk]
  · rw [if_neg (by omega), if_neg hj]

/-- The step of one unmasked block, from the loaded planes and blocks. -/
theorem seen_dots {Q : S512x512.Idx → EReal} {K V : S8192x512.Idx → EReal} (hQ : ∀ y, IsReal (Q y)) (hK : ∀ y, IsReal (K y))
    {lim n : ℕ} {h : Fin 4} {r : Fin 512} {M₀ A₀ : Fin 128 → EReal}
    (hS : Seen (score Q K lim h r) (value V h) n M₀ A₀)
    {W : ℕ} (hW : 0 < W) (h1 : n + W ≤ 8192) (h2 : n + W ≤ lim + 1)
    (q : FVec Ideal S512x128 .bf16) (hq : ∀ d, q (ix2 r d) = Q (ix2 r (hcol h d)))
    (kb vb : FVec Ideal (⟨2, ![W, 128]⟩ : Shape) .bf16)
    (hk : ∀ (j : Fin W) d, kb (ix2 j d) = K (ix2 ⟨n + j.val, by omega⟩ (hcol h d)))
    (hv : ∀ (j : Fin W) d, vb (ix2 j d) = V (ix2 ⟨n + j.val, by omega⟩ (hcol h d)))
    (M A : FVec Ideal S1x512x128 .f32) (hM₀ : ∀ l, M (ix3 (0 : Fin 1) r l) = M₀ l) (hA₀ : ∀ l, A (ix3 (0 : Fin 1) r l) = A₀ l)
    (M' A' : Fin 128 → EReal)
    (hM : ∀ l, M' l = newMax (M (ix3 (0 : Fin 1) r l)) (dots q kb r))
    (hA : ∀ l, A' l = Ideal.exp2 (M (ix3 (0 : Fin 1) r l) - newMax (M (ix3 (0 : Fin 1) r l)) (dots q kb r)) * A (ix3 (0 : Fin 1) r l)
      + ∑ j : Fin W, Ideal.exp2 (dots q kb r j - newMax (M (ix3 (0 : Fin 1) r (lane j))) (dots q kb r)) * vb (ix2 j l)) :
    Seen (score Q K lim h r) (value V h) (n + W) M' A' := by
  simp only [hM₀, hA₀] at hM hA
  exact seen_block hQ hK hS W hW h1 (by omega) (dots q kb r) (score_dots h1 h2 q hq kb hk) (fun j l => vb (ix2 j l))
    (fun j l => (hv j l).symm) M' A' hM hA

/-- The step of the masked block, from the loaded planes and blocks. -/
theorem seen_masked {Q : S512x512.Idx → EReal} {K V : S8192x512.Idx → EReal} (hQ : ∀ y, IsReal (Q y)) (hK : ∀ y, IsReal (K y))
    {n : ℕ} {h : Fin 4} {r : Fin 512} {M₀ A₀ : Fin 128 → EReal}
    (hS : Seen (score Q K n h r) (value V h) n M₀ A₀) (h1 : n + 512 ≤ 8192)
    (q : FVec Ideal S512x128 .bf16) (hq : ∀ d, q (ix2 r d) = Q (ix2 r (hcol h d)))
    (kb vb : FVec Ideal S512x128 .bf16)
    (hk : ∀ (j : Fin 512) d, kb (ix2 j d) = K (ix2 ⟨n + j.val, by omega⟩ (hcol h d)))
    (hv : ∀ (j : Fin 512) d, vb (ix2 j d) = V (ix2 ⟨n + j.val, by omega⟩ (hcol h d)))
    (M A : FVec Ideal S1x512x128 .f32) (hM₀ : ∀ l, M (ix3 (0 : Fin 1) r l) = M₀ l) (hA₀ : ∀ l, A (ix3 (0 : Fin 1) r l) = A₀ l)
    (A' : Fin 128 → EReal)
    (hA : ∀ l, A' l = Ideal.exp2 (M (ix3 (0 : Fin 1) r l) - newMax (M (ix3 (0 : Fin 1) r l)) (maskedDots q kb r))
        * A (ix3 (0 : Fin 1) r l)
      + ∑ j : Fin 512, Ideal.exp2 (maskedDots q kb r j - newMax (M (ix3 (0 : Fin 1) r (lane j))) (maskedDots q kb r))
        * vb (ix2 j l)) :
    Seen (score Q K n h r) (value V h) (n + 512) (fun l => newMax (M₀ l) (maskedDots q kb r)) A' := by
  simp only [hM₀, hA₀] at hA
  exact seen_block hQ hK hS 512 (by decide) h1 le_rfl (maskedDots q kb r) (score_maskedDots h1 q hq kb hk)
    (fun j l => vb (ix2 j l)) (fun j l => (hv j l).symm) _ A' (fun _ => rfl) hA

section Planes

variable {sig : RefSig} {κ : Kind} {sp : Space} {Val : EltTy → Type} {e : EltTy}

/-- A head's plane, just written. -/
theorem read_head (v : View sig κ sp S4x512x128 e) (f : v.ty.Contents Val) (h : ℕ) (hh : h < 4)
    (inb : ∀ a, (![h, 0, 0] : Fin 3 → ℕ) a + (![1, 512, 128] : Fin 3 → ℕ) a ≤ S4x512x128.size a)
    (w : (Rect.unit (s := S4x512x128) ![h, 0, 0] ![1, 512, 128] inb).shape.Idx → Val e) (L : List (View.Piece Val S4x512x128 e))
    (r : Fin 512) (l : Fin 128) :
    v.read Val (v.writes Val f ((⟨Rect.unit (s := S4x512x128) ![h, 0, 0] ![1, 512, 128] inb, w⟩ : View.Piece Val S4x512x128 e) :: L))
      (ix3 (⟨h, hh⟩ : Fin 4) r l) = w (ix3 (0 : Fin 1) r l) :=
  View.read_writes_cons_unit_of_mem v f inb w L _ (ix3 (0 : Fin 1) r l) rfl (Fin.forall_fin_succ.mpr ⟨rfl, Fin.forall_fin_two.mpr
    ⟨(Nat.zero_add _).symm, (Nat.zero_add _).symm⟩⟩)

/-- A head's plane under the write of another's. -/
theorem read_other (v : View sig κ sp S4x512x128 e) (f : v.ty.Contents Val) (h : Fin 4) (h' : ℕ) (hne : h.val ≠ h')
    (inb : ∀ a, (![h', 0, 0] : Fin 3 → ℕ) a + (![1, 512, 128] : Fin 3 → ℕ) a ≤ S4x512x128.size a)
    (w : (Rect.unit (s := S4x512x128) ![h', 0, 0] ![1, 512, 128] inb).shape.Idx → Val e) (L : List (View.Piece Val S4x512x128 e))
    (r : Fin 512) (l : Fin 128) :
    v.read Val (v.writes Val f ((⟨Rect.unit (s := S4x512x128) ![h', 0, 0] ![1, 512, 128] inb, w⟩ : View.Piece Val S4x512x128 e) :: L))
      (ix3 h r l) = v.read Val (v.writes Val f L) (ix3 h r l) :=
  View.read_writes_cons_unit_of_not_mem v f inb w L _ rfl (0 : Fin 3) (by
    show h.val < h' ∨ h' + 1 ≤ h.val
    omega)

/-- A load of a head's plane. -/
theorem load_head (v : View sig κ sp S4x512x128 e) (f : v.ty.Contents Val) (h : ℕ) (hh : h < 4)
    (inb : ∀ a, (![h, 0, 0] : Fin 3 → ℕ) a + (![1, 512, 128] : Fin 3 → ℕ) a ≤ S4x512x128.size a) (r : Fin 512) (l : Fin 128) :
    v.readAt Val (Rect.unit (s := S4x512x128) ![h, 0, 0] ![1, 512, 128] inb).toLoadRect f (ix3 (0 : Fin 1) r l)
      = v.read Val f (ix3 (⟨h, hh⟩ : Fin 4) r l) :=
  congrArg (v.read Val f) (funext (Fin.forall_fin_succ.mpr ⟨Fin.ext rfl, Fin.forall_fin_two.mpr
    ⟨Fin.ext (by show 0 + 1 * r.val = r.val; omega), Fin.ext (by show 0 + 1 * l.val = l.val; omega)⟩⟩))

/-- A load of some rows of one head's columns. -/
theorem load_rows {N W : ℕ} (v : View sig κ sp (⟨2, ![N, 512]⟩ : Shape) e) (f : v.ty.Contents Val) (off : Fin 2 → ℕ) (n c : ℕ)
    (inb : ∀ a, off a + (![W, 128] : Fin 2 → ℕ) a ≤ (⟨2, ![N, 512]⟩ : Shape).size a) (hoff : off = ![n, c]) (h : Fin 4)
    (hc : c = 128 * h.val) (j : Fin W) (d : Fin 128) (hn : n + j.val < N) :
    v.readAt Val (Rect.unit (s := (⟨2, ![N, 512]⟩ : Shape)) off ![W, 128] inb).toLoadRect f (ix2 j d)
      = v.read Val f (ix2 ⟨n + j.val, hn⟩ (hcol h d)) := by
  subst hoff hc
  exact congrArg (v.read Val f) (funext (Fin.forall_fin_two.mpr
    ⟨Fin.ext (by show n + 1 * j.val = n + j.val; omega), Fin.ext (by show 128 * h.val + 1 * d.val = 128 * h.val + d.val; omega)⟩))

end Planes

end Fox
end
end
-- ==== Proof.FoxOperands.lean ====
module

public import proofs.«01_k».proof.Proof.FoxState
public import proofs.«01_k».proof.Proof.Gen.Kernel3Ideal.Value
public import proofs.«01_k».proof.Proof.Operands
public import Idealize.ShloMosaic.Lib.Claim
public import Idealize.ShloMosaic.Lib.Pipeline.ValueKit

/-! # The forgetting heads: what the host hands the call

The queries scaled to the binary unit, followed by the three parts of the running log gate and three ones; the keys,
followed by three ones and the three parts negated; the values followed by ones; each padded to 128 lanes and read at a
row `8192 * b + s`, a head and a lane. -/

@[expose] public section
set_option maxRecDepth 16384
noncomputable section
open Idealize.ShloMosaic Idealize.ShloMosaic.TcCoe Idealize.SL.Sem
namespace Fox
open Cert.Kernel3Ideal Cert.Kernel3Ideal.Gen Blocks
open Attn (IsReal coe_sum sitofp_zero log_two)
variable (m : (ℓ : Loc nD τ sig) → Buf (Elt Ideal) ℓ)

/-- The running log gate in the binary unit. -/
def gate (g : FVec Ideal S2x4x8192 .f32) : FVec Ideal S2x8192x4 .f32 :=
  Host.divf (transpose S2x8192x4 [0, 2, 1] g transposes_S2x4x8192_S2x8192x4_0_2_1)
    (broadcastInDim S2x8192x4 ![] bcast_S_S2x8192x4 (Host.log (constant S_ FTy.f32 1073741824#32)))

/-- A number rounded to the short format and taken back. -/
def rounded (x : FVec Ideal S2x8192x4 .f32) : FVec Ideal S2x8192x4 .f32 :=
  extf .f32 (truncf .bf16 x bitsLt_bf16_f32) bitsLt_bf16_f32

/-- What one rounding leaves over. -/
def rest (x : FVec Ideal S2x8192x4 .f32) : FVec Ideal S2x8192x4 .f32 := subf x (rounded x)

/-- The gate's three parts side by side. -/
def parts (g : FVec Ideal S2x4x8192 .f32) : FVec Ideal S2x8192x4x3 .f32 :=
  concatenate S2x8192x4x3 3
    [⟨S2x8192x4x1, broadcastInDim S2x8192x4x1 ![0, 1, 2] bcast_S2x8192x4_S2x8192x4x1_0_1_2 (rounded (gate g))⟩,
     ⟨S2x8192x4x1, broadcastInDim S2x8192x4x1 ![0, 1, 2] bcast_S2x8192x4_S2x8192x4x1_0_1_2 (rounded (rest (gate g)))⟩,
     ⟨S2x8192x4x1, broadcastInDim S2x8192x4x1 ![0, 1, 2] bcast_S2x8192x4_S2x8192x4x1_0_1_2 (rounded (rest (rest (gate g))))⟩]
    concatenates_S2x8192x4x1_S2x8192x4x1_S2x8192x4x1_S2x8192x4x3_d3

/-- Three ones. -/
def ones : FVec Ideal S2x8192x4x3 .f32 := broadcastInDim S2x8192x4x3 ![] bcast_S_S2x8192x4x3 (constant S_ FTy.f32 1065353216#32)

/-- Heads of 64 lanes, then two groups of three, padded with zero lanes and laid out as the call's matrix. -/
def laid (x : FVec Ideal S2x8192x4x64 .f32) (y z : FVec Ideal S2x8192x4x3 .f32) : FVec Ideal S16384x512 .bf16 :=
  truncf .bf16 (shapeCast S16384x512
    (pad S2x8192x4x128 ![0, 0, 0, 0] ![0, 0, 0, 58] ![0, 0, 0, 0]
      (concatenate S2x8192x4x70 3 [⟨S2x8192x4x64, x⟩, ⟨S2x8192x4x3, y⟩, ⟨S2x8192x4x3, z⟩]
        concatenates_S2x8192x4x64_S2x8192x4x3_S2x8192x4x3_S2x8192x4x70_d3)
      (constant S_ FTy.f32 0#32) pads_S2x8192x4x70_S2x8192x4x128_000_000_000_0580 h_S_)
    shapeCasts_S2x8192x4x128_S16384x512) bitsLt_bf16_f32

/-- The queries' matrix, from the queries and the running log gate. -/
def hostQ (q : FVec Ideal S2x8192x4x64 .f32) (g : FVec Ideal S2x4x8192 .f32) : FVec Ideal S16384x512 .bf16 :=
  laid (Host.divf (mulf q (broadcastInDim S2x8192x4x64 ![] bcast_S_S2x8192x4x64 (constant S_ FTy.f32 1040187392#32)))
      (broadcastInDim S2x8192x4x64 ![] bcast_S_S2x8192x4x64 (Host.log (constant S_ FTy.f32 1073741824#32))))
    (parts g) ones

/-- The keys' matrix, from the keys and the running log gate. -/
def hostK (k : FVec Ideal S2x8192x4x64 .f32) (g : FVec Ideal S2x4x8192 .f32) : FVec Ideal S16384x512 .bf16 :=
  laid k ones (Host.negf (parts g))

/-- The values' matrix, from the values. -/
def hostV (v : FVec Ideal S2x8192x4x64 .f32) : FVec Ideal S16384x512 .bf16 :=
  truncf .bf16 (shapeCast S16384x512
    (pad S2x8192x4x128 ![0, 0, 0, 0] ![0, 0, 0, 64] ![0, 0, 0, 0] v
      (constant S_ FTy.f32 1065353216#32)
      pads_S2x8192x4x64_S2x8192x4x128_000_000_000_0640 h_S_)
    shapeCasts_S2x8192x4x128_S16384x512) bitsLt_bf16_f32

theorem entryQ (c : Dev nD) :
    V m c main_v24 = hostQ (m ((c : Thread nD τ).loc main_arg0)) (m ((c : Thread nD τ).loc main_arg3)) := by
  unfold V
  simp only [hostOps0, hostOps0_1, hostOps0_2, hostOps0_3, hostOps0_4, hostOps0_5, hostOps0_6, List.flatten_cons, List.flatten_nil, List.append_nil, List.cons_append,
      List.nil_append]
  after_results
  rfl

theorem entryK (c : Dev nD) :
    V m c main_v29 = hostK (m ((c : Thread nD τ).loc main_arg1)) (m ((c : Thread nD τ).loc main_arg3)) := by
  unfold V
  simp only [hostOps0, hostOps0_1, hostOps0_2, hostOps0_3, hostOps0_4, hostOps0_5, hostOps0_6, List.flatten_cons, List.flatten_nil, List.append_nil, List.cons_append,
      List.nil_append]
  after_results
  rfl

theorem entryV (c : Dev nD) : V m c main_v32 = hostV (m ((c : Thread nD τ).loc main_arg2)) := by
  unfold V
  simp only [hostOps0, hostOps0_1, hostOps0_2, hostOps0_3, hostOps0_4, hostOps0_5, hostOps0_6, List.flatten_cons, List.flatten_nil, List.append_nil, List.cons_append,
      List.nil_append]
  after_results
  rfl

/-- Row `s` of batch `b` in the matrices. -/
def mrow (b : Fin 2) (s : Fin 8192) : Fin 16384 := ⟨8192 * b.val + s.val, by omega⟩

theorem scale_real : IsReal (Ideal.ofBits FTy.f32 1040187392#32) := by
  simp [Ideal.ofBits, Ideal.ieee]
  exact IsReal.mul ⟨8388608, rfl⟩ ⟨_, rfl⟩

/-- The parts of a number `x` when nothing is lost by a rounding. -/
def piece (x : EReal) (e : ℕ) : EReal := if e = 0 then x else if e = 1 then x - x else x - x - (x - x)

theorem piece_real (x : ℝ) (e : ℕ) : piece x e = ((if e = 0 then x else 0 : ℝ) : EReal) := by
  unfold piece
  rw [← EReal.coe_sub, ← EReal.coe_sub, sub_self, sub_self]
  split
  · rfl
  · split <;> rfl

theorem gate_apply (g : FVec Ideal S2x4x8192 .f32) (b : Fin 2) (s : Fin 8192) (h : Fin 4) :
    gate g (ix3 b s h) = Ideal.div (g (ix3 b h s)) ((Real.log 2 : ℝ) : EReal) := by
  pointwise [gate]
  rw [log_two]

theorem parts_apply (g : FVec Ideal S2x4x8192 .f32) (b : Fin 2) (s : Fin 8192) (h : Fin 4) (e : Fin 3) :
    parts g (ix4 b s h e) = piece (Ideal.div (g (ix3 b h s)) ((Real.log 2 : ℝ) : EReal)) e.val := by
  rw [← gate_apply]
  unfold parts
  generalize gate g = G
  pointwise [rounded, rest]
  unfold piece
  fin_cases e <;> rfl

theorem laid_apply (x : FVec Ideal S2x8192x4x64 .f32) (y z : FVec Ideal S2x8192x4x3 .f32) (b : Fin 2) (s : Fin 8192) (h : Fin 4) (d : Fin 128) :
    laid x y z (ix2 (mrow b s) (hcol h d)) = if hd : d.val < 64 then x (ix4 b s h ⟨d.val, hd⟩)
      else if hd : d.val < 67 then y (ix4 b s h ⟨d.val - 64, by omega⟩)
      else if hd : d.val < 70 then z (ix4 b s h ⟨d.val - 67, by omega⟩) else (0 : EReal) := by
  pointwise [laid]
  have h1 : (mrow b s).val / 8192 = b.val := by show (8192 * b.val + s.val) / 8192 = _; omega
  have h2 : (mrow b s).val % 8192 = s.val := by show (8192 * b.val + s.val) % 8192 = _; omega
  have h3 : (hcol h d).val / 128 = h.val := by show (128 * h.val + d.val) / 128 = _; omega
  have h4 : (hcol h d).val % 128 = d.val := by show (128 * h.val + d.val) % 128 = _; omega
  simp only [h1, h2, h3, h4, Fin.eta]
  by_cases h64 : d.val < 64
  · refine Eq.trans ?_ (dif_pos h64).symm
    exact (dif_pos ⟨b.isLt, s.isLt, h.isLt, show d.val < 70 by omega⟩).trans (dif_pos h64)
  · refine Eq.trans ?_ (dif_neg h64).symm
    by_cases h67 : d.val < 67
    · refine Eq.trans ?_ (dif_pos h67).symm
      exact (dif_pos ⟨b.isLt, s.isLt, h.isLt, show d.val < 70 by omega⟩).trans
        ((dif_neg h64).trans (dif_pos (show d.val - 64 < 3 by omega)))
    · refine Eq.trans ?_ (dif_neg h67).symm
      by_cases h70 : d.val < 70
      · refine Eq.trans ?_ (dif_pos h70).symm
        refine (dif_pos ⟨b.isLt, s.isLt, h.isLt, h70⟩).trans ((dif_neg h64).trans ((dif_neg (show ¬ d.val - 64 < 3 by omega)).trans ?_))
        exact congrArg (fun e : Fin 3 => (z (ix4 b s h e) : EReal)) (Fin.ext (show d.val - 64 - 3 = d.val - 67 by omega))
      · refine Eq.trans ?_ (dif_neg h70).symm
        exact dif_neg (fun e => h70 e.2.2.2)

theorem ones_apply (i : S2x8192x4x3.Idx) : ones i = (1 : EReal) := by
  idx_vars i
  pointwise [ones]

theorem scaled_apply (q : FVec Ideal S2x8192x4x64 .f32) (b : Fin 2) (s : Fin 8192) (h : Fin 4) (d : Fin 64) :
    (Host.divf (mulf q (broadcastInDim S2x8192x4x64 ![] bcast_S_S2x8192x4x64 (constant S_ FTy.f32 1040187392#32)))
      (broadcastInDim S2x8192x4x64 ![] bcast_S_S2x8192x4x64 (Host.log (constant S_ FTy.f32 1073741824#32)))) (ix4 b s h d)
      = Ideal.div (q (ix4 b s h d) * Ideal.ofBits FTy.f32 1040187392#32) ((Real.log 2 : ℝ) : EReal) := by
  pointwise
  rw [log_two]

theorem hostQ_apply (q : FVec Ideal S2x8192x4x64 .f32) (g : FVec Ideal S2x4x8192 .f32) (b : Fin 2) (s : Fin 8192) (h : Fin 4) (d : Fin 128) :
    hostQ q g (ix2 (mrow b s) (hcol h d)) = if hd : d.val < 64 then
        Ideal.div (q (ix4 b s h ⟨d.val, hd⟩) * Ideal.ofBits FTy.f32 1040187392#32) ((Real.log 2 : ℝ) : EReal)
      else if d.val < 67 then piece (Ideal.div (g (ix3 b h s)) ((Real.log 2 : ℝ) : EReal)) (d.val - 64)
      else if d.val < 70 then 1 else (0 : EReal) := by
  unfold hostQ
  rw [laid_apply]
  by_cases h64 : d.val < 64
  · rw [dif_pos h64, dif_pos h64, scaled_apply]
  · rw [dif_neg h64, dif_neg h64]
    by_cases h67 : d.val < 67
    · rw [dif_pos h67, if_pos h67, parts_apply]
    · rw [dif_neg h67, if_neg h67]
      by_cases h70 : d.val < 70
      · rw [dif_pos h70, if_pos h70, ones_apply]
      · rw [dif_neg h70, if_neg h70]

theorem hostK_apply (k : FVec Ideal S2x8192x4x64 .f32) (g : FVec Ideal S2x4x8192 .f32) (b : Fin 2) (s : Fin 8192) (h : Fin 4) (d : Fin 128) :
    hostK k g (ix2 (mrow b s) (hcol h d)) = if hd : d.val < 64 then k (ix4 b s h ⟨d.val, hd⟩)
      else if d.val < 67 then 1
      else if d.val < 70 then -piece (Ideal.div (g (ix3 b h s)) ((Real.log 2 : ℝ) : EReal)) (d.val - 67) else (0 : EReal) := by
  unfold hostK
  rw [laid_apply]
  by_cases h64 : d.val < 64
  · rw [dif_pos h64, dif_pos h64]
  · rw [dif_neg h64, dif_neg h64]
    by_cases h67 : d.val < 67
    · rw [dif_pos h67, if_pos h67, ones_apply]
    · rw [dif_neg h67, if_neg h67]
      by_cases h70 : d.val < 70
      · rw [dif_pos h70, if_pos h70]
        show -(parts g (ix4 b s h _) : EReal) = _
        rw [parts_apply]
      · rw [dif_neg h70, if_neg h70]

theorem hostV_apply (v : FVec Ideal S2x8192x4x64 .f32) (b : Fin 2) (s : Fin 8192) (h : Fin 4) (d : Fin 128) :
    hostV v (ix2 (mrow b s) (hcol h d)) = if hd : d.val < 64 then v (ix4 b s h ⟨d.val, hd⟩) else (1 : EReal) := by
  pointwise [hostV]
  have h1 : (mrow b s).val / 8192 = b.val := by show (8192 * b.val + s.val) / 8192 = _; omega
  have h2 : (mrow b s).val % 8192 = s.val := by show (8192 * b.val + s.val) % 8192 = _; omega
  have h3 : (hcol h d).val / 128 = h.val := by show (128 * h.val + d.val) / 128 = _; omega
  have h4 : (hcol h d).val % 128 = d.val := by show (128 * h.val + d.val) % 128 = _; omega
  simp only [h1, h2, h3, h4, Fin.eta]
  by_cases hd : d.val < 64
  · rw [dif_pos ⟨b.isLt, s.isLt, h.isLt, hd⟩, dif_pos hd]
  · rw [dif_neg (fun e => hd e.2.2.2), dif_neg hd]

theorem hostQ_real (q : FVec Ideal S2x8192x4x64 .f32) (g : FVec Ideal S2x4x8192 .f32) (b : Fin 2) (s : Fin 8192) (h : Fin 4) (d : Fin 128)
    {q' : S2x8192x4x64.Idx → ℝ} {g' : S2x4x8192.Idx → ℝ} {c : ℝ} (hq : ∀ i, q i = (q' i : EReal)) (hg : ∀ i, g i = (g' i : EReal))
    (hc : Ideal.ofBits FTy.f32 1040187392#32 = (c : EReal)) :
    hostQ q g (ix2 (mrow b s) (hcol h d)) = ((if hd : d.val < 64 then q' (ix4 b s h ⟨d.val, hd⟩) * c * (1 / Real.log 2)
      else if d.val = 64 then g' (ix3 b h s) * (1 / Real.log 2) else if d.val < 67 then 0 else if d.val < 70 then 1 else 0 : ℝ) : EReal) := by
  have hl : Real.log 2 ≠ 0 := (Real.log_pos one_lt_two).ne'
  rw [hostQ_apply, hc, Ideal.div_coe hl, hg, ← EReal.coe_mul, piece_real]
  by_cases h64 : d.val < 64
  · rw [dif_pos h64, dif_pos h64, Ideal.div_coe hl, hq, ← EReal.coe_mul, ← EReal.coe_mul]
  · rw [dif_neg h64, dif_neg h64]
    by_cases h0 : d.val = 64
    · rw [if_pos (show d.val < 67 by omega), if_pos (show d.val - 64 = 0 by omega), if_pos h0]
    · rw [if_neg (show ¬ d.val - 64 = 0 by omega), if_neg h0]
      split
      · rfl
      · split <;> rfl

theorem hostK_real (k : FVec Ideal S2x8192x4x64 .f32) (g : FVec Ideal S2x4x8192 .f32) (b : Fin 2) (s : Fin 8192) (h : Fin 4) (d : Fin 128)
    {k' : S2x8192x4x64.Idx → ℝ} {g' : S2x4x8192.Idx → ℝ} (hk : ∀ i, k i = (k' i : EReal)) (hg : ∀ i, g i = (g' i : EReal)) :
    hostK k g (ix2 (mrow b s) (hcol h d)) = ((if hd : d.val < 64 then k' (ix4 b s h ⟨d.val, hd⟩)
      else if d.val < 67 then 1 else if d.val = 67 then -(g' (ix3 b h s) * (1 / Real.log 2)) else 0 : ℝ) : EReal) := by
  have hl : Real.log 2 ≠ 0 := (Real.log_pos one_lt_two).ne'
  rw [hostK_apply, Ideal.div_coe hl, hg, ← EReal.coe_mul, piece_real]
  by_cases h64 : d.val < 64
  · rw [dif_pos h64, dif_pos h64, hk]
  · rw [dif_neg h64, dif_neg h64]
    by_cases h67 : d.val < 67
    · rw [if_pos h67, if_pos h67]; rfl
    · rw [if_neg h67, if_neg h67]
      by_cases h0 : d.val = 67
      · rw [if_pos (show d.val < 70 by omega), if_pos (show d.val - 67 = 0 by omega), if_pos h0, ← EReal.coe_neg]
      · rw [if_neg (show ¬ d.val - 67 = 0 by omega), if_neg h0, ← EReal.coe_neg, neg_zero]
        split <;> rfl

/-- A query's and a key's padded product, in the binary unit, against the logit with its gates in the natural unit. -/
theorem dot_logit (q k : FVec Ideal S2x8192x4x64 .f32) (g : FVec Ideal S2x4x8192 .f32) (hq : ∀ i, IsReal (q i)) (hk : ∀ i, IsReal (k i))
    (hg : ∀ i, IsReal (g i)) (b : Fin 2) (s j : Fin 8192) (h : Fin 4) :
    ∃ r : ℝ, ∑ d : Fin 128, (hostQ q g (ix2 (mrow b s) (hcol h d)) : EReal) * hostK k g (ix2 (mrow b j) (hcol h d)) = (r : EReal) ∧
      (∑ d : Fin 64, (q (ix4 b s h d) : EReal) * k (ix4 b j h d)) * Ideal.ofBits FTy.f32 1040187392#32
        + g (ix3 b h s) - g (ix3 b h j) = ((r * Real.log 2 : ℝ) : EReal) := by
  choose q' hq' using hq
  choose k' hk' using hk
  choose g' hg' using hg
  obtain ⟨c, hc⟩ := scale_real
  have hl : Real.log 2 ≠ 0 := (Real.log_pos one_lt_two).ne'
  refine ⟨(∑ d : Fin 64, q' (ix4 b s h d) * c * (1 / Real.log 2) * k' (ix4 b j h d))
    + (g' (ix3 b h s) * (1 / Real.log 2) - g' (ix3 b h j) * (1 / Real.log 2)), ?_, ?_⟩
  · simp only [hostQ_real q g b s h _ hq' hg' hc, hostK_real k g b j h _ hk' hg', ← EReal.coe_mul]
    rw [← coe_sum]
    congr 1
    refine (Fin.sum_univ_add (a := 64) (b := 64) _).trans ?_
    congr 1
    refine (Fin.sum_univ_add (a := 6) (b := 58) _).trans ?_
    rw [Finset.sum_eq_zero (s := Finset.univ (α := Fin 58)), add_zero, Fin.sum_univ_six]
    · simp
      ring
    · intro d _
      have e : (Fin.natAdd 64 (Fin.natAdd 6 d) : Fin 128).val = 64 + (6 + d.val) := rfl
      rw [dif_neg (by omega), if_neg (by omega), if_neg (by omega), if_neg (by omega), zero_mul]
  · simp only [hq', hk', hg', hc, ← EReal.coe_mul]
    rw [← coe_sum, ← EReal.coe_mul, ← EReal.coe_add, ← EReal.coe_sub]
    congr 1
    rw [add_mul, Finset.sum_mul, Finset.sum_mul, add_sub_assoc]
    congr 1
    · refine Finset.sum_congr rfl fun d _ => ?_
      field_simp
    · field_simp

/-- Every position of a matrix is a row of a batch and a lane of a head. -/
theorem pos_eq (y : S16384x512.Idx) : ∃ b s h d, y = ix2 (mrow b s) (hcol h d) := by
  idx_vars y
  refine ⟨⟨y0.val / 8192, by omega⟩, ⟨y0.val % 8192, by omega⟩, ⟨y1.val / 128, by omega⟩, ⟨y1.val % 128, by omega⟩, ?_⟩
  congr 1
  · exact Fin.ext (show y0.val = 8192 * (y0.val / 8192) + y0.val % 8192 by omega)
  · exact Fin.ext (show y1.val = 128 * (y1.val / 128) + y1.val % 128 by omega)

theorem isReal_hostQ (q : FVec Ideal S2x8192x4x64 .f32) (g : FVec Ideal S2x4x8192 .f32) (hq : ∀ i, IsReal (q i)) (hg : ∀ i, IsReal (g i))
    (y : S16384x512.Idx) : IsReal (hostQ q g y) := by
  choose q' hq' using hq
  choose g' hg' using hg
  obtain ⟨c, hc⟩ := scale_real
  obtain ⟨b, s, h, d, rfl⟩ := pos_eq y
  exact ⟨_, hostQ_real q g b s h d hq' hg' hc⟩

theorem isReal_hostK (k : FVec Ideal S2x8192x4x64 .f32) (g : FVec Ideal S2x4x8192 .f32) (hk : ∀ i, IsReal (k i)) (hg : ∀ i, IsReal (g i))
    (y : S16384x512.Idx) : IsReal (hostK k g y) := by
  choose k' hk' using hk
  choose g' hg' using hg
  obtain ⟨b, s, h, d, rfl⟩ := pos_eq y
  exact ⟨_, hostK_real k g b s h d hk' hg'⟩

end Fox
end
end
-- ==== Proof.FoxTrip.lean ====
module
public import proofs.«01_k».proof.Proof.FoxState

/-! # The forgetting heads: the loop over blocks of 1536 keys

One trip takes the next 1536 keys into the state; the loop takes all the whole blocks of 1536 keys before the
diagonal block. -/

@[expose] public section
set_option maxRecDepth 16384
noncomputable section
open Idealize.ShloMosaic Idealize.ShloMosaic.TcCoe Idealize.SL.Sem
namespace Fox
open Cert.Kernel3Ideal Cert.Kernel3Ideal.Gen Blocks Attn

/-- The rows a trip loads. -/
theorem trip_rows (i : grid0.Coords) (k : Fin (k0_t1_loop i).trips) (hk : k.val < 6) :
    k0_off1 i k = ![1536 * k.val, 0] ∧ k0_off2 i k = ![1536 * k.val, 128] ∧ k0_off3 i k = ![1536 * k.val, 256]
      ∧ k0_off4 i k = ![1536 * k.val, 384] := by
  have h : ∀ a : Fin 6, (Scalar.indexCast (Scalar.muli (Scf.iv 0#32 1#32 a.val) 1536#32)).toNat = 1536 * a.val := by decide
  have h' := h ⟨k.val, hk⟩
  exact ⟨congrArg (fun n => ![n, 0]) h', congrArg (fun n => ![n, 128]) h', congrArg (fun n => ![n, 256]) h',
    congrArg (fun n => ![n, 384]) h'⟩

/-- One trip. -/
theorem trip_state (c : Dev nD) (i : grid0.Coords) (arg2 : Memref sig .tc .vmem S512x512 .bf16) (harg2 : arg2.IsWhole)
    (arg3 : Memref sig .tc .vmem S8192x512 .bf16) (harg3 : arg3.IsWhole) (arg4 : Memref sig .tc .vmem S8192x512 .bf16) (harg4 : arg4.IsWhole)
    (arg5 : Memref sig .tc .vmem S512x256 .f32) (harg5 : arg5.IsWhole) (arg6 : Memref sig .tc .vmem S4x512x128 .f32) (harg6 : arg6.IsWhole)
    (arg7 : Memref sig .tc .vmem S4x512x128 .f32) (harg7 : arg7.IsWhole)
    (X2 : BufTy.Contents (Elt Ideal) arg2.view.ty) (X3 : BufTy.Contents (Elt Ideal) arg3.view.ty)
    (X4 : BufTy.Contents (Elt Ideal) arg4.view.ty) (hQ : ∀ y, IsReal (arg2.view.read (Elt Ideal) X2 y))
    (hK : ∀ y, IsReal (arg3.view.read (Elt Ideal) X3 y)) (lim : ℕ) (hlim : lim + 512 ≤ 8192)
    (k : Fin (k0_t1_loop i).trips) (hk : 1536 * k.val + 1536 ≤ lim)
    (f6 : BufTy.Contents (Elt Ideal) arg6.view.ty) (f7 : BufTy.Contents (Elt Ideal) arg7.view.ty)
    (hS : State (arg2.view.read (Elt Ideal) X2) (arg3.view.read (Elt Ideal) X3) (arg4.view.read (Elt Ideal) X4) lim (1536 * k.val)
      (arg6.view.read (Elt Ideal) f6) (arg7.view.read (Elt Ideal) f7)) :
    State (arg2.view.read (Elt Ideal) X2) (arg3.view.read (Elt Ideal) X3) (arg4.view.read (Elt Ideal) X4) lim (1536 * k.val + 1536)
      (arg6.view.read (Elt Ideal) (arg6.view.writes (Elt Ideal) f6
        (tripL_k0_t1 (F := Ideal) Variants.none c none i arg2 harg2 arg3 harg3 arg4 harg4 arg5 harg5 arg6 harg6 arg7 harg7 X2 X3 X4 k f6 f7).1))
      (arg7.view.read (Elt Ideal) (arg7.view.writes (Elt Ideal) f7
        (tripL_k0_t1 (F := Ideal) Variants.none c none i arg2 harg2 arg3 harg3 arg4 harg4 arg5 harg5 arg6 harg6 arg7 harg7 X2 X3 X4 k f6 f7).2)) := by
  obtain ⟨o1, o2, o3, o4⟩ := trip_rows i k (by omega)
  unfold tripL_k0_t1 trip_k0_t1
  dsimp only
  intro h r
  rcases h with ⟨_ | _ | _ | _ | h, hh⟩
  · refine seen_dots hQ hK (hS 0 r) (W := 1536) (by decide) (by omega) (by omega)
      (arg2.view.readAt (Elt Ideal) (Rect.unit (s := S512x512) ![0, 0] S512x128.size inb_S512x512_S512x128_0_0).toLoadRect X2)
      (fun d => (load_rows _ _ _ 0 0 _ rfl 0 rfl r d (by omega)).trans (by simp only [Nat.zero_add]))
      (arg3.view.readAt (Elt Ideal) (Rect.unit (s := S8192x512) (k0_off1 i k) S1536x128.size (k0_off1_inb i k)).toLoadRect X3)
      (arg4.view.readAt (Elt Ideal) (Rect.unit (s := S8192x512) (k0_off1 i k) S1536x128.size (k0_off1_inb i k)).toLoadRect X4)
      (fun j d => load_rows _ _ _ _ _ _ o1 0 rfl j d (by omega))
      (fun j d => load_rows _ _ _ _ _ _ o1 0 rfl j d (by omega))
      (arg6.view.readAt (Elt Ideal) (Rect.unit (s := S4x512x128) ![0, 0, 0] S1x512x128.size inb_S4x512x128_S1x512x128_0_0_0).toLoadRect f6)
      (arg7.view.readAt (Elt Ideal) (Rect.unit (s := S4x512x128) ![0, 0, 0] S1x512x128.size inb_S4x512x128_S1x512x128_0_0_0).toLoadRect f7)
      (fun l => load_head _ _ 0 (by decide) _ r l) (fun l => load_head _ _ 0 (by decide) _ r l) _ _
      (fun l => (read_other _ _ 0 3 (by decide) _ _ _ r l).trans <| (read_other _ _ 0 2 (by decide) _ _ _ r l).trans <| (read_other _ _ 0 1 (by decide) _ _ _ r l).trans <| (read_head _ _ 0 (by decide) _ _ _ r l).trans <|  max1536 _ _ _ r l)
      fun l => (read_other _ _ 0 3 (by decide) _ _ _ r l).trans <| (read_other _ _ 0 2 (by decide) _ _ _ r l).trans <| (read_other _ _ 0 1 (by decide) _ _ _ r l).trans <| (read_head _ _ 0 (by decide) _ _ _ r l).trans <|  acc1536 _ _ _ _ _ r l

  · refine seen_dots hQ hK (hS 1 r) (W := 1536) (by decide) (by omega) (by omega)
      (arg2.view.readAt (Elt Ideal) (Rect.unit (s := S512x512) ![0, 128] S512x128.size inb_S512x512_S512x128_0_128).toLoadRect X2)
      (fun d => (load_rows _ _ _ 0 128 _ rfl 1 rfl r d (by omega)).trans (by simp only [Nat.zero_add]))
      (arg3.view.readAt (Elt Ideal) (Rect.unit (s := S8192x512) (k0_off2 i k) S1536x128.size (k0_off2_inb i k)).toLoadRect X3)
      (arg4.view.readAt (Elt Ideal) (Rect.unit (s := S8192x512) (k0_off2 i k) S1536x128.size (k0_off2_inb i k)).toLoadRect X4)
      (fun j d => load_rows _ _ _ _ _ _ o2 1 rfl j d (by omega))
      (fun j d => load_rows _ _ _ _ _ _ o2 1 rfl j d (by omega))
      (arg6.view.readAt (Elt Ideal) (Rect.unit (s := S4x512x128) ![1, 0, 0] S1x512x128.size inb_S4x512x128_S1x512x128_1_0_0).toLoadRect f6)
      (arg7.view.readAt (Elt Ideal) (Rect.unit (s := S4x512x128) ![1, 0, 0] S1x512x128.size inb_S4x512x128_S1x512x128_1_0_0).toLoadRect f7)
      (fun l => load_head _ _ 1 (by decide) _ r l) (fun l => load_head _ _ 1 (by decide) _ r l) _ _
      (fun l => (read_other _ _ 1 3 (by decide) _ _ _ r l).trans <| (read_other _ _ 1 2 (by decide) _ _ _ r l).trans <| (read_head _ _ 1 (by decide) _ _ _ r l).trans <|  max1536 _ _ _ r l)
      fun l => (read_other _ _ 1 3 (by decide) _ _ _ r l).trans <| (read_other _ _ 1 2 (by decide) _ _ _ r l).trans <| (read_head _ _ 1 (by decide) _ _ _ r l).trans <|  acc1536 _ _ _ _ _ r l

  · refine seen_dots hQ hK (hS 2 r) (W := 1536) (by decide) (by omega) (by omega)
      (arg2.view.readAt (Elt Ideal) (Rect.unit (s := S512x512) ![0, 256] S512x128.size inb_S512x512_S512x128_0_256).toLoadRect X2)
      (fun d => (load_rows _ _ _ 0 256 _ rfl 2 rfl r d (by omega)).trans (by simp only [Nat.zero_add]))
      (arg3.view.readAt (Elt Ideal) (Rect.unit (s := S8192x512) (k0_off3 i k) S1536x128.size (k0_off3_inb i k)).toLoadRect X3)
      (arg4.view.readAt (Elt Ideal) (Rect.unit (s := S8192x512) (k0_off3 i k) S1536x128.size (k0_off3_inb i k)).toLoadRect X4)
      (fun j d => load_rows _ _ _ _ _ _ o3 2 rfl j d (by omega))
      (fun j d => load_rows _ _ _ _ _ _ o3 2 rfl j d (by omega))
      (arg6.view.readAt (Elt Ideal) (Rect.unit (s := S4x512x128) ![2, 0, 0] S1x512x128.size inb_S4x512x128_S1x512x128_2_0_0).toLoadRect f6)
      (arg7.view.readAt (Elt Ideal) (Rect.unit (s := S4x512x128) ![2, 0, 0] S1x512x128.size inb_S4x512x128_S1x512x128_2_0_0).toLoadRect f7)
      (fun l => load_head _ _ 2 (by decide) _ r l) (fun l => load_head _ _ 2 (by decide) _ r l) _ _
      (fun l => (read_other _ _ 2 3 (by decide) _ _ _ r l).trans <| (read_head _ _ 2 (by decide) _ _ _ r l).trans <|  max1536 _ _ _ r l)
      fun l => (read_other _ _ 2 3 (by decide) _ _ _ r l).trans <| (read_head _ _ 2 (by decide) _ _ _ r l).trans <|  acc1536 _ _ _ _ _ r l

  · refine seen_dots hQ hK (hS 3 r) (W := 1536) (by decide) (by omega) (by omega)
      (arg2.view.readAt (Elt Ideal) (Rect.unit (s := S512x512) ![0, 384] S512x128.size inb_S512x512_S512x128_0_384).toLoadRect X2)
      (fun d => (load_rows _ _ _ 0 384 _ rfl 3 rfl r d (by omega)).trans (by simp only [Nat.zero_add]))
      (arg3.view.readAt (Elt Ideal) (Rect.unit (s := S8192x512) (k0_off4 i k) S1536x128.size (k0_off4_inb i k)).toLoadRect X3)
      (arg4.view.readAt (Elt Ideal) (Rect.unit (s := S8192x512) (k0_off4 i k) S1536x128.size (k0_off4_inb i k)).toLoadRect X4)
      (fun j d => load_rows _ _ _ _ _ _ o4 3 rfl j d (by omega))
      (fun j d => load_rows _ _ _ _ _ _ o4 3 rfl j d (by omega))
      (arg6.view.readAt (Elt Ideal) (Rect.unit (s := S4x512x128) ![3, 0, 0] S1x512x128.size inb_S4x512x128_S1x512x128_3_0_0).toLoadRect f6)
      (arg7.view.readAt (Elt Ideal) (Rect.unit (s := S4x512x128) ![3, 0, 0] S1x512x128.size inb_S4x512x128_S1x512x128_3_0_0).toLoadRect f7)
      (fun l => load_head _ _ 3 (by decide) _ r l) (fun l => load_head _ _ 3 (by decide) _ r l) _ _
      (fun l => (read_head _ _ 3 (by decide) _ _ _ r l).trans <|  max1536 _ _ _ r l)
      fun l => (read_head _ _ 3 (by decide) _ _ _ r l).trans <|  acc1536 _ _ _ _ _ r l
  · omega

end Fox
end
end
-- ==== Proof.FoxLoop.lean ====
module
public import proofs.«01_k».proof.Proof.FoxTrip

/-! # The forgetting heads: the loop over whole blocks, from the fill of the scratch

After the loop over blocks of 1536 keys, and the loop behind it that makes no trip, the scratch holds the first
`1536 * trips` keys. -/

@[expose] public section
set_option maxRecDepth 16384
noncomputable section
open Idealize.ShloMosaic Idealize.ShloMosaic.TcCoe Idealize.SL.Sem
namespace Fox
open Cert.Kernel3Ideal Cert.Kernel3Ideal.Gen Blocks Attn

/-- The first `n` trips of the loop. -/
theorem loop_state (c : Dev nD) (i : grid0.Coords) (arg2 : Memref sig .tc .vmem S512x512 .bf16) (harg2 : arg2.IsWhole)
    (arg3 : Memref sig .tc .vmem S8192x512 .bf16) (harg3 : arg3.IsWhole) (arg4 : Memref sig .tc .vmem S8192x512 .bf16) (harg4 : arg4.IsWhole)
    (arg5 : Memref sig .tc .vmem S512x256 .f32) (harg5 : arg5.IsWhole) (arg6 : Memref sig .tc .vmem S4x512x128 .f32) (harg6 : arg6.IsWhole)
    (arg7 : Memref sig .tc .vmem S4x512x128 .f32) (harg7 : arg7.IsWhole)
    (X2 : BufTy.Contents (Elt Ideal) arg2.view.ty) (X3 : BufTy.Contents (Elt Ideal) arg3.view.ty)
    (X4 : BufTy.Contents (Elt Ideal) arg4.view.ty) (hQ : ∀ y, IsReal (arg2.view.read (Elt Ideal) X2 y))
    (hK : ∀ y, IsReal (arg3.view.read (Elt Ideal) X3 y)) (lim : ℕ) (hlim : lim + 512 ≤ 8192)
    (f6 : BufTy.Contents (Elt Ideal) arg6.view.ty) (f7 : BufTy.Contents (Elt Ideal) arg7.view.ty)
    (hS : State (arg2.view.read (Elt Ideal) X2) (arg3.view.read (Elt Ideal) X3) (arg4.view.read (Elt Ideal) X4) lim 0
      (arg6.view.read (Elt Ideal) f6) (arg7.view.read (Elt Ideal) f7)) (n : ℕ) :
    n ≤ (k0_t1_loop i).trips → 1536 * n ≤ lim → State (arg2.view.read (Elt Ideal) X2) (arg3.view.read (Elt Ideal) X3) (arg4.view.read (Elt Ideal) X4) lim (1536 * n)
      (arg6.view.read (Elt Ideal) (arg6.view.writes (Elt Ideal) f6 (pb_k0_t1 (F := Ideal) Variants.none c none i arg2 harg2 arg3 harg3 arg4 harg4 arg5 harg5 arg6 harg6 arg7 harg7 X2 X3 X4 f6 f7 n).1))
      (arg7.view.read (Elt Ideal) (arg7.view.writes (Elt Ideal) f7 (pb_k0_t1 (F := Ideal) Variants.none c none i arg2 harg2 arg3 harg3 arg4 harg4 arg5 harg5 arg6 harg6 arg7 harg7 X2 X3 X4 f6 f7 n).2)) := by
  induction n with
  | zero => exact fun _ _ => hS
  | succ n ih =>
    intro hn hl
    have h := trip_state c i arg2 harg2 arg3 harg3 arg4 harg4 arg5 harg5 arg6 harg6 arg7 harg7 X2 X3 X4 hQ hK lim hlim ⟨n, hn⟩ (by
      show 1536 * n + 1536 ≤ lim
      omega) _ _ (ih (by omega) (by omega))
    rw [← View.writes_append, ← View.writes_append] at h
    have e := pb_k0_t1_succ (F := Ideal) Variants.none c none i arg2 harg2 arg3 harg3 arg4 harg4 arg5 harg5 arg6 harg6 arg7 harg7 X2 X3 X4 f6 f7 ⟨n, hn⟩
    rw [show n + 1 = (⟨n, hn⟩ : Fin (k0_t1_loop i).trips).val + 1 from rfl, e]
    exact h

/-- The fill of the maxima. -/
def fill6 : List (View.Piece (Elt Ideal) S4x512x128 .f32) :=
  [⟨Rect.unit ![0, 0, 0] S4x512x128.size inb_S4x512x128_S4x512x128_0_0_0, k0_pay108 (F := Ideal)⟩]

/-- The fill of the accumulators. -/
def fill7 : List (View.Piece (Elt Ideal) S4x512x128 .f32) :=
  [⟨Rect.unit ![0, 0, 0] S4x512x128.size inb_S4x512x128_S4x512x128_0_0_0, k0_pay109 (F := Ideal)⟩]

/-- A buffer filled throughout. -/
theorem read_fill {sig : RefSig} {κ : Kind} {sp : Space} {Val : EltTy → Type} {e : EltTy} (v : View sig κ sp S4x512x128 e)
    (f : v.ty.Contents Val) (inb : ∀ a, (![0, 0, 0] : Fin 3 → ℕ) a + S4x512x128.size a ≤ S4x512x128.size a)
    (w : S4x512x128.Idx → Val e) (h : Fin 4) (r : Fin 512) (l : Fin 128) :
    v.read Val (v.writes Val f [(⟨Rect.unit (s := S4x512x128) ![0, 0, 0] S4x512x128.size inb, w⟩ : View.Piece Val S4x512x128 e)])
      (ix3 h r l) = w (ix3 h r l) :=
  View.read_writes_cons_unit_of_mem v f inb w [] _ (ix3 h r l) rfl (Fin.forall_fin_succ.mpr ⟨(Nat.zero_add _).symm, Fin.forall_fin_two.mpr
    ⟨(Nat.zero_add _).symm, (Nat.zero_add _).symm⟩⟩)

/-- The filled scratch holds no key. -/
theorem fill_state (Q : S512x512.Idx → EReal) (K V : S8192x512.Idx → EReal) (lim : ℕ)
    (arg6 : Memref sig .tc .vmem S4x512x128 .f32) (arg7 : Memref sig .tc .vmem S4x512x128 .f32)
    (f6 : BufTy.Contents (Elt Ideal) arg6.view.ty) (f7 : BufTy.Contents (Elt Ideal) arg7.view.ty) :
    State Q K V lim 0 (arg6.view.read (Elt Ideal) (arg6.view.writes (Elt Ideal) f6 fill6))
      (arg7.view.read (Elt Ideal) (arg7.view.writes (Elt Ideal) f7 fill7)) := by
  intro h r
  exact Or.inl ⟨rfl, fun l => ⟨(read_fill _ _ _ _ h r l).trans (init_max _), (read_fill _ _ _ _ h r l).trans (init_acc _)⟩⟩

/-- The writes to the maxima through both loops, last first. -/
def base6 (c : Dev nD) (i : grid0.Coords) (arg2 : Memref sig .tc .vmem S512x512 .bf16) (harg2 : arg2.IsWhole)
    (arg3 : Memref sig .tc .vmem S8192x512 .bf16) (harg3 : arg3.IsWhole) (arg4 : Memref sig .tc .vmem S8192x512 .bf16) (harg4 : arg4.IsWhole)
    (arg5 : Memref sig .tc .vmem S512x256 .f32) (harg5 : arg5.IsWhole) (arg6 : Memref sig .tc .vmem S4x512x128 .f32) (harg6 : arg6.IsWhole)
    (arg7 : Memref sig .tc .vmem S4x512x128 .f32) (harg7 : arg7.IsWhole)
    (w : BitVec 32)
    (X2 : BufTy.Contents (Elt Ideal) arg2.view.ty) (X3 : BufTy.Contents (Elt Ideal) arg3.view.ty)
    (X4 : BufTy.Contents (Elt Ideal) arg4.view.ty) : List (View.Piece (Elt Ideal) S4x512x128 .f32) :=
  (pb_k0_t2 (F := Ideal) Variants.none c none i arg2 harg2 arg3 harg3 arg4 harg4 arg5 harg5 arg6 harg6 arg7 harg7 w X2 X3 X4
      (arg6.view.writes (Elt Ideal) arg6.view.junk ((pb_k0_t1 (F := Ideal) Variants.none c none i arg2 harg2 arg3 harg3 arg4 harg4 arg5 harg5 arg6 harg6 arg7 harg7 X2 X3 X4 (arg6.view.writes (Elt Ideal) arg6.view.junk fill6) (arg7.view.writes (Elt Ideal) arg7.view.junk fill7) (Scf.trips (k0_t1_loop i).lb (k0_t1_loop i).ub (k0_t1_loop i).st)).1 ++ fill6))
      (arg7.view.writes (Elt Ideal) arg7.view.junk ((pb_k0_t1 (F := Ideal) Variants.none c none i arg2 harg2 arg3 harg3 arg4 harg4 arg5 harg5 arg6 harg6 arg7 harg7 X2 X3 X4 (arg6.view.writes (Elt Ideal) arg6.view.junk fill6) (arg7.view.writes (Elt Ideal) arg7.view.junk fill7) (Scf.trips (k0_t1_loop i).lb (k0_t1_loop i).ub (k0_t1_loop i).st)).2 ++ fill7))
      (Scf.trips (k0_t2_loop i).lb (k0_t2_loop i).ub (k0_t2_loop i).st)).1
    ++ ((pb_k0_t1 (F := Ideal) Variants.none c none i arg2 harg2 arg3 harg3 arg4 harg4 arg5 harg5 arg6 harg6 arg7 harg7 X2 X3 X4 (arg6.view.writes (Elt Ideal) arg6.view.junk fill6) (arg7.view.writes (Elt Ideal) arg7.view.junk fill7) (Scf.trips (k0_t1_loop i).lb (k0_t1_loop i).ub (k0_t1_loop i).st)).1 ++ fill6)

/-- The writes to the accumulators through both loops, last first. -/
def base7 (c : Dev nD) (i : grid0.Coords) (arg2 : Memref sig .tc .vmem S512x512 .bf16) (harg2 : arg2.IsWhole)
    (arg3 : Memref sig .tc .vmem S8192x512 .bf16) (harg3 : arg3.IsWhole) (arg4 : Memref sig .tc .vmem S8192x512 .bf16) (harg4 : arg4.IsWhole)
    (arg5 : Memref sig .tc .vmem S512x256 .f32) (harg5 : arg5.IsWhole) (arg6 : Memref sig .tc .vmem S4x512x128 .f32) (harg6 : arg6.IsWhole)
    (arg7 : Memref sig .tc .vmem S4x512x128 .f32) (harg7 : arg7.IsWhole)
    (w : BitVec 32)
    (X2 : BufTy.Contents (Elt Ideal) arg2.view.ty) (X3 : BufTy.Contents (Elt Ideal) arg3.view.ty)
    (X4 : BufTy.Contents (Elt Ideal) arg4.view.ty) : List (View.Piece (Elt Ideal) S4x512x128 .f32) :=
  (pb_k0_t2 (F := Ideal) Variants.none c none i arg2 harg2 arg3 harg3 arg4 harg4 arg5 harg5 arg6 harg6 arg7 harg7 w X2 X3 X4
      (arg6.view.writes (Elt Ideal) arg6.view.junk ((pb_k0_t1 (F := Ideal) Variants.none c none i arg2 harg2 arg3 harg3 arg4 harg4 arg5 harg5 arg6 harg6 arg7 harg7 X2 X3 X4 (arg6.view.writes (Elt Ideal) arg6.view.junk fill6) (arg7.view.writes (Elt Ideal) arg7.view.junk fill7) (Scf.trips (k0_t1_loop i).lb (k0_t1_loop i).ub (k0_t1_loop i).st)).1 ++ fill6))
      (arg7.view.writes (Elt Ideal) arg7.view.junk ((pb_k0_t1 (F := Ideal) Variants.none c none i arg2 harg2 arg3 harg3 arg4 harg4 arg5 harg5 arg6 harg6 arg7 harg7 X2 X3 X4 (arg6.view.writes (Elt Ideal) arg6.view.junk fill6) (arg7.view.writes (Elt Ideal) arg7.view.junk fill7) (Scf.trips (k0_t1_loop i).lb (k0_t1_loop i).ub (k0_t1_loop i).st)).2 ++ fill7))
      (Scf.trips (k0_t2_loop i).lb (k0_t2_loop i).ub (k0_t2_loop i).st)).2
    ++ ((pb_k0_t1 (F := Ideal) Variants.none c none i arg2 harg2 arg3 harg3 arg4 harg4 arg5 harg5 arg6 harg6 arg7 harg7 X2 X3 X4 (arg6.view.writes (Elt Ideal) arg6.view.junk fill6) (arg7.view.writes (Elt Ideal) arg7.view.junk fill7) (Scf.trips (k0_t1_loop i).lb (k0_t1_loop i).ub (k0_t1_loop i).st)).2 ++ fill7)

/-- The scratch after both loops. -/
theorem base_state (c : Dev nD) (i : grid0.Coords) (arg2 : Memref sig .tc .vmem S512x512 .bf16) (harg2 : arg2.IsWhole)
    (arg3 : Memref sig .tc .vmem S8192x512 .bf16) (harg3 : arg3.IsWhole) (arg4 : Memref sig .tc .vmem S8192x512 .bf16) (harg4 : arg4.IsWhole)
    (arg5 : Memref sig .tc .vmem S512x256 .f32) (harg5 : arg5.IsWhole) (arg6 : Memref sig .tc .vmem S4x512x128 .f32) (harg6 : arg6.IsWhole)
    (arg7 : Memref sig .tc .vmem S4x512x128 .f32) (harg7 : arg7.IsWhole)
    (w : BitVec 32)
    (X2 : BufTy.Contents (Elt Ideal) arg2.view.ty) (X3 : BufTy.Contents (Elt Ideal) arg3.view.ty)
    (X4 : BufTy.Contents (Elt Ideal) arg4.view.ty) (hQ : ∀ y, IsReal (arg2.view.read (Elt Ideal) X2 y))
    (hK : ∀ y, IsReal (arg3.view.read (Elt Ideal) X3 y)) (lim : ℕ) (hlim : lim + 512 ≤ 8192) (n : ℕ)
    (t1 : 1536 * (k0_t1_loop i).trips = n) (hn : n ≤ lim) (t2 : (k0_t2_loop i).trips = 0) :
    State (arg2.view.read (Elt Ideal) X2) (arg3.view.read (Elt Ideal) X3) (arg4.view.read (Elt Ideal) X4) lim n
      (arg6.view.read (Elt Ideal) (arg6.view.writes (Elt Ideal) arg6.view.junk (base6 c i arg2 harg2 arg3 harg3 arg4 harg4 arg5 harg5 arg6 harg6 arg7 harg7 w X2 X3 X4)))
      (arg7.view.read (Elt Ideal) (arg7.view.writes (Elt Ideal) arg7.view.junk (base7 c i arg2 harg2 arg3 harg3 arg4 harg4 arg5 harg5 arg6 harg6 arg7 harg7 w X2 X3 X4))) := by
  subst t1
  have h := loop_state c i arg2 harg2 arg3 harg3 arg4 harg4 arg5 harg5 arg6 harg6 arg7 harg7 X2 X3 X4 hQ hK lim hlim _ _
    (fill_state _ _ _ lim arg6 arg7 arg6.view.junk arg7.view.junk) _ le_rfl hn
  rw [← View.writes_append, ← View.writes_append] at h
  unfold base6 base7
  rw [show Scf.trips (k0_t2_loop i).lb (k0_t2_loop i).ub (k0_t2_loop i).st = 0 from t2]
  exact h

/-- An output column: lane `l` of head `h`. -/
def ocol (h : Fin 4) (l : Fin 64) : Fin 256 := ⟨64 * h.val + l.val, by omega⟩

/-- A lane of the values. -/
def vlane (l : Fin 64) : Fin 128 := ⟨l.val, by omega⟩

/-- The first head of a pair: its quotient. -/
theorem quot_fst {s : ℕ → EReal} {v : ℕ → Fin 128 → EReal} {n : ℕ} {M : Fin 128 → EReal} (A A' : FVec Ideal S1x512x128 .f32)
    (r : Fin 512) (hS : Seen s v n M (fun l => A (ix3 (0 : Fin 1) r l))) (hn : 0 < n) (hs : IsReal (s 0))
    (hv : ∀ k, k < n → ∀ l : Fin 128, 64 ≤ l.val → v k l = 1) (l : Fin 64) :
    k0_pay152 (F := Ideal) A A' (ix2 r (vlane l)) = mean s v n (vlane l) := by
  refine (quot A A' r _).trans ?_
  rw [if_pos (show (vlane l).val < 64 from l.isLt)]
  refine hS.div_eq 0 hn hs (vlane l) (far (vlane l)) fun k hk => hv k hk _ ?_
  show 64 ≤ (l.val + 64) % 128
  omega

/-- The second head of a pair: its quotient. -/
theorem quot_snd {s : ℕ → EReal} {v : ℕ → Fin 128 → EReal} {n : ℕ} {M : Fin 128 → EReal} (A A' : FVec Ideal S1x512x128 .f32)
    (r : Fin 512) (hS : Seen s v n M (fun l => A' (ix3 (0 : Fin 1) r l))) (hn : 0 < n) (hs : IsReal (s 0))
    (hv : ∀ k, k < n → ∀ l : Fin 128, 64 ≤ l.val → v k l = 1) (l : Fin 64) :
    k0_pay152 (F := Ideal) A A' (ix2 r (far (vlane l))) = mean s v n (vlane l) := by
  refine (quot A A' r _).trans ?_
  have h1 : (far (vlane l)).val = l.val + 64 := by
    show (l.val + 64) % 128 = l.val + 64
    omega
  rw [if_neg (by omega), far_far]
  exact hS.div_eq 0 hn hs (vlane l) (far (vlane l)) fun k hk => hv k hk _ (by omega)

section Out

variable {sig : RefSig} {κ : Kind} {sp : Space} {Val : EltTy → Type} {e : EltTy}

/-- A pair of heads of the output block, just written. -/
theorem read_pair (v : View sig κ sp S512x256 e) (f : v.ty.Contents Val) (o : ℕ)
    (inb : ∀ a, (![0, o] : Fin 2 → ℕ) a + (![512, 128] : Fin 2 → ℕ) a ≤ S512x256.size a)
    (w : (Rect.unit (s := S512x256) ![0, o] ![512, 128] inb).shape.Idx → Val e) (L : List (View.Piece Val S512x256 e))
    (r : Fin 512) (x : Fin 256) (l : Fin 128) (hx : x.val = o + l.val) :
    v.read Val (v.writes Val f ((⟨Rect.unit (s := S512x256) ![0, o] ![512, 128] inb, w⟩ : View.Piece Val S512x256 e) :: L))
      (ix2 r x) = w (ix2 r l) :=
  View.read_writes_cons_unit_of_mem v f inb w L _ (ix2 r l) rfl (Fin.forall_fin_two.mpr ⟨(Nat.zero_add _).symm, hx⟩)

/-- The first pair of heads, under the write of the second. -/
theorem read_pair_other (v : View sig κ sp S512x256 e) (f : v.ty.Contents Val)
    (inb : ∀ a, (![0, 128] : Fin 2 → ℕ) a + (![512, 128] : Fin 2 → ℕ) a ≤ S512x256.size a)
    (w : (Rect.unit (s := S512x256) ![0, 128] ![512, 128] inb).shape.Idx → Val e) (L : List (View.Piece Val S512x256 e))
    (r : Fin 512) (x : Fin 256) (hx : x.val < 128) :
    v.read Val (v.writes Val f ((⟨Rect.unit (s := S512x256) ![0, 128] ![512, 128] inb, w⟩ : View.Piece Val S512x256 e) :: L))
      (ix2 r x) = v.read Val (v.writes Val f L) (ix2 r x) :=
  View.read_writes_cons_unit_of_not_mem v f inb w L _ rfl (1 : Fin 2) (Or.inl hx)

end Out

end Fox
end
end
-- ==== Proof.FoxCaseA.lean ====
module
public import proofs.«01_k».proof.Proof.FoxLoop

/-! # The forgetting heads: a grid point whose keys before the diagonal block are whole blocks of 1536

The output block's entry is the softmax mean over the keys up to and including the diagonal block. -/

@[expose] public section
set_option maxRecDepth 16384
noncomputable section
open Idealize.ShloMosaic Idealize.ShloMosaic.TcCoe Idealize.SL.Sem
namespace Fox
open Cert.Kernel3Ideal Cert.Kernel3Ideal.Gen Blocks Attn

/-- The block's entries. -/
theorem outA_mean (c : Dev nD) (i : grid0.Coords) (arg2 : Memref sig .tc .vmem S512x512 .bf16) (harg2 : arg2.IsWhole)
    (arg3 : Memref sig .tc .vmem S8192x512 .bf16) (harg3 : arg3.IsWhole) (arg4 : Memref sig .tc .vmem S8192x512 .bf16) (harg4 : arg4.IsWhole)
    (arg5 : Memref sig .tc .vmem S512x256 .f32) (harg5 : arg5.IsWhole) (arg6 : Memref sig .tc .vmem S4x512x128 .f32) (harg6 : arg6.IsWhole)
    (arg7 : Memref sig .tc .vmem S4x512x128 .f32) (harg7 : arg7.IsWhole)
    (hc0 : ¬cond0_0 i) (hc1 : ¬cond0_1 i)
    (x0 : Vec Ideal S512x512 .bf16) (x1 x2 : Vec Ideal S8192x512 .bf16)
    (hQ : ∀ y, IsReal (arg2.view.read (Elt Ideal) (harg2.unread x0) y)) (hK : ∀ y, IsReal (arg3.view.read (Elt Ideal) (harg3.unread x1) y))
    (n : ℕ) (hlim : n + 0 + 512 ≤ 8192) (t1 : 1536 * (k0_t1_loop i).trips = n) (t2 : (k0_t2_loop i).trips = 0)

    (o0 : k0_off17 i = ![n + 0, 0])    (o1 : k0_off18 i = ![n + 0, 128])    (o2 : k0_off19 i = ![n + 0, 256])    (o3 : k0_off20 i = ![n + 0, 384])
    (hV : ∀ (k : Fin 8192) (h : Fin 4) (l : Fin 128), 64 ≤ l.val → arg4.view.read (Elt Ideal) (harg4.unread x2) (ix2 k (hcol h l)) = 1)
    (r : Fin 512) (h : Fin 4) (l : Fin 64) :
    out0_A_3 (F := Ideal) c i arg2 harg2 arg3 harg3 arg4 harg4 arg5 harg5 arg6 harg6 arg7 harg7 hc0 hc1 x0 x1 x2 (ix2 r (ocol h l))
      = mean (score (arg2.view.read (Elt Ideal) (harg2.unread x0)) (arg3.view.read (Elt Ideal) (harg3.unread x1)) (n + 0) h r)
          (value (arg4.view.read (Elt Ideal) (harg4.unread x2)) h) (n + 0 + 512) (vlane l) := by
  have hS := base_state c i arg2 harg2 arg3 harg3 arg4 harg4 arg5 harg5 arg6 harg6 arg7 harg7 (kernelRun0_A.sl.v30 i) (harg2.unread x0) (harg3.unread x1) (harg4.unread x2) hQ hK (n + 0) hlim n t1 (by omega) t2
  have hv : ∀ (h : Fin 4) (k : ℕ), k < n + 0 + 512 → ∀ l : Fin 128, 64 ≤ l.val →
      value (arg4.view.read (Elt Ideal) (harg4.unread x2)) h k l = 1 := by
    intro h k hk l hl
    unfold value
    rw [dif_pos (by omega)]
    exact hV _ _ _ hl
  have hs : ∀ h : Fin 4, IsReal (score (arg2.view.read (Elt Ideal) (harg2.unread x0)) (arg3.view.read (Elt Ideal) (harg3.unread x1)) (n + 0) h r 0) :=
    fun h => isReal_score hQ hK (n + 0) h r 0 (by omega) (by omega)
  unfold out0_A_3 kernelRun0_A
  dsimp only
  rcases h with ⟨_ | _ | _ | _ | h, hh⟩
  · refine (read_pair_other _ _ _ _ _ r _ (by show 64 * 0 + l.val < 128; omega)).trans <| (read_pair _ _ 0 _ _ _ r _ (vlane l) (by show 64 * 0 + l.val = 0 + l.val; omega)).trans <|
      quot_fst (kernelRun0_A.sl.v202 (F := Ideal) c i arg2 harg2 arg3 harg3 arg4 harg4 arg5 harg5 arg6 harg6 arg7 harg7 x0 x1 x2) (kernelRun0_A.sl.v204 (F := Ideal) c i arg2 harg2 arg3 harg3 arg4 harg4 arg5 harg5 arg6 harg6 arg7 harg7 x0 x1 x2) r (seen_masked hQ hK (hS 0 r) hlim
      (arg2.view.readAt (Elt Ideal) (Rect.unit (s := S512x512) ![0, 0] S512x128.size inb_S512x512_S512x128_0_0).toLoadRect (harg2.unread x0))
      (fun d => (load_rows _ _ _ 0 0 _ rfl 0 rfl r d (by omega)).trans (by simp only [Nat.zero_add]))
      (arg3.view.readAt (Elt Ideal) (Rect.unit (s := S8192x512) (k0_off17 i) S512x128.size (k0_off17_inb i)).toLoadRect (harg3.unread x1))
      (arg4.view.readAt (Elt Ideal) (Rect.unit (s := S8192x512) (k0_off17 i) S512x128.size (k0_off17_inb i)).toLoadRect (harg4.unread x2))
      (fun j d => load_rows _ _ _ _ _ _ o0 0 rfl j d (by omega))
      (fun j d => load_rows _ _ _ _ _ _ o0 0 rfl j d (by omega))
      (arg6.view.readAt (Elt Ideal) (Rect.unit (s := S4x512x128) ![0, 0, 0] S1x512x128.size inb_S4x512x128_S1x512x128_0_0_0).toLoadRect (arg6.view.writes (Elt Ideal) arg6.view.junk (base6 c i arg2 harg2 arg3 harg3 arg4 harg4 arg5 harg5 arg6 harg6 arg7 harg7 (kernelRun0_A.sl.v30 i) (harg2.unread x0) (harg3.unread x1) (harg4.unread x2))))
      (arg7.view.readAt (Elt Ideal) (Rect.unit (s := S4x512x128) ![0, 0, 0] S1x512x128.size inb_S4x512x128_S1x512x128_0_0_0).toLoadRect (arg7.view.writes (Elt Ideal) arg7.view.junk (base7 c i arg2 harg2 arg3 harg3 arg4 harg4 arg5 harg5 arg6 harg6 arg7 harg7 (kernelRun0_A.sl.v30 i) (harg2.unread x0) (harg3.unread x1) (harg4.unread x2))))
      (fun l => (load_head _ _ 0 (by decide) _ r l)) (fun l => (load_head _ _ 0 (by decide) _ r l)) _
      (fun l => (load_head _ _ 0 (by decide) _ r l).trans <| (read_other _ _ 0 3 (by decide) _ _ _ r l).trans <| (read_other _ _ 0 2 (by decide) _ _ _ r l).trans <| (read_other _ _ 0 1 (by decide) _ _ _ r l).trans <| (read_head _ _ 0 (by decide) _ _ _ r l).trans <|  accMasked _ _ _ _ _ r l)) (by omega) (hs 0) (hv 0) l
  · refine (read_pair_other _ _ _ _ _ r _ (by show 64 * 1 + l.val < 128; omega)).trans <| (read_pair _ _ 0 _ _ _ r _ (far (vlane l)) (by show 64 * 1 + l.val = 0 + (l.val + 64) % 128; omega)).trans <|
      quot_snd (kernelRun0_A.sl.v202 (F := Ideal) c i arg2 harg2 arg3 harg3 arg4 harg4 arg5 harg5 arg6 harg6 arg7 harg7 x0 x1 x2) (kernelRun0_A.sl.v204 (F := Ideal) c i arg2 harg2 arg3 harg3 arg4 harg4 arg5 harg5 arg6 harg6 arg7 harg7 x0 x1 x2) r (seen_masked hQ hK (hS 1 r) hlim
      (arg2.view.readAt (Elt Ideal) (Rect.unit (s := S512x512) ![0, 128] S512x128.size inb_S512x512_S512x128_0_128).toLoadRect (harg2.unread x0))
      (fun d => (load_rows _ _ _ 0 128 _ rfl 1 rfl r d (by omega)).trans (by simp only [Nat.zero_add]))
      (arg3.view.readAt (Elt Ideal) (Rect.unit (s := S8192x512) (k0_off18 i) S512x128.size (k0_off18_inb i)).toLoadRect (harg3.unread x1))
      (arg4.view.readAt (Elt Ideal) (Rect.unit (s := S8192x512) (k0_off18 i) S512x128.size (k0_off18_inb i)).toLoadRect (harg4.unread x2))
      (fun j d => load_rows _ _ _ _ _ _ o1 1 rfl j d (by omega))
      (fun j d => load_rows _ _ _ _ _ _ o1 1 rfl j d (by omega))
      (arg6.view.readAt (Elt Ideal) (Rect.unit (s := S4x512x128) ![1, 0, 0] S1x512x128.size inb_S4x512x128_S1x512x128_1_0_0).toLoadRect (arg6.view.writes (Elt Ideal) arg6.view.junk (kernelRun0_A.sl.HS0_1_1 (F := Ideal) c i arg2 harg2 arg3 harg3 arg4 harg4 arg5 harg5 arg6 harg6 arg7 harg7 x0 x1 x2)))
      (arg7.view.readAt (Elt Ideal) (Rect.unit (s := S4x512x128) ![1, 0, 0] S1x512x128.size inb_S4x512x128_S1x512x128_1_0_0).toLoadRect (arg7.view.writes (Elt Ideal) arg7.view.junk (kernelRun0_A.sl.HS1_1_1 (F := Ideal) c i arg2 harg2 arg3 harg3 arg4 harg4 arg5 harg5 arg6 harg6 arg7 harg7 x0 x1 x2)))
      (fun l => (load_head _ _ 1 (by decide) _ r l).trans <| read_other _ _ 1 0 (by decide) _ _ _ r l) (fun l => (load_head _ _ 1 (by decide) _ r l).trans <| read_other _ _ 1 0 (by decide) _ _ _ r l) _
      (fun l => (load_head _ _ 1 (by decide) _ r l).trans <| (read_other _ _ 1 3 (by decide) _ _ _ r l).trans <| (read_other _ _ 1 2 (by decide) _ _ _ r l).trans <| (read_head _ _ 1 (by decide) _ _ _ r l).trans <|  accMasked _ _ _ _ _ r l)) (by omega) (hs 1) (hv 1) l
  · refine (read_pair _ _ 128 _ _ _ r _ (vlane l) (by show 64 * 2 + l.val = 128 + l.val; omega)).trans <|
      quot_fst (kernelRun0_A.sl.v213 (F := Ideal) c i arg2 harg2 arg3 harg3 arg4 harg4 arg5 harg5 arg6 harg6 arg7 harg7 x0 x1 x2) (kernelRun0_A.sl.v215 (F := Ideal) c i arg2 harg2 arg3 harg3 arg4 harg4 arg5 harg5 arg6 harg6 arg7 harg7 x0 x1 x2) r (seen_masked hQ hK (hS 2 r) hlim
      (arg2.view.readAt (Elt Ideal) (Rect.unit (s := S512x512) ![0, 256] S512x128.size inb_S512x512_S512x128_0_256).toLoadRect (harg2.unread x0))
      (fun d => (load_rows _ _ _ 0 256 _ rfl 2 rfl r d (by omega)).trans (by simp only [Nat.zero_add]))
      (arg3.view.readAt (Elt Ideal) (Rect.unit (s := S8192x512) (k0_off19 i) S512x128.size (k0_off19_inb i)).toLoadRect (harg3.unread x1))
      (arg4.view.readAt (Elt Ideal) (Rect.unit (s := S8192x512) (k0_off19 i) S512x128.size (k0_off19_inb i)).toLoadRect (harg4.unread x2))
      (fun j d => load_rows _ _ _ _ _ _ o2 2 rfl j d (by omega))
      (fun j d => load_rows _ _ _ _ _ _ o2 2 rfl j d (by omega))
      (arg6.view.readAt (Elt Ideal) (Rect.unit (s := S4x512x128) ![2, 0, 0] S1x512x128.size inb_S4x512x128_S1x512x128_2_0_0).toLoadRect (arg6.view.writes (Elt Ideal) arg6.view.junk (kernelRun0_A.sl.HS0_2 (F := Ideal) c i arg2 harg2 arg3 harg3 arg4 harg4 arg5 harg5 arg6 harg6 arg7 harg7 x0 x1 x2)))
      (arg7.view.readAt (Elt Ideal) (Rect.unit (s := S4x512x128) ![2, 0, 0] S1x512x128.size inb_S4x512x128_S1x512x128_2_0_0).toLoadRect (arg7.view.writes (Elt Ideal) arg7.view.junk (kernelRun0_A.sl.HS1_2 (F := Ideal) c i arg2 harg2 arg3 harg3 arg4 harg4 arg5 harg5 arg6 harg6 arg7 harg7 x0 x1 x2)))
      (fun l => (load_head _ _ 2 (by decide) _ r l).trans <| (read_other _ _ 2 1 (by decide) _ _ _ r l).trans <| read_other _ _ 2 0 (by decide) _ _ _ r l) (fun l => (load_head _ _ 2 (by decide) _ r l).trans <| (read_other _ _ 2 1 (by decide) _ _ _ r l).trans <| read_other _ _ 2 0 (by decide) _ _ _ r l) _
      (fun l => (load_head _ _ 2 (by decide) _ r l).trans <| (read_other _ _ 2 3 (by decide) _ _ _ r l).trans <| (read_head _ _ 2 (by decide) _ _ _ r l).trans <|  accMasked _ _ _ _ _ r l)) (by omega) (hs 2) (hv 2) l
  · refine (read_pair _ _ 128 _ _ _ r _ (far (vlane l)) (by show 64 * 3 + l.val = 128 + (l.val + 64) % 128; omega)).trans <|
      quot_snd (kernelRun0_A.sl.v213 (F := Ideal) c i arg2 harg2 arg3 harg3 arg4 harg4 arg5 harg5 arg6 harg6 arg7 harg7 x0 x1 x2) (kernelRun0_A.sl.v215 (F := Ideal) c i arg2 harg2 arg3 harg3 arg4 harg4 arg5 harg5 arg6 harg6 arg7 harg7 x0 x1 x2) r (seen_masked hQ hK (hS 3 r) hlim
      (arg2.view.readAt (Elt Ideal) (Rect.unit (s := S512x512) ![0, 384] S512x128.size inb_S512x512_S512x128_0_384).toLoadRect (harg2.unread x0))
      (fun d => (load_rows _ _ _ 0 384 _ rfl 3 rfl r d (by omega)).trans (by simp only [Nat.zero_add]))
      (arg3.view.readAt (Elt Ideal) (Rect.unit (s := S8192x512) (k0_off20 i) S512x128.size (k0_off20_inb i)).toLoadRect (harg3.unread x1))
      (arg4.view.readAt (Elt Ideal) (Rect.unit (s := S8192x512) (k0_off20 i) S512x128.size (k0_off20_inb i)).toLoadRect (harg4.unread x2))
      (fun j d => load_rows _ _ _ _ _ _ o3 3 rfl j d (by omega))
      (fun j d => load_rows _ _ _ _ _ _ o3 3 rfl j d (by omega))
      (arg6.view.readAt (Elt Ideal) (Rect.unit (s := S4x512x128) ![3, 0, 0] S1x512x128.size inb_S4x512x128_S1x512x128_3_0_0).toLoadRect (arg6.view.writes (Elt Ideal) arg6.view.junk (kernelRun0_A.sl.HS0_3 (F := Ideal) c i arg2 harg2 arg3 harg3 arg4 harg4 arg5 harg5 arg6 harg6 arg7 harg7 x0 x1 x2)))
      (arg7.view.readAt (Elt Ideal) (Rect.unit (s := S4x512x128) ![3, 0, 0] S1x512x128.size inb_S4x512x128_S1x512x128_3_0_0).toLoadRect (arg7.view.writes (Elt Ideal) arg7.view.junk (kernelRun0_A.sl.HS1_3 (F := Ideal) c i arg2 harg2 arg3 harg3 arg4 harg4 arg5 harg5 arg6 harg6 arg7 harg7 x0 x1 x2)))
      (fun l => (load_head _ _ 3 (by decide) _ r l).trans <| (read_other _ _ 3 2 (by decide) _ _ _ r l).trans <| (read_other _ _ 3 1 (by decide) _ _ _ r l).trans <| read_other _ _ 3 0 (by decide) _ _ _ r l) (fun l => (load_head _ _ 3 (by decide) _ r l).trans <| (read_other _ _ 3 2 (by decide) _ _ _ r l).trans <| (read_other _ _ 3 1 (by decide) _ _ _ r l).trans <| read_other _ _ 3 0 (by decide) _ _ _ r l) _
      (fun l => (load_head _ _ 3 (by decide) _ r l).trans <| (read_head _ _ 3 (by decide) _ _ _ r l).trans <|  accMasked _ _ _ _ _ r l)) (by omega) (hs 3) (hv 3) l
  · exact absurd hh (by omega)

end Fox
end
end
-- ==== Proof.FoxCaseB.lean ====
module
public import proofs.«01_k».proof.Proof.FoxLoop

/-! # The forgetting heads: a grid point with 512 keys left between the blocks of 1536 and the diagonal block

The output block's entry is the softmax mean over the keys up to and including the diagonal block. -/

@[expose] public section
set_option maxRecDepth 16384
noncomputable section
open Idealize.ShloMosaic Idealize.ShloMosaic.TcCoe Idealize.SL.Sem
namespace Fox
open Cert.Kernel3Ideal Cert.Kernel3Ideal.Gen Blocks Attn

/-- The left-over block of 512 keys. -/
theorem mid_stateB (c : Dev nD) (i : grid0.Coords) (arg2 : Memref sig .tc .vmem S512x512 .bf16) (harg2 : arg2.IsWhole)
    (arg3 : Memref sig .tc .vmem S8192x512 .bf16) (harg3 : arg3.IsWhole) (arg4 : Memref sig .tc .vmem S8192x512 .bf16) (harg4 : arg4.IsWhole)
    (arg5 : Memref sig .tc .vmem S512x256 .f32) (harg5 : arg5.IsWhole) (arg6 : Memref sig .tc .vmem S4x512x128 .f32) (harg6 : arg6.IsWhole)
    (arg7 : Memref sig .tc .vmem S4x512x128 .f32) (harg7 : arg7.IsWhole)
    (hc0 : ¬cond0_0 i) (hc1 : cond0_1 i)
    (x0 : Vec Ideal S512x512 .bf16) (x1 x2 : Vec Ideal S8192x512 .bf16)
    (hQ : ∀ y, IsReal (arg2.view.read (Elt Ideal) (harg2.unread x0) y)) (hK : ∀ y, IsReal (arg3.view.read (Elt Ideal) (harg3.unread x1) y))
    (n : ℕ) (hlim : n + 512 + 512 ≤ 8192) (t1 : 1536 * (k0_t1_loop i).trips = n) (t2 : (k0_t2_loop i).trips = 0)
    (p0 : k0_off13 i = ![n, 0])    (p1 : k0_off14 i = ![n, 128])    (p2 : k0_off15 i = ![n, 256])    (p3 : k0_off16 i = ![n, 384]) :
    State (arg2.view.read (Elt Ideal) (harg2.unread x0)) (arg3.view.read (Elt Ideal) (harg3.unread x1)) (arg4.view.read (Elt Ideal) (harg4.unread x2)) (n + 512) (n + 512)
      (arg6.view.read (Elt Ideal) (arg6.view.writes (Elt Ideal) arg6.view.junk (kernelRun0_B.sl.HS0_4 (F := Ideal) c i arg2 harg2 arg3 harg3 arg4 harg4 arg5 harg5 arg6 harg6 arg7 harg7 hc1 x0 x1 x2)))
      (arg7.view.read (Elt Ideal) (arg7.view.writes (Elt Ideal) arg7.view.junk (kernelRun0_B.sl.HS1_4 (F := Ideal) c i arg2 harg2 arg3 harg3 arg4 harg4 arg5 harg5 arg6 harg6 arg7 harg7 hc1 x0 x1 x2))) := by
  have hS := base_state c i arg2 harg2 arg3 harg3 arg4 harg4 arg5 harg5 arg6 harg6 arg7 harg7 (kernelRun0_B.sl.v30 i) (harg2.unread x0) (harg3.unread x1) (harg4.unread x2) hQ hK (n + 512) hlim n t1 (by omega) t2
  intro h r
  rcases h with ⟨_ | _ | _ | _ | h, hh⟩
  · exact seen_dots hQ hK (hS 0 r) (W := 512) (by decide) (by omega) (by omega)
      (arg2.view.readAt (Elt Ideal) (Rect.unit (s := S512x512) ![0, 0] S512x128.size inb_S512x512_S512x128_0_0).toLoadRect (harg2.unread x0))
      (fun d => (load_rows _ _ _ 0 0 _ rfl 0 rfl r d (by omega)).trans (by simp only [Nat.zero_add]))
      (arg3.view.readAt (Elt Ideal) (Rect.unit (s := S8192x512) (k0_off13 i) S512x128.size (k0_off13_inb i hc1)).toLoadRect (harg3.unread x1))
      (arg4.view.readAt (Elt Ideal) (Rect.unit (s := S8192x512) (k0_off13 i) S512x128.size (k0_off13_inb i hc1)).toLoadRect (harg4.unread x2))
      (fun j d => load_rows _ _ _ _ _ _ p0 0 rfl j d (by omega))
      (fun j d => load_rows _ _ _ _ _ _ p0 0 rfl j d (by omega))
      (arg6.view.readAt (Elt Ideal) (Rect.unit (s := S4x512x128) ![0, 0, 0] S1x512x128.size inb_S4x512x128_S1x512x128_0_0_0).toLoadRect (arg6.view.writes (Elt Ideal) arg6.view.junk (base6 c i arg2 harg2 arg3 harg3 arg4 harg4 arg5 harg5 arg6 harg6 arg7 harg7 (kernelRun0_B.sl.v30 i) (harg2.unread x0) (harg3.unread x1) (harg4.unread x2))))
      (arg7.view.readAt (Elt Ideal) (Rect.unit (s := S4x512x128) ![0, 0, 0] S1x512x128.size inb_S4x512x128_S1x512x128_0_0_0).toLoadRect (arg7.view.writes (Elt Ideal) arg7.view.junk (base7 c i arg2 harg2 arg3 harg3 arg4 harg4 arg5 harg5 arg6 harg6 arg7 harg7 (kernelRun0_B.sl.v30 i) (harg2.unread x0) (harg3.unread x1) (harg4.unread x2))))
      (fun l => (load_head _ _ 0 (by decide) _ r l)) (fun l => (load_head _ _ 0 (by decide) _ r l)) _ _
      (fun l => (read_other _ _ 0 3 (by decide) _ _ _ r l).trans <| (read_other _ _ 0 2 (by decide) _ _ _ r l).trans <| (read_other _ _ 0 1 (by decide) _ _ _ r l).trans <| (read_head _ _ 0 (by decide) _ _ _ r l).trans <|  max512 _ _ _ r l)
      fun l => (read_other _ _ 0 3 (by decide) _ _ _ r l).trans <| (read_other _ _ 0 2 (by decide) _ _ _ r l).trans <| (read_other _ _ 0 1 (by decide) _ _ _ r l).trans <| (read_head _ _ 0 (by decide) _ _ _ r l).trans <|  acc512 _ _ _ _ _ r l
  · exact seen_dots hQ hK (hS 1 r) (W := 512) (by decide) (by omega) (by omega)
      (arg2.view.readAt (Elt Ideal) (Rect.unit (s := S512x512) ![0, 128] S512x128.size inb_S512x512_S512x128_0_128).toLoadRect (harg2.unread x0))
      (fun d => (load_rows _ _ _ 0 128 _ rfl 1 rfl r d (by omega)).trans (by simp only [Nat.zero_add]))
      (arg3.view.readAt (Elt Ideal) (Rect.unit (s := S8192x512) (k0_off14 i) S512x128.size (k0_off14_inb i hc1)).toLoadRect (harg3.unread x1))
      (arg4.view.readAt (Elt Ideal) (Rect.unit (s := S8192x512) (k0_off14 i) S512x128.size (k0_off14_inb i hc1)).toLoadRect (harg4.unread x2))
      (fun j d => load_rows _ _ _ _ _ _ p1 1 rfl j d (by omega))
      (fun j d => load_rows _ _ _ _ _ _ p1 1 rfl j d (by omega))
      (arg6.view.readAt (Elt Ideal) (Rect.unit (s := S4x512x128) ![1, 0, 0] S1x512x128.size inb_S4x512x128_S1x512x128_1_0_0).toLoadRect (arg6.view.writes (Elt Ideal) arg6.view.junk (kernelRun0_B.sl.HS0_1_1 (F := Ideal) c i arg2 harg2 arg3 harg3 arg4 harg4 arg5 harg5 arg6 harg6 arg7 harg7 hc1 x0 x1 x2)))
      (arg7.view.readAt (Elt Ideal) (Rect.unit (s := S4x512x128) ![1, 0, 0] S1x512x128.size inb_S4x512x128_S1x512x128_1_0_0).toLoadRect (arg7.view.writes (Elt Ideal) arg7.view.junk (kernelRun0_B.sl.HS1_1_1 (F := Ideal) c i arg2 harg2 arg3 harg3 arg4 harg4 arg5 harg5 arg6 harg6 arg7 harg7 hc1 x0 x1 x2)))
      (fun l => (load_head _ _ 1 (by decide) _ r l).trans <| read_other _ _ 1 0 (by decide) _ _ _ r l) (fun l => (load_head _ _ 1 (by decide) _ r l).trans <| read_other _ _ 1 0 (by decide) _ _ _ r l) _ _
      (fun l => (read_other _ _ 1 3 (by decide) _ _ _ r l).trans <| (read_other _ _ 1 2 (by decide) _ _ _ r l).trans <| (read_head _ _ 1 (by decide) _ _ _ r l).trans <|  max512 _ _ _ r l)
      fun l => (read_other _ _ 1 3 (by decide) _ _ _ r l).trans <| (read_other _ _ 1 2 (by decide) _ _ _ r l).trans <| (read_head _ _ 1 (by decide) _ _ _ r l).trans <|  acc512 _ _ _ _ _ r l
  · exact seen_dots hQ hK (hS 2 r) (W := 512) (by decide) (by omega) (by omega)
      (arg2.view.readAt (Elt Ideal) (Rect.unit (s := S512x512) ![0, 256] S512x128.size inb_S512x512_S512x128_0_256).toLoadRect (harg2.unread x0))
      (fun d => (load_rows _ _ _ 0 256 _ rfl 2 rfl r d (by omega)).trans (by simp only [Nat.zero_add]))
      (arg3.view.readAt (Elt Ideal) (Rect.unit (s := S8192x512) (k0_off15 i) S512x128.size (k0_off15_inb i hc1)).toLoadRect (harg3.unread x1))
      (arg4.view.readAt (Elt Ideal) (Rect.unit (s := S8192x512) (k0_off15 i) S512x128.size (k0_off15_inb i hc1)).toLoadRect (harg4.unread x2))
      (fun j d => load_rows _ _ _ _ _ _ p2 2 rfl j d (by omega))
      (fun j d => load_rows _ _ _ _ _ _ p2 2 rfl j d (by omega))
      (arg6.view.readAt (Elt Ideal) (Rect.unit (s := S4x512x128) ![2, 0, 0] S1x512x128.size inb_S4x512x128_S1x512x128_2_0_0).toLoadRect (arg6.view.writes (Elt Ideal) arg6.view.junk (kernelRun0_B.sl.HS0_2 (F := Ideal) c i arg2 harg2 arg3 harg3 arg4 harg4 arg5 harg5 arg6 harg6 arg7 harg7 hc1 x0 x1 x2)))
      (arg7.view.readAt (Elt Ideal) (Rect.unit (s := S4x512x128) ![2, 0, 0] S1x512x128.size inb_S4x512x128_S1x512x128_2_0_0).toLoadRect (arg7.view.writes (Elt Ideal) arg7.view.junk (kernelRun0_B.sl.HS1_2 (F := Ideal) c i arg2 harg2 arg3 harg3 arg4 harg4 arg5 harg5 arg6 harg6 arg7 harg7 hc1 x0 x1 x2)))
      (fun l => (load_head _ _ 2 (by decide) _ r l).trans <| (read_other _ _ 2 1 (by decide) _ _ _ r l).trans <| read_other _ _ 2 0 (by decide) _ _ _ r l) (fun l => (load_head _ _ 2 (by decide) _ r l).trans <| (read_other _ _ 2 1 (by decide) _ _ _ r l).trans <| read_other _ _ 2 0 (by decide) _ _ _ r l) _ _
      (fun l => (read_other _ _ 2 3 (by decide) _ _ _ r l).trans <| (read_head _ _ 2 (by decide) _ _ _ r l).trans <|  max512 _ _ _ r l)
      fun l => (read_other _ _ 2 3 (by decide) _ _ _ r l).trans <| (read_head _ _ 2 (by decide) _ _ _ r l).trans <|  acc512 _ _ _ _ _ r l
  · exact seen_dots hQ hK (hS 3 r) (W := 512) (by decide) (by omega) (by omega)
      (arg2.view.readAt (Elt Ideal) (Rect.unit (s := S512x512) ![0, 384] S512x128.size inb_S512x512_S512x128_0_384).toLoadRect (harg2.unread x0))
      (fun d => (load_rows _ _ _ 0 384 _ rfl 3 rfl r d (by omega)).trans (by simp only [Nat.zero_add]))
      (arg3.view.readAt (Elt Ideal) (Rect.unit (s := S8192x512) (k0_off16 i) S512x128.size (k0_off16_inb i hc1)).toLoadRect (harg3.unread x1))
      (arg4.view.readAt (Elt Ideal) (Rect.unit (s := S8192x512) (k0_off16 i) S512x128.size (k0_off16_inb i hc1)).toLoadRect (harg4.unread x2))
      (fun j d => load_rows _ _ _ _ _ _ p3 3 rfl j d (by omega))
      (fun j d => load_rows _ _ _ _ _ _ p3 3 rfl j d (by omega))
      (arg6.view.readAt (Elt Ideal) (Rect.unit (s := S4x512x128) ![3, 0, 0] S1x512x128.size inb_S4x512x128_S1x512x128_3_0_0).toLoadRect (arg6.view.writes (Elt Ideal) arg6.view.junk (kernelRun0_B.sl.HS0_3 (F := Ideal) c i arg2 harg2 arg3 harg3 arg4 harg4 arg5 harg5 arg6 harg6 arg7 harg7 hc1 x0 x1 x2)))
      (arg7.view.readAt (Elt Ideal) (Rect.unit (s := S4x512x128) ![3, 0, 0] S1x512x128.size inb_S4x512x128_S1x512x128_3_0_0).toLoadRect (arg7.view.writes (Elt Ideal) arg7.view.junk (kernelRun0_B.sl.HS1_3 (F := Ideal) c i arg2 harg2 arg3 harg3 arg4 harg4 arg5 harg5 arg6 harg6 arg7 harg7 hc1 x0 x1 x2)))
      (fun l => (load_head _ _ 3 (by decide) _ r l).trans <| (read_other _ _ 3 2 (by decide) _ _ _ r l).trans <| (read_other _ _ 3 1 (by decide) _ _ _ r l).trans <| read_other _ _ 3 0 (by decide) _ _ _ r l) (fun l => (load_head _ _ 3 (by decide) _ r l).trans <| (read_other _ _ 3 2 (by decide) _ _ _ r l).trans <| (read_other _ _ 3 1 (by decide) _ _ _ r l).trans <| read_other _ _ 3 0 (by decide) _ _ _ r l) _ _
      (fun l => (read_head _ _ 3 (by decide) _ _ _ r l).trans <|  max512 _ _ _ r l)
      fun l => (read_head _ _ 3 (by decide) _ _ _ r l).trans <|  acc512 _ _ _ _ _ r l
  · exact absurd hh (by omega)

/-- The block's entries. -/
theorem outB_mean (c : Dev nD) (i : grid0.Coords) (arg2 : Memref sig .tc .vmem S512x512 .bf16) (harg2 : arg2.IsWhole)
    (arg3 : Memref sig .tc .vmem S8192x512 .bf16) (harg3 : arg3.IsWhole) (arg4 : Memref sig .tc .vmem S8192x512 .bf16) (harg4 : arg4.IsWhole)
    (arg5 : Memref sig .tc .vmem S512x256 .f32) (harg5 : arg5.IsWhole) (arg6 : Memref sig .tc .vmem S4x512x128 .f32) (harg6 : arg6.IsWhole)
    (arg7 : Memref sig .tc .vmem S4x512x128 .f32) (harg7 : arg7.IsWhole)
    (hc0 : ¬cond0_0 i) (hc1 : cond0_1 i)
    (x0 : Vec Ideal S512x512 .bf16) (x1 x2 : Vec Ideal S8192x512 .bf16)
    (hQ : ∀ y, IsReal (arg2.view.read (Elt Ideal) (harg2.unread x0) y)) (hK : ∀ y, IsReal (arg3.view.read (Elt Ideal) (harg3.unread x1) y))
    (n : ℕ) (hlim : n + 512 + 512 ≤ 8192) (t1 : 1536 * (k0_t1_loop i).trips = n) (t2 : (k0_t2_loop i).trips = 0)
    (p0 : k0_off13 i = ![n, 0])    (p1 : k0_off14 i = ![n, 128])    (p2 : k0_off15 i = ![n, 256])    (p3 : k0_off16 i = ![n, 384])
    (o0 : k0_off17 i = ![n + 512, 0])    (o1 : k0_off18 i = ![n + 512, 128])    (o2 : k0_off19 i = ![n + 512, 256])    (o3 : k0_off20 i = ![n + 512, 384])
    (hV : ∀ (k : Fin 8192) (h : Fin 4) (l : Fin 128), 64 ≤ l.val → arg4.view.read (Elt Ideal) (harg4.unread x2) (ix2 k (hcol h l)) = 1)
    (r : Fin 512) (h : Fin 4) (l : Fin 64) :
    out0_B_3 (F := Ideal) c i arg2 harg2 arg3 harg3 arg4 harg4 arg5 harg5 arg6 harg6 arg7 harg7 hc0 hc1 x0 x1 x2 (ix2 r (ocol h l))
      = mean (score (arg2.view.read (Elt Ideal) (harg2.unread x0)) (arg3.view.read (Elt Ideal) (harg3.unread x1)) (n + 512) h r)
          (value (arg4.view.read (Elt Ideal) (harg4.unread x2)) h) (n + 512 + 512) (vlane l) := by
  have hS := mid_stateB c i arg2 harg2 arg3 harg3 arg4 harg4 arg5 harg5 arg6 harg6 arg7 harg7 hc0 hc1 x0 x1 x2 hQ hK n hlim t1 t2 p0 p1 p2 p3
  have hv : ∀ (h : Fin 4) (k : ℕ), k < n + 512 + 512 → ∀ l : Fin 128, 64 ≤ l.val →
      value (arg4.view.read (Elt Ideal) (harg4.unread x2)) h k l = 1 := by
    intro h k hk l hl
    unfold value
    rw [dif_pos (by omega)]
    exact hV _ _ _ hl
  have hs : ∀ h : Fin 4, IsReal (score (arg2.view.read (Elt Ideal) (harg2.unread x0)) (arg3.view.read (Elt Ideal) (harg3.unread x1)) (n + 512) h r 0) :=
    fun h => isReal_score hQ hK (n + 512) h r 0 (by omega) (by omega)
  unfold out0_B_3 kernelRun0_B
  dsimp only
  rcases h with ⟨_ | _ | _ | _ | h, hh⟩
  · refine (read_pair_other _ _ _ _ _ r _ (by show 64 * 0 + l.val < 128; omega)).trans <| (read_pair _ _ 0 _ _ _ r _ (vlane l) (by show 64 * 0 + l.val = 0 + l.val; omega)).trans <|
      quot_fst (kernelRun0_B.sl.v202 (F := Ideal) c i arg2 harg2 arg3 harg3 arg4 harg4 arg5 harg5 arg6 harg6 arg7 harg7 hc1 x0 x1 x2) (kernelRun0_B.sl.v204 (F := Ideal) c i arg2 harg2 arg3 harg3 arg4 harg4 arg5 harg5 arg6 harg6 arg7 harg7 hc1 x0 x1 x2) r (seen_masked hQ hK (hS 0 r) hlim
      (arg2.view.readAt (Elt Ideal) (Rect.unit (s := S512x512) ![0, 0] S512x128.size inb_S512x512_S512x128_0_0).toLoadRect (harg2.unread x0))
      (fun d => (load_rows _ _ _ 0 0 _ rfl 0 rfl r d (by omega)).trans (by simp only [Nat.zero_add]))
      (arg3.view.readAt (Elt Ideal) (Rect.unit (s := S8192x512) (k0_off17 i) S512x128.size (k0_off17_inb i)).toLoadRect (harg3.unread x1))
      (arg4.view.readAt (Elt Ideal) (Rect.unit (s := S8192x512) (k0_off17 i) S512x128.size (k0_off17_inb i)).toLoadRect (harg4.unread x2))
      (fun j d => load_rows _ _ _ _ _ _ o0 0 rfl j d (by omega))
      (fun j d => load_rows _ _ _ _ _ _ o0 0 rfl j d (by omega))
      (arg6.view.readAt (Elt Ideal) (Rect.unit (s := S4x512x128) ![0, 0, 0] S1x512x128.size inb_S4x512x128_S1x512x128_0_0_0).toLoadRect (arg6.view.writes (Elt Ideal) arg6.view.junk (kernelRun0_B.sl.HS0_4 (F := Ideal) c i arg2 harg2 arg3 harg3 arg4 harg4 arg5 harg5 arg6 harg6 arg7 harg7 hc1 x0 x1 x2)))
      (arg7.view.readAt (Elt Ideal) (Rect.unit (s := S4x512x128) ![0, 0, 0] S1x512x128.size inb_S4x512x128_S1x512x128_0_0_0).toLoadRect (arg7.view.writes (Elt Ideal) arg7.view.junk (kernelRun0_B.sl.HS1_4 (F := Ideal) c i arg2 harg2 arg3 harg3 arg4 harg4 arg5 harg5 arg6 harg6 arg7 harg7 hc1 x0 x1 x2)))
      (fun l => (load_head _ _ 0 (by decide) _ r l)) (fun l => (load_head _ _ 0 (by decide) _ r l)) _
      (fun l => (load_head _ _ 0 (by decide) _ r l).trans <| (read_other _ _ 0 3 (by decide) _ _ _ r l).trans <| (read_other _ _ 0 2 (by decide) _ _ _ r l).trans <| (read_other _ _ 0 1 (by decide) _ _ _ r l).trans <| (read_head _ _ 0 (by decide) _ _ _ r l).trans <|  accMasked _ _ _ _ _ r l)) (by omega) (hs 0) (hv 0) l
  · refine (read_pair_other _ _ _ _ _ r _ (by show 64 * 1 + l.val < 128; omega)).trans <| (read_pair _ _ 0 _ _ _ r _ (far (vlane l)) (by show 64 * 1 + l.val = 0 + (l.val + 64) % 128; omega)).trans <|
      quot_snd (kernelRun0_B.sl.v202 (F := Ideal) c i arg2 harg2 arg3 harg3 arg4 harg4 arg5 harg5 arg6 harg6 arg7 harg7 hc1 x0 x1 x2) (kernelRun0_B.sl.v204 (F := Ideal) c i arg2 harg2 arg3 harg3 arg4 harg4 arg5 harg5 arg6 harg6 arg7 harg7 hc1 x0 x1 x2) r (seen_masked hQ hK (hS 1 r) hlim
      (arg2.view.readAt (Elt Ideal) (Rect.unit (s := S512x512) ![0, 128] S512x128.size inb_S512x512_S512x128_0_128).toLoadRect (harg2.unread x0))
      (fun d => (load_rows _ _ _ 0 128 _ rfl 1 rfl r d (by omega)).trans (by simp only [Nat.zero_add]))
      (arg3.view.readAt (Elt Ideal) (Rect.unit (s := S8192x512) (k0_off18 i) S512x128.size (k0_off18_inb i)).toLoadRect (harg3.unread x1))
      (arg4.view.readAt (Elt Ideal) (Rect.unit (s := S8192x512) (k0_off18 i) S512x128.size (k0_off18_inb i)).toLoadRect (harg4.unread x2))
      (fun j d => load_rows _ _ _ _ _ _ o1 1 rfl j d (by omega))
      (fun j d => load_rows _ _ _ _ _ _ o1 1 rfl j d (by omega))
      (arg6.view.readAt (Elt Ideal) (Rect.unit (s := S4x512x128) ![1, 0, 0] S1x512x128.size inb_S4x512x128_S1x512x128_1_0_0).toLoadRect (arg6.view.writes (Elt Ideal) arg6.view.junk (kernelRun0_B.sl.HS0_5 (F := Ideal) c i arg2 harg2 arg3 harg3 arg4 harg4 arg5 harg5 arg6 harg6 arg7 harg7 hc1 x0 x1 x2)))
      (arg7.view.readAt (Elt Ideal) (Rect.unit (s := S4x512x128) ![1, 0, 0] S1x512x128.size inb_S4x512x128_S1x512x128_1_0_0).toLoadRect (arg7.view.writes (Elt Ideal) arg7.view.junk (kernelRun0_B.sl.HS1_5 (F := Ideal) c i arg2 harg2 arg3 harg3 arg4 harg4 arg5 harg5 arg6 harg6 arg7 harg7 hc1 x0 x1 x2)))
      (fun l => (load_head _ _ 1 (by decide) _ r l).trans <| read_other _ _ 1 0 (by decide) _ _ _ r l) (fun l => (load_head _ _ 1 (by decide) _ r l).trans <| read_other _ _ 1 0 (by decide) _ _ _ r l) _
      (fun l => (load_head _ _ 1 (by decide) _ r l).trans <| (read_other _ _ 1 3 (by decide) _ _ _ r l).trans <| (read_other _ _ 1 2 (by decide) _ _ _ r l).trans <| (read_head _ _ 1 (by decide) _ _ _ r l).trans <|  accMasked _ _ _ _ _ r l)) (by omega) (hs 1) (hv 1) l
  · refine (read_pair _ _ 128 _ _ _ r _ (vlane l) (by show 64 * 2 + l.val = 128 + l.val; omega)).trans <|
      quot_fst (kernelRun0_B.sl.v213 (F := Ideal) c i arg2 harg2 arg3 harg3 arg4 harg4 arg5 harg5 arg6 harg6 arg7 harg7 hc1 x0 x1 x2) (kernelRun0_B.sl.v215 (F := Ideal) c i arg2 harg2 arg3 harg3 arg4 harg4 arg5 harg5 arg6 harg6 arg7 harg7 hc1 x0 x1 x2) r (seen_masked hQ hK (hS 2 r) hlim
      (arg2.view.readAt (Elt Ideal) (Rect.unit (s := S512x512) ![0, 256] S512x128.size inb_S512x512_S512x128_0_256).toLoadRect (harg2.unread x0))
      (fun d => (load_rows _ _ _ 0 256 _ rfl 2 rfl r d (by omega)).trans (by simp only [Nat.zero_add]))
      (arg3.view.readAt (Elt Ideal) (Rect.unit (s := S8192x512) (k0_off19 i) S512x128.size (k0_off19_inb i)).toLoadRect (harg3.unread x1))
      (arg4.view.readAt (Elt Ideal) (Rect.unit (s := S8192x512) (k0_off19 i) S512x128.size (k0_off19_inb i)).toLoadRect (harg4.unread x2))
      (fun j d => load_rows _ _ _ _ _ _ o2 2 rfl j d (by omega))
      (fun j d => load_rows _ _ _ _ _ _ o2 2 rfl j d (by omega))
      (arg6.view.readAt (Elt Ideal) (Rect.unit (s := S4x512x128) ![2, 0, 0] S1x512x128.size inb_S4x512x128_S1x512x128_2_0_0).toLoadRect (arg6.view.writes (Elt Ideal) arg6.view.junk (kernelRun0_B.sl.HS0_6 (F := Ideal) c i arg2 harg2 arg3 harg3 arg4 harg4 arg5 harg5 arg6 harg6 arg7 harg7 hc1 x0 x1 x2)))
      (arg7.view.readAt (Elt Ideal) (Rect.unit (s := S4x512x128) ![2, 0, 0] S1x512x128.size inb_S4x512x128_S1x512x128_2_0_0).toLoadRect (arg7.view.writes (Elt Ideal) arg7.view.junk (kernelRun0_B.sl.HS1_6 (F := Ideal) c i arg2 harg2 arg3 harg3 arg4 harg4 arg5 harg5 arg6 harg6 arg7 harg7 hc1 x0 x1 x2)))
      (fun l => (load_head _ _ 2 (by decide) _ r l).trans <| (read_other _ _ 2 1 (by decide) _ _ _ r l).trans <| read_other _ _ 2 0 (by decide) _ _ _ r l) (fun l => (load_head _ _ 2 (by decide) _ r l).trans <| (read_other _ _ 2 1 (by decide) _ _ _ r l).trans <| read_other _ _ 2 0 (by decide) _ _ _ r l) _
      (fun l => (load_head _ _ 2 (by decide) _ r l).trans <| (read_other _ _ 2 3 (by decide) _ _ _ r l).trans <| (read_head _ _ 2 (by decide) _ _ _ r l).trans <|  accMasked _ _ _ _ _ r l)) (by omega) (hs 2) (hv 2) l
  · refine (read_pair _ _ 128 _ _ _ r _ (far (vlane l)) (by show 64 * 3 + l.val = 128 + (l.val + 64) % 128; omega)).trans <|
      quot_snd (kernelRun0_B.sl.v213 (F := Ideal) c i arg2 harg2 arg3 harg3 arg4 harg4 arg5 harg5 arg6 harg6 arg7 harg7 hc1 x0 x1 x2) (kernelRun0_B.sl.v215 (F := Ideal) c i arg2 harg2 arg3 harg3 arg4 harg4 arg5 harg5 arg6 harg6 arg7 harg7 hc1 x0 x1 x2) r (seen_masked hQ hK (hS 3 r) hlim
      (arg2.view.readAt (Elt Ideal) (Rect.unit (s := S512x512) ![0, 384] S512x128.size inb_S512x512_S512x128_0_384).toLoadRect (harg2.unread x0))
      (fun d => (load_rows _ _ _ 0 384 _ rfl 3 rfl r d (by omega)).trans (by simp only [Nat.zero_add]))
      (arg3.view.readAt (Elt Ideal) (Rect.unit (s := S8192x512) (k0_off20 i) S512x128.size (k0_off20_inb i)).toLoadRect (harg3.unread x1))
      (arg4.view.readAt (Elt Ideal) (Rect.unit (s := S8192x512) (k0_off20 i) S512x128.size (k0_off20_inb i)).toLoadRect (harg4.unread x2))
      (fun j d => load_rows _ _ _ _ _ _ o3 3 rfl j d (by omega))
      (fun j d => load_rows _ _ _ _ _ _ o3 3 rfl j d (by omega))
      (arg6.view.readAt (Elt Ideal) (Rect.unit (s := S4x512x128) ![3, 0, 0] S1x512x128.size inb_S4x512x128_S1x512x128_3_0_0).toLoadRect (arg6.view.writes (Elt Ideal) arg6.view.junk (kernelRun0_B.sl.HS0_7 (F := Ideal) c i arg2 harg2 arg3 harg3 arg4 harg4 arg5 harg5 arg6 harg6 arg7 harg7 hc1 x0 x1 x2)))
      (arg7.view.readAt (Elt Ideal) (Rect.unit (s := S4x512x128) ![3, 0, 0] S1x512x128.size inb_S4x512x128_S1x512x128_3_0_0).toLoadRect (arg7.view.writes (Elt Ideal) arg7.view.junk (kernelRun0_B.sl.HS1_7 (F := Ideal) c i arg2 harg2 arg3 harg3 arg4 harg4 arg5 harg5 arg6 harg6 arg7 harg7 hc1 x0 x1 x2)))
      (fun l => (load_head _ _ 3 (by decide) _ r l).trans <| (read_other _ _ 3 2 (by decide) _ _ _ r l).trans <| (read_other _ _ 3 1 (by decide) _ _ _ r l).trans <| read_other _ _ 3 0 (by decide) _ _ _ r l) (fun l => (load_head _ _ 3 (by decide) _ r l).trans <| (read_other _ _ 3 2 (by decide) _ _ _ r l).trans <| (read_other _ _ 3 1 (by decide) _ _ _ r l).trans <| read_other _ _ 3 0 (by decide) _ _ _ r l) _
      (fun l => (load_head _ _ 3 (by decide) _ r l).trans <| (read_head _ _ 3 (by decide) _ _ _ r l).trans <|  accMasked _ _ _ _ _ r l)) (by omega) (hs 3) (hv 3) l
  · exact absurd hh (by omega)

end Fox
end
end
-- ==== Proof.FoxCaseC.lean ====
module
public import proofs.«01_k».proof.Proof.FoxLoop

/-! # The forgetting heads: a grid point with 1024 keys left between the blocks of 1536 and the diagonal block

The output block's entry is the softmax mean over the keys up to and including the diagonal block. -/

@[expose] public section
set_option maxRecDepth 16384
noncomputable section
open Idealize.ShloMosaic Idealize.ShloMosaic.TcCoe Idealize.SL.Sem
namespace Fox
open Cert.Kernel3Ideal Cert.Kernel3Ideal.Gen Blocks Attn

/-- The left-over block of 1024 keys. -/
theorem mid_stateC (c : Dev nD) (i : grid0.Coords) (arg2 : Memref sig .tc .vmem S512x512 .bf16) (harg2 : arg2.IsWhole)
    (arg3 : Memref sig .tc .vmem S8192x512 .bf16) (harg3 : arg3.IsWhole) (arg4 : Memref sig .tc .vmem S8192x512 .bf16) (harg4 : arg4.IsWhole)
    (arg5 : Memref sig .tc .vmem S512x256 .f32) (harg5 : arg5.IsWhole) (arg6 : Memref sig .tc .vmem S4x512x128 .f32) (harg6 : arg6.IsWhole)
    (arg7 : Memref sig .tc .vmem S4x512x128 .f32) (harg7 : arg7.IsWhole)
    (hc0 : cond0_0 i) (hc1 : ¬cond0_1 i)
    (x0 : Vec Ideal S512x512 .bf16) (x1 x2 : Vec Ideal S8192x512 .bf16)
    (hQ : ∀ y, IsReal (arg2.view.read (Elt Ideal) (harg2.unread x0) y)) (hK : ∀ y, IsReal (arg3.view.read (Elt Ideal) (harg3.unread x1) y))
    (n : ℕ) (hlim : n + 1024 + 512 ≤ 8192) (t1 : 1536 * (k0_t1_loop i).trips = n) (t2 : (k0_t2_loop i).trips = 0)
    (p0 : k0_off9 i = ![n, 0])    (p1 : k0_off10 i = ![n, 128])    (p2 : k0_off11 i = ![n, 256])    (p3 : k0_off12 i = ![n, 384]) :
    State (arg2.view.read (Elt Ideal) (harg2.unread x0)) (arg3.view.read (Elt Ideal) (harg3.unread x1)) (arg4.view.read (Elt Ideal) (harg4.unread x2)) (n + 1024) (n + 1024)
      (arg6.view.read (Elt Ideal) (arg6.view.writes (Elt Ideal) arg6.view.junk (kernelRun0_C.sl.HS0_4 (F := Ideal) c i arg2 harg2 arg3 harg3 arg4 harg4 arg5 harg5 arg6 harg6 arg7 harg7 hc0 x0 x1 x2)))
      (arg7.view.read (Elt Ideal) (arg7.view.writes (Elt Ideal) arg7.view.junk (kernelRun0_C.sl.HS1_4 (F := Ideal) c i arg2 harg2 arg3 harg3 arg4 harg4 arg5 harg5 arg6 harg6 arg7 harg7 hc0 x0 x1 x2))) := by
  have hS := base_state c i arg2 harg2 arg3 harg3 arg4 harg4 arg5 harg5 arg6 harg6 arg7 harg7 (kernelRun0_C.sl.v30 i) (harg2.unread x0) (harg3.unread x1) (harg4.unread x2) hQ hK (n + 1024) hlim n t1 (by omega) t2
  intro h r
  rcases h with ⟨_ | _ | _ | _ | h, hh⟩
  · exact seen_dots hQ hK (hS 0 r) (W := 1024) (by decide) (by omega) (by omega)
      (arg2.view.readAt (Elt Ideal) (Rect.unit (s := S512x512) ![0, 0] S512x128.size inb_S512x512_S512x128_0_0).toLoadRect (harg2.unread x0))
      (fun d => (load_rows _ _ _ 0 0 _ rfl 0 rfl r d (by omega)).trans (by simp only [Nat.zero_add]))
      (arg3.view.readAt (Elt Ideal) (Rect.unit (s := S8192x512) (k0_off9 i) S1024x128.size (k0_off9_inb i hc0)).toLoadRect (harg3.unread x1))
      (arg4.view.readAt (Elt Ideal) (Rect.unit (s := S8192x512) (k0_off9 i) S1024x128.size (k0_off9_inb i hc0)).toLoadRect (harg4.unread x2))
      (fun j d => load_rows _ _ _ _ _ _ p0 0 rfl j d (by omega))
      (fun j d => load_rows _ _ _ _ _ _ p0 0 rfl j d (by omega))
      (arg6.view.readAt (Elt Ideal) (Rect.unit (s := S4x512x128) ![0, 0, 0] S1x512x128.size inb_S4x512x128_S1x512x128_0_0_0).toLoadRect (arg6.view.writes (Elt Ideal) arg6.view.junk (base6 c i arg2 harg2 arg3 harg3 arg4 harg4 arg5 harg5 arg6 harg6 arg7 harg7 (kernelRun0_C.sl.v30 i) (harg2.unread x0) (harg3.unread x1) (harg4.unread x2))))
      (arg7.view.readAt (Elt Ideal) (Rect.unit (s := S4x512x128) ![0, 0, 0] S1x512x128.size inb_S4x512x128_S1x512x128_0_0_0).toLoadRect (arg7.view.writes (Elt Ideal) arg7.view.junk (base7 c i arg2 harg2 arg3 harg3 arg4 harg4 arg5 harg5 arg6 harg6 arg7 harg7 (kernelRun0_C.sl.v30 i) (harg2.unread x0) (harg3.unread x1) (harg4.unread x2))))
      (fun l => (load_head _ _ 0 (by decide) _ r l)) (fun l => (load_head _ _ 0 (by decide) _ r l)) _ _
      (fun l => (read_other _ _ 0 3 (by decide) _ _ _ r l).trans <| (read_other _ _ 0 2 (by decide) _ _ _ r l).trans <| (read_other _ _ 0 1 (by decide) _ _ _ r l).trans <| (read_head _ _ 0 (by decide) _ _ _ r l).trans <|  max1024 _ _ _ r l)
      fun l => (read_other _ _ 0 3 (by decide) _ _ _ r l).trans <| (read_other _ _ 0 2 (by decide) _ _ _ r l).trans <| (read_other _ _ 0 1 (by decide) _ _ _ r l).trans <| (read_head _ _ 0 (by decide) _ _ _ r l).trans <|  acc1024 _ _ _ _ _ r l
  · exact seen_dots hQ hK (hS 1 r) (W := 1024) (by decide) (by omega) (by omega)
      (arg2.view.readAt (Elt Ideal) (Rect.unit (s := S512x512) ![0, 128] S512x128.size inb_S512x512_S512x128_0_128).toLoadRect (harg2.unread x0))
      (fun d => (load_rows _ _ _ 0 128 _ rfl 1 rfl r d (by omega)).trans (by simp only [Nat.zero_add]))
      (arg3.view.readAt (Elt Ideal) (Rect.unit (s := S8192x512) (k0_off10 i) S1024x128.size (k0_off10_inb i hc0)).toLoadRect (harg3.unread x1))
      (arg4.view.readAt (Elt Ideal) (Rect.unit (s := S8192x512) (k0_off10 i) S1024x128.size (k0_off10_inb i hc0)).toLoadRect (harg4.unread x2))
      (fun j d => load_rows _ _ _ _ _ _ p1 1 rfl j d (by omega))
      (fun j d => load_rows _ _ _ _ _ _ p1 1 rfl j d (by omega))
      (arg6.view.readAt (Elt Ideal) (Rect.unit (s := S4x512x128) ![1, 0, 0] S1x512x128.size inb_S4x512x128_S1x512x128_1_0_0).toLoadRect (arg6.view.writes (Elt Ideal) arg6.view.junk (kernelRun0_C.sl.HS0_1_1 (F := Ideal) c i arg2 harg2 arg3 harg3 arg4 harg4 arg5 harg5 arg6 harg6 arg7 harg7 hc0 x0 x1 x2)))
      (arg7.view.readAt (Elt Ideal) (Rect.unit (s := S4x512x128) ![1, 0, 0] S1x512x128.size inb_S4x512x128_S1x512x128_1_0_0).toLoadRect (arg7.view.writes (Elt Ideal) arg7.view.junk (kernelRun0_C.sl.HS1_1_1 (F := Ideal) c i arg2 harg2 arg3 harg3 arg4 harg4 arg5 harg5 arg6 harg6 arg7 harg7 hc0 x0 x1 x2)))
      (fun l => (load_head _ _ 1 (by decide) _ r l).trans <| read_other _ _ 1 0 (by decide) _ _ _ r l) (fun l => (load_head _ _ 1 (by decide) _ r l).trans <| read_other _ _ 1 0 (by decide) _ _ _ r l) _ _
      (fun l => (read_other _ _ 1 3 (by decide) _ _ _ r l).trans <| (read_other _ _ 1 2 (by decide) _ _ _ r l).trans <| (read_head _ _ 1 (by decide) _ _ _ r l).trans <|  max1024 _ _ _ r l)
      fun l => (read_other _ _ 1 3 (by decide) _ _ _ r l).trans <| (read_other _ _ 1 2 (by decide) _ _ _ r l).trans <| (read_head _ _ 1 (by decide) _ _ _ r l).trans <|  acc1024 _ _ _ _ _ r l
  · exact seen_dots hQ hK (hS 2 r) (W := 1024) (by decide) (by omega) (by omega)
      (arg2.view.readAt (Elt Ideal) (Rect.unit (s := S512x512) ![0, 256] S512x128.size inb_S512x512_S512x128_0_256).toLoadRect (harg2.unread x0))
      (fun d => (load_rows _ _ _ 0 256 _ rfl 2 rfl r d (by omega)).trans (by simp only [Nat.zero_add]))
      (arg3.view.readAt (Elt Ideal) (Rect.unit (s := S8192x512) (k0_off11 i) S1024x128.size (k0_off11_inb i hc0)).toLoadRect (harg3.unread x1))
      (arg4.view.readAt (Elt Ideal) (Rect.unit (s := S8192x512) (k0_off11 i) S1024x128.size (k0_off11_inb i hc0)).toLoadRect (harg4.unread x2))
      (fun j d => load_rows _ _ _ _ _ _ p2 2 rfl j d (by omega))
      (fun j d => load_rows _ _ _ _ _ _ p2 2 rfl j d (by omega))
      (arg6.view.readAt (Elt Ideal) (Rect.unit (s := S4x512x128) ![2, 0, 0] S1x512x128.size inb_S4x512x128_S1x512x128_2_0_0).toLoadRect (arg6.view.writes (Elt Ideal) arg6.view.junk (kernelRun0_C.sl.HS0_2 (F := Ideal) c i arg2 harg2 arg3 harg3 arg4 harg4 arg5 harg5 arg6 harg6 arg7 harg7 hc0 x0 x1 x2)))
      (arg7.view.readAt (Elt Ideal) (Rect.unit (s := S4x512x128) ![2, 0, 0] S1x512x128.size inb_S4x512x128_S1x512x128_2_0_0).toLoadRect (arg7.view.writes (Elt Ideal) arg7.view.junk (kernelRun0_C.sl.HS1_2 (F := Ideal) c i arg2 harg2 arg3 harg3 arg4 harg4 arg5 harg5 arg6 harg6 arg7 harg7 hc0 x0 x1 x2)))
      (fun l => (load_head _ _ 2 (by decide) _ r l).trans <| (read_other _ _ 2 1 (by decide) _ _ _ r l).trans <| read_other _ _ 2 0 (by decide) _ _ _ r l) (fun l => (load_head _ _ 2 (by decide) _ r l).trans <| (read_other _ _ 2 1 (by decide) _ _ _ r l).trans <| read_other _ _ 2 0 (by decide) _ _ _ r l) _ _
      (fun l => (read_other _ _ 2 3 (by decide) _ _ _ r l).trans <| (read_head _ _ 2 (by decide) _ _ _ r l).trans <|  max1024 _ _ _ r l)
      fun l => (read_other _ _ 2 3 (by decide) _ _ _ r l).trans <| (read_head _ _ 2 (by decide) _ _ _ r l).trans <|  acc1024 _ _ _ _ _ r l
  · exact seen_dots hQ hK (hS 3 r) (W := 1024) (by decide) (by omega) (by omega)
      (arg2.view.readAt (Elt Ideal) (Rect.unit (s := S512x512) ![0, 384] S512x128.size inb_S512x512_S512x128_0_384).toLoadRect (harg2.unread x0))
      (fun d => (load_rows _ _ _ 0 384 _ rfl 3 rfl r d (by omega)).trans (by simp only [Nat.zero_add]))
      (arg3.view.readAt (Elt Ideal) (Rect.unit (s := S8192x512) (k0_off12 i) S1024x128.size (k0_off12_inb i hc0)).toLoadRect (harg3.unread x1))
      (arg4.view.readAt (Elt Ideal) (Rect.unit (s := S8192x512) (k0_off12 i) S1024x128.size (k0_off12_inb i hc0)).toLoadRect (harg4.unread x2))
      (fun j d => load_rows _ _ _ _ _ _ p3 3 rfl j d (by omega))
      (fun j d => load_rows _ _ _ _ _ _ p3 3 rfl j d (by omega))
      (arg6.view.readAt (Elt Ideal) (Rect.unit (s := S4x512x128) ![3, 0, 0] S1x512x128.size inb_S4x512x128_S1x512x128_3_0_0).toLoadRect (arg6.view.writes (Elt Ideal) arg6.view.junk (kernelRun0_C.sl.HS0_3 (F := Ideal) c i arg2 harg2 arg3 harg3 arg4 harg4 arg5 harg5 arg6 harg6 arg7 harg7 hc0 x0 x1 x2)))
      (arg7.view.readAt (Elt Ideal) (Rect.unit (s := S4x512x128) ![3, 0, 0] S1x512x128.size inb_S4x512x128_S1x512x128_3_0_0).toLoadRect (arg7.view.writes (Elt Ideal) arg7.view.junk (kernelRun0_C.sl.HS1_3 (F := Ideal) c i arg2 harg2 arg3 harg3 arg4 harg4 arg5 harg5 arg6 harg6 arg7 harg7 hc0 x0 x1 x2)))
      (fun l => (load_head _ _ 3 (by decide) _ r l).trans <| (read_other _ _ 3 2 (by decide) _ _ _ r l).trans <| (read_other _ _ 3 1 (by decide) _ _ _ r l).trans <| read_other _ _ 3 0 (by decide) _ _ _ r l) (fun l => (load_head _ _ 3 (by decide) _ r l).trans <| (read_other _ _ 3 2 (by decide) _ _ _ r l).trans <| (read_other _ _ 3 1 (by decide) _ _ _ r l).trans <| read_other _ _ 3 0 (by decide) _ _ _ r l) _ _
      (fun l => (read_head _ _ 3 (by decide) _ _ _ r l).trans <|  max1024 _ _ _ r l)
      fun l => (read_head _ _ 3 (by decide) _ _ _ r l).trans <|  acc1024 _ _ _ _ _ r l
  · exact absurd hh (by omega)

/-- The block's entries. -/
theorem outC_mean (c : Dev nD) (i : grid0.Coords) (arg2 : Memref sig .tc .vmem S512x512 .bf16) (harg2 : arg2.IsWhole)
    (arg3 : Memref sig .tc .vmem S8192x512 .bf16) (harg3 : arg3.IsWhole) (arg4 : Memref sig .tc .vmem S8192x512 .bf16) (harg4 : arg4.IsWhole)
    (arg5 : Memref sig .tc .vmem S512x256 .f32) (harg5 : arg5.IsWhole) (arg6 : Memref sig .tc .vmem S4x512x128 .f32) (harg6 : arg6.IsWhole)
    (arg7 : Memref sig .tc .vmem S4x512x128 .f32) (harg7 : arg7.IsWhole)
    (hc0 : cond0_0 i) (hc1 : ¬cond0_1 i)
    (x0 : Vec Ideal S512x512 .bf16) (x1 x2 : Vec Ideal S8192x512 .bf16)
    (hQ : ∀ y, IsReal (arg2.view.read (Elt Ideal) (harg2.unread x0) y)) (hK : ∀ y, IsReal (arg3.view.read (Elt Ideal) (harg3.unread x1) y))
    (n : ℕ) (hlim : n + 1024 + 512 ≤ 8192) (t1 : 1536 * (k0_t1_loop i).trips = n) (t2 : (k0_t2_loop i).trips = 0)
    (p0 : k0_off9 i = ![n, 0])    (p1 : k0_off10 i = ![n, 128])    (p2 : k0_off11 i = ![n, 256])    (p3 : k0_off12 i = ![n, 384])
    (o0 : k0_off17 i = ![n + 1024, 0])    (o1 : k0_off18 i = ![n + 1024, 128])    (o2 : k0_off19 i = ![n + 1024, 256])    (o3 : k0_off20 i = ![n + 1024, 384])
    (hV : ∀ (k : Fin 8192) (h : Fin 4) (l : Fin 128), 64 ≤ l.val → arg4.view.read (Elt Ideal) (harg4.unread x2) (ix2 k (hcol h l)) = 1)
    (r : Fin 512) (h : Fin 4) (l : Fin 64) :
    out0_C_3 (F := Ideal) c i arg2 harg2 arg3 harg3 arg4 harg4 arg5 harg5 arg6 harg6 arg7 harg7 hc0 hc1 x0 x1 x2 (ix2 r (ocol h l))
      = mean (score (arg2.view.read (Elt Ideal) (harg2.unread x0)) (arg3.view.read (Elt Ideal) (harg3.unread x1)) (n + 1024) h r)
          (value (arg4.view.read (Elt Ideal) (harg4.unread x2)) h) (n + 1024 + 512) (vlane l) := by
  have hS := mid_stateC c i arg2 harg2 arg3 harg3 arg4 harg4 arg5 harg5 arg6 harg6 arg7 harg7 hc0 hc1 x0 x1 x2 hQ hK n hlim t1 t2 p0 p1 p2 p3
  have hv : ∀ (h : Fin 4) (k : ℕ), k < n + 1024 + 512 → ∀ l : Fin 128, 64 ≤ l.val →
      value (arg4.view.read (Elt Ideal) (harg4.unread x2)) h k l = 1 := by
    intro h k hk l hl
    unfold value
    rw [dif_pos (by omega)]
    exact hV _ _ _ hl
  have hs : ∀ h : Fin 4, IsReal (score (arg2.view.read (Elt Ideal) (harg2.unread x0)) (arg3.view.read (Elt Ideal) (harg3.unread x1)) (n + 1024) h r 0) :=
    fun h => isReal_score hQ hK (n + 1024) h r 0 (by omega) (by omega)
  unfold out0_C_3 kernelRun0_C
  dsimp only
  rcases h with ⟨_ | _ | _ | _ | h, hh⟩
  · refine (read_pair_other _ _ _ _ _ r _ (by show 64 * 0 + l.val < 128; omega)).trans <| (read_pair _ _ 0 _ _ _ r _ (vlane l) (by show 64 * 0 + l.val = 0 + l.val; omega)).trans <|
      quot_fst (kernelRun0_C.sl.v202 (F := Ideal) c i arg2 harg2 arg3 harg3 arg4 harg4 arg5 harg5 arg6 harg6 arg7 harg7 hc0 x0 x1 x2) (kernelRun0_C.sl.v204 (F := Ideal) c i arg2 harg2 arg3 harg3 arg4 harg4 arg5 harg5 arg6 harg6 arg7 harg7 hc0 x0 x1 x2) r (seen_masked hQ hK (hS 0 r) hlim
      (arg2.view.readAt (Elt Ideal) (Rect.unit (s := S512x512) ![0, 0] S512x128.size inb_S512x512_S512x128_0_0).toLoadRect (harg2.unread x0))
      (fun d => (load_rows _ _ _ 0 0 _ rfl 0 rfl r d (by omega)).trans (by simp only [Nat.zero_add]))
      (arg3.view.readAt (Elt Ideal) (Rect.unit (s := S8192x512) (k0_off17 i) S512x128.size (k0_off17_inb i)).toLoadRect (harg3.unread x1))
      (arg4.view.readAt (Elt Ideal) (Rect.unit (s := S8192x512) (k0_off17 i) S512x128.size (k0_off17_inb i)).toLoadRect (harg4.unread x2))
      (fun j d => load_rows _ _ _ _ _ _ o0 0 rfl j d (by omega))
      (fun j d => load_rows _ _ _ _ _ _ o0 0 rfl j d (by omega))
      (arg6.view.readAt (Elt Ideal) (Rect.unit (s := S4x512x128) ![0, 0, 0] S1x512x128.size inb_S4x512x128_S1x512x128_0_0_0).toLoadRect (arg6.view.writes (Elt Ideal) arg6.view.junk (kernelRun0_C.sl.HS0_4 (F := Ideal) c i arg2 harg2 arg3 harg3 arg4 harg4 arg5 harg5 arg6 harg6 arg7 harg7 hc0 x0 x1 x2)))
      (arg7.view.readAt (Elt Ideal) (Rect.unit (s := S4x512x128) ![0, 0, 0] S1x512x128.size inb_S4x512x128_S1x512x128_0_0_0).toLoadRect (arg7.view.writes (Elt Ideal) arg7.view.junk (kernelRun0_C.sl.HS1_4 (F := Ideal) c i arg2 harg2 arg3 harg3 arg4 harg4 arg5 harg5 arg6 harg6 arg7 harg7 hc0 x0 x1 x2)))
      (fun l => (load_head _ _ 0 (by decide) _ r l)) (fun l => (load_head _ _ 0 (by decide) _ r l)) _
      (fun l => (load_head _ _ 0 (by decide) _ r l).trans <| (read_other _ _ 0 3 (by decide) _ _ _ r l).trans <| (read_other _ _ 0 2 (by decide) _ _ _ r l).trans <| (read_other _ _ 0 1 (by decide) _ _ _ r l).trans <| (read_head _ _ 0 (by decide) _ _ _ r l).trans <|  accMasked _ _ _ _ _ r l)) (by omega) (hs 0) (hv 0) l
  · refine (read_pair_other _ _ _ _ _ r _ (by show 64 * 1 + l.val < 128; omega)).trans <| (read_pair _ _ 0 _ _ _ r _ (far (vlane l)) (by show 64 * 1 + l.val = 0 + (l.val + 64) % 128; omega)).trans <|
      quot_snd (kernelRun0_C.sl.v202 (F := Ideal) c i arg2 harg2 arg3 harg3 arg4 harg4 arg5 harg5 arg6 harg6 arg7 harg7 hc0 x0 x1 x2) (kernelRun0_C.sl.v204 (F := Ideal) c i arg2 harg2 arg3 harg3 arg4 harg4 arg5 harg5 arg6 harg6 arg7 harg7 hc0 x0 x1 x2) r (seen_masked hQ hK (hS 1 r) hlim
      (arg2.view.readAt (Elt Ideal) (Rect.unit (s := S512x512) ![0, 128] S512x128.size inb_S512x512_S512x128_0_128).toLoadRect (harg2.unread x0))
      (fun d => (load_rows _ _ _ 0 128 _ rfl 1 rfl r d (by omega)).trans (by simp only [Nat.zero_add]))
      (arg3.view.readAt (Elt Ideal) (Rect.unit (s := S8192x512) (k0_off18 i) S512x128.size (k0_off18_inb i)).toLoadRect (harg3.unread x1))
      (arg4.view.readAt (Elt Ideal) (Rect.unit (s := S8192x512) (k0_off18 i) S512x128.size (k0_off18_inb i)).toLoadRect (harg4.unread x2))
      (fun j d => load_rows _ _ _ _ _ _ o1 1 rfl j d (by omega))
      (fun j d => load_rows _ _ _ _ _ _ o1 1 rfl j d (by omega))
      (arg6.view.readAt (Elt Ideal) (Rect.unit (s := S4x512x128) ![1, 0, 0] S1x512x128.size inb_S4x512x128_S1x512x128_1_0_0).toLoadRect (arg6.view.writes (Elt Ideal) arg6.view.junk (kernelRun0_C.sl.HS0_5 (F := Ideal) c i arg2 harg2 arg3 harg3 arg4 harg4 arg5 harg5 arg6 harg6 arg7 harg7 hc0 x0 x1 x2)))
      (arg7.view.readAt (Elt Ideal) (Rect.unit (s := S4x512x128) ![1, 0, 0] S1x512x128.size inb_S4x512x128_S1x512x128_1_0_0).toLoadRect (arg7.view.writes (Elt Ideal) arg7.view.junk (kernelRun0_C.sl.HS1_5 (F := Ideal) c i arg2 harg2 arg3 harg3 arg4 harg4 arg5 harg5 arg6 harg6 arg7 harg7 hc0 x0 x1 x2)))
      (fun l => (load_head _ _ 1 (by decide) _ r l).trans <| read_other _ _ 1 0 (by decide) _ _ _ r l) (fun l => (load_head _ _ 1 (by decide) _ r l).trans <| read_other _ _ 1 0 (by decide) _ _ _ r l) _
      (fun l => (load_head _ _ 1 (by decide) _ r l).trans <| (read_other _ _ 1 3 (by decide) _ _ _ r l).trans <| (read_other _ _ 1 2 (by decide) _ _ _ r l).trans <| (read_head _ _ 1 (by decide) _ _ _ r l).trans <|  accMasked _ _ _ _ _ r l)) (by omega) (hs 1) (hv 1) l
  · refine (read_pair _ _ 128 _ _ _ r _ (vlane l) (by show 64 * 2 + l.val = 128 + l.val; omega)).trans <|
      quot_fst (kernelRun0_C.sl.v213 (F := Ideal) c i arg2 harg2 arg3 harg3 arg4 harg4 arg5 harg5 arg6 harg6 arg7 harg7 hc0 x0 x1 x2) (kernelRun0_C.sl.v215 (F := Ideal) c i arg2 harg2 arg3 harg3 arg4 harg4 arg5 harg5 arg6 harg6 arg7 harg7 hc0 x0 x1 x2) r (seen_masked hQ hK (hS 2 r) hlim
      (arg2.view.readAt (Elt Ideal) (Rect.unit (s := S512x512) ![0, 256] S512x128.size inb_S512x512_S512x128_0_256).toLoadRect (harg2.unread x0))
      (fun d => (load_rows _ _ _ 0 256 _ rfl 2 rfl r d (by omega)).trans (by simp only [Nat.zero_add]))
      (arg3.view.readAt (Elt Ideal) (Rect.unit (s := S8192x512) (k0_off19 i) S512x128.size (k0_off19_inb i)).toLoadRect (harg3.unread x1))
      (arg4.view.readAt (Elt Ideal) (Rect.unit (s := S8192x512) (k0_off19 i) S512x128.size (k0_off19_inb i)).toLoadRect (harg4.unread x2))
      (fun j d => load_rows _ _ _ _ _ _ o2 2 rfl j d (by omega))
      (fun j d => load_rows _ _ _ _ _ _ o2 2 rfl j d (by omega))
      (arg6.view.readAt (Elt Ideal) (Rect.unit (s := S4x512x128) ![2, 0, 0] S1x512x128.size inb_S4x512x128_S1x512x128_2_0_0).toLoadRect (arg6.view.writes (Elt Ideal) arg6.view.junk (kernelRun0_C.sl.HS0_6 (F := Ideal) c i arg2 harg2 arg3 harg3 arg4 harg4 arg5 harg5 arg6 harg6 arg7 harg7 hc0 x0 x1 x2)))
      (arg7.view.readAt (Elt Ideal) (Rect.unit (s := S4x512x128) ![2, 0, 0] S1x512x128.size inb_S4x512x128_S1x512x128_2_0_0).toLoadRect (arg7.view.writes (Elt Ideal) arg7.view.junk (kernelRun0_C.sl.HS1_6 (F := Ideal) c i arg2 harg2 arg3 harg3 arg4 harg4 arg5 harg5 arg6 harg6 arg7 harg7 hc0 x0 x1 x2)))
      (fun l => (load_head _ _ 2 (by decide) _ r l).trans <| (read_other _ _ 2 1 (by decide) _ _ _ r l).trans <| read_other _ _ 2 0 (by decide) _ _ _ r l) (fun l => (load_head _ _ 2 (by decide) _ r l).trans <| (read_other _ _ 2 1 (by decide) _ _ _ r l).trans <| read_other _ _ 2 0 (by decide) _ _ _ r l) _
      (fun l => (load_head _ _ 2 (by decide) _ r l).trans <| (read_other _ _ 2 3 (by decide) _ _ _ r l).trans <| (read_head _ _ 2 (by decide) _ _ _ r l).trans <|  accMasked _ _ _ _ _ r l)) (by omega) (hs 2) (hv 2) l
  · refine (read_pair _ _ 128 _ _ _ r _ (far (vlane l)) (by show 64 * 3 + l.val = 128 + (l.val + 64) % 128; omega)).trans <|
      quot_snd (kernelRun0_C.sl.v213 (F := Ideal) c i arg2 harg2 arg3 harg3 arg4 harg4 arg5 harg5 arg6 harg6 arg7 harg7 hc0 x0 x1 x2) (kernelRun0_C.sl.v215 (F := Ideal) c i arg2 harg2 arg3 harg3 arg4 harg4 arg5 harg5 arg6 harg6 arg7 harg7 hc0 x0 x1 x2) r (seen_masked hQ hK (hS 3 r) hlim
      (arg2.view.readAt (Elt Ideal) (Rect.unit (s := S512x512) ![0, 384] S512x128.size inb_S512x512_S512x128_0_384).toLoadRect (harg2.unread x0))
      (fun d => (load_rows _ _ _ 0 384 _ rfl 3 rfl r d (by omega)).trans (by simp only [Nat.zero_add]))
      (arg3.view.readAt (Elt Ideal) (Rect.unit (s := S8192x512) (k0_off20 i) S512x128.size (k0_off20_inb i)).toLoadRect (harg3.unread x1))
      (arg4.view.readAt (Elt Ideal) (Rect.unit (s := S8192x512) (k0_off20 i) S512x128.size (k0_off20_inb i)).toLoadRect (harg4.unread x2))
      (fun j d => load_rows _ _ _ _ _ _ o3 3 rfl j d (by omega))
      (fun j d => load_rows _ _ _ _ _ _ o3 3 rfl j d (by omega))
      (arg6.view.readAt (Elt Ideal) (Rect.unit (s := S4x512x128) ![3, 0, 0] S1x512x128.size inb_S4x512x128_S1x512x128_3_0_0).toLoadRect (arg6.view.writes (Elt Ideal) arg6.view.junk (kernelRun0_C.sl.HS0_7 (F := Ideal) c i arg2 harg2 arg3 harg3 arg4 harg4 arg5 harg5 arg6 harg6 arg7 harg7 hc0 x0 x1 x2)))
      (arg7.view.readAt (Elt Ideal) (Rect.unit (s := S4x512x128) ![3, 0, 0] S1x512x128.size inb_S4x512x128_S1x512x128_3_0_0).toLoadRect (arg7.view.writes (Elt Ideal) arg7.view.junk (kernelRun0_C.sl.HS1_7 (F := Ideal) c i arg2 harg2 arg3 harg3 arg4 harg4 arg5 harg5 arg6 harg6 arg7 harg7 hc0 x0 x1 x2)))
      (fun l => (load_head _ _ 3 (by decide) _ r l).trans <| (read_other _ _ 3 2 (by decide) _ _ _ r l).trans <| (read_other _ _ 3 1 (by decide) _ _ _ r l).trans <| read_other _ _ 3 0 (by decide) _ _ _ r l) (fun l => (load_head _ _ 3 (by decide) _ r l).trans <| (read_other _ _ 3 2 (by decide) _ _ _ r l).trans <| (read_other _ _ 3 1 (by decide) _ _ _ r l).trans <| read_other _ _ 3 0 (by decide) _ _ _ r l) _
      (fun l => (load_head _ _ 3 (by decide) _ r l).trans <| (read_head _ _ 3 (by decide) _ _ _ r l).trans <|  accMasked _ _ _ _ _ r l)) (by omega) (hs 3) (hv 3) l
  · exact absurd hh (by omega)

end Fox
end
end
-- ==== Proof.FoxArray.lean ====
module

public import proofs.«01_k».proof.Proof.FoxOperands
public import proofs.«01_k».proof.Proof.FoxCaseA
public import proofs.«01_k».proof.Proof.FoxCaseB
public import proofs.«01_k».proof.Proof.FoxCaseC

/-! # The forgetting heads: the result array

The schedule of the grid, the three cases of a grid point, and the array they fill. -/

@[expose] public section
set_option maxRecDepth 16384
noncomputable section
open Idealize.ShloMosaic Idealize.ShloMosaic.TcCoe Idealize.SL.Sem
namespace Fox
open Cert.Kernel3Ideal Cert.Kernel3Ideal.Gen Blocks Attn
variable (m : (ℓ : Loc nD τ sig) → Buf (Elt Ideal) ℓ)

/-! ## The schedule, point by point

Point `t` takes row block `t % 16` of batch `t / 16`; it meets `t % 16 / 3` wide blocks, then `t % 16 % 3` blocks in one
narrower piece, then the diagonal block. -/

theorem trips1 : ∀ t : Fin cfg0.N, 1536 * (k0_t1_loop (grid0.coords t)).trips = 1536 * (t.val % 16 / 3) :=
  (by decide +kernel : ∀ t : Fin grid0.N, 1536 * (k0_t1_loop (grid0.coords t)).trips = 1536 * (t.val % 16 / 3))

theorem trips2 : ∀ t : Fin cfg0.N, (k0_t2_loop (grid0.coords t)).trips = 0 :=
  (by decide +kernel : ∀ t : Fin grid0.N, (k0_t2_loop (grid0.coords t)).trips = 0)

theorem off9 : ∀ t : Fin cfg0.N, t.val % 16 % 3 = 2 → k0_off9 (grid0.coords t) = ![1536 * (t.val % 16 / 3), 0] :=
  (by decide +kernel : ∀ t : Fin grid0.N, t.val % 16 % 3 = 2 → k0_off9 (grid0.coords t) = ![1536 * (t.val % 16 / 3), 0])

theorem off10 : ∀ t : Fin cfg0.N, t.val % 16 % 3 = 2 → k0_off10 (grid0.coords t) = ![1536 * (t.val % 16 / 3), 128] :=
  (by decide +kernel : ∀ t : Fin grid0.N, t.val % 16 % 3 = 2 → k0_off10 (grid0.coords t) = ![1536 * (t.val % 16 / 3), 128])

theorem off11 : ∀ t : Fin cfg0.N, t.val % 16 % 3 = 2 → k0_off11 (grid0.coords t) = ![1536 * (t.val % 16 / 3), 256] :=
  (by decide +kernel : ∀ t : Fin grid0.N, t.val % 16 % 3 = 2 → k0_off11 (grid0.coords t) = ![1536 * (t.val % 16 / 3), 256])

theorem off12 : ∀ t : Fin cfg0.N, t.val % 16 % 3 = 2 → k0_off12 (grid0.coords t) = ![1536 * (t.val % 16 / 3), 384] :=
  (by decide +kernel : ∀ t : Fin grid0.N, t.val % 16 % 3 = 2 → k0_off12 (grid0.coords t) = ![1536 * (t.val % 16 / 3), 384])

theorem off13 : ∀ t : Fin cfg0.N, t.val % 16 % 3 = 1 → k0_off13 (grid0.coords t) = ![1536 * (t.val % 16 / 3), 0] :=
  (by decide +kernel : ∀ t : Fin grid0.N, t.val % 16 % 3 = 1 → k0_off13 (grid0.coords t) = ![1536 * (t.val % 16 / 3), 0])

theorem off14 : ∀ t : Fin cfg0.N, t.val % 16 % 3 = 1 → k0_off14 (grid0.coords t) = ![1536 * (t.val % 16 / 3), 128] :=
  (by decide +kernel : ∀ t : Fin grid0.N, t.val % 16 % 3 = 1 → k0_off14 (grid0.coords t) = ![1536 * (t.val % 16 / 3), 128])

theorem off15 : ∀ t : Fin cfg0.N, t.val % 16 % 3 = 1 → k0_off15 (grid0.coords t) = ![1536 * (t.val % 16 / 3), 256] :=
  (by decide +kernel : ∀ t : Fin grid0.N, t.val % 16 % 3 = 1 → k0_off15 (grid0.coords t) = ![1536 * (t.val % 16 / 3), 256])

theorem off16 : ∀ t : Fin cfg0.N, t.val % 16 % 3 = 1 → k0_off16 (grid0.coords t) = ![1536 * (t.val % 16 / 3), 384] :=
  (by decide +kernel : ∀ t : Fin grid0.N, t.val % 16 % 3 = 1 → k0_off16 (grid0.coords t) = ![1536 * (t.val % 16 / 3), 384])

theorem off17 : ∀ t : Fin cfg0.N, k0_off17 (grid0.coords t) = ![1536 * (t.val % 16 / 3) + 512 * (t.val % 16 % 3), 0] :=
  (by decide +kernel : ∀ t : Fin grid0.N, k0_off17 (grid0.coords t) = ![1536 * (t.val % 16 / 3) + 512 * (t.val % 16 % 3), 0])

theorem off18 : ∀ t : Fin cfg0.N, k0_off18 (grid0.coords t) = ![1536 * (t.val % 16 / 3) + 512 * (t.val % 16 % 3), 128] :=
  (by decide +kernel : ∀ t : Fin grid0.N, k0_off18 (grid0.coords t) = ![1536 * (t.val % 16 / 3) + 512 * (t.val % 16 % 3), 128])

theorem off19 : ∀ t : Fin cfg0.N, k0_off19 (grid0.coords t) = ![1536 * (t.val % 16 / 3) + 512 * (t.val % 16 % 3), 256] :=
  (by decide +kernel : ∀ t : Fin grid0.N, k0_off19 (grid0.coords t) = ![1536 * (t.val % 16 / 3) + 512 * (t.val % 16 % 3), 256])

theorem off20 : ∀ t : Fin cfg0.N, k0_off20 (grid0.coords t) = ![1536 * (t.val % 16 / 3) + 512 * (t.val % 16 % 3), 384] :=
  (by decide +kernel : ∀ t : Fin grid0.N, k0_off20 (grid0.coords t) = ![1536 * (t.val % 16 / 3) + 512 * (t.val % 16 % 3), 384])

theorem idx0 : ∀ t : Fin cfg0.N, win0_0.index t = ![t.val, 0] :=
  (by decide +kernel : ∀ t : Fin grid0.N, win0_0.index t = ![t.val, 0])
theorem idx1 : ∀ t : Fin cfg0.N, win0_1.index t = ![t.val / 16, 0] :=
  (by decide +kernel : ∀ t : Fin grid0.N, win0_1.index t = ![t.val / 16, 0])
theorem idx2 : ∀ t : Fin cfg0.N, win0_2.index t = ![t.val / 16, 0] :=
  (by decide +kernel : ∀ t : Fin grid0.N, win0_2.index t = ![t.val / 16, 0])
theorem idx3 : ∀ t : Fin cfg0.N, win0_3.index t = ![t.val, 0] :=
  (by decide +kernel : ∀ t : Fin grid0.N, win0_3.index t = ![t.val, 0])

set_option backward.isDefEq.respectTransparency false in
theorem blkQ (c : Dev nD) (t : Fin cfg0.N) (r d : Fin 512) (X : FVec Ideal S16384x512 .bf16) (hX : V m c main_v24 = X) :
    (iblk m c 0 t : FVec Ideal S512x512 .bf16) (ix2 r d) = X (ix2 ⟨512 * t.val + r.val, by have : t.val < 32 := t.isLt; omega⟩ d) := by
  rw [← hX]
  blk_ext [iblk, V, idx0 t]

set_option backward.isDefEq.respectTransparency false in
theorem blkK (c : Dev nD) (t : Fin cfg0.N) (r : Fin 8192) (d : Fin 512) (X : FVec Ideal S16384x512 .bf16) (hX : V m c main_v29 = X) :
    (iblk m c 1 t : FVec Ideal S8192x512 .bf16) (ix2 r d) = X (ix2 ⟨8192 * (t.val / 16) + r.val, by have : t.val < 32 := t.isLt; omega⟩ d) := by
  rw [← hX]
  blk_ext [iblk, V, idx1 t]

set_option backward.isDefEq.respectTransparency false in
theorem blkV (c : Dev nD) (t : Fin cfg0.N) (r : Fin 8192) (d : Fin 512) (X : FVec Ideal S16384x512 .bf16) (hX : V m c main_v32 = X) :
    (iblk m c 2 t : FVec Ideal S8192x512 .bf16) (ix2 r d) = X (ix2 ⟨8192 * (t.val / 16) + r.val, by have : t.val < 32 := t.isLt; omega⟩ d) := by
  rw [← hX]
  blk_ext [iblk, V, idx2 t]

/-! ## One query row of the whole arrays -/

/-- The score of key `j` for query row `s` of batch `b` and head `h`, in the binary unit; minus infinity above the
    diagonal. -/
def rowScore (Q K : S16384x512.Idx → EReal) (b : Fin 2) (s : Fin 8192) (h : Fin 4) (j : ℕ) : EReal :=
  if hj : j < 8192 then
    if j ≤ s.val then ∑ d : Fin 128, Q (ix2 (mrow b s) (hcol h d)) * K (ix2 (mrow b ⟨j, hj⟩) (hcol h d)) else ⊥
  else ⊥

/-- The value of key `j` of batch `b` and head `h`, lane by lane. -/
def rowValue (V : S16384x512.Idx → EReal) (b : Fin 2) (h : Fin 4) (j : ℕ) (l : Fin 128) : EReal :=
  if hj : j < 8192 then V (ix2 (mrow b ⟨j, hj⟩) (hcol h l)) else 0

/-- The batch of a grid point. -/
def pbatch (t : Fin cfg0.N) : Fin 2 := ⟨t.val / 16, by have : t.val < 32 := t.isLt; omega⟩

/-- The query row of a grid point's row. -/
def prow (t : Fin cfg0.N) (r : Fin 512) : Fin 8192 := ⟨512 * (t.val % 16) + r.val, by omega⟩

/-- What the call leaves at a row, a head and a lane. -/
def attended (Q K V : S16384x512.Idx → EReal) (b : Fin 2) (s : Fin 8192) (h : Fin 4) (l : Fin 64) : EReal :=
  mean (rowScore Q K b s h) (rowValue V b h) 8192 (vlane l)

variable {m}

theorem score_rowScore {c : Dev nD} {Q K : FVec Ideal S16384x512 .bf16} (hQ : V m c main_v24 = Q) (hK : V m c main_v29 = K)
    (t : Fin cfg0.N) (n : ℕ) (hn : n = 512 * (t.val % 16)) (h : Fin 4) (r : Fin 512) :
    score (iblk m c 0 t : FVec Ideal S512x512 .bf16) (iblk m c 1 t : FVec Ideal S8192x512 .bf16) n h r
      = rowScore Q K (pbatch t) (prow t r) h := by
  have e : (⟨512 * t.val + r.val, by have : t.val < 32 := t.isLt; omega⟩ : Fin 16384) = mrow (pbatch t) (prow t r) :=
    Fin.ext (show 512 * t.val + r.val = 8192 * (t.val / 16) + (512 * (t.val % 16) + r.val) by omega)
  funext j
  unfold score rowScore
  refine dite_congr rfl (fun hj => ?_) fun _ => rfl
  refine if_congr (by rw [hn]; rfl) (Finset.sum_congr rfl fun d _ => ?_) rfl
  rw [blkQ m c t r _ Q hQ, blkK m c t _ _ K hK, e]
  rfl

theorem value_rowValue {c : Dev nD} {W : FVec Ideal S16384x512 .bf16} (hV : V m c main_v32 = W)
    (t : Fin cfg0.N) (h : Fin 4) :
    value (iblk m c 2 t : FVec Ideal S8192x512 .bf16) h = rowValue W (pbatch t) h := by
  funext j l
  unfold value rowValue
  refine dite_congr rfl (fun hj => ?_) fun _ => rfl
  rw [blkV m c t _ _ W hV]
  rfl

/-- The keys past the diagonal block change nothing. -/
theorem mean_all (Q K W : S16384x512.Idx → EReal) (t : Fin cfg0.N) (h : Fin 4) (r : Fin 512) (l : Fin 64) (n : ℕ)
    (hn : n = 512 * (t.val % 16) + 512) :
    mean (rowScore Q K (pbatch t) (prow t r) h) (rowValue W (pbatch t) h) n (vlane l)
      = attended Q K W (pbatch t) (prow t r) h l := by
  refine (mean_masked _ _ _ _ (by omega) (fun k hk hk' => ?_) _).symm
  unfold rowScore
  rw [dif_pos hk', if_neg]
  show ¬ k ≤ 512 * (t.val % 16) + r.val
  omega

section
variable {c : Dev nD} {Q K W : FVec Ideal S16384x512 .bf16} (hQ : V m c main_v24 = Q) (hK : V m c main_v29 = K)
  (hV : V m c main_v32 = W) (rQ : ∀ y, IsReal (Q y)) (rK : ∀ y, IsReal (K y))
  (oV : ∀ b s h (l : Fin 128), 64 ≤ l.val → W (ix2 (mrow b s) (hcol h l)) = (1 : EReal))
include hQ hK hV rQ rK oV

theorem real_blkQ (t : Fin cfg0.N) (y : S512x512.Idx) : IsReal ((iblk m c 0 t : FVec Ideal S512x512 .bf16) y) := by
  idx_vars y
  rw [blkQ m c t _ _ Q hQ]
  exact rQ _

theorem real_blkK (t : Fin cfg0.N) (y : S8192x512.Idx) : IsReal ((iblk m c 1 t : FVec Ideal S8192x512 .bf16) y) := by
  idx_vars y
  rw [blkK m c t _ _ K hK]
  exact rK _

theorem one_blkV (t : Fin cfg0.N) (k : Fin 8192) (h : Fin 4) (l : Fin 128) (hl : 64 ≤ l.val) :
    (iblk m c 2 t : FVec Ideal S8192x512 .bf16) (ix2 k (hcol h l)) = (1 : EReal) := by
  rw [blkV m c t _ _ W hV]
  exact oV (pbatch t) k h l hl

theorem point_A (t : Fin cfg0.N) (h0 : ¬(t.val % 16 = 2 ∨ t.val % 16 = 5 ∨ t.val % 16 = 8 ∨ t.val % 16 = 11 ∨ t.val % 16 = 14))
    (h1 : ¬(t.val % 16 = 1 ∨ t.val % 16 = 4 ∨ t.val % 16 = 7 ∨ t.val % 16 = 10 ∨ t.val % 16 = 13))
    (r : Fin 512) (h : Fin 4) (l : Fin 64) :
    (outsAt0 m c t.val t.isLt : FVec Ideal S512x256 .f32) (ix2 r (ocol h l)) = attended Q K W (pbatch t) (prow t r) h l := by
  have hm : t.val % 16 % 3 = 0 := by omega
  have hd : 1536 * (t.val % 16 / 3) + 0 = 512 * (t.val % 16) := by omega
  have o17 := off17 t
  have o18 := off18 t
  have o19 := off19 t
  have o20 := off20 t
  rw [show 1536 * (t.val % 16 / 3) + 512 * (t.val % 16 % 3) = 1536 * (t.val % 16 / 3) + 0 by rw [hm]] at o17 o18 o19 o20
  rw [outsAt0_A m c t h0 h1]
  refine (outA_mean c (grid0.coords t) (ms0_0 t) (hs0_0 t) (ms0_1 t) (hs0_1 t) (ms0_2 t) (hs0_2 t) (ms0_3 t) (hs0_3 t)
    scM0_0 (Memref.isWhole_whole _) scM0_1 (Memref.isWhole_whole _) (fun h => h0 ((hcond0_0 t).mp h)) (fun h => h1 ((hcond0_1 t).mp h))
    (iblk m c 0 t) (iblk m c 1 t) (iblk m c 2 t) ?_ ?_ (1536 * (t.val % 16 / 3)) (by omega) (trips1 t) (trips2 t)
    o17 o18 o19 o20 ?_ r h l).trans ?_
  · intro y
    rw [(hs0_0 t).read_unread]
    exact real_blkQ hQ hK hV rQ rK oV t y
  · intro y
    rw [(hs0_1 t).read_unread]
    exact real_blkK hQ hK hV rQ rK oV t y
  · intro k h l hl
    rw [(hs0_2 t).read_unread]
    exact one_blkV hQ hK hV rQ rK oV t k h l hl
  · rw [(hs0_0 t).read_unread, (hs0_1 t).read_unread, (hs0_2 t).read_unread]
    refine (congrArg₂ (fun a b => mean a b (1536 * (t.val % 16 / 3) + 0 + 512) (vlane l))
      (score_rowScore hQ hK t _ hd h r) (value_rowValue hV t h)).trans ?_
    exact mean_all Q K W t h r l _ (by omega)

theorem point_B (t : Fin cfg0.N) (h0 : ¬(t.val % 16 = 2 ∨ t.val % 16 = 5 ∨ t.val % 16 = 8 ∨ t.val % 16 = 11 ∨ t.val % 16 = 14))
    (h1 : (t.val % 16 = 1 ∨ t.val % 16 = 4 ∨ t.val % 16 = 7 ∨ t.val % 16 = 10 ∨ t.val % 16 = 13))
    (r : Fin 512) (h : Fin 4) (l : Fin 64) :
    (outsAt0 m c t.val t.isLt : FVec Ideal S512x256 .f32) (ix2 r (ocol h l)) = attended Q K W (pbatch t) (prow t r) h l := by
  have hm : t.val % 16 % 3 = 1 := by omega
  have hd : 1536 * (t.val % 16 / 3) + 512 = 512 * (t.val % 16) := by omega
  have o17 := off17 t
  have o18 := off18 t
  have o19 := off19 t
  have o20 := off20 t
  rw [show 1536 * (t.val % 16 / 3) + 512 * (t.val % 16 % 3) = 1536 * (t.val % 16 / 3) + 512 by rw [hm]] at o17 o18 o19 o20
  rw [outsAt0_B m c t h0 h1]
  refine (outB_mean c (grid0.coords t) (ms0_0 t) (hs0_0 t) (ms0_1 t) (hs0_1 t) (ms0_2 t) (hs0_2 t) (ms0_3 t) (hs0_3 t)
    scM0_0 (Memref.isWhole_whole _) scM0_1 (Memref.isWhole_whole _) (fun h => h0 ((hcond0_0 t).mp h)) ((hcond0_1 t).mpr h1)
    (iblk m c 0 t) (iblk m c 1 t) (iblk m c 2 t) ?_ ?_ (1536 * (t.val % 16 / 3)) (by omega) (trips1 t) (trips2 t)
    (off13 t hm) (off14 t hm) (off15 t hm) (off16 t hm) o17 o18 o19 o20 ?_ r h l).trans ?_
  · intro y
    rw [(hs0_0 t).read_unread]
    exact real_blkQ hQ hK hV rQ rK oV t y
  · intro y
    rw [(hs0_1 t).read_unread]
    exact real_blkK hQ hK hV rQ rK oV t y
  · intro k h l hl
    rw [(hs0_2 t).read_unread]
    exact one_blkV hQ hK hV rQ rK oV t k h l hl
  · rw [(hs0_0 t).read_unread, (hs0_1 t).read_unread, (hs0_2 t).read_unread]
    refine (congrArg₂ (fun a b => mean a b (1536 * (t.val % 16 / 3) + 512 + 512) (vlane l))
      (score_rowScore hQ hK t _ hd h r) (value_rowValue hV t h)).trans ?_
    exact mean_all Q K W t h r l _ (by omega)

theorem point_C (t : Fin cfg0.N) (h0 : (t.val % 16 = 2 ∨ t.val % 16 = 5 ∨ t.val % 16 = 8 ∨ t.val % 16 = 11 ∨ t.val % 16 = 14))
    (h1 : ¬(t.val % 16 = 1 ∨ t.val % 16 = 4 ∨ t.val % 16 = 7 ∨ t.val % 16 = 10 ∨ t.val % 16 = 13))
    (r : Fin 512) (h : Fin 4) (l : Fin 64) :
    (outsAt0 m c t.val t.isLt : FVec Ideal S512x256 .f32) (ix2 r (ocol h l)) = attended Q K W (pbatch t) (prow t r) h l := by
  have hm : t.val % 16 % 3 = 2 := by omega
  have hd : 1536 * (t.val % 16 / 3) + 1024 = 512 * (t.val % 16) := by omega
  have o17 := off17 t
  have o18 := off18 t
  have o19 := off19 t
  have o20 := off20 t
  rw [show 1536 * (t.val % 16 / 3) + 512 * (t.val % 16 % 3) = 1536 * (t.val % 16 / 3) + 1024 by rw [hm]] at o17 o18 o19 o20
  rw [outsAt0_C m c t h0 h1]
  refine (outC_mean c (grid0.coords t) (ms0_0 t) (hs0_0 t) (ms0_1 t) (hs0_1 t) (ms0_2 t) (hs0_2 t) (ms0_3 t) (hs0_3 t)
    scM0_0 (Memref.isWhole_whole _) scM0_1 (Memref.isWhole_whole _) ((hcond0_0 t).mpr h0) (fun h => h1 ((hcond0_1 t).mp h))
    (iblk m c 0 t) (iblk m c 1 t) (iblk m c 2 t) ?_ ?_ (1536 * (t.val % 16 / 3)) (by omega) (trips1 t) (trips2 t)
    (off9 t hm) (off10 t hm) (off11 t hm) (off12 t hm) o17 o18 o19 o20 ?_ r h l).trans ?_
  · intro y
    rw [(hs0_0 t).read_unread]
    exact real_blkQ hQ hK hV rQ rK oV t y
  · intro y
    rw [(hs0_1 t).read_unread]
    exact real_blkK hQ hK hV rQ rK oV t y
  · intro k h l hl
    rw [(hs0_2 t).read_unread]
    exact one_blkV hQ hK hV rQ rK oV t k h l hl
  · rw [(hs0_0 t).read_unread, (hs0_1 t).read_unread, (hs0_2 t).read_unread]
    refine (congrArg₂ (fun a b => mean a b (1536 * (t.val % 16 / 3) + 1024 + 512) (vlane l))
      (score_rowScore hQ hK t _ hd h r) (value_rowValue hV t h)).trans ?_
    exact mean_all Q K W t h r l _ (by omega)

/-- The result's block of a grid point. -/
theorem point (t : Fin cfg0.N) (r : Fin 512) (h : Fin 4) (l : Fin 64) :
    (outsAt0 m c t.val t.isLt : FVec Ideal S512x256 .f32) (ix2 r (ocol h l)) = attended Q K W (pbatch t) (prow t r) h l := by
  by_cases h0 : (t.val % 16 = 2 ∨ t.val % 16 = 5 ∨ t.val % 16 = 8 ∨ t.val % 16 = 11 ∨ t.val % 16 = 14)
  · exact point_C hQ hK hV rQ rK oV t h0 (by omega) r h l
  · by_cases h1 : (t.val % 16 = 1 ∨ t.val % 16 = 4 ∨ t.val % 16 = 7 ∨ t.val % 16 = 10 ∨ t.val % 16 = 13)
    · exact point_B hQ hK hV rQ rK oV t h0 h1 r h l
    · exact point_A hQ hK hV rQ rK oV t h0 h1 r h l

/-- The result array: each row, head and lane by itself. -/
def whole (Q K W : S16384x512.Idx → EReal) : S16384x256.Idx → EReal := fun y =>
  attended Q K W ⟨(y 0).val / 8192, by have : (y 0).val < 16384 := (y 0).isLt; omega⟩
    ⟨(y 0).val % 8192, Nat.mod_lt _ (by norm_num)⟩
    ⟨(y 1).val / 64, by have : (y 1).val < 256 := (y 1).isLt; omega⟩ ⟨(y 1).val % 64, Nat.mod_lt _ (by norm_num)⟩

theorem result : ((dats m 0 c).arrAt 3 cfg0.N : FVec Ideal S16384x256 .f32) = whole Q K W := by
  refine Pipeline.Dat.arrAt_eq_of_covers (dats m 0 c) 3 (whole Q K W) (by decide +kernel) fun t hf y => ?_
  blk_simp
  rw [after0_3]
  idx_vars y
  have hy : (ix2 y0 y1 : S512x256.Idx) = ix2 y0 (ocol ⟨y1.val / 64, by omega⟩ ⟨y1.val % 64, by omega⟩) := by
    congr 1
    exact Fin.ext (show y1.val = 64 * (y1.val / 64) + y1.val % 64 by omega)
  refine ((congrArg _ hy).trans (point hQ hK hV rQ rK oV t y0 _ _)).trans ?_
  have ht : t.val < 32 := t.isLt
  have ez : whole Q K W (ix2 ⟨512 * t.val + y0.val, by omega⟩ y1)
      = whole Q K W (((View.whole main_v33).slice (win0_3.rect t)).emb (ix2 y0 y1)) := by
    blk_ext [idx3 t]
  refine Eq.trans ?_ ez
  unfold whole
  congr 1
  · exact Fin.ext (show t.val / 16 = (512 * t.val + y0.val) / 8192 by omega)
  · exact Fin.ext (show 512 * (t.val % 16) + y0.val = (512 * t.val + y0.val) % 8192 by omega)
end
end Fox
end
end
-- ==== Proof.FoxReference.lean ====
module

public import proofs.«01_k».proof.Proof.FoxArray
public import proofs.«01_k».proof.Proof.Reference
public import proofs.«01_k».proof.Proof.Gen.Reference3Ideal.Read
public import Idealize.ShloMosaic.PureOps.Reduce
public import Idealize.ShloMosaic.PureOps.Ideal.Laws
public import Idealize.ShloMosaic.Lib.Affine
public import Idealize.ShloMosaic.Lib.Pointwise

/-! # The forgetting heads: the reference, one result at a time

Its masked logits with the difference of two running log gates, in the natural unit, its row maximum (of which only that it is a real number matters), its
probabilities and its mean. -/

@[expose] public section
set_option maxRecDepth 16384
noncomputable section
open Idealize.ShloMosaic Idealize.ShloMosaic.TcCoe Idealize.SL.Sem
namespace Fox
open Cert.Reference3Ideal Cert.Reference3Ideal.Gen Cert.Reference3Ideal.Read Attn

/-- The reference's logit of key `j` for query row `s`. -/
def natLogit (q k : FVec Ideal S2x8192x4x64 .f32) (g : FVec Ideal S2x4x8192 .f32) (b : Fin 2) (s : Fin 8192) (h : Fin 4) (j : ℕ) : EReal :=
  if hj : j < 8192 then
    if j ≤ s.val then (∑ d : Fin 64, (q (ix4 b s h d) : EReal) * k (ix4 b ⟨j, hj⟩ h d)) * Ideal.ofBits FTy.f32 1040187392#32
      + g (ix3 b h s) - g (ix3 b h ⟨j, hj⟩) else ⊥
  else ⊥

theorem isReal_logit (q k : FVec Ideal S2x8192x4x64 .f32) (g : FVec Ideal S2x4x8192 .f32) (hq : ∀ i, IsReal (q i))
    (hk : ∀ i, IsReal (k i)) (hg : ∀ i, IsReal (g i)) (b : Fin 2) (s j : Fin 8192) (h : Fin 4) :
    IsReal ((∑ d : Fin 64, (q (ix4 b s h d) : EReal) * k (ix4 b j h d)) * Ideal.ofBits FTy.f32 1040187392#32
      + g (ix3 b h s) - g (ix3 b h j)) := by
  obtain ⟨r, _, h2⟩ := dot_logit q k g hq hk hg b s j h
  exact ⟨_, h2⟩

theorem logit_apply (q k : FVec Ideal S2x8192x4x64 .f32) (g : FVec Ideal S2x4x8192 .f32) (b : Fin 2) (h : Fin 4) (s j : Fin 8192) :
    val_main_v15 (F := Ideal) q k g (ix4 b h s j) = natLogit q k g b s h j.val := by
  rw [val_main_v15_apply, val_main_call0_v1_apply, val_main_v14_apply, val_main_v12_apply, val_main_v13_apply, val_main_v10_apply,
    val_main_v11_apply, val_main_v9_apply, val_main_v9_apply, val_main_call0_v2_apply, val_main_call0_v0_apply, val_main_cst_0_apply]
  unfold natLogit
  rw [dif_pos j.isLt]
  show Scalar.select (IntOp.cmpi .sle (BitVec.ofNat 32 j.val) (BitVec.ofNat 32 s.val)) _ _ = _
  by_cases hjs : j.val ≤ s.val
  · rw [(Attn.causal s j).mpr hjs, if_pos hjs]
    show val_main_v8 (F := Ideal) q k g (ix4 b h s j) = _
    rw [val_main_v8_apply, val_main_v5_apply, val_main_v4_apply, val_main_v3_apply, val_main_v7_apply, val_main_v6_apply, val_main_v2_apply,
      val_main_v0_apply, val_main_v1_apply, val_main_cst_apply,
      show idx_main_v3 (idx_main_v4 (ix4 b h s j)) = ix3 b h s from (funext fun a => by match a with | ⟨0, _⟩ => rfl | ⟨1, _⟩ => rfl | ⟨2, _⟩ => rfl),
      show idx_main_v6 (idx_main_v7 (ix4 b h s j)) = ix3 b h j from (funext fun a => by match a with | ⟨0, _⟩ => rfl | ⟨1, _⟩ => rfl | ⟨2, _⟩ => rfl)]
    refine congrArg (fun z : EReal => z * Ideal.ofBits FTy.f32 1040187392#32 + g (ix3 b h s) - g (ix3 b h j)) (Finset.sum_congr rfl fun d _ => ?_)
    exact congrArg₂ (fun z w => (q z : EReal) * k w)
      (show lidx_main_v0 (ix4 b h s j) d = ix4 b s h d from (funext fun a => by match a with | ⟨0, _⟩ => rfl | ⟨1, _⟩ => rfl | ⟨2, _⟩ => rfl | ⟨3, _⟩ => rfl))
      (show ridx_main_v0 (ix4 b h s j) d = ix4 b ⟨j.val, j.isLt⟩ h d from (funext fun a => by match a with | ⟨0, _⟩ => rfl | ⟨1, _⟩ => rfl | ⟨2, _⟩ => rfl | ⟨3, _⟩ => rfl))
  · rw [if_neg hjs]
    have : IntOp.cmpi .sle (BitVec.ofNat 32 j.val) (BitVec.ofNat 32 s.val) = 0#1 := by
      have := (Attn.causal s j).not.mpr hjs
      generalize IntOp.cmpi .sle (BitVec.ofNat 32 j.val) (BitVec.ofNat 32 s.val) = z at this
      revert this; revert z; decide
    rw [this]
    exact Blocks.ofBits_bot

theorem logit_logit (q k : FVec Ideal S2x8192x4x64 .f32) (g : FVec Ideal S2x4x8192 .f32) (hq : ∀ i, IsReal (q i)) (hk : ∀ i, IsReal (k i)) (hg : ∀ i, IsReal (g i))
    (b : Fin 2) (s : Fin 8192) (h : Fin 4) (j : ℕ) : Logit (natLogit q k g b s h j) := by
  unfold natLogit
  split
  · split
    · exact Or.inr (isReal_logit q k g hq hk hg _ _ _ _)
    · exact Or.inl rfl
  · exact Or.inl rfl

theorem max_real (q k : FVec Ideal S2x8192x4x64 .f32) (g : FVec Ideal S2x4x8192 .f32) (hq : ∀ i, IsReal (q i)) (hk : ∀ i, IsReal (k i)) (hg : ∀ i, IsReal (g i))
    (b : Fin 2) (h : Fin 4) (s : Fin 8192) : IsReal (val_main_v18 (F := Ideal) q k g (ix3 b h s)) := by
  rw [val_main_v18_apply, val_main_v17_apply, val_main_cst_2_apply]
  unfold val_main_v16
  rw [Host.reduce_eq_fold]
  have hdrop : reducesTo_S2x4x8192x8192_S2x4x8192_d3.drop (ix4 b h s (0 : Fin 8192)) = ix3 b h s :=
    (funext fun a => by match a with | ⟨0, _⟩ => rfl | ⟨1, _⟩ => rfl | ⟨2, _⟩ => rfl)
  have hb : val_main_cst_1 (F := Ideal) (Shape.Idx.first h_S_) = (⊥ : EReal) := Blocks.ofBits_bot
  rw [hb]
  have key : IsReal (Finset.fold Max.max (⊥ : EReal) (val_main_v15 (F := Ideal) q k g)
      (Finset.univ.filter fun i => reducesTo_S2x4x8192x8192_S2x4x8192_d3.drop i = ix3 b h s)) := by
    refine isReal_fold _ _ (fun i _ => ?_) (ix4 b h s (0 : Fin 8192)) (Finset.mem_filter.mpr ⟨Finset.mem_univ _, hdrop⟩) ?_
    · idx_vars i
      rw [logit_apply]
      exact logit_logit q k g hq hk hg _ _ _ _
    · rw [logit_apply]
      unfold natLogit
      rw [dif_pos (0 : Fin 8192).isLt, if_pos (show (0 : Fin 8192).val ≤ s.val from Nat.zero_le _)]
      exact isReal_logit q k g hq hk hg _ _ _ _
  have := IsReal.max_logit key (Or.inl Blocks.ofBits_bot : Logit (Ideal.ofBits FTy.f32 4286578688#32))
  rw [max_comm] at this
  exact this

theorem prob_apply (q k : FVec Ideal S2x8192x4x64 .f32) (g : FVec Ideal S2x4x8192 .f32) (b : Fin 2) (h : Fin 4) (s j : Fin 8192) :
    val_main_v26 (F := Ideal) q k g (ix4 b h s j)
      = Ideal.div (Ideal.exp (natLogit q k g b s h j.val - val_main_v18 (F := Ideal) q k g (ix3 b h s)))
          (∑ j' : Fin 8192, Ideal.exp (natLogit q k g b s h j'.val - val_main_v18 (F := Ideal) q k g (ix3 b h s))) := by
  have e : ∀ j, val_main_v22 (F := Ideal) q k g (ix4 b h s j)
      = Ideal.exp (natLogit q k g b s h j.val - val_main_v18 (F := Ideal) q k g (ix3 b h s)) := fun j => by
    rw [val_main_v22_apply, val_main_v21_apply, val_main_v20_apply, val_main_v19_apply, logit_apply]
    rw [show idx_main_v19 (idx_main_v20 (ix4 b h s j)) = ix3 b h s from (funext fun a => by match a with | ⟨0, _⟩ => rfl | ⟨1, _⟩ => rfl | ⟨2, _⟩ => rfl)]
    rfl
  rw [val_main_v26_apply, val_main_v25_apply, val_main_v24_apply, val_main_v23_apply, e]
  have e0 : val_main_cst_3 (F := Ideal) (Shape.Idx.first h_S_) = (0 : EReal) := by
    show Ideal.ofBits FTy.f32 0#32 = 0
    simp [Ideal.ofBits, Ideal.ieee]
  rw [e0, zero_add]
  refine congrArg (Ideal.div _) (Finset.sum_congr rfl fun j' _ => ?_)
  rw [show idx_main_v23 (idx_main_v24 (idx_main_v25 (ix4 b h s j))) j' = ix4 b h s j' from (funext fun a => by match a with | ⟨0, _⟩ => rfl | ⟨1, _⟩ => rfl | ⟨2, _⟩ => rfl | ⟨3, _⟩ => rfl)]
  exact e j'

theorem ref_apply (q k : FVec Ideal S2x8192x4x64 .f32) (g : FVec Ideal S2x4x8192 .f32) (v : FVec Ideal S2x8192x4x64 .f32) (y : S16384x256.Idx)
    (b : Fin 2) (s : Fin 8192) (h : Fin 4) (l : Fin 64) (hb : b.val = (y 0).val / 8192) (hs : s.val = (y 0).val % 8192)
    (hh : h.val = (y 1).val / 64) (hl : l.val = (y 1).val % 64) :
    val_main_v29 (F := Ideal) q k v g y = ∑ j : Fin 8192, val_main_v26 (F := Ideal) q k g (ix4 b h s j) * v (ix4 b j h l) := by
  have h0 : (y 0).val < 16384 := (y 0).isLt
  have h1 : (y 1).val < 256 := (y 1).isLt
  rw [val_main_v29_apply]
  have e : idx_main_v29 y = ix4 b s h l := by
    funext a
    match a with
    | ⟨0, _⟩ => exact Fin.ext (show ((y 0).val * 256 + (y 1).val) / 2097152 = b.val by omega)
    | ⟨1, _⟩ => exact Fin.ext (show ((y 0).val * 256 + (y 1).val) / 256 % 8192 = s.val by omega)
    | ⟨2, _⟩ => exact Fin.ext (show ((y 0).val * 256 + (y 1).val) / 64 % 4 = h.val by omega)
    | ⟨3, _⟩ => exact Fin.ext (show ((y 0).val * 256 + (y 1).val) % 64 = l.val by omega)
  rw [e, val_main_v28_apply, val_main_v27_apply]
  refine Finset.sum_congr rfl fun j _ => ?_
  rw [mul_comm]
  exact congrArg₂ (fun z w => val_main_v26 (F := Ideal) q k g z * (v w : EReal))
    (show ridx_main_v27 (idx_main_v28 (ix4 b s h l)) j = ix4 b h s j from (funext fun a => by match a with | ⟨0, _⟩ => rfl | ⟨1, _⟩ => rfl | ⟨2, _⟩ => rfl | ⟨3, _⟩ => rfl))
    (show lidx_main_v27 (idx_main_v28 (ix4 b s h l)) j = ix4 b j h l from (funext fun a => by match a with | ⟨0, _⟩ => rfl | ⟨1, _⟩ => rfl | ⟨2, _⟩ => rfl | ⟨3, _⟩ => rfl))
/-- THE REFERENCE'S RESULT is the mean the call leaves, once queries, keys and gates are real numbers. -/
theorem ref_attended (q k : FVec Ideal S2x8192x4x64 .f32) (g : FVec Ideal S2x4x8192 .f32) (v : FVec Ideal S2x8192x4x64 .f32)
    (hq : ∀ i, IsReal (q i)) (hk : ∀ i, IsReal (k i)) (hg : ∀ i, IsReal (g i)) (b : Fin 2) (s : Fin 8192) (h : Fin 4) (l : Fin 64) :
    ∑ j : Fin 8192, (val_main_v26 (F := Ideal) q k g (ix4 b h s j) : EReal) * v (ix4 b j h l)
      = attended (hostQ q g) (hostK k g) (hostV v) b s h l := by
  unfold attended
  rw [← softmax_eq_mean 8192 (rowScore (hostQ q g) (hostK k g) b s h) (natLogit q k g b s h) (rowValue (hostV v) b h) ?_ 0 (by norm_num) ?_
    (val_main_v18 (F := Ideal) q k g (ix3 b h s)) (max_real q k g hq hk hg b h s) (vlane l)]
  · refine Finset.sum_congr rfl fun j _ => ?_
    rw [prob_apply]
    congr 1
    unfold rowValue
    rw [dif_pos j.isLt, hostV_apply]
    refine Eq.trans ?_ (dif_pos (c := (vlane l).val < 64) l.isLt).symm
    rfl
  · intro j hj
    obtain ⟨r, h1, h2⟩ := dot_logit q k g hq hk hg b s ⟨j, hj⟩ h
    unfold rowScore natLogit
    rw [dif_pos hj, dif_pos hj]
    by_cases hjs : j ≤ s.val
    · rw [if_pos hjs, if_pos hjs]
      exact Or.inr ⟨r, h1, h2⟩
    · rw [if_neg hjs, if_neg hjs]
      exact Or.inl ⟨rfl, rfl⟩
  · obtain ⟨r, h1, h2⟩ := dot_logit q k g hq hk hg b s 0 h
    unfold rowScore
    rw [dif_pos (by norm_num), if_pos (Nat.zero_le _)]
    exact ⟨r, h1⟩
end Fox
end
end
-- ==== Proof.FoxValue.lean ====
module

public import proofs.«01_k».proof.Proof.FoxReference
public import proofs.«01_k».proof.Proof.Value
public import proofs.«01_k».proof.Defs
public import proofs.«01_k».proof.Proof.Gen.Pre_finite_gates

/-! # The forgetting heads: kernel and reference end with one result

The precondition makes queries, keys and running log gates real numbers; the call's result array and the reference's are
then the same mean, row by row. -/

@[expose] public section
set_option maxRecDepth 16384
noncomputable section
open Idealize.ShloMosaic Idealize.ShloMosaic.TcCoe Idealize.SL.Sem
namespace Fox
open Attn (IsReal isReal_of_abs and_one)

theorem real_of_pre (q k v : FVec Ideal Cert.Pre_finite_gates.S2x8192x4x64 .f32) (g : FVec Ideal Cert.Pre_finite_gates.S2x4x8192 .f32)
    (h : Cert.Pre_finite_gates.fn (F := Ideal) q k v g = fun _ => 1#1) :
    (∀ i, IsReal (q i)) ∧ (∀ i, IsReal (k i)) ∧ ∀ i, IsReal (g i) := by
  refine ⟨fun i => ?_, fun i => ?_, fun i => ?_⟩
  · exact isReal_of_abs _ (and_one (and_one (congrFun h i)).1).1
  · exact isReal_of_abs _ (and_one (and_one (congrFun h i)).1).2
  · idx_vars i
    have h1 := (and_one (congrFun h (ix4 i0 i2 i1 (0 : Fin 64)))).2
    refine isReal_of_abs _ ?_
    have e : (broadcastInDim Cert.Pre_finite_gates.S2x8192x4x64 ![0, 1, 2, 3]
        Cert.Pre_finite_gates.Facts.bcast_S2x8192x4x1_S2x8192x4x64_0_1_2_3
        (broadcastInDim Cert.Pre_finite_gates.S2x8192x4x1 ![0, 1, 2]
          Cert.Pre_finite_gates.Facts.bcast_S2x8192x4_S2x8192x4x1_0_1_2
          (transpose Cert.Pre_finite_gates.S2x8192x4 [0, 2, 1] g
            Cert.Pre_finite_gates.Facts.transposes_S2x4x8192_S2x8192x4_0_2_1))) (ix4 i0 i2 i1 (0 : Fin 64)) = g (ix3 i0 i1 i2) := by
      pointwise
    rw [← e]
    exact h1

/-- The two results are one array. -/
theorem results_eq (m : (ℓ : Loc Cert.Kernel3Ideal.nD Cert.Kernel3Ideal.τ Cert.Kernel3Ideal.sig) → Buf (Elt Ideal) ℓ) (c : Dev Cert.Kernel3Ideal.nD)
    (q k v : FVec Ideal Cert.Kernel3Ideal.S2x8192x4x64 .f32) (g : FVec Ideal Cert.Kernel3Ideal.S2x4x8192 .f32)
    (eq : m ((c : Thread Cert.Kernel3Ideal.nD Cert.Kernel3Ideal.τ).loc Cert.Kernel3Ideal.main_arg0) = q)
    (ek : m ((c : Thread Cert.Kernel3Ideal.nD Cert.Kernel3Ideal.τ).loc Cert.Kernel3Ideal.main_arg1) = k)
    (ev : m ((c : Thread Cert.Kernel3Ideal.nD Cert.Kernel3Ideal.τ).loc Cert.Kernel3Ideal.main_arg2) = v)
    (eg : m ((c : Thread Cert.Kernel3Ideal.nD Cert.Kernel3Ideal.τ).loc Cert.Kernel3Ideal.main_arg3) = g)
    (hq : ∀ i, IsReal (q i)) (hk : ∀ i, IsReal (k i)) (hg : ∀ i, IsReal (g i)) :
    (Cert.Reference3Ideal.Read.val_main_v29 (F := Ideal) q k v g : FVec Ideal Cert.Kernel3Ideal.S16384x256 .f32)
      = (Cert.Kernel3Ideal.Gen.dats m 0 c).arrAt 3 Cert.Kernel3Ideal.cfg0.N := by
  refine Eq.trans ?_ (result (Q := hostQ q g) (K := hostK k g) (W := hostV v) ((entryQ m c).trans (congrArg₂ hostQ eq eg))
    ((entryK m c).trans (congrArg₂ hostK ek eg)) ((entryV m c).trans (congrArg hostV ev)) (isReal_hostQ q g hq hg) (isReal_hostK k g hk hg)
    (fun b s h l hl => (hostV_apply v b s h l).trans (dif_neg (by omega)))).symm
  funext y
  refine (ref_apply q k g v y
    ⟨(y 0).val / 8192, by have : (y 0).val < 16384 := (y 0).isLt; omega⟩ ⟨(y 0).val % 8192, Nat.mod_lt _ (by norm_num)⟩
    ⟨(y 1).val / 64, by have : (y 1).val < 256 := (y 1).isLt; omega⟩ ⟨(y 1).val % 64, Nat.mod_lt _ (by norm_num)⟩ rfl rfl rfl rfl).trans ?_
  exact ref_attended q k g v hq hk hg _ _ _ _

end Fox
end
end
-- ==== Proof.InTile.lean ====
module
public import proofs.«01_k».proof.Proof.PostMath
public import proofs.«01_k».proof.Proof.PostState
public import proofs.«01_k».proof.Proof.Gen.Kernel4Ideal.Skeleton
public import Idealize.ShloMosaic.Lib.Pointwise
public import Idealize.ShloMosaic.Lib.VecWindow
public import Idealize.ShloMosaic.PureOps.Reduce
public import Idealize.ShloMosaic.PureOps.Ideal.Laws

/-! # The entering projection, one tile at a time

A row, normed, times a column of weights.  Two groups' results are taken from the product's columns as they stand -/

@[expose] public section
set_option maxRecDepth 16384
noncomputable section
open Idealize.ShloMosaic Idealize.ShloMosaic.TcCoe Idealize.SL.Sem
namespace InState
open Cert.Kernel4Ideal Cert.Kernel4Ideal.Gen

/-- A normed row against a column of weights. -/
def dotRow (x g w : Fin 1024 → EReal) : EReal := ∑ k, Post.rms Post.len1024 x g k * w k

theorem dotRow_congr {x x' g g' w w' : Fin 1024 → EReal} (hx : ∀ k, x k = x' k) (hg : ∀ k, g k = g' k) (hw : ∀ k, w k = w' k) :
    dotRow x g w = dotRow x' g' w' := by
  rw [funext hx, funext hg, funext hw]

/-- The third group's columns of the product. -/
def thirdCol (j : Fin 1024) : Fin 2688 := ⟨1280 + j.val, by omega⟩
/-- The fourth group's. -/
def fourthCol (j : Fin 256) : Fin 2688 := ⟨2304 + j.val, by omega⟩

/-- The product. -/
theorem product (x : Vec Ideal S512x1024 .f32) (g : Vec Ideal S1x1x1024 .f32) (w : Vec Ideal S1x1024x2688 .bf16) (r : Fin 512) (j : Fin 2688) :
    (k0_pay7 (F := Ideal) x g w (ix2 r j) : EReal)
      = dotRow (fun k => x (ix2 r k)) (fun k => g (ix3 (0 : Fin 1) (0 : Fin 1) k)) (fun k => w (ix3 (0 : Fin 1) k j)) := by
  unfold dotRow Post.rms Post.len1024
  pointwise [k0_pay7]

theorem third_of (y : FVec Ideal S512x2688 .f32) (r : Fin 512) (j : Fin 1024) : (k0_pay4 (F := Ideal) y (ix2 r j) : EReal) = y (ix2 r (thirdCol j)) := by
  pointwise [k0_pay4]
  rfl
theorem fourth_of (y : FVec Ideal S512x2688 .f32) (r : Fin 512) (j : Fin 256) : (k0_pay5 (F := Ideal) y (ix2 r j) : EReal) = y (ix2 r (fourthCol j)) := by
  pointwise [k0_pay5]
  rfl

end InState
end
end
-- ==== Proof.InWeights.lean ====
module
public import proofs.«01_k».proof.Proof.InTile

/-! # The weights as the call takes them

The host casts the weights and spreads the columns out, zeros between the groups; the last two groups' columns are moved
as one piece -/

@[expose] public section
set_option maxRecDepth 16384
noncomputable section
open Idealize.ShloMosaic Idealize.ShloMosaic.TcCoe Idealize.SL.Sem
namespace InState
open Cert.Kernel4Ideal Cert.Kernel4Ideal.Gen

/-- A stack of rows as a stack of planes of one row. -/
def gainPlanes (a : FVec Ideal S2x1024 .f32) : FVec Ideal S2x1x1024 .f32 := shapeCast S2x1x1024 a shapeCasts_S2x1024_S2x1x1024

theorem gainPlanes_apply (a : FVec Ideal S2x1024 .f32) (l : Fin 2) (k : Fin 1024) : (gainPlanes a (ix3 l (0 : Fin 1) k) : EReal) = a (ix2 l k) := by
  pointwise [gainPlanes]

/-- The cast weights. -/
def castW (a : FVec Ideal S2x1024x2468 .f32) : FVec Ideal S2x1024x2468 .bf16 := truncf .bf16 a bitsLt_bf16_f32

/-- The weights' columns, spread out. -/
def spread (a : FVec Ideal S2x1024x2468 .f32) : FVec Ideal S2x1024x2688 .bf16 :=
  concatenate S2x1024x2688 2
    [⟨S2x1024x384, extractStridedSlice S2x1024x384 ![0, 0, 0] (castW a) slices_S2x1024x2468_S2x1024x384_0_0_0⟩,
     ⟨S2x1024x64, broadcastInDim S2x1024x64 ![] bcast_S_S2x1024x64 (constant S_ FTy.bf16 0x0000#16)⟩,
     ⟨S2x1024x32, extractStridedSlice S2x1024x32 ![0, 0, 384] (castW a) slices_S2x1024x2468_S2x1024x32_0_0_384⟩,
     ⟨S2x1024x32, broadcastInDim S2x1024x32 ![] bcast_S_S2x1024x32 (constant S_ FTy.bf16 0x0000#16)⟩,
     ⟨S2x1024x768, extractStridedSlice S2x1024x768 ![0, 0, 416] (castW a) slices_S2x1024x2468_S2x1024x768_0_0_416⟩,
     ⟨S2x1024x1280, extractStridedSlice S2x1024x1280 ![0, 0, 1188] (castW a) slices_S2x1024x2468_S2x1024x1280_0_0_1188⟩,
     ⟨S2x1024x4, extractStridedSlice S2x1024x4 ![0, 0, 1184] (castW a) slices_S2x1024x2468_S2x1024x4_0_0_1184⟩,
     ⟨S2x1024x124, broadcastInDim S2x1024x124 ![] bcast_S_S2x1024x124 (constant S_ FTy.bf16 0x0000#16)⟩]
    concatenates_S2x1024x384_S2x1024x64_S2x1024x32_S2x1024x32_S2x1024x768_S2x1024x1280_S2x1024x4_S2x1024x124_S2x1024x2688_d2

/-- The last two groups' columns. -/
theorem spread_apply (a : FVec Ideal S2x1024x2468 .f32) (l : Fin 2) (k : Fin 1024) (q : Fin 1280) :
    (spread a (ix3 l k (⟨1280 + q.val, by omega⟩ : Fin 2688)) : EReal) = a (ix3 l k (⟨1188 + q.val, by omega⟩ : Fin 2468)) := by
  pointwise [spread, castW]
  rw [dif_neg (show ¬ 1280 + q.val < 384 by omega), dif_neg (show ¬ 1280 + q.val - 384 < 64 by omega),
    dif_neg (show ¬ 1280 + q.val - 384 - 64 < 32 by omega), dif_neg (show ¬ 1280 + q.val - 384 - 64 - 32 < 32 by omega),
    dif_neg (show ¬ 1280 + q.val - 384 - 64 - 32 - 32 < 768 by omega), dif_pos (show 1280 + q.val - 384 - 64 - 32 - 32 - 768 < 1280 by omega)]
  exact congrArg (fun p => a (ix3 l k p)) (Fin.ext (show 1188 + (1280 + q.val - 384 - 64 - 32 - 32 - 768) = 1188 + q.val by omega))

/-- The third group's columns of the weights. -/
def thirdW (j : Fin 1024) : Fin 2468 := ⟨1188 + j.val, by omega⟩
/-- The fourth group's. -/
def fourthW (j : Fin 256) : Fin 2468 := ⟨2212 + j.val, by omega⟩

theorem spread_third (a : FVec Ideal S2x1024x2468 .f32) (l : Fin 2) (k : Fin 1024) (j : Fin 1024) :
    (spread a (ix3 l k (thirdCol j)) : EReal) = a (ix3 l k (thirdW j)) :=
  spread_apply a l k ⟨j.val, by omega⟩

theorem spread_fourth (a : FVec Ideal S2x1024x2468 .f32) (l : Fin 2) (k : Fin 1024) (j : Fin 256) :
    (spread a (ix3 l k (fourthCol j)) : EReal) = a (ix3 l k (fourthW j)) := by
  have e := spread_apply a l k ⟨1024 + j.val, by omega⟩
  rw [show fourthCol j = (⟨1280 + (1024 + j.val), by omega⟩ : Fin 2688) from Fin.ext (show 2304 + j.val = 1280 + (1024 + j.val) by omega),
    show fourthW j = (⟨1188 + (1024 + j.val), by omega⟩ : Fin 2468) from Fin.ext (show 2212 + j.val = 1188 + (1024 + j.val) by omega)]
  exact e

end InState
end
end
-- ==== Proof.InReference.lean ====
module
public import proofs.«01_k».proof.Proof.InWeights
public import proofs.«01_k».proof.Proof.Gen.Reference4Ideal.Read

/-! # The reference's two groups of columns, row by row -/

@[expose] public section
set_option maxRecDepth 16384
noncomputable section
open Idealize.ShloMosaic Idealize.ShloMosaic.TcCoe Idealize.SL.Sem
namespace InState
open Cert.Reference4Ideal Cert.Reference4Ideal.Read

theorem ref_product (x0 : FVec Ideal S16384x1024 .f32) (x6 : FVec Ideal S2x1024 .f32) (x7 : FVec Ideal S2x1024x2468 .f32) (R : Fin 16384) (q : Fin 2468) :
    ((val_main_v17 (F := Ideal) x0 x6 x7) (ix2 R q) : EReal)
      = dotRow (fun k => x0 (ix2 R k)) (fun k => x6 (ix2 (1 : Fin 2) k)) (fun k => x7 (ix3 (1 : Fin 2) k q)) := by
  unfold dotRow Post.rms Post.len1024
  pointwise [val_main_v17, val_main_v16, val_main_v15, val_main_v14, val_main_v13, val_main_v12, val_main_v11, val_main_v10, val_main_v9, val_main_v8,
    val_main_v7, val_main_v6, val_main_v5, val_main_v4, val_main_v3, val_main_v2, val_main_v1, val_main_v0, val_main_cst, val_main_cst_0, val_main_cst_1]

theorem ref_third (x0 : FVec Ideal S16384x1024 .f32) (x6 : FVec Ideal S2x1024 .f32) (x7 : FVec Ideal S2x1024x2468 .f32) (R : Fin 16384) (j : Fin 1024) :
    ((val_main_v18 (F := Ideal) x0 x6 x7) (ix2 R j) : EReal)
      = dotRow (fun k => x0 (ix2 R k)) (fun k => x6 (ix2 (1 : Fin 2) k)) (fun k => x7 (ix3 (1 : Fin 2) k (thirdW j))) := by
  rw [← ref_product]
  unfold val_main_v18
  generalize (val_main_v17 (F := Ideal) x0 x6 x7) = H
  pointwise []
  rfl

theorem ref_fourth (x0 : FVec Ideal S16384x1024 .f32) (x6 : FVec Ideal S2x1024 .f32) (x7 : FVec Ideal S2x1024x2468 .f32) (R : Fin 16384) (j : Fin 256) :
    ((val_main_v19 (F := Ideal) x0 x6 x7) (ix2 R j) : EReal)
      = dotRow (fun k => x0 (ix2 R k)) (fun k => x6 (ix2 (1 : Fin 2) k)) (fun k => x7 (ix3 (1 : Fin 2) k (fourthW j))) := by
  rw [← ref_product]
  unfold val_main_v19
  generalize (val_main_v17 (F := Ideal) x0 x6 x7) = H
  pointwise []
  rfl

end InState
end
end
-- ==== Proof.InCaseA.lean ====
module
public import proofs.«01_k».proof.Proof.InTile
public import proofs.«01_k».proof.Proof.Gen.Kernel4Ideal.Frame

/-! # What a grid point leaves in the two groups' blocks, case A -/

@[expose] public section
set_option maxRecDepth 16384
noncomputable section
open Idealize.ShloMosaic Idealize.ShloMosaic.TcCoe Idealize.SL.Sem
namespace InState
open Cert.Kernel4Ideal Cert.Kernel4Ideal.Gen

set_option maxHeartbeats 2000000 in
/-- The block of the third group. -/
theorem thirdA (c : Dev nD) (i : grid0.Coords) (arg1 : Memref sig .tc .vmem S512x1024 .f32) (harg1 : arg1.IsWhole)
    (arg2 : Memref sig .tc .vmem S1x1x1024 .f32) (harg2 : arg2.IsWhole) (arg3 : Memref sig .tc .vmem S1x1024x2688 .bf16) (harg3 : arg3.IsWhole)
    (arg4 : Memref sig .tc .vmem S1x1x256 .f32) (harg4 : arg4.IsWhole) (arg5 : Memref sig .tc .vmem S1x256x512 .bf16) (harg5 : arg5.IsWhole)
    (arg6 : Memref sig .tc .vmem S1x1x128 .f32) (harg6 : arg6.IsWhole) (arg7 : Memref sig .tc .vmem S1x128x1024 .bf16) (harg7 : arg7.IsWhole)
    (arg8 : Memref sig .tc .vmem S1x1x128 .f32) (harg8 : arg8.IsWhole) (arg9 : Memref sig .tc .vmem S512x128 .f32) (harg9 : arg9.IsWhole)
    (arg10 : Memref sig .tc .vmem S512x128 .f32) (harg10 : arg10.IsWhole) (arg11 : Memref sig .tc .vmem S512x128 .f32) (harg11 : arg11.IsWhole)
    (arg12 : Memref sig .tc .vmem S128x512 .bf16) (harg12 : arg12.IsWhole) (arg13 : Memref sig .tc .vmem S128x512 .bf16) (harg13 : arg13.IsWhole)
    (arg14 : Memref sig .tc .vmem S512x512 .bf16) (harg14 : arg14.IsWhole) (arg15 : Memref sig .tc .vmem S512x512 .bf16) (harg15 : arg15.IsWhole)
    (arg16 : Memref sig .tc .vmem S512x512 .bf16) (harg16 : arg16.IsWhole) (arg17 : Memref sig .tc .vmem S512x512 .bf16) (harg17 : arg17.IsWhole)
    (arg18 : Memref sig .tc .vmem S512x512 .bf16) (harg18 : arg18.IsWhole) (arg19 : Memref sig .tc .vmem S512x512 .bf16) (harg19 : arg19.IsWhole)
    (arg20 : Memref sig .tc .vmem S512x1024 .f32) (harg20 : arg20.IsWhole) (arg21 : Memref sig .tc .vmem S512x256 .f32) (harg21 : arg21.IsWhole)
    (arg22 : Memref sig .tc .vmem S1x128 .f32) (harg22 : arg22.IsWhole) (hc0 : cond0_0 i) (x0 : Vec Ideal S512x1024 .f32)
    (x1 : Vec Ideal S1x1x1024 .f32) (x2 : Vec Ideal S1x1024x2688 .bf16) (x3 : Vec Ideal S1x1x256 .f32) (x4 : Vec Ideal S1x256x512 .bf16)
    (x5 : Vec Ideal S1x1x128 .f32) (x6 : Vec Ideal S1x128x1024 .bf16) (x7 : Vec Ideal S1x1x128 .f32) (x8 : Vec Ideal S512x128 .f32)
    (x9 : Vec Ideal S512x128 .f32) (x10 : Vec Ideal S512x128 .f32) (x11 : Vec Ideal S128x512 .bf16) (x12 : Vec Ideal S128x512 .bf16)
    (r : Fin 512) (j : Fin 1024) :
    (out0_A_19 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 (ix2 r j) : EReal)
      = dotRow (fun k => x0 (ix2 r k)) (fun k => x1 (ix3 (0 : Fin 1) (0 : Fin 1) k)) (fun k => x2 (ix3 (0 : Fin 1) k (thirdCol j))) := by
  unfold out0_A_19 kernelRun0_A
  dsimp only
  refine (PostState.read_rows _ _ 0 _ _ _ r j r (Nat.zero_add _).symm).trans ?_
  refine (third_of _ r j).trans ((product _ _ _ r _).trans (dotRow_congr (fun k => ?_) (fun k => ?_) fun k => ?_))
  · exact PostState.load2 _ _ _ (harg1.read_unread x0) 0 0 _ r k r k (Nat.zero_add _).symm (Nat.zero_add _).symm
  · exact PostState.load3 _ _ _ (harg2.read_unread x1) 0 0 0 _ (0 : Fin 1) (0 : Fin 1) k (0 : Fin 1) (0 : Fin 1) k rfl rfl (Nat.zero_add _).symm
  · exact PostState.load3 _ _ _ (harg3.read_unread x2) 0 0 0 _ (0 : Fin 1) k (thirdCol j) (0 : Fin 1) k (thirdCol j) rfl (Nat.zero_add _).symm (Nat.zero_add _).symm

set_option maxHeartbeats 2000000 in
/-- The block of the fourth group. -/
theorem fourthA (c : Dev nD) (i : grid0.Coords) (arg1 : Memref sig .tc .vmem S512x1024 .f32) (harg1 : arg1.IsWhole)
    (arg2 : Memref sig .tc .vmem S1x1x1024 .f32) (harg2 : arg2.IsWhole) (arg3 : Memref sig .tc .vmem S1x1024x2688 .bf16) (harg3 : arg3.IsWhole)
    (arg4 : Memref sig .tc .vmem S1x1x256 .f32) (harg4 : arg4.IsWhole) (arg5 : Memref sig .tc .vmem S1x256x512 .bf16) (harg5 : arg5.IsWhole)
    (arg6 : Memref sig .tc .vmem S1x1x128 .f32) (harg6 : arg6.IsWhole) (arg7 : Memref sig .tc .vmem S1x128x1024 .bf16) (harg7 : arg7.IsWhole)
    (arg8 : Memref sig .tc .vmem S1x1x128 .f32) (harg8 : arg8.IsWhole) (arg9 : Memref sig .tc .vmem S512x128 .f32) (harg9 : arg9.IsWhole)
    (arg10 : Memref sig .tc .vmem S512x128 .f32) (harg10 : arg10.IsWhole) (arg11 : Memref sig .tc .vmem S512x128 .f32) (harg11 : arg11.IsWhole)
    (arg12 : Memref sig .tc .vmem S128x512 .bf16) (harg12 : arg12.IsWhole) (arg13 : Memref sig .tc .vmem S128x512 .bf16) (harg13 : arg13.IsWhole)
    (arg14 : Memref sig .tc .vmem S512x512 .bf16) (harg14 : arg14.IsWhole) (arg15 : Memref sig .tc .vmem S512x512 .bf16) (harg15 : arg15.IsWhole)
    (arg16 : Memref sig .tc .vmem S512x512 .bf16) (harg16 : arg16.IsWhole) (arg17 : Memref sig .tc .vmem S512x512 .bf16) (harg17 : arg17.IsWhole)
    (arg18 : Memref sig .tc .vmem S512x512 .bf16) (harg18 : arg18.IsWhole) (arg19 : Memref sig .tc .vmem S512x512 .bf16) (harg19 : arg19.IsWhole)
    (arg20 : Memref sig .tc .vmem S512x1024 .f32) (harg20 : arg20.IsWhole) (arg21 : Memref sig .tc .vmem S512x256 .f32) (harg21 : arg21.IsWhole)
    (arg22 : Memref sig .tc .vmem S1x128 .f32) (harg22 : arg22.IsWhole) (hc0 : cond0_0 i) (x0 : Vec Ideal S512x1024 .f32)
    (x1 : Vec Ideal S1x1x1024 .f32) (x2 : Vec Ideal S1x1024x2688 .bf16) (x3 : Vec Ideal S1x1x256 .f32) (x4 : Vec Ideal S1x256x512 .bf16)
    (x5 : Vec Ideal S1x1x128 .f32) (x6 : Vec Ideal S1x128x1024 .bf16) (x7 : Vec Ideal S1x1x128 .f32) (x8 : Vec Ideal S512x128 .f32)
    (x9 : Vec Ideal S512x128 .f32) (x10 : Vec Ideal S512x128 .f32) (x11 : Vec Ideal S128x512 .bf16) (x12 : Vec Ideal S128x512 .bf16)
    (r : Fin 512) (j : Fin 256) :
    (out0_A_20 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 (ix2 r j) : EReal)
      = dotRow (fun k => x0 (ix2 r k)) (fun k => x1 (ix3 (0 : Fin 1) (0 : Fin 1) k)) (fun k => x2 (ix3 (0 : Fin 1) k (fourthCol j))) := by
  unfold out0_A_20 kernelRun0_A
  dsimp only
  refine (PostState.read_rows _ _ 0 _ _ _ r j r (Nat.zero_add _).symm).trans ?_
  refine (fourth_of _ r j).trans ((product _ _ _ r _).trans (dotRow_congr (fun k => ?_) (fun k => ?_) fun k => ?_))
  · exact PostState.load2 _ _ _ (harg1.read_unread x0) 0 0 _ r k r k (Nat.zero_add _).symm (Nat.zero_add _).symm
  · exact PostState.load3 _ _ _ (harg2.read_unread x1) 0 0 0 _ (0 : Fin 1) (0 : Fin 1) k (0 : Fin 1) (0 : Fin 1) k rfl rfl (Nat.zero_add _).symm
  · exact PostState.load3 _ _ _ (harg3.read_unread x2) 0 0 0 _ (0 : Fin 1) k (fourthCol j) (0 : Fin 1) k (fourthCol j) rfl (Nat.zero_add _).symm (Nat.zero_add _).symm

end InState
end
end
-- ==== Proof.InCaseB.lean ====
module
public import proofs.«01_k».proof.Proof.InTile
public import proofs.«01_k».proof.Proof.Gen.Kernel4Ideal.Frame

/-! # What a grid point leaves in the two groups' blocks, case B -/

@[expose] public section
set_option maxRecDepth 16384
noncomputable section
open Idealize.ShloMosaic Idealize.ShloMosaic.TcCoe Idealize.SL.Sem
namespace InState
open Cert.Kernel4Ideal Cert.Kernel4Ideal.Gen

set_option maxHeartbeats 2000000 in
/-- The block of the third group. -/
theorem thirdB (c : Dev nD) (i : grid0.Coords) (arg1 : Memref sig .tc .vmem S512x1024 .f32) (harg1 : arg1.IsWhole)
    (arg2 : Memref sig .tc .vmem S1x1x1024 .f32) (harg2 : arg2.IsWhole) (arg3 : Memref sig .tc .vmem S1x1024x2688 .bf16) (harg3 : arg3.IsWhole)
    (arg4 : Memref sig .tc .vmem S1x1x256 .f32) (harg4 : arg4.IsWhole) (arg5 : Memref sig .tc .vmem S1x256x512 .bf16) (harg5 : arg5.IsWhole)
    (arg6 : Memref sig .tc .vmem S1x1x128 .f32) (harg6 : arg6.IsWhole) (arg7 : Memref sig .tc .vmem S1x128x1024 .bf16) (harg7 : arg7.IsWhole)
    (arg8 : Memref sig .tc .vmem S1x1x128 .f32) (harg8 : arg8.IsWhole) (arg9 : Memref sig .tc .vmem S512x128 .f32) (harg9 : arg9.IsWhole)
    (arg10 : Memref sig .tc .vmem S512x128 .f32) (harg10 : arg10.IsWhole) (arg11 : Memref sig .tc .vmem S512x128 .f32) (harg11 : arg11.IsWhole)
    (arg12 : Memref sig .tc .vmem S128x512 .bf16) (harg12 : arg12.IsWhole) (arg13 : Memref sig .tc .vmem S128x512 .bf16) (harg13 : arg13.IsWhole)
    (arg14 : Memref sig .tc .vmem S512x512 .bf16) (harg14 : arg14.IsWhole) (arg15 : Memref sig .tc .vmem S512x512 .bf16) (harg15 : arg15.IsWhole)
    (arg16 : Memref sig .tc .vmem S512x512 .bf16) (harg16 : arg16.IsWhole) (arg17 : Memref sig .tc .vmem S512x512 .bf16) (harg17 : arg17.IsWhole)
    (arg18 : Memref sig .tc .vmem S512x512 .bf16) (harg18 : arg18.IsWhole) (arg19 : Memref sig .tc .vmem S512x512 .bf16) (harg19 : arg19.IsWhole)
    (arg20 : Memref sig .tc .vmem S512x1024 .f32) (harg20 : arg20.IsWhole) (arg21 : Memref sig .tc .vmem S512x256 .f32) (harg21 : arg21.IsWhole)
    (arg22 : Memref sig .tc .vmem S1x128 .f32) (harg22 : arg22.IsWhole) (hc0 : ¬cond0_0 i) (x0 : Vec Ideal S512x1024 .f32)
    (x1 : Vec Ideal S1x1x1024 .f32) (x2 : Vec Ideal S1x1024x2688 .bf16) (x3 : Vec Ideal S1x1x256 .f32) (x4 : Vec Ideal S1x256x512 .bf16)
    (x5 : Vec Ideal S1x1x128 .f32) (x6 : Vec Ideal S1x128x1024 .bf16) (x7 : Vec Ideal S1x1x128 .f32) (x8 : Vec Ideal S512x128 .f32)
    (x9 : Vec Ideal S512x128 .f32) (x10 : Vec Ideal S512x128 .f32) (x11 : Vec Ideal S128x512 .bf16) (x12 : Vec Ideal S128x512 .bf16)
    (xs0 : Vec Ideal S1x128 .f32)
    (r : Fin 512) (j : Fin 1024) :
    (out0_B_19 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 xs0 (ix2 r j) : EReal)
      = dotRow (fun k => x0 (ix2 r k)) (fun k => x1 (ix3 (0 : Fin 1) (0 : Fin 1) k)) (fun k => x2 (ix3 (0 : Fin 1) k (thirdCol j))) := by
  unfold out0_B_19 kernelRun0_B
  dsimp only
  refine (PostState.read_rows _ _ 0 _ _ _ r j r (Nat.zero_add _).symm).trans ?_
  refine (third_of _ r j).trans ((product _ _ _ r _).trans (dotRow_congr (fun k => ?_) (fun k => ?_) fun k => ?_))
  · exact PostState.load2 _ _ _ (harg1.read_unread x0) 0 0 _ r k r k (Nat.zero_add _).symm (Nat.zero_add _).symm
  · exact PostState.load3 _ _ _ (harg2.read_unread x1) 0 0 0 _ (0 : Fin 1) (0 : Fin 1) k (0 : Fin 1) (0 : Fin 1) k rfl rfl (Nat.zero_add _).symm
  · exact PostState.load3 _ _ _ (harg3.read_unread x2) 0 0 0 _ (0 : Fin 1) k (thirdCol j) (0 : Fin 1) k (thirdCol j) rfl (Nat.zero_add _).symm (Nat.zero_add _).symm

set_option maxHeartbeats 2000000 in
/-- The block of the fourth group. -/
theorem fourthB (c : Dev nD) (i : grid0.Coords) (arg1 : Memref sig .tc .vmem S512x1024 .f32) (harg1 : arg1.IsWhole)
    (arg2 : Memref sig .tc .vmem S1x1x1024 .f32) (harg2 : arg2.IsWhole) (arg3 : Memref sig .tc .vmem S1x1024x2688 .bf16) (harg3 : arg3.IsWhole)
    (arg4 : Memref sig .tc .vmem S1x1x256 .f32) (harg4 : arg4.IsWhole) (arg5 : Memref sig .tc .vmem S1x256x512 .bf16) (harg5 : arg5.IsWhole)
    (arg6 : Memref sig .tc .vmem S1x1x128 .f32) (harg6 : arg6.IsWhole) (arg7 : Memref sig .tc .vmem S1x128x1024 .bf16) (harg7 : arg7.IsWhole)
    (arg8 : Memref sig .tc .vmem S1x1x128 .f32) (harg8 : arg8.IsWhole) (arg9 : Memref sig .tc .vmem S512x128 .f32) (harg9 : arg9.IsWhole)
    (arg10 : Memref sig .tc .vmem S512x128 .f32) (harg10 : arg10.IsWhole) (arg11 : Memref sig .tc .vmem S512x128 .f32) (harg11 : arg11.IsWhole)
    (arg12 : Memref sig .tc .vmem S128x512 .bf16) (harg12 : arg12.IsWhole) (arg13 : Memref sig .tc .vmem S128x512 .bf16) (harg13 : arg13.IsWhole)
    (arg14 : Memref sig .tc .vmem S512x512 .bf16) (harg14 : arg14.IsWhole) (arg15 : Memref sig .tc .vmem S512x512 .bf16) (harg15 : arg15.IsWhole)
    (arg16 : Memref sig .tc .vmem S512x512 .bf16) (harg16 : arg16.IsWhole) (arg17 : Memref sig .tc .vmem S512x512 .bf16) (harg17 : arg17.IsWhole)
    (arg18 : Memref sig .tc .vmem S512x512 .bf16) (harg18 : arg18.IsWhole) (arg19 : Memref sig .tc .vmem S512x512 .bf16) (harg19 : arg19.IsWhole)
    (arg20 : Memref sig .tc .vmem S512x1024 .f32) (harg20 : arg20.IsWhole) (arg21 : Memref sig .tc .vmem S512x256 .f32) (harg21 : arg21.IsWhole)
    (arg22 : Memref sig .tc .vmem S1x128 .f32) (harg22 : arg22.IsWhole) (hc0 : ¬cond0_0 i) (x0 : Vec Ideal S512x1024 .f32)
    (x1 : Vec Ideal S1x1x1024 .f32) (x2 : Vec Ideal S1x1024x2688 .bf16) (x3 : Vec Ideal S1x1x256 .f32) (x4 : Vec Ideal S1x256x512 .bf16)
    (x5 : Vec Ideal S1x1x128 .f32) (x6 : Vec Ideal S1x128x1024 .bf16) (x7 : Vec Ideal S1x1x128 .f32) (x8 : Vec Ideal S512x128 .f32)
    (x9 : Vec Ideal S512x128 .f32) (x10 : Vec Ideal S512x128 .f32) (x11 : Vec Ideal S128x512 .bf16) (x12 : Vec Ideal S128x512 .bf16)
    (xs0 : Vec Ideal S1x128 .f32)
    (r : Fin 512) (j : Fin 256) :
    (out0_B_20 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 xs0 (ix2 r j) : EReal)
      = dotRow (fun k => x0 (ix2 r k)) (fun k => x1 (ix3 (0 : Fin 1) (0 : Fin 1) k)) (fun k => x2 (ix3 (0 : Fin 1) k (fourthCol j))) := by
  unfold out0_B_20 kernelRun0_B
  dsimp only
  refine (PostState.read_rows _ _ 0 _ _ _ r j r (Nat.zero_add _).symm).trans ?_
  refine (fourth_of _ r j).trans ((product _ _ _ r _).trans (dotRow_congr (fun k => ?_) (fun k => ?_) fun k => ?_))
  · exact PostState.load2 _ _ _ (harg1.read_unread x0) 0 0 _ r k r k (Nat.zero_add _).symm (Nat.zero_add _).symm
  · exact PostState.load3 _ _ _ (harg2.read_unread x1) 0 0 0 _ (0 : Fin 1) (0 : Fin 1) k (0 : Fin 1) (0 : Fin 1) k rfl rfl (Nat.zero_add _).symm
  · exact PostState.load3 _ _ _ (harg3.read_unread x2) 0 0 0 _ (0 : Fin 1) k (fourthCol j) (0 : Fin 1) k (fourthCol j) rfl (Nat.zero_add _).symm (Nat.zero_add _).symm

end InState
end
end
-- ==== Proof.InOperands.lean ====
module
public import proofs.«01_k».proof.Proof.InWeights
public import proofs.«01_k».proof.Proof.InCaseA
public import proofs.«01_k».proof.Proof.InCaseB
public import proofs.«01_k».proof.Proof.Gen.Kernel4Ideal.Value
public import Idealize.ShloMosaic.Lib.Claim

/-! # What the entering call's blocks hold -/

@[expose] public section
set_option maxRecDepth 16384
noncomputable section
open Idealize.ShloMosaic Idealize.ShloMosaic.TcCoe Idealize.SL.Sem
namespace InState
open Cert.Kernel4Ideal Cert.Kernel4Ideal.Gen
variable (m : (ℓ : Loc nD τ sig) → Buf (Elt Ideal) ℓ)

theorem pidx0 : ∀ t : Fin cfg0.N, win0_0.index t = ![t.val, 0] :=
  (by decide +kernel : ∀ t : Fin grid0.N, win0_0.index t = ![t.val, 0])
theorem pidx1 : ∀ t : Fin cfg0.N, win0_1.index t = ![1, 0, 0] :=
  (by decide +kernel : ∀ t : Fin grid0.N, win0_1.index t = ![1, 0, 0])
theorem pidx2 : ∀ t : Fin cfg0.N, win0_2.index t = ![1, 0, 0] :=
  (by decide +kernel : ∀ t : Fin grid0.N, win0_2.index t = ![1, 0, 0])
theorem pidx19 : ∀ t : Fin cfg0.N, win0_19.index t = ![t.val, 0] :=
  (by decide +kernel : ∀ t : Fin grid0.N, win0_19.index t = ![t.val, 0])
theorem pidx20 : ∀ t : Fin cfg0.N, win0_20.index t = ![t.val, 0] :=
  (by decide +kernel : ∀ t : Fin grid0.N, win0_20.index t = ![t.val, 0])

theorem entry1 (c : Dev nD) : V m c main_v10 = gainPlanes (m ((c : Thread nD τ).loc main_arg6)) := by
  unfold V
  simp only [hostOps0, hostOps0_1, hostOps0_2, hostOps0_3, hostOps0_4, hostOps0_5, hostOps0_6, hostOps0_7, hostOps0_8, List.flatten_cons, List.flatten_nil, List.append_nil, List.cons_append, List.nil_append]
  after_results
  rfl

theorem entry2 (c : Dev nD) : V m c main_v20 = spread (m ((c : Thread nD τ).loc main_arg7)) := by
  unfold V
  simp only [hostOps0, hostOps0_1, hostOps0_2, hostOps0_3, hostOps0_4, hostOps0_5, hostOps0_6, hostOps0_7, hostOps0_8, List.flatten_cons, List.flatten_nil, List.append_nil, List.cons_append, List.nil_append]
  after_results
  rfl

/-- The array's row of a tile's row. -/
def gridRow (t : Fin cfg0.N) (r : Fin 512) : Fin 16384 := ⟨512 * t.val + r.val, by have : t.val < 32 := t.isLt; omega⟩

set_option backward.isDefEq.respectTransparency false in
theorem blk0 (c : Dev nD) (t : Fin cfg0.N) (r : Fin 512) (k : Fin 1024) :
    (iblk m c 0 t : FVec Ideal S512x1024 .f32) (ix2 r k) = (m ((c : Thread nD τ).loc main_arg0) : FVec Ideal S16384x1024 .f32) (ix2 (gridRow t r) k) := by
  refine Eq.trans (b := (V m c main_arg0 : FVec Ideal S16384x1024 .f32) (ix2 (gridRow t r) k)) ?_ rfl
  blk_ext [iblk, V, pidx0 t]
  · show t.val * 512 + r.val = 512 * t.val + r.val; omega

set_option backward.isDefEq.respectTransparency false in
theorem blk1 (c : Dev nD) (t : Fin cfg0.N) (b : Fin 1024) :
    (iblk m c 1 t : FVec Ideal S1x1x1024 .f32) (ix3 (0 : Fin 1) (0 : Fin 1) b) = (V m c main_v10 : FVec Ideal S2x1x1024 .f32) (ix3 (1 : Fin 2) (0 : Fin 1) b) := by
  blk_ext [iblk, V, pidx1 t]

set_option backward.isDefEq.respectTransparency false in
theorem blk2 (c : Dev nD) (t : Fin cfg0.N) (a : Fin 1024) (b : Fin 2688) :
    (iblk m c 2 t : FVec Ideal S1x1024x2688 .bf16) (ix3 (0 : Fin 1) a b) = (V m c main_v20 : FVec Ideal S2x1024x2688 .bf16) (ix3 (1 : Fin 2) a b) := by
  blk_ext [iblk, V, pidx2 t]

/-- A row of the arguments against a column of the last layer's weights. -/
def argDot (c : Dev nD) (R : Fin 16384) (q : Fin 2468) : EReal :=
  dotRow (fun k => (m ((c : Thread nD τ).loc main_arg0) : FVec Ideal S16384x1024 .f32) (ix2 R k))
    (fun k => (m ((c : Thread nD τ).loc main_arg6) : FVec Ideal S2x1024 .f32) (ix2 (1 : Fin 2) k))
    (fun k => (m ((c : Thread nD τ).loc main_arg7) : FVec Ideal S2x1024x2468 .f32) (ix3 (1 : Fin 2) k q))

theorem blocks_third (c : Dev nD) (t : Fin cfg0.N) (r : Fin 512) (j : Fin 1024) :
    dotRow (fun k => (iblk m c 0 t : FVec Ideal S512x1024 .f32) (ix2 r k)) (fun k => (iblk m c 1 t : FVec Ideal S1x1x1024 .f32) (ix3 (0 : Fin 1) (0 : Fin 1) k))
      (fun k => (iblk m c 2 t : FVec Ideal S1x1024x2688 .bf16) (ix3 (0 : Fin 1) k (thirdCol j))) = argDot m c (gridRow t r) (thirdW j) :=
  dotRow_congr (fun k => blk0 m c t r k) (fun k => (blk1 m c t k).trans ((congrFun (entry1 m c) _).trans (gainPlanes_apply _ _ _)))
    (fun k => (blk2 m c t k _).trans ((congrFun (entry2 m c) _).trans (spread_third _ _ _ _)))

theorem blocks_fourth (c : Dev nD) (t : Fin cfg0.N) (r : Fin 512) (j : Fin 256) :
    dotRow (fun k => (iblk m c 0 t : FVec Ideal S512x1024 .f32) (ix2 r k)) (fun k => (iblk m c 1 t : FVec Ideal S1x1x1024 .f32) (ix3 (0 : Fin 1) (0 : Fin 1) k))
      (fun k => (iblk m c 2 t : FVec Ideal S1x1024x2688 .bf16) (ix3 (0 : Fin 1) k (fourthCol j))) = argDot m c (gridRow t r) (fourthW j) :=
  dotRow_congr (fun k => blk0 m c t r k) (fun k => (blk1 m c t k).trans ((congrFun (entry1 m c) _).trans (gainPlanes_apply _ _ _)))
    (fun k => (blk2 m c t k _).trans ((congrFun (entry2 m c) _).trans (spread_fourth _ _ _ _)))

end InState
end
end
-- ==== Proof.InArray.lean ====
module
public import proofs.«01_k».proof.Proof.InOperands

/-! # The entering call's two arrays -/

@[expose] public section
set_option maxRecDepth 16384
noncomputable section
open Idealize.ShloMosaic Idealize.ShloMosaic.TcCoe Idealize.SL.Sem
namespace InState
open Cert.Kernel4Ideal Cert.Kernel4Ideal.Gen
variable (m : (ℓ : Loc nD τ sig) → Buf (Elt Ideal) ℓ)

theorem seventh_of {A₁ A₂ A₃ A₄ A₅ A₆ A₇ B : Type} {p : A₁ × A₂ × A₃ × A₄ × A₅ × A₆ × A₇ × B} {a₁ : A₁} {a₂ : A₂} {a₃ : A₃} {a₄ : A₄} {a₅ : A₅} {a₆ : A₆} {a₇ : A₇} {b : B}
    (h : p = (a₁, a₂, a₃, a₄, a₅, a₆, a₇, b)) : p.2.2.2.2.2.2.1 = a₇ := by rw [h]
theorem eighth_of {A₁ A₂ A₃ A₄ A₅ A₆ A₇ A₈ B : Type} {p : A₁ × A₂ × A₃ × A₄ × A₅ × A₆ × A₇ × A₈ × B} {a₁ : A₁} {a₂ : A₂} {a₃ : A₃} {a₄ : A₄} {a₅ : A₅} {a₆ : A₆} {a₇ : A₇} {a₈ : A₈} {b : B}
    (h : p = (a₁, a₂, a₃, a₄, a₅, a₆, a₇, a₈, b)) : p.2.2.2.2.2.2.2.1 = a₈ := by rw [h]

set_option maxHeartbeats 4000000 in
/-- The third group's block of a grid point. -/
theorem point_third (c : Dev nD) (t : Fin cfg0.N) (r : Fin 512) (j : Fin 1024) :
    ((outsAt0 m c t.val t.isLt).2.2.2.2.2.2.1 : FVec Ideal S512x1024 .f32) (ix2 r j) = argDot m c (gridRow t r) (thirdW j) := by
  by_cases h0 : t.val % 16 = 0
  · have e := thirdA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) r j
    refine Eq.trans ?_ (e.trans (blocks_third m c t r j))
    exact congrFun (seventh_of (outsAt0_A m c t h0)) _
  · have e := thirdB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (outsAt0 m c (t.val - 1) (Nat.lt_of_le_of_lt (Nat.sub_le _ _) t.isLt)).2.2.2.2.2.2.2.2 r j
    refine Eq.trans ?_ (e.trans (blocks_third m c t r j))
    exact congrFun (seventh_of (outsAt0_B m c t h0)) _

/-- The third group's array. -/
def whole_third (c : Dev nD) : S16384x1024.Idx → EReal := fun y => argDot m c (y 0) (thirdW (y 1))

theorem result_third (c : Dev nD) : ((dats m 0 c).arrAt 19 cfg0.N : FVec Ideal S16384x1024 .f32) = whole_third m c := by
  refine Pipeline.Dat.arrAt_eq_of_covers (dats m 0 c) 19 (whole_third m c) (by decide +kernel) fun t hf y => ?_
  blk_simp
  rw [after0_19]
  idx_vars y
  refine (point_third m c t y0 y1).trans ?_
  have ht : t.val < 32 := t.isLt
  have ez : whole_third m c (ix2 (⟨512 * t.val + y0.val, by omega⟩ : Fin 16384) y1)
      = whole_third m c (((View.whole main_v28_6).slice (win0_19.rect t)).emb (ix2 y0 y1)) := by
    blk_ext [pidx19 t]
  exact ez

set_option maxHeartbeats 4000000 in
/-- The fourth group's block of a grid point. -/
theorem point_fourth (c : Dev nD) (t : Fin cfg0.N) (r : Fin 512) (j : Fin 256) :
    ((outsAt0 m c t.val t.isLt).2.2.2.2.2.2.2.1 : FVec Ideal S512x256 .f32) (ix2 r j) = argDot m c (gridRow t r) (fourthW j) := by
  by_cases h0 : t.val % 16 = 0
  · have e := fourthA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) r j
    refine Eq.trans ?_ (e.trans (blocks_fourth m c t r j))
    exact congrFun (eighth_of (outsAt0_A m c t h0)) _
  · have e := fourthB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (outsAt0 m c (t.val - 1) (Nat.lt_of_le_of_lt (Nat.sub_le _ _) t.isLt)).2.2.2.2.2.2.2.2 r j
    refine Eq.trans ?_ (e.trans (blocks_fourth m c t r j))
    exact congrFun (eighth_of (outsAt0_B m c t h0)) _

/-- The fourth group's array. -/
def whole_fourth (c : Dev nD) : S16384x256.Idx → EReal := fun y => argDot m c (y 0) (fourthW (y 1))

theorem result_fourth (c : Dev nD) : ((dats m 0 c).arrAt 20 cfg0.N : FVec Ideal S16384x256 .f32) = whole_fourth m c := by
  refine Pipeline.Dat.arrAt_eq_of_covers (dats m 0 c) 20 (whole_fourth m c) (by decide +kernel) fun t hf y => ?_
  blk_simp
  rw [after0_20]
  idx_vars y
  refine (point_fourth m c t y0 y1).trans ?_
  have ht : t.val < 32 := t.isLt
  have ez : whole_fourth m c (ix2 (⟨512 * t.val + y0.val, by omega⟩ : Fin 16384) y1)
      = whole_fourth m c (((View.whole main_v28_7).slice (win0_20.rect t)).emb (ix2 y0 y1)) := by
    blk_ext [pidx20 t]
  exact ez

end InState
end
end
-- ==== Proof.InValue.lean ====
module
public import proofs.«01_k».proof.Proof.InReference
public import proofs.«01_k».proof.Proof.InArray

/-! # The entering call and its reference end with the same two arrays -/

@[expose] public section
set_option maxRecDepth 16384
noncomputable section
open Idealize.ShloMosaic Idealize.ShloMosaic.TcCoe Idealize.SL.Sem
namespace InState
open Cert.Kernel4Ideal

theorem third_eq (m : (ℓ : Loc nD τ sig) → Buf (Elt Ideal) ℓ) (c : Dev nD)
    (a0 : FVec Ideal S16384x1024 .f32) (a6 : FVec Ideal S2x1024 .f32) (a7 : FVec Ideal S2x1024x2468 .f32)
    (e0 : a0 = m ((c : Thread nD τ).loc main_arg0)) (e6 : a6 = m ((c : Thread nD τ).loc main_arg6)) (e7 : a7 = m ((c : Thread nD τ).loc main_arg7)) :
    (Cert.Reference4Ideal.Read.val_main_v18 (F := Ideal) a0 a6 a7 : FVec Ideal S16384x1024 .f32) = (Gen.dats m 0 c).arrAt 19 cfg0.N := by
  subst e0 e6 e7
  refine Eq.trans (funext fun y => ?_) (result_third m c).symm
  have hy : y = ix2 (y 0) (y 1) := funext fun a => by
    match a with
    | ⟨0, _⟩ => rfl
    | ⟨1, _⟩ => rfl
  rw [hy]
  exact ref_third _ _ _ (y 0) (y 1)

theorem fourth_eq (m : (ℓ : Loc nD τ sig) → Buf (Elt Ideal) ℓ) (c : Dev nD)
    (a0 : FVec Ideal S16384x1024 .f32) (a6 : FVec Ideal S2x1024 .f32) (a7 : FVec Ideal S2x1024x2468 .f32)
    (e0 : a0 = m ((c : Thread nD τ).loc main_arg0)) (e6 : a6 = m ((c : Thread nD τ).loc main_arg6)) (e7 : a7 = m ((c : Thread nD τ).loc main_arg7)) :
    (Cert.Reference4Ideal.Read.val_main_v19 (F := Ideal) a0 a6 a7 : FVec Ideal S16384x256 .f32) = (Gen.dats m 0 c).arrAt 20 cfg0.N := by
  subst e0 e6 e7
  refine Eq.trans (funext fun y => ?_) (result_fourth m c).symm
  have hy : y = ix2 (y 0) (y 1) := funext fun a => by
    match a with
    | ⟨0, _⟩ => rfl
    | ⟨1, _⟩ => rfl
  rw [hy]
  exact ref_fourth _ _ _ (y 0) (y 1)

end InState
end
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Reference2Ideal
public import proofs.«01_k».proof.Proof.Gen.Reference2
public import proofs.«01_k».proof.Proof.Gen.Reference
public import proofs.«01_k».proof.Proof.Gen.Pre_finite_qk
public import proofs.«01_k».proof.Proof.Gen.Kernel3
public import proofs.«01_k».proof.Proof.Gen.Kernel3.Skeleton
public import proofs.«01_k».proof.Proof.Gen.Kernel3.Loops
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Loops
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Reference3Ideal
public import proofs.«01_k».proof.Proof.Gen.Reference3
public import proofs.«01_k».proof.Proof.Gen.Pre_finite_gates
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Reference4Ideal
public import proofs.«01_k».proof.Proof.Gen.Reference4
public import proofs.«01_k».proof.Proof.Value
public import proofs.«01_k».proof.Proof.PostValue
public import proofs.«01_k».proof.Proof.FoxValue
public import proofs.«01_k».proof.Proof.InValue
public import Idealize.ShloMosaic.Lib.Claim
public import Idealize.ShloMosaic.Adequacy
public import Idealize.ShloMosaic.Init

@[expose] public section

noncomputable section

namespace Cert.Proof

open Idealize.ShloMosaic Idealize.SL.Sem Cert.Kernel

/-- The reference declares no semaphore, and its operations write none of its arguments. -/
theorem frame_ReferenceIdeal (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0) :=
  (θ_run Cert.ReferenceIdeal.defs _ _).mono (fun r h => ⟨fun c => (h c).2, sem_eq_zero_of_no_sems (by decide) r.2⟩)
    (Cert.ReferenceIdeal.Value.run (F := Ideal) m g)

/-- So at the bit-exact instance. -/
theorem frame_Reference : Cert.quiescent_Reference := by
  intro m g _
  refine (θ_run Cert.Reference.defs _ _).mono (fun r h => ⟨h, sem_eq_zero_of_no_sems (by decide) r.2⟩) (?_ :
    θ_run (Cert.Reference.defs (F := Bits)) (onTc (τ := Cert.Reference.τ) (Cert.Reference.main (F := Bits))) ⟨m, fun _ => 0, g⟩ (fun r => ∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)))
  hlo_run

/-- Over the extended reals kernel and reference end with one result, once queries and keys are finite. -/
theorem algebraic : Cert.algebraic_KernelIdeal_ReferenceIdeal_pre_finite_qk := by
  intro m g m' g' hpre hagree
  refine ⟨fun c => (Cert.KernelIdeal.Gen.dats m 0 c).arrAt 3 Cert.KernelIdeal.cfg0.N, Cert.KernelIdeal.Value.run_blocks m g, ?_⟩
  refine (θ_run Cert.ReferenceIdeal.defs _ _).mono (fun r h c => ⟨(h c).1.trans ?_, (h c).2⟩)
    (Cert.ReferenceIdeal.Value.run (F := Ideal) m' g')
  have hr := Attn.real_of_pre _ _ _ (hpre c)
  rw [Cert.ReferenceIdeal.Read.val_main_v23_eq]
  exact Attn.results_eq m c _ _ _ (hagree c).1.symm (hagree c).2.1.symm (hagree c).2.2.symm
    (by rw [(hagree c).1]; exact hr.1) (by rw [(hagree c).2.1]; exact hr.2)

/-- The tail's reference, likewise. -/
theorem frame_Reference2Ideal : Cert.quiescent_Reference2Ideal := fun m g _ =>
  (θ_run Cert.Reference2Ideal.defs _ _).mono (fun r h => ⟨fun c => (h c).2, sem_eq_zero_of_no_sems (by decide) r.2⟩)
    (Cert.Reference2Ideal.Value.run (F := Ideal) m g)

/-- And at the bit-exact instance. -/
theorem frame_Reference2 : Cert.quiescent_Reference2 := by
  intro m g _
  refine (θ_run Cert.Reference2.defs _ _).mono (fun r h => ⟨h, sem_eq_zero_of_no_sems (by decide) r.2⟩) (?_ :
    θ_run (Cert.Reference2.defs (F := Bits)) (onTc (τ := Cert.Reference2.τ) (Cert.Reference2.main (F := Bits))) ⟨m, fun _ => 0, g⟩ (fun r => ∀ c : Dev Cert.Reference2.nD,
      r.2.mem ((c.tc : Thread Cert.Reference2.nD Cert.Reference2.τ).loc Cert.Reference2.main_arg0) = m ((c.tc : Thread Cert.Reference2.nD Cert.Reference2.τ).loc Cert.Reference2.main_arg0)
      ∧ r.2.mem ((c.tc : Thread Cert.Reference2.nD Cert.Reference2.τ).loc Cert.Reference2.main_arg1) = m ((c.tc : Thread Cert.Reference2.nD Cert.Reference2.τ).loc Cert.Reference2.main_arg1)
      ∧ r.2.mem ((c.tc : Thread Cert.Reference2.nD Cert.Reference2.τ).loc Cert.Reference2.main_arg2) = m ((c.tc : Thread Cert.Reference2.nD Cert.Reference2.τ).loc Cert.Reference2.main_arg2)
      ∧ r.2.mem ((c.tc : Thread Cert.Reference2.nD Cert.Reference2.τ).loc Cert.Reference2.main_arg3) = m ((c.tc : Thread Cert.Reference2.nD Cert.Reference2.τ).loc Cert.Reference2.main_arg3)
      ∧ r.2.mem ((c.tc : Thread Cert.Reference2.nD Cert.Reference2.τ).loc Cert.Reference2.main_arg4) = m ((c.tc : Thread Cert.Reference2.nD Cert.Reference2.τ).loc Cert.Reference2.main_arg4)
      ∧ r.2.mem ((c.tc : Thread Cert.Reference2.nD Cert.Reference2.τ).loc Cert.Reference2.main_arg5) = m ((c.tc : Thread Cert.Reference2.nD Cert.Reference2.τ).loc Cert.Reference2.main_arg5)
      ∧ r.2.mem ((c.tc : Thread Cert.Reference2.nD Cert.Reference2.τ).loc Cert.Reference2.main_arg6) = m ((c.tc : Thread Cert.Reference2.nD Cert.Reference2.τ).loc Cert.Reference2.main_arg6)
      ∧ r.2.mem ((c.tc : Thread Cert.Reference2.nD Cert.Reference2.τ).loc Cert.Reference2.main_arg7) = m ((c.tc : Thread Cert.Reference2.nD Cert.Reference2.τ).loc Cert.Reference2.main_arg7)
      ∧ r.2.mem ((c.tc : Thread Cert.Reference2.nD Cert.Reference2.τ).loc Cert.Reference2.main_arg8) = m ((c.tc : Thread Cert.Reference2.nD Cert.Reference2.τ).loc Cert.Reference2.main_arg8)
      ∧ r.2.mem ((c.tc : Thread Cert.Reference2.nD Cert.Reference2.τ).loc Cert.Reference2.main_arg9) = m ((c.tc : Thread Cert.Reference2.nD Cert.Reference2.τ).loc Cert.Reference2.main_arg9)
      ∧ r.2.mem ((c.tc : Thread Cert.Reference2.nD Cert.Reference2.τ).loc Cert.Reference2.main_arg10) = m ((c.tc : Thread Cert.Reference2.nD Cert.Reference2.τ).loc Cert.Reference2.main_arg10)
      ∧ r.2.mem ((c.tc : Thread Cert.Reference2.nD Cert.Reference2.τ).loc Cert.Reference2.main_arg11) = m ((c.tc : Thread Cert.Reference2.nD Cert.Reference2.τ).loc Cert.Reference2.main_arg11)
      ∧ r.2.mem ((c.tc : Thread Cert.Reference2.nD Cert.Reference2.τ).loc Cert.Reference2.main_arg12) = m ((c.tc : Thread Cert.Reference2.nD Cert.Reference2.τ).loc Cert.Reference2.main_arg12)
      ∧ r.2.mem ((c.tc : Thread Cert.Reference2.nD Cert.Reference2.τ).loc Cert.Reference2.main_arg13) = m ((c.tc : Thread Cert.Reference2.nD Cert.Reference2.τ).loc Cert.Reference2.main_arg13)
      ∧ r.2.mem ((c.tc : Thread Cert.Reference2.nD Cert.Reference2.τ).loc Cert.Reference2.main_arg14) = m ((c.tc : Thread Cert.Reference2.nD Cert.Reference2.τ).loc Cert.Reference2.main_arg14)
      ∧ r.2.mem ((c.tc : Thread Cert.Reference2.nD Cert.Reference2.τ).loc Cert.Reference2.main_arg15) = m ((c.tc : Thread Cert.Reference2.nD Cert.Reference2.τ).loc Cert.Reference2.main_arg15)
      ∧ r.2.mem ((c.tc : Thread Cert.Reference2.nD Cert.Reference2.τ).loc Cert.Reference2.main_arg16) = m ((c.tc : Thread Cert.Reference2.nD Cert.Reference2.τ).loc Cert.Reference2.main_arg16)
      ∧ r.2.mem ((c.tc : Thread Cert.Reference2.nD Cert.Reference2.τ).loc Cert.Reference2.main_arg17) = m ((c.tc : Thread Cert.Reference2.nD Cert.Reference2.τ).loc Cert.Reference2.main_arg17)))
  hlo_run

/-- Over the extended reals the tail call and its reference end with one result. -/
theorem algebraic2 : Cert.algebraic_Kernel2Ideal_Reference2Ideal := by
  intro m g m' g' _ hagree
  refine ⟨fun c => (Cert.Kernel2Ideal.Gen.dats m 0 c).arrAt 18 Cert.Kernel2Ideal.cfg0.N, Cert.Kernel2Ideal.Value.run_blocks m g, ?_⟩
  refine (θ_run Cert.Reference2Ideal.defs _ _).mono (fun r h c => ⟨(h c).1.trans ?_, (h c).2⟩)
    (Cert.Reference2Ideal.Value.run (F := Ideal) m' g')
  rw [Cert.Reference2Ideal.Read.val_main_v171_eq]
  obtain ⟨h0, h1, h2, h3, h4, h5, h6, h7, h8, h9, h10, h11, h12, h13, h14, h15, h16, h17⟩ := hagree c
  exact Post.results_eq m c _ _ _ _ _ _ _ _ _ _ _ _ _ _ _ _ _ _ h0 h1 h2 h3 h4 h5 h6 h7 h8 h9 h10 h11 h12 h13 h14 h15 h16 h17

/-- The forgetting heads' reference, likewise. -/
theorem frame_Reference3Ideal (m : (ℓ : Loc Cert.Reference3Ideal.nD Cert.Reference3Ideal.τ Cert.Reference3Ideal.sig) → Buf (Elt Ideal) ℓ)
    (g : Dev Cert.Reference3Ideal.nD → PrngReg) :
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0) :=
  (θ_run Cert.Reference3Ideal.defs _ _).mono (fun r h => ⟨fun c => (h c).2, sem_eq_zero_of_no_sems (by decide) r.2⟩)
    (Cert.Reference3Ideal.Value.run (F := Ideal) m g)

/-- And at the bit-exact instance. -/
theorem frame_Reference3 : Cert.quiescent_Reference3 := by
  intro m g _
  refine (θ_run Cert.Reference3.defs _ _).mono (fun r h => ⟨h, sem_eq_zero_of_no_sems (by decide) r.2⟩) (?_ :
    θ_run (Cert.Reference3.defs (F := Bits)) (onTc (τ := Cert.Reference3.τ) (Cert.Reference3.main (F := Bits))) ⟨m, fun _ => 0, g⟩ (fun r => ∀ c : Dev Cert.Reference3.nD,
      r.2.mem ((c.tc : Thread Cert.Reference3.nD Cert.Reference3.τ).loc Cert.Reference3.main_arg0) = m ((c.tc : Thread Cert.Reference3.nD Cert.Reference3.τ).loc Cert.Reference3.main_arg0)
      ∧ r.2.mem ((c.tc : Thread Cert.Reference3.nD Cert.Reference3.τ).loc Cert.Reference3.main_arg1) = m ((c.tc : Thread Cert.Reference3.nD Cert.Reference3.τ).loc Cert.Reference3.main_arg1)
      ∧ r.2.mem ((c.tc : Thread Cert.Reference3.nD Cert.Reference3.τ).loc Cert.Reference3.main_arg2) = m ((c.tc : Thread Cert.Reference3.nD Cert.Reference3.τ).loc Cert.Reference3.main_arg2)
      ∧ r.2.mem ((c.tc : Thread Cert.Reference3.nD Cert.Reference3.τ).loc Cert.Reference3.main_arg3) = m ((c.tc : Thread Cert.Reference3.nD Cert.Reference3.τ).loc Cert.Reference3.main_arg3)))
  hlo_run

/-- Over the extended reals the forgetting heads' call and its reference end with one result, once queries, keys and
running log gates are finite. -/
theorem algebraic3 : Cert.algebraic_Kernel3Ideal_Reference3Ideal_pre_finite_gates := by
  intro m g m' g' hpre hagree
  refine ⟨fun c => (Cert.Kernel3Ideal.Gen.dats m 0 c).arrAt 3 Cert.Kernel3Ideal.cfg0.N, Cert.Kernel3Ideal.Value.run_blocks m g, ?_⟩
  refine (θ_run Cert.Reference3Ideal.defs _ _).mono (fun r h c => ⟨(h c).1.trans ?_, (h c).2⟩)
    (Cert.Reference3Ideal.Value.run (F := Ideal) m' g')
  have hr := Fox.real_of_pre _ _ _ _ (hpre c)
  rw [Cert.Reference3Ideal.Read.val_main_v29_eq]
  obtain ⟨h0, h1, h2, h3⟩ := hagree c
  exact Fox.results_eq m c _ _ _ _ h0.symm h1.symm h2.symm h3.symm
    (by rw [h0]; exact hr.1) (by rw [h1]; exact hr.2.1) (by rw [h3]; exact hr.2.2)

/-- The entering projection's reference, likewise. -/
theorem frame_Reference4Ideal : Cert.quiescent_Reference4Ideal := fun m g _ =>
  (θ_run Cert.Reference4Ideal.defs _ _).mono (fun r h => ⟨fun c => (h c).2.2, sem_eq_zero_of_no_sems (by decide) r.2⟩)
    (Cert.Reference4Ideal.Value.run (F := Ideal) m g)

/-- And at the bit-exact instance. -/
theorem frame_Reference4 : Cert.quiescent_Reference4 := by
  intro m g _
  refine (θ_run Cert.Reference4.defs _ _).mono (fun r h => ⟨h, sem_eq_zero_of_no_sems (by decide) r.2⟩) (?_ :
    θ_run (Cert.Reference4.defs (F := Bits)) (onTc (τ := Cert.Reference4.τ) (Cert.Reference4.main (F := Bits))) ⟨m, fun _ => 0, g⟩ (fun r => ∀ c : Dev Cert.Reference4.nD,
      r.2.mem ((c.tc : Thread Cert.Reference4.nD Cert.Reference4.τ).loc Cert.Reference4.main_arg0) = m ((c.tc : Thread Cert.Reference4.nD Cert.Reference4.τ).loc Cert.Reference4.main_arg0)
      ∧ r.2.mem ((c.tc : Thread Cert.Reference4.nD Cert.Reference4.τ).loc Cert.Reference4.main_arg1) = m ((c.tc : Thread Cert.Reference4.nD Cert.Reference4.τ).loc Cert.Reference4.main_arg1)
      ∧ r.2.mem ((c.tc : Thread Cert.Reference4.nD Cert.Reference4.τ).loc Cert.Reference4.main_arg2) = m ((c.tc : Thread Cert.Reference4.nD Cert.Reference4.τ).loc Cert.Reference4.main_arg2)
      ∧ r.2.mem ((c.tc : Thread Cert.Reference4.nD Cert.Reference4.τ).loc Cert.Reference4.main_arg3) = m ((c.tc : Thread Cert.Reference4.nD Cert.Reference4.τ).loc Cert.Reference4.main_arg3)
      ∧ r.2.mem ((c.tc : Thread Cert.Reference4.nD Cert.Reference4.τ).loc Cert.Reference4.main_arg4) = m ((c.tc : Thread Cert.Reference4.nD Cert.Reference4.τ).loc Cert.Reference4.main_arg4)
      ∧ r.2.mem ((c.tc : Thread Cert.Reference4.nD Cert.Reference4.τ).loc Cert.Reference4.main_arg5) = m ((c.tc : Thread Cert.Reference4.nD Cert.Reference4.τ).loc Cert.Reference4.main_arg5)
      ∧ r.2.mem ((c.tc : Thread Cert.Reference4.nD Cert.Reference4.τ).loc Cert.Reference4.main_arg6) = m ((c.tc : Thread Cert.Reference4.nD Cert.Reference4.τ).loc Cert.Reference4.main_arg6)
      ∧ r.2.mem ((c.tc : Thread Cert.Reference4.nD Cert.Reference4.τ).loc Cert.Reference4.main_arg7) = m ((c.tc : Thread Cert.Reference4.nD Cert.Reference4.τ).loc Cert.Reference4.main_arg7)
      ∧ r.2.mem ((c.tc : Thread Cert.Reference4.nD Cert.Reference4.τ).loc Cert.Reference4.main_arg8) = m ((c.tc : Thread Cert.Reference4.nD Cert.Reference4.τ).loc Cert.Reference4.main_arg8)
      ∧ r.2.mem ((c.tc : Thread Cert.Reference4.nD Cert.Reference4.τ).loc Cert.Reference4.main_arg9) = m ((c.tc : Thread Cert.Reference4.nD Cert.Reference4.τ).loc Cert.Reference4.main_arg9)
      ∧ r.2.mem ((c.tc : Thread Cert.Reference4.nD Cert.Reference4.τ).loc Cert.Reference4.main_arg10) = m ((c.tc : Thread Cert.Reference4.nD Cert.Reference4.τ).loc Cert.Reference4.main_arg10)
      ∧ r.2.mem ((c.tc : Thread Cert.Reference4.nD Cert.Reference4.τ).loc Cert.Reference4.main_arg11) = m ((c.tc : Thread Cert.Reference4.nD Cert.Reference4.τ).loc Cert.Reference4.main_arg11)
      ∧ r.2.mem ((c.tc : Thread Cert.Reference4.nD Cert.Reference4.τ).loc Cert.Reference4.main_arg12) = m ((c.tc : Thread Cert.Reference4.nD Cert.Reference4.τ).loc Cert.Reference4.main_arg12)))
  hlo_run

/-- Over the extended reals the entering call and its reference end with the same two results. -/
theorem algebraic4 : Cert.algebraic_Kernel4Ideal_Reference4Ideal := by
  intro m g m' g' _ hagree
  refine ⟨fun c => (Cert.Kernel4Ideal.Gen.dats m 0 c).arrAt 19 Cert.Kernel4Ideal.cfg0.N, fun c => (Cert.Kernel4Ideal.Gen.dats m 0 c).arrAt 20 Cert.Kernel4Ideal.cfg0.N,
    (θ_run Cert.Kernel4Ideal.defs _ _).mono (fun r h c => (h c).2.2.2.2.2.2) (Cert.Kernel4Ideal.Value.run_blocks m g), ?_⟩
  refine (θ_run Cert.Reference4Ideal.defs _ _).mono (fun r h c => ⟨(h c).1.trans ?_, (h c).2.1.trans ?_, (h c).2.2⟩)
    (Cert.Reference4Ideal.Value.run (F := Ideal) m' g')
  all_goals obtain ⟨h0, h1, h2, h3, h4, h5, h6, h7, -⟩ := hagree c
  · rw [Cert.Reference4Ideal.Read.val_main_v18_eq]
    exact InState.third_eq m c _ _ _ h0 h6 h7
  · rw [Cert.Reference4Ideal.Read.val_main_v19_eq]
    exact InState.fourth_eq m c _ _ _ h0 h6 h7

theorem claim : Cert.Claim := ⟨Cert.Kernel.Gen.facts, Cert.KernelIdeal.Gen.facts, Cert.ReferenceIdeal.Gen.facts, Cert.Reference.Gen.facts, Cert.Kernel2.Gen.facts, Cert.Kernel2Ideal.Gen.facts, Cert.Reference2Ideal.Gen.facts,
  Cert.Reference2.Gen.facts, Cert.Kernel3.Gen.facts, Cert.Kernel3Ideal.Gen.facts, Cert.Reference3Ideal.Gen.facts, Cert.Reference3.Gen.facts,
  Cert.Kernel4.Gen.facts, Cert.Kernel4Ideal.Gen.facts, Cert.Reference4Ideal.Gen.facts, Cert.Reference4.Gen.facts,
  Cert.Pre_finite_qk.Gen.facts, Cert.Pre_finite_gates.Gen.facts,
  fun m g _ => Cert.Kernel.Gen.frame m g,
  fun m g _ => Cert.KernelIdeal.Gen.frame m g,
  fun m g _ => Cert.KernelIdeal.Gen.frame m g,
  fun m g _ => frame_ReferenceIdeal m g,
  fun m g _ => frame_ReferenceIdeal m g,
  frame_Reference,
  fun m g _ => Cert.Kernel2.Gen.frame m g,
  fun m g _ => Cert.Kernel2Ideal.Gen.frame m g,
  frame_Reference2Ideal,
  frame_Reference2,
  fun m g _ => Cert.Kernel3.Gen.frame m g,
  fun m g _ => Cert.Kernel3Ideal.Gen.frame m g,
  fun m g _ => Cert.Kernel3Ideal.Gen.frame m g,
  fun m g _ => frame_Reference3Ideal m g,
  fun m g _ => frame_Reference3Ideal m g,
  frame_Reference3,
  fun m g _ => Cert.Kernel4.Gen.frame m g,
  fun m g _ => Cert.Kernel4Ideal.Gen.frame m g,
  frame_Reference4Ideal,
  frame_Reference4,
  IdealRules.named_const.statement Cert.KernelIdeal.κ "mask" .f32 0xF149F2CA#32 ⊥ rfl,
  trivial,
  algebraic,
  trivial,
  trivial,
  algebraic2,
  IdealRules.named_const.statement Cert.Kernel3Ideal.κ "mask" .f32 0xF149F2CA#32 ⊥ rfl,
  trivial,
  algebraic3,
  trivial,
  trivial,
  algebraic4⟩

end Cert.Proof

end
